-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_positive_sums [hPre_positive_sums : Cert.Pre_positive_sums.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_positive_sums.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16)) (m ((c.tc : Thread Cert.Kernel2Ideal.nD Cert.Kernel2Ideal.τ).loc Cert.Kernel2Ideal.main_arg17)) (m ((c.tc : Thread Cert.Kernel2Ideal.nD Cert.Kernel2Ideal.τ).loc Cert.Kernel2Ideal.main_arg18)) (m ((c.tc : Thread Cert.Kernel2Ideal.nD Cert.Kernel2Ideal.τ).loc Cert.Kernel2Ideal.main_arg19))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_positive_sums [hPre_positive_sums : Cert.Pre_positive_sums.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_positive_sums.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16)) (m ((c.tc : Thread Cert.Reference2Ideal.nD Cert.Reference2Ideal.τ).loc Cert.Reference2Ideal.main_arg17)) (m ((c.tc : Thread Cert.Reference2Ideal.nD Cert.Reference2Ideal.τ).loc Cert.Reference2Ideal.main_arg18)) (m ((c.tc : Thread Cert.Reference2Ideal.nD Cert.Reference2Ideal.τ).loc Cert.Reference2Ideal.main_arg19))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_gate_above [hPre_gate_above : Cert.Pre_gate_above.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_gate_above.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_gate_above [hPre_gate_above : Cert.Pre_gate_above.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_gate_above.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16)
      ∧ r.2.mem ((c.tc : Thread Cert.Kernel2.nD Cert.Kernel2.τ).loc Cert.Kernel2.main_arg17) = m ((c.tc : Thread Cert.Kernel2.nD Cert.Kernel2.τ).loc Cert.Kernel2.main_arg17)
      ∧ r.2.mem ((c.tc : Thread Cert.Kernel2.nD Cert.Kernel2.τ).loc Cert.Kernel2.main_arg18) = m ((c.tc : Thread Cert.Kernel2.nD Cert.Kernel2.τ).loc Cert.Kernel2.main_arg18)
      ∧ r.2.mem ((c.tc : Thread Cert.Kernel2.nD Cert.Kernel2.τ).loc Cert.Kernel2.main_arg19) = m ((c.tc : Thread Cert.Kernel2.nD Cert.Kernel2.τ).loc Cert.Kernel2.main_arg19))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
      ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
      ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18)
      ∧ r.2.mem ((c.tc : Thread Cert.Kernel2Ideal.nD Cert.Kernel2Ideal.τ).loc Cert.Kernel2Ideal.main_arg19) = m ((c.tc : Thread Cert.Kernel2Ideal.nD Cert.Kernel2Ideal.τ).loc Cert.Kernel2Ideal.main_arg19))
      ∧ r.2.sem = fun _ => 0)

def quiescent_Kernel2Ideal_pre_positive_sums [hKernel2Ideal : Cert.Kernel2Ideal.Facts] [hPre_positive_sums : Cert.Pre_positive_sums.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_positive_sums m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
      ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
      ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18)
      ∧ r.2.mem ((c.tc : Thread Cert.Kernel2Ideal.nD Cert.Kernel2Ideal.τ).loc Cert.Kernel2Ideal.main_arg19) = m ((c.tc : Thread Cert.Kernel2Ideal.nD Cert.Kernel2Ideal.τ).loc Cert.Kernel2Ideal.main_arg19))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17)
      ∧ r.2.mem ((c.tc : Thread Cert.Reference2Ideal.nD Cert.Reference2Ideal.τ).loc Cert.Reference2Ideal.main_arg18) = m ((c.tc : Thread Cert.Reference2Ideal.nD Cert.Reference2Ideal.τ).loc Cert.Reference2Ideal.main_arg18)
      ∧ r.2.mem ((c.tc : Thread Cert.Reference2Ideal.nD Cert.Reference2Ideal.τ).loc Cert.Reference2Ideal.main_arg19) = m ((c.tc : Thread Cert.Reference2Ideal.nD Cert.Reference2Ideal.τ).loc Cert.Reference2Ideal.main_arg19))
      ∧ r.2.sem = fun _ => 0)

def quiescent_Reference2Ideal_pre_positive_sums [hReference2Ideal : Cert.Reference2Ideal.Facts] [hPre_positive_sums : Cert.Pre_positive_sums.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_positive_sums m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17)
      ∧ r.2.mem ((c.tc : Thread Cert.Reference2Ideal.nD Cert.Reference2Ideal.τ).loc Cert.Reference2Ideal.main_arg18) = m ((c.tc : Thread Cert.Reference2Ideal.nD Cert.Reference2Ideal.τ).loc Cert.Reference2Ideal.main_arg18)
      ∧ r.2.mem ((c.tc : Thread Cert.Reference2Ideal.nD Cert.Reference2Ideal.τ).loc Cert.Reference2Ideal.main_arg19) = m ((c.tc : Thread Cert.Reference2Ideal.nD Cert.Reference2Ideal.τ).loc Cert.Reference2Ideal.main_arg19))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_gate_above [hKernel3Ideal : Cert.Kernel3Ideal.Facts] [hPre_gate_above : Cert.Pre_gate_above.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_gate_above m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_gate_above [hReference3Ideal : Cert.Reference3Ideal.Facts] [hPre_gate_above : Cert.Pre_gate_above.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_gate_above m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal_pre_positive_sums [hKernel2Ideal : Cert.Kernel2Ideal.Facts] [hReference2Ideal : Cert.Reference2Ideal.Facts] [hPre_positive_sums : Cert.Pre_positive_sums.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_positive_sums m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)
      ∧ m' ((c.tc : Thread Cert.Reference2Ideal.nD Cert.Reference2Ideal.τ).loc Cert.Reference2Ideal.main_arg17) = m ((c.tc : Thread Cert.Kernel2Ideal.nD Cert.Kernel2Ideal.τ).loc Cert.Kernel2Ideal.main_arg17)
      ∧ m' ((c.tc : Thread Cert.Reference2Ideal.nD Cert.Reference2Ideal.τ).loc Cert.Reference2Ideal.main_arg18) = m ((c.tc : Thread Cert.Kernel2Ideal.nD Cert.Kernel2Ideal.τ).loc Cert.Kernel2Ideal.main_arg18)
      ∧ m' ((c.tc : Thread Cert.Reference2Ideal.nD Cert.Reference2Ideal.τ).loc Cert.Reference2Ideal.main_arg19) = m ((c.tc : Thread Cert.Kernel2Ideal.nD Cert.Kernel2Ideal.τ).loc Cert.Kernel2Ideal.main_arg19)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
          ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
          ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18)
          ∧ r.2.mem ((c.tc : Thread Cert.Kernel2Ideal.nD Cert.Kernel2Ideal.τ).loc Cert.Kernel2Ideal.main_arg19) = m ((c.tc : Thread Cert.Kernel2Ideal.nD Cert.Kernel2Ideal.τ).loc Cert.Kernel2Ideal.main_arg19))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v152) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16)
          ∧ r.2.mem ((c.tc : Thread Cert.Reference2Ideal.nD Cert.Reference2Ideal.τ).loc Cert.Reference2Ideal.main_arg17) = m' ((c.tc : Thread Cert.Reference2Ideal.nD Cert.Reference2Ideal.τ).loc Cert.Reference2Ideal.main_arg17)
          ∧ r.2.mem ((c.tc : Thread Cert.Reference2Ideal.nD Cert.Reference2Ideal.τ).loc Cert.Reference2Ideal.main_arg18) = m' ((c.tc : Thread Cert.Reference2Ideal.nD Cert.Reference2Ideal.τ).loc Cert.Reference2Ideal.main_arg18)
          ∧ r.2.mem ((c.tc : Thread Cert.Reference2Ideal.nD Cert.Reference2Ideal.τ).loc Cert.Reference2Ideal.main_arg19) = m' ((c.tc : Thread Cert.Reference2Ideal.nD Cert.Reference2Ideal.τ).loc Cert.Reference2Ideal.main_arg19))

def preserves_Kernel3_Kernel3Ideal : Prop :=
  True

def algebraic_Kernel3Ideal_Reference3Ideal_pre_gate_above [hKernel3Ideal : Cert.Kernel3Ideal.Facts] [hReference3Ideal : Cert.Reference3Ideal.Facts] [hPre_gate_above : Cert.Pre_gate_above.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_gate_above m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v309) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_positive_sums : Cert.Pre_positive_sums.Facts) (hPre_gate_above : Cert.Pre_gate_above.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_positive_sums (hKernel2Ideal := hKernel2Ideal) (hPre_positive_sums := hPre_positive_sums)
    ∧ quiescent_Reference2Ideal (hReference2Ideal := hReference2Ideal)
    ∧ quiescent_Reference2Ideal_pre_positive_sums (hReference2Ideal := hReference2Ideal) (hPre_positive_sums := hPre_positive_sums)
    ∧ quiescent_Kernel3 (hKernel3 := hKernel3)
    ∧ quiescent_Kernel3Ideal (hKernel3Ideal := hKernel3Ideal)
    ∧ quiescent_Kernel3Ideal_pre_gate_above (hKernel3Ideal := hKernel3Ideal) (hPre_gate_above := hPre_gate_above)
    ∧ quiescent_Reference3Ideal (hReference3Ideal := hReference3Ideal)
    ∧ quiescent_Reference3Ideal_pre_gate_above (hReference3Ideal := hReference3Ideal) (hPre_gate_above := hPre_gate_above)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_positive_sums (hKernel2Ideal := hKernel2Ideal) (hReference2Ideal := hReference2Ideal) (hPre_positive_sums := hPre_positive_sums)
    ∧ preserves_Kernel3_Kernel3Ideal
    ∧ algebraic_Kernel3Ideal_Reference3Ideal_pre_gate_above (hKernel3Ideal := hKernel3Ideal) (hReference3Ideal := hReference3Ideal) (hPre_gate_above := hPre_gate_above)
-- ==== Pre_gate_above.lean ====
abbrev S4x4096x2048 : Shape := ⟨3, ![4, 4096, 2048]⟩
abbrev S4x4096x3072 : Shape := ⟨3, ![4, 4096, 3072]⟩
abbrev S1024 : Shape := ⟨1, ![1024]⟩
abbrev S4x128x128 : Shape := ⟨3, ![4, 128, 128]⟩
abbrev S4x128 : Shape := ⟨2, ![4, 128]⟩
abbrev S4 : Shape := ⟨1, ![4]⟩
abbrev S4x4096x1024 : Shape := ⟨3, ![4, 4096, 1024]⟩
abbrev S_ : Shape := ⟨0, ![]⟩

class Facts : Prop where
  slices_S4x4096x3072_S4x4096x1024_0_0_0 : S4x4096x3072.Slices ![0, 0, 0] S4x4096x1024
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel

variable [Facts]

def fn {F : FTy → Type} [FloatOps F] (main_arg0 : FVec F S4x4096x2048 .bf16) (main_arg1 : FVec F S4x4096x3072 .bf16) (main_arg2 : FVec F S1024 .f32) (main_arg3 : FVec F S4x128x128 .f32) (main_arg4 : FVec F S4x128 .f32) (main_arg5 : FVec F S4x128 .f32) (main_arg6 : FVec F S4 .f32) : IVec S_ 1 :=
  let main_v0 : FVec F S4x4096x1024 .bf16 := (extractStridedSlice S4x4096x1024 ![0, 0, 0] · slices_S4x4096x3072_S4x4096x1024_0_0_0) main_arg1
  let main_cst : FVec F S_ .bf16 := constant S_ .bf16 0xFF80#16
  let main_v1 : FVec F S4x4096x1024 .bf16 := broadcastInDim S4x4096x1024 ![] bcast_S_S4x4096x1024 main_cst
  let main_v2 : IVec S4x4096x1024 1 := cmpf .ogt main_v0 main_v1
  let main_c : IVec S_ 1 := constantI S_ 1 1#1
  let main_v3 : IVec S_ 1 := (fun x v => Host.reduce IntOp.andi x v reducesTo_S4x4096x1024_S_d0_1_2 h_S_) main_v2 main_c
  main_v3
-- ==== Pre_positive_sums.lean ====
abbrev S4x4096x1024 : Shape := ⟨3, ![4, 4096, 1024]⟩
abbrev S4x1x4096x512 : Shape := ⟨4, ![4, 1, 4096, 512]⟩
abbrev S4x4x1024x512 : Shape := ⟨4, ![4, 4, 1024, 512]⟩
abbrev S4x16x256x512 : Shape := ⟨4, ![4, 16, 256, 512]⟩
abbrev S4x1x4096x128 : Shape := ⟨4, ![4, 1, 4096, 128]⟩
abbrev S4x4x1024x128 : Shape := ⟨4, ![4, 4, 1024, 128]⟩
abbrev S4x16x256x128 : Shape := ⟨4, ![4, 16, 256, 128]⟩
abbrev S16384x3072 : Shape := ⟨2, ![16384, 3072]⟩
abbrev S2048 : Shape := ⟨1, ![2048]⟩
abbrev S1024x1024 : Shape := ⟨2, ![1024, 1024]⟩
abbrev S512x1024 : Shape := ⟨2, ![512, 1024]⟩
abbrev S4x4096x256 : Shape := ⟨3, ![4, 4096, 256]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S_ : Shape := ⟨0, ![]⟩

class Facts : Prop where
  bcast_S_S4x1x4096x128 : S_.BroadcastsInDim S4x1x4096x128 (![] : Fin 0 → Fin S4x1x4096x128.rank)
  reducesTo_S4x1x4096x128_S_d0_1_2_3 : S4x1x4096x128.ReducesTo [0, 1, 2, 3] S_
  h_S_ : 0 < S_.numel
  bcast_S_S4x4x1024x128 : S_.BroadcastsInDim S4x4x1024x128 (![] : Fin 0 → Fin S4x4x1024x128.rank)
  reducesTo_S4x4x1024x128_S_d0_1_2_3 : S4x4x1024x128.ReducesTo [0, 1, 2, 3] S_
  bcast_S_S4x16x256x128 : S_.BroadcastsInDim S4x16x256x128 (![] : Fin 0 → Fin S4x16x256x128.rank)
  reducesTo_S4x16x256x128_S_d0_1_2_3 : S4x16x256x128.ReducesTo [0, 1, 2, 3] S_

variable [Facts]

def fn_part2 {F : FTy → Type} [FloatOps F] (main_v24 : IVec S_ 1) (main_v29 : IVec S4x16x256x128 1) (main_v31 : IVec S4x16x256x128 1) (main_v33 : IVec S4x16x256x128 1) : IVec S_ 1 :=
  let main_v34 : IVec S4x16x256x128 1 := andi main_v31 main_v33
  let main_v35 : IVec S4x16x256x128 1 := ori main_v29 main_v34
  let main_c_12 : IVec S_ 1 := constantI S_ 1 1#1
  let main_v36 : IVec S_ 1 := (fun x v => Host.reduce IntOp.andi x v reducesTo_S4x16x256x128_S_d0_1_2_3 h_S_) main_v35 main_c_12
  let main_v37 : IVec S_ 1 := andi main_v24 main_v36
  main_v37

def fn_part1 {F : FTy → Type} [FloatOps F] (main_arg6 : FVec F S4x4x1024x128 .f32) (main_arg7 : FVec F S4x16x256x128 .f32) (main_v11 : IVec S_ 1) (main_v16 : IVec S4x4x1024x128 1) : IVec S_ 1 :=
  let main_cst_5 : FVec F S_ .f32 := constant S_ .f32 0x00000000#32
  let main_v17 : FVec F S4x4x1024x128 .f32 := broadcastInDim S4x4x1024x128 ![] bcast_S_S4x4x1024x128 main_cst_5
  let main_v18 : IVec S4x4x1024x128 1 := cmpf .ogt main_arg6 main_v17
  let main_cst_6 : FVec F S_ .f32 := constant S_ .f32 0x7F800000#32
  let main_v19 : FVec F S4x4x1024x128 .f32 := broadcastInDim S4x4x1024x128 ![] bcast_S_S4x4x1024x128 main_cst_6
  let main_v20 : IVec S4x4x1024x128 1 := cmpf .olt main_arg6 main_v19
  let main_v21 : IVec S4x4x1024x128 1 := andi main_v18 main_v20
  let main_v22 : IVec S4x4x1024x128 1 := ori main_v16 main_v21
  let main_c_7 : IVec S_ 1 := constantI S_ 1 1#1
  let main_v23 : IVec S_ 1 := (fun x v => Host.reduce IntOp.andi x v reducesTo_S4x4x1024x128_S_d0_1_2_3 h_S_) main_v22 main_c_7
  let main_v24 : IVec S_ 1 := andi main_v11 main_v23
  let main_v25 : IVec S4x16x256x128 32 := iotaInDim S4x16x256x128 32 3
  let main_c_8 : IVec S_ 32 := constantI S_ 32 16#32
  let main_v26 : IVec S4x16x256x128 32 := broadcastInDim S4x16x256x128 ![] bcast_S_S4x16x256x128 main_c_8
  let main_v27 : IVec S4x16x256x128 32 := andi main_v25 main_v26
  let main_c_9 : IVec S_ 32 := constantI S_ 32 0#32
  let main_v28 : IVec S4x16x256x128 32 := broadcastInDim S4x16x256x128 ![] bcast_S_S4x16x256x128 main_c_9
  let main_v29 : IVec S4x16x256x128 1 := cmpi .eq main_v27 main_v28
  let main_cst_10 : FVec F S_ .f32 := constant S_ .f32 0x00000000#32
  let main_v30 : FVec F S4x16x256x128 .f32 := broadcastInDim S4x16x256x128 ![] bcast_S_S4x16x256x128 main_cst_10
  let main_v31 : IVec S4x16x256x128 1 := cmpf .ogt main_arg7 main_v30
  let main_cst_11 : FVec F S_ .f32 := constant S_ .f32 0x7F800000#32
  let main_v32 : FVec F S4x16x256x128 .f32 := broadcastInDim S4x16x256x128 ![] bcast_S_S4x16x256x128 main_cst_11
  let main_v33 : IVec S4x16x256x128 1 := cmpf .olt main_arg7 main_v32
  fn_part2 (F := F) main_v24 main_v29 main_v31 main_v33

def fn {F : FTy → Type} [FloatOps F] (main_arg0 : FVec F S4x4096x1024 .f32) (main_arg1 : FVec F S4x4096x1024 .bf16) (main_arg2 : FVec F S4x1x4096x512 .bf16) (main_arg3 : FVec F S4x4x1024x512 .bf16) (main_arg4 : FVec F S4x16x256x512 .bf16) (main_arg5 : FVec F S4x1x4096x128 .f32) (main_arg6 : FVec F S4x4x1024x128 .f32) (main_arg7 : FVec F S4x16x256x128 .f32) (main_arg8 : FVec F S16384x3072 .bf16) (main_arg9 : FVec F S2048 .f32) (main_arg10 : FVec F S1024x1024 .bf16) (main_arg11 : FVec F S512x1024 .bf16) (main_arg12 : FVec F S1024x1024 .bf16) (main_arg13 : FVec F S4x4096x256 .f32) (main_arg14 : FVec F S1024 .f32) (main_arg15 : FVec F S1024x4096 .bf16) (main_arg16 : FVec F S4096x1024 .bf16) (main_arg17 : FVec F S1024 .f32) (main_arg18 : FVec F S1024x1024 .bf16) (main_arg19 : FVec F S256x1024 .bf16) : IVec S_ 1 :=
  let main_v0 : IVec S4x1x4096x128 32 := iotaInDim S4x1x4096x128 32 3
  let main_c : IVec S_ 32 := constantI S_ 32 16#32
  let main_v1 : IVec S4x1x4096x128 32 := broadcastInDim S4x1x4096x128 ![] bcast_S_S4x1x4096x128 main_c
  let main_v2 : IVec S4x1x4096x128 32 := andi main_v0 main_v1
  let main_c_0 : IVec S_ 32 := constantI S_ 32 0#32
  let main_v3 : IVec S4x1x4096x128 32 := broadcastInDim S4x1x4096x128 ![] bcast_S_S4x1x4096x128 main_c_0
  let main_v4 : IVec S4x1x4096x128 1 := cmpi .eq main_v2 main_v3
  let main_cst : FVec F S_ .f32 := constant S_ .f32 0x00000000#32
  let main_v5 : FVec F S4x1x4096x128 .f32 := broadcastInDim S4x1x4096x128 ![] bcast_S_S4x1x4096x128 main_cst
  let main_v6 : IVec S4x1x4096x128 1 := cmpf .ogt main_arg5 main_v5
  let main_cst_1 : FVec F S_ .f32 := constant S_ .f32 0x7F800000#32
  let main_v7 : FVec F S4x1x4096x128 .f32 := broadcastInDim S4x1x4096x128 ![] bcast_S_S4x1x4096x128 main_cst_1
  let main_v8 : IVec S4x1x4096x128 1 := cmpf .olt main_arg5 main_v7
  let main_v9 : IVec S4x1x4096x128 1 := andi main_v6 main_v8
  let main_v10 : IVec S4x1x4096x128 1 := ori main_v4 main_v9
  let main_c_2 : IVec S_ 1 := constantI S_ 1 1#1
  let main_v11 : IVec S_ 1 := (fun x v => Host.reduce IntOp.andi x v reducesTo_S4x1x4096x128_S_d0_1_2_3 h_S_) main_v10 main_c_2
  let main_v12 : IVec S4x4x1024x128 32 := iotaInDim S4x4x1024x128 32 3
  let main_c_3 : IVec S_ 32 := constantI S_ 32 16#32
  let main_v13 : IVec S4x4x1024x128 32 := broadcastInDim S4x4x1024x128 ![] bcast_S_S4x4x1024x128 main_c_3
  let main_v14 : IVec S4x4x1024x128 32 := andi main_v12 main_v13
  let main_c_4 : IVec S_ 32 := constantI S_ 32 0#32
  let main_v15 : IVec S4x4x1024x128 32 := broadcastInDim S4x4x1024x128 ![] bcast_S_S4x4x1024x128 main_c_4
  let main_v16 : IVec S4x4x1024x128 1 := cmpi .eq main_v14 main_v15
  fn_part1 (F := F) main_arg6 main_arg7 main_v11 main_v16
-- ==== Kernel.lean ====
abbrev S4x16x256x1536 : Shape := ⟨4, ![4, 16, 256, 1536]⟩
abbrev S4x16x256x512 : Shape := ⟨4, ![4, 16, 256, 512]⟩
abbrev S4x16x256x128 : Shape := ⟨4, ![4, 16, 256, 128]⟩
abbrev S3x16x256x1536 : Shape := ⟨4, ![3, 16, 256, 1536]⟩
abbrev S3 : Shape := ⟨1, ![3]⟩
abbrev S2x16x256x512 : Shape := ⟨4, ![2, 16, 256, 512]⟩
abbrev S2 : Shape := ⟨1, ![2]⟩
abbrev S2x16x256x128 : Shape := ⟨4, ![2, 16, 256, 128]⟩
abbrev S1 : Shape := ⟨1, ![1]⟩
abbrev S_ : Shape := ⟨0, ![]⟩
abbrev S1x16x256x1536 : Shape := ⟨4, ![1, 16, 256, 1536]⟩
abbrev S16x256x1536 : Shape := ⟨3, ![16, 256, 1536]⟩
abbrev S128x256 : Shape := ⟨2, ![128, 256]⟩
abbrev S128x128 : Shape := ⟨2, ![128, 128]⟩
abbrev S16x256x512 : Shape := ⟨3, ![16, 256, 512]⟩
abbrev S1x128x128 : Shape := ⟨3, ![1, 128, 128]⟩
abbrev S1x256x128 : Shape := ⟨3, ![1, 256, 128]⟩
abbrev S256x128 : Shape := ⟨2, ![256, 128]⟩
abbrev S128 : Shape := ⟨1, ![128]⟩
abbrev S128x1 : Shape := ⟨2, ![128, 1]⟩
abbrev S256x256 : Shape := ⟨2, ![256, 256]⟩
abbrev S1x16x256x512 : Shape := ⟨4, ![1, 16, 256, 512]⟩
abbrev S1x1x128x128 : Shape := ⟨4, ![1, 1, 128, 128]⟩
abbrev S1x16x256x128 : Shape := ⟨4, ![1, 16, 256, 128]⟩
abbrev S16x256x128 : Shape := ⟨3, ![16, 256, 128]⟩

abbrev nBuf : Space → Nat
  | .hbm => 3
  | .vmem => 3
  | .smem => 0
  | _ => 0

abbrev bufTy : (tb : Table) → Fin (tcTables nBuf tb) → BufTy
  | .hbm, ⟨0, _⟩ => ⟨S4x16x256x1536, .bf16⟩
  | .hbm, ⟨1, _⟩ => ⟨S4x16x256x512, .bf16⟩
  | .hbm, ⟨2, _⟩ => ⟨S4x16x256x128, .f32⟩
  | .local _ .vmem, ⟨0, _⟩ => ⟨S3x16x256x1536, .bf16⟩
  | .local _ .vmem, ⟨1, _⟩ => ⟨S2x16x256x512, .bf16⟩
  | .local _ .vmem, ⟨2, _⟩ => ⟨S2x16x256x128, .f32⟩
  | _, _ => ⟨S4x16x256x1536, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_scoped0 : Ref sig .tc := ⟨.vmem, 0, rfl⟩
abbrev cc0_scoped2 : Ref sig .tc := ⟨.vmem, 1, rfl⟩
abbrev cc0_scoped4 : Ref sig .tc := ⟨.vmem, 2, rfl⟩

abbrev nD : Nat := 1
abbrev τ : Topo := Topo.v7x

variable {F : FTy → Type} [FloatOps F]

abbrev grid0 : Pipeline.Grid := .none

def k0_off1 : Fin 1 → Nat :=
  let c0_i32_34_r0 : BitVec 32 := 0#32
  let c3_i32_35_r0 : BitVec 32 := 3#32
  let v33_r0 : BitVec 32 := Scalar.remui c0_i32_34_r0 c3_i32_35_r0
  ![v33_r0.toNat]
def k0_off2 : Fin 4 → Nat :=
  let c0_i32_34_r0 : BitVec 32 := 0#32
  let c3_i32_35_r0 : BitVec 32 := 3#32
  let v33_r0 : BitVec 32 := Scalar.remui c0_i32_34_r0 c3_i32_35_r0
  let c0_i32_37_r0 : BitVec 32 := 0#32
  let c0_i32_38_r0 : BitVec 32 := 0#32
  let c0_i32_39_r0 : BitVec 32 := 0#32
  ![v33_r0.toNat, 0, 0, 0]
def k0_cond1 : BitVec 1 :=
  let true_46_r0 : BitVec 1 := 1#1
  let true_8_r0 : BitVec 1 := 1#1
  let c1_i32_r0 : BitVec 32 := 1#32
  let c0_i32_9_r0 : BitVec 32 := 0#32
  let v10_r0 : BitVec 32 := Scalar.select true_8_r0 c1_i32_r0 c0_i32_9_r0
  let c1_i32_10_r0 : BitVec 32 := 1#32
  let v11_r0 : BitVec 1 := Scalar.cmpi .eq v10_r0 c1_i32_10_r0
  let c1_i32_13_r0 : BitVec 32 := 1#32
  let c0_i32_12_r0 : BitVec 32 := 0#32
  let v13_r0 : BitVec 32 := Scalar.select v11_r0 c1_i32_13_r0 c0_i32_12_r0
  let c4_i32_r0 : BitVec 32 := 4#32
  let v14_r0 : BitVec 1 := Scalar.cmpi .eq v13_r0 c4_i32_r0
  let c0_i32_14_r0 : BitVec 32 := 0#32
  let v15_r0 : BitVec 32 := Scalar.select v14_r0 c0_i32_14_r0 v13_r0
  let c0_i32_15_r0 : BitVec 32 := 0#32
  let v16_r0 : BitVec 32 := Scalar.addi v15_r0 c0_i32_15_r0
  let c0_i32_45_r0 : BitVec 32 := 0#32
  let v41_r0 : BitVec 1 := Scalar.cmpi .ne v16_r0 c0_i32_45_r0
  let v42_r0 : BitVec 1 := Scalar.andi true_46_r0 v41_r0
  let true_47_r0 : BitVec 1 := 1#1
  let v43_r0 : BitVec 1 := Scalar.andi v42_r0 true_47_r0
  let v44_r0 : BitVec 32 := Scalar.extui v43_r0
  let c0_i32_48_r0 : BitVec 32 := 0#32
  let v45_r0 : BitVec 1 := Scalar.cmpi .ne v44_r0 c0_i32_48_r0
  v45_r0

def k0_off3 : Fin 1 → Nat :=
  let c0_i32_43_r0 : BitVec 32 := 0#32
  let c1_i32_44_r0 : BitVec 32 := 1#32
  let v40_r0 : BitVec 32 := Scalar.addi c0_i32_43_r0 c1_i32_44_r0
  let c3_i32_118_r0 : BitVec 32 := 3#32
  let v105_r0 : BitVec 32 := Scalar.remui v40_r0 c3_i32_118_r0
  ![v105_r0.toNat]
def k0_off4 : Fin 4 → Nat :=
  let c0_i32_43_r0 : BitVec 32 := 0#32
  let c1_i32_44_r0 : BitVec 32 := 1#32
  let v40_r0 : BitVec 32 := Scalar.addi c0_i32_43_r0 c1_i32_44_r0
  let c3_i32_118_r0 : BitVec 32 := 3#32
  let v105_r0 : BitVec 32 := Scalar.remui v40_r0 c3_i32_118_r0
  let c0_i32_119_r0 : BitVec 32 := 0#32
  let c0_i32_120_r0 : BitVec 32 := 0#32
  let c0_i32_121_r0 : BitVec 32 := 0#32
  ![v105_r0.toNat, 0, 0, 0]
def k0_off5 : Fin 4 → Nat :=
  let true_8_r0 : BitVec 1 := 1#1
  let c1_i32_r0 : BitVec 32 := 1#32
  let c0_i32_9_r0 : BitVec 32 := 0#32
  let v10_r0 : BitVec 32 := Scalar.select true_8_r0 c1_i32_r0 c0_i32_9_r0
  let c1_i32_10_r0 : BitVec 32 := 1#32
  let v11_r0 : BitVec 1 := Scalar.cmpi .eq v10_r0 c1_i32_10_r0
  let c1_i32_13_r0 : BitVec 32 := 1#32
  let c0_i32_12_r0 : BitVec 32 := 0#32
  let v13_r0 : BitVec 32 := Scalar.select v11_r0 c1_i32_13_r0 c0_i32_12_r0
  let c4_i32_r0 : BitVec 32 := 4#32
  let v14_r0 : BitVec 1 := Scalar.cmpi .eq v13_r0 c4_i32_r0
  let c0_i32_14_r0 : BitVec 32 := 0#32
  let v15_r0 : BitVec 32 := Scalar.select v14_r0 c0_i32_14_r0 v13_r0
  let c0_i32_15_r0 : BitVec 32 := 0#32
  let v16_r0 : BitVec 32 := Scalar.addi v15_r0 c0_i32_15_r0
  let c0_i32_122_r0 : BitVec 32 := 0#32
  let c0_i32_123_r0 : BitVec 32 := 0#32
  let c0_i32_124_r0 : BitVec 32 := 0#32
  ![v16_r0.toNat, 0, 0, 0]
@[reducible] def k0_t1_loop : Scf.Loop 32 :=
  let c0_i32_57_r0 : BitVec 32 := 0#32
  let c4_i32_58_r0 : BitVec 32 := 4#32
  let v48_r0 : BitVec 32 := Scalar.addi c0_i32_57_r0 c4_i32_58_r0
  let c1_i32_59_r0 : BitVec 32 := 1#32
  ⟨c0_i32_57_r0, v48_r0, c1_i32_59_r0⟩
def k0_off6 (arg4_r0 : BitVec 32) : Fin 1 → Nat :=
  let c3_i32_5405_r0 : BitVec 32 := 3#32
  let v5838_r0 : BitVec 32 := Scalar.remui arg4_r0 c3_i32_5405_r0
  ![v5838_r0.toNat]
def k0_cond2 (k0_t1 : Fin k0_t1_loop.trips) (arg10_r0 : BitVec 32) : BitVec 1 :=
  let true_130_r0 : BitVec 1 := 1#1
  let c1_i32_132_r0 : BitVec 32 := 1#32
  let c0_i32_131_r0 : BitVec 32 := 0#32
  let v116_r0 : BitVec 32 := Scalar.select true_130_r0 c1_i32_132_r0 c0_i32_131_r0
  let c1_i32_133_r0 : BitVec 32 := 1#32
  let v117_r0 : BitVec 1 := Scalar.cmpi .eq v116_r0 c1_i32_133_r0
  let c1_i32_135_r0 : BitVec 32 := 1#32
  let v119_r0 : BitVec 32 := Scalar.addi arg10_r0 c1_i32_135_r0
  let v120_r0 : BitVec 32 := Scalar.select v117_r0 v119_r0 arg10_r0
  let c4_i32_136_r0 : BitVec 32 := 4#32
  let v121_r0 : BitVec 1 := Scalar.cmpi .eq v120_r0 c4_i32_136_r0
  let c0_i32_137_r0 : BitVec 32 := 0#32
  let v122_r0 : BitVec 32 := Scalar.select v121_r0 c0_i32_137_r0 v120_r0
  let c0_i32_138_r0 : BitVec 32 := 0#32
  let v123_r0 : BitVec 32 := Scalar.addi v122_r0 c0_i32_138_r0
  let true_139_r0 : BitVec 1 := 1#1
  let c1_i32_141_r0 : BitVec 32 := 1#32
  let c0_i32_140_r0 : BitVec 32 := 0#32
  let v124_r0 : BitVec 32 := Scalar.select true_139_r0 c1_i32_141_r0 c0_i32_140_r0
  let c1_i32_142_r0 : BitVec 32 := 1#32
  let v125_r0 : BitVec 1 := Scalar.cmpi .eq v124_r0 c1_i32_142_r0
  let c1_i32_144_r0 : BitVec 32 := 1#32
  let v127_r0 : BitVec 32 := Scalar.addi v122_r0 c1_i32_144_r0
  let v128_r0 : BitVec 32 := Scalar.select v125_r0 v127_r0 v122_r0
  let c4_i32_145_r0 : BitVec 32 := 4#32
  let v129_r0 : BitVec 1 := Scalar.cmpi .eq v128_r0 c4_i32_145_r0
  let c0_i32_146_r0 : BitVec 32 := 0#32
  let v130_r0 : BitVec 32 := Scalar.select v129_r0 c0_i32_146_r0 v128_r0
  let c0_i32_147_r0 : BitVec 32 := 0#32
  let v131_r0 : BitVec 32 := Scalar.addi v130_r0 c0_i32_147_r0
  let v140_r0 : BitVec 1 := Scalar.cmpi .ne v123_r0 v131_r0
  let c0_i32_57_r0 : BitVec 32 := 0#32
  let c1_i32_59_r0 : BitVec 32 := 1#32
  let arg3_r0 : BitVec 32 := Scf.iv c0_i32_57_r0 c1_i32_59_r0 k0_t1
  let c2_i32_157_r0 : BitVec 32 := 2#32
  let v141_r0 : BitVec 1 := Scalar.cmpi .sge arg3_r0 c2_i32_157_r0
  let true_158_r0 : BitVec 1 := 1#1
  let v142_r0 : BitVec 1 := Scalar.xori v141_r0 true_158_r0
  let v143_r0 : BitVec 1 := Scalar.andi v140_r0 v142_r0
  let true_159_r0 : BitVec 1 := 1#1
  let v144_r0 : BitVec 1 := Scalar.andi v143_r0 true_159_r0
  let v145_r0 : BitVec 32 := Scalar.extui v144_r0
  let c0_i32_160_r0 : BitVec 32 := 0#32
  let v146_r0 : BitVec 1 := Scalar.cmpi .ne v145_r0 c0_i32_160_r0
  v146_r0

def k0_off7 (arg4_r0 : BitVec 32) : Fin 4 → Nat :=
  let c3_i32_5405_r0 : BitVec 32 := 3#32
  let v5838_r0 : BitVec 32 := Scalar.remui arg4_r0 c3_i32_5405_r0
  let c0_i32_5406_r0 : BitVec 32 := 0#32
  let c0_i32_5407_r0 : BitVec 32 := 0#32
  let c0_i32_5408_r0 : BitVec 32 := 0#32
  ![v5838_r0.toNat, 0, 0, 0]
def k0_off8 (arg10_r0 : BitVec 32) : Fin 4 → Nat :=
  let true_139_r0 : BitVec 1 := 1#1
  let c1_i32_141_r0 : BitVec 32 := 1#32
  let c0_i32_140_r0 : BitVec 32 := 0#32
  let v124_r0 : BitVec 32 := Scalar.select true_139_r0 c1_i32_141_r0 c0_i32_140_r0
  let c1_i32_142_r0 : BitVec 32 := 1#32
  let v125_r0 : BitVec 1 := Scalar.cmpi .eq v124_r0 c1_i32_142_r0
  let true_130_r0 : BitVec 1 := 1#1
  let c1_i32_132_r0 : BitVec 32 := 1#32
  let c0_i32_131_r0 : BitVec 32 := 0#32
  let v116_r0 : BitVec 32 := Scalar.select true_130_r0 c1_i32_132_r0 c0_i32_131_r0
  let c1_i32_133_r0 : BitVec 32 := 1#32
  let v117_r0 : BitVec 1 := Scalar.cmpi .eq v116_r0 c1_i32_133_r0
  let c1_i32_135_r0 : BitVec 32 := 1#32
  let v119_r0 : BitVec 32 := Scalar.addi arg10_r0 c1_i32_135_r0
  let v120_r0 : BitVec 32 := Scalar.select v117_r0 v119_r0 arg10_r0
  let c4_i32_136_r0 : BitVec 32 := 4#32
  let v121_r0 : BitVec 1 := Scalar.cmpi .eq v120_r0 c4_i32_136_r0
  let c0_i32_137_r0 : BitVec 32 := 0#32
  let v122_r0 : BitVec 32 := Scalar.select v121_r0 c0_i32_137_r0 v120_r0
  let c1_i32_144_r0 : BitVec 32 := 1#32
  let v127_r0 : BitVec 32 := Scalar.addi v122_r0 c1_i32_144_r0
  let v128_r0 : BitVec 32 := Scalar.select v125_r0 v127_r0 v122_r0
  let c4_i32_145_r0 : BitVec 32 := 4#32
  let v129_r0 : BitVec 1 := Scalar.cmpi .eq v128_r0 c4_i32_145_r0
  let c0_i32_146_r0 : BitVec 32 := 0#32
  let v130_r0 : BitVec 32 := Scalar.select v129_r0 c0_i32_146_r0 v128_r0
  let c0_i32_147_r0 : BitVec 32 := 0#32
  let v131_r0 : BitVec 32 := Scalar.addi v130_r0 c0_i32_147_r0
  let c0_i32_5409_r0 : BitVec 32 := 0#32
  let c0_i32_5410_r0 : BitVec 32 := 0#32
  let c0_i32_5411_r0 : BitVec 32 := 0#32
  ![v131_r0.toNat, 0, 0, 0]
def k0_off9 (arg5_r0 : BitVec 32) : Fin 1 → Nat :=
  let c3_i32_5405_r0 : BitVec 32 := 3#32
  let v5838_r0 : BitVec 32 := Scalar.remui arg5_r0 c3_i32_5405_r0
  ![v5838_r0.toNat]
def k0_cond3 (k0_t1 : Fin k0_t1_loop.trips) (arg10_r0 : BitVec 32) : BitVec 1 :=
  let c0_i32_120_r0 : BitVec 32 := 0#32
  let v107_r0 : BitVec 32 := Scalar.addi arg10_r0 c0_i32_120_r0
  let true_121_r0 : BitVec 1 := 1#1
  let c_m1_i32_123_r0 : BitVec 32 := 4294967295#32
  let c0_i32_122_r0 : BitVec 32 := 0#32
  let v108_r0 : BitVec 32 := Scalar.select true_121_r0 c_m1_i32_123_r0 c0_i32_122_r0
  let c_m1_i32_124_r0 : BitVec 32 := 4294967295#32
  let v109_r0 : BitVec 1 := Scalar.cmpi .eq v108_r0 c_m1_i32_124_r0
  let c1_i32_126_r0 : BitVec 32 := 1#32
  let v111_r0 : BitVec 32 := Scalar.subi arg10_r0 c1_i32_126_r0
  let v112_r0 : BitVec 32 := Scalar.select v109_r0 v111_r0 arg10_r0
  let c_m1_i32_127_r0 : BitVec 32 := 4294967295#32
  let v113_r0 : BitVec 1 := Scalar.cmpi .eq v112_r0 c_m1_i32_127_r0
  let c3_i32_128_r0 : BitVec 32 := 3#32
  let v114_r0 : BitVec 32 := Scalar.select v113_r0 c3_i32_128_r0 v112_r0
  let c0_i32_129_r0 : BitVec 32 := 0#32
  let v115_r0 : BitVec 32 := Scalar.addi v114_r0 c0_i32_129_r0
  let v158_r0 : BitVec 1 := Scalar.cmpi .ne v107_r0 v115_r0
  let c0_i32_57_r0 : BitVec 32 := 0#32
  let c1_i32_59_r0 : BitVec 32 := 1#32
  let arg3_r0 : BitVec 32 := Scf.iv c0_i32_57_r0 c1_i32_59_r0 k0_t1
  let c0_i32_118_r0 : BitVec 32 := 0#32
  let v105_r0 : BitVec 1 := Scalar.cmpi .eq arg3_r0 c0_i32_118_r0
  let v159_r0 : BitVec 1 := Scalar.ori v158_r0 v105_r0
  let c0_i32_167_r0 : BitVec 32 := 0#32
  let v160_r0 : BitVec 1 := Scalar.cmpi .sge arg3_r0 c0_i32_167_r0
  let v161_r0 : BitVec 1 := Scalar.andi v159_r0 v160_r0
  let v162_r0 : BitVec 32 := Scalar.extui v161_r0
  let c0_i32_168_r0 : BitVec 32 := 0#32
  let v163_r0 : BitVec 1 := Scalar.cmpi .ne v162_r0 c0_i32_168_r0
  v163_r0

def k0_off10 (arg5_r0 : BitVec 32) : Fin 4 → Nat :=
  let c3_i32_5405_r0 : BitVec 32 := 3#32
  let v5838_r0 : BitVec 32 := Scalar.remui arg5_r0 c3_i32_5405_r0
  let c0_i32_5406_r0 : BitVec 32 := 0#32
  let c0_i32_5407_r0 : BitVec 32 := 0#32
  let c0_i32_5408_r0 : BitVec 32 := 0#32
  ![v5838_r0.toNat, 0, 0, 0]
def k0_off11 (arg10_r0 : BitVec 32) : Fin 4 → Nat :=
  let c0_i32_120_r0 : BitVec 32 := 0#32
  let v107_r0 : BitVec 32 := Scalar.addi arg10_r0 c0_i32_120_r0
  let c0_i32_5409_r0 : BitVec 32 := 0#32
  let c0_i32_5410_r0 : BitVec 32 := 0#32
  let c0_i32_5411_r0 : BitVec 32 := 0#32
  ![v107_r0.toNat, 0, 0, 0]
def k0_off12 (arg5_r0 : BitVec 32) : Fin 4 → Nat :=
  let c3_i32_173_r0 : BitVec 32 := 3#32
  let v176_r0 : BitVec 32 := Scalar.remui arg5_r0 c3_i32_173_r0
  let c0_i32_186_r0 : BitVec 32 := 0#32
  let c0_i32_187_r0 : BitVec 32 := 0#32
  let c0_i32_188_r0 : BitVec 32 := 0#32
  ![v176_r0.toNat, 0, 0, 0]

def k0_off13 (arg6_r0 : BitVec 32) : Fin 4 → Nat :=
  let c2_i32_174_r0 : BitVec 32 := 2#32
  let v177_r0 : BitVec 32 := Scalar.remui arg6_r0 c2_i32_174_r0
  let c0_i32_214_r0 : BitVec 32 := 0#32
  let c0_i32_215_r0 : BitVec 32 := 0#32
  let c0_i32_216_r0 : BitVec 32 := 0#32
  ![v177_r0.toNat, 0, 0, 0]

def k0_off14 (arg6_r0 : BitVec 32) : Fin 4 → Nat :=
  let c2_i32_174_r0 : BitVec 32 := 2#32
  let v177_r0 : BitVec 32 := Scalar.remui arg6_r0 c2_i32_174_r0
  let c0_i32_214_r0 : BitVec 32 := 0#32
  let c0_i32_215_r0 : BitVec 32 := 0#32
  let c0_i32_216_r0 : BitVec 32 := 0#32
  ![v177_r0.toNat, 0, 0, 0]
def k0_off15 (arg5_r0 : BitVec 32) : Fin 4 → Nat :=
  let c3_i32_173_r0 : BitVec 32 := 3#32
  let v176_r0 : BitVec 32 := Scalar.remui arg5_r0 c3_i32_173_r0
  let c0_i32_222_r0 : BitVec 32 := 0#32
  let c0_i32_223_r0 : BitVec 32 := 0#32
  let c0_i32_224_r0 : BitVec 32 := 0#32
  ![v176_r0.toNat, 0, 0, 0]
def k0_off16 (arg6_r0 : BitVec 32) : Fin 4 → Nat :=
  let c2_i32_174_r0 : BitVec 32 := 2#32
  let v177_r0 : BitVec 32 := Scalar.remui arg6_r0 c2_i32_174_r0
  let c0_i32_252_r0 : BitVec 32 := 0#32
  let c0_i32_253_r0 : BitVec 32 := 0#32
  ![v177_r0.toNat, 0, 0, 128]
def k0_off17 (arg6_r0 : BitVec 32) : Fin 4 → Nat :=
  let c2_i32_174_r0 : BitVec 32 := 2#32
  let v177_r0 : BitVec 32 := Scalar.remui arg6_r0 c2_i32_174_r0
  let c0_i32_290_r0 : BitVec 32 := 0#32
  let c0_i32_291_r0 : BitVec 32 := 0#32
  ![v177_r0.toNat, 0, 0, 256]
def k0_off18 (arg6_r0 : BitVec 32) : Fin 4 → Nat :=
  let c2_i32_174_r0 : BitVec 32 := 2#32
  let v177_r0 : BitVec 32 := Scalar.remui arg6_r0 c2_i32_174_r0
  let c0_i32_327_r0 : BitVec 32 := 0#32
  let c0_i32_328_r0 : BitVec 32 := 0#32
  ![v177_r0.toNat, 0, 0, 384]
def k0_off19 (arg8_r0 : BitVec 32) : Fin 4 → Nat :=
  let c2_i32_175_r0 : BitVec 32 := 2#32
  let v178_r0 : BitVec 32 := Scalar.remui arg8_r0 c2_i32_175_r0
  let c0_i32_333_r0 : BitVec 32 := 0#32
  let c0_i32_334_r0 : BitVec 32 := 0#32
  let c0_i32_335_r0 : BitVec 32 := 0#32
  ![v178_r0.toNat, 0, 0, 0]

def k0_chk4 (arg8_r0 : BitVec 32) : Prop :=
  (∀ a, (k0_off19 arg8_r0) a + S1x16x256x128.size a ≤ S2x16x256x128.size a)
theorem k0_off19_inb : ∀ (arg8_r0 : BitVec 32) (k0_hw4 : k0_chk4 arg8_r0), ∀ a, (k0_off19 arg8_r0) a + S1x16x256x128.size a ≤ S2x16x256x128.size a := fun arg8_r0 k0_hw4 => k0_hw4

def k0_off20 (arg5_r0 : BitVec 32) : Fin 4 → Nat :=
  let c3_i32_173_r0 : BitVec 32 := 3#32
  let v176_r0 : BitVec 32 := Scalar.remui arg5_r0 c3_i32_173_r0
  let c0_i32_340_r0 : BitVec 32 := 0#32
  let c0_i32_341_r0 : BitVec 32 := 0#32
  let c0_i32_342_r0 : BitVec 32 := 0#32
  ![v176_r0.toNat, 0, 0, 0]

def k0_chk2 (arg5_r0 : BitVec 32) : Prop :=
  (∀ a, (k0_off12 arg5_r0) a + S1x16x256x1536.size a ≤ S3x16x256x1536.size a) ∧
  (∀ a, (k0_off15 arg5_r0) a + S1x16x256x1536.size a ≤ S3x16x256x1536.size a) ∧
  (∀ a, (k0_off20 arg5_r0) a + S1x16x256x1536.size a ≤ S3x16x256x1536.size a)
theorem k0_off12_inb : ∀ (arg5_r0 : BitVec 32) (k0_hw2 : k0_chk2 arg5_r0), ∀ a, (k0_off12 arg5_r0) a + S1x16x256x1536.size a ≤ S3x16x256x1536.size a := fun arg5_r0 k0_hw2 => k0_hw2.1
theorem k0_off15_inb : ∀ (arg5_r0 : BitVec 32) (k0_hw2 : k0_chk2 arg5_r0), ∀ a, (k0_off15 arg5_r0) a + S1x16x256x1536.size a ≤ S3x16x256x1536.size a := fun arg5_r0 k0_hw2 => k0_hw2.2.1
theorem k0_off20_inb : ∀ (arg5_r0 : BitVec 32) (k0_hw2 : k0_chk2 arg5_r0), ∀ a, (k0_off20 arg5_r0) a + S1x16x256x1536.size a ≤ S3x16x256x1536.size a := fun arg5_r0 k0_hw2 => k0_hw2.2.2

def k0_off21 (arg6_r0 : BitVec 32) : Fin 4 → Nat :=
  let c2_i32_174_r0 : BitVec 32 := 2#32
  let v177_r0 : BitVec 32 := Scalar.remui arg6_r0 c2_i32_174_r0
  let c0_i32_371_r0 : BitVec 32 := 0#32
  let c0_i32_372_r0 : BitVec 32 := 0#32
  let c0_i32_373_r0 : BitVec 32 := 0#32
  ![v177_r0.toNat, 0, 0, 0]
def k0_off22 (arg6_r0 : BitVec 32) : Fin 4 → Nat :=
  let c2_i32_174_r0 : BitVec 32 := 2#32
  let v177_r0 : BitVec 32 := Scalar.remui arg6_r0 c2_i32_174_r0
  let c0_i32_371_r0 : BitVec 32 := 0#32
  let c0_i32_373_r0 : BitVec 32 := 0#32
  ![v177_r0.toNat, 0, 128, 0]
def k0_off23 (arg6_r0 : BitVec 32) : Fin 4 → Nat :=
  let c2_i32_174_r0 : BitVec 32 := 2#32
  let v177_r0 : BitVec 32 := Scalar.remui arg6_r0 c2_i32_174_r0
  let c0_i32_410_r0 : BitVec 32 := 0#32
  ![v177_r0.toNat, 0, 128, 128]
def k0_off24 (arg6_r0 : BitVec 32) : Fin 4 → Nat :=
  let c2_i32_174_r0 : BitVec 32 := 2#32
  let v177_r0 : BitVec 32 := Scalar.remui arg6_r0 c2_i32_174_r0
  let c0_i32_449_r0 : BitVec 32 := 0#32
  ![v177_r0.toNat, 0, 128, 256]
def k0_off25 (arg6_r0 : BitVec 32) : Fin 4 → Nat :=
  let c2_i32_174_r0 : BitVec 32 := 2#32
  let v177_r0 : BitVec 32 := Scalar.remui arg6_r0 c2_i32_174_r0
  let c0_i32_488_r0 : BitVec 32 := 0#32
  ![v177_r0.toNat, 0, 128, 384]
def k0_off26 (arg6_r0 : BitVec 32) : Fin 4 → Nat :=
  let c2_i32_174_r0 : BitVec 32 := 2#32
  let v177_r0 : BitVec 32 := Scalar.remui arg6_r0 c2_i32_174_r0
  let c0_i32_534_r0 : BitVec 32 := 0#32
  let c0_i32_535_r0 : BitVec 32 := 0#32
  ![v177_r0.toNat, 1, 0, 0]
def k0_off27 (arg6_r0 : BitVec 32) : Fin 4 → Nat :=
  let c2_i32_174_r0 : BitVec 32 := 2#32
  let v177_r0 : BitVec 32 := Scalar.remui arg6_r0 c2_i32_174_r0
  let c0_i32_573_r0 : BitVec 32 := 0#32
  ![v177_r0.toNat, 1, 0, 128]
def k0_off28 (arg6_r0 : BitVec 32) : Fin 4 → Nat :=
  let c2_i32_174_r0 : BitVec 32 := 2#32
  let v177_r0 : BitVec 32 := Scalar.remui arg6_r0 c2_i32_174_r0
  let c0_i32_612_r0 : BitVec 32 := 0#32
  ![v177_r0.toNat, 1, 0, 256]
def k0_off29 (arg6_r0 : BitVec 32) : Fin 4 → Nat :=
  let c2_i32_174_r0 : BitVec 32 := 2#32
  let v177_r0 : BitVec 32 := Scalar.remui arg6_r0 c2_i32_174_r0
  let c0_i32_651_r0 : BitVec 32 := 0#32
  ![v177_r0.toNat, 1, 0, 384]
def k0_off30 (arg6_r0 : BitVec 32) : Fin 4 → Nat :=
  let c2_i32_174_r0 : BitVec 32 := 2#32
  let v177_r0 : BitVec 32 := Scalar.remui arg6_r0 c2_i32_174_r0
  let c0_i32_698_r0 : BitVec 32 := 0#32
  ![v177_r0.toNat, 1, 128, 0]
def k0_off31 (arg6_r0 : BitVec 32) : Fin 4 → Nat :=
  let c2_i32_174_r0 : BitVec 32 := 2#32
  let v177_r0 : BitVec 32 := Scalar.remui arg6_r0 c2_i32_174_r0
  ![v177_r0.toNat, 1, 128, 128]
def k0_off32 (arg6_r0 : BitVec 32) : Fin 4 → Nat :=
  let c2_i32_174_r0 : BitVec 32 := 2#32
  let v177_r0 : BitVec 32 := Scalar.remui arg6_r0 c2_i32_174_r0
  ![v177_r0.toNat, 1, 128, 256]
def k0_off33 (arg6_r0 : BitVec 32) : Fin 4 → Nat :=
  let c2_i32_174_r0 : BitVec 32 := 2#32
  let v177_r0 : BitVec 32 := Scalar.remui arg6_r0 c2_i32_174_r0
  ![v177_r0.toNat, 1, 128, 384]
def k0_off34 (arg6_r0 : BitVec 32) : Fin 4 → Nat :=
  let c2_i32_174_r0 : BitVec 32 := 2#32
  let v177_r0 : BitVec 32 := Scalar.remui arg6_r0 c2_i32_174_r0
  let c0_i32_859_r0 : BitVec 32 := 0#32
  let c0_i32_860_r0 : BitVec 32 := 0#32
  ![v177_r0.toNat, 2, 0, 0]
def k0_off35 (arg6_r0 : BitVec 32) : Fin 4 → Nat :=
  let c2_i32_174_r0 : BitVec 32 := 2#32
  let v177_r0 : BitVec 32 := Scalar.remui arg6_r0 c2_i32_174_r0
  let c0_i32_898_r0 : BitVec 32 := 0#32
  ![v177_r0.toNat, 2, 0, 128]
def k0_off36 (arg6_r0 : BitVec 32) : Fin 4 → Nat :=
  let c2_i32_174_r0 : BitVec 32 := 2#32
  let v177_r0 : BitVec 32 := Scalar.remui arg6_r0 c2_i32_174_r0
  let c0_i32_937_r0 : BitVec 32 := 0#32
  ![v177_r0.toNat, 2, 0, 256]
def k0_off37 (arg6_r0 : BitVec 32) : Fin 4 → Nat :=
  let c2_i32_174_r0 : BitVec 32 := 2#32
  let v177_r0 : BitVec 32 := Scalar.remui arg6_r0 c2_i32_174_r0
  let c0_i32_976_r0 : BitVec 32 := 0#32
  ![v177_r0.toNat, 2, 0, 384]
def k0_off38 (arg6_r0 : BitVec 32) : Fin 4 → Nat :=
  let c2_i32_174_r0 : BitVec 32 := 2#32
  let v177_r0 : BitVec 32 := Scalar.remui arg6_r0 c2_i32_174_r0
  let c0_i32_1023_r0 : BitVec 32 := 0#32
  ![v177_r0.toNat, 2, 128, 0]
def k0_off39 (arg6_r0 : BitVec 32) : Fin 4 → Nat :=
  let c2_i32_174_r0 : BitVec 32 := 2#32
  let v177_r0 : BitVec 32 := Scalar.remui arg6_r0 c2_i32_174_r0
  ![v177_r0.toNat, 2, 128, 128]
def k0_off40 (arg6_r0 : BitVec 32) : Fin 4 → Nat :=
  let c2_i32_174_r0 : BitVec 32 := 2#32
  let v177_r0 : BitVec 32 := Scalar.remui arg6_r0 c2_i32_174_r0
  ![v177_r0.toNat, 2, 128, 256]
def k0_off41 (arg6_r0 : BitVec 32) : Fin 4 → Nat :=
  let c2_i32_174_r0 : BitVec 32 := 2#32
  let v177_r0 : BitVec 32 := Scalar.remui arg6_r0 c2_i32_174_r0
  ![v177_r0.toNat, 2, 128, 384]
def k0_off42 (arg6_r0 : BitVec 32) : Fin 4 → Nat :=
  let c2_i32_174_r0 : BitVec 32 := 2#32
  let v177_r0 : BitVec 32 := Scalar.remui arg6_r0 c2_i32_174_r0
  let c0_i32_1184_r0 : BitVec 32 := 0#32
  let c0_i32_1185_r0 : BitVec 32 := 0#32
  ![v177_r0.toNat, 3, 0, 0]
def k0_off43 (arg6_r0 : BitVec 32) : Fin 4 → Nat :=
  let c2_i32_174_r0 : BitVec 32 := 2#32
  let v177_r0 : BitVec 32 := Scalar.remui arg6_r0 c2_i32_174_r0
  let c0_i32_1223_r0 : BitVec 32 := 0#32
  ![v177_r0.toNat, 3, 0, 128]
def k0_off44 (arg6_r0 : BitVec 32) : Fin 4 → Nat :=
  let c2_i32_174_r0 : BitVec 32 := 2#32
  let v177_r0 : BitVec 32 := Scalar.remui arg6_r0 c2_i32_174_r0
  let c0_i32_1262_r0 : BitVec 32 := 0#32
  ![v177_r0.toNat, 3, 0, 256]
def k0_off45 (arg6_r0 : BitVec 32) : Fin 4 → Nat :=
  let c2_i32_174_r0 : BitVec 32 := 2#32
  let v177_r0 : BitVec 32 := Scalar.remui arg6_r0 c2_i32_174_r0
  let c0_i32_1301_r0 : BitVec 32 := 0#32
  ![v177_r0.toNat, 3, 0, 384]
def k0_off46 (arg6_r0 : BitVec 32) : Fin 4 → Nat :=
  let c2_i32_174_r0 : BitVec 32 := 2#32
  let v177_r0 : BitVec 32 := Scalar.remui arg6_r0 c2_i32_174_r0
  let c0_i32_1348_r0 : BitVec 32 := 0#32
  ![v177_r0.toNat, 3, 128, 0]
def k0_off47 (arg6_r0 : BitVec 32) : Fin 4 → Nat :=
  let c2_i32_174_r0 : BitVec 32 := 2#32
  let v177_r0 : BitVec 32 := Scalar.remui arg6_r0 c2_i32_174_r0
  ![v177_r0.toNat, 3, 128, 128]
def k0_off48 (arg6_r0 : BitVec 32) : Fin 4 → Nat :=
  let c2_i32_174_r0 : BitVec 32 := 2#32
  let v177_r0 : BitVec 32 := Scalar.remui arg6_r0 c2_i32_174_r0
  ![v177_r0.toNat, 3, 128, 256]
def k0_off49 (arg6_r0 : BitVec 32) : Fin 4 → Nat :=
  let c2_i32_174_r0 : BitVec 32 := 2#32
  let v177_r0 : BitVec 32 := Scalar.remui arg6_r0 c2_i32_174_r0
  ![v177_r0.toNat, 3, 128, 384]
def k0_off50 (arg6_r0 : BitVec 32) : Fin 4 → Nat :=
  let c2_i32_174_r0 : BitVec 32 := 2#32
  let v177_r0 : BitVec 32 := Scalar.remui arg6_r0 c2_i32_174_r0
  let c0_i32_1509_r0 : BitVec 32 := 0#32
  let c0_i32_1510_r0 : BitVec 32 := 0#32
  ![v177_r0.toNat, 4, 0, 0]
def k0_off51 (arg6_r0 : BitVec 32) : Fin 4 → Nat :=
  let c2_i32_174_r0 : BitVec 32 := 2#32
  let v177_r0 : BitVec 32 := Scalar.remui arg6_r0 c2_i32_174_r0
  let c0_i32_1548_r0 : BitVec 32 := 0#32
  ![v177_r0.toNat, 4, 0, 128]
def k0_off52 (arg6_r0 : BitVec 32) : Fin 4 → Nat :=
  let c2_i32_174_r0 : BitVec 32 := 2#32
  let v177_r0 : BitVec 32 := Scalar.remui arg6_r0 c2_i32_174_r0
  let c0_i32_1587_r0 : BitVec 32 := 0#32
  ![v177_r0.toNat, 4, 0, 256]
def k0_off53 (arg6_r0 : BitVec 32) : Fin 4 → Nat :=
  let c2_i32_174_r0 : BitVec 32 := 2#32
  let v177_r0 : BitVec 32 := Scalar.remui arg6_r0 c2_i32_174_r0
  let c0_i32_1626_r0 : BitVec 32 := 0#32
  ![v177_r0.toNat, 4, 0, 384]
def k0_off54 (arg6_r0 : BitVec 32) : Fin 4 → Nat :=
  let c2_i32_174_r0 : BitVec 32 := 2#32
  let v177_r0 : BitVec 32 := Scalar.remui arg6_r0 c2_i32_174_r0
  let c0_i32_1673_r0 : BitVec 32 := 0#32
  ![v177_r0.toNat, 4, 128, 0]
def k0_off55 (arg6_r0 : BitVec 32) : Fin 4 → Nat :=
  let c2_i32_174_r0 : BitVec 32 := 2#32
  let v177_r0 : BitVec 32 := Scalar.remui arg6_r0 c2_i32_174_r0
  ![v177_r0.toNat, 4, 128, 128]
def k0_off56 (arg6_r0 : BitVec 32) : Fin 4 → Nat :=
  let c2_i32_174_r0 : BitVec 32 := 2#32
  let v177_r0 : BitVec 32 := Scalar.remui arg6_r0 c2_i32_174_r0
  ![v177_r0.toNat, 4, 128, 256]
def k0_off57 (arg6_r0 : BitVec 32) : Fin 4 → Nat :=
  let c2_i32_174_r0 : BitVec 32 := 2#32
  let v177_r0 : BitVec 32 := Scalar.remui arg6_r0 c2_i32_174_r0
  ![v177_r0.toNat, 4, 128, 384]
def k0_off58 (arg6_r0 : BitVec 32) : Fin 4 → Nat :=
  let c2_i32_174_r0 : BitVec 32 := 2#32
  let v177_r0 : BitVec 32 := Scalar.remui arg6_r0 c2_i32_174_r0
  let c0_i32_1834_r0 : BitVec 32 := 0#32
  let c0_i32_1835_r0 : BitVec 32 := 0#32
  ![v177_r0.toNat, 5, 0, 0]
def k0_off59 (arg6_r0 : BitVec 32) : Fin 4 → Nat :=
  let c2_i32_174_r0 : BitVec 32 := 2#32
  let v177_r0 : BitVec 32 := Scalar.remui arg6_r0 c2_i32_174_r0
  let c0_i32_1873_r0 : BitVec 32 := 0#32
  ![v177_r0.toNat, 5, 0, 128]
def k0_off60 (arg6_r0 : BitVec 32) : Fin 4 → Nat :=
  let c2_i32_174_r0 : BitVec 32 := 2#32
  let v177_r0 : BitVec 32 := Scalar.remui arg6_r0 c2_i32_174_r0
  let c0_i32_1912_r0 : BitVec 32 := 0#32
  ![v177_r0.toNat, 5, 0, 256]
def k0_off61 (arg6_r0 : BitVec 32) : Fin 4 → Nat :=
  let c2_i32_174_r0 : BitVec 32 := 2#32
  let v177_r0 : BitVec 32 := Scalar.remui arg6_r0 c2_i32_174_r0
  let c0_i32_1951_r0 : BitVec 32 := 0#32
  ![v177_r0.toNat, 5, 0, 384]
def k0_off62 (arg6_r0 : BitVec 32) : Fin 4 → Nat :=
  let c2_i32_174_r0 : BitVec 32 := 2#32
  let v177_r0 : BitVec 32 := Scalar.remui arg6_r0 c2_i32_174_r0
  let c0_i32_1998_r0 : BitVec 32 := 0#32
  ![v177_r0.toNat, 5, 128, 0]
def k0_off63 (arg6_r0 : BitVec 32) : Fin 4 → Nat :=
  let c2_i32_174_r0 : BitVec 32 := 2#32
  let v177_r0 : BitVec 32 := Scalar.remui arg6_r0 c2_i32_174_r0
  ![v177_r0.toNat, 5, 128, 128]
def k0_off64 (arg6_r0 : BitVec 32) : Fin 4 → Nat :=
  let c2_i32_174_r0 : BitVec 32 := 2#32
  let v177_r0 : BitVec 32 := Scalar.remui arg6_r0 c2_i32_174_r0
  ![v177_r0.toNat, 5, 128, 256]
def k0_off65 (arg6_r0 : BitVec 32) : Fin 4 → Nat :=
  let c2_i32_174_r0 : BitVec 32 := 2#32
  let v177_r0 : BitVec 32 := Scalar.remui arg6_r0 c2_i32_174_r0
  ![v177_r0.toNat, 5, 128, 384]
def k0_off66 (arg6_r0 : BitVec 32) : Fin 4 → Nat :=
  let c2_i32_174_r0 : BitVec 32 := 2#32
  let v177_r0 : BitVec 32 := Scalar.remui arg6_r0 c2_i32_174_r0
  let c0_i32_2159_r0 : BitVec 32 := 0#32
  let c0_i32_2160_r0 : BitVec 32 := 0#32
  ![v177_r0.toNat, 6, 0, 0]
def k0_off67 (arg6_r0 : BitVec 32) : Fin 4 → Nat :=
  let c2_i32_174_r0 : BitVec 32 := 2#32
  let v177_r0 : BitVec 32 := Scalar.remui arg6_r0 c2_i32_174_r0
  let c0_i32_2198_r0 : BitVec 32 := 0#32
  ![v177_r0.toNat, 6, 0, 128]
def k0_off68 (arg6_r0 : BitVec 32) : Fin 4 → Nat :=
  let c2_i32_174_r0 : BitVec 32 := 2#32
  let v177_r0 : BitVec 32 := Scalar.remui arg6_r0 c2_i32_174_r0
  let c0_i32_2237_r0 : BitVec 32 := 0#32
  ![v177_r0.toNat, 6, 0, 256]
def k0_off69 (arg6_r0 : BitVec 32) : Fin 4 → Nat :=
  let c2_i32_174_r0 : BitVec 32 := 2#32
  let v177_r0 : BitVec 32 := Scalar.remui arg6_r0 c2_i32_174_r0
  let c0_i32_2276_r0 : BitVec 32 := 0#32
  ![v177_r0.toNat, 6, 0, 384]
def k0_off70 (arg6_r0 : BitVec 32) : Fin 4 → Nat :=
  let c2_i32_174_r0 : BitVec 32 := 2#32
  let v177_r0 : BitVec 32 := Scalar.remui arg6_r0 c2_i32_174_r0
  let c0_i32_2323_r0 : BitVec 32 := 0#32
  ![v177_r0.toNat, 6, 128, 0]
def k0_off71 (arg6_r0 : BitVec 32) : Fin 4 → Nat :=
  let c2_i32_174_r0 : BitVec 32 := 2#32
  let v177_r0 : BitVec 32 := Scalar.remui arg6_r0 c2_i32_174_r0
  ![v177_r0.toNat, 6, 128, 128]
def k0_off72 (arg6_r0 : BitVec 32) : Fin 4 → Nat :=
  let c2_i32_174_r0 : BitVec 32 := 2#32
  let v177_r0 : BitVec 32 := Scalar.remui arg6_r0 c2_i32_174_r0
  ![v177_r0.toNat, 6, 128, 256]
def k0_off73 (arg6_r0 : BitVec 32) : Fin 4 → Nat :=
  let c2_i32_174_r0 : BitVec 32 := 2#32
  let v177_r0 : BitVec 32 := Scalar.remui arg6_r0 c2_i32_174_r0
  ![v177_r0.toNat, 6, 128, 384]
def k0_off74 (arg6_r0 : BitVec 32) : Fin 4 → Nat :=
  let c2_i32_174_r0 : BitVec 32 := 2#32
  let v177_r0 : BitVec 32 := Scalar.remui arg6_r0 c2_i32_174_r0
  let c0_i32_2484_r0 : BitVec 32 := 0#32
  let c0_i32_2485_r0 : BitVec 32 := 0#32
  ![v177_r0.toNat, 7, 0, 0]
def k0_off75 (arg6_r0 : BitVec 32) : Fin 4 → Nat :=
  let c2_i32_174_r0 : BitVec 32 := 2#32
  let v177_r0 : BitVec 32 := Scalar.remui arg6_r0 c2_i32_174_r0
  let c0_i32_2523_r0 : BitVec 32 := 0#32
  ![v177_r0.toNat, 7, 0, 128]
def k0_off76 (arg6_r0 : BitVec 32) : Fin 4 → Nat :=
  let c2_i32_174_r0 : BitVec 32 := 2#32
  let v177_r0 : BitVec 32 := Scalar.remui arg6_r0 c2_i32_174_r0
  let c0_i32_2562_r0 : BitVec 32 := 0#32
  ![v177_r0.toNat, 7, 0, 256]
def k0_off77 (arg6_r0 : BitVec 32) : Fin 4 → Nat :=
  let c2_i32_174_r0 : BitVec 32 := 2#32
  let v177_r0 : BitVec 32 := Scalar.remui arg6_r0 c2_i32_174_r0
  let c0_i32_2601_r0 : BitVec 32 := 0#32
  ![v177_r0.toNat, 7, 0, 384]
def k0_off78 (arg6_r0 : BitVec 32) : Fin 4 → Nat :=
  let c2_i32_174_r0 : BitVec 32 := 2#32
  let v177_r0 : BitVec 32 := Scalar.remui arg6_r0 c2_i32_174_r0
  let c0_i32_2648_r0 : BitVec 32 := 0#32
  ![v177_r0.toNat, 7, 128, 0]
def k0_off79 (arg6_r0 : BitVec 32) : Fin 4 → Nat :=
  let c2_i32_174_r0 : BitVec 32 := 2#32
  let v177_r0 : BitVec 32 := Scalar.remui arg6_r0 c2_i32_174_r0
  ![v177_r0.toNat, 7, 128, 128]
def k0_off80 (arg6_r0 : BitVec 32) : Fin 4 → Nat :=
  let c2_i32_174_r0 : BitVec 32 := 2#32
  let v177_r0 : BitVec 32 := Scalar.remui arg6_r0 c2_i32_174_r0
  ![v177_r0.toNat, 7, 128, 256]
def k0_off81 (arg6_r0 : BitVec 32) : Fin 4 → Nat :=
  let c2_i32_174_r0 : BitVec 32 := 2#32
  let v177_r0 : BitVec 32 := Scalar.remui arg6_r0 c2_i32_174_r0
  ![v177_r0.toNat, 7, 128, 384]
def k0_off82 (arg6_r0 : BitVec 32) : Fin 4 → Nat :=
  let c2_i32_174_r0 : BitVec 32 := 2#32
  let v177_r0 : BitVec 32 := Scalar.remui arg6_r0 c2_i32_174_r0
  let c0_i32_2809_r0 : BitVec 32 := 0#32
  let c0_i32_2810_r0 : BitVec 32 := 0#32
  ![v177_r0.toNat, 8, 0, 0]
def k0_off83 (arg6_r0 : BitVec 32) : Fin 4 → Nat :=
  let c2_i32_174_r0 : BitVec 32 := 2#32
  let v177_r0 : BitVec 32 := Scalar.remui arg6_r0 c2_i32_174_r0
  let c0_i32_2848_r0 : BitVec 32 := 0#32
  ![v177_r0.toNat, 8, 0, 128]
def k0_off84 (arg6_r0 : BitVec 32) : Fin 4 → Nat :=
  let c2_i32_174_r0 : BitVec 32 := 2#32
  let v177_r0 : BitVec 32 := Scalar.remui arg6_r0 c2_i32_174_r0
  let c0_i32_2887_r0 : BitVec 32 := 0#32
  ![v177_r0.toNat, 8, 0, 256]
def k0_off85 (arg6_r0 : BitVec 32) : Fin 4 → Nat :=
  let c2_i32_174_r0 : BitVec 32 := 2#32
  let v177_r0 : BitVec 32 := Scalar.remui arg6_r0 c2_i32_174_r0
  let c0_i32_2926_r0 : BitVec 32 := 0#32
  ![v177_r0.toNat, 8, 0, 384]
def k0_off86 (arg6_r0 : BitVec 32) : Fin 4 → Nat :=
  let c2_i32_174_r0 : BitVec 32 := 2#32
  let v177_r0 : BitVec 32 := Scalar.remui arg6_r0 c2_i32_174_r0
  let c0_i32_2973_r0 : BitVec 32 := 0#32
  ![v177_r0.toNat, 8, 128, 0]
def k0_off87 (arg6_r0 : BitVec 32) : Fin 4 → Nat :=
  let c2_i32_174_r0 : BitVec 32 := 2#32
  let v177_r0 : BitVec 32 := Scalar.remui arg6_r0 c2_i32_174_r0
  ![v177_r0.toNat, 8, 128, 128]
def k0_off88 (arg6_r0 : BitVec 32) : Fin 4 → Nat :=
  let c2_i32_174_r0 : BitVec 32 := 2#32
  let v177_r0 : BitVec 32 := Scalar.remui arg6_r0 c2_i32_174_r0
  ![v177_r0.toNat, 8, 128, 256]
def k0_off89 (arg6_r0 : BitVec 32) : Fin 4 → Nat :=
  let c2_i32_174_r0 : BitVec 32 := 2#32
  let v177_r0 : BitVec 32 := Scalar.remui arg6_r0 c2_i32_174_r0
  ![v177_r0.toNat, 8, 128, 384]
def k0_off90 (arg6_r0 : BitVec 32) : Fin 4 → Nat :=
  let c2_i32_174_r0 : BitVec 32 := 2#32
  let v177_r0 : BitVec 32 := Scalar.remui arg6_r0 c2_i32_174_r0
  let c0_i32_3134_r0 : BitVec 32 := 0#32
  let c0_i32_3135_r0 : BitVec 32 := 0#32
  ![v177_r0.toNat, 9, 0, 0]
def k0_off91 (arg6_r0 : BitVec 32) : Fin 4 → Nat :=
  let c2_i32_174_r0 : BitVec 32 := 2#32
  let v177_r0 : BitVec 32 := Scalar.remui arg6_r0 c2_i32_174_r0
  let c0_i32_3173_r0 : BitVec 32 := 0#32
  ![v177_r0.toNat, 9, 0, 128]
def k0_off92 (arg6_r0 : BitVec 32) : Fin 4 → Nat :=
  let c2_i32_174_r0 : BitVec 32 := 2#32
  let v177_r0 : BitVec 32 := Scalar.remui arg6_r0 c2_i32_174_r0
  let c0_i32_3212_r0 : BitVec 32 := 0#32
  ![v177_r0.toNat, 9, 0, 256]
def k0_off93 (arg6_r0 : BitVec 32) : Fin 4 → Nat :=
  let c2_i32_174_r0 : BitVec 32 := 2#32
  let v177_r0 : BitVec 32 := Scalar.remui arg6_r0 c2_i32_174_r0
  let c0_i32_3251_r0 : BitVec 32 := 0#32
  ![v177_r0.toNat, 9, 0, 384]
def k0_off94 (arg6_r0 : BitVec 32) : Fin 4 → Nat :=
  let c2_i32_174_r0 : BitVec 32 := 2#32
  let v177_r0 : BitVec 32 := Scalar.remui arg6_r0 c2_i32_174_r0
  let c0_i32_3298_r0 : BitVec 32 := 0#32
  ![v177_r0.toNat, 9, 128, 0]
def k0_off95 (arg6_r0 : BitVec 32) : Fin 4 → Nat :=
  let c2_i32_174_r0 : BitVec 32 := 2#32
  let v177_r0 : BitVec 32 := Scalar.remui arg6_r0 c2_i32_174_r0
  ![v177_r0.toNat, 9, 128, 128]
def k0_off96 (arg6_r0 : BitVec 32) : Fin 4 → Nat :=
  let c2_i32_174_r0 : BitVec 32 := 2#32
  let v177_r0 : BitVec 32 := Scalar.remui arg6_r0 c2_i32_174_r0
  ![v177_r0.toNat, 9, 128, 256]
def k0_off97 (arg6_r0 : BitVec 32) : Fin 4 → Nat :=
  let c2_i32_174_r0 : BitVec 32 := 2#32
  let v177_r0 : BitVec 32 := Scalar.remui arg6_r0 c2_i32_174_r0
  ![v177_r0.toNat, 9, 128, 384]
def k0_off98 (arg6_r0 : BitVec 32) : Fin 4 → Nat :=
  let c2_i32_174_r0 : BitVec 32 := 2#32
  let v177_r0 : BitVec 32 := Scalar.remui arg6_r0 c2_i32_174_r0
  let c0_i32_3459_r0 : BitVec 32 := 0#32
  let c0_i32_3460_r0 : BitVec 32 := 0#32
  ![v177_r0.toNat, 10, 0, 0]
def k0_off99 (arg6_r0 : BitVec 32) : Fin 4 → Nat :=
  let c2_i32_174_r0 : BitVec 32 := 2#32
  let v177_r0 : BitVec 32 := Scalar.remui arg6_r0 c2_i32_174_r0
  let c0_i32_3498_r0 : BitVec 32 := 0#32
  ![v177_r0.toNat, 10, 0, 128]
def k0_off100 (arg6_r0 : BitVec 32) : Fin 4 → Nat :=
  let c2_i32_174_r0 : BitVec 32 := 2#32
  let v177_r0 : BitVec 32 := Scalar.remui arg6_r0 c2_i32_174_r0
  let c0_i32_3537_r0 : BitVec 32 := 0#32
  ![v177_r0.toNat, 10, 0, 256]
def k0_off101 (arg6_r0 : BitVec 32) : Fin 4 → Nat :=
  let c2_i32_174_r0 : BitVec 32 := 2#32
  let v177_r0 : BitVec 32 := Scalar.remui arg6_r0 c2_i32_174_r0
  let c0_i32_3576_r0 : BitVec 32 := 0#32
  ![v177_r0.toNat, 10, 0, 384]
def k0_off102 (arg6_r0 : BitVec 32) : Fin 4 → Nat :=
  let c2_i32_174_r0 : BitVec 32 := 2#32
  let v177_r0 : BitVec 32 := Scalar.remui arg6_r0 c2_i32_174_r0
  let c0_i32_3623_r0 : BitVec 32 := 0#32
  ![v177_r0.toNat, 10, 128, 0]
def k0_off103 (arg6_r0 : BitVec 32) : Fin 4 → Nat :=
  let c2_i32_174_r0 : BitVec 32 := 2#32
  let v177_r0 : BitVec 32 := Scalar.remui arg6_r0 c2_i32_174_r0
  ![v177_r0.toNat, 10, 128, 128]
def k0_off104 (arg6_r0 : BitVec 32) : Fin 4 → Nat :=
  let c2_i32_174_r0 : BitVec 32 := 2#32
  let v177_r0 : BitVec 32 := Scalar.remui arg6_r0 c2_i32_174_r0
  ![v177_r0.toNat, 10, 128, 256]
def k0_off105 (arg6_r0 : BitVec 32) : Fin 4 → Nat :=
  let c2_i32_174_r0 : BitVec 32 := 2#32
  let v177_r0 : BitVec 32 := Scalar.remui arg6_r0 c2_i32_174_r0
  ![v177_r0.toNat, 10, 128, 384]
def k0_off106 (arg6_r0 : BitVec 32) : Fin 4 → Nat :=
  let c2_i32_174_r0 : BitVec 32 := 2#32
  let v177_r0 : BitVec 32 := Scalar.remui arg6_r0 c2_i32_174_r0
  let c0_i32_3784_r0 : BitVec 32 := 0#32
  let c0_i32_3785_r0 : BitVec 32 := 0#32
  ![v177_r0.toNat, 11, 0, 0]
def k0_off107 (arg6_r0 : BitVec 32) : Fin 4 → Nat :=
  let c2_i32_174_r0 : BitVec 32 := 2#32
  let v177_r0 : BitVec 32 := Scalar.remui arg6_r0 c2_i32_174_r0
  let c0_i32_3823_r0 : BitVec 32 := 0#32
  ![v177_r0.toNat, 11, 0, 128]
def k0_off108 (arg6_r0 : BitVec 32) : Fin 4 → Nat :=
  let c2_i32_174_r0 : BitVec 32 := 2#32
  let v177_r0 : BitVec 32 := Scalar.remui arg6_r0 c2_i32_174_r0
  let c0_i32_3862_r0 : BitVec 32 := 0#32
  ![v177_r0.toNat, 11, 0, 256]
def k0_off109 (arg6_r0 : BitVec 32) : Fin 4 → Nat :=
  let c2_i32_174_r0 : BitVec 32 := 2#32
  let v177_r0 : BitVec 32 := Scalar.remui arg6_r0 c2_i32_174_r0
  let c0_i32_3901_r0 : BitVec 32 := 0#32
  ![v177_r0.toNat, 11, 0, 384]
def k0_off110 (arg6_r0 : BitVec 32) : Fin 4 → Nat :=
  let c2_i32_174_r0 : BitVec 32 := 2#32
  let v177_r0 : BitVec 32 := Scalar.remui arg6_r0 c2_i32_174_r0
  let c0_i32_3948_r0 : BitVec 32 := 0#32
  ![v177_r0.toNat, 11, 128, 0]
def k0_off111 (arg6_r0 : BitVec 32) : Fin 4 → Nat :=
  let c2_i32_174_r0 : BitVec 32 := 2#32
  let v177_r0 : BitVec 32 := Scalar.remui arg6_r0 c2_i32_174_r0
  ![v177_r0.toNat, 11, 128, 128]
def k0_off112 (arg6_r0 : BitVec 32) : Fin 4 → Nat :=
  let c2_i32_174_r0 : BitVec 32 := 2#32
  let v177_r0 : BitVec 32 := Scalar.remui arg6_r0 c2_i32_174_r0
  ![v177_r0.toNat, 11, 128, 256]
def k0_off113 (arg6_r0 : BitVec 32) : Fin 4 → Nat :=
  let c2_i32_174_r0 : BitVec 32 := 2#32
  let v177_r0 : BitVec 32 := Scalar.remui arg6_r0 c2_i32_174_r0
  ![v177_r0.toNat, 11, 128, 384]
def k0_off114 (arg6_r0 : BitVec 32) : Fin 4 → Nat :=
  let c2_i32_174_r0 : BitVec 32 := 2#32
  let v177_r0 : BitVec 32 := Scalar.remui arg6_r0 c2_i32_174_r0
  let c0_i32_4109_r0 : BitVec 32 := 0#32
  let c0_i32_4110_r0 : BitVec 32 := 0#32
  ![v177_r0.toNat, 12, 0, 0]
def k0_off115 (arg6_r0 : BitVec 32) : Fin 4 → Nat :=
  let c2_i32_174_r0 : BitVec 32 := 2#32
  let v177_r0 : BitVec 32 := Scalar.remui arg6_r0 c2_i32_174_r0
  let c0_i32_4148_r0 : BitVec 32 := 0#32
  ![v177_r0.toNat, 12, 0, 128]
def k0_off116 (arg6_r0 : BitVec 32) : Fin 4 → Nat :=
  let c2_i32_174_r0 : BitVec 32 := 2#32
  let v177_r0 : BitVec 32 := Scalar.remui arg6_r0 c2_i32_174_r0
  let c0_i32_4187_r0 : BitVec 32 := 0#32
  ![v177_r0.toNat, 12, 0, 256]
def k0_off117 (arg6_r0 : BitVec 32) : Fin 4 → Nat :=
  let c2_i32_174_r0 : BitVec 32 := 2#32
  let v177_r0 : BitVec 32 := Scalar.remui arg6_r0 c2_i32_174_r0
  let c0_i32_4226_r0 : BitVec 32 := 0#32
  ![v177_r0.toNat, 12, 0, 384]
def k0_off118 (arg6_r0 : BitVec 32) : Fin 4 → Nat :=
  let c2_i32_174_r0 : BitVec 32 := 2#32
  let v177_r0 : BitVec 32 := Scalar.remui arg6_r0 c2_i32_174_r0
  let c0_i32_4273_r0 : BitVec 32 := 0#32
  ![v177_r0.toNat, 12, 128, 0]
def k0_off119 (arg6_r0 : BitVec 32) : Fin 4 → Nat :=
  let c2_i32_174_r0 : BitVec 32 := 2#32
  let v177_r0 : BitVec 32 := Scalar.remui arg6_r0 c2_i32_174_r0
  ![v177_r0.toNat, 12, 128, 128]
def k0_off120 (arg6_r0 : BitVec 32) : Fin 4 → Nat :=
  let c2_i32_174_r0 : BitVec 32 := 2#32
  let v177_r0 : BitVec 32 := Scalar.remui arg6_r0 c2_i32_174_r0
  ![v177_r0.toNat, 12, 128, 256]
def k0_off121 (arg6_r0 : BitVec 32) : Fin 4 → Nat :=
  let c2_i32_174_r0 : BitVec 32 := 2#32
  let v177_r0 : BitVec 32 := Scalar.remui arg6_r0 c2_i32_174_r0
  ![v177_r0.toNat, 12, 128, 384]
def k0_off122 (arg6_r0 : BitVec 32) : Fin 4 → Nat :=
  let c2_i32_174_r0 : BitVec 32 := 2#32
  let v177_r0 : BitVec 32 := Scalar.remui arg6_r0 c2_i32_174_r0
  let c0_i32_4434_r0 : BitVec 32 := 0#32
  let c0_i32_4435_r0 : BitVec 32 := 0#32
  ![v177_r0.toNat, 13, 0, 0]
def k0_off123 (arg6_r0 : BitVec 32) : Fin 4 → Nat :=
  let c2_i32_174_r0 : BitVec 32 := 2#32
  let v177_r0 : BitVec 32 := Scalar.remui arg6_r0 c2_i32_174_r0
  let c0_i32_4473_r0 : BitVec 32 := 0#32
  ![v177_r0.toNat, 13, 0, 128]
def k0_off124 (arg6_r0 : BitVec 32) : Fin 4 → Nat :=
  let c2_i32_174_r0 : BitVec 32 := 2#32
  let v177_r0 : BitVec 32 := Scalar.remui arg6_r0 c2_i32_174_r0
  let c0_i32_4512_r0 : BitVec 32 := 0#32
  ![v177_r0.toNat, 13, 0, 256]
def k0_off125 (arg6_r0 : BitVec 32) : Fin 4 → Nat :=
  let c2_i32_174_r0 : BitVec 32 := 2#32
  let v177_r0 : BitVec 32 := Scalar.remui arg6_r0 c2_i32_174_r0
  let c0_i32_4551_r0 : BitVec 32 := 0#32
  ![v177_r0.toNat, 13, 0, 384]
def k0_off126 (arg6_r0 : BitVec 32) : Fin 4 → Nat :=
  let c2_i32_174_r0 : BitVec 32 := 2#32
  let v177_r0 : BitVec 32 := Scalar.remui arg6_r0 c2_i32_174_r0
  let c0_i32_4598_r0 : BitVec 32 := 0#32
  ![v177_r0.toNat, 13, 128, 0]
def k0_off127 (arg6_r0 : BitVec 32) : Fin 4 → Nat :=
  let c2_i32_174_r0 : BitVec 32 := 2#32
  let v177_r0 : BitVec 32 := Scalar.remui arg6_r0 c2_i32_174_r0
  ![v177_r0.toNat, 13, 128, 128]
def k0_off128 (arg6_r0 : BitVec 32) : Fin 4 → Nat :=
  let c2_i32_174_r0 : BitVec 32 := 2#32
  let v177_r0 : BitVec 32 := Scalar.remui arg6_r0 c2_i32_174_r0
  ![v177_r0.toNat, 13, 128, 256]
def k0_off129 (arg6_r0 : BitVec 32) : Fin 4 → Nat :=
  let c2_i32_174_r0 : BitVec 32 := 2#32
  let v177_r0 : BitVec 32 := Scalar.remui arg6_r0 c2_i32_174_r0
  ![v177_r0.toNat, 13, 128, 384]
def k0_off130 (arg6_r0 : BitVec 32) : Fin 4 → Nat :=
  let c2_i32_174_r0 : BitVec 32 := 2#32
  let v177_r0 : BitVec 32 := Scalar.remui arg6_r0 c2_i32_174_r0
  let c0_i32_4759_r0 : BitVec 32 := 0#32
  let c0_i32_4760_r0 : BitVec 32 := 0#32
  ![v177_r0.toNat, 14, 0, 0]
def k0_off131 (arg6_r0 : BitVec 32) : Fin 4 → Nat :=
  let c2_i32_174_r0 : BitVec 32 := 2#32
  let v177_r0 : BitVec 32 := Scalar.remui arg6_r0 c2_i32_174_r0
  let c0_i32_4798_r0 : BitVec 32 := 0#32
  ![v177_r0.toNat, 14, 0, 128]
def k0_off132 (arg6_r0 : BitVec 32) : Fin 4 → Nat :=
  let c2_i32_174_r0 : BitVec 32 := 2#32
  let v177_r0 : BitVec 32 := Scalar.remui arg6_r0 c2_i32_174_r0
  let c0_i32_4837_r0 : BitVec 32 := 0#32
  ![v177_r0.toNat, 14, 0, 256]
def k0_off133 (arg6_r0 : BitVec 32) : Fin 4 → Nat :=
  let c2_i32_174_r0 : BitVec 32 := 2#32
  let v177_r0 : BitVec 32 := Scalar.remui arg6_r0 c2_i32_174_r0
  let c0_i32_4876_r0 : BitVec 32 := 0#32
  ![v177_r0.toNat, 14, 0, 384]
def k0_off134 (arg6_r0 : BitVec 32) : Fin 4 → Nat :=
  let c2_i32_174_r0 : BitVec 32 := 2#32
  let v177_r0 : BitVec 32 := Scalar.remui arg6_r0 c2_i32_174_r0
  let c0_i32_4923_r0 : BitVec 32 := 0#32
  ![v177_r0.toNat, 14, 128, 0]
def k0_off135 (arg6_r0 : BitVec 32) : Fin 4 → Nat :=
  let c2_i32_174_r0 : BitVec 32 := 2#32
  let v177_r0 : BitVec 32 := Scalar.remui arg6_r0 c2_i32_174_r0
  ![v177_r0.toNat, 14, 128, 128]
def k0_off136 (arg6_r0 : BitVec 32) : Fin 4 → Nat :=
  let c2_i32_174_r0 : BitVec 32 := 2#32
  let v177_r0 : BitVec 32 := Scalar.remui arg6_r0 c2_i32_174_r0
  ![v177_r0.toNat, 14, 128, 256]
def k0_off137 (arg6_r0 : BitVec 32) : Fin 4 → Nat :=
  let c2_i32_174_r0 : BitVec 32 := 2#32
  let v177_r0 : BitVec 32 := Scalar.remui arg6_r0 c2_i32_174_r0
  ![v177_r0.toNat, 14, 128, 384]
def k0_off138 (arg6_r0 : BitVec 32) : Fin 4 → Nat :=
  let c2_i32_174_r0 : BitVec 32 := 2#32
  let v177_r0 : BitVec 32 := Scalar.remui arg6_r0 c2_i32_174_r0
  let c0_i32_5084_r0 : BitVec 32 := 0#32
  let c0_i32_5085_r0 : BitVec 32 := 0#32
  ![v177_r0.toNat, 15, 0, 0]
def k0_off139 (arg6_r0 : BitVec 32) : Fin 4 → Nat :=
  let c2_i32_174_r0 : BitVec 32 := 2#32
  let v177_r0 : BitVec 32 := Scalar.remui arg6_r0 c2_i32_174_r0
  let c0_i32_5123_r0 : BitVec 32 := 0#32
  ![v177_r0.toNat, 15, 0, 128]
def k0_off140 (arg6_r0 : BitVec 32) : Fin 4 → Nat :=
  let c2_i32_174_r0 : BitVec 32 := 2#32
  let v177_r0 : BitVec 32 := Scalar.remui arg6_r0 c2_i32_174_r0
  let c0_i32_5162_r0 : BitVec 32 := 0#32
  ![v177_r0.toNat, 15, 0, 256]
def k0_off141 (arg6_r0 : BitVec 32) : Fin 4 → Nat :=
  let c2_i32_174_r0 : BitVec 32 := 2#32
  let v177_r0 : BitVec 32 := Scalar.remui arg6_r0 c2_i32_174_r0
  let c0_i32_5201_r0 : BitVec 32 := 0#32
  ![v177_r0.toNat, 15, 0, 384]
def k0_off142 (arg6_r0 : BitVec 32) : Fin 4 → Nat :=
  let c2_i32_174_r0 : BitVec 32 := 2#32
  let v177_r0 : BitVec 32 := Scalar.remui arg6_r0 c2_i32_174_r0
  let c0_i32_5248_r0 : BitVec 32 := 0#32
  ![v177_r0.toNat, 15, 128, 0]
def k0_off143 (arg6_r0 : BitVec 32) : Fin 4 → Nat :=
  let c2_i32_174_r0 : BitVec 32 := 2#32
  let v177_r0 : BitVec 32 := Scalar.remui arg6_r0 c2_i32_174_r0
  ![v177_r0.toNat, 15, 128, 128]
def k0_off144 (arg6_r0 : BitVec 32) : Fin 4 → Nat :=
  let c2_i32_174_r0 : BitVec 32 := 2#32
  let v177_r0 : BitVec 32 := Scalar.remui arg6_r0 c2_i32_174_r0
  ![v177_r0.toNat, 15, 128, 256]
def k0_off145 (arg6_r0 : BitVec 32) : Fin 4 → Nat :=
  let c2_i32_174_r0 : BitVec 32 := 2#32
  let v177_r0 : BitVec 32 := Scalar.remui arg6_r0 c2_i32_174_r0
  ![v177_r0.toNat, 15, 128, 384]

def k0_chk3_0 (arg6_r0 : BitVec 32) : Prop :=
  (∀ a, (k0_off13 arg6_r0) a + S1x16x256x512.size a ≤ S2x16x256x512.size a) ∧
  (∀ a, (k0_off14 arg6_r0) a + S1x1x128x128.size a ≤ S2x16x256x512.size a) ∧
  (∀ (hinb : ∀ a, (k0_off14 arg6_r0) a + S1x1x128x128.size a ≤ S2x16x256x512.size a), (Rect.unit (s := S2x16x256x512) (k0_off14 arg6_r0) S1x1x128x128.size hinb).PackedRows (EltTy.packing .bf16)) ∧
  (∀ a, (k0_off16 arg6_r0) a + S1x1x128x128.size a ≤ S2x16x256x512.size a) ∧
  (∀ (hinb : ∀ a, (k0_off16 arg6_r0) a + S1x1x128x128.size a ≤ S2x16x256x512.size a), (Rect.unit (s := S2x16x256x512) (k0_off16 arg6_r0) S1x1x128x128.size hinb).PackedRows (EltTy.packing .bf16)) ∧
  (∀ a, (k0_off17 arg6_r0) a + S1x1x128x128.size a ≤ S2x16x256x512.size a) ∧
  (∀ (hinb : ∀ a, (k0_off17 arg6_r0) a + S1x1x128x128.size a ≤ S2x16x256x512.size a), (Rect.unit (s := S2x16x256x512) (k0_off17 arg6_r0) S1x1x128x128.size hinb).PackedRows (EltTy.packing .bf16)) ∧
  (∀ a, (k0_off18 arg6_r0) a + S1x1x128x128.size a ≤ S2x16x256x512.size a) ∧
  (∀ (hinb : ∀ a, (k0_off18 arg6_r0) a + S1x1x128x128.size a ≤ S2x16x256x512.size a), (Rect.unit (s := S2x16x256x512) (k0_off18 arg6_r0) S1x1x128x128.size hinb).PackedRows (EltTy.packing .bf16)) ∧
  (∀ a, (k0_off21 arg6_r0) a + S1x16x256x512.size a ≤ S2x16x256x512.size a) ∧
  (∀ a, (k0_off22 arg6_r0) a + S1x1x128x128.size a ≤ S2x16x256x512.size a) ∧
  (∀ (hinb : ∀ a, (k0_off22 arg6_r0) a + S1x1x128x128.size a ≤ S2x16x256x512.size a), (Rect.unit (s := S2x16x256x512) (k0_off22 arg6_r0) S1x1x128x128.size hinb).PackedRows (EltTy.packing .bf16)) ∧
  (∀ a, (k0_off23 arg6_r0) a + S1x1x128x128.size a ≤ S2x16x256x512.size a) ∧
  (∀ (hinb : ∀ a, (k0_off23 arg6_r0) a + S1x1x128x128.size a ≤ S2x16x256x512.size a), (Rect.unit (s := S2x16x256x512) (k0_off23 arg6_r0) S1x1x128x128.size hinb).PackedRows (EltTy.packing .bf16)) ∧
  (∀ a, (k0_off24 arg6_r0) a + S1x1x128x128.size a ≤ S2x16x256x512.size a) ∧
  (∀ (hinb : ∀ a, (k0_off24 arg6_r0) a + S1x1x128x128.size a ≤ S2x16x256x512.size a), (Rect.unit (s := S2x16x256x512) (k0_off24 arg6_r0) S1x1x128x128.size hinb).PackedRows (EltTy.packing .bf16)) ∧
  (∀ a, (k0_off25 arg6_r0) a + S1x1x128x128.size a ≤ S2x16x256x512.size a) ∧
  (∀ (hinb : ∀ a, (k0_off25 arg6_r0) a + S1x1x128x128.size a ≤ S2x16x256x512.size a), (Rect.unit (s := S2x16x256x512) (k0_off25 arg6_r0) S1x1x128x128.size hinb).PackedRows (EltTy.packing .bf16)) ∧
  (∀ a, (k0_off26 arg6_r0) a + S1x1x128x128.size a ≤ S2x16x256x512.size a) ∧
  (∀ (hinb : ∀ a, (k0_off26 arg6_r0) a + S1x1x128x128.size a ≤ S2x16x256x512.size a), (Rect.unit (s := S2x16x256x512) (k0_off26 arg6_r0) S1x1x128x128.size hinb).PackedRows (EltTy.packing .bf16)) ∧
  (∀ a, (k0_off27 arg6_r0) a + S1x1x128x128.size a ≤ S2x16x256x512.size a) ∧
  (∀ (hinb : ∀ a, (k0_off27 arg6_r0) a + S1x1x128x128.size a ≤ S2x16x256x512.size a), (Rect.unit (s := S2x16x256x512) (k0_off27 arg6_r0) S1x1x128x128.size hinb).PackedRows (EltTy.packing .bf16)) ∧
  (∀ a, (k0_off28 arg6_r0) a + S1x1x128x128.size a ≤ S2x16x256x512.size a) ∧
  (∀ (hinb : ∀ a, (k0_off28 arg6_r0) a + S1x1x128x128.size a ≤ S2x16x256x512.size a), (Rect.unit (s := S2x16x256x512) (k0_off28 arg6_r0) S1x1x128x128.size hinb).PackedRows (EltTy.packing .bf16)) ∧
  (∀ a, (k0_off29 arg6_r0) a + S1x1x128x128.size a ≤ S2x16x256x512.size a) ∧
  (∀ (hinb : ∀ a, (k0_off29 arg6_r0) a + S1x1x128x128.size a ≤ S2x16x256x512.size a), (Rect.unit (s := S2x16x256x512) (k0_off29 arg6_r0) S1x1x128x128.size hinb).PackedRows (EltTy.packing .bf16)) ∧
  (∀ a, (k0_off30 arg6_r0) a + S1x1x128x128.size a ≤ S2x16x256x512.size a) ∧
  (∀ (hinb : ∀ a, (k0_off30 arg6_r0) a + S1x1x128x128.size a ≤ S2x16x256x512.size a), (Rect.unit (s := S2x16x256x512) (k0_off30 arg6_r0) S1x1x128x128.size hinb).PackedRows (EltTy.packing .bf16)) ∧
  (∀ a, (k0_off31 arg6_r0) a + S1x1x128x128.size a ≤ S2x16x256x512.size a) ∧
  (∀ (hinb : ∀ a, (k0_off31 arg6_r0) a + S1x1x128x128.size a ≤ S2x16x256x512.size a), (Rect.unit (s := S2x16x256x512) (k0_off31 arg6_r0) S1x1x128x128.size hinb).PackedRows (EltTy.packing .bf16)) ∧
  (∀ a, (k0_off32 arg6_r0) a + S1x1x128x128.size a ≤ S2x16x256x512.size a) ∧
  (∀ (hinb : ∀ a, (k0_off32 arg6_r0) a + S1x1x128x128.size a ≤ S2x16x256x512.size a), (Rect.unit (s := S2x16x256x512) (k0_off32 arg6_r0) S1x1x128x128.size hinb).PackedRows (EltTy.packing .bf16))
def k0_chk3_1 (arg6_r0 : BitVec 32) : Prop :=
  (∀ a, (k0_off33 arg6_r0) a + S1x1x128x128.size a ≤ S2x16x256x512.size a) ∧
  (∀ (hinb : ∀ a, (k0_off33 arg6_r0) a + S1x1x128x128.size a ≤ S2x16x256x512.size a), (Rect.unit (s := S2x16x256x512) (k0_off33 arg6_r0) S1x1x128x128.size hinb).PackedRows (EltTy.packing .bf16)) ∧
  (∀ a, (k0_off34 arg6_r0) a + S1x1x128x128.size a ≤ S2x16x256x512.size a) ∧
  (∀ (hinb : ∀ a, (k0_off34 arg6_r0) a + S1x1x128x128.size a ≤ S2x16x256x512.size a), (Rect.unit (s := S2x16x256x512) (k0_off34 arg6_r0) S1x1x128x128.size hinb).PackedRows (EltTy.packing .bf16)) ∧
  (∀ a, (k0_off35 arg6_r0) a + S1x1x128x128.size a ≤ S2x16x256x512.size a) ∧
  (∀ (hinb : ∀ a, (k0_off35 arg6_r0) a + S1x1x128x128.size a ≤ S2x16x256x512.size a), (Rect.unit (s := S2x16x256x512) (k0_off35 arg6_r0) S1x1x128x128.size hinb).PackedRows (EltTy.packing .bf16)) ∧
  (∀ a, (k0_off36 arg6_r0) a + S1x1x128x128.size a ≤ S2x16x256x512.size a) ∧
  (∀ (hinb : ∀ a, (k0_off36 arg6_r0) a + S1x1x128x128.size a ≤ S2x16x256x512.size a), (Rect.unit (s := S2x16x256x512) (k0_off36 arg6_r0) S1x1x128x128.size hinb).PackedRows (EltTy.packing .bf16)) ∧
  (∀ a, (k0_off37 arg6_r0) a + S1x1x128x128.size a ≤ S2x16x256x512.size a) ∧
  (∀ (hinb : ∀ a, (k0_off37 arg6_r0) a + S1x1x128x128.size a ≤ S2x16x256x512.size a), (Rect.unit (s := S2x16x256x512) (k0_off37 arg6_r0) S1x1x128x128.size hinb).PackedRows (EltTy.packing .bf16)) ∧
  (∀ a, (k0_off38 arg6_r0) a + S1x1x128x128.size a ≤ S2x16x256x512.size a) ∧
  (∀ (hinb : ∀ a, (k0_off38 arg6_r0) a + S1x1x128x128.size a ≤ S2x16x256x512.size a), (Rect.unit (s := S2x16x256x512) (k0_off38 arg6_r0) S1x1x128x128.size hinb).PackedRows (EltTy.packing .bf16)) ∧
  (∀ a, (k0_off39 arg6_r0) a + S1x1x128x128.size a ≤ S2x16x256x512.size a) ∧
  (∀ (hinb : ∀ a, (k0_off39 arg6_r0) a + S1x1x128x128.size a ≤ S2x16x256x512.size a), (Rect.unit (s := S2x16x256x512) (k0_off39 arg6_r0) S1x1x128x128.size hinb).PackedRows (EltTy.packing .bf16)) ∧
  (∀ a, (k0_off40 arg6_r0) a + S1x1x128x128.size a ≤ S2x16x256x512.size a) ∧
  (∀ (hinb : ∀ a, (k0_off40 arg6_r0) a + S1x1x128x128.size a ≤ S2x16x256x512.size a), (Rect.unit (s := S2x16x256x512) (k0_off40 arg6_r0) S1x1x128x128.size hinb).PackedRows (EltTy.packing .bf16)) ∧
  (∀ a, (k0_off41 arg6_r0) a + S1x1x128x128.size a ≤ S2x16x256x512.size a) ∧
  (∀ (hinb : ∀ a, (k0_off41 arg6_r0) a + S1x1x128x128.size a ≤ S2x16x256x512.size a), (Rect.unit (s := S2x16x256x512) (k0_off41 arg6_r0) S1x1x128x128.size hinb).PackedRows (EltTy.packing .bf16)) ∧
  (∀ a, (k0_off42 arg6_r0) a + S1x1x128x128.size a ≤ S2x16x256x512.size a) ∧
  (∀ (hinb : ∀ a, (k0_off42 arg6_r0) a + S1x1x128x128.size a ≤ S2x16x256x512.size a), (Rect.unit (s := S2x16x256x512) (k0_off42 arg6_r0) S1x1x128x128.size hinb).PackedRows (EltTy.packing .bf16)) ∧
  (∀ a, (k0_off43 arg6_r0) a + S1x1x128x128.size a ≤ S2x16x256x512.size a) ∧
  (∀ (hinb : ∀ a, (k0_off43 arg6_r0) a + S1x1x128x128.size a ≤ S2x16x256x512.size a), (Rect.unit (s := S2x16x256x512) (k0_off43 arg6_r0) S1x1x128x128.size hinb).PackedRows (EltTy.packing .bf16)) ∧
  (∀ a, (k0_off44 arg6_r0) a + S1x1x128x128.size a ≤ S2x16x256x512.size a) ∧
  (∀ (hinb : ∀ a, (k0_off44 arg6_r0) a + S1x1x128x128.size a ≤ S2x16x256x512.size a), (Rect.unit (s := S2x16x256x512) (k0_off44 arg6_r0) S1x1x128x128.size hinb).PackedRows (EltTy.packing .bf16)) ∧
  (∀ a, (k0_off45 arg6_r0) a + S1x1x128x128.size a ≤ S2x16x256x512.size a) ∧
  (∀ (hinb : ∀ a, (k0_off45 arg6_r0) a + S1x1x128x128.size a ≤ S2x16x256x512.size a), (Rect.unit (s := S2x16x256x512) (k0_off45 arg6_r0) S1x1x128x128.size hinb).PackedRows (EltTy.packing .bf16)) ∧
  (∀ a, (k0_off46 arg6_r0) a + S1x1x128x128.size a ≤ S2x16x256x512.size a) ∧
  (∀ (hinb : ∀ a, (k0_off46 arg6_r0) a + S1x1x128x128.size a ≤ S2x16x256x512.size a), (Rect.unit (s := S2x16x256x512) (k0_off46 arg6_r0) S1x1x128x128.size hinb).PackedRows (EltTy.packing .bf16)) ∧
  (∀ a, (k0_off47 arg6_r0) a + S1x1x128x128.size a ≤ S2x16x256x512.size a) ∧
  (∀ (hinb : ∀ a, (k0_off47 arg6_r0) a + S1x1x128x128.size a ≤ S2x16x256x512.size a), (Rect.unit (s := S2x16x256x512) (k0_off47 arg6_r0) S1x1x128x128.size hinb).PackedRows (EltTy.packing .bf16)) ∧
  (∀ a, (k0_off48 arg6_r0) a + S1x1x128x128.size a ≤ S2x16x256x512.size a) ∧
  (∀ (hinb : ∀ a, (k0_off48 arg6_r0) a + S1x1x128x128.size a ≤ S2x16x256x512.size a), (Rect.unit (s := S2x16x256x512) (k0_off48 arg6_r0) S1x1x128x128.size hinb).PackedRows (EltTy.packing .bf16))
def k0_chk3_2 (arg6_r0 : BitVec 32) : Prop :=
  (∀ a, (k0_off49 arg6_r0) a + S1x1x128x128.size a ≤ S2x16x256x512.size a) ∧
  (∀ (hinb : ∀ a, (k0_off49 arg6_r0) a + S1x1x128x128.size a ≤ S2x16x256x512.size a), (Rect.unit (s := S2x16x256x512) (k0_off49 arg6_r0) S1x1x128x128.size hinb).PackedRows (EltTy.packing .bf16)) ∧
  (∀ a, (k0_off50 arg6_r0) a + S1x1x128x128.size a ≤ S2x16x256x512.size a) ∧
  (∀ (hinb : ∀ a, (k0_off50 arg6_r0) a + S1x1x128x128.size a ≤ S2x16x256x512.size a), (Rect.unit (s := S2x16x256x512) (k0_off50 arg6_r0) S1x1x128x128.size hinb).PackedRows (EltTy.packing .bf16)) ∧
  (∀ a, (k0_off51 arg6_r0) a + S1x1x128x128.size a ≤ S2x16x256x512.size a) ∧
  (∀ (hinb : ∀ a, (k0_off51 arg6_r0) a + S1x1x128x128.size a ≤ S2x16x256x512.size a), (Rect.unit (s := S2x16x256x512) (k0_off51 arg6_r0) S1x1x128x128.size hinb).PackedRows (EltTy.packing .bf16)) ∧
  (∀ a, (k0_off52 arg6_r0) a + S1x1x128x128.size a ≤ S2x16x256x512.size a) ∧
  (∀ (hinb : ∀ a, (k0_off52 arg6_r0) a + S1x1x128x128.size a ≤ S2x16x256x512.size a), (Rect.unit (s := S2x16x256x512) (k0_off52 arg6_r0) S1x1x128x128.size hinb).PackedRows (EltTy.packing .bf16)) ∧
  (∀ a, (k0_off53 arg6_r0) a + S1x1x128x128.size a ≤ S2x16x256x512.size a) ∧
  (∀ (hinb : ∀ a, (k0_off53 arg6_r0) a + S1x1x128x128.size a ≤ S2x16x256x512.size a), (Rect.unit (s := S2x16x256x512) (k0_off53 arg6_r0) S1x1x128x128.size hinb).PackedRows (EltTy.packing .bf16)) ∧
  (∀ a, (k0_off54 arg6_r0) a + S1x1x128x128.size a ≤ S2x16x256x512.size a) ∧
  (∀ (hinb : ∀ a, (k0_off54 arg6_r0) a + S1x1x128x128.size a ≤ S2x16x256x512.size a), (Rect.unit (s := S2x16x256x512) (k0_off54 arg6_r0) S1x1x128x128.size hinb).PackedRows (EltTy.packing .bf16)) ∧
  (∀ a, (k0_off55 arg6_r0) a + S1x1x128x128.size a ≤ S2x16x256x512.size a) ∧
  (∀ (hinb : ∀ a, (k0_off55 arg6_r0) a + S1x1x128x128.size a ≤ S2x16x256x512.size a), (Rect.unit (s := S2x16x256x512) (k0_off55 arg6_r0) S1x1x128x128.size hinb).PackedRows (EltTy.packing .bf16)) ∧
  (∀ a, (k0_off56 arg6_r0) a + S1x1x128x128.size a ≤ S2x16x256x512.size a) ∧
  (∀ (hinb : ∀ a, (k0_off56 arg6_r0) a + S1x1x128x128.size a ≤ S2x16x256x512.size a), (Rect.unit (s := S2x16x256x512) (k0_off56 arg6_r0) S1x1x128x128.size hinb).PackedRows (EltTy.packing .bf16)) ∧
  (∀ a, (k0_off57 arg6_r0) a + S1x1x128x128.size a ≤ S2x16x256x512.size a) ∧
  (∀ (hinb : ∀ a, (k0_off57 arg6_r0) a + S1x1x128x128.size a ≤ S2x16x256x512.size a), (Rect.unit (s := S2x16x256x512) (k0_off57 arg6_r0) S1x1x128x128.size hinb).PackedRows (EltTy.packing .bf16)) ∧
  (∀ a, (k0_off58 arg6_r0) a + S1x1x128x128.size a ≤ S2x16x256x512.size a) ∧
  (∀ (hinb : ∀ a, (k0_off58 arg6_r0) a + S1x1x128x128.size a ≤ S2x16x256x512.size a), (Rect.unit (s := S2x16x256x512) (k0_off58 arg6_r0) S1x1x128x128.size hinb).PackedRows (EltTy.packing .bf16)) ∧
  (∀ a, (k0_off59 arg6_r0) a + S1x1x128x128.size a ≤ S2x16x256x512.size a) ∧
  (∀ (hinb : ∀ a, (k0_off59 arg6_r0) a + S1x1x128x128.size a ≤ S2x16x256x512.size a), (Rect.unit (s := S2x16x256x512) (k0_off59 arg6_r0) S1x1x128x128.size hinb).PackedRows (EltTy.packing .bf16)) ∧
  (∀ a, (k0_off60 arg6_r0) a + S1x1x128x128.size a ≤ S2x16x256x512.size a) ∧
  (∀ (hinb : ∀ a, (k0_off60 arg6_r0) a + S1x1x128x128.size a ≤ S2x16x256x512.size a), (Rect.unit (s := S2x16x256x512) (k0_off60 arg6_r0) S1x1x128x128.size hinb).PackedRows (EltTy.packing .bf16)) ∧
  (∀ a, (k0_off61 arg6_r0) a + S1x1x128x128.size a ≤ S2x16x256x512.size a) ∧
  (∀ (hinb : ∀ a, (k0_off61 arg6_r0) a + S1x1x128x128.size a ≤ S2x16x256x512.size a), (Rect.unit (s := S2x16x256x512) (k0_off61 arg6_r0) S1x1x128x128.size hinb).PackedRows (EltTy.packing .bf16)) ∧
  (∀ a, (k0_off62 arg6_r0) a + S1x1x128x128.size a ≤ S2x16x256x512.size a) ∧
  (∀ (hinb : ∀ a, (k0_off62 arg6_r0) a + S1x1x128x128.size a ≤ S2x16x256x512.size a), (Rect.unit (s := S2x16x256x512) (k0_off62 arg6_r0) S1x1x128x128.size hinb).PackedRows (EltTy.packing .bf16)) ∧
  (∀ a, (k0_off63 arg6_r0) a + S1x1x128x128.size a ≤ S2x16x256x512.size a) ∧
  (∀ (hinb : ∀ a, (k0_off63 arg6_r0) a + S1x1x128x128.size a ≤ S2x16x256x512.size a), (Rect.unit (s := S2x16x256x512) (k0_off63 arg6_r0) S1x1x128x128.size hinb).PackedRows (EltTy.packing .bf16)) ∧
  (∀ a, (k0_off64 arg6_r0) a + S1x1x128x128.size a ≤ S2x16x256x512.size a) ∧
  (∀ (hinb : ∀ a, (k0_off64 arg6_r0) a + S1x1x128x128.size a ≤ S2x16x256x512.size a), (Rect.unit (s := S2x16x256x512) (k0_off64 arg6_r0) S1x1x128x128.size hinb).PackedRows (EltTy.packing .bf16))
def k0_chk3_3 (arg6_r0 : BitVec 32) : Prop :=
  (∀ a, (k0_off65 arg6_r0) a + S1x1x128x128.size a ≤ S2x16x256x512.size a) ∧
  (∀ (hinb : ∀ a, (k0_off65 arg6_r0) a + S1x1x128x128.size a ≤ S2x16x256x512.size a), (Rect.unit (s := S2x16x256x512) (k0_off65 arg6_r0) S1x1x128x128.size hinb).PackedRows (EltTy.packing .bf16)) ∧
  (∀ a, (k0_off66 arg6_r0) a + S1x1x128x128.size a ≤ S2x16x256x512.size a) ∧
  (∀ (hinb : ∀ a, (k0_off66 arg6_r0) a + S1x1x128x128.size a ≤ S2x16x256x512.size a), (Rect.unit (s := S2x16x256x512) (k0_off66 arg6_r0) S1x1x128x128.size hinb).PackedRows (EltTy.packing .bf16)) ∧
  (∀ a, (k0_off67 arg6_r0) a + S1x1x128x128.size a ≤ S2x16x256x512.size a) ∧
  (∀ (hinb : ∀ a, (k0_off67 arg6_r0) a + S1x1x128x128.size a ≤ S2x16x256x512.size a), (Rect.unit (s := S2x16x256x512) (k0_off67 arg6_r0) S1x1x128x128.size hinb).PackedRows (EltTy.packing .bf16)) ∧
  (∀ a, (k0_off68 arg6_r0) a + S1x1x128x128.size a ≤ S2x16x256x512.size a) ∧
  (∀ (hinb : ∀ a, (k0_off68 arg6_r0) a + S1x1x128x128.size a ≤ S2x16x256x512.size a), (Rect.unit (s := S2x16x256x512) (k0_off68 arg6_r0) S1x1x128x128.size hinb).PackedRows (EltTy.packing .bf16)) ∧
  (∀ a, (k0_off69 arg6_r0) a + S1x1x128x128.size a ≤ S2x16x256x512.size a) ∧
  (∀ (hinb : ∀ a, (k0_off69 arg6_r0) a + S1x1x128x128.size a ≤ S2x16x256x512.size a), (Rect.unit (s := S2x16x256x512) (k0_off69 arg6_r0) S1x1x128x128.size hinb).PackedRows (EltTy.packing .bf16)) ∧
  (∀ a, (k0_off70 arg6_r0) a + S1x1x128x128.size a ≤ S2x16x256x512.size a) ∧
  (∀ (hinb : ∀ a, (k0_off70 arg6_r0) a + S1x1x128x128.size a ≤ S2x16x256x512.size a), (Rect.unit (s := S2x16x256x512) (k0_off70 arg6_r0) S1x1x128x128.size hinb).PackedRows (EltTy.packing .bf16)) ∧
  (∀ a, (k0_off71 arg6_r0) a + S1x1x128x128.size a ≤ S2x16x256x512.size a) ∧
  (∀ (hinb : ∀ a, (k0_off71 arg6_r0) a + S1x1x128x128.size a ≤ S2x16x256x512.size a), (Rect.unit (s := S2x16x256x512) (k0_off71 arg6_r0) S1x1x128x128.size hinb).PackedRows (EltTy.packing .bf16)) ∧
  (∀ a, (k0_off72 arg6_r0) a + S1x1x128x128.size a ≤ S2x16x256x512.size a) ∧
  (∀ (hinb : ∀ a, (k0_off72 arg6_r0) a + S1x1x128x128.size a ≤ S2x16x256x512.size a), (Rect.unit (s := S2x16x256x512) (k0_off72 arg6_r0) S1x1x128x128.size hinb).PackedRows (EltTy.packing .bf16)) ∧
  (∀ a, (k0_off73 arg6_r0) a + S1x1x128x128.size a ≤ S2x16x256x512.size a) ∧
  (∀ (hinb : ∀ a, (k0_off73 arg6_r0) a + S1x1x128x128.size a ≤ S2x16x256x512.size a), (Rect.unit (s := S2x16x256x512) (k0_off73 arg6_r0) S1x1x128x128.size hinb).PackedRows (EltTy.packing .bf16)) ∧
  (∀ a, (k0_off74 arg6_r0) a + S1x1x128x128.size a ≤ S2x16x256x512.size a) ∧
  (∀ (hinb : ∀ a, (k0_off74 arg6_r0) a + S1x1x128x128.size a ≤ S2x16x256x512.size a), (Rect.unit (s := S2x16x256x512) (k0_off74 arg6_r0) S1x1x128x128.size hinb).PackedRows (EltTy.packing .bf16)) ∧
  (∀ a, (k0_off75 arg6_r0) a + S1x1x128x128.size a ≤ S2x16x256x512.size a) ∧
  (∀ (hinb : ∀ a, (k0_off75 arg6_r0) a + S1x1x128x128.size a ≤ S2x16x256x512.size a), (Rect.unit (s := S2x16x256x512) (k0_off75 arg6_r0) S1x1x128x128.size hinb).PackedRows (EltTy.packing .bf16)) ∧
  (∀ a, (k0_off76 arg6_r0) a + S1x1x128x128.size a ≤ S2x16x256x512.size a) ∧
  (∀ (hinb : ∀ a, (k0_off76 arg6_r0) a + S1x1x128x128.size a ≤ S2x16x256x512.size a), (Rect.unit (s := S2x16x256x512) (k0_off76 arg6_r0) S1x1x128x128.size hinb).PackedRows (EltTy.packing .bf16)) ∧
  (∀ a, (k0_off77 arg6_r0) a + S1x1x128x128.size a ≤ S2x16x256x512.size a) ∧
  (∀ (hinb : ∀ a, (k0_off77 arg6_r0) a + S1x1x128x128.size a ≤ S2x16x256x512.size a), (Rect.unit (s := S2x16x256x512) (k0_off77 arg6_r0) S1x1x128x128.size hinb).PackedRows (EltTy.packing .bf16)) ∧
  (∀ a, (k0_off78 arg6_r0) a + S1x1x128x128.size a ≤ S2x16x256x512.size a) ∧
  (∀ (hinb : ∀ a, (k0_off78 arg6_r0) a + S1x1x128x128.size a ≤ S2x16x256x512.size a), (Rect.unit (s := S2x16x256x512) (k0_off78 arg6_r0) S1x1x128x128.size hinb).PackedRows (EltTy.packing .bf16)) ∧
  (∀ a, (k0_off79 arg6_r0) a + S1x1x128x128.size a ≤ S2x16x256x512.size a) ∧
  (∀ (hinb : ∀ a, (k0_off79 arg6_r0) a + S1x1x128x128.size a ≤ S2x16x256x512.size a), (Rect.unit (s := S2x16x256x512) (k0_off79 arg6_r0) S1x1x128x128.size hinb).PackedRows (EltTy.packing .bf16)) ∧
  (∀ a, (k0_off80 arg6_r0) a + S1x1x128x128.size a ≤ S2x16x256x512.size a) ∧
  (∀ (hinb : ∀ a, (k0_off80 arg6_r0) a + S1x1x128x128.size a ≤ S2x16x256x512.size a), (Rect.unit (s := S2x16x256x512) (k0_off80 arg6_r0) S1x1x128x128.size hinb).PackedRows (EltTy.packing .bf16))
def k0_chk3_4 (arg6_r0 : BitVec 32) : Prop :=
  (∀ a, (k0_off81 arg6_r0) a + S1x1x128x128.size a ≤ S2x16x256x512.size a) ∧
  (∀ (hinb : ∀ a, (k0_off81 arg6_r0) a + S1x1x128x128.size a ≤ S2x16x256x512.size a), (Rect.unit (s := S2x16x256x512) (k0_off81 arg6_r0) S1x1x128x128.size hinb).PackedRows (EltTy.packing .bf16)) ∧
  (∀ a, (k0_off82 arg6_r0) a + S1x1x128x128.size a ≤ S2x16x256x512.size a) ∧
  (∀ (hinb : ∀ a, (k0_off82 arg6_r0) a + S1x1x128x128.size a ≤ S2x16x256x512.size a), (Rect.unit (s := S2x16x256x512) (k0_off82 arg6_r0) S1x1x128x128.size hinb).PackedRows (EltTy.packing .bf16)) ∧
  (∀ a, (k0_off83 arg6_r0) a + S1x1x128x128.size a ≤ S2x16x256x512.size a) ∧
  (∀ (hinb : ∀ a, (k0_off83 arg6_r0) a + S1x1x128x128.size a ≤ S2x16x256x512.size a), (Rect.unit (s := S2x16x256x512) (k0_off83 arg6_r0) S1x1x128x128.size hinb).PackedRows (EltTy.packing .bf16)) ∧
  (∀ a, (k0_off84 arg6_r0) a + S1x1x128x128.size a ≤ S2x16x256x512.size a) ∧
  (∀ (hinb : ∀ a, (k0_off84 arg6_r0) a + S1x1x128x128.size a ≤ S2x16x256x512.size a), (Rect.unit (s := S2x16x256x512) (k0_off84 arg6_r0) S1x1x128x128.size hinb).PackedRows (EltTy.packing .bf16)) ∧
  (∀ a, (k0_off85 arg6_r0) a + S1x1x128x128.size a ≤ S2x16x256x512.size a) ∧
  (∀ (hinb : ∀ a, (k0_off85 arg6_r0) a + S1x1x128x128.size a ≤ S2x16x256x512.size a), (Rect.unit (s := S2x16x256x512) (k0_off85 arg6_r0) S1x1x128x128.size hinb).PackedRows (EltTy.packing .bf16)) ∧
  (∀ a, (k0_off86 arg6_r0) a + S1x1x128x128.size a ≤ S2x16x256x512.size a) ∧
  (∀ (hinb : ∀ a, (k0_off86 arg6_r0) a + S1x1x128x128.size a ≤ S2x16x256x512.size a), (Rect.unit (s := S2x16x256x512) (k0_off86 arg6_r0) S1x1x128x128.size hinb).PackedRows (EltTy.packing .bf16)) ∧
  (∀ a, (k0_off87 arg6_r0) a + S1x1x128x128.size a ≤ S2x16x256x512.size a) ∧
  (∀ (hinb : ∀ a, (k0_off87 arg6_r0) a + S1x1x128x128.size a ≤ S2x16x256x512.size a), (Rect.unit (s := S2x16x256x512) (k0_off87 arg6_r0) S1x1x128x128.size hinb).PackedRows (EltTy.packing .bf16)) ∧
  (∀ a, (k0_off88 arg6_r0) a + S1x1x128x128.size a ≤ S2x16x256x512.size a) ∧
  (∀ (hinb : ∀ a, (k0_off88 arg6_r0) a + S1x1x128x128.size a ≤ S2x16x256x512.size a), (Rect.unit (s := S2x16x256x512) (k0_off88 arg6_r0) S1x1x128x128.size hinb).PackedRows (EltTy.packing .bf16)) ∧
  (∀ a, (k0_off89 arg6_r0) a + S1x1x128x128.size a ≤ S2x16x256x512.size a) ∧
  (∀ (hinb : ∀ a, (k0_off89 arg6_r0) a + S1x1x128x128.size a ≤ S2x16x256x512.size a), (Rect.unit (s := S2x16x256x512) (k0_off89 arg6_r0) S1x1x128x128.size hinb).PackedRows (EltTy.packing .bf16)) ∧
  (∀ a, (k0_off90 arg6_r0) a + S1x1x128x128.size a ≤ S2x16x256x512.size a) ∧
  (∀ (hinb : ∀ a, (k0_off90 arg6_r0) a + S1x1x128x128.size a ≤ S2x16x256x512.size a), (Rect.unit (s := S2x16x256x512) (k0_off90 arg6_r0) S1x1x128x128.size hinb).PackedRows (EltTy.packing .bf16)) ∧
  (∀ a, (k0_off91 arg6_r0) a + S1x1x128x128.size a ≤ S2x16x256x512.size a) ∧
  (∀ (hinb : ∀ a, (k0_off91 arg6_r0) a + S1x1x128x128.size a ≤ S2x16x256x512.size a), (Rect.unit (s := S2x16x256x512) (k0_off91 arg6_r0) S1x1x128x128.size hinb).PackedRows (EltTy.packing .bf16)) ∧
  (∀ a, (k0_off92 arg6_r0) a + S1x1x128x128.size a ≤ S2x16x256x512.size a) ∧
  (∀ (hinb : ∀ a, (k0_off92 arg6_r0) a + S1x1x128x128.size a ≤ S2x16x256x512.size a), (Rect.unit (s := S2x16x256x512) (k0_off92 arg6_r0) S1x1x128x128.size hinb).PackedRows (EltTy.packing .bf16)) ∧
  (∀ a, (k0_off93 arg6_r0) a + S1x1x128x128.size a ≤ S2x16x256x512.size a) ∧
  (∀ (hinb : ∀ a, (k0_off93 arg6_r0) a + S1x1x128x128.size a ≤ S2x16x256x512.size a), (Rect.unit (s := S2x16x256x512) (k0_off93 arg6_r0) S1x1x128x128.size hinb).PackedRows (EltTy.packing .bf16)) ∧
  (∀ a, (k0_off94 arg6_r0) a + S1x1x128x128.size a ≤ S2x16x256x512.size a) ∧
  (∀ (hinb : ∀ a, (k0_off94 arg6_r0) a + S1x1x128x128.size a ≤ S2x16x256x512.size a), (Rect.unit (s := S2x16x256x512) (k0_off94 arg6_r0) S1x1x128x128.size hinb).PackedRows (EltTy.packing .bf16)) ∧
  (∀ a, (k0_off95 arg6_r0) a + S1x1x128x128.size a ≤ S2x16x256x512.size a) ∧
  (∀ (hinb : ∀ a, (k0_off95 arg6_r0) a + S1x1x128x128.size a ≤ S2x16x256x512.size a), (Rect.unit (s := S2x16x256x512) (k0_off95 arg6_r0) S1x1x128x128.size hinb).PackedRows (EltTy.packing .bf16)) ∧
  (∀ a, (k0_off96 arg6_r0) a + S1x1x128x128.size a ≤ S2x16x256x512.size a) ∧
  (∀ (hinb : ∀ a, (k0_off96 arg6_r0) a + S1x1x128x128.size a ≤ S2x16x256x512.size a), (Rect.unit (s := S2x16x256x512) (k0_off96 arg6_r0) S1x1x128x128.size hinb).PackedRows (EltTy.packing .bf16))
def k0_chk3_5 (arg6_r0 : BitVec 32) : Prop :=
  (∀ a, (k0_off97 arg6_r0) a + S1x1x128x128.size a ≤ S2x16x256x512.size a) ∧
  (∀ (hinb : ∀ a, (k0_off97 arg6_r0) a + S1x1x128x128.size a ≤ S2x16x256x512.size a), (Rect.unit (s := S2x16x256x512) (k0_off97 arg6_r0) S1x1x128x128.size hinb).PackedRows (EltTy.packing .bf16)) ∧
  (∀ a, (k0_off98 arg6_r0) a + S1x1x128x128.size a ≤ S2x16x256x512.size a) ∧
  (∀ (hinb : ∀ a, (k0_off98 arg6_r0) a + S1x1x128x128.size a ≤ S2x16x256x512.size a), (Rect.unit (s := S2x16x256x512) (k0_off98 arg6_r0) S1x1x128x128.size hinb).PackedRows (EltTy.packing .bf16)) ∧
  (∀ a, (k0_off99 arg6_r0) a + S1x1x128x128.size a ≤ S2x16x256x512.size a) ∧
  (∀ (hinb : ∀ a, (k0_off99 arg6_r0) a + S1x1x128x128.size a ≤ S2x16x256x512.size a), (Rect.unit (s := S2x16x256x512) (k0_off99 arg6_r0) S1x1x128x128.size hinb).PackedRows (EltTy.packing .bf16)) ∧
  (∀ a, (k0_off100 arg6_r0) a + S1x1x128x128.size a ≤ S2x16x256x512.size a) ∧
  (∀ (hinb : ∀ a, (k0_off100 arg6_r0) a + S1x1x128x128.size a ≤ S2x16x256x512.size a), (Rect.unit (s := S2x16x256x512) (k0_off100 arg6_r0) S1x1x128x128.size hinb).PackedRows (EltTy.packing .bf16)) ∧
  (∀ a, (k0_off101 arg6_r0) a + S1x1x128x128.size a ≤ S2x16x256x512.size a) ∧
  (∀ (hinb : ∀ a, (k0_off101 arg6_r0) a + S1x1x128x128.size a ≤ S2x16x256x512.size a), (Rect.unit (s := S2x16x256x512) (k0_off101 arg6_r0) S1x1x128x128.size hinb).PackedRows (EltTy.packing .bf16)) ∧
  (∀ a, (k0_off102 arg6_r0) a + S1x1x128x128.size a ≤ S2x16x256x512.size a) ∧
  (∀ (hinb : ∀ a, (k0_off102 arg6_r0) a + S1x1x128x128.size a ≤ S2x16x256x512.size a), (Rect.unit (s := S2x16x256x512) (k0_off102 arg6_r0) S1x1x128x128.size hinb).PackedRows (EltTy.packing .bf16)) ∧
  (∀ a, (k0_off103 arg6_r0) a + S1x1x128x128.size a ≤ S2x16x256x512.size a) ∧
  (∀ (hinb : ∀ a, (k0_off103 arg6_r0) a + S1x1x128x128.size a ≤ S2x16x256x512.size a), (Rect.unit (s := S2x16x256x512) (k0_off103 arg6_r0) S1x1x128x128.size hinb).PackedRows (EltTy.packing .bf16)) ∧
  (∀ a, (k0_off104 arg6_r0) a + S1x1x128x128.size a ≤ S2x16x256x512.size a) ∧
  (∀ (hinb : ∀ a, (k0_off104 arg6_r0) a + S1x1x128x128.size a ≤ S2x16x256x512.size a), (Rect.unit (s := S2x16x256x512) (k0_off104 arg6_r0) S1x1x128x128.size hinb).PackedRows (EltTy.packing .bf16)) ∧
  (∀ a, (k0_off105 arg6_r0) a + S1x1x128x128.size a ≤ S2x16x256x512.size a) ∧
  (∀ (hinb : ∀ a, (k0_off105 arg6_r0) a + S1x1x128x128.size a ≤ S2x16x256x512.size a), (Rect.unit (s := S2x16x256x512) (k0_off105 arg6_r0) S1x1x128x128.size hinb).PackedRows (EltTy.packing .bf16)) ∧
  (∀ a, (k0_off106 arg6_r0) a + S1x1x128x128.size a ≤ S2x16x256x512.size a) ∧
  (∀ (hinb : ∀ a, (k0_off106 arg6_r0) a + S1x1x128x128.size a ≤ S2x16x256x512.size a), (Rect.unit (s := S2x16x256x512) (k0_off106 arg6_r0) S1x1x128x128.size hinb).PackedRows (EltTy.packing .bf16)) ∧
  (∀ a, (k0_off107 arg6_r0) a + S1x1x128x128.size a ≤ S2x16x256x512.size a) ∧
  (∀ (hinb : ∀ a, (k0_off107 arg6_r0) a + S1x1x128x128.size a ≤ S2x16x256x512.size a), (Rect.unit (s := S2x16x256x512) (k0_off107 arg6_r0) S1x1x128x128.size hinb).PackedRows (EltTy.packing .bf16)) ∧
  (∀ a, (k0_off108 arg6_r0) a + S1x1x128x128.size a ≤ S2x16x256x512.size a) ∧
  (∀ (hinb : ∀ a, (k0_off108 arg6_r0) a + S1x1x128x128.size a ≤ S2x16x256x512.size a), (Rect.unit (s := S2x16x256x512) (k0_off108 arg6_r0) S1x1x128x128.size hinb).PackedRows (EltTy.packing .bf16)) ∧
  (∀ a, (k0_off109 arg6_r0) a + S1x1x128x128.size a ≤ S2x16x256x512.size a) ∧
  (∀ (hinb : ∀ a, (k0_off109 arg6_r0) a + S1x1x128x128.size a ≤ S2x16x256x512.size a), (Rect.unit (s := S2x16x256x512) (k0_off109 arg6_r0) S1x1x128x128.size hinb).PackedRows (EltTy.packing .bf16)) ∧
  (∀ a, (k0_off110 arg6_r0) a + S1x1x128x128.size a ≤ S2x16x256x512.size a) ∧
  (∀ (hinb : ∀ a, (k0_off110 arg6_r0) a + S1x1x128x128.size a ≤ S2x16x256x512.size a), (Rect.unit (s := S2x16x256x512) (k0_off110 arg6_r0) S1x1x128x128.size hinb).PackedRows (EltTy.packing .bf16)) ∧
  (∀ a, (k0_off111 arg6_r0) a + S1x1x128x128.size a ≤ S2x16x256x512.size a) ∧
  (∀ (hinb : ∀ a, (k0_off111 arg6_r0) a + S1x1x128x128.size a ≤ S2x16x256x512.size a), (Rect.unit (s := S2x16x256x512) (k0_off111 arg6_r0) S1x1x128x128.size hinb).PackedRows (EltTy.packing .bf16)) ∧
  (∀ a, (k0_off112 arg6_r0) a + S1x1x128x128.size a ≤ S2x16x256x512.size a) ∧
  (∀ (hinb : ∀ a, (k0_off112 arg6_r0) a + S1x1x128x128.size a ≤ S2x16x256x512.size a), (Rect.unit (s := S2x16x256x512) (k0_off112 arg6_r0) S1x1x128x128.size hinb).PackedRows (EltTy.packing .bf16))
def k0_chk3_6 (arg6_r0 : BitVec 32) : Prop :=
  (∀ a, (k0_off113 arg6_r0) a + S1x1x128x128.size a ≤ S2x16x256x512.size a) ∧
  (∀ (hinb : ∀ a, (k0_off113 arg6_r0) a + S1x1x128x128.size a ≤ S2x16x256x512.size a), (Rect.unit (s := S2x16x256x512) (k0_off113 arg6_r0) S1x1x128x128.size hinb).PackedRows (EltTy.packing .bf16)) ∧
  (∀ a, (k0_off114 arg6_r0) a + S1x1x128x128.size a ≤ S2x16x256x512.size a) ∧
  (∀ (hinb : ∀ a, (k0_off114 arg6_r0) a + S1x1x128x128.size a ≤ S2x16x256x512.size a), (Rect.unit (s := S2x16x256x512) (k0_off114 arg6_r0) S1x1x128x128.size hinb).PackedRows (EltTy.packing .bf16)) ∧
  (∀ a, (k0_off115 arg6_r0) a + S1x1x128x128.size a ≤ S2x16x256x512.size a) ∧
  (∀ (hinb : ∀ a, (k0_off115 arg6_r0) a + S1x1x128x128.size a ≤ S2x16x256x512.size a), (Rect.unit (s := S2x16x256x512) (k0_off115 arg6_r0) S1x1x128x128.size hinb).PackedRows (EltTy.packing .bf16)) ∧
  (∀ a, (k0_off116 arg6_r0) a + S1x1x128x128.size a ≤ S2x16x256x512.size a) ∧
  (∀ (hinb : ∀ a, (k0_off116 arg6_r0) a + S1x1x128x128.size a ≤ S2x16x256x512.size a), (Rect.unit (s := S2x16x256x512) (k0_off116 arg6_r0) S1x1x128x128.size hinb).PackedRows (EltTy.packing .bf16)) ∧
  (∀ a, (k0_off117 arg6_r0) a + S1x1x128x128.size a ≤ S2x16x256x512.size a) ∧
  (∀ (hinb : ∀ a, (k0_off117 arg6_r0) a + S1x1x128x128.size a ≤ S2x16x256x512.size a), (Rect.unit (s := S2x16x256x512) (k0_off117 arg6_r0) S1x1x128x128.size hinb).PackedRows (EltTy.packing .bf16)) ∧
  (∀ a, (k0_off118 arg6_r0) a + S1x1x128x128.size a ≤ S2x16x256x512.size a) ∧
  (∀ (hinb : ∀ a, (k0_off118 arg6_r0) a + S1x1x128x128.size a ≤ S2x16x256x512.size a), (Rect.unit (s := S2x16x256x512) (k0_off118 arg6_r0) S1x1x128x128.size hinb).PackedRows (EltTy.packing .bf16)) ∧
  (∀ a, (k0_off119 arg6_r0) a + S1x1x128x128.size a ≤ S2x16x256x512.size a) ∧
  (∀ (hinb : ∀ a, (k0_off119 arg6_r0) a + S1x1x128x128.size a ≤ S2x16x256x512.size a), (Rect.unit (s := S2x16x256x512) (k0_off119 arg6_r0) S1x1x128x128.size hinb).PackedRows (EltTy.packing .bf16)) ∧
  (∀ a, (k0_off120 arg6_r0) a + S1x1x128x128.size a ≤ S2x16x256x512.size a) ∧
  (∀ (hinb : ∀ a, (k0_off120 arg6_r0) a + S1x1x128x128.size a ≤ S2x16x256x512.size a), (Rect.unit (s := S2x16x256x512) (k0_off120 arg6_r0) S1x1x128x128.size hinb).PackedRows (EltTy.packing .bf16)) ∧
  (∀ a, (k0_off121 arg6_r0) a + S1x1x128x128.size a ≤ S2x16x256x512.size a) ∧
  (∀ (hinb : ∀ a, (k0_off121 arg6_r0) a + S1x1x128x128.size a ≤ S2x16x256x512.size a), (Rect.unit (s := S2x16x256x512) (k0_off121 arg6_r0) S1x1x128x128.size hinb).PackedRows (EltTy.packing .bf16)) ∧
  (∀ a, (k0_off122 arg6_r0) a + S1x1x128x128.size a ≤ S2x16x256x512.size a) ∧
  (∀ (hinb : ∀ a, (k0_off122 arg6_r0) a + S1x1x128x128.size a ≤ S2x16x256x512.size a), (Rect.unit (s := S2x16x256x512) (k0_off122 arg6_r0) S1x1x128x128.size hinb).PackedRows (EltTy.packing .bf16)) ∧
  (∀ a, (k0_off123 arg6_r0) a + S1x1x128x128.size a ≤ S2x16x256x512.size a) ∧
  (∀ (hinb : ∀ a, (k0_off123 arg6_r0) a + S1x1x128x128.size a ≤ S2x16x256x512.size a), (Rect.unit (s := S2x16x256x512) (k0_off123 arg6_r0) S1x1x128x128.size hinb).PackedRows (EltTy.packing .bf16)) ∧
  (∀ a, (k0_off124 arg6_r0) a + S1x1x128x128.size a ≤ S2x16x256x512.size a) ∧
  (∀ (hinb : ∀ a, (k0_off124 arg6_r0) a + S1x1x128x128.size a ≤ S2x16x256x512.size a), (Rect.unit (s := S2x16x256x512) (k0_off124 arg6_r0) S1x1x128x128.size hinb).PackedRows (EltTy.packing .bf16)) ∧
  (∀ a, (k0_off125 arg6_r0) a + S1x1x128x128.size a ≤ S2x16x256x512.size a) ∧
  (∀ (hinb : ∀ a, (k0_off125 arg6_r0) a + S1x1x128x128.size a ≤ S2x16x256x512.size a), (Rect.unit (s := S2x16x256x512) (k0_off125 arg6_r0) S1x1x128x128.size hinb).PackedRows (EltTy.packing .bf16)) ∧
  (∀ a, (k0_off126 arg6_r0) a + S1x1x128x128.size a ≤ S2x16x256x512.size a) ∧
  (∀ (hinb : ∀ a, (k0_off126 arg6_r0) a + S1x1x128x128.size a ≤ S2x16x256x512.size a), (Rect.unit (s := S2x16x256x512) (k0_off126 arg6_r0) S1x1x128x128.size hinb).PackedRows (EltTy.packing .bf16)) ∧
  (∀ a, (k0_off127 arg6_r0) a + S1x1x128x128.size a ≤ S2x16x256x512.size a) ∧
  (∀ (hinb : ∀ a, (k0_off127 arg6_r0) a + S1x1x128x128.size a ≤ S2x16x256x512.size a), (Rect.unit (s := S2x16x256x512) (k0_off127 arg6_r0) S1x1x128x128.size hinb).PackedRows (EltTy.packing .bf16)) ∧
  (∀ a, (k0_off128 arg6_r0) a + S1x1x128x128.size a ≤ S2x16x256x512.size a) ∧
  (∀ (hinb : ∀ a, (k0_off128 arg6_r0) a + S1x1x128x128.size a ≤ S2x16x256x512.size a), (Rect.unit (s := S2x16x256x512) (k0_off128 arg6_r0) S1x1x128x128.size hinb).PackedRows (EltTy.packing .bf16))
def k0_chk3_7 (arg6_r0 : BitVec 32) : Prop :=
  (∀ a, (k0_off129 arg6_r0) a + S1x1x128x128.size a ≤ S2x16x256x512.size a) ∧
  (∀ (hinb : ∀ a, (k0_off129 arg6_r0) a + S1x1x128x128.size a ≤ S2x16x256x512.size a), (Rect.unit (s := S2x16x256x512) (k0_off129 arg6_r0) S1x1x128x128.size hinb).PackedRows (EltTy.packing .bf16)) ∧
  (∀ a, (k0_off130 arg6_r0) a + S1x1x128x128.size a ≤ S2x16x256x512.size a) ∧
  (∀ (hinb : ∀ a, (k0_off130 arg6_r0) a + S1x1x128x128.size a ≤ S2x16x256x512.size a), (Rect.unit (s := S2x16x256x512) (k0_off130 arg6_r0) S1x1x128x128.size hinb).PackedRows (EltTy.packing .bf16)) ∧
  (∀ a, (k0_off131 arg6_r0) a + S1x1x128x128.size a ≤ S2x16x256x512.size a) ∧
  (∀ (hinb : ∀ a, (k0_off131 arg6_r0) a + S1x1x128x128.size a ≤ S2x16x256x512.size a), (Rect.unit (s := S2x16x256x512) (k0_off131 arg6_r0) S1x1x128x128.size hinb).PackedRows (EltTy.packing .bf16)) ∧
  (∀ a, (k0_off132 arg6_r0) a + S1x1x128x128.size a ≤ S2x16x256x512.size a) ∧
  (∀ (hinb : ∀ a, (k0_off132 arg6_r0) a + S1x1x128x128.size a ≤ S2x16x256x512.size a), (Rect.unit (s := S2x16x256x512) (k0_off132 arg6_r0) S1x1x128x128.size hinb).PackedRows (EltTy.packing .bf16)) ∧
  (∀ a, (k0_off133 arg6_r0) a + S1x1x128x128.size a ≤ S2x16x256x512.size a) ∧
  (∀ (hinb : ∀ a, (k0_off133 arg6_r0) a + S1x1x128x128.size a ≤ S2x16x256x512.size a), (Rect.unit (s := S2x16x256x512) (k0_off133 arg6_r0) S1x1x128x128.size hinb).PackedRows (EltTy.packing .bf16)) ∧
  (∀ a, (k0_off134 arg6_r0) a + S1x1x128x128.size a ≤ S2x16x256x512.size a) ∧
  (∀ (hinb : ∀ a, (k0_off134 arg6_r0) a + S1x1x128x128.size a ≤ S2x16x256x512.size a), (Rect.unit (s := S2x16x256x512) (k0_off134 arg6_r0) S1x1x128x128.size hinb).PackedRows (EltTy.packing .bf16)) ∧
  (∀ a, (k0_off135 arg6_r0) a + S1x1x128x128.size a ≤ S2x16x256x512.size a) ∧
  (∀ (hinb : ∀ a, (k0_off135 arg6_r0) a + S1x1x128x128.size a ≤ S2x16x256x512.size a), (Rect.unit (s := S2x16x256x512) (k0_off135 arg6_r0) S1x1x128x128.size hinb).PackedRows (EltTy.packing .bf16)) ∧
  (∀ a, (k0_off136 arg6_r0) a + S1x1x128x128.size a ≤ S2x16x256x512.size a) ∧
  (∀ (hinb : ∀ a, (k0_off136 arg6_r0) a + S1x1x128x128.size a ≤ S2x16x256x512.size a), (Rect.unit (s := S2x16x256x512) (k0_off136 arg6_r0) S1x1x128x128.size hinb).PackedRows (EltTy.packing .bf16)) ∧
  (∀ a, (k0_off137 arg6_r0) a + S1x1x128x128.size a ≤ S2x16x256x512.size a) ∧
  (∀ (hinb : ∀ a, (k0_off137 arg6_r0) a + S1x1x128x128.size a ≤ S2x16x256x512.size a), (Rect.unit (s := S2x16x256x512) (k0_off137 arg6_r0) S1x1x128x128.size hinb).PackedRows (EltTy.packing .bf16)) ∧
  (∀ a, (k0_off138 arg6_r0) a + S1x1x128x128.size a ≤ S2x16x256x512.size a) ∧
  (∀ (hinb : ∀ a, (k0_off138 arg6_r0) a + S1x1x128x128.size a ≤ S2x16x256x512.size a), (Rect.unit (s := S2x16x256x512) (k0_off138 arg6_r0) S1x1x128x128.size hinb).PackedRows (EltTy.packing .bf16)) ∧
  (∀ a, (k0_off139 arg6_r0) a + S1x1x128x128.size a ≤ S2x16x256x512.size a) ∧
  (∀ (hinb : ∀ a, (k0_off139 arg6_r0) a + S1x1x128x128.size a ≤ S2x16x256x512.size a), (Rect.unit (s := S2x16x256x512) (k0_off139 arg6_r0) S1x1x128x128.size hinb).PackedRows (EltTy.packing .bf16)) ∧
  (∀ a, (k0_off140 arg6_r0) a + S1x1x128x128.size a ≤ S2x16x256x512.size a) ∧
  (∀ (hinb : ∀ a, (k0_off140 arg6_r0) a + S1x1x128x128.size a ≤ S2x16x256x512.size a), (Rect.unit (s := S2x16x256x512) (k0_off140 arg6_r0) S1x1x128x128.size hinb).PackedRows (EltTy.packing .bf16)) ∧
  (∀ a, (k0_off141 arg6_r0) a + S1x1x128x128.size a ≤ S2x16x256x512.size a) ∧
  (∀ (hinb : ∀ a, (k0_off141 arg6_r0) a + S1x1x128x128.size a ≤ S2x16x256x512.size a), (Rect.unit (s := S2x16x256x512) (k0_off141 arg6_r0) S1x1x128x128.size hinb).PackedRows (EltTy.packing .bf16)) ∧
  (∀ a, (k0_off142 arg6_r0) a + S1x1x128x128.size a ≤ S2x16x256x512.size a) ∧
  (∀ (hinb : ∀ a, (k0_off142 arg6_r0) a + S1x1x128x128.size a ≤ S2x16x256x512.size a), (Rect.unit (s := S2x16x256x512) (k0_off142 arg6_r0) S1x1x128x128.size hinb).PackedRows (EltTy.packing .bf16)) ∧
  (∀ a, (k0_off143 arg6_r0) a + S1x1x128x128.size a ≤ S2x16x256x512.size a) ∧
  (∀ (hinb : ∀ a, (k0_off143 arg6_r0) a + S1x1x128x128.size a ≤ S2x16x256x512.size a), (Rect.unit (s := S2x16x256x512) (k0_off143 arg6_r0) S1x1x128x128.size hinb).PackedRows (EltTy.packing .bf16)) ∧
  (∀ a, (k0_off144 arg6_r0) a + S1x1x128x128.size a ≤ S2x16x256x512.size a) ∧
  (∀ (hinb : ∀ a, (k0_off144 arg6_r0) a + S1x1x128x128.size a ≤ S2x16x256x512.size a), (Rect.unit (s := S2x16x256x512) (k0_off144 arg6_r0) S1x1x128x128.size hinb).PackedRows (EltTy.packing .bf16))
def k0_chk3_8 (arg6_r0 : BitVec 32) : Prop :=
  (∀ a, (k0_off145 arg6_r0) a + S1x1x128x128.size a ≤ S2x16x256x512.size a) ∧
  (∀ (hinb : ∀ a, (k0_off145 arg6_r0) a + S1x1x128x128.size a ≤ S2x16x256x512.size a), (Rect.unit (s := S2x16x256x512) (k0_off145 arg6_r0) S1x1x128x128.size hinb).PackedRows (EltTy.packing .bf16))
def k0_chk3 (arg6_r0 : BitVec 32) : Prop :=
  k0_chk3_0 arg6_r0 ∧
  k0_chk3_1 arg6_r0 ∧
  k0_chk3_2 arg6_r0 ∧
  k0_chk3_3 arg6_r0 ∧
  k0_chk3_4 arg6_r0 ∧
  k0_chk3_5 arg6_r0 ∧
  k0_chk3_6 arg6_r0 ∧
  k0_chk3_7 arg6_r0 ∧
  k0_chk3_8 arg6_r0
theorem k0_off13_inb : ∀ (arg6_r0 : BitVec 32) (k0_hw3 : k0_chk3 arg6_r0), ∀ a, (k0_off13 arg6_r0) a + S1x16x256x512.size a ≤ S2x16x256x512.size a := fun arg6_r0 k0_hw3 => k0_hw3.1.1
theorem k0_off14_inb : ∀ (arg6_r0 : BitVec 32) (k0_hw3 : k0_chk3 arg6_r0), ∀ a, (k0_off14 arg6_r0) a + S1x1x128x128.size a ≤ S2x16x256x512.size a := fun arg6_r0 k0_hw3 => k0_hw3.1.2.1
theorem k0_off14_packedbf16 : ∀ (arg6_r0 : BitVec 32) (k0_hw3 : k0_chk3 arg6_r0), (Rect.unit (s := S2x16x256x512) (k0_off14 arg6_r0) S1x1x128x128.size (k0_off14_inb arg6_r0 k0_hw3)).PackedRows (EltTy.packing .bf16) := fun arg6_r0 k0_hw3 => k0_hw3.1.2.2.1 (k0_off14_inb arg6_r0 k0_hw3)
theorem k0_off16_inb : ∀ (arg6_r0 : BitVec 32) (k0_hw3 : k0_chk3 arg6_r0), ∀ a, (k0_off16 arg6_r0) a + S1x1x128x128.size a ≤ S2x16x256x512.size a := fun arg6_r0 k0_hw3 => k0_hw3.1.2.2.2.1
theorem k0_off16_packedbf16 : ∀ (arg6_r0 : BitVec 32) (k0_hw3 : k0_chk3 arg6_r0), (Rect.unit (s := S2x16x256x512) (k0_off16 arg6_r0) S1x1x128x128.size (k0_off16_inb arg6_r0 k0_hw3)).PackedRows (EltTy.packing .bf16) := fun arg6_r0 k0_hw3 => k0_hw3.1.2.2.2.2.1 (k0_off16_inb arg6_r0 k0_hw3)
theorem k0_off17_inb : ∀ (arg6_r0 : BitVec 32) (k0_hw3 : k0_chk3 arg6_r0), ∀ a, (k0_off17 arg6_r0) a + S1x1x128x128.size a ≤ S2x16x256x512.size a := fun arg6_r0 k0_hw3 => k0_hw3.1.2.2.2.2.2.1
theorem k0_off17_packedbf16 : ∀ (arg6_r0 : BitVec 32) (k0_hw3 : k0_chk3 arg6_r0), (Rect.unit (s := S2x16x256x512) (k0_off17 arg6_r0) S1x1x128x128.size (k0_off17_inb arg6_r0 k0_hw3)).PackedRows (EltTy.packing .bf16) := fun arg6_r0 k0_hw3 => k0_hw3.1.2.2.2.2.2.2.1 (k0_off17_inb arg6_r0 k0_hw3)
theorem k0_off18_inb : ∀ (arg6_r0 : BitVec 32) (k0_hw3 : k0_chk3 arg6_r0), ∀ a, (k0_off18 arg6_r0) a + S1x1x128x128.size a ≤ S2x16x256x512.size a := fun arg6_r0 k0_hw3 => k0_hw3.1.2.2.2.2.2.2.2.1
theorem k0_off18_packedbf16 : ∀ (arg6_r0 : BitVec 32) (k0_hw3 : k0_chk3 arg6_r0), (Rect.unit (s := S2x16x256x512) (k0_off18 arg6_r0) S1x1x128x128.size (k0_off18_inb arg6_r0 k0_hw3)).PackedRows (EltTy.packing .bf16) := fun arg6_r0 k0_hw3 => k0_hw3.1.2.2.2.2.2.2.2.2.1 (k0_off18_inb arg6_r0 k0_hw3)
theorem k0_off21_inb : ∀ (arg6_r0 : BitVec 32) (k0_hw3 : k0_chk3 arg6_r0), ∀ a, (k0_off21 arg6_r0) a + S1x16x256x512.size a ≤ S2x16x256x512.size a := fun arg6_r0 k0_hw3 => k0_hw3.1.2.2.2.2.2.2.2.2.2.1
theorem k0_off22_inb : ∀ (arg6_r0 : BitVec 32) (k0_hw3 : k0_chk3 arg6_r0), ∀ a, (k0_off22 arg6_r0) a + S1x1x128x128.size a ≤ S2x16x256x512.size a := fun arg6_r0 k0_hw3 => k0_hw3.1.2.2.2.2.2.2.2.2.2.2.1
theorem k0_off22_packedbf16 : ∀ (arg6_r0 : BitVec 32) (k0_hw3 : k0_chk3 arg6_r0), (Rect.unit (s := S2x16x256x512) (k0_off22 arg6_r0) S1x1x128x128.size (k0_off22_inb arg6_r0 k0_hw3)).PackedRows (EltTy.packing .bf16) := fun arg6_r0 k0_hw3 => k0_hw3.1.2.2.2.2.2.2.2.2.2.2.2.1 (k0_off22_inb arg6_r0 k0_hw3)
theorem k0_off23_inb : ∀ (arg6_r0 : BitVec 32) (k0_hw3 : k0_chk3 arg6_r0), ∀ a, (k0_off23 arg6_r0) a + S1x1x128x128.size a ≤ S2x16x256x512.size a := fun arg6_r0 k0_hw3 => k0_hw3.1.2.2.2.2.2.2.2.2.2.2.2.2.1
theorem k0_off23_packedbf16 : ∀ (arg6_r0 : BitVec 32) (k0_hw3 : k0_chk3 arg6_r0), (Rect.unit (s := S2x16x256x512) (k0_off23 arg6_r0) S1x1x128x128.size (k0_off23_inb arg6_r0 k0_hw3)).PackedRows (EltTy.packing .bf16) := fun arg6_r0 k0_hw3 => k0_hw3.1.2.2.2.2.2.2.2.2.2.2.2.2.2.1 (k0_off23_inb arg6_r0 k0_hw3)
theorem k0_off24_inb : ∀ (arg6_r0 : BitVec 32) (k0_hw3 : k0_chk3 arg6_r0), ∀ a, (k0_off24 arg6_r0) a + S1x1x128x128.size a ≤ S2x16x256x512.size a := fun arg6_r0 k0_hw3 => k0_hw3.1.2.2.2.2.2.2.2.2.2.2.2.2.2.2.1
theorem k0_off24_packedbf16 : ∀ (arg6_r0 : BitVec 32) (k0_hw3 : k0_chk3 arg6_r0), (Rect.unit (s := S2x16x256x512) (k0_off24 arg6_r0) S1x1x128x128.size (k0_off24_inb arg6_r0 k0_hw3)).PackedRows (EltTy.packing .bf16) := fun arg6_r0 k0_hw3 => k0_hw3.1.2.2.2.2.2.2.2.2.2.2.2.2.2.2.2.1 (k0_off24_inb arg6_r0 k0_hw3)
theorem k0_off25_inb : ∀ (arg6_r0 : BitVec 32) (k0_hw3 : k0_chk3 arg6_r0), ∀ a, (k0_off25 arg6_r0) a + S1x1x128x128.size a ≤ S2x16x256x512.size a := fun arg6_r0 k0_hw3 => k0_hw3.1.2.2.2.2.2.2.2.2.2.2.2.2.2.2.2.2.1
theorem k0_off25_packedbf16 : ∀ (arg6_r0 : BitVec 32) (k0_hw3 : k0_chk3 arg6_r0), (Rect.unit (s := S2x16x256x512) (k0_off25 arg6_r0) S1x1x128x128.size (k0_off25_inb arg6_r0 k0_hw3)).PackedRows (EltTy.packing .bf16) := fun arg6_r0 k0_hw3 => k0_hw3.1.2.2.2.2.2.2.2.2.2.2.2.2.2.2.2.2.2.1 (k0_off25_inb arg6_r0 k0_hw3)
theorem k0_off26_inb : ∀ (arg6_r0 : BitVec 32) (k0_hw3 : k0_chk3 arg6_r0), ∀ a, (k0_off26 arg6_r0) a + S1x1x128x128.size a ≤ S2x16x256x512.size a := fun arg6_r0 k0_hw3 => k0_hw3.1.2.2.2.2.2.2.2.2.2.2.2.2.2.2.2.2.2.2.1
theorem k0_off26_packedbf16 : ∀ (arg6_r0 : BitVec 32) (k0_hw3 : k0_chk3 arg6_r0), (Rect.unit (s := S2x16x256x512) (k0_off26 arg6_r0) S1x1x128x128.size (k0_off26_inb arg6_r0 k0_hw3)).PackedRows (EltTy.packing .bf16) := fun arg6_r0 k0_hw3 => k0_hw3.1.2.2.2.2.2.2.2.2.2.2.2.2.2.2.2.2.2.2.2.1 (k0_off26_inb arg6_r0 k0_hw3)
theorem k0_off27_inb : ∀ (arg6_r0 : BitVec 32) (k0_hw3 : k0_chk3 arg6_r0), ∀ a, (k0_off27 arg6_r0) a + S1x1x128x128.size a ≤ S2x16x256x512.size a := fun arg6_r0 k0_hw3 => k0_hw3.1.2.2.2.2.2.2.2.2.2.2.2.2.2.2.2.2.2.2.2.2.1
theorem k0_off27_packedbf16 : ∀ (arg6_r0 : BitVec 32) (k0_hw3 : k0_chk3 arg6_r0), (Rect.unit (s := S2x16x256x512) (k0_off27 arg6_r0) S1x1x128x128.size (k0_off27_inb arg6_r0 k0_hw3)).PackedRows (EltTy.packing .bf16) := fun arg6_r0 k0_hw3 => k0_hw3.1.2.2.2.2.2.2.2.2.2.2.2.2.2.2.2.2.2.2.2.2.2.1 (k0_off27_inb arg6_r0 k0_hw3)
theorem k0_off28_inb : ∀ (arg6_r0 : BitVec 32) (k0_hw3 : k0_chk3 arg6_r0), ∀ a, (k0_off28 arg6_r0) a + S1x1x128x128.size a ≤ S2x16x256x512.size a := fun arg6_r0 k0_hw3 => k0_hw3.1.2.2.2.2.2.2.2.2.2.2.2.2.2.2.2.2.2.2.2.2.2.2.1
theorem k0_off28_packedbf16 : ∀ (arg6_r0 : BitVec 32) (k0_hw3 : k0_chk3 arg6_r0), (Rect.unit (s := S2x16x256x512) (k0_off28 arg6_r0) S1x1x128x128.size (k0_off28_inb arg6_r0 k0_hw3)).PackedRows (EltTy.packing .bf16) := fun arg6_r0 k0_hw3 => k0_hw3.1.2.2.2.2.2.2.2.2.2.2.2.2.2.2.2.2.2.2.2.2.2.2.2.1 (k0_off28_inb arg6_r0 k0_hw3)
theorem k0_off29_inb : ∀ (arg6_r0 : BitVec 32) (k0_hw3 : k0_chk3 arg6_r0), ∀ a, (k0_off29 arg6_r0) a + S1x1x128x128.size a ≤ S2x16x256x512.size a := fun arg6_r0 k0_hw3 => k0_hw3.1.2.2.2.2.2.2.2.2.2.2.2.2.2.2.2.2.2.2.2.2.2.2.2.2.1
theorem k0_off29_packedbf16 : ∀ (arg6_r0 : BitVec 32) (k0_hw3 : k0_chk3 arg6_r0), (Rect.unit (s := S2x16x256x512) (k0_off29 arg6_r0) S1x1x128x128.size (k0_off29_inb arg6_r0 k0_hw3)).PackedRows (EltTy.packing .bf16) := fun arg6_r0 k0_hw3 => k0_hw3.1.2.2.2.2.2.2.2.2.2.2.2.2.2.2.2.2.2.2.2.2.2.2.2.2.2.1 (k0_off29_inb arg6_r0 k0_hw3)
theorem k0_off30_inb : ∀ (arg6_r0 : BitVec 32) (k0_hw3 : k0_chk3 arg6_r0), ∀ a, (k0_off30 arg6_r0) a + S1x1x128x128.size a ≤ S2x16x256x512.size a := fun arg6_r0 k0_hw3 => k0_hw3.1.2.2.2.2.2.2.2.2.2.2.2.2.2.2.2.2.2.2.2.2.2.2.2.2.2.2.1
theorem k0_off30_packedbf16 : ∀ (arg6_r0 : BitVec 32) (k0_hw3 : k0_chk3 arg6_r0), (Rect.unit (s := S2x16x256x512) (k0_off30 arg6_r0) S1x1x128x128.size (k0_off30_inb arg6_r0 k0_hw3)).PackedRows (EltTy.packing .bf16) := fun arg6_r0 k0_hw3 => k0_hw3.1.2.2.2.2.2.2.2.2.2.2.2.2.2.2.2.2.2.2.2.2.2.2.2.2.2.2.2.1 (k0_off30_inb arg6_r0 k0_hw3)
theorem k0_off31_inb : ∀ (arg6_r0 : BitVec 32) (k0_hw3 : k0_chk3 arg6_r0), ∀ a, (k0_off31 arg6_r0) a + S1x1x128x128.size a ≤ S2x16x256x512.size a := fun arg6_r0 k0_hw3 => k0_hw3.1.2.2.2.2.2.2.2.2.2.2.2.2.2.2.2.2.2.2.2.2.2.2.2.2.2.2.2.2.1
theorem k0_off31_packedbf16 : ∀ (arg6_r0 : BitVec 32) (k0_hw3 : k0_chk3 arg6_r0), (Rect.unit (s := S2x16x256x512) (k0_off31 arg6_r0) S1x1x128x128.size (k0_off31_inb arg6_r0 k0_hw3)).PackedRows (EltTy.packing .bf16) := fun arg6_r0 k0_hw3 => k0_hw3.1.2.2.2.2.2.2.2.2.2.2.2.2.2.2.2.2.2.2.2.2.2.2.2.2.2.2.2.2.2.1 (k0_off31_inb arg6_r0 k0_hw3)
theorem k0_off32_inb : ∀ (arg6_r0 : BitVec 32) (k0_hw3 : k0_chk3 arg6_r0), ∀ a, (k0_off32 arg6_r0) a + S1x1x128x128.size a ≤ S2x16x256x512.size a := fun arg6_r0 k0_hw3 => k0_hw3.1.2.2.2.2.2.2.2.2.2.2.2.2.2.2.2.2.2.2.2.2.2.2.2.2.2.2.2.2.2.2.1
theorem k0_off32_packedbf16 : ∀ (arg6_r0 : BitVec 32) (k0_hw3 : k0_chk3 arg6_r0), (Rect.unit (s := S2x16x256x512) (k0_off32 arg6_r0) S1x1x128x128.size (k0_off32_inb arg6_r0 k0_hw3)).PackedRows (EltTy.packing .bf16) := fun arg6_r0 k0_hw3 => k0_hw3.1.2.2.2.2.2.2.2.2.2.2.2.2.2.2.2.2.2.2.2.2.2.2.2.2.2.2.2.2.2.2.2 (k0_off32_inb arg6_r0 k0_hw3)
theorem k0_off33_inb : ∀ (arg6_r0 : BitVec 32) (k0_hw3 : k0_chk3 arg6_r0), ∀ a, (k0_off33 arg6_r0) a + S1x1x128x128.size a ≤ S2x16x256x512.size a := fun arg6_r0 k0_hw3 => k0_hw3.2.1.1
theorem k0_off33_packedbf16 : ∀ (arg6_r0 : BitVec 32) (k0_hw3 : k0_chk3 arg6_r0), (Rect.unit (s := S2x16x256x512) (k0_off33 arg6_r0) S1x1x128x128.size (k0_off33_inb arg6_r0 k0_hw3)).PackedRows (EltTy.packing .bf16) := fun arg6_r0 k0_hw3 => k0_hw3.2.1.2.1 (k0_off33_inb arg6_r0 k0_hw3)
theorem k0_off34_inb : ∀ (arg6_r0 : BitVec 32) (k0_hw3 : k0_chk3 arg6_r0), ∀ a, (k0_off34 arg6_r0) a + S1x1x128x128.size a ≤ S2x16x256x512.size a := fun arg6_r0 k0_hw3 => k0_hw3.2.1.2.2.1
theorem k0_off34_packedbf16 : ∀ (arg6_r0 : BitVec 32) (k0_hw3 : k0_chk3 arg6_r0), (Rect.unit (s := S2x16x256x512) (k0_off34 arg6_r0) S1x1x128x128.size (k0_off34_inb arg6_r0 k0_hw3)).PackedRows (EltTy.packing .bf16) := fun arg6_r0 k0_hw3 => k0_hw3.2.1.2.2.2.1 (k0_off34_inb arg6_r0 k0_hw3)
theorem k0_off35_inb : ∀ (arg6_r0 : BitVec 32) (k0_hw3 : k0_chk3 arg6_r0), ∀ a, (k0_off35 arg6_r0) a + S1x1x128x128.size a ≤ S2x16x256x512.size a := fun arg6_r0 k0_hw3 => k0_hw3.2.1.2.2.2.2.1
theorem k0_off35_packedbf16 : ∀ (arg6_r0 : BitVec 32) (k0_hw3 : k0_chk3 arg6_r0), (Rect.unit (s := S2x16x256x512) (k0_off35 arg6_r0) S1x1x128x128.size (k0_off35_inb arg6_r0 k0_hw3)).PackedRows (EltTy.packing .bf16) := fun arg6_r0 k0_hw3 => k0_hw3.2.1.2.2.2.2.2.1 (k0_off35_inb arg6_r0 k0_hw3)
theorem k0_off36_inb : ∀ (arg6_r0 : BitVec 32) (k0_hw3 : k0_chk3 arg6_r0), ∀ a, (k0_off36 arg6_r0) a + S1x1x128x128.size a ≤ S2x16x256x512.size a := fun arg6_r0 k0_hw3 => k0_hw3.2.1.2.2.2.2.2.2.1
theorem k0_off36_packedbf16 : ∀ (arg6_r0 : BitVec 32) (k0_hw3 : k0_chk3 arg6_r0), (Rect.unit (s := S2x16x256x512) (k0_off36 arg6_r0) S1x1x128x128.size (k0_off36_inb arg6_r0 k0_hw3)).PackedRows (EltTy.packing .bf16) := fun arg6_r0 k0_hw3 => k0_hw3.2.1.2.2.2.2.2.2.2.1 (k0_off36_inb arg6_r0 k0_hw3)
theorem k0_off37_inb : ∀ (arg6_r0 : BitVec 32) (k0_hw3 : k0_chk3 arg6_r0), ∀ a, (k0_off37 arg6_r0) a + S1x1x128x128.size a ≤ S2x16x256x512.size a := fun arg6_r0 k0_hw3 => k0_hw3.2.1.2.2.2.2.2.2.2.2.1
theorem k0_off37_packedbf16 : ∀ (arg6_r0 : BitVec 32) (k0_hw3 : k0_chk3 arg6_r0), (Rect.unit (s := S2x16x256x512) (k0_off37 arg6_r0) S1x1x128x128.size (k0_off37_inb arg6_r0 k0_hw3)).PackedRows (EltTy.packing .bf16) := fun arg6_r0 k0_hw3 => k0_hw3.2.1.2.2.2.2.2.2.2.2.2.1 (k0_off37_inb arg6_r0 k0_hw3)
theorem k0_off38_inb : ∀ (arg6_r0 : BitVec 32) (k0_hw3 : k0_chk3 arg6_r0), ∀ a, (k0_off38 arg6_r0) a + S1x1x128x128.size a ≤ S2x16x256x512.size a := fun arg6_r0 k0_hw3 => k0_hw3.2.1.2.2.2.2.2.2.2.2.2.2.1
theorem k0_off38_packedbf16 : ∀ (arg6_r0 : BitVec 32) (k0_hw3 : k0_chk3 arg6_r0), (Rect.unit (s := S2x16x256x512) (k0_off38 arg6_r0) S1x1x128x128.size (k0_off38_inb arg6_r0 k0_hw3)).PackedRows (EltTy.packing .bf16) := fun arg6_r0 k0_hw3 => k0_hw3.2.1.2.2.2.2.2.2.2.2.2.2.2.1 (k0_off38_inb arg6_r0 k0_hw3)
theorem k0_off39_inb : ∀ (arg6_r0 : BitVec 32) (k0_hw3 : k0_chk3 arg6_r0), ∀ a, (k0_off39 arg6_r0) a + S1x1x128x128.size a ≤ S2x16x256x512.size a := fun arg6_r0 k0_hw3 => k0_hw3.2.1.2.2.2.2.2.2.2.2.2.2.2.2.1
theorem k0_off39_packedbf16 : ∀ (arg6_r0 : BitVec 32) (k0_hw3 : k0_chk3 arg6_r0), (Rect.unit (s := S2x16x256x512) (k0_off39 arg6_r0) S1x1x128x128.size (k0_off39_inb arg6_r0 k0_hw3)).PackedRows (EltTy.packing .bf16) := fun arg6_r0 k0_hw3 => k0_hw3.2.1.2.2.2.2.2.2.2.2.2.2.2.2.2.1 (k0_off39_inb arg6_r0 k0_hw3)
theorem k0_off40_inb : ∀ (arg6_r0 : BitVec 32) (k0_hw3 : k0_chk3 arg6_r0), ∀ a, (k0_off40 arg6_r0) a + S1x1x128x128.size a ≤ S2x16x256x512.size a := fun arg6_r0 k0_hw3 => k0_hw3.2.1.2.2.2.2.2.2.2.2.2.2.2.2.2.2.1
theorem k0_off40_packedbf16 : ∀ (arg6_r0 : BitVec 32) (k0_hw3 : k0_chk3 arg6_r0), (Rect.unit (s := S2x16x256x512) (k0_off40 arg6_r0) S1x1x128x128.size (k0_off40_inb arg6_r0 k0_hw3)).PackedRows (EltTy.packing .bf16) := fun arg6_r0 k0_hw3 => k0_hw3.2.1.2.2.2.2.2.2.2.2.2.2.2.2.2.2.2.1 (k0_off40_inb arg6_r0 k0_hw3)
theorem k0_off41_inb : ∀ (arg6_r0 : BitVec 32) (k0_hw3 : k0_chk3 arg6_r0), ∀ a, (k0_off41 arg6_r0) a + S1x1x128x128.size a ≤ S2x16x256x512.size a := fun arg6_r0 k0_hw3 => k0_hw3.2.1.2.2.2.2.2.2.2.2.2.2.2.2.2.2.2.2.1
theorem k0_off41_packedbf16 : ∀ (arg6_r0 : BitVec 32) (k0_hw3 : k0_chk3 arg6_r0), (Rect.unit (s := S2x16x256x512) (k0_off41 arg6_r0) S1x1x128x128.size (k0_off41_inb arg6_r0 k0_hw3)).PackedRows (EltTy.packing .bf16) := fun arg6_r0 k0_hw3 => k0_hw3.2.1.2.2.2.2.2.2.2.2.2.2.2.2.2.2.2.2.2.1 (k0_off41_inb arg6_r0 k0_hw3)
theorem k0_off42_inb : ∀ (arg6_r0 : BitVec 32) (k0_hw3 : k0_chk3 arg6_r0), ∀ a, (k0_off42 arg6_r0) a + S1x1x128x128.size a ≤ S2x16x256x512.size a := fun arg6_r0 k0_hw3 => k0_hw3.2.1.2.2.2.2.2.2.2.2.2.2.2.2.2.2.2.2.2.2.1
theorem k0_off42_packedbf16 : ∀ (arg6_r0 : BitVec 32) (k0_hw3 : k0_chk3 arg6_r0), (Rect.unit (s := S2x16x256x512) (k0_off42 arg6_r0) S1x1x128x128.size (k0_off42_inb arg6_r0 k0_hw3)).PackedRows (EltTy.packing .bf16) := fun arg6_r0 k0_hw3 => k0_hw3.2.1.2.2.2.2.2.2.2.2.2.2.2.2.2.2.2.2.2.2.2.1 (k0_off42_inb arg6_r0 k0_hw3)
theorem k0_off43_inb : ∀ (arg6_r0 : BitVec 32) (k0_hw3 : k0_chk3 arg6_r0), ∀ a, (k0_off43 arg6_r0) a + S1x1x128x128.size a ≤ S2x16x256x512.size a := fun arg6_r0 k0_hw3 => k0_hw3.2.1.2.2.2.2.2.2.2.2.2.2.2.2.2.2.2.2.2.2.2.2.1
theorem k0_off43_packedbf16 : ∀ (arg6_r0 : BitVec 32) (k0_hw3 : k0_chk3 arg6_r0), (Rect.unit (s := S2x16x256x512) (k0_off43 arg6_r0) S1x1x128x128.size (k0_off43_inb arg6_r0 k0_hw3)).PackedRows (EltTy.packing .bf16) := fun arg6_r0 k0_hw3 => k0_hw3.2.1.2.2.2.2.2.2.2.2.2.2.2.2.2.2.2.2.2.2.2.2.2.1 (k0_off43_inb arg6_r0 k0_hw3)
theorem k0_off44_inb : ∀ (arg6_r0 : BitVec 32) (k0_hw3 : k0_chk3 arg6_r0), ∀ a, (k0_off44 arg6_r0) a + S1x1x128x128.size a ≤ S2x16x256x512.size a := fun arg6_r0 k0_hw3 => k0_hw3.2.1.2.2.2.2.2.2.2.2.2.2.2.2.2.2.2.2.2.2.2.2.2.2.1
theorem k0_off44_packedbf16 : ∀ (arg6_r0 : BitVec 32) (k0_hw3 : k0_chk3 arg6_r0), (Rect.unit (s := S2x16x256x512) (k0_off44 arg6_r0) S1x1x128x128.size (k0_off44_inb arg6_r0 k0_hw3)).PackedRows (EltTy.packing .bf16) := fun arg6_r0 k0_hw3 => k0_hw3.2.1.2.2.2.2.2.2.2.2.2.2.2.2.2.2.2.2.2.2.2.2.2.2.2.1 (k0_off44_inb arg6_r0 k0_hw3)
theorem k0_off45_inb : ∀ (arg6_r0 : BitVec 32) (k0_hw3 : k0_chk3 arg6_r0), ∀ a, (k0_off45 arg6_r0) a + S1x1x128x128.size a ≤ S2x16x256x512.size a := fun arg6_r0 k0_hw3 => k0_hw3.2.1.2.2.2.2.2.2.2.2.2.2.2.2.2.2.2.2.2.2.2.2.2.2.2.2.1
theorem k0_off45_packedbf16 : ∀ (arg6_r0 : BitVec 32) (k0_hw3 : k0_chk3 arg6_r0), (Rect.unit (s := S2x16x256x512) (k0_off45 arg6_r0) S1x1x128x128.size (k0_off45_inb arg6_r0 k0_hw3)).PackedRows (EltTy.packing .bf16) := fun arg6_r0 k0_hw3 => k0_hw3.2.1.2.2.2.2.2.2.2.2.2.2.2.2.2.2.2.2.2.2.2.2.2.2.2.2.2.1 (k0_off45_inb arg6_r0 k0_hw3)
theorem k0_off46_inb : ∀ (arg6_r0 : BitVec 32) (k0_hw3 : k0_chk3 arg6_r0), ∀ a, (k0_off46 arg6_r0) a + S1x1x128x128.size a ≤ S2x16x256x512.size a := fun arg6_r0 k0_hw3 => k0_hw3.2.1.2.2.2.2.2.2.2.2.2.2.2.2.2.2.2.2.2.2.2.2.2.2.2.2.2.2.1
theorem k0_off46_packedbf16 : ∀ (arg6_r0 : BitVec 32) (k0_hw3 : k0_chk3 arg6_r0), (Rect.unit (s := S2x16x256x512) (k0_off46 arg6_r0) S1x1x128x128.size (k0_off46_inb arg6_r0 k0_hw3)).PackedRows (EltTy.packing .bf16) := fun arg6_r0 k0_hw3 => k0_hw3.2.1.2.2.2.2.2.2.2.2.2.2.2.2.2.2.2.2.2.2.2.2.2.2.2.2.2.2.2.1 (k0_off46_inb arg6_r0 k0_hw3)
theorem k0_off47_inb : ∀ (arg6_r0 : BitVec 32) (k0_hw3 : k0_chk3 arg6_r0), ∀ a, (k0_off47 arg6_r0) a + S1x1x128x128.size a ≤ S2x16x256x512.size a := fun arg6_r0 k0_hw3 => k0_hw3.2.1.2.2.2.2.2.2.2.2.2.2.2.2.2.2.2.2.2.2.2.2.2.2.2.2.2.2.2.2.1
theorem k0_off47_packedbf16 : ∀ (arg6_r0 : BitVec 32) (k0_hw3 : k0_chk3 arg6_r0), (Rect.unit (s := S2x16x256x512) (k0_off47 arg6_r0) S1x1x128x128.size (k0_off47_inb arg6_r0 k0_hw3)).PackedRows (EltTy.packing .bf16) := fun arg6_r0 k0_hw3 => k0_hw3.2.1.2.2.2.2.2.2.2.2.2.2.2.2.2.2.2.2.2.2.2.2.2.2.2.2.2.2.2.2.2.1 (k0_off47_inb arg6_r0 k0_hw3)
theorem k0_off48_inb : ∀ (arg6_r0 : BitVec 32) (k0_hw3 : k0_chk3 arg6_r0), ∀ a, (k0_off48 arg6_r0) a + S1x1x128x128.size a ≤ S2x16x256x512.size a := fun arg6_r0 k0_hw3 => k0_hw3.2.1.2.2.2.2.2.2.2.2.2.2.2.2.2.2.2.2.2.2.2.2.2.2.2.2.2.2.2.2.2.2.1
theorem k0_off48_packedbf16 : ∀ (arg6_r0 : BitVec 32) (k0_hw3 : k0_chk3 arg6_r0), (Rect.unit (s := S2x16x256x512) (k0_off48 arg6_r0) S1x1x128x128.size (k0_off48_inb arg6_r0 k0_hw3)).PackedRows (EltTy.packing .bf16) := fun arg6_r0 k0_hw3 => k0_hw3.2.1.2.2.2.2.2.2.2.2.2.2.2.2.2.2.2.2.2.2.2.2.2.2.2.2.2.2.2.2.2.2.2 (k0_off48_inb arg6_r0 k0_hw3)
theorem k0_off49_inb : ∀ (arg6_r0 : BitVec 32) (k0_hw3 : k0_chk3 arg6_r0), ∀ a, (k0_off49 arg6_r0) a + S1x1x128x128.size a ≤ S2x16x256x512.size a := fun arg6_r0 k0_hw3 => k0_hw3.2.2.1.1
theorem k0_off49_packedbf16 : ∀ (arg6_r0 : BitVec 32) (k0_hw3 : k0_chk3 arg6_r0), (Rect.unit (s := S2x16x256x512) (k0_off49 arg6_r0) S1x1x128x128.size (k0_off49_inb arg6_r0 k0_hw3)).PackedRows (EltTy.packing .bf16) := fun arg6_r0 k0_hw3 => k0_hw3.2.2.1.2.1 (k0_off49_inb arg6_r0 k0_hw3)
theorem k0_off50_inb : ∀ (arg6_r0 : BitVec 32) (k0_hw3 : k0_chk3 arg6_r0), ∀ a, (k0_off50 arg6_r0) a + S1x1x128x128.size a ≤ S2x16x256x512.size a := fun arg6_r0 k0_hw3 => k0_hw3.2.2.1.2.2.1
theorem k0_off50_packedbf16 : ∀ (arg6_r0 : BitVec 32) (k0_hw3 : k0_chk3 arg6_r0), (Rect.unit (s := S2x16x256x512) (k0_off50 arg6_r0) S1x1x128x128.size (k0_off50_inb arg6_r0 k0_hw3)).PackedRows (EltTy.packing .bf16) := fun arg6_r0 k0_hw3 => k0_hw3.2.2.1.2.2.2.1 (k0_off50_inb arg6_r0 k0_hw3)
theorem k0_off51_inb : ∀ (arg6_r0 : BitVec 32) (k0_hw3 : k0_chk3 arg6_r0), ∀ a, (k0_off51 arg6_r0) a + S1x1x128x128.size a ≤ S2x16x256x512.size a := fun arg6_r0 k0_hw3 => k0_hw3.2.2.1.2.2.2.2.1
theorem k0_off51_packedbf16 : ∀ (arg6_r0 : BitVec 32) (k0_hw3 : k0_chk3 arg6_r0), (Rect.unit (s := S2x16x256x512) (k0_off51 arg6_r0) S1x1x128x128.size (k0_off51_inb arg6_r0 k0_hw3)).PackedRows (EltTy.packing .bf16) := fun arg6_r0 k0_hw3 => k0_hw3.2.2.1.2.2.2.2.2.1 (k0_off51_inb arg6_r0 k0_hw3)
theorem k0_off52_inb : ∀ (arg6_r0 : BitVec 32) (k0_hw3 : k0_chk3 arg6_r0), ∀ a, (k0_off52 arg6_r0) a + S1x1x128x128.size a ≤ S2x16x256x512.size a := fun arg6_r0 k0_hw3 => k0_hw3.2.2.1.2.2.2.2.2.2.1
theorem k0_off52_packedbf16 : ∀ (arg6_r0 : BitVec 32) (k0_hw3 : k0_chk3 arg6_r0), (Rect.unit (s := S2x16x256x512) (k0_off52 arg6_r0) S1x1x128x128.size (k0_off52_inb arg6_r0 k0_hw3)).PackedRows (EltTy.packing .bf16) := fun arg6_r0 k0_hw3 => k0_hw3.2.2.1.2.2.2.2.2.2.2.1 (k0_off52_inb arg6_r0 k0_hw3)
theorem k0_off53_inb : ∀ (arg6_r0 : BitVec 32) (k0_hw3 : k0_chk3 arg6_r0), ∀ a, (k0_off53 arg6_r0) a + S1x1x128x128.size a ≤ S2x16x256x512.size a := fun arg6_r0 k0_hw3 => k0_hw3.2.2.1.2.2.2.2.2.2.2.2.1
theorem k0_off53_packedbf16 : ∀ (arg6_r0 : BitVec 32) (k0_hw3 : k0_chk3 arg6_r0), (Rect.unit (s := S2x16x256x512) (k0_off53 arg6_r0) S1x1x128x128.size (k0_off53_inb arg6_r0 k0_hw3)).PackedRows (EltTy.packing .bf16) := fun arg6_r0 k0_hw3 => k0_hw3.2.2.1.2.2.2.2.2.2.2.2.2.1 (k0_off53_inb arg6_r0 k0_hw3)
theorem k0_off54_inb : ∀ (arg6_r0 : BitVec 32) (k0_hw3 : k0_chk3 arg6_r0), ∀ a, (k0_off54 arg6_r0) a + S1x1x128x128.size a ≤ S2x16x256x512.size a := fun arg6_r0 k0_hw3 => k0_hw3.2.2.1.2.2.2.2.2.2.2.2.2.2.1
theorem k0_off54_packedbf16 : ∀ (arg6_r0 : BitVec 32) (k0_hw3 : k0_chk3 arg6_r0), (Rect.unit (s := S2x16x256x512) (k0_off54 arg6_r0) S1x1x128x128.size (k0_off54_inb arg6_r0 k0_hw3)).PackedRows (EltTy.packing .bf16) := fun arg6_r0 k0_hw3 => k0_hw3.2.2.1.2.2.2.2.2.2.2.2.2.2.2.1 (k0_off54_inb arg6_r0 k0_hw3)
theorem k0_off55_inb : ∀ (arg6_r0 : BitVec 32) (k0_hw3 : k0_chk3 arg6_r0), ∀ a, (k0_off55 arg6_r0) a + S1x1x128x128.size a ≤ S2x16x256x512.size a := fun arg6_r0 k0_hw3 => k0_hw3.2.2.1.2.2.2.2.2.2.2.2.2.2.2.2.1
theorem k0_off55_packedbf16 : ∀ (arg6_r0 : BitVec 32) (k0_hw3 : k0_chk3 arg6_r0), (Rect.unit (s := S2x16x256x512) (k0_off55 arg6_r0) S1x1x128x128.size (k0_off55_inb arg6_r0 k0_hw3)).PackedRows (EltTy.packing .bf16) := fun arg6_r0 k0_hw3 => k0_hw3.2.2.1.2.2.2.2.2.2.2.2.2.2.2.2.2.1 (k0_off55_inb arg6_r0 k0_hw3)
theorem k0_off56_inb : ∀ (arg6_r0 : BitVec 32) (k0_hw3 : k0_chk3 arg6_r0), ∀ a, (k0_off56 arg6_r0) a + S1x1x128x128.size a ≤ S2x16x256x512.size a := fun arg6_r0 k0_hw3 => k0_hw3.2.2.1.2.2.2.2.2.2.2.2.2.2.2.2.2.2.1
theorem k0_off56_packedbf16 : ∀ (arg6_r0 : BitVec 32) (k0_hw3 : k0_chk3 arg6_r0), (Rect.unit (s := S2x16x256x512) (k0_off56 arg6_r0) S1x1x128x128.size (k0_off56_inb arg6_r0 k0_hw3)).PackedRows (EltTy.packing .bf16) := fun arg6_r0 k0_hw3 => k0_hw3.2.2.1.2.2.2.2.2.2.2.2.2.2.2.2.2.2.2.1 (k0_off56_inb arg6_r0 k0_hw3)
theorem k0_off57_inb : ∀ (arg6_r0 : BitVec 32) (k0_hw3 : k0_chk3 arg6_r0), ∀ a, (k0_off57 arg6_r0) a + S1x1x128x128.size a ≤ S2x16x256x512.size a := fun arg6_r0 k0_hw3 => k0_hw3.2.2.1.2.2.2.2.2.2.2.2.2.2.2.2.2.2.2.2.1
theorem k0_off57_packedbf16 : ∀ (arg6_r0 : BitVec 32) (k0_hw3 : k0_chk3 arg6_r0), (Rect.unit (s := S2x16x256x512) (k0_off57 arg6_r0) S1x1x128x128.size (k0_off57_inb arg6_r0 k0_hw3)).PackedRows (EltTy.packing .bf16) := fun arg6_r0 k0_hw3 => k0_hw3.2.2.1.2.2.2.2.2.2.2.2.2.2.2.2.2.2.2.2.2.1 (k0_off57_inb arg6_r0 k0_hw3)
theorem k0_off58_inb : ∀ (arg6_r0 : BitVec 32) (k0_hw3 : k0_chk3 arg6_r0), ∀ a, (k0_off58 arg6_r0) a + S1x1x128x128.size a ≤ S2x16x256x512.size a := fun arg6_r0 k0_hw3 => k0_hw3.2.2.1.2.2.2.2.2.2.2.2.2.2.2.2.2.2.2.2.2.2.1
theorem k0_off58_packedbf16 : ∀ (arg6_r0 : BitVec 32) (k0_hw3 : k0_chk3 arg6_r0), (Rect.unit (s := S2x16x256x512) (k0_off58 arg6_r0) S1x1x128x128.size (k0_off58_inb arg6_r0 k0_hw3)).PackedRows (EltTy.packing .bf16) := fun arg6_r0 k0_hw3 => k0_hw3.2.2.1.2.2.2.2.2.2.2.2.2.2.2.2.2.2.2.2.2.2.2.1 (k0_off58_inb arg6_r0 k0_hw3)
theorem k0_off59_inb : ∀ (arg6_r0 : BitVec 32) (k0_hw3 : k0_chk3 arg6_r0), ∀ a, (k0_off59 arg6_r0) a + S1x1x128x128.size a ≤ S2x16x256x512.size a := fun arg6_r0 k0_hw3 => k0_hw3.2.2.1.2.2.2.2.2.2.2.2.2.2.2.2.2.2.2.2.2.2.2.2.1
theorem k0_off59_packedbf16 : ∀ (arg6_r0 : BitVec 32) (k0_hw3 : k0_chk3 arg6_r0), (Rect.unit (s := S2x16x256x512) (k0_off59 arg6_r0) S1x1x128x128.size (k0_off59_inb arg6_r0 k0_hw3)).PackedRows (EltTy.packing .bf16) := fun arg6_r0 k0_hw3 => k0_hw3.2.2.1.2.2.2.2.2.2.2.2.2.2.2.2.2.2.2.2.2.2.2.2.2.1 (k0_off59_inb arg6_r0 k0_hw3)
theorem k0_off60_inb : ∀ (arg6_r0 : BitVec 32) (k0_hw3 : k0_chk3 arg6_r0), ∀ a, (k0_off60 arg6_r0) a + S1x1x128x128.size a ≤ S2x16x256x512.size a := fun arg6_r0 k0_hw3 => k0_hw3.2.2.1.2.2.2.2.2.2.2.2.2.2.2.2.2.2.2.2.2.2.2.2.2.2.1
theorem k0_off60_packedbf16 : ∀ (arg6_r0 : BitVec 32) (k0_hw3 : k0_chk3 arg6_r0), (Rect.unit (s := S2x16x256x512) (k0_off60 arg6_r0) S1x1x128x128.size (k0_off60_inb arg6_r0 k0_hw3)).PackedRows (EltTy.packing .bf16) := fun arg6_r0 k0_hw3 => k0_hw3.2.2.1.2.2.2.2.2.2.2.2.2.2.2.2.2.2.2.2.2.2.2.2.2.2.2.1 (k0_off60_inb arg6_r0 k0_hw3)
theorem k0_off61_inb : ∀ (arg6_r0 : BitVec 32) (k0_hw3 : k0_chk3 arg6_r0), ∀ a, (k0_off61 arg6_r0) a + S1x1x128x128.size a ≤ S2x16x256x512.size a := fun arg6_r0 k0_hw3 => k0_hw3.2.2.1.2.2.2.2.2.2.2.2.2.2.2.2.2.2.2.2.2.2.2.2.2.2.2.2.1
theorem k0_off61_packedbf16 : ∀ (arg6_r0 : BitVec 32) (k0_hw3 : k0_chk3 arg6_r0), (Rect.unit (s := S2x16x256x512) (k0_off61 arg6_r0) S1x1x128x128.size (k0_off61_inb arg6_r0 k0_hw3)).PackedRows (EltTy.packing .bf16) := fun arg6_r0 k0_hw3 => k0_hw3.2.2.1.2.2.2.2.2.2.2.2.2.2.2.2.2.2.2.2.2.2.2.2.2.2.2.2.2.1 (k0_off61_inb arg6_r0 k0_hw3)
theorem k0_off62_inb : ∀ (arg6_r0 : BitVec 32) (k0_hw3 : k0_chk3 arg6_r0), ∀ a, (k0_off62 arg6_r0) a + S1x1x128x128.size a ≤ S2x16x256x512.size a := fun arg6_r0 k0_hw3 => k0_hw3.2.2.1.2.2.2.2.2.2.2.2.2.2.2.2.2.2.2.2.2.2.2.2.2.2.2.2.2.2.1
theorem k0_off62_packedbf16 : ∀ (arg6_r0 : BitVec 32) (k0_hw3 : k0_chk3 arg6_r0), (Rect.unit (s := S2x16x256x512) (k0_off62 arg6_r0) S1x1x128x128.size (k0_off62_inb arg6_r0 k0_hw3)).PackedRows (EltTy.packing .bf16) := fun arg6_r0 k0_hw3 => k0_hw3.2.2.1.2.2.2.2.2.2.2.2.2.2.2.2.2.2.2.2.2.2.2.2.2.2.2.2.2.2.2.1 (k0_off62_inb arg6_r0 k0_hw3)
theorem k0_off63_inb : ∀ (arg6_r0 : BitVec 32) (k0_hw3 : k0_chk3 arg6_r0), ∀ a, (k0_off63 arg6_r0) a + S1x1x128x128.size a ≤ S2x16x256x512.size a := fun arg6_r0 k0_hw3 => k0_hw3.2.2.1.2.2.2.2.2.2.2.2.2.2.2.2.2.2.2.2.2.2.2.2.2.2.2.2.2.2.2.2.1
theorem k0_off63_packedbf16 : ∀ (arg6_r0 : BitVec 32) (k0_hw3 : k0_chk3 arg6_r0), (Rect.unit (s := S2x16x256x512) (k0_off63 arg6_r0) S1x1x128x128.size (k0_off63_inb arg6_r0 k0_hw3)).PackedRows (EltTy.packing .bf16) := fun arg6_r0 k0_hw3 => k0_hw3.2.2.1.2.2.2.2.2.2.2.2.2.2.2.2.2.2.2.2.2.2.2.2.2.2.2.2.2.2.2.2.2.1 (k0_off63_inb arg6_r0 k0_hw3)
theorem k0_off64_inb : ∀ (arg6_r0 : BitVec 32) (k0_hw3 : k0_chk3 arg6_r0), ∀ a, (k0_off64 arg6_r0) a + S1x1x128x128.size a ≤ S2x16x256x512.size a := fun arg6_r0 k0_hw3 => k0_hw3.2.2.1.2.2.2.2.2.2.2.2.2.2.2.2.2.2.2.2.2.2.2.2.2.2.2.2.2.2.2.2.2.2.1
theorem k0_off64_packedbf16 : ∀ (arg6_r0 : BitVec 32) (k0_hw3 : k0_chk3 arg6_r0), (Rect.unit (s := S2x16x256x512) (k0_off64 arg6_r0) S1x1x128x128.size (k0_off64_inb arg6_r0 k0_hw3)).PackedRows (EltTy.packing .bf16) := fun arg6_r0 k0_hw3 => k0_hw3.2.2.1.2.2.2.2.2.2.2.2.2.2.2.2.2.2.2.2.2.2.2.2.2.2.2.2.2.2.2.2.2.2.2 (k0_off64_inb arg6_r0 k0_hw3)
theorem k0_off65_inb : ∀ (arg6_r0 : BitVec 32) (k0_hw3 : k0_chk3 arg6_r0), ∀ a, (k0_off65 arg6_r0) a + S1x1x128x128.size a ≤ S2x16x256x512.size a := fun arg6_r0 k0_hw3 => k0_hw3.2.2.2.1.1
theorem k0_off65_packedbf16 : ∀ (arg6_r0 : BitVec 32) (k0_hw3 : k0_chk3 arg6_r0), (Rect.unit (s := S2x16x256x512) (k0_off65 arg6_r0) S1x1x128x128.size (k0_off65_inb arg6_r0 k0_hw3)).PackedRows (EltTy.packing .bf16) := fun arg6_r0 k0_hw3 => k0_hw3.2.2.2.1.2.1 (k0_off65_inb arg6_r0 k0_hw3)
theorem k0_off66_inb : ∀ (arg6_r0 : BitVec 32) (k0_hw3 : k0_chk3 arg6_r0), ∀ a, (k0_off66 arg6_r0) a + S1x1x128x128.size a ≤ S2x16x256x512.size a := fun arg6_r0 k0_hw3 => k0_hw3.2.2.2.1.2.2.1
theorem k0_off66_packedbf16 : ∀ (arg6_r0 : BitVec 32) (k0_hw3 : k0_chk3 arg6_r0), (Rect.unit (s := S2x16x256x512) (k0_off66 arg6_r0) S1x1x128x128.size (k0_off66_inb arg6_r0 k0_hw3)).PackedRows (EltTy.packing .bf16) := fun arg6_r0 k0_hw3 => k0_hw3.2.2.2.1.2.2.2.1 (k0_off66_inb arg6_r0 k0_hw3)
theorem k0_off67_inb : ∀ (arg6_r0 : BitVec 32) (k0_hw3 : k0_chk3 arg6_r0), ∀ a, (k0_off67 arg6_r0) a + S1x1x128x128.size a ≤ S2x16x256x512.size a := fun arg6_r0 k0_hw3 => k0_hw3.2.2.2.1.2.2.2.2.1
theorem k0_off67_packedbf16 : ∀ (arg6_r0 : BitVec 32) (k0_hw3 : k0_chk3 arg6_r0), (Rect.unit (s := S2x16x256x512) (k0_off67 arg6_r0) S1x1x128x128.size (k0_off67_inb arg6_r0 k0_hw3)).PackedRows (EltTy.packing .bf16) := fun arg6_r0 k0_hw3 => k0_hw3.2.2.2.1.2.2.2.2.2.1 (k0_off67_inb arg6_r0 k0_hw3)
theorem k0_off68_inb : ∀ (arg6_r0 : BitVec 32) (k0_hw3 : k0_chk3 arg6_r0), ∀ a, (k0_off68 arg6_r0) a + S1x1x128x128.size a ≤ S2x16x256x512.size a := fun arg6_r0 k0_hw3 => k0_hw3.2.2.2.1.2.2.2.2.2.2.1
theorem k0_off68_packedbf16 : ∀ (arg6_r0 : BitVec 32) (k0_hw3 : k0_chk3 arg6_r0), (Rect.unit (s := S2x16x256x512) (k0_off68 arg6_r0) S1x1x128x128.size (k0_off68_inb arg6_r0 k0_hw3)).PackedRows (EltTy.packing .bf16) := fun arg6_r0 k0_hw3 => k0_hw3.2.2.2.1.2.2.2.2.2.2.2.1 (k0_off68_inb arg6_r0 k0_hw3)
theorem k0_off69_inb : ∀ (arg6_r0 : BitVec 32) (k0_hw3 : k0_chk3 arg6_r0), ∀ a, (k0_off69 arg6_r0) a + S1x1x128x128.size a ≤ S2x16x256x512.size a := fun arg6_r0 k0_hw3 => k0_hw3.2.2.2.1.2.2.2.2.2.2.2.2.1
theorem k0_off69_packedbf16 : ∀ (arg6_r0 : BitVec 32) (k0_hw3 : k0_chk3 arg6_r0), (Rect.unit (s := S2x16x256x512) (k0_off69 arg6_r0) S1x1x128x128.size (k0_off69_inb arg6_r0 k0_hw3)).PackedRows (EltTy.packing .bf16) := fun arg6_r0 k0_hw3 => k0_hw3.2.2.2.1.2.2.2.2.2.2.2.2.2.1 (k0_off69_inb arg6_r0 k0_hw3)
theorem k0_off70_inb : ∀ (arg6_r0 : BitVec 32) (k0_hw3 : k0_chk3 arg6_r0), ∀ a, (k0_off70 arg6_r0) a + S1x1x128x128.size a ≤ S2x16x256x512.size a := fun arg6_r0 k0_hw3 => k0_hw3.2.2.2.1.2.2.2.2.2.2.2.2.2.2.1
theorem k0_off70_packedbf16 : ∀ (arg6_r0 : BitVec 32) (k0_hw3 : k0_chk3 arg6_r0), (Rect.unit (s := S2x16x256x512) (k0_off70 arg6_r0) S1x1x128x128.size (k0_off70_inb arg6_r0 k0_hw3)).PackedRows (EltTy.packing .bf16) := fun arg6_r0 k0_hw3 => k0_hw3.2.2.2.1.2.2.2.2.2.2.2.2.2.2.2.1 (k0_off70_inb arg6_r0 k0_hw3)
theorem k0_off71_inb : ∀ (arg6_r0 : BitVec 32) (k0_hw3 : k0_chk3 arg6_r0), ∀ a, (k0_off71 arg6_r0) a + S1x1x128x128.size a ≤ S2x16x256x512.size a := fun arg6_r0 k0_hw3 => k0_hw3.2.2.2.1.2.2.2.2.2.2.2.2.2.2.2.2.1
theorem k0_off71_packedbf16 : ∀ (arg6_r0 : BitVec 32) (k0_hw3 : k0_chk3 arg6_r0), (Rect.unit (s := S2x16x256x512) (k0_off71 arg6_r0) S1x1x128x128.size (k0_off71_inb arg6_r0 k0_hw3)).PackedRows (EltTy.packing .bf16) := fun arg6_r0 k0_hw3 => k0_hw3.2.2.2.1.2.2.2.2.2.2.2.2.2.2.2.2.2.1 (k0_off71_inb arg6_r0 k0_hw3)
theorem k0_off72_inb : ∀ (arg6_r0 : BitVec 32) (k0_hw3 : k0_chk3 arg6_r0), ∀ a, (k0_off72 arg6_r0) a + S1x1x128x128.size a ≤ S2x16x256x512.size a := fun arg6_r0 k0_hw3 => k0_hw3.2.2.2.1.2.2.2.2.2.2.2.2.2.2.2.2.2.2.1
theorem k0_off72_packedbf16 : ∀ (arg6_r0 : BitVec 32) (k0_hw3 : k0_chk3 arg6_r0), (Rect.unit (s := S2x16x256x512) (k0_off72 arg6_r0) S1x1x128x128.size (k0_off72_inb arg6_r0 k0_hw3)).PackedRows (EltTy.packing .bf16) := fun arg6_r0 k0_hw3 => k0_hw3.2.2.2.1.2.2.2.2.2.2.2.2.2.2.2.2.2.2.2.1 (k0_off72_inb arg6_r0 k0_hw3)
theorem k0_off73_inb : ∀ (arg6_r0 : BitVec 32) (k0_hw3 : k0_chk3 arg6_r0), ∀ a, (k0_off73 arg6_r0) a + S1x1x128x128.size a ≤ S2x16x256x512.size a := fun arg6_r0 k0_hw3 => k0_hw3.2.2.2.1.2.2.2.2.2.2.2.2.2.2.2.2.2.2.2.2.1
theorem k0_off73_packedbf16 : ∀ (arg6_r0 : BitVec 32) (k0_hw3 : k0_chk3 arg6_r0), (Rect.unit (s := S2x16x256x512) (k0_off73 arg6_r0) S1x1x128x128.size (k0_off73_inb arg6_r0 k0_hw3)).PackedRows (EltTy.packing .bf16) := fun arg6_r0 k0_hw3 => k0_hw3.2.2.2.1.2.2.2.2.2.2.2.2.2.2.2.2.2.2.2.2.2.1 (k0_off73_inb arg6_r0 k0_hw3)
theorem k0_off74_inb : ∀ (arg6_r0 : BitVec 32) (k0_hw3 : k0_chk3 arg6_r0), ∀ a, (k0_off74 arg6_r0) a + S1x1x128x128.size a ≤ S2x16x256x512.size a := fun arg6_r0 k0_hw3 => k0_hw3.2.2.2.1.2.2.2.2.2.2.2.2.2.2.2.2.2.2.2.2.2.2.1
theorem k0_off74_packedbf16 : ∀ (arg6_r0 : BitVec 32) (k0_hw3 : k0_chk3 arg6_r0), (Rect.unit (s := S2x16x256x512) (k0_off74 arg6_r0) S1x1x128x128.size (k0_off74_inb arg6_r0 k0_hw3)).PackedRows (EltTy.packing .bf16) := fun arg6_r0 k0_hw3 => k0_hw3.2.2.2.1.2.2.2.2.2.2.2.2.2.2.2.2.2.2.2.2.2.2.2.1 (k0_off74_inb arg6_r0 k0_hw3)
theorem k0_off75_inb : ∀ (arg6_r0 : BitVec 32) (k0_hw3 : k0_chk3 arg6_r0), ∀ a, (k0_off75 arg6_r0) a + S1x1x128x128.size a ≤ S2x16x256x512.size a := fun arg6_r0 k0_hw3 => k0_hw3.2.2.2.1.2.2.2.2.2.2.2.2.2.2.2.2.2.2.2.2.2.2.2.2.1
theorem k0_off75_packedbf16 : ∀ (arg6_r0 : BitVec 32) (k0_hw3 : k0_chk3 arg6_r0), (Rect.unit (s := S2x16x256x512) (k0_off75 arg6_r0) S1x1x128x128.size (k0_off75_inb arg6_r0 k0_hw3)).PackedRows (EltTy.packing .bf16) := fun arg6_r0 k0_hw3 => k0_hw3.2.2.2.1.2.2.2.2.2.2.2.2.2.2.2.2.2.2.2.2.2.2.2.2.2.1 (k0_off75_inb arg6_r0 k0_hw3)
theorem k0_off76_inb : ∀ (arg6_r0 : BitVec 32) (k0_hw3 : k0_chk3 arg6_r0), ∀ a, (k0_off76 arg6_r0) a + S1x1x128x128.size a ≤ S2x16x256x512.size a := fun arg6_r0 k0_hw3 => k0_hw3.2.2.2.1.2.2.2.2.2.2.2.2.2.2.2.2.2.2.2.2.2.2.2.2.2.2.1
theorem k0_off76_packedbf16 : ∀ (arg6_r0 : BitVec 32) (k0_hw3 : k0_chk3 arg6_r0), (Rect.unit (s := S2x16x256x512) (k0_off76 arg6_r0) S1x1x128x128.size (k0_off76_inb arg6_r0 k0_hw3)).PackedRows (EltTy.packing .bf16) := fun arg6_r0 k0_hw3 => k0_hw3.2.2.2.1.2.2.2.2.2.2.2.2.2.2.2.2.2.2.2.2.2.2.2.2.2.2.2.1 (k0_off76_inb arg6_r0 k0_hw3)
theorem k0_off77_inb : ∀ (arg6_r0 : BitVec 32) (k0_hw3 : k0_chk3 arg6_r0), ∀ a, (k0_off77 arg6_r0) a + S1x1x128x128.size a ≤ S2x16x256x512.size a := fun arg6_r0 k0_hw3 => k0_hw3.2.2.2.1.2.2.2.2.2.2.2.2.2.2.2.2.2.2.2.2.2.2.2.2.2.2.2.2.1
theorem k0_off77_packedbf16 : ∀ (arg6_r0 : BitVec 32) (k0_hw3 : k0_chk3 arg6_r0), (Rect.unit (s := S2x16x256x512) (k0_off77 arg6_r0) S1x1x128x128.size (k0_off77_inb arg6_r0 k0_hw3)).PackedRows (EltTy.packing .bf16) := fun arg6_r0 k0_hw3 => k0_hw3.2.2.2.1.2.2.2.2.2.2.2.2.2.2.2.2.2.2.2.2.2.2.2.2.2.2.2.2.2.1 (k0_off77_inb arg6_r0 k0_hw3)
theorem k0_off78_inb : ∀ (arg6_r0 : BitVec 32) (k0_hw3 : k0_chk3 arg6_r0), ∀ a, (k0_off78 arg6_r0) a + S1x1x128x128.size a ≤ S2x16x256x512.size a := fun arg6_r0 k0_hw3 => k0_hw3.2.2.2.1.2.2.2.2.2.2.2.2.2.2.2.2.2.2.2.2.2.2.2.2.2.2.2.2.2.2.1
theorem k0_off78_packedbf16 : ∀ (arg6_r0 : BitVec 32) (k0_hw3 : k0_chk3 arg6_r0), (Rect.unit (s := S2x16x256x512) (k0_off78 arg6_r0) S1x1x128x128.size (k0_off78_inb arg6_r0 k0_hw3)).PackedRows (EltTy.packing .bf16) := fun arg6_r0 k0_hw3 => k0_hw3.2.2.2.1.2.2.2.2.2.2.2.2.2.2.2.2.2.2.2.2.2.2.2.2.2.2.2.2.2.2.2.1 (k0_off78_inb arg6_r0 k0_hw3)
theorem k0_off79_inb : ∀ (arg6_r0 : BitVec 32) (k0_hw3 : k0_chk3 arg6_r0), ∀ a, (k0_off79 arg6_r0) a + S1x1x128x128.size a ≤ S2x16x256x512.size a := fun arg6_r0 k0_hw3 => k0_hw3.2.2.2.1.2.2.2.2.2.2.2.2.2.2.2.2.2.2.2.2.2.2.2.2.2.2.2.2.2.2.2.2.1
theorem k0_off79_packedbf16 : ∀ (arg6_r0 : BitVec 32) (k0_hw3 : k0_chk3 arg6_r0), (Rect.unit (s := S2x16x256x512) (k0_off79 arg6_r0) S1x1x128x128.size (k0_off79_inb arg6_r0 k0_hw3)).PackedRows (EltTy.packing .bf16) := fun arg6_r0 k0_hw3 => k0_hw3.2.2.2.1.2.2.2.2.2.2.2.2.2.2.2.2.2.2.2.2.2.2.2.2.2.2.2.2.2.2.2.2.2.1 (k0_off79_inb arg6_r0 k0_hw3)
theorem k0_off80_inb : ∀ (arg6_r0 : BitVec 32) (k0_hw3 : k0_chk3 arg6_r0), ∀ a, (k0_off80 arg6_r0) a + S1x1x128x128.size a ≤ S2x16x256x512.size a := fun arg6_r0 k0_hw3 => k0_hw3.2.2.2.1.2.2.2.2.2.2.2.2.2.2.2.2.2.2.2.2.2.2.2.2.2.2.2.2.2.2.2.2.2.2.1
theorem k0_off80_packedbf16 : ∀ (arg6_r0 : BitVec 32) (k0_hw3 : k0_chk3 arg6_r0), (Rect.unit (s := S2x16x256x512) (k0_off80 arg6_r0) S1x1x128x128.size (k0_off80_inb arg6_r0 k0_hw3)).PackedRows (EltTy.packing .bf16) := fun arg6_r0 k0_hw3 => k0_hw3.2.2.2.1.2.2.2.2.2.2.2.2.2.2.2.2.2.2.2.2.2.2.2.2.2.2.2.2.2.2.2.2.2.2.2 (k0_off80_inb arg6_r0 k0_hw3)
theorem k0_off81_inb : ∀ (arg6_r0 : BitVec 32) (k0_hw3 : k0_chk3 arg6_r0), ∀ a, (k0_off81 arg6_r0) a + S1x1x128x128.size a ≤ S2x16x256x512.size a := fun arg6_r0 k0_hw3 => k0_hw3.2.2.2.2.1.1
theorem k0_off81_packedbf16 : ∀ (arg6_r0 : BitVec 32) (k0_hw3 : k0_chk3 arg6_r0), (Rect.unit (s := S2x16x256x512) (k0_off81 arg6_r0) S1x1x128x128.size (k0_off81_inb arg6_r0 k0_hw3)).PackedRows (EltTy.packing .bf16) := fun arg6_r0 k0_hw3 => k0_hw3.2.2.2.2.1.2.1 (k0_off81_inb arg6_r0 k0_hw3)
theorem k0_off82_inb : ∀ (arg6_r0 : BitVec 32) (k0_hw3 : k0_chk3 arg6_r0), ∀ a, (k0_off82 arg6_r0) a + S1x1x128x128.size a ≤ S2x16x256x512.size a := fun arg6_r0 k0_hw3 => k0_hw3.2.2.2.2.1.2.2.1
theorem k0_off82_packedbf16 : ∀ (arg6_r0 : BitVec 32) (k0_hw3 : k0_chk3 arg6_r0), (Rect.unit (s := S2x16x256x512) (k0_off82 arg6_r0) S1x1x128x128.size (k0_off82_inb arg6_r0 k0_hw3)).PackedRows (EltTy.packing .bf16) := fun arg6_r0 k0_hw3 => k0_hw3.2.2.2.2.1.2.2.2.1 (k0_off82_inb arg6_r0 k0_hw3)
theorem k0_off83_inb : ∀ (arg6_r0 : BitVec 32) (k0_hw3 : k0_chk3 arg6_r0), ∀ a, (k0_off83 arg6_r0) a + S1x1x128x128.size a ≤ S2x16x256x512.size a := fun arg6_r0 k0_hw3 => k0_hw3.2.2.2.2.1.2.2.2.2.1
theorem k0_off83_packedbf16 : ∀ (arg6_r0 : BitVec 32) (k0_hw3 : k0_chk3 arg6_r0), (Rect.unit (s := S2x16x256x512) (k0_off83 arg6_r0) S1x1x128x128.size (k0_off83_inb arg6_r0 k0_hw3)).PackedRows (EltTy.packing .bf16) := fun arg6_r0 k0_hw3 => k0_hw3.2.2.2.2.1.2.2.2.2.2.1 (k0_off83_inb arg6_r0 k0_hw3)
theorem k0_off84_inb : ∀ (arg6_r0 : BitVec 32) (k0_hw3 : k0_chk3 arg6_r0), ∀ a, (k0_off84 arg6_r0) a + S1x1x128x128.size a ≤ S2x16x256x512.size a := fun arg6_r0 k0_hw3 => k0_hw3.2.2.2.2.1.2.2.2.2.2.2.1
theorem k0_off84_packedbf16 : ∀ (arg6_r0 : BitVec 32) (k0_hw3 : k0_chk3 arg6_r0), (Rect.unit (s := S2x16x256x512) (k0_off84 arg6_r0) S1x1x128x128.size (k0_off84_inb arg6_r0 k0_hw3)).PackedRows (EltTy.packing .bf16) := fun arg6_r0 k0_hw3 => k0_hw3.2.2.2.2.1.2.2.2.2.2.2.2.1 (k0_off84_inb arg6_r0 k0_hw3)
theorem k0_off85_inb : ∀ (arg6_r0 : BitVec 32) (k0_hw3 : k0_chk3 arg6_r0), ∀ a, (k0_off85 arg6_r0) a + S1x1x128x128.size a ≤ S2x16x256x512.size a := fun arg6_r0 k0_hw3 => k0_hw3.2.2.2.2.1.2.2.2.2.2.2.2.2.1
theorem k0_off85_packedbf16 : ∀ (arg6_r0 : BitVec 32) (k0_hw3 : k0_chk3 arg6_r0), (Rect.unit (s := S2x16x256x512) (k0_off85 arg6_r0) S1x1x128x128.size (k0_off85_inb arg6_r0 k0_hw3)).PackedRows (EltTy.packing .bf16) := fun arg6_r0 k0_hw3 => k0_hw3.2.2.2.2.1.2.2.2.2.2.2.2.2.2.1 (k0_off85_inb arg6_r0 k0_hw3)
theorem k0_off86_inb : ∀ (arg6_r0 : BitVec 32) (k0_hw3 : k0_chk3 arg6_r0), ∀ a, (k0_off86 arg6_r0) a + S1x1x128x128.size a ≤ S2x16x256x512.size a := fun arg6_r0 k0_hw3 => k0_hw3.2.2.2.2.1.2.2.2.2.2.2.2.2.2.2.1
theorem k0_off86_packedbf16 : ∀ (arg6_r0 : BitVec 32) (k0_hw3 : k0_chk3 arg6_r0), (Rect.unit (s := S2x16x256x512) (k0_off86 arg6_r0) S1x1x128x128.size (k0_off86_inb arg6_r0 k0_hw3)).PackedRows (EltTy.packing .bf16) := fun arg6_r0 k0_hw3 => k0_hw3.2.2.2.2.1.2.2.2.2.2.2.2.2.2.2.2.1 (k0_off86_inb arg6_r0 k0_hw3)
theorem k0_off87_inb : ∀ (arg6_r0 : BitVec 32) (k0_hw3 : k0_chk3 arg6_r0), ∀ a, (k0_off87 arg6_r0) a + S1x1x128x128.size a ≤ S2x16x256x512.size a := fun arg6_r0 k0_hw3 => k0_hw3.2.2.2.2.1.2.2.2.2.2.2.2.2.2.2.2.2.1
theorem k0_off87_packedbf16 : ∀ (arg6_r0 : BitVec 32) (k0_hw3 : k0_chk3 arg6_r0), (Rect.unit (s := S2x16x256x512) (k0_off87 arg6_r0) S1x1x128x128.size (k0_off87_inb arg6_r0 k0_hw3)).PackedRows (EltTy.packing .bf16) := fun arg6_r0 k0_hw3 => k0_hw3.2.2.2.2.1.2.2.2.2.2.2.2.2.2.2.2.2.2.1 (k0_off87_inb arg6_r0 k0_hw3)
theorem k0_off88_inb : ∀ (arg6_r0 : BitVec 32) (k0_hw3 : k0_chk3 arg6_r0), ∀ a, (k0_off88 arg6_r0) a + S1x1x128x128.size a ≤ S2x16x256x512.size a := fun arg6_r0 k0_hw3 => k0_hw3.2.2.2.2.1.2.2.2.2.2.2.2.2.2.2.2.2.2.2.1
theorem k0_off88_packedbf16 : ∀ (arg6_r0 : BitVec 32) (k0_hw3 : k0_chk3 arg6_r0), (Rect.unit (s := S2x16x256x512) (k0_off88 arg6_r0) S1x1x128x128.size (k0_off88_inb arg6_r0 k0_hw3)).PackedRows (EltTy.packing .bf16) := fun arg6_r0 k0_hw3 => k0_hw3.2.2.2.2.1.2.2.2.2.2.2.2.2.2.2.2.2.2.2.2.1 (k0_off88_inb arg6_r0 k0_hw3)
theorem k0_off89_inb : ∀ (arg6_r0 : BitVec 32) (k0_hw3 : k0_chk3 arg6_r0), ∀ a, (k0_off89 arg6_r0) a + S1x1x128x128.size a ≤ S2x16x256x512.size a := fun arg6_r0 k0_hw3 => k0_hw3.2.2.2.2.1.2.2.2.2.2.2.2.2.2.2.2.2.2.2.2.2.1
theorem k0_off89_packedbf16 : ∀ (arg6_r0 : BitVec 32) (k0_hw3 : k0_chk3 arg6_r0), (Rect.unit (s := S2x16x256x512) (k0_off89 arg6_r0) S1x1x128x128.size (k0_off89_inb arg6_r0 k0_hw3)).PackedRows (EltTy.packing .bf16) := fun arg6_r0 k0_hw3 => k0_hw3.2.2.2.2.1.2.2.2.2.2.2.2.2.2.2.2.2.2.2.2.2.2.1 (k0_off89_inb arg6_r0 k0_hw3)
theorem k0_off90_inb : ∀ (arg6_r0 : BitVec 32) (k0_hw3 : k0_chk3 arg6_r0), ∀ a, (k0_off90 arg6_r0) a + S1x1x128x128.size a ≤ S2x16x256x512.size a := fun arg6_r0 k0_hw3 => k0_hw3.2.2.2.2.1.2.2.2.2.2.2.2.2.2.2.2.2.2.2.2.2.2.2.1
theorem k0_off90_packedbf16 : ∀ (arg6_r0 : BitVec 32) (k0_hw3 : k0_chk3 arg6_r0), (Rect.unit (s := S2x16x256x512) (k0_off90 arg6_r0) S1x1x128x128.size (k0_off90_inb arg6_r0 k0_hw3)).PackedRows (EltTy.packing .bf16) := fun arg6_r0 k0_hw3 => k0_hw3.2.2.2.2.1.2.2.2.2.2.2.2.2.2.2.2.2.2.2.2.2.2.2.2.1 (k0_off90_inb arg6_r0 k0_hw3)
theorem k0_off91_inb : ∀ (arg6_r0 : BitVec 32) (k0_hw3 : k0_chk3 arg6_r0), ∀ a, (k0_off91 arg6_r0) a + S1x1x128x128.size a ≤ S2x16x256x512.size a := fun arg6_r0 k0_hw3 => k0_hw3.2.2.2.2.1.2.2.2.2.2.2.2.2.2.2.2.2.2.2.2.2.2.2.2.2.1
theorem k0_off91_packedbf16 : ∀ (arg6_r0 : BitVec 32) (k0_hw3 : k0_chk3 arg6_r0), (Rect.unit (s := S2x16x256x512) (k0_off91 arg6_r0) S1x1x128x128.size (k0_off91_inb arg6_r0 k0_hw3)).PackedRows (EltTy.packing .bf16) := fun arg6_r0 k0_hw3 => k0_hw3.2.2.2.2.1.2.2.2.2.2.2.2.2.2.2.2.2.2.2.2.2.2.2.2.2.2.1 (k0_off91_inb arg6_r0 k0_hw3)
theorem k0_off92_inb : ∀ (arg6_r0 : BitVec 32) (k0_hw3 : k0_chk3 arg6_r0), ∀ a, (k0_off92 arg6_r0) a + S1x1x128x128.size a ≤ S2x16x256x512.size a := fun arg6_r0 k0_hw3 => k0_hw3.2.2.2.2.1.2.2.2.2.2.2.2.2.2.2.2.2.2.2.2.2.2.2.2.2.2.2.1
theorem k0_off92_packedbf16 : ∀ (arg6_r0 : BitVec 32) (k0_hw3 : k0_chk3 arg6_r0), (Rect.unit (s := S2x16x256x512) (k0_off92 arg6_r0) S1x1x128x128.size (k0_off92_inb arg6_r0 k0_hw3)).PackedRows (EltTy.packing .bf16) := fun arg6_r0 k0_hw3 => k0_hw3.2.2.2.2.1.2.2.2.2.2.2.2.2.2.2.2.2.2.2.2.2.2.2.2.2.2.2.2.1 (k0_off92_inb arg6_r0 k0_hw3)
theorem k0_off93_inb : ∀ (arg6_r0 : BitVec 32) (k0_hw3 : k0_chk3 arg6_r0), ∀ a, (k0_off93 arg6_r0) a + S1x1x128x128.size a ≤ S2x16x256x512.size a := fun arg6_r0 k0_hw3 => k0_hw3.2.2.2.2.1.2.2.2.2.2.2.2.2.2.2.2.2.2.2.2.2.2.2.2.2.2.2.2.2.1
theorem k0_off93_packedbf16 : ∀ (arg6_r0 : BitVec 32) (k0_hw3 : k0_chk3 arg6_r0), (Rect.unit (s := S2x16x256x512) (k0_off93 arg6_r0) S1x1x128x128.size (k0_off93_inb arg6_r0 k0_hw3)).PackedRows (EltTy.packing .bf16) := fun arg6_r0 k0_hw3 => k0_hw3.2.2.2.2.1.2.2.2.2.2.2.2.2.2.2.2.2.2.2.2.2.2.2.2.2.2.2.2.2.2.1 (k0_off93_inb arg6_r0 k0_hw3)
theorem k0_off94_inb : ∀ (arg6_r0 : BitVec 32) (k0_hw3 : k0_chk3 arg6_r0), ∀ a, (k0_off94 arg6_r0) a + S1x1x128x128.size a ≤ S2x16x256x512.size a := fun arg6_r0 k0_hw3 => k0_hw3.2.2.2.2.1.2.2.2.2.2.2.2.2.2.2.2.2.2.2.2.2.2.2.2.2.2.2.2.2.2.2.1
theorem k0_off94_packedbf16 : ∀ (arg6_r0 : BitVec 32) (k0_hw3 : k0_chk3 arg6_r0), (Rect.unit (s := S2x16x256x512) (k0_off94 arg6_r0) S1x1x128x128.size (k0_off94_inb arg6_r0 k0_hw3)).PackedRows (EltTy.packing .bf16) := fun arg6_r0 k0_hw3 => k0_hw3.2.2.2.2.1.2.2.2.2.2.2.2.2.2.2.2.2.2.2.2.2.2.2.2.2.2.2.2.2.2.2.2.1 (k0_off94_inb arg6_r0 k0_hw3)
theorem k0_off95_inb : ∀ (arg6_r0 : BitVec 32) (k0_hw3 : k0_chk3 arg6_r0), ∀ a, (k0_off95 arg6_r0) a + S1x1x128x128.size a ≤ S2x16x256x512.size a := fun arg6_r0 k0_hw3 => k0_hw3.2.2.2.2.1.2.2.2.2.2.2.2.2.2.2.2.2.2.2.2.2.2.2.2.2.2.2.2.2.2.2.2.2.1
theorem k0_off95_packedbf16 : ∀ (arg6_r0 : BitVec 32) (k0_hw3 : k0_chk3 arg6_r0), (Rect.unit (s := S2x16x256x512) (k0_off95 arg6_r0) S1x1x128x128.size (k0_off95_inb arg6_r0 k0_hw3)).PackedRows (EltTy.packing .bf16) := fun arg6_r0 k0_hw3 => k0_hw3.2.2.2.2.1.2.2.2.2.2.2.2.2.2.2.2.2.2.2.2.2.2.2.2.2.2.2.2.2.2.2.2.2.2.1 (k0_off95_inb arg6_r0 k0_hw3)
theorem k0_off96_inb : ∀ (arg6_r0 : BitVec 32) (k0_hw3 : k0_chk3 arg6_r0), ∀ a, (k0_off96 arg6_r0) a + S1x1x128x128.size a ≤ S2x16x256x512.size a := fun arg6_r0 k0_hw3 => k0_hw3.2.2.2.2.1.2.2.2.2.2.2.2.2.2.2.2.2.2.2.2.2.2.2.2.2.2.2.2.2.2.2.2.2.2.2.1
theorem k0_off96_packedbf16 : ∀ (arg6_r0 : BitVec 32) (k0_hw3 : k0_chk3 arg6_r0), (Rect.unit (s := S2x16x256x512) (k0_off96 arg6_r0) S1x1x128x128.size (k0_off96_inb arg6_r0 k0_hw3)).PackedRows (EltTy.packing .bf16) := fun arg6_r0 k0_hw3 => k0_hw3.2.2.2.2.1.2.2.2.2.2.2.2.2.2.2.2.2.2.2.2.2.2.2.2.2.2.2.2.2.2.2.2.2.2.2.2 (k0_off96_inb arg6_r0 k0_hw3)
theorem k0_off97_inb : ∀ (arg6_r0 : BitVec 32) (k0_hw3 : k0_chk3 arg6_r0), ∀ a, (k0_off97 arg6_r0) a + S1x1x128x128.size a ≤ S2x16x256x512.size a := fun arg6_r0 k0_hw3 => k0_hw3.2.2.2.2.2.1.1
theorem k0_off97_packedbf16 : ∀ (arg6_r0 : BitVec 32) (k0_hw3 : k0_chk3 arg6_r0), (Rect.unit (s := S2x16x256x512) (k0_off97 arg6_r0) S1x1x128x128.size (k0_off97_inb arg6_r0 k0_hw3)).PackedRows (EltTy.packing .bf16) := fun arg6_r0 k0_hw3 => k0_hw3.2.2.2.2.2.1.2.1 (k0_off97_inb arg6_r0 k0_hw3)
theorem k0_off98_inb : ∀ (arg6_r0 : BitVec 32) (k0_hw3 : k0_chk3 arg6_r0), ∀ a, (k0_off98 arg6_r0) a + S1x1x128x128.size a ≤ S2x16x256x512.size a := fun arg6_r0 k0_hw3 => k0_hw3.2.2.2.2.2.1.2.2.1
theorem k0_off98_packedbf16 : ∀ (arg6_r0 : BitVec 32) (k0_hw3 : k0_chk3 arg6_r0), (Rect.unit (s := S2x16x256x512) (k0_off98 arg6_r0) S1x1x128x128.size (k0_off98_inb arg6_r0 k0_hw3)).PackedRows (EltTy.packing .bf16) := fun arg6_r0 k0_hw3 => k0_hw3.2.2.2.2.2.1.2.2.2.1 (k0_off98_inb arg6_r0 k0_hw3)
theorem k0_off99_inb : ∀ (arg6_r0 : BitVec 32) (k0_hw3 : k0_chk3 arg6_r0), ∀ a, (k0_off99 arg6_r0) a + S1x1x128x128.size a ≤ S2x16x256x512.size a := fun arg6_r0 k0_hw3 => k0_hw3.2.2.2.2.2.1.2.2.2.2.1
theorem k0_off99_packedbf16 : ∀ (arg6_r0 : BitVec 32) (k0_hw3 : k0_chk3 arg6_r0), (Rect.unit (s := S2x16x256x512) (k0_off99 arg6_r0) S1x1x128x128.size (k0_off99_inb arg6_r0 k0_hw3)).PackedRows (EltTy.packing .bf16) := fun arg6_r0 k0_hw3 => k0_hw3.2.2.2.2.2.1.2.2.2.2.2.1 (k0_off99_inb arg6_r0 k0_hw3)
theorem k0_off100_inb : ∀ (arg6_r0 : BitVec 32) (k0_hw3 : k0_chk3 arg6_r0), ∀ a, (k0_off100 arg6_r0) a + S1x1x128x128.size a ≤ S2x16x256x512.size a := fun arg6_r0 k0_hw3 => k0_hw3.2.2.2.2.2.1.2.2.2.2.2.2.1
theorem k0_off100_packedbf16 : ∀ (arg6_r0 : BitVec 32) (k0_hw3 : k0_chk3 arg6_r0), (Rect.unit (s := S2x16x256x512) (k0_off100 arg6_r0) S1x1x128x128.size (k0_off100_inb arg6_r0 k0_hw3)).PackedRows (EltTy.packing .bf16) := fun arg6_r0 k0_hw3 => k0_hw3.2.2.2.2.2.1.2.2.2.2.2.2.2.1 (k0_off100_inb arg6_r0 k0_hw3)
theorem k0_off101_inb : ∀ (arg6_r0 : BitVec 32) (k0_hw3 : k0_chk3 arg6_r0), ∀ a, (k0_off101 arg6_r0) a + S1x1x128x128.size a ≤ S2x16x256x512.size a := fun arg6_r0 k0_hw3 => k0_hw3.2.2.2.2.2.1.2.2.2.2.2.2.2.2.1
theorem k0_off101_packedbf16 : ∀ (arg6_r0 : BitVec 32) (k0_hw3 : k0_chk3 arg6_r0), (Rect.unit (s := S2x16x256x512) (k0_off101 arg6_r0) S1x1x128x128.size (k0_off101_inb arg6_r0 k0_hw3)).PackedRows (EltTy.packing .bf16) := fun arg6_r0 k0_hw3 => k0_hw3.2.2.2.2.2.1.2.2.2.2.2.2.2.2.2.1 (k0_off101_inb arg6_r0 k0_hw3)
theorem k0_off102_inb : ∀ (arg6_r0 : BitVec 32) (k0_hw3 : k0_chk3 arg6_r0), ∀ a, (k0_off102 arg6_r0) a + S1x1x128x128.size a ≤ S2x16x256x512.size a := fun arg6_r0 k0_hw3 => k0_hw3.2.2.2.2.2.1.2.2.2.2.2.2.2.2.2.2.1
theorem k0_off102_packedbf16 : ∀ (arg6_r0 : BitVec 32) (k0_hw3 : k0_chk3 arg6_r0), (Rect.unit (s := S2x16x256x512) (k0_off102 arg6_r0) S1x1x128x128.size (k0_off102_inb arg6_r0 k0_hw3)).PackedRows (EltTy.packing .bf16) := fun arg6_r0 k0_hw3 => k0_hw3.2.2.2.2.2.1.2.2.2.2.2.2.2.2.2.2.2.1 (k0_off102_inb arg6_r0 k0_hw3)
theorem k0_off103_inb : ∀ (arg6_r0 : BitVec 32) (k0_hw3 : k0_chk3 arg6_r0), ∀ a, (k0_off103 arg6_r0) a + S1x1x128x128.size a ≤ S2x16x256x512.size a := fun arg6_r0 k0_hw3 => k0_hw3.2.2.2.2.2.1.2.2.2.2.2.2.2.2.2.2.2.2.1
theorem k0_off103_packedbf16 : ∀ (arg6_r0 : BitVec 32) (k0_hw3 : k0_chk3 arg6_r0), (Rect.unit (s := S2x16x256x512) (k0_off103 arg6_r0) S1x1x128x128.size (k0_off103_inb arg6_r0 k0_hw3)).PackedRows (EltTy.packing .bf16) := fun arg6_r0 k0_hw3 => k0_hw3.2.2.2.2.2.1.2.2.2.2.2.2.2.2.2.2.2.2.2.1 (k0_off103_inb arg6_r0 k0_hw3)
theorem k0_off104_inb : ∀ (arg6_r0 : BitVec 32) (k0_hw3 : k0_chk3 arg6_r0), ∀ a, (k0_off104 arg6_r0) a + S1x1x128x128.size a ≤ S2x16x256x512.size a := fun arg6_r0 k0_hw3 => k0_hw3.2.2.2.2.2.1.2.2.2.2.2.2.2.2.2.2.2.2.2.2.1
theorem k0_off104_packedbf16 : ∀ (arg6_r0 : BitVec 32) (k0_hw3 : k0_chk3 arg6_r0), (Rect.unit (s := S2x16x256x512) (k0_off104 arg6_r0) S1x1x128x128.size (k0_off104_inb arg6_r0 k0_hw3)).PackedRows (EltTy.packing .bf16) := fun arg6_r0 k0_hw3 => k0_hw3.2.2.2.2.2.1.2.2.2.2.2.2.2.2.2.2.2.2.2.2.2.1 (k0_off104_inb arg6_r0 k0_hw3)
theorem k0_off105_inb : ∀ (arg6_r0 : BitVec 32) (k0_hw3 : k0_chk3 arg6_r0), ∀ a, (k0_off105 arg6_r0) a + S1x1x128x128.size a ≤ S2x16x256x512.size a := fun arg6_r0 k0_hw3 => k0_hw3.2.2.2.2.2.1.2.2.2.2.2.2.2.2.2.2.2.2.2.2.2.2.1
theorem k0_off105_packedbf16 : ∀ (arg6_r0 : BitVec 32) (k0_hw3 : k0_chk3 arg6_r0), (Rect.unit (s := S2x16x256x512) (k0_off105 arg6_r0) S1x1x128x128.size (k0_off105_inb arg6_r0 k0_hw3)).PackedRows (EltTy.packing .bf16) := fun arg6_r0 k0_hw3 => k0_hw3.2.2.2.2.2.1.2.2.2.2.2.2.2.2.2.2.2.2.2.2.2.2.2.1 (k0_off105_inb arg6_r0 k0_hw3)
theorem k0_off106_inb : ∀ (arg6_r0 : BitVec 32) (k0_hw3 : k0_chk3 arg6_r0), ∀ a, (k0_off106 arg6_r0) a + S1x1x128x128.size a ≤ S2x16x256x512.size a := fun arg6_r0 k0_hw3 => k0_hw3.2.2.2.2.2.1.2.2.2.2.2.2.2.2.2.2.2.2.2.2.2.2.2.2.1
theorem k0_off106_packedbf16 : ∀ (arg6_r0 : BitVec 32) (k0_hw3 : k0_chk3 arg6_r0), (Rect.unit (s := S2x16x256x512) (k0_off106 arg6_r0) S1x1x128x128.size (k0_off106_inb arg6_r0 k0_hw3)).PackedRows (EltTy.packing .bf16) := fun arg6_r0 k0_hw3 => k0_hw3.2.2.2.2.2.1.2.2.2.2.2.2.2.2.2.2.2.2.2.2.2.2.2.2.2.1 (k0_off106_inb arg6_r0 k0_hw3)
theorem k0_off107_inb : ∀ (arg6_r0 : BitVec 32) (k0_hw3 : k0_chk3 arg6_r0), ∀ a, (k0_off107 arg6_r0) a + S1x1x128x128.size a ≤ S2x16x256x512.size a := fun arg6_r0 k0_hw3 => k0_hw3.2.2.2.2.2.1.2.2.2.2.2.2.2.2.2.2.2.2.2.2.2.2.2.2.2.2.1
theorem k0_off107_packedbf16 : ∀ (arg6_r0 : BitVec 32) (k0_hw3 : k0_chk3 arg6_r0), (Rect.unit (s := S2x16x256x512) (k0_off107 arg6_r0) S1x1x128x128.size (k0_off107_inb arg6_r0 k0_hw3)).PackedRows (EltTy.packing .bf16) := fun arg6_r0 k0_hw3 => k0_hw3.2.2.2.2.2.1.2.2.2.2.2.2.2.2.2.2.2.2.2.2.2.2.2.2.2.2.2.1 (k0_off107_inb arg6_r0 k0_hw3)
theorem k0_off108_inb : ∀ (arg6_r0 : BitVec 32) (k0_hw3 : k0_chk3 arg6_r0), ∀ a, (k0_off108 arg6_r0) a + S1x1x128x128.size a ≤ S2x16x256x512.size a := fun arg6_r0 k0_hw3 => k0_hw3.2.2.2.2.2.1.2.2.2.2.2.2.2.2.2.2.2.2.2.2.2.2.2.2.2.2.2.2.1
theorem k0_off108_packedbf16 : ∀ (arg6_r0 : BitVec 32) (k0_hw3 : k0_chk3 arg6_r0), (Rect.unit (s := S2x16x256x512) (k0_off108 arg6_r0) S1x1x128x128.size (k0_off108_inb arg6_r0 k0_hw3)).PackedRows (EltTy.packing .bf16) := fun arg6_r0 k0_hw3 => k0_hw3.2.2.2.2.2.1.2.2.2.2.2.2.2.2.2.2.2.2.2.2.2.2.2.2.2.2.2.2.2.1 (k0_off108_inb arg6_r0 k0_hw3)
theorem k0_off109_inb : ∀ (arg6_r0 : BitVec 32) (k0_hw3 : k0_chk3 arg6_r0), ∀ a, (k0_off109 arg6_r0) a + S1x1x128x128.size a ≤ S2x16x256x512.size a := fun arg6_r0 k0_hw3 => k0_hw3.2.2.2.2.2.1.2.2.2.2.2.2.2.2.2.2.2.2.2.2.2.2.2.2.2.2.2.2.2.2.1
theorem k0_off109_packedbf16 : ∀ (arg6_r0 : BitVec 32) (k0_hw3 : k0_chk3 arg6_r0), (Rect.unit (s := S2x16x256x512) (k0_off109 arg6_r0) S1x1x128x128.size (k0_off109_inb arg6_r0 k0_hw3)).PackedRows (EltTy.packing .bf16) := fun arg6_r0 k0_hw3 => k0_hw3.2.2.2.2.2.1.2.2.2.2.2.2.2.2.2.2.2.2.2.2.2.2.2.2.2.2.2.2.2.2.2.1 (k0_off109_inb arg6_r0 k0_hw3)
theorem k0_off110_inb : ∀ (arg6_r0 : BitVec 32) (k0_hw3 : k0_chk3 arg6_r0), ∀ a, (k0_off110 arg6_r0) a + S1x1x128x128.size a ≤ S2x16x256x512.size a := fun arg6_r0 k0_hw3 => k0_hw3.2.2.2.2.2.1.2.2.2.2.2.2.2.2.2.2.2.2.2.2.2.2.2.2.2.2.2.2.2.2.2.2.1
theorem k0_off110_packedbf16 : ∀ (arg6_r0 : BitVec 32) (k0_hw3 : k0_chk3 arg6_r0), (Rect.unit (s := S2x16x256x512) (k0_off110 arg6_r0) S1x1x128x128.size (k0_off110_inb arg6_r0 k0_hw3)).PackedRows (EltTy.packing .bf16) := fun arg6_r0 k0_hw3 => k0_hw3.2.2.2.2.2.1.2.2.2.2.2.2.2.2.2.2.2.2.2.2.2.2.2.2.2.2.2.2.2.2.2.2.2.1 (k0_off110_inb arg6_r0 k0_hw3)
theorem k0_off111_inb : ∀ (arg6_r0 : BitVec 32) (k0_hw3 : k0_chk3 arg6_r0), ∀ a, (k0_off111 arg6_r0) a + S1x1x128x128.size a ≤ S2x16x256x512.size a := fun arg6_r0 k0_hw3 => k0_hw3.2.2.2.2.2.1.2.2.2.2.2.2.2.2.2.2.2.2.2.2.2.2.2.2.2.2.2.2.2.2.2.2.2.2.1
theorem k0_off111_packedbf16 : ∀ (arg6_r0 : BitVec 32) (k0_hw3 : k0_chk3 arg6_r0), (Rect.unit (s := S2x16x256x512) (k0_off111 arg6_r0) S1x1x128x128.size (k0_off111_inb arg6_r0 k0_hw3)).PackedRows (EltTy.packing .bf16) := fun arg6_r0 k0_hw3 => k0_hw3.2.2.2.2.2.1.2.2.2.2.2.2.2.2.2.2.2.2.2.2.2.2.2.2.2.2.2.2.2.2.2.2.2.2.2.1 (k0_off111_inb arg6_r0 k0_hw3)
theorem k0_off112_inb : ∀ (arg6_r0 : BitVec 32) (k0_hw3 : k0_chk3 arg6_r0), ∀ a, (k0_off112 arg6_r0) a + S1x1x128x128.size a ≤ S2x16x256x512.size a := fun arg6_r0 k0_hw3 => k0_hw3.2.2.2.2.2.1.2.2.2.2.2.2.2.2.2.2.2.2.2.2.2.2.2.2.2.2.2.2.2.2.2.2.2.2.2.2.1
theorem k0_off112_packedbf16 : ∀ (arg6_r0 : BitVec 32) (k0_hw3 : k0_chk3 arg6_r0), (Rect.unit (s := S2x16x256x512) (k0_off112 arg6_r0) S1x1x128x128.size (k0_off112_inb arg6_r0 k0_hw3)).PackedRows (EltTy.packing .bf16) := fun arg6_r0 k0_hw3 => k0_hw3.2.2.2.2.2.1.2.2.2.2.2.2.2.2.2.2.2.2.2.2.2.2.2.2.2.2.2.2.2.2.2.2.2.2.2.2.2 (k0_off112_inb arg6_r0 k0_hw3)
theorem k0_off113_inb : ∀ (arg6_r0 : BitVec 32) (k0_hw3 : k0_chk3 arg6_r0), ∀ a, (k0_off113 arg6_r0) a + S1x1x128x128.size a ≤ S2x16x256x512.size a := fun arg6_r0 k0_hw3 => k0_hw3.2.2.2.2.2.2.1.1
theorem k0_off113_packedbf16 : ∀ (arg6_r0 : BitVec 32) (k0_hw3 : k0_chk3 arg6_r0), (Rect.unit (s := S2x16x256x512) (k0_off113 arg6_r0) S1x1x128x128.size (k0_off113_inb arg6_r0 k0_hw3)).PackedRows (EltTy.packing .bf16) := fun arg6_r0 k0_hw3 => k0_hw3.2.2.2.2.2.2.1.2.1 (k0_off113_inb arg6_r0 k0_hw3)
theorem k0_off114_inb : ∀ (arg6_r0 : BitVec 32) (k0_hw3 : k0_chk3 arg6_r0), ∀ a, (k0_off114 arg6_r0) a + S1x1x128x128.size a ≤ S2x16x256x512.size a := fun arg6_r0 k0_hw3 => k0_hw3.2.2.2.2.2.2.1.2.2.1
theorem k0_off114_packedbf16 : ∀ (arg6_r0 : BitVec 32) (k0_hw3 : k0_chk3 arg6_r0), (Rect.unit (s := S2x16x256x512) (k0_off114 arg6_r0) S1x1x128x128.size (k0_off114_inb arg6_r0 k0_hw3)).PackedRows (EltTy.packing .bf16) := fun arg6_r0 k0_hw3 => k0_hw3.2.2.2.2.2.2.1.2.2.2.1 (k0_off114_inb arg6_r0 k0_hw3)
theorem k0_off115_inb : ∀ (arg6_r0 : BitVec 32) (k0_hw3 : k0_chk3 arg6_r0), ∀ a, (k0_off115 arg6_r0) a + S1x1x128x128.size a ≤ S2x16x256x512.size a := fun arg6_r0 k0_hw3 => k0_hw3.2.2.2.2.2.2.1.2.2.2.2.1
theorem k0_off115_packedbf16 : ∀ (arg6_r0 : BitVec 32) (k0_hw3 : k0_chk3 arg6_r0), (Rect.unit (s := S2x16x256x512) (k0_off115 arg6_r0) S1x1x128x128.size (k0_off115_inb arg6_r0 k0_hw3)).PackedRows (EltTy.packing .bf16) := fun arg6_r0 k0_hw3 => k0_hw3.2.2.2.2.2.2.1.2.2.2.2.2.1 (k0_off115_inb arg6_r0 k0_hw3)
theorem k0_off116_inb : ∀ (arg6_r0 : BitVec 32) (k0_hw3 : k0_chk3 arg6_r0), ∀ a, (k0_off116 arg6_r0) a + S1x1x128x128.size a ≤ S2x16x256x512.size a := fun arg6_r0 k0_hw3 => k0_hw3.2.2.2.2.2.2.1.2.2.2.2.2.2.1
theorem k0_off116_packedbf16 : ∀ (arg6_r0 : BitVec 32) (k0_hw3 : k0_chk3 arg6_r0), (Rect.unit (s := S2x16x256x512) (k0_off116 arg6_r0) S1x1x128x128.size (k0_off116_inb arg6_r0 k0_hw3)).PackedRows (EltTy.packing .bf16) := fun arg6_r0 k0_hw3 => k0_hw3.2.2.2.2.2.2.1.2.2.2.2.2.2.2.1 (k0_off116_inb arg6_r0 k0_hw3)
theorem k0_off117_inb : ∀ (arg6_r0 : BitVec 32) (k0_hw3 : k0_chk3 arg6_r0), ∀ a, (k0_off117 arg6_r0) a + S1x1x128x128.size a ≤ S2x16x256x512.size a := fun arg6_r0 k0_hw3 => k0_hw3.2.2.2.2.2.2.1.2.2.2.2.2.2.2.2.1
theorem k0_off117_packedbf16 : ∀ (arg6_r0 : BitVec 32) (k0_hw3 : k0_chk3 arg6_r0), (Rect.unit (s := S2x16x256x512) (k0_off117 arg6_r0) S1x1x128x128.size (k0_off117_inb arg6_r0 k0_hw3)).PackedRows (EltTy.packing .bf16) := fun arg6_r0 k0_hw3 => k0_hw3.2.2.2.2.2.2.1.2.2.2.2.2.2.2.2.2.1 (k0_off117_inb arg6_r0 k0_hw3)
theorem k0_off118_inb : ∀ (arg6_r0 : BitVec 32) (k0_hw3 : k0_chk3 arg6_r0), ∀ a, (k0_off118 arg6_r0) a + S1x1x128x128.size a ≤ S2x16x256x512.size a := fun arg6_r0 k0_hw3 => k0_hw3.2.2.2.2.2.2.1.2.2.2.2.2.2.2.2.2.2.1
theorem k0_off118_packedbf16 : ∀ (arg6_r0 : BitVec 32) (k0_hw3 : k0_chk3 arg6_r0), (Rect.unit (s := S2x16x256x512) (k0_off118 arg6_r0) S1x1x128x128.size (k0_off118_inb arg6_r0 k0_hw3)).PackedRows (EltTy.packing .bf16) := fun arg6_r0 k0_hw3 => k0_hw3.2.2.2.2.2.2.1.2.2.2.2.2.2.2.2.2.2.2.1 (k0_off118_inb arg6_r0 k0_hw3)
theorem k0_off119_inb : ∀ (arg6_r0 : BitVec 32) (k0_hw3 : k0_chk3 arg6_r0), ∀ a, (k0_off119 arg6_r0) a + S1x1x128x128.size a ≤ S2x16x256x512.size a := fun arg6_r0 k0_hw3 => k0_hw3.2.2.2.2.2.2.1.2.2.2.2.2.2.2.2.2.2.2.2.1
theorem k0_off119_packedbf16 : ∀ (arg6_r0 : BitVec 32) (k0_hw3 : k0_chk3 arg6_r0), (Rect.unit (s := S2x16x256x512) (k0_off119 arg6_r0) S1x1x128x128.size (k0_off119_inb arg6_r0 k0_hw3)).PackedRows (EltTy.packing .bf16) := fun arg6_r0 k0_hw3 => k0_hw3.2.2.2.2.2.2.1.2.2.2.2.2.2.2.2.2.2.2.2.2.1 (k0_off119_inb arg6_r0 k0_hw3)
theorem k0_off120_inb : ∀ (arg6_r0 : BitVec 32) (k0_hw3 : k0_chk3 arg6_r0), ∀ a, (k0_off120 arg6_r0) a + S1x1x128x128.size a ≤ S2x16x256x512.size a := fun arg6_r0 k0_hw3 => k0_hw3.2.2.2.2.2.2.1.2.2.2.2.2.2.2.2.2.2.2.2.2.2.1
theorem k0_off120_packedbf16 : ∀ (arg6_r0 : BitVec 32) (k0_hw3 : k0_chk3 arg6_r0), (Rect.unit (s := S2x16x256x512) (k0_off120 arg6_r0) S1x1x128x128.size (k0_off120_inb arg6_r0 k0_hw3)).PackedRows (EltTy.packing .bf16) := fun arg6_r0 k0_hw3 => k0_hw3.2.2.2.2.2.2.1.2.2.2.2.2.2.2.2.2.2.2.2.2.2.2.1 (k0_off120_inb arg6_r0 k0_hw3)
theorem k0_off121_inb : ∀ (arg6_r0 : BitVec 32) (k0_hw3 : k0_chk3 arg6_r0), ∀ a, (k0_off121 arg6_r0) a + S1x1x128x128.size a ≤ S2x16x256x512.size a := fun arg6_r0 k0_hw3 => k0_hw3.2.2.2.2.2.2.1.2.2.2.2.2.2.2.2.2.2.2.2.2.2.2.2.1
theorem k0_off121_packedbf16 : ∀ (arg6_r0 : BitVec 32) (k0_hw3 : k0_chk3 arg6_r0), (Rect.unit (s := S2x16x256x512) (k0_off121 arg6_r0) S1x1x128x128.size (k0_off121_inb arg6_r0 k0_hw3)).PackedRows (EltTy.packing .bf16) := fun arg6_r0 k0_hw3 => k0_hw3.2.2.2.2.2.2.1.2.2.2.2.2.2.2.2.2.2.2.2.2.2.2.2.2.1 (k0_off121_inb arg6_r0 k0_hw3)
theorem k0_off122_inb : ∀ (arg6_r0 : BitVec 32) (k0_hw3 : k0_chk3 arg6_r0), ∀ a, (k0_off122 arg6_r0) a + S1x1x128x128.size a ≤ S2x16x256x512.size a := fun arg6_r0 k0_hw3 => k0_hw3.2.2.2.2.2.2.1.2.2.2.2.2.2.2.2.2.2.2.2.2.2.2.2.2.2.1
theorem k0_off122_packedbf16 : ∀ (arg6_r0 : BitVec 32) (k0_hw3 : k0_chk3 arg6_r0), (Rect.unit (s := S2x16x256x512) (k0_off122 arg6_r0) S1x1x128x128.size (k0_off122_inb arg6_r0 k0_hw3)).PackedRows (EltTy.packing .bf16) := fun arg6_r0 k0_hw3 => k0_hw3.2.2.2.2.2.2.1.2.2.2.2.2.2.2.2.2.2.2.2.2.2.2.2.2.2.2.1 (k0_off122_inb arg6_r0 k0_hw3)
theorem k0_off123_inb : ∀ (arg6_r0 : BitVec 32) (k0_hw3 : k0_chk3 arg6_r0), ∀ a, (k0_off123 arg6_r0) a + S1x1x128x128.size a ≤ S2x16x256x512.size a := fun arg6_r0 k0_hw3 => k0_hw3.2.2.2.2.2.2.1.2.2.2.2.2.2.2.2.2.2.2.2.2.2.2.2.2.2.2.2.1
theorem k0_off123_packedbf16 : ∀ (arg6_r0 : BitVec 32) (k0_hw3 : k0_chk3 arg6_r0), (Rect.unit (s := S2x16x256x512) (k0_off123 arg6_r0) S1x1x128x128.size (k0_off123_inb arg6_r0 k0_hw3)).PackedRows (EltTy.packing .bf16) := fun arg6_r0 k0_hw3 => k0_hw3.2.2.2.2.2.2.1.2.2.2.2.2.2.2.2.2.2.2.2.2.2.2.2.2.2.2.2.2.1 (k0_off123_inb arg6_r0 k0_hw3)
theorem k0_off124_inb : ∀ (arg6_r0 : BitVec 32) (k0_hw3 : k0_chk3 arg6_r0), ∀ a, (k0_off124 arg6_r0) a + S1x1x128x128.size a ≤ S2x16x256x512.size a := fun arg6_r0 k0_hw3 => k0_hw3.2.2.2.2.2.2.1.2.2.2.2.2.2.2.2.2.2.2.2.2.2.2.2.2.2.2.2.2.2.1
theorem k0_off124_packedbf16 : ∀ (arg6_r0 : BitVec 32) (k0_hw3 : k0_chk3 arg6_r0), (Rect.unit (s := S2x16x256x512) (k0_off124 arg6_r0) S1x1x128x128.size (k0_off124_inb arg6_r0 k0_hw3)).PackedRows (EltTy.packing .bf16) := fun arg6_r0 k0_hw3 => k0_hw3.2.2.2.2.2.2.1.2.2.2.2.2.2.2.2.2.2.2.2.2.2.2.2.2.2.2.2.2.2.2.1 (k0_off124_inb arg6_r0 k0_hw3)
theorem k0_off125_inb : ∀ (arg6_r0 : BitVec 32) (k0_hw3 : k0_chk3 arg6_r0), ∀ a, (k0_off125 arg6_r0) a + S1x1x128x128.size a ≤ S2x16x256x512.size a := fun arg6_r0 k0_hw3 => k0_hw3.2.2.2.2.2.2.1.2.2.2.2.2.2.2.2.2.2.2.2.2.2.2.2.2.2.2.2.2.2.2.2.1
theorem k0_off125_packedbf16 : ∀ (arg6_r0 : BitVec 32) (k0_hw3 : k0_chk3 arg6_r0), (Rect.unit (s := S2x16x256x512) (k0_off125 arg6_r0) S1x1x128x128.size (k0_off125_inb arg6_r0 k0_hw3)).PackedRows (EltTy.packing .bf16) := fun arg6_r0 k0_hw3 => k0_hw3.2.2.2.2.2.2.1.2.2.2.2.2.2.2.2.2.2.2.2.2.2.2.2.2.2.2.2.2.2.2.2.2.1 (k0_off125_inb arg6_r0 k0_hw3)
theorem k0_off126_inb : ∀ (arg6_r0 : BitVec 32) (k0_hw3 : k0_chk3 arg6_r0), ∀ a, (k0_off126 arg6_r0) a + S1x1x128x128.size a ≤ S2x16x256x512.size a := fun arg6_r0 k0_hw3 => k0_hw3.2.2.2.2.2.2.1.2.2.2.2.2.2.2.2.2.2.2.2.2.2.2.2.2.2.2.2.2.2.2.2.2.2.1
theorem k0_off126_packedbf16 : ∀ (arg6_r0 : BitVec 32) (k0_hw3 : k0_chk3 arg6_r0), (Rect.unit (s := S2x16x256x512) (k0_off126 arg6_r0) S1x1x128x128.size (k0_off126_inb arg6_r0 k0_hw3)).PackedRows (EltTy.packing .bf16) := fun arg6_r0 k0_hw3 => k0_hw3.2.2.2.2.2.2.1.2.2.2.2.2.2.2.2.2.2.2.2.2.2.2.2.2.2.2.2.2.2.2.2.2.2.2.1 (k0_off126_inb arg6_r0 k0_hw3)
theorem k0_off127_inb : ∀ (arg6_r0 : BitVec 32) (k0_hw3 : k0_chk3 arg6_r0), ∀ a, (k0_off127 arg6_r0) a + S1x1x128x128.size a ≤ S2x16x256x512.size a := fun arg6_r0 k0_hw3 => k0_hw3.2.2.2.2.2.2.1.2.2.2.2.2.2.2.2.2.2.2.2.2.2.2.2.2.2.2.2.2.2.2.2.2.2.2.2.1
theorem k0_off127_packedbf16 : ∀ (arg6_r0 : BitVec 32) (k0_hw3 : k0_chk3 arg6_r0), (Rect.unit (s := S2x16x256x512) (k0_off127 arg6_r0) S1x1x128x128.size (k0_off127_inb arg6_r0 k0_hw3)).PackedRows (EltTy.packing .bf16) := fun arg6_r0 k0_hw3 => k0_hw3.2.2.2.2.2.2.1.2.2.2.2.2.2.2.2.2.2.2.2.2.2.2.2.2.2.2.2.2.2.2.2.2.2.2.2.2.1 (k0_off127_inb arg6_r0 k0_hw3)
theorem k0_off128_inb : ∀ (arg6_r0 : BitVec 32) (k0_hw3 : k0_chk3 arg6_r0), ∀ a, (k0_off128 arg6_r0) a + S1x1x128x128.size a ≤ S2x16x256x512.size a := fun arg6_r0 k0_hw3 => k0_hw3.2.2.2.2.2.2.1.2.2.2.2.2.2.2.2.2.2.2.2.2.2.2.2.2.2.2.2.2.2.2.2.2.2.2.2.2.2.1
theorem k0_off128_packedbf16 : ∀ (arg6_r0 : BitVec 32) (k0_hw3 : k0_chk3 arg6_r0), (Rect.unit (s := S2x16x256x512) (k0_off128 arg6_r0) S1x1x128x128.size (k0_off128_inb arg6_r0 k0_hw3)).PackedRows (EltTy.packing .bf16) := fun arg6_r0 k0_hw3 => k0_hw3.2.2.2.2.2.2.1.2.2.2.2.2.2.2.2.2.2.2.2.2.2.2.2.2.2.2.2.2.2.2.2.2.2.2.2.2.2.2 (k0_off128_inb arg6_r0 k0_hw3)
theorem k0_off129_inb : ∀ (arg6_r0 : BitVec 32) (k0_hw3 : k0_chk3 arg6_r0), ∀ a, (k0_off129 arg6_r0) a + S1x1x128x128.size a ≤ S2x16x256x512.size a := fun arg6_r0 k0_hw3 => k0_hw3.2.2.2.2.2.2.2.1.1
theorem k0_off129_packedbf16 : ∀ (arg6_r0 : BitVec 32) (k0_hw3 : k0_chk3 arg6_r0), (Rect.unit (s := S2x16x256x512) (k0_off129 arg6_r0) S1x1x128x128.size (k0_off129_inb arg6_r0 k0_hw3)).PackedRows (EltTy.packing .bf16) := fun arg6_r0 k0_hw3 => k0_hw3.2.2.2.2.2.2.2.1.2.1 (k0_off129_inb arg6_r0 k0_hw3)
theorem k0_off130_inb : ∀ (arg6_r0 : BitVec 32) (k0_hw3 : k0_chk3 arg6_r0), ∀ a, (k0_off130 arg6_r0) a + S1x1x128x128.size a ≤ S2x16x256x512.size a := fun arg6_r0 k0_hw3 => k0_hw3.2.2.2.2.2.2.2.1.2.2.1
theorem k0_off130_packedbf16 : ∀ (arg6_r0 : BitVec 32) (k0_hw3 : k0_chk3 arg6_r0), (Rect.unit (s := S2x16x256x512) (k0_off130 arg6_r0) S1x1x128x128.size (k0_off130_inb arg6_r0 k0_hw3)).PackedRows (EltTy.packing .bf16) := fun arg6_r0 k0_hw3 => k0_hw3.2.2.2.2.2.2.2.1.2.2.2.1 (k0_off130_inb arg6_r0 k0_hw3)
theorem k0_off131_inb : ∀ (arg6_r0 : BitVec 32) (k0_hw3 : k0_chk3 arg6_r0), ∀ a, (k0_off131 arg6_r0) a + S1x1x128x128.size a ≤ S2x16x256x512.size a := fun arg6_r0 k0_hw3 => k0_hw3.2.2.2.2.2.2.2.1.2.2.2.2.1
theorem k0_off131_packedbf16 : ∀ (arg6_r0 : BitVec 32) (k0_hw3 : k0_chk3 arg6_r0), (Rect.unit (s := S2x16x256x512) (k0_off131 arg6_r0) S1x1x128x128.size (k0_off131_inb arg6_r0 k0_hw3)).PackedRows (EltTy.packing .bf16) := fun arg6_r0 k0_hw3 => k0_hw3.2.2.2.2.2.2.2.1.2.2.2.2.2.1 (k0_off131_inb arg6_r0 k0_hw3)
theorem k0_off132_inb : ∀ (arg6_r0 : BitVec 32) (k0_hw3 : k0_chk3 arg6_r0), ∀ a, (k0_off132 arg6_r0) a + S1x1x128x128.size a ≤ S2x16x256x512.size a := fun arg6_r0 k0_hw3 => k0_hw3.2.2.2.2.2.2.2.1.2.2.2.2.2.2.1
theorem k0_off132_packedbf16 : ∀ (arg6_r0 : BitVec 32) (k0_hw3 : k0_chk3 arg6_r0), (Rect.unit (s := S2x16x256x512) (k0_off132 arg6_r0) S1x1x128x128.size (k0_off132_inb arg6_r0 k0_hw3)).PackedRows (EltTy.packing .bf16) := fun arg6_r0 k0_hw3 => k0_hw3.2.2.2.2.2.2.2.1.2.2.2.2.2.2.2.1 (k0_off132_inb arg6_r0 k0_hw3)
theorem k0_off133_inb : ∀ (arg6_r0 : BitVec 32) (k0_hw3 : k0_chk3 arg6_r0), ∀ a, (k0_off133 arg6_r0) a + S1x1x128x128.size a ≤ S2x16x256x512.size a := fun arg6_r0 k0_hw3 => k0_hw3.2.2.2.2.2.2.2.1.2.2.2.2.2.2.2.2.1
theorem k0_off133_packedbf16 : ∀ (arg6_r0 : BitVec 32) (k0_hw3 : k0_chk3 arg6_r0), (Rect.unit (s := S2x16x256x512) (k0_off133 arg6_r0) S1x1x128x128.size (k0_off133_inb arg6_r0 k0_hw3)).PackedRows (EltTy.packing .bf16) := fun arg6_r0 k0_hw3 => k0_hw3.2.2.2.2.2.2.2.1.2.2.2.2.2.2.2.2.2.1 (k0_off133_inb arg6_r0 k0_hw3)
theorem k0_off134_inb : ∀ (arg6_r0 : BitVec 32) (k0_hw3 : k0_chk3 arg6_r0), ∀ a, (k0_off134 arg6_r0) a + S1x1x128x128.size a ≤ S2x16x256x512.size a := fun arg6_r0 k0_hw3 => k0_hw3.2.2.2.2.2.2.2.1.2.2.2.2.2.2.2.2.2.2.1
theorem k0_off134_packedbf16 : ∀ (arg6_r0 : BitVec 32) (k0_hw3 : k0_chk3 arg6_r0), (Rect.unit (s := S2x16x256x512) (k0_off134 arg6_r0) S1x1x128x128.size (k0_off134_inb arg6_r0 k0_hw3)).PackedRows (EltTy.packing .bf16) := fun arg6_r0 k0_hw3 => k0_hw3.2.2.2.2.2.2.2.1.2.2.2.2.2.2.2.2.2.2.2.1 (k0_off134_inb arg6_r0 k0_hw3)
theorem k0_off135_inb : ∀ (arg6_r0 : BitVec 32) (k0_hw3 : k0_chk3 arg6_r0), ∀ a, (k0_off135 arg6_r0) a + S1x1x128x128.size a ≤ S2x16x256x512.size a := fun arg6_r0 k0_hw3 => k0_hw3.2.2.2.2.2.2.2.1.2.2.2.2.2.2.2.2.2.2.2.2.1
theorem k0_off135_packedbf16 : ∀ (arg6_r0 : BitVec 32) (k0_hw3 : k0_chk3 arg6_r0), (Rect.unit (s := S2x16x256x512) (k0_off135 arg6_r0) S1x1x128x128.size (k0_off135_inb arg6_r0 k0_hw3)).PackedRows (EltTy.packing .bf16) := fun arg6_r0 k0_hw3 => k0_hw3.2.2.2.2.2.2.2.1.2.2.2.2.2.2.2.2.2.2.2.2.2.1 (k0_off135_inb arg6_r0 k0_hw3)
theorem k0_off136_inb : ∀ (arg6_r0 : BitVec 32) (k0_hw3 : k0_chk3 arg6_r0), ∀ a, (k0_off136 arg6_r0) a + S1x1x128x128.size a ≤ S2x16x256x512.size a := fun arg6_r0 k0_hw3 => k0_hw3.2.2.2.2.2.2.2.1.2.2.2.2.2.2.2.2.2.2.2.2.2.2.1
theorem k0_off136_packedbf16 : ∀ (arg6_r0 : BitVec 32) (k0_hw3 : k0_chk3 arg6_r0), (Rect.unit (s := S2x16x256x512) (k0_off136 arg6_r0) S1x1x128x128.size (k0_off136_inb arg6_r0 k0_hw3)).PackedRows (EltTy.packing .bf16) := fun arg6_r0 k0_hw3 => k0_hw3.2.2.2.2.2.2.2.1.2.2.2.2.2.2.2.2.2.2.2.2.2.2.2.1 (k0_off136_inb arg6_r0 k0_hw3)
theorem k0_off137_inb : ∀ (arg6_r0 : BitVec 32) (k0_hw3 : k0_chk3 arg6_r0), ∀ a, (k0_off137 arg6_r0) a + S1x1x128x128.size a ≤ S2x16x256x512.size a := fun arg6_r0 k0_hw3 => k0_hw3.2.2.2.2.2.2.2.1.2.2.2.2.2.2.2.2.2.2.2.2.2.2.2.2.1
theorem k0_off137_packedbf16 : ∀ (arg6_r0 : BitVec 32) (k0_hw3 : k0_chk3 arg6_r0), (Rect.unit (s := S2x16x256x512) (k0_off137 arg6_r0) S1x1x128x128.size (k0_off137_inb arg6_r0 k0_hw3)).PackedRows (EltTy.packing .bf16) := fun arg6_r0 k0_hw3 => k0_hw3.2.2.2.2.2.2.2.1.2.2.2.2.2.2.2.2.2.2.2.2.2.2.2.2.2.1 (k0_off137_inb arg6_r0 k0_hw3)
theorem k0_off138_inb : ∀ (arg6_r0 : BitVec 32) (k0_hw3 : k0_chk3 arg6_r0), ∀ a, (k0_off138 arg6_r0) a + S1x1x128x128.size a ≤ S2x16x256x512.size a := fun arg6_r0 k0_hw3 => k0_hw3.2.2.2.2.2.2.2.1.2.2.2.2.2.2.2.2.2.2.2.2.2.2.2.2.2.2.1
theorem k0_off138_packedbf16 : ∀ (arg6_r0 : BitVec 32) (k0_hw3 : k0_chk3 arg6_r0), (Rect.unit (s := S2x16x256x512) (k0_off138 arg6_r0) S1x1x128x128.size (k0_off138_inb arg6_r0 k0_hw3)).PackedRows (EltTy.packing .bf16) := fun arg6_r0 k0_hw3 => k0_hw3.2.2.2.2.2.2.2.1.2.2.2.2.2.2.2.2.2.2.2.2.2.2.2.2.2.2.2.1 (k0_off138_inb arg6_r0 k0_hw3)
theorem k0_off139_inb : ∀ (arg6_r0 : BitVec 32) (k0_hw3 : k0_chk3 arg6_r0), ∀ a, (k0_off139 arg6_r0) a + S1x1x128x128.size a ≤ S2x16x256x512.size a := fun arg6_r0 k0_hw3 => k0_hw3.2.2.2.2.2.2.2.1.2.2.2.2.2.2.2.2.2.2.2.2.2.2.2.2.2.2.2.2.1
theorem k0_off139_packedbf16 : ∀ (arg6_r0 : BitVec 32) (k0_hw3 : k0_chk3 arg6_r0), (Rect.unit (s := S2x16x256x512) (k0_off139 arg6_r0) S1x1x128x128.size (k0_off139_inb arg6_r0 k0_hw3)).PackedRows (EltTy.packing .bf16) := fun arg6_r0 k0_hw3 => k0_hw3.2.2.2.2.2.2.2.1.2.2.2.2.2.2.2.2.2.2.2.2.2.2.2.2.2.2.2.2.2.1 (k0_off139_inb arg6_r0 k0_hw3)
theorem k0_off140_inb : ∀ (arg6_r0 : BitVec 32) (k0_hw3 : k0_chk3 arg6_r0), ∀ a, (k0_off140 arg6_r0) a + S1x1x128x128.size a ≤ S2x16x256x512.size a := fun arg6_r0 k0_hw3 => k0_hw3.2.2.2.2.2.2.2.1.2.2.2.2.2.2.2.2.2.2.2.2.2.2.2.2.2.2.2.2.2.2.1
theorem k0_off140_packedbf16 : ∀ (arg6_r0 : BitVec 32) (k0_hw3 : k0_chk3 arg6_r0), (Rect.unit (s := S2x16x256x512) (k0_off140 arg6_r0) S1x1x128x128.size (k0_off140_inb arg6_r0 k0_hw3)).PackedRows (EltTy.packing .bf16) := fun arg6_r0 k0_hw3 => k0_hw3.2.2.2.2.2.2.2.1.2.2.2.2.2.2.2.2.2.2.2.2.2.2.2.2.2.2.2.2.2.2.2.1 (k0_off140_inb arg6_r0 k0_hw3)
theorem k0_off141_inb : ∀ (arg6_r0 : BitVec 32) (k0_hw3 : k0_chk3 arg6_r0), ∀ a, (k0_off141 arg6_r0) a + S1x1x128x128.size a ≤ S2x16x256x512.size a := fun arg6_r0 k0_hw3 => k0_hw3.2.2.2.2.2.2.2.1.2.2.2.2.2.2.2.2.2.2.2.2.2.2.2.2.2.2.2.2.2.2.2.2.1
theorem k0_off141_packedbf16 : ∀ (arg6_r0 : BitVec 32) (k0_hw3 : k0_chk3 arg6_r0), (Rect.unit (s := S2x16x256x512) (k0_off141 arg6_r0) S1x1x128x128.size (k0_off141_inb arg6_r0 k0_hw3)).PackedRows (EltTy.packing .bf16) := fun arg6_r0 k0_hw3 => k0_hw3.2.2.2.2.2.2.2.1.2.2.2.2.2.2.2.2.2.2.2.2.2.2.2.2.2.2.2.2.2.2.2.2.2.1 (k0_off141_inb arg6_r0 k0_hw3)
theorem k0_off142_inb : ∀ (arg6_r0 : BitVec 32) (k0_hw3 : k0_chk3 arg6_r0), ∀ a, (k0_off142 arg6_r0) a + S1x1x128x128.size a ≤ S2x16x256x512.size a := fun arg6_r0 k0_hw3 => k0_hw3.2.2.2.2.2.2.2.1.2.2.2.2.2.2.2.2.2.2.2.2.2.2.2.2.2.2.2.2.2.2.2.2.2.2.1
theorem k0_off142_packedbf16 : ∀ (arg6_r0 : BitVec 32) (k0_hw3 : k0_chk3 arg6_r0), (Rect.unit (s := S2x16x256x512) (k0_off142 arg6_r0) S1x1x128x128.size (k0_off142_inb arg6_r0 k0_hw3)).PackedRows (EltTy.packing .bf16) := fun arg6_r0 k0_hw3 => k0_hw3.2.2.2.2.2.2.2.1.2.2.2.2.2.2.2.2.2.2.2.2.2.2.2.2.2.2.2.2.2.2.2.2.2.2.2.1 (k0_off142_inb arg6_r0 k0_hw3)
theorem k0_off143_inb : ∀ (arg6_r0 : BitVec 32) (k0_hw3 : k0_chk3 arg6_r0), ∀ a, (k0_off143 arg6_r0) a + S1x1x128x128.size a ≤ S2x16x256x512.size a := fun arg6_r0 k0_hw3 => k0_hw3.2.2.2.2.2.2.2.1.2.2.2.2.2.2.2.2.2.2.2.2.2.2.2.2.2.2.2.2.2.2.2.2.2.2.2.2.1
theorem k0_off143_packedbf16 : ∀ (arg6_r0 : BitVec 32) (k0_hw3 : k0_chk3 arg6_r0), (Rect.unit (s := S2x16x256x512) (k0_off143 arg6_r0) S1x1x128x128.size (k0_off143_inb arg6_r0 k0_hw3)).PackedRows (EltTy.packing .bf16) := fun arg6_r0 k0_hw3 => k0_hw3.2.2.2.2.2.2.2.1.2.2.2.2.2.2.2.2.2.2.2.2.2.2.2.2.2.2.2.2.2.2.2.2.2.2.2.2.2.1 (k0_off143_inb arg6_r0 k0_hw3)
theorem k0_off144_inb : ∀ (arg6_r0 : BitVec 32) (k0_hw3 : k0_chk3 arg6_r0), ∀ a, (k0_off144 arg6_r0) a + S1x1x128x128.size a ≤ S2x16x256x512.size a := fun arg6_r0 k0_hw3 => k0_hw3.2.2.2.2.2.2.2.1.2.2.2.2.2.2.2.2.2.2.2.2.2.2.2.2.2.2.2.2.2.2.2.2.2.2.2.2.2.2.1
theorem k0_off144_packedbf16 : ∀ (arg6_r0 : BitVec 32) (k0_hw3 : k0_chk3 arg6_r0), (Rect.unit (s := S2x16x256x512) (k0_off144 arg6_r0) S1x1x128x128.size (k0_off144_inb arg6_r0 k0_hw3)).PackedRows (EltTy.packing .bf16) := fun arg6_r0 k0_hw3 => k0_hw3.2.2.2.2.2.2.2.1.2.2.2.2.2.2.2.2.2.2.2.2.2.2.2.2.2.2.2.2.2.2.2.2.2.2.2.2.2.2.2 (k0_off144_inb arg6_r0 k0_hw3)
theorem k0_off145_inb : ∀ (arg6_r0 : BitVec 32) (k0_hw3 : k0_chk3 arg6_r0), ∀ a, (k0_off145 arg6_r0) a + S1x1x128x128.size a ≤ S2x16x256x512.size a := fun arg6_r0 k0_hw3 => k0_hw3.2.2.2.2.2.2.2.2.1
theorem k0_off145_packedbf16 : ∀ (arg6_r0 : BitVec 32) (k0_hw3 : k0_chk3 arg6_r0), (Rect.unit (s := S2x16x256x512) (k0_off145 arg6_r0) S1x1x128x128.size (k0_off145_inb arg6_r0 k0_hw3)).PackedRows (EltTy.packing .bf16) := fun arg6_r0 k0_hw3 => k0_hw3.2.2.2.2.2.2.2.2.2 (k0_off145_inb arg6_r0 k0_hw3)

def k0_off146 (arg6_r0 : BitVec 32) : Fin 1 → Nat :=
  let c2_i32_5405_r0 : BitVec 32 := 2#32
  let v5838_r0 : BitVec 32 := Scalar.remui arg6_r0 c2_i32_5405_r0
  ![v5838_r0.toNat]
def k0_cond7 (k0_t1 : Fin k0_t1_loop.trips) (arg10_r0 : BitVec 32) : BitVec 1 :=
  let c0_i32_120_r0 : BitVec 32 := 0#32
  let v107_r0 : BitVec 32 := Scalar.addi arg10_r0 c0_i32_120_r0
  let true_130_r0 : BitVec 1 := 1#1
  let c1_i32_132_r0 : BitVec 32 := 1#32
  let c0_i32_131_r0 : BitVec 32 := 0#32
  let v116_r0 : BitVec 32 := Scalar.select true_130_r0 c1_i32_132_r0 c0_i32_131_r0
  let c1_i32_133_r0 : BitVec 32 := 1#32
  let v117_r0 : BitVec 1 := Scalar.cmpi .eq v116_r0 c1_i32_133_r0
  let c1_i32_135_r0 : BitVec 32 := 1#32
  let v119_r0 : BitVec 32 := Scalar.addi arg10_r0 c1_i32_135_r0
  let v120_r0 : BitVec 32 := Scalar.select v117_r0 v119_r0 arg10_r0
  let c4_i32_136_r0 : BitVec 32 := 4#32
  let v121_r0 : BitVec 1 := Scalar.cmpi .eq v120_r0 c4_i32_136_r0
  let c0_i32_137_r0 : BitVec 32 := 0#32
  let v122_r0 : BitVec 32 := Scalar.select v121_r0 c0_i32_137_r0 v120_r0
  let c0_i32_138_r0 : BitVec 32 := 0#32
  let v123_r0 : BitVec 32 := Scalar.addi v122_r0 c0_i32_138_r0
  let v5791_r0 : BitVec 1 := Scalar.cmpi .ne v107_r0 v123_r0
  let c0_i32_57_r0 : BitVec 32 := 0#32
  let c1_i32_59_r0 : BitVec 32 := 1#32
  let arg3_r0 : BitVec 32 := Scf.iv c0_i32_57_r0 c1_i32_59_r0 k0_t1
  let c3_i32_119_r0 : BitVec 32 := 3#32
  let v106_r0 : BitVec 1 := Scalar.cmpi .eq arg3_r0 c3_i32_119_r0
  let v5792_r0 : BitVec 1 := Scalar.ori v5791_r0 v106_r0
  let v5793_r0 : BitVec 32 := Scalar.extui v5792_r0
  let c0_i32_5378_r0 : BitVec 32 := 0#32
  let v5794_r0 : BitVec 1 := Scalar.cmpi .ne v5793_r0 c0_i32_5378_r0
  v5794_r0

def k0_off147 (arg10_r0 : BitVec 32) : Fin 4 → Nat :=
  let c0_i32_120_r0 : BitVec 32 := 0#32
  let v107_r0 : BitVec 32 := Scalar.addi arg10_r0 c0_i32_120_r0
  let c0_i32_5406_r0 : BitVec 32 := 0#32
  let c0_i32_5407_r0 : BitVec 32 := 0#32
  let c0_i32_5408_r0 : BitVec 32 := 0#32
  ![v107_r0.toNat, 0, 0, 0]
def k0_off148 (arg6_r0 : BitVec 32) : Fin 4 → Nat :=
  let c2_i32_5405_r0 : BitVec 32 := 2#32
  let v5838_r0 : BitVec 32 := Scalar.remui arg6_r0 c2_i32_5405_r0
  let c0_i32_5409_r0 : BitVec 32 := 0#32
  let c0_i32_5410_r0 : BitVec 32 := 0#32
  let c0_i32_5411_r0 : BitVec 32 := 0#32
  ![v5838_r0.toNat, 0, 0, 0]
def k0_off149 (arg8_r0 : BitVec 32) : Fin 1 → Nat :=
  let c2_i32_5405_r0 : BitVec 32 := 2#32
  let v5838_r0 : BitVec 32 := Scalar.remui arg8_r0 c2_i32_5405_r0
  ![v5838_r0.toNat]
def k0_cond8 (k0_t1 : Fin k0_t1_loop.trips) (arg10_r0 : BitVec 32) : BitVec 1 :=
  let c0_i32_120_r0 : BitVec 32 := 0#32
  let v107_r0 : BitVec 32 := Scalar.addi arg10_r0 c0_i32_120_r0
  let true_130_r0 : BitVec 1 := 1#1
  let c1_i32_132_r0 : BitVec 32 := 1#32
  let c0_i32_131_r0 : BitVec 32 := 0#32
  let v116_r0 : BitVec 32 := Scalar.select true_130_r0 c1_i32_132_r0 c0_i32_131_r0
  let c1_i32_133_r0 : BitVec 32 := 1#32
  let v117_r0 : BitVec 1 := Scalar.cmpi .eq v116_r0 c1_i32_133_r0
  let c1_i32_135_r0 : BitVec 32 := 1#32
  let v119_r0 : BitVec 32 := Scalar.addi arg10_r0 c1_i32_135_r0
  let v120_r0 : BitVec 32 := Scalar.select v117_r0 v119_r0 arg10_r0
  let c4_i32_136_r0 : BitVec 32 := 4#32
  let v121_r0 : BitVec 1 := Scalar.cmpi .eq v120_r0 c4_i32_136_r0
  let c0_i32_137_r0 : BitVec 32 := 0#32
  let v122_r0 : BitVec 32 := Scalar.select v121_r0 c0_i32_137_r0 v120_r0
  let c0_i32_138_r0 : BitVec 32 := 0#32
  let v123_r0 : BitVec 32 := Scalar.addi v122_r0 c0_i32_138_r0
  let v5798_r0 : BitVec 1 := Scalar.cmpi .ne v107_r0 v123_r0
  let c0_i32_57_r0 : BitVec 32 := 0#32
  let c1_i32_59_r0 : BitVec 32 := 1#32
  let arg3_r0 : BitVec 32 := Scf.iv c0_i32_57_r0 c1_i32_59_r0 k0_t1
  let c3_i32_119_r0 : BitVec 32 := 3#32
  let v106_r0 : BitVec 1 := Scalar.cmpi .eq arg3_r0 c3_i32_119_r0
  let v5799_r0 : BitVec 1 := Scalar.ori v5798_r0 v106_r0
  let v5800_r0 : BitVec 32 := Scalar.extui v5799_r0
  let c0_i32_5381_r0 : BitVec 32 := 0#32
  let v5801_r0 : BitVec 1 := Scalar.cmpi .ne v5800_r0 c0_i32_5381_r0
  v5801_r0

def k0_off150 (arg10_r0 : BitVec 32) : Fin 4 → Nat :=
  let c0_i32_120_r0 : BitVec 32 := 0#32
  let v107_r0 : BitVec 32 := Scalar.addi arg10_r0 c0_i32_120_r0
  let c0_i32_5406_r0 : BitVec 32 := 0#32
  let c0_i32_5407_r0 : BitVec 32 := 0#32
  let c0_i32_5408_r0 : BitVec 32 := 0#32
  ![v107_r0.toNat, 0, 0, 0]
def k0_off151 (arg8_r0 : BitVec 32) : Fin 4 → Nat :=
  let c2_i32_5405_r0 : BitVec 32 := 2#32
  let v5838_r0 : BitVec 32 := Scalar.remui arg8_r0 c2_i32_5405_r0
  let c0_i32_5409_r0 : BitVec 32 := 0#32
  let c0_i32_5410_r0 : BitVec 32 := 0#32
  let c0_i32_5411_r0 : BitVec 32 := 0#32
  ![v5838_r0.toNat, 0, 0, 0]
def k0_off152 (arg7_r0 : BitVec 32) : Fin 1 → Nat :=
  let c2_i32_5405_r0 : BitVec 32 := 2#32
  let v5838_r0 : BitVec 32 := Scalar.remui arg7_r0 c2_i32_5405_r0
  ![v5838_r0.toNat]
def k0_cond10 (k0_t1 : Fin k0_t1_loop.trips) (arg10_r0 : BitVec 32) : BitVec 1 :=
  let c0_i32_120_r0 : BitVec 32 := 0#32
  let v107_r0 : BitVec 32 := Scalar.addi arg10_r0 c0_i32_120_r0
  let true_121_r0 : BitVec 1 := 1#1
  let c_m1_i32_123_r0 : BitVec 32 := 4294967295#32
  let c0_i32_122_r0 : BitVec 32 := 0#32
  let v108_r0 : BitVec 32 := Scalar.select true_121_r0 c_m1_i32_123_r0 c0_i32_122_r0
  let c_m1_i32_124_r0 : BitVec 32 := 4294967295#32
  let v109_r0 : BitVec 1 := Scalar.cmpi .eq v108_r0 c_m1_i32_124_r0
  let c1_i32_126_r0 : BitVec 32 := 1#32
  let v111_r0 : BitVec 32 := Scalar.subi arg10_r0 c1_i32_126_r0
  let v112_r0 : BitVec 32 := Scalar.select v109_r0 v111_r0 arg10_r0
  let c_m1_i32_127_r0 : BitVec 32 := 4294967295#32
  let v113_r0 : BitVec 1 := Scalar.cmpi .eq v112_r0 c_m1_i32_127_r0
  let c3_i32_128_r0 : BitVec 32 := 3#32
  let v114_r0 : BitVec 32 := Scalar.select v113_r0 c3_i32_128_r0 v112_r0
  let c0_i32_129_r0 : BitVec 32 := 0#32
  let v115_r0 : BitVec 32 := Scalar.addi v114_r0 c0_i32_129_r0
  let v5811_r0 : BitVec 1 := Scalar.cmpi .ne v107_r0 v115_r0
  let c0_i32_57_r0 : BitVec 32 := 0#32
  let c1_i32_59_r0 : BitVec 32 := 1#32
  let arg3_r0 : BitVec 32 := Scf.iv c0_i32_57_r0 c1_i32_59_r0 k0_t1
  let c0_i32_118_r0 : BitVec 32 := 0#32
  let v105_r0 : BitVec 1 := Scalar.cmpi .eq arg3_r0 c0_i32_118_r0
  let true_5387_r0 : BitVec 1 := 1#1
  let v5812_r0 : BitVec 1 := Scalar.xori v105_r0 true_5387_r0
  let v5813_r0 : BitVec 1 := Scalar.andi v5811_r0 v5812_r0
  let v5814_r0 : BitVec 32 := Scalar.extui v5813_r0
  let c0_i32_5388_r0 : BitVec 32 := 0#32
  let v5815_r0 : BitVec 1 := Scalar.cmpi .ne v5814_r0 c0_i32_5388_r0
  v5815_r0

def k0_off153 (arg10_r0 : BitVec 32) : Fin 4 → Nat :=
  let true_121_r0 : BitVec 1 := 1#1
  let c_m1_i32_123_r0 : BitVec 32 := 4294967295#32
  let c0_i32_122_r0 : BitVec 32 := 0#32
  let v108_r0 : BitVec 32 := Scalar.select true_121_r0 c_m1_i32_123_r0 c0_i32_122_r0
  let c_m1_i32_124_r0 : BitVec 32 := 4294967295#32
  let v109_r0 : BitVec 1 := Scalar.cmpi .eq v108_r0 c_m1_i32_124_r0
  let c1_i32_126_r0 : BitVec 32 := 1#32
  let v111_r0 : BitVec 32 := Scalar.subi arg10_r0 c1_i32_126_r0
  let v112_r0 : BitVec 32 := Scalar.select v109_r0 v111_r0 arg10_r0
  let c_m1_i32_127_r0 : BitVec 32 := 4294967295#32
  let v113_r0 : BitVec 1 := Scalar.cmpi .eq v112_r0 c_m1_i32_127_r0
  let c3_i32_128_r0 : BitVec 32 := 3#32
  let v114_r0 : BitVec 32 := Scalar.select v113_r0 c3_i32_128_r0 v112_r0
  let c0_i32_129_r0 : BitVec 32 := 0#32
  let v115_r0 : BitVec 32 := Scalar.addi v114_r0 c0_i32_129_r0
  let c0_i32_5406_r0 : BitVec 32 := 0#32
  let c0_i32_5407_r0 : BitVec 32 := 0#32
  let c0_i32_5408_r0 : BitVec 32 := 0#32
  ![v115_r0.toNat, 0, 0, 0]
def k0_off154 (arg7_r0 : BitVec 32) : Fin 4 → Nat :=
  let c2_i32_5405_r0 : BitVec 32 := 2#32
  let v5838_r0 : BitVec 32 := Scalar.remui arg7_r0 c2_i32_5405_r0
  let c0_i32_5409_r0 : BitVec 32 := 0#32
  let c0_i32_5410_r0 : BitVec 32 := 0#32
  let c0_i32_5411_r0 : BitVec 32 := 0#32
  ![v5838_r0.toNat, 0, 0, 0]
def k0_off155 (arg9_r0 : BitVec 32) : Fin 1 → Nat :=
  let c2_i32_5405_r0 : BitVec 32 := 2#32
  let v5838_r0 : BitVec 32 := Scalar.remui arg9_r0 c2_i32_5405_r0
  ![v5838_r0.toNat]
def k0_cond11 (k0_t1 : Fin k0_t1_loop.trips) (arg10_r0 : BitVec 32) : BitVec 1 :=
  let c0_i32_120_r0 : BitVec 32 := 0#32
  let v107_r0 : BitVec 32 := Scalar.addi arg10_r0 c0_i32_120_r0
  let true_121_r0 : BitVec 1 := 1#1
  let c_m1_i32_123_r0 : BitVec 32 := 4294967295#32
  let c0_i32_122_r0 : BitVec 32 := 0#32
  let v108_r0 : BitVec 32 := Scalar.select true_121_r0 c_m1_i32_123_r0 c0_i32_122_r0
  let c_m1_i32_124_r0 : BitVec 32 := 4294967295#32
  let v109_r0 : BitVec 1 := Scalar.cmpi .eq v108_r0 c_m1_i32_124_r0
  let c1_i32_126_r0 : BitVec 32 := 1#32
  let v111_r0 : BitVec 32 := Scalar.subi arg10_r0 c1_i32_126_r0
  let v112_r0 : BitVec 32 := Scalar.select v109_r0 v111_r0 arg10_r0
  let c_m1_i32_127_r0 : BitVec 32 := 4294967295#32
  let v113_r0 : BitVec 1 := Scalar.cmpi .eq v112_r0 c_m1_i32_127_r0
  let c3_i32_128_r0 : BitVec 32 := 3#32
  let v114_r0 : BitVec 32 := Scalar.select v113_r0 c3_i32_128_r0 v112_r0
  let c0_i32_129_r0 : BitVec 32 := 0#32
  let v115_r0 : BitVec 32 := Scalar.addi v114_r0 c0_i32_129_r0
  let v5819_r0 : BitVec 1 := Scalar.cmpi .ne v107_r0 v115_r0
  let c0_i32_57_r0 : BitVec 32 := 0#32
  let c1_i32_59_r0 : BitVec 32 := 1#32
  let arg3_r0 : BitVec 32 := Scf.iv c0_i32_57_r0 c1_i32_59_r0 k0_t1
  let c0_i32_118_r0 : BitVec 32 := 0#32
  let v105_r0 : BitVec 1 := Scalar.cmpi .eq arg3_r0 c0_i32_118_r0
  let true_5391_r0 : BitVec 1 := 1#1
  let v5820_r0 : BitVec 1 := Scalar.xori v105_r0 true_5391_r0
  let v5821_r0 : BitVec 1 := Scalar.andi v5819_r0 v5820_r0
  let v5822_r0 : BitVec 32 := Scalar.extui v5821_r0
  let c0_i32_5392_r0 : BitVec 32 := 0#32
  let v5823_r0 : BitVec 1 := Scalar.cmpi .ne v5822_r0 c0_i32_5392_r0
  v5823_r0

def k0_off156 (arg10_r0 : BitVec 32) : Fin 4 → Nat :=
  let true_121_r0 : BitVec 1 := 1#1
  let c_m1_i32_123_r0 : BitVec 32 := 4294967295#32
  let c0_i32_122_r0 : BitVec 32 := 0#32
  let v108_r0 : BitVec 32 := Scalar.select true_121_r0 c_m1_i32_123_r0 c0_i32_122_r0
  let c_m1_i32_124_r0 : BitVec 32 := 4294967295#32
  let v109_r0 : BitVec 1 := Scalar.cmpi .eq v108_r0 c_m1_i32_124_r0
  let c1_i32_126_r0 : BitVec 32 := 1#32
  let v111_r0 : BitVec 32 := Scalar.subi arg10_r0 c1_i32_126_r0
  let v112_r0 : BitVec 32 := Scalar.select v109_r0 v111_r0 arg10_r0
  let c_m1_i32_127_r0 : BitVec 32 := 4294967295#32
  let v113_r0 : BitVec 1 := Scalar.cmpi .eq v112_r0 c_m1_i32_127_r0
  let c3_i32_128_r0 : BitVec 32 := 3#32
  let v114_r0 : BitVec 32 := Scalar.select v113_r0 c3_i32_128_r0 v112_r0
  let c0_i32_129_r0 : BitVec 32 := 0#32
  let v115_r0 : BitVec 32 := Scalar.addi v114_r0 c0_i32_129_r0
  let c0_i32_5406_r0 : BitVec 32 := 0#32
  let c0_i32_5407_r0 : BitVec 32 := 0#32
  let c0_i32_5408_r0 : BitVec 32 := 0#32
  ![v115_r0.toNat, 0, 0, 0]
def k0_off157 (arg9_r0 : BitVec 32) : Fin 4 → Nat :=
  let c2_i32_5405_r0 : BitVec 32 := 2#32
  let v5838_r0 : BitVec 32 := Scalar.remui arg9_r0 c2_i32_5405_r0
  let c0_i32_5409_r0 : BitVec 32 := 0#32
  let c0_i32_5410_r0 : BitVec 32 := 0#32
  let c0_i32_5411_r0 : BitVec 32 := 0#32
  ![v5838_r0.toNat, 0, 0, 0]

def k0_chk1 (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) : Prop :=
  (∀ (k0_h2 : k0_cond2 k0_t1 arg10_r0 = 1#1), ∀ a, (k0_off6 arg4_r0) a + S1.size a ≤ S3.size a) ∧
  (∀ (k0_h2 : k0_cond2 k0_t1 arg10_r0 = 1#1), ∀ a, (k0_off7 arg4_r0) a + S1x16x256x1536.size a ≤ S3x16x256x1536.size a) ∧
  (∀ (k0_h2 : k0_cond2 k0_t1 arg10_r0 = 1#1), ∀ a, (k0_off8 arg10_r0) a + S1x16x256x1536.size a ≤ S4x16x256x1536.size a) ∧
  (∀ (k0_h2 : k0_cond2 k0_t1 arg10_r0 = 1#1), ∀ (hinb : ∀ a, (k0_off8 arg10_r0) a + S1x16x256x1536.size a ≤ S4x16x256x1536.size a), (Rect.unit (s := S4x16x256x1536) (k0_off8 arg10_r0) S1x16x256x1536.size hinb).WholeWords (EltTy.packing .bf16)) ∧
  (∀ (k0_h2 : k0_cond2 k0_t1 arg10_r0 = 1#1), ∀ (hinb : ∀ a, (k0_off7 arg4_r0) a + S1x16x256x1536.size a ≤ S3x16x256x1536.size a), (Rect.unit (s := S3x16x256x1536) (k0_off7 arg4_r0) S1x16x256x1536.size hinb).WholeWords (EltTy.packing .bf16)) ∧
  (∀ (k0_h3 : k0_cond3 k0_t1 arg10_r0 = 1#1), ∀ a, (k0_off9 arg5_r0) a + S1.size a ≤ S3.size a) ∧
  (∀ (k0_h3 : k0_cond3 k0_t1 arg10_r0 = 1#1), ∀ a, (k0_off10 arg5_r0) a + S1x16x256x1536.size a ≤ S3x16x256x1536.size a) ∧
  (∀ (k0_h3 : k0_cond3 k0_t1 arg10_r0 = 1#1), ∀ a, (k0_off11 arg10_r0) a + S1x16x256x1536.size a ≤ S4x16x256x1536.size a) ∧
  (∀ (k0_h3 : k0_cond3 k0_t1 arg10_r0 = 1#1), ∀ (hinb : ∀ a, (k0_off11 arg10_r0) a + S1x16x256x1536.size a ≤ S4x16x256x1536.size a), (Rect.unit (s := S4x16x256x1536) (k0_off11 arg10_r0) S1x16x256x1536.size hinb).WholeWords (EltTy.packing .bf16)) ∧
  (∀ (k0_h3 : k0_cond3 k0_t1 arg10_r0 = 1#1), ∀ (hinb : ∀ a, (k0_off10 arg5_r0) a + S1x16x256x1536.size a ≤ S3x16x256x1536.size a), (Rect.unit (s := S3x16x256x1536) (k0_off10 arg5_r0) S1x16x256x1536.size hinb).WholeWords (EltTy.packing .bf16)) ∧
  (∀ (k0_h7 : k0_cond7 k0_t1 arg10_r0 = 1#1), ∀ a, (k0_off146 arg6_r0) a + S1.size a ≤ S2.size a) ∧
  (∀ (k0_h7 : k0_cond7 k0_t1 arg10_r0 = 1#1), ∀ a, (k0_off147 arg10_r0) a + S1x16x256x512.size a ≤ S4x16x256x512.size a) ∧
  (∀ (k0_h7 : k0_cond7 k0_t1 arg10_r0 = 1#1), ∀ a, (k0_off148 arg6_r0) a + S1x16x256x512.size a ≤ S2x16x256x512.size a) ∧
  (∀ (k0_h7 : k0_cond7 k0_t1 arg10_r0 = 1#1), ∀ (hinb : ∀ a, (k0_off148 arg6_r0) a + S1x16x256x512.size a ≤ S2x16x256x512.size a), (Rect.unit (s := S2x16x256x512) (k0_off148 arg6_r0) S1x16x256x512.size hinb).WholeWords (EltTy.packing .bf16)) ∧
  (∀ (k0_h7 : k0_cond7 k0_t1 arg10_r0 = 1#1), ∀ (hinb : ∀ a, (k0_off147 arg10_r0) a + S1x16x256x512.size a ≤ S4x16x256x512.size a), (Rect.unit (s := S4x16x256x512) (k0_off147 arg10_r0) S1x16x256x512.size hinb).WholeWords (EltTy.packing .bf16)) ∧
  (∀ (k0_h8 : k0_cond8 k0_t1 arg10_r0 = 1#1), ∀ a, (k0_off149 arg8_r0) a + S1.size a ≤ S2.size a) ∧
  (∀ (k0_h8 : k0_cond8 k0_t1 arg10_r0 = 1#1), ∀ a, (k0_off150 arg10_r0) a + S1x16x256x128.size a ≤ S4x16x256x128.size a) ∧
  (∀ (k0_h8 : k0_cond8 k0_t1 arg10_r0 = 1#1), ∀ a, (k0_off151 arg8_r0) a + S1x16x256x128.size a ≤ S2x16x256x128.size a) ∧
  (∀ (k0_h10 : k0_cond10 k0_t1 arg10_r0 = 1#1), ∀ a, (k0_off152 arg7_r0) a + S1.size a ≤ S2.size a) ∧
  (∀ (k0_h10 : k0_cond10 k0_t1 arg10_r0 = 1#1), ∀ a, (k0_off153 arg10_r0) a + S1x16x256x512.size a ≤ S4x16x256x512.size a) ∧
  (∀ (k0_h10 : k0_cond10 k0_t1 arg10_r0 = 1#1), ∀ a, (k0_off154 arg7_r0) a + S1x16x256x512.size a ≤ S2x16x256x512.size a) ∧
  (∀ (k0_h10 : k0_cond10 k0_t1 arg10_r0 = 1#1), ∀ (hinb : ∀ a, (k0_off154 arg7_r0) a + S1x16x256x512.size a ≤ S2x16x256x512.size a), (Rect.unit (s := S2x16x256x512) (k0_off154 arg7_r0) S1x16x256x512.size hinb).WholeWords (EltTy.packing .bf16)) ∧
  (∀ (k0_h10 : k0_cond10 k0_t1 arg10_r0 = 1#1), ∀ (hinb : ∀ a, (k0_off153 arg10_r0) a + S1x16x256x512.size a ≤ S4x16x256x512.size a), (Rect.unit (s := S4x16x256x512) (k0_off153 arg10_r0) S1x16x256x512.size hinb).WholeWords (EltTy.packing .bf16)) ∧
  (∀ (k0_h11 : k0_cond11 k0_t1 arg10_r0 = 1#1), ∀ a, (k0_off155 arg9_r0) a + S1.size a ≤ S2.size a) ∧
  (∀ (k0_h11 : k0_cond11 k0_t1 arg10_r0 = 1#1), ∀ a, (k0_off156 arg10_r0) a + S1x16x256x128.size a ≤ S4x16x256x128.size a) ∧
  (∀ (k0_h11 : k0_cond11 k0_t1 arg10_r0 = 1#1), ∀ a, (k0_off157 arg9_r0) a + S1x16x256x128.size a ≤ S2x16x256x128.size a)
theorem k0_off6_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h2 : k0_cond2 k0_t1 arg10_r0 = 1#1), ∀ a, (k0_off6 arg4_r0) a + S1.size a ≤ S3.size a := fun k0_t1 arg4_r0 arg5_r0 arg6_r0 arg7_r0 arg8_r0 arg9_r0 arg10_r0 k0_hw1 k0_h2 => k0_hw1.1 k0_h2
theorem k0_off7_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h2 : k0_cond2 k0_t1 arg10_r0 = 1#1), ∀ a, (k0_off7 arg4_r0) a + S1x16x256x1536.size a ≤ S3x16x256x1536.size a := fun k0_t1 arg4_r0 arg5_r0 arg6_r0 arg7_r0 arg8_r0 arg9_r0 arg10_r0 k0_hw1 k0_h2 => k0_hw1.2.1 k0_h2
theorem k0_off8_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h2 : k0_cond2 k0_t1 arg10_r0 = 1#1), ∀ a, (k0_off8 arg10_r0) a + S1x16x256x1536.size a ≤ S4x16x256x1536.size a := fun k0_t1 arg4_r0 arg5_r0 arg6_r0 arg7_r0 arg8_r0 arg9_r0 arg10_r0 k0_hw1 k0_h2 => k0_hw1.2.2.1 k0_h2
theorem k0_off8_wordsbf16 : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h2 : k0_cond2 k0_t1 arg10_r0 = 1#1), (Rect.unit (s := S4x16x256x1536) (k0_off8 arg10_r0) S1x16x256x1536.size (k0_off8_inb k0_t1 arg4_r0 arg5_r0 arg6_r0 arg7_r0 arg8_r0 arg9_r0 arg10_r0 k0_hw1 k0_h2)).WholeWords (EltTy.packing .bf16) := fun k0_t1 arg4_r0 arg5_r0 arg6_r0 arg7_r0 arg8_r0 arg9_r0 arg10_r0 k0_hw1 k0_h2 => k0_hw1.2.2.2.1 k0_h2 (k0_off8_inb k0_t1 arg4_r0 arg5_r0 arg6_r0 arg7_r0 arg8_r0 arg9_r0 arg10_r0 k0_hw1 k0_h2)
theorem k0_off7_wordsbf16 : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h2 : k0_cond2 k0_t1 arg10_r0 = 1#1), (Rect.unit (s := S3x16x256x1536) (k0_off7 arg4_r0) S1x16x256x1536.size (k0_off7_inb k0_t1 arg4_r0 arg5_r0 arg6_r0 arg7_r0 arg8_r0 arg9_r0 arg10_r0 k0_hw1 k0_h2)).WholeWords (EltTy.packing .bf16) := fun k0_t1 arg4_r0 arg5_r0 arg6_r0 arg7_r0 arg8_r0 arg9_r0 arg10_r0 k0_hw1 k0_h2 => k0_hw1.2.2.2.2.1 k0_h2 (k0_off7_inb k0_t1 arg4_r0 arg5_r0 arg6_r0 arg7_r0 arg8_r0 arg9_r0 arg10_r0 k0_hw1 k0_h2)
theorem k0_off9_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h3 : k0_cond3 k0_t1 arg10_r0 = 1#1), ∀ a, (k0_off9 arg5_r0) a + S1.size a ≤ S3.size a := fun k0_t1 arg4_r0 arg5_r0 arg6_r0 arg7_r0 arg8_r0 arg9_r0 arg10_r0 k0_hw1 k0_h3 => k0_hw1.2.2.2.2.2.1 k0_h3
theorem k0_off10_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h3 : k0_cond3 k0_t1 arg10_r0 = 1#1), ∀ a, (k0_off10 arg5_r0) a + S1x16x256x1536.size a ≤ S3x16x256x1536.size a := fun k0_t1 arg4_r0 arg5_r0 arg6_r0 arg7_r0 arg8_r0 arg9_r0 arg10_r0 k0_hw1 k0_h3 => k0_hw1.2.2.2.2.2.2.1 k0_h3
theorem k0_off11_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h3 : k0_cond3 k0_t1 arg10_r0 = 1#1), ∀ a, (k0_off11 arg10_r0) a + S1x16x256x1536.size a ≤ S4x16x256x1536.size a := fun k0_t1 arg4_r0 arg5_r0 arg6_r0 arg7_r0 arg8_r0 arg9_r0 arg10_r0 k0_hw1 k0_h3 => k0_hw1.2.2.2.2.2.2.2.1 k0_h3
theorem k0_off11_wordsbf16 : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h3 : k0_cond3 k0_t1 arg10_r0 = 1#1), (Rect.unit (s := S4x16x256x1536) (k0_off11 arg10_r0) S1x16x256x1536.size (k0_off11_inb k0_t1 arg4_r0 arg5_r0 arg6_r0 arg7_r0 arg8_r0 arg9_r0 arg10_r0 k0_hw1 k0_h3)).WholeWords (EltTy.packing .bf16) := fun k0_t1 arg4_r0 arg5_r0 arg6_r0 arg7_r0 arg8_r0 arg9_r0 arg10_r0 k0_hw1 k0_h3 => k0_hw1.2.2.2.2.2.2.2.2.1 k0_h3 (k0_off11_inb k0_t1 arg4_r0 arg5_r0 arg6_r0 arg7_r0 arg8_r0 arg9_r0 arg10_r0 k0_hw1 k0_h3)
theorem k0_off10_wordsbf16 : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h3 : k0_cond3 k0_t1 arg10_r0 = 1#1), (Rect.unit (s := S3x16x256x1536) (k0_off10 arg5_r0) S1x16x256x1536.size (k0_off10_inb k0_t1 arg4_r0 arg5_r0 arg6_r0 arg7_r0 arg8_r0 arg9_r0 arg10_r0 k0_hw1 k0_h3)).WholeWords (EltTy.packing .bf16) := fun k0_t1 arg4_r0 arg5_r0 arg6_r0 arg7_r0 arg8_r0 arg9_r0 arg10_r0 k0_hw1 k0_h3 => k0_hw1.2.2.2.2.2.2.2.2.2.1 k0_h3 (k0_off10_inb k0_t1 arg4_r0 arg5_r0 arg6_r0 arg7_r0 arg8_r0 arg9_r0 arg10_r0 k0_hw1 k0_h3)
theorem k0_off146_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h7 : k0_cond7 k0_t1 arg10_r0 = 1#1), ∀ a, (k0_off146 arg6_r0) a + S1.size a ≤ S2.size a := fun k0_t1 arg4_r0 arg5_r0 arg6_r0 arg7_r0 arg8_r0 arg9_r0 arg10_r0 k0_hw1 k0_h7 => k0_hw1.2.2.2.2.2.2.2.2.2.2.1 k0_h7
theorem k0_off147_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h7 : k0_cond7 k0_t1 arg10_r0 = 1#1), ∀ a, (k0_off147 arg10_r0) a + S1x16x256x512.size a ≤ S4x16x256x512.size a := fun k0_t1 arg4_r0 arg5_r0 arg6_r0 arg7_r0 arg8_r0 arg9_r0 arg10_r0 k0_hw1 k0_h7 => k0_hw1.2.2.2.2.2.2.2.2.2.2.2.1 k0_h7
theorem k0_off148_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h7 : k0_cond7 k0_t1 arg10_r0 = 1#1), ∀ a, (k0_off148 arg6_r0) a + S1x16x256x512.size a ≤ S2x16x256x512.size a := fun k0_t1 arg4_r0 arg5_r0 arg6_r0 arg7_r0 arg8_r0 arg9_r0 arg10_r0 k0_hw1 k0_h7 => k0_hw1.2.2.2.2.2.2.2.2.2.2.2.2.1 k0_h7
theorem k0_off148_wordsbf16 : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h7 : k0_cond7 k0_t1 arg10_r0 = 1#1), (Rect.unit (s := S2x16x256x512) (k0_off148 arg6_r0) S1x16x256x512.size (k0_off148_inb k0_t1 arg4_r0 arg5_r0 arg6_r0 arg7_r0 arg8_r0 arg9_r0 arg10_r0 k0_hw1 k0_h7)).WholeWords (EltTy.packing .bf16) := fun k0_t1 arg4_r0 arg5_r0 arg6_r0 arg7_r0 arg8_r0 arg9_r0 arg10_r0 k0_hw1 k0_h7 => k0_hw1.2.2.2.2.2.2.2.2.2.2.2.2.2.1 k0_h7 (k0_off148_inb k0_t1 arg4_r0 arg5_r0 arg6_r0 arg7_r0 arg8_r0 arg9_r0 arg10_r0 k0_hw1 k0_h7)
theorem k0_off147_wordsbf16 : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h7 : k0_cond7 k0_t1 arg10_r0 = 1#1), (Rect.unit (s := S4x16x256x512) (k0_off147 arg10_r0) S1x16x256x512.size (k0_off147_inb k0_t1 arg4_r0 arg5_r0 arg6_r0 arg7_r0 arg8_r0 arg9_r0 arg10_r0 k0_hw1 k0_h7)).WholeWords (EltTy.packing .bf16) := fun k0_t1 arg4_r0 arg5_r0 arg6_r0 arg7_r0 arg8_r0 arg9_r0 arg10_r0 k0_hw1 k0_h7 => k0_hw1.2.2.2.2.2.2.2.2.2.2.2.2.2.2.1 k0_h7 (k0_off147_inb k0_t1 arg4_r0 arg5_r0 arg6_r0 arg7_r0 arg8_r0 arg9_r0 arg10_r0 k0_hw1 k0_h7)
theorem k0_off149_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h8 : k0_cond8 k0_t1 arg10_r0 = 1#1), ∀ a, (k0_off149 arg8_r0) a + S1.size a ≤ S2.size a := fun k0_t1 arg4_r0 arg5_r0 arg6_r0 arg7_r0 arg8_r0 arg9_r0 arg10_r0 k0_hw1 k0_h8 => k0_hw1.2.2.2.2.2.2.2.2.2.2.2.2.2.2.2.1 k0_h8
theorem k0_off150_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h8 : k0_cond8 k0_t1 arg10_r0 = 1#1), ∀ a, (k0_off150 arg10_r0) a + S1x16x256x128.size a ≤ S4x16x256x128.size a := fun k0_t1 arg4_r0 arg5_r0 arg6_r0 arg7_r0 arg8_r0 arg9_r0 arg10_r0 k0_hw1 k0_h8 => k0_hw1.2.2.2.2.2.2.2.2.2.2.2.2.2.2.2.2.1 k0_h8
theorem k0_off151_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h8 : k0_cond8 k0_t1 arg10_r0 = 1#1), ∀ a, (k0_off151 arg8_r0) a + S1x16x256x128.size a ≤ S2x16x256x128.size a := fun k0_t1 arg4_r0 arg5_r0 arg6_r0 arg7_r0 arg8_r0 arg9_r0 arg10_r0 k0_hw1 k0_h8 => k0_hw1.2.2.2.2.2.2.2.2.2.2.2.2.2.2.2.2.2.1 k0_h8
theorem k0_off152_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h10 : k0_cond10 k0_t1 arg10_r0 = 1#1), ∀ a, (k0_off152 arg7_r0) a + S1.size a ≤ S2.size a := fun k0_t1 arg4_r0 arg5_r0 arg6_r0 arg7_r0 arg8_r0 arg9_r0 arg10_r0 k0_hw1 k0_h10 => k0_hw1.2.2.2.2.2.2.2.2.2.2.2.2.2.2.2.2.2.2.1 k0_h10
theorem k0_off153_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h10 : k0_cond10 k0_t1 arg10_r0 = 1#1), ∀ a, (k0_off153 arg10_r0) a + S1x16x256x512.size a ≤ S4x16x256x512.size a := fun k0_t1 arg4_r0 arg5_r0 arg6_r0 arg7_r0 arg8_r0 arg9_r0 arg10_r0 k0_hw1 k0_h10 => k0_hw1.2.2.2.2.2.2.2.2.2.2.2.2.2.2.2.2.2.2.2.1 k0_h10
theorem k0_off154_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h10 : k0_cond10 k0_t1 arg10_r0 = 1#1), ∀ a, (k0_off154 arg7_r0) a + S1x16x256x512.size a ≤ S2x16x256x512.size a := fun k0_t1 arg4_r0 arg5_r0 arg6_r0 arg7_r0 arg8_r0 arg9_r0 arg10_r0 k0_hw1 k0_h10 => k0_hw1.2.2.2.2.2.2.2.2.2.2.2.2.2.2.2.2.2.2.2.2.1 k0_h10
theorem k0_off154_wordsbf16 : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h10 : k0_cond10 k0_t1 arg10_r0 = 1#1), (Rect.unit (s := S2x16x256x512) (k0_off154 arg7_r0) S1x16x256x512.size (k0_off154_inb k0_t1 arg4_r0 arg5_r0 arg6_r0 arg7_r0 arg8_r0 arg9_r0 arg10_r0 k0_hw1 k0_h10)).WholeWords (EltTy.packing .bf16) := fun k0_t1 arg4_r0 arg5_r0 arg6_r0 arg7_r0 arg8_r0 arg9_r0 arg10_r0 k0_hw1 k0_h10 => k0_hw1.2.2.2.2.2.2.2.2.2.2.2.2.2.2.2.2.2.2.2.2.2.1 k0_h10 (k0_off154_inb k0_t1 arg4_r0 arg5_r0 arg6_r0 arg7_r0 arg8_r0 arg9_r0 arg10_r0 k0_hw1 k0_h10)
theorem k0_off153_wordsbf16 : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h10 : k0_cond10 k0_t1 arg10_r0 = 1#1), (Rect.unit (s := S4x16x256x512) (k0_off153 arg10_r0) S1x16x256x512.size (k0_off153_inb k0_t1 arg4_r0 arg5_r0 arg6_r0 arg7_r0 arg8_r0 arg9_r0 arg10_r0 k0_hw1 k0_h10)).WholeWords (EltTy.packing .bf16) := fun k0_t1 arg4_r0 arg5_r0 arg6_r0 arg7_r0 arg8_r0 arg9_r0 arg10_r0 k0_hw1 k0_h10 => k0_hw1.2.2.2.2.2.2.2.2.2.2.2.2.2.2.2.2.2.2.2.2.2.2.1 k0_h10 (k0_off153_inb k0_t1 arg4_r0 arg5_r0 arg6_r0 arg7_r0 arg8_r0 arg9_r0 arg10_r0 k0_hw1 k0_h10)
theorem k0_off155_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h11 : k0_cond11 k0_t1 arg10_r0 = 1#1), ∀ a, (k0_off155 arg9_r0) a + S1.size a ≤ S2.size a := fun k0_t1 arg4_r0 arg5_r0 arg6_r0 arg7_r0 arg8_r0 arg9_r0 arg10_r0 k0_hw1 k0_h11 => k0_hw1.2.2.2.2.2.2.2.2.2.2.2.2.2.2.2.2.2.2.2.2.2.2.2.1 k0_h11
theorem k0_off156_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h11 : k0_cond11 k0_t1 arg10_r0 = 1#1), ∀ a, (k0_off156 arg10_r0) a + S1x16x256x128.size a ≤ S4x16x256x128.size a := fun k0_t1 arg4_r0 arg5_r0 arg6_r0 arg7_r0 arg8_r0 arg9_r0 arg10_r0 k0_hw1 k0_h11 => k0_hw1.2.2.2.2.2.2.2.2.2.2.2.2.2.2.2.2.2.2.2.2.2.2.2.2.1 k0_h11
theorem k0_off157_inb : ∀ (k0_t1 : Fin k0_t1_loop.trips) (arg4_r0 : BitVec 32) (arg5_r0 : BitVec 32) (arg6_r0 : BitVec 32) (arg7_r0 : BitVec 32) (arg8_r0 : BitVec 32) (arg9_r0 : BitVec 32) (arg10_r0 : BitVec 32) (k0_hw1 : k0_chk1 k0_t1 arg4_r0 arg5_r0 arg6_r0 arg7_r0 arg8_r0 arg9_r0 arg10_r0), ∀ (k0_h11 : k0_cond11 k0_t1 arg10_r0 = 1#1), ∀ a, (k0_off157 arg9_r0) a + S1x16x256x128.size a ≤ S2x16x256x128.size a := fun k0_t1 arg4_r0 arg5_r0 arg6_r0 arg7_r0 arg8_r0 arg9_r0 arg10_r0 k0_hw1 k0_h11 => k0_hw1.2.2.2.2.2.2.2.2.2.2.2.2.2.2.2.2.2.2.2.2.2.2.2.2.2 k0_h11

def k0_off158 (v49_3_r0 : BitVec 32) : Fin 1 → Nat :=
  let c2_i32_r0 : BitVec 32 := 2#32
  let v91_r0 : BitVec 32 := Scalar.remui v49_3_r0 c2_i32_r0
  ![v91_r0.toNat]

def k0_off159 (v49_7_r0 : BitVec 32) (v49_6_r0 : BitVec 32) : Fin 4 → Nat :=
  let true_62_r0 : BitVec 1 := 1#1
  let c1_i32_61_r0 : BitVec 32 := 1#32
  let v50_r0 : BitVec 32 := Scalar.subi v49_7_r0 c1_i32_61_r0
  let v51_r0 : BitVec 32 := Scalar.select true_62_r0 v50_r0 v49_7_r0
  let c_m1_i32_63_r0 : BitVec 32 := 4294967295#32
  let v52_r0 : BitVec 1 := Scalar.cmpi .eq v51_r0 c_m1_i32_63_r0
  let c1_i32_65_r0 : BitVec 32 := 1#32
  let v54_r0 : BitVec 32 := Scalar.subi v49_6_r0 c1_i32_65_r0
  let v55_r0 : BitVec 32 := Scalar.select v52_r0 v54_r0 v49_6_r0
  let c_m1_i32_66_r0 : BitVec 32 := 4294967295#32
  let v56_r0 : BitVec 1 := Scalar.cmpi .eq v55_r0 c_m1_i32_66_r0
  let c3_i32_67_r0 : BitVec 32 := 3#32
  let v57_r0 : BitVec 32 := Scalar.select v56_r0 c3_i32_67_r0 v55_r0
  let c0_i32_68_r0 : BitVec 32 := 0#32
  let v58_r0 : BitVec 32 := Scalar.addi v57_r0 c0_i32_68_r0
  let c0_i32_105_r0 : BitVec 32 := 0#32
  let c0_i32_106_r0 : BitVec 32 := 0#32
  let c0_i32_107_r0 : BitVec 32 := 0#32
  ![v58_r0.toNat, 0, 0, 0]

def k0_off160 (v49_3_r0 : BitVec 32) : Fin 4 → Nat :=
  let c2_i32_r0 : BitVec 32 := 2#32
  let v91_r0 : BitVec 32 := Scalar.remui v49_3_r0 c2_i32_r0
  let c0_i32_108_r0 : BitVec 32 := 0#32
  let c0_i32_109_r0 : BitVec 32 := 0#32
  let c0_i32_110_r0 : BitVec 32 := 0#32
  ![v91_r0.toNat, 0, 0, 0]

def k0_chk5 (v49_3_r0 : BitVec 32) : Prop :=
  (∀ a, (k0_off158 v49_3_r0) a + S1.size a ≤ S2.size a) ∧
  (∀ a, (k0_off160 v49_3_r0) a + S1x16x256x512.size a ≤ S2x16x256x512.size a) ∧
  (∀ (hinb : ∀ a, (k0_off160 v49_3_r0) a + S1x16x256x512.size a ≤ S2x16x256x512.size a), (Rect.unit (s := S2x16x256x512) (k0_off160 v49_3_r0) S1x16x256x512.size hinb).WholeWords (EltTy.packing .bf16))
theorem k0_off158_inb : ∀ (v49_3_r0 : BitVec 32) (k0_hw5 : k0_chk5 v49_3_r0), ∀ a, (k0_off158 v49_3_r0) a + S1.size a ≤ S2.size a := fun v49_3_r0 k0_hw5 => k0_hw5.1
theorem k0_off160_inb : ∀ (v49_3_r0 : BitVec 32) (k0_hw5 : k0_chk5 v49_3_r0), ∀ a, (k0_off160 v49_3_r0) a + S1x16x256x512.size a ≤ S2x16x256x512.size a := fun v49_3_r0 k0_hw5 => k0_hw5.2.1
theorem k0_off160_wordsbf16 : ∀ (v49_3_r0 : BitVec 32) (k0_hw5 : k0_chk5 v49_3_r0), (Rect.unit (s := S2x16x256x512) (k0_off160 v49_3_r0) S1x16x256x512.size (k0_off160_inb v49_3_r0 k0_hw5)).WholeWords (EltTy.packing .bf16) := fun v49_3_r0 k0_hw5 => k0_hw5.2.2 (k0_off160_inb v49_3_r0 k0_hw5)

def k0_off161 (v49_5_r0 : BitVec 32) : Fin 1 → Nat :=
  let c2_i32_111_r0 : BitVec 32 := 2#32
  let v98_r0 : BitVec 32 := Scalar.remui v49_5_r0 c2_i32_111_r0
  ![v98_r0.toNat]

def k0_off162 (v49_7_r0 : BitVec 32) (v49_6_r0 : BitVec 32) : Fin 4 → Nat :=
  let true_62_r0 : BitVec 1 := 1#1
  let c1_i32_61_r0 : BitVec 32 := 1#32
  let v50_r0 : BitVec 32 := Scalar.subi v49_7_r0 c1_i32_61_r0
  let v51_r0 : BitVec 32 := Scalar.select true_62_r0 v50_r0 v49_7_r0
  let c_m1_i32_63_r0 : BitVec 32 := 4294967295#32
  let v52_r0 : BitVec 1 := Scalar.cmpi .eq v51_r0 c_m1_i32_63_r0
  let c1_i32_65_r0 : BitVec 32 := 1#32
  let v54_r0 : BitVec 32 := Scalar.subi v49_6_r0 c1_i32_65_r0
  let v55_r0 : BitVec 32 := Scalar.select v52_r0 v54_r0 v49_6_r0
  let c_m1_i32_66_r0 : BitVec 32 := 4294967295#32
  let v56_r0 : BitVec 1 := Scalar.cmpi .eq v55_r0 c_m1_i32_66_r0
  let c3_i32_67_r0 : BitVec 32 := 3#32
  let v57_r0 : BitVec 32 := Scalar.select v56_r0 c3_i32_67_r0 v55_r0
  let c0_i32_68_r0 : BitVec 32 := 0#32
  let v58_r0 : BitVec 32 := Scalar.addi v57_r0 c0_i32_68_r0
  let c0_i32_112_r0 : BitVec 32 := 0#32
  let c0_i32_113_r0 : BitVec 32 := 0#32
  let c0_i32_114_r0 : BitVec 32 := 0#32
  ![v58_r0.toNat, 0, 0, 0]

def k0_chk6 (v49_7_r0 : BitVec 32) (v49_6_r0 : BitVec 32) : Prop :=
  (∀ a, (k0_off159 v49_7_r0 v49_6_r0) a + S1x16x256x512.size a ≤ S4x16x256x512.size a) ∧
  (∀ (hinb : ∀ a, (k0_off159 v49_7_r0 v49_6_r0) a + S1x16x256x512.size a ≤ S4x16x256x512.size a), (Rect.unit (s := S4x16x256x512) (k0_off159 v49_7_r0 v49_6_r0) S1x16x256x512.size hinb).WholeWords (EltTy.packing .bf16)) ∧
  (∀ a, (k0_off162 v49_7_r0 v49_6_r0) a + S1x16x256x128.size a ≤ S4x16x256x128.size a)
theorem k0_off159_inb : ∀ (v49_7_r0 : BitVec 32) (v49_6_r0 : BitVec 32) (k0_hw6 : k0_chk6 v49_7_r0 v49_6_r0), ∀ a, (k0_off159 v49_7_r0 v49_6_r0) a + S1x16x256x512.size a ≤ S4x16x256x512.size a := fun v49_7_r0 v49_6_r0 k0_hw6 => k0_hw6.1
theorem k0_off159_wordsbf16 : ∀ (v49_7_r0 : BitVec 32) (v49_6_r0 : BitVec 32) (k0_hw6 : k0_chk6 v49_7_r0 v49_6_r0), (Rect.unit (s := S4x16x256x512) (k0_off159 v49_7_r0 v49_6_r0) S1x16x256x512.size (k0_off159_inb v49_7_r0 v49_6_r0 k0_hw6)).WholeWords (EltTy.packing .bf16) := fun v49_7_r0 v49_6_r0 k0_hw6 => k0_hw6.2.1 (k0_off159_inb v49_7_r0 v49_6_r0 k0_hw6)
theorem k0_off162_inb : ∀ (v49_7_r0 : BitVec 32) (v49_6_r0 : BitVec 32) (k0_hw6 : k0_chk6 v49_7_r0 v49_6_r0), ∀ a, (k0_off162 v49_7_r0 v49_6_r0) a + S1x16x256x128.size a ≤ S4x16x256x128.size a := fun v49_7_r0 v49_6_r0 k0_hw6 => k0_hw6.2.2

def k0_off163 (v49_5_r0 : BitVec 32) : Fin 4 → Nat :=
  let c2_i32_111_r0 : BitVec 32 := 2#32
  let v98_r0 : BitVec 32 := Scalar.remui v49_5_r0 c2_i32_111_r0
  let c0_i32_115_r0 : BitVec 32 := 0#32
  let c0_i32_116_r0 : BitVec 32 := 0#32
  let c0_i32_117_r0 : BitVec 32 := 0#32
  ![v98_r0.toNat, 0, 0, 0]

def k0_chk7 (v49_5_r0 : BitVec 32) : Prop :=
  (∀ a, (k0_off161 v49_5_r0) a + S1.size a ≤ S2.size a) ∧
  (∀ a, (k0_off163 v49_5_r0) a + S1x16x256x128.size a ≤ S2x16x256x128.size a)
theorem k0_off161_inb : ∀ (v49_5_r0 : BitVec 32) (k0_hw7 : k0_chk7 v49_5_r0), ∀ a, (k0_off161 v49_5_r0) a + S1.size a ≤ S2.size a := fun v49_5_r0 k0_hw7 => k0_hw7.1
theorem k0_off163_inb : ∀ (v49_5_r0 : BitVec 32) (k0_hw7 : k0_chk7 v49_5_r0), ∀ a, (k0_off163 v49_5_r0) a + S1x16x256x128.size a ≤ S2x16x256x128.size a := fun v49_5_r0 k0_hw7 => k0_hw7.2
-- ==== ReferenceIdeal.lean ====
abbrev S4x16x256x1536 : Shape := ⟨4, ![4, 16, 256, 1536]⟩
abbrev S4x16x256x512 : Shape := ⟨4, ![4, 16, 256, 512]⟩
abbrev S4x16x2x128x4x128 : Shape := ⟨6, ![4, 16, 2, 128, 4, 128]⟩
abbrev S_ : Shape := ⟨0, ![]⟩
abbrev S4x16x3x128x4x128 : Shape := ⟨6, ![4, 16, 3, 128, 4, 128]⟩
abbrev S4x16x2x256x4x128 : Shape := ⟨6, ![4, 16, 2, 256, 4, 128]⟩
abbrev S4x16x2x4x128x256 : Shape := ⟨6, ![4, 16, 2, 4, 128, 256]⟩
abbrev S2 : Shape := ⟨1, ![2]⟩
abbrev S2x1 : Shape := ⟨2, ![2, 1]⟩
abbrev S128 : Shape := ⟨1, ![128]⟩
abbrev S1x128 : Shape := ⟨2, ![1, 128]⟩
abbrev S2x128 : Shape := ⟨2, ![2, 128]⟩
abbrev S256 : Shape := ⟨1, ![256]⟩
abbrev S1x256 : Shape := ⟨2, ![1, 256]⟩
abbrev S2x256 : Shape := ⟨2, ![2, 256]⟩
abbrev S2x128x1 : Shape := ⟨3, ![2, 128, 1]⟩
abbrev S2x1x256 : Shape := ⟨3, ![2, 1, 256]⟩
abbrev S2x128x256 : Shape := ⟨3, ![2, 128, 256]⟩
abbrev S2x1x128x256 : Shape := ⟨4, ![2, 1, 128, 256]⟩
abbrev S4x16x2x4x128 : Shape := ⟨5, ![4, 16, 2, 4, 128]⟩
abbrev S4x16x2x4x128x1 : Shape := ⟨6, ![4, 16, 2, 4, 128, 1]⟩
abbrev S4x16x2x4x128x128 : Shape := ⟨6, ![4, 16, 2, 4, 128, 128]⟩
abbrev S4x16x2x4x128x2 : Shape := ⟨6, ![4, 16, 2, 4, 128, 2]⟩
abbrev S4x16x2x128x4x2 : Shape := ⟨6, ![4, 16, 2, 128, 4, 2]⟩
abbrev S4x16x256x8 : Shape := ⟨4, ![4, 16, 256, 8]⟩
abbrev S4x16x256x8x16 : Shape := ⟨5, ![4, 16, 256, 8, 16]⟩
abbrev S4x16x256x128 : Shape := ⟨4, ![4, 16, 256, 128]⟩

abbrev nBuf : Space → Nat
  | .hbm => 88
  | .vmem => 0
  | .smem => 0
  | _ => 0

abbrev bufTy : (tb : Table) → Fin (tcTables nBuf tb) → BufTy
  | .hbm, ⟨0, _⟩ => ⟨S4x16x256x1536, .bf16⟩
  | .hbm, ⟨1, _⟩ => ⟨S4x16x256x512, .bf16⟩
  | .hbm, ⟨2, _⟩ => ⟨S4x16x256x512, .bf16⟩
  | .hbm, ⟨3, _⟩ => ⟨S4x16x256x512, .bf16⟩
  | .hbm, ⟨4, _⟩ => ⟨S4x16x256x512, .f32⟩
  | .hbm, ⟨5, _⟩ => ⟨S4x16x2x128x4x128, .f32⟩
  | .hbm, ⟨6, _⟩ => ⟨S4x16x256x512, .f32⟩
  | .hbm, ⟨7, _⟩ => ⟨S4x16x2x128x4x128, .f32⟩
  | .hbm, ⟨8, _⟩ => ⟨S_, .i32⟩
  | .hbm, ⟨9, _⟩ => ⟨S_, .f32⟩
  | .hbm, ⟨10, _⟩ => ⟨S4x16x3x128x4x128, .f32⟩
  | .hbm, ⟨11, _⟩ => ⟨S4x16x2x128x4x128, .f32⟩
  | .hbm, ⟨12, _⟩ => ⟨S4x16x2x256x4x128, .f32⟩
  | .hbm, ⟨13, _⟩ => ⟨S4x16x256x512, .f32⟩
  | .hbm, ⟨14, _⟩ => ⟨S4x16x2x128x4x128, .f32⟩
  | .hbm, ⟨15, _⟩ => ⟨S_, .i32⟩
  | .hbm, ⟨16, _⟩ => ⟨S_, .f32⟩
  | .hbm, ⟨17, _⟩ => ⟨S4x16x3x128x4x128, .f32⟩
  | .hbm, ⟨18, _⟩ => ⟨S4x16x2x128x4x128, .f32⟩
  | .hbm, ⟨19, _⟩ => ⟨S4x16x2x256x4x128, .f32⟩
  | .hbm, ⟨20, _⟩ => ⟨S4x16x2x4x128x256, .f32⟩
  | .hbm, ⟨21, _⟩ => ⟨S2, .i32⟩
  | .hbm, ⟨22, _⟩ => ⟨S2x1, .i32⟩
  | .hbm, ⟨23, _⟩ => ⟨S_, .i32⟩
  | .hbm, ⟨24, _⟩ => ⟨S2x1, .i32⟩
  | .hbm, ⟨25, _⟩ => ⟨S2x1, .i32⟩
  | .hbm, ⟨26, _⟩ => ⟨S128, .i32⟩
  | .hbm, ⟨27, _⟩ => ⟨S1x128, .i32⟩
  | .hbm, ⟨28, _⟩ => ⟨S2x128, .i32⟩
  | .hbm, ⟨29, _⟩ => ⟨S2x128, .i32⟩
  | .hbm, ⟨30, _⟩ => ⟨S2x128, .i32⟩
  | .hbm, ⟨31, _⟩ => ⟨S_, .i32⟩
  | .hbm, ⟨32, _⟩ => ⟨S2x1, .i32⟩
  | .hbm, ⟨33, _⟩ => ⟨S2x1, .i32⟩
  | .hbm, ⟨34, _⟩ => ⟨S_, .i32⟩
  | .hbm, ⟨35, _⟩ => ⟨S2x1, .i32⟩
  | .hbm, ⟨36, _⟩ => ⟨S2x1, .i32⟩
  | .hbm, ⟨37, _⟩ => ⟨S256, .i32⟩
  | .hbm, ⟨38, _⟩ => ⟨S1x256, .i32⟩
  | .hbm, ⟨39, _⟩ => ⟨S2x256, .i32⟩
  | .hbm, ⟨40, _⟩ => ⟨S2x256, .i32⟩
  | .hbm, ⟨41, _⟩ => ⟨S2x256, .i32⟩
  | .hbm, ⟨42, _⟩ => ⟨S2x128x1, .i32⟩
  | .hbm, ⟨43, _⟩ => ⟨S2x1x256, .i32⟩
  | .hbm, ⟨44, _⟩ => ⟨S2x128x256, .i32⟩
  | .hbm, ⟨45, _⟩ => ⟨S2x128x256, .i32⟩
  | .hbm, ⟨46, _⟩ => ⟨S2x128x256, .i32⟩
  | .hbm, ⟨47, _⟩ => ⟨S_, .i32⟩
  | .hbm, ⟨48, _⟩ => ⟨S2x128x256, .i32⟩
  | .hbm, ⟨49, _⟩ => ⟨S2x128x256, .i1⟩
  | .hbm, ⟨50, _⟩ => ⟨S_, .i32⟩
  | .hbm, ⟨51, _⟩ => ⟨S2x128x256, .i32⟩
  | .hbm, ⟨52, _⟩ => ⟨S2x128x256, .i1⟩
  | .hbm, ⟨53, _⟩ => ⟨S2x128x256, .i1⟩
  | .hbm, ⟨54, _⟩ => ⟨S2x1x256, .i32⟩
  | .hbm, ⟨55, _⟩ => ⟨S_, .i32⟩
  | .hbm, ⟨56, _⟩ => ⟨S2x1x256, .i32⟩
  | .hbm, ⟨57, _⟩ => ⟨S2x1x256, .i1⟩
  | .hbm, ⟨58, _⟩ => ⟨S2x128x256, .i1⟩
  | .hbm, ⟨59, _⟩ => ⟨S2x128x256, .i1⟩
  | .hbm, ⟨60, _⟩ => ⟨S2x1x128x256, .i1⟩
  | .hbm, ⟨61, _⟩ => ⟨S_, .f32⟩
  | .hbm, ⟨62, _⟩ => ⟨S_, .f32⟩
  | .hbm, ⟨63, _⟩ => ⟨S4x16x2x4x128x256, .i1⟩
  | .hbm, ⟨64, _⟩ => ⟨S4x16x2x4x128x256, .f32⟩
  | .hbm, ⟨65, _⟩ => ⟨S4x16x2x4x128x256, .f32⟩
  | .hbm, ⟨66, _⟩ => ⟨S_, .f32⟩
  | .hbm, ⟨67, _⟩ => ⟨S4x16x2x4x128, .f32⟩
  | .hbm, ⟨68, _⟩ => ⟨S4x16x2x4x128x1, .f32⟩
  | .hbm, ⟨69, _⟩ => ⟨S4x16x2x4x128x256, .f32⟩
  | .hbm, ⟨70, _⟩ => ⟨S4x16x2x4x128x256, .f32⟩
  | .hbm, ⟨71, _⟩ => ⟨S_, .f32⟩
  | .hbm, ⟨72, _⟩ => ⟨S_, .f32⟩
  | .hbm, ⟨73, _⟩ => ⟨S4x16x2x4x128x256, .f32⟩
  | .hbm, ⟨74, _⟩ => ⟨S4x16x2x4x128x256, .f32⟩
  | .hbm, ⟨75, _⟩ => ⟨S4x16x2x4x128x256, .f32⟩
  | .hbm, ⟨76, _⟩ => ⟨S_, .f32⟩
  | .hbm, ⟨77, _⟩ => ⟨S4x16x2x4x128, .f32⟩
  | .hbm, ⟨78, _⟩ => ⟨S4x16x2x4x128x1, .f32⟩
  | .hbm, ⟨79, _⟩ => ⟨S4x16x2x4x128x128, .f32⟩
  | .hbm, ⟨80, _⟩ => ⟨S4x16x2x128x4x128, .f32⟩
  | .hbm, ⟨81, _⟩ => ⟨S4x16x2x4x128x2, .f32⟩
  | .hbm, ⟨82, _⟩ => ⟨S4x16x2x128x4x2, .f32⟩
  | .hbm, ⟨83, _⟩ => ⟨S4x16x256x8, .f32⟩
  | .hbm, ⟨84, _⟩ => ⟨S4x16x256x512, .f32⟩
  | .hbm, ⟨85, _⟩ => ⟨S4x16x256x512, .bf16⟩
  | .hbm, ⟨86, _⟩ => ⟨S4x16x256x8x16, .f32⟩
  | .hbm, ⟨87, _⟩ => ⟨S4x16x256x128, .f32⟩
  | _, _ => ⟨S4x16x256x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_c : Ref sig .tc := ⟨.hbm, 8, rfl⟩
abbrev main_call0_v0 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c_0 : Ref sig .tc := ⟨.hbm, 15, rfl⟩
abbrev main_call1_v0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c_2 : Ref sig .tc := ⟨.hbm, 31, rfl⟩
abbrev main_v25 : Ref sig .tc := ⟨.hbm, 32, rfl⟩
abbrev main_v26 : Ref sig .tc := ⟨.hbm, 33, rfl⟩
abbrev main_c_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_c_4 : Ref sig .tc := ⟨.hbm, 47, rfl⟩
abbrev main_v39 : Ref sig .tc := ⟨.hbm, 48, rfl⟩
abbrev main_v40 : Ref sig .tc := ⟨.hbm, 49, rfl⟩
abbrev main_c_5 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_c_6 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v50 : Ref sig .tc := ⟨.hbm, 65, rfl⟩
abbrev main_cst_7 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_8 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_9 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩

abbrev nD : Nat := 1
abbrev τ : Topo := Topo.v7x

variable {F : FTy → Type} [FloatOps F]
-- ==== Kernel2.lean ====
abbrev S4x4096x1024 : Shape := ⟨3, ![4, 4096, 1024]⟩
abbrev S4x1x4096x512 : Shape := ⟨4, ![4, 1, 4096, 512]⟩
abbrev S4x4x1024x512 : Shape := ⟨4, ![4, 4, 1024, 512]⟩
abbrev S4x16x256x512 : Shape := ⟨4, ![4, 16, 256, 512]⟩
abbrev S4x1x4096x128 : Shape := ⟨4, ![4, 1, 4096, 128]⟩
abbrev S4x4x1024x128 : Shape := ⟨4, ![4, 4, 1024, 128]⟩
abbrev S4x16x256x128 : Shape := ⟨4, ![4, 16, 256, 128]⟩
abbrev S16384x3072 : Shape := ⟨2, ![16384, 3072]⟩
abbrev S2048 : Shape := ⟨1, ![2048]⟩
abbrev S1024x1024 : Shape := ⟨2, ![1024, 1024]⟩
abbrev S512x1024 : Shape := ⟨2, ![512, 1024]⟩
abbrev S4x4096x256 : Shape := ⟨3, ![4, 4096, 256]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S16384x1024 : Shape := ⟨2, ![16384, 1024]⟩
abbrev S1x2048 : Shape := ⟨2, ![1, 2048]⟩
abbrev S16384x256 : Shape := ⟨2, ![16384, 256]⟩
abbrev S1x1024 : Shape := ⟨2, ![1, 1024]⟩
abbrev S1x1x512x512 : Shape := ⟨4, ![1, 1, 512, 512]⟩
abbrev S1x4x128x512 : Shape := ⟨4, ![1, 4, 128, 512]⟩
abbrev S1x16x32x512 : Shape := ⟨4, ![1, 16, 32, 512]⟩
abbrev S1x1x512x128 : Shape := ⟨4, ![1, 1, 512, 128]⟩
abbrev S1x4x128x128 : Shape := ⟨4, ![1, 4, 128, 128]⟩
abbrev S1x16x32x128 : Shape := ⟨4, ![1, 16, 32, 128]⟩
abbrev S512x256 : Shape := ⟨2, ![512, 256]⟩
abbrev S4x512x128 : Shape := ⟨3, ![4, 512, 128]⟩
abbrev S4x768x128 : Shape := ⟨3, ![4, 768, 128]⟩
abbrev S1x512x128 : Shape := ⟨3, ![1, 512, 128]⟩
abbrev S1x768x128 : Shape := ⟨3, ![1, 768, 128]⟩
abbrev S512x512 : Shape := ⟨2, ![512, 512]⟩
abbrev S1x1x128x128 : Shape := ⟨4, ![1, 1, 128, 128]⟩
abbrev S128x128 : Shape := ⟨2, ![128, 128]⟩
abbrev S1x128x128 : Shape := ⟨3, ![1, 128, 128]⟩
abbrev S512x128 : Shape := ⟨2, ![512, 128]⟩
abbrev S1x1x32x128 : Shape := ⟨4, ![1, 1, 32, 128]⟩
abbrev S32x128 : Shape := ⟨2, ![32, 128]⟩
abbrev S1x32x128 : Shape := ⟨3, ![1, 32, 128]⟩
abbrev S1x16x128 : Shape := ⟨3, ![1, 16, 128]⟩
abbrev S16x128 : Shape := ⟨2, ![16, 128]⟩
abbrev S16x512 : Shape := ⟨2, ![16, 512]⟩
abbrev S512x1 : Shape := ⟨2, ![512, 1]⟩
abbrev S512 : Shape := ⟨1, ![512]⟩

abbrev nBuf : Space → Nat
  | .hbm => 27
  | .vmem => 38
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .bf16⟩
  | .hbm, ⟨2, _⟩ => ⟨S4x1x4096x512, .bf16⟩
  | .hbm, ⟨3, _⟩ => ⟨S4x4x1024x512, .bf16⟩
  | .hbm, ⟨4, _⟩ => ⟨S4x16x256x512, .bf16⟩
  | .hbm, ⟨5, _⟩ => ⟨S4x1x4096x128, .f32⟩
  | .hbm, ⟨6, _⟩ => ⟨S4x4x1024x128, .f32⟩
  | .hbm, ⟨7, _⟩ => ⟨S4x16x256x128, .f32⟩
  | .hbm, ⟨8, _⟩ => ⟨S16384x3072, .bf16⟩
  | .hbm, ⟨9, _⟩ => ⟨S2048, .f32⟩
  | .hbm, ⟨10, _⟩ => ⟨S1024x1024, .bf16⟩
  | .hbm, ⟨11, _⟩ => ⟨S512x1024, .bf16⟩
  | .hbm, ⟨12, _⟩ => ⟨S1024x1024, .bf16⟩
  | .hbm, ⟨13, _⟩ => ⟨S4x4096x256, .f32⟩
  | .hbm, ⟨14, _⟩ => ⟨S1024, .f32⟩
  | .hbm, ⟨15, _⟩ => ⟨S1024x4096, .bf16⟩
  | .hbm, ⟨16, _⟩ => ⟨S4096x1024, .bf16⟩
  | .hbm, ⟨17, _⟩ => ⟨S1024, .f32⟩
  | .hbm, ⟨18, _⟩ => ⟨S1024x1024, .bf16⟩
  | .hbm, ⟨19, _⟩ => ⟨S256x1024, .bf16⟩
  | .hbm, ⟨20, _⟩ => ⟨S16384x1024, .f32⟩
  | .hbm, ⟨21, _⟩ => ⟨S16384x1024, .bf16⟩
  | .hbm, ⟨22, _⟩ => ⟨S1x2048, .f32⟩
  | .hbm, ⟨23, _⟩ => ⟨S16384x256, .f32⟩
  | .hbm, ⟨24, _⟩ => ⟨S1x1024, .f32⟩
  | .hbm, ⟨25, _⟩ => ⟨S1x1024, .f32⟩
  | .hbm, ⟨26, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1x512x512, .bf16⟩
  | .local _ .vmem, ⟨5, _⟩ => ⟨S1x1x512x512, .bf16⟩
  | .local _ .vmem, ⟨6, _⟩ => ⟨S1x4x128x512, .bf16⟩
  | .local _ .vmem, ⟨7, _⟩ => ⟨S1x4x128x512, .bf16⟩
  | .local _ .vmem, ⟨8, _⟩ => ⟨S1x16x32x512, .bf16⟩
  | .local _ .vmem, ⟨9, _⟩ => ⟨S1x16x32x512, .bf16⟩
  | .local _ .vmem, ⟨10, _⟩ => ⟨S1x1x512x128, .f32⟩
  | .local _ .vmem, ⟨11, _⟩ => ⟨S1x1x512x128, .f32⟩
  | .local _ .vmem, ⟨12, _⟩ => ⟨S1x4x128x128, .f32⟩
  | .local _ .vmem, ⟨13, _⟩ => ⟨S1x4x128x128, .f32⟩
  | .local _ .vmem, ⟨14, _⟩ => ⟨S1x16x32x128, .f32⟩
  | .local _ .vmem, ⟨15, _⟩ => ⟨S1x16x32x128, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S1x2048, .f32⟩
  | .local _ .vmem, ⟨21, _⟩ => ⟨S1024x1024, .bf16⟩
  | .local _ .vmem, ⟨22, _⟩ => ⟨S512x1024, .bf16⟩
  | .local _ .vmem, ⟨23, _⟩ => ⟨S1024x1024, .bf16⟩
  | .local _ .vmem, ⟨24, _⟩ => ⟨S512x256, .f32⟩
  | .local _ .vmem, ⟨25, _⟩ => ⟨S512x256, .f32⟩
  | .local _ .vmem, ⟨26, _⟩ => ⟨S1x1024, .f32⟩
  | .local _ .vmem, ⟨27, _⟩ => ⟨S1024x4096, .bf16⟩
  | .local _ .vmem, ⟨28, _⟩ => ⟨S4096x1024, .bf16⟩
  | .local _ .vmem, ⟨29, _⟩ => ⟨S1x1024, .f32⟩
  | .local _ .vmem, ⟨30, _⟩ => ⟨S1024x1024, .bf16⟩
  | .local _ .vmem, ⟨31, _⟩ => ⟨S256x1024, .bf16⟩
  | .local _ .vmem, ⟨32, _⟩ => ⟨S512x1024, .f32⟩
  | .local _ .vmem, ⟨33, _⟩ => ⟨S512x1024, .f32⟩
  | .local _ .vmem, ⟨34, _⟩ => ⟨S4x512x128, .f32⟩
  | .local _ .vmem, ⟨35, _⟩ => ⟨S4x768x128, .f32⟩
  | .local _ .vmem, ⟨36, _⟩ => ⟨S1x512x128, .f32⟩
  | .local _ .vmem, ⟨37, _⟩ => ⟨S1x768x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg20_0 : Ref sig .tc := ⟨.vmem, 31, rfl⟩
abbrev cc0_stg21_0 : Ref sig .tc := ⟨.vmem, 32, rfl⟩
abbrev cc0_stg21_1 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_scratch3 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem19_0 : DmaSem sig := 30
abbrev cc0_sem20_0 : DmaSem sig := 31
abbrev cc0_sem21_0 : DmaSem sig := 32
abbrev cc0_sem21_1 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_3 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_4 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_5 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_6 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_7 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_8 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_9 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x32x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x4096 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4096x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1024x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S512x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference2Ideal.lean ====
abbrev S4x4096x1024 : Shape := ⟨3, ![4, 4096, 1024]⟩
abbrev S4x1x4096x512 : Shape := ⟨4, ![4, 1, 4096, 512]⟩
abbrev S4x4x1024x512 : Shape := ⟨4, ![4, 4, 1024, 512]⟩
abbrev S4x16x256x512 : Shape := ⟨4, ![4, 16, 256, 512]⟩
abbrev S4x1x4096x128 : Shape := ⟨4, ![4, 1, 4096, 128]⟩
abbrev S4x4x1024x128 : Shape := ⟨4, ![4, 4, 1024, 128]⟩
abbrev S4x16x256x128 : Shape := ⟨4, ![4, 16, 256, 128]⟩
abbrev S16384x3072 : Shape := ⟨2, ![16384, 3072]⟩
abbrev S2048 : Shape := ⟨1, ![2048]⟩
abbrev S1024x1024 : Shape := ⟨2, ![1024, 1024]⟩
abbrev S512x1024 : Shape := ⟨2, ![512, 1024]⟩
abbrev S4x4096x256 : Shape := ⟨3, ![4, 4096, 256]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S4x1x4096x4x2x16 : Shape := ⟨6, ![4, 1, 4096, 4, 2, 16]⟩
abbrev S4x1x4096x4x2x1 : Shape := ⟨6, ![4, 1, 4096, 4, 2, 1]⟩
abbrev S4x1x4096x4x2 : Shape := ⟨5, ![4, 1, 4096, 4, 2]⟩
abbrev S4x1x4096x4x1 : Shape := ⟨5, ![4, 1, 4096, 4, 1]⟩
abbrev S4x1x4096x4 : Shape := ⟨4, ![4, 1, 4096, 4]⟩
abbrev S_ : Shape := ⟨0, ![]⟩
abbrev S4x1x4096x4x128 : Shape := ⟨5, ![4, 1, 4096, 4, 128]⟩
abbrev S4x4096x1x4x128 : Shape := ⟨5, ![4, 4096, 1, 4, 128]⟩
abbrev S4x4096x4x128 : Shape := ⟨4, ![4, 4096, 4, 128]⟩
abbrev S4x4096x1x4 : Shape := ⟨4, ![4, 4096, 1, 4]⟩
abbrev S4x4096x4 : Shape := ⟨3, ![4, 4096, 4]⟩
abbrev S4x4x1024x4x2x16 : Shape := ⟨6, ![4, 4, 1024, 4, 2, 16]⟩
abbrev S4x4x1024x4x2x1 : Shape := ⟨6, ![4, 4, 1024, 4, 2, 1]⟩
abbrev S4x4x1024x4x2 : Shape := ⟨5, ![4, 4, 1024, 4, 2]⟩
abbrev S4x4x1024x4x1 : Shape := ⟨5, ![4, 4, 1024, 4, 1]⟩
abbrev S4x4x1024x4 : Shape := ⟨4, ![4, 4, 1024, 4]⟩
abbrev S4x4x1024x4x128 : Shape := ⟨5, ![4, 4, 1024, 4, 128]⟩
abbrev S4x1024x4x4x128 : Shape := ⟨5, ![4, 1024, 4, 4, 128]⟩
abbrev S4x1024x4x4 : Shape := ⟨4, ![4, 1024, 4, 4]⟩
abbrev S4x16x256x4x2x16 : Shape := ⟨6, ![4, 16, 256, 4, 2, 16]⟩
abbrev S4x16x256x4x2x1 : Shape := ⟨6, ![4, 16, 256, 4, 2, 1]⟩
abbrev S4x16x256x4x2 : Shape := ⟨5, ![4, 16, 256, 4, 2]⟩
abbrev S4x16x256x4x1 : Shape := ⟨5, ![4, 16, 256, 4, 1]⟩
abbrev S4x16x256x4 : Shape := ⟨4, ![4, 16, 256, 4]⟩
abbrev S4x16x256x4x128 : Shape := ⟨5, ![4, 16, 256, 4, 128]⟩
abbrev S4x256x16x4x128 : Shape := ⟨5, ![4, 256, 16, 4, 128]⟩
abbrev S4x256x16x4 : Shape := ⟨4, ![4, 256, 16, 4]⟩
abbrev S1x4x4096x4 : Shape := ⟨4, ![1, 4, 4096, 4]⟩
abbrev S3x4x4096x4 : Shape := ⟨4, ![3, 4, 4096, 4]⟩
abbrev S1x4x4096x4x128 : Shape := ⟨5, ![1, 4, 4096, 4, 128]⟩
abbrev S3x4x4096x4x128 : Shape := ⟨5, ![3, 4, 4096, 4, 128]⟩
abbrev S4x4096x512 : Shape := ⟨3, ![4, 4096, 512]⟩
abbrev S4x4096x3072 : Shape := ⟨3, ![4, 4096, 3072]⟩
abbrev S4x4096x2048 : Shape := ⟨3, ![4, 4096, 2048]⟩
abbrev S1x1x2048 : Shape := ⟨3, ![1, 1, 2048]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4096 : Shape := ⟨3, ![4, 4096, 4096]⟩
abbrev S16384x1024 : Shape := ⟨2, ![16384, 1024]⟩

abbrev nBuf : Space → Nat
  | .hbm => 190
  | .vmem => 0
  | .smem => 0
  | _ => 0

abbrev hbmTy0_0 (i : Nat) : BufTy := match i % 128 with
  | 0 => ⟨S4x4096x1024, .f32⟩
  | 1 => ⟨S4x4096x1024, .bf16⟩
  | 2 => ⟨S4x1x4096x512, .bf16⟩
  | 3 => ⟨S4x4x1024x512, .bf16⟩
  | 4 => ⟨S4x16x256x512, .bf16⟩
  | 5 => ⟨S4x1x4096x128, .f32⟩
  | 6 => ⟨S4x4x1024x128, .f32⟩
  | 7 => ⟨S4x16x256x128, .f32⟩
  | 8 => ⟨S16384x3072, .bf16⟩
  | 9 => ⟨S2048, .f32⟩
  | 10 => ⟨S1024x1024, .bf16⟩
  | 11 => ⟨S512x1024, .bf16⟩
  | 12 => ⟨S1024x1024, .bf16⟩
  | 13 => ⟨S4x4096x256, .f32⟩
  | 14 => ⟨S1024, .f32⟩
  | 15 => ⟨S1024x4096, .bf16⟩
  | 16 => ⟨S4096x1024, .bf16⟩
  | 17 => ⟨S1024, .f32⟩
  | 18 => ⟨S1024x1024, .bf16⟩
  | 19 => ⟨S256x1024, .bf16⟩
  | 20 => ⟨S4x1x4096x4x2x16, .f32⟩
  | 21 => ⟨S4x1x4096x4x2x1, .f32⟩
  | 22 => ⟨S4x1x4096x4x2, .f32⟩
  | 23 => ⟨S4x1x4096x4x1, .f32⟩
  | 24 => ⟨S4x1x4096x4, .f32⟩
  | 25 => ⟨S_, .f32⟩
  | 26 => ⟨S_, .f32⟩
  | 27 => ⟨S4x1x4096x4, .f32⟩
  | 28 => ⟨S4x1x4096x4, .f32⟩
  | 29 => ⟨S4x1x4096x4x1, .f32⟩
  | 30 => ⟨S4x1x4096x4, .f32⟩
  | 31 => ⟨S4x1x4096x512, .f32⟩
  | 32 => ⟨S4x1x4096x4x128, .f32⟩
  | 33 => ⟨S4x1x4096x4x1, .f32⟩
  | 34 => ⟨S4x1x4096x4x128, .f32⟩
  | 35 => ⟨S4x1x4096x4x128, .f32⟩
  | 36 => ⟨S4x4096x1x4x128, .f32⟩
  | 37 => ⟨S4x4096x4x128, .f32⟩
  | 38 => ⟨S4x1x4096x4, .f32⟩
  | 39 => ⟨S4x1x4096x4, .f32⟩
  | 40 => ⟨S4x4096x1x4, .f32⟩
  | 41 => ⟨S4x4096x4, .f32⟩
  | 42 => ⟨S4x4x1024x4x2x16, .f32⟩
  | 43 => ⟨S4x4x1024x4x2x1, .f32⟩
  | 44 => ⟨S4x4x1024x4x2, .f32⟩
  | 45 => ⟨S4x4x1024x4x1, .f32⟩
  | 46 => ⟨S4x4x1024x4, .f32⟩
  | 47 => ⟨S_, .f32⟩
  | 48 => ⟨S_, .f32⟩
  | 49 => ⟨S4x4x1024x4, .f32⟩
  | 50 => ⟨S4x4x1024x4, .f32⟩
  | 51 => ⟨S4x4x1024x4x1, .f32⟩
  | 52 => ⟨S4x4x1024x4, .f32⟩
  | 53 => ⟨S4x4x1024x512, .f32⟩
  | 54 => ⟨S4x4x1024x4x128, .f32⟩
  | 55 => ⟨S4x4x1024x4x1, .f32⟩
  | 56 => ⟨S4x4x1024x4x128, .f32⟩
  | 57 => ⟨S4x4x1024x4x128, .f32⟩
  | 58 => ⟨S4x1024x4x4x128, .f32⟩
  | 59 => ⟨S4x4096x4x128, .f32⟩
  | 60 => ⟨S4x4x1024x4, .f32⟩
  | 61 => ⟨S4x4x1024x4, .f32⟩
  | 62 => ⟨S4x1024x4x4, .f32⟩
  | 63 => ⟨S4x4096x4, .f32⟩
  | 64 => ⟨S4x16x256x4x2x16, .f32⟩
  | 65 => ⟨S4x16x256x4x2x1, .f32⟩
  | 66 => ⟨S4x16x256x4x2, .f32⟩
  | 67 => ⟨S4x16x256x4x1, .f32⟩
  | 68 => ⟨S4x16x256x4, .f32⟩
  | 69 => ⟨S_, .f32⟩
  | 70 => ⟨S_, .f32⟩
  | 71 => ⟨S4x16x256x4, .f32⟩
  | 72 => ⟨S4x16x256x4, .f32⟩
  | 73 => ⟨S4x16x256x4x1, .f32⟩
  | 74 => ⟨S4x16x256x4, .f32⟩
  | 75 => ⟨S4x16x256x512, .f32⟩
  | 76 => ⟨S4x16x256x4x128, .f32⟩
  | 77 => ⟨S4x16x256x4x1, .f32⟩
  | 78 => ⟨S4x16x256x4x128, .f32⟩
  | 79 => ⟨S4x16x256x4x128, .f32⟩
  | 80 => ⟨S4x256x16x4x128, .f32⟩
  | 81 => ⟨S4x4096x4x128, .f32⟩
  | 82 => ⟨S4x16x256x4, .f32⟩
  | 83 => ⟨S4x16x256x4, .f32⟩
  | 84 => ⟨S4x256x16x4, .f32⟩
  | 85 => ⟨S4x4096x4, .f32⟩
  | 86 => ⟨S1x4x4096x4, .f32⟩
  | 87 => ⟨S1x4x4096x4, .f32⟩
  | 88 => ⟨S1x4x4096x4, .f32⟩
  | 89 => ⟨S3x4x4096x4, .f32⟩
  | 90 => ⟨S_, .f32⟩
  | 91 => ⟨S4x4096x4, .f32⟩
  | 92 => ⟨S1x4x4096x4, .f32⟩
  | 93 => ⟨S3x4x4096x4, .f32⟩
  | 94 => ⟨S3x4x4096x4, .f32⟩
  | 95 => ⟨S3x4x4096x4, .f32⟩
  | 96 => ⟨S_, .f32⟩
  | 97 => ⟨S4x4096x4, .f32⟩
  | 98 => ⟨S1x4x4096x4, .f32⟩
  | 99 => ⟨S3x4x4096x4, .f32⟩
  | 100 => ⟨S3x4x4096x4, .f32⟩
  | 101 => ⟨S1x4x4096x4x128, .f32⟩
  | 102 => ⟨S1x4x4096x4x128, .f32⟩
  | 103 => ⟨S1x4x4096x4x128, .f32⟩
  | 104 => ⟨S3x4x4096x4x128, .f32⟩
  | 105 => ⟨S4x4096x4x128, .f32⟩
  | 106 => ⟨S4x4096x512, .f32⟩
  | 107 => ⟨S512x1024, .f32⟩
  | 108 => ⟨S4x4096x1024, .f32⟩
  | 109 => ⟨S4x4096x1024, .f32⟩
  | 110 => ⟨S1024x1024, .f32⟩
  | 111 => ⟨S4x4096x1024, .f32⟩
  | 112 => ⟨S16384x3072, .f32⟩
  | 113 => ⟨S4x4096x3072, .f32⟩
  | 114 => ⟨S4x4096x2048, .f32⟩
  | 115 => ⟨S1x1x2048, .f32⟩
  | 116 => ⟨S4x4096x2048, .f32⟩
  | 117 => ⟨S4x4096x2048, .f32⟩
  | 118 => ⟨S4x4096x2048, .f32⟩
  | 119 => ⟨S4x4096x2048, .f32⟩
  | 120 => ⟨S_, .f32⟩
  | 121 => ⟨S4x4096x2048, .f32⟩
  | 122 => ⟨S4x4096x2048, .f32⟩
  | 123 => ⟨S_, .f32⟩
  | 124 => ⟨S4x4096x2048, .f32⟩
  | 125 => ⟨S4x4096x2048, .f32⟩
  | 126 => ⟨S4x4096x1024, .f32⟩
  | 127 => ⟨S4x4096x1024, .f32⟩
  | _ => ⟨S4x4096x1024, .f32⟩

abbrev hbmTy0_1 (i : Nat) : BufTy := match i % 128 with
  | 0 => ⟨S4x4096x1024, .f32⟩
  | 1 => ⟨S4x4096x1024, .f32⟩
  | 2 => ⟨S4x4096x1024, .f32⟩
  | 3 => ⟨S1024x1024, .f32⟩
  | 4 => ⟨S4x4096x1024, .f32⟩
  | 5 => ⟨S4x4096x1024, .f32⟩
  | 6 => ⟨S4x4096x1024, .f32⟩
  | 7 => ⟨S_, .f32⟩
  | 8 => ⟨S4x4096, .f32⟩
  | 9 => ⟨S4x4096x1, .f32⟩
  | 10 => ⟨S_, .f32⟩
  | 11 => ⟨S4x4096x1, .f32⟩
  | 12 => ⟨S4x4096x1, .f32⟩
  | 13 => ⟨S_, .f32⟩
  | 14 => ⟨S4x4096x1, .f32⟩
  | 15 => ⟨S4x4096x1, .f32⟩
  | 16 => ⟨S4x4096x1, .f32⟩
  | 17 => ⟨S4x4096x1024, .f32⟩
  | 18 => ⟨S4x4096x1024, .f32⟩
  | 19 => ⟨S1x1x1024, .f32⟩
  | 20 => ⟨S4x4096x1024, .f32⟩
  | 21 => ⟨S4x4096x1024, .f32⟩
  | 22 => ⟨S1024x4096, .f32⟩
  | 23 => ⟨S4x4096x4096, .f32⟩
  | 24 => ⟨S_, .f32⟩
  | 25 => ⟨S4x4096x4096, .f32⟩
  | 26 => ⟨S4x4096x4096, .f32⟩
  | 27 => ⟨S4x4096x4096, .f32⟩
  | 28 => ⟨S4096x1024, .f32⟩
  | 29 => ⟨S4x4096x1024, .f32⟩
  | 30 => ⟨S4x4096x1024, .f32⟩
  | 31 => ⟨S4x4096x1024, .f32⟩
  | 32 => ⟨S_, .f32⟩
  | 33 => ⟨S4x4096, .f32⟩
  | 34 => ⟨S4x4096x1, .f32⟩
  | 35 => ⟨S_, .f32⟩
  | 36 => ⟨S4x4096x1, .f32⟩
  | 37 => ⟨S4x4096x1, .f32⟩
  | 38 => ⟨S_, .f32⟩
  | 39 => ⟨S4x4096x1, .f32⟩
  | 40 => ⟨S4x4096x1, .f32⟩
  | 41 => ⟨S4x4096x1, .f32⟩
  | 42 => ⟨S4x4096x1024, .f32⟩
  | 43 => ⟨S4x4096x1024, .f32⟩
  | 44 => ⟨S1x1x1024, .f32⟩
  | 45 => ⟨S4x4096x1024, .f32⟩
  | 46 => ⟨S4x4096x1024, .f32⟩
  | 47 => ⟨S1024x1024, .f32⟩
  | 48 => ⟨S4x4096x1024, .f32⟩
  | 49 => ⟨S4x4096x1024, .f32⟩
  | 50 => ⟨S4x4096x1024, .f32⟩
  | 51 => ⟨S_, .f32⟩
  | 52 => ⟨S4x4096x1024, .f32⟩
  | 53 => ⟨S4x4096x1024, .f32⟩
  | 54 => ⟨S_, .f32⟩
  | 55 => ⟨S4x4096x1024, .f32⟩
  | 56 => ⟨S4x4096x1024, .f32⟩
  | 57 => ⟨S256x1024, .f32⟩
  | 58 => ⟨S4x4096x1024, .f32⟩
  | 59 => ⟨S4x4096x1024, .f32⟩
  | 60 => ⟨S4x4096x1024, .f32⟩
  | 61 => ⟨S16384x1024, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_cst : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_0 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_1 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_2 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_3 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_cst_4 : Ref sig .tc := ⟨.hbm, 120, rfl⟩
abbrev main_v95 : Ref sig .tc := ⟨.hbm, 121, rfl⟩
abbrev main_v96 : Ref sig .tc := ⟨.hbm, 122, rfl⟩
abbrev main_cst_5 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_cst_6 : Ref sig .tc := ⟨.hbm, 135, rfl⟩
abbrev main_v108 : Ref sig .tc := ⟨.hbm, 136, rfl⟩
abbrev main_v109 : Ref sig .tc := ⟨.hbm, 137, rfl⟩
abbrev main_cst_7 : Ref sig .tc := ⟨.hbm, 138, rfl⟩
abbrev main_v110 : Ref sig .tc := ⟨.hbm, 139, rfl⟩
abbrev main_v111 : Ref sig .tc := ⟨.hbm, 140, rfl⟩
abbrev main_cst_8 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_call0_cst : Ref sig .tc := ⟨.hbm, 152, rfl⟩
abbrev main_call0_v0 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_cst_9 : Ref sig .tc := ⟨.hbm, 160, rfl⟩
abbrev main_v128 : Ref sig .tc := ⟨.hbm, 161, rfl⟩
abbrev main_v129 : Ref sig .tc := ⟨.hbm, 162, rfl⟩
abbrev main_cst_10 : Ref sig .tc := ⟨.hbm, 163, rfl⟩
abbrev main_v130 : Ref sig .tc := ⟨.hbm, 164, rfl⟩
abbrev main_v131 : Ref sig .tc := ⟨.hbm, 165, rfl⟩
abbrev main_cst_11 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_cst_12 : Ref sig .tc := ⟨.hbm, 179, rfl⟩
abbrev main_v144 : Ref sig .tc := ⟨.hbm, 180, rfl⟩
abbrev main_v145 : Ref sig .tc := ⟨.hbm, 181, rfl⟩
abbrev main_cst_13 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩

abbrev nD : Nat := 1
abbrev τ : Topo := Topo.v7x

variable {F : FTy → Type} [FloatOps F]
-- ==== Kernel3.lean ====
abbrev S4x4096x2048 : Shape := ⟨3, ![4, 4096, 2048]⟩
abbrev S4x4096x3072 : Shape := ⟨3, ![4, 4096, 3072]⟩
abbrev S1024 : Shape := ⟨1, ![1024]⟩
abbrev S4x128x128 : Shape := ⟨3, ![4, 128, 128]⟩
abbrev S4x128 : Shape := ⟨2, ![4, 128]⟩
abbrev S4 : Shape := ⟨1, ![4]⟩
abbrev S1x1024 : Shape := ⟨2, ![1, 1024]⟩
abbrev S4x128x1 : Shape := ⟨3, ![4, 128, 1]⟩
abbrev S4x1x1 : Shape := ⟨3, ![4, 1, 1]⟩
abbrev S4x128x256 : Shape := ⟨3, ![4, 128, 256]⟩
abbrev S4x4096x1024 : Shape := ⟨3, ![4, 4096, 1024]⟩
abbrev S1x4096x128 : Shape := ⟨3, ![1, 4096, 128]⟩
abbrev S1x4096x256 : Shape := ⟨3, ![1, 4096, 256]⟩
abbrev S1x256 : Shape := ⟨2, ![1, 256]⟩
abbrev S1x128x128 : Shape := ⟨3, ![1, 128, 128]⟩
abbrev S1x128x256 : Shape := ⟨3, ![1, 128, 256]⟩
abbrev S128x128 : Shape := ⟨2, ![128, 128]⟩
abbrev S128x256 : Shape := ⟨2, ![128, 256]⟩
abbrev S256x256 : Shape := ⟨2, ![256, 256]⟩
abbrev S128 : Shape := ⟨1, ![128]⟩
abbrev S128x1 : Shape := ⟨2, ![128, 1]⟩

abbrev nBuf : Space → Nat
  | .hbm => 15
  | .vmem => 20
  | .smem => 0
  | _ => 0

abbrev bufTy : (tb : Table) → Fin (tcTables nBuf tb) → BufTy
  | .hbm, ⟨0, _⟩ => ⟨S4x4096x2048, .bf16⟩
  | .hbm, ⟨1, _⟩ => ⟨S4x4096x3072, .bf16⟩
  | .hbm, ⟨2, _⟩ => ⟨S1024, .f32⟩
  | .hbm, ⟨3, _⟩ => ⟨S4x128x128, .f32⟩
  | .hbm, ⟨4, _⟩ => ⟨S4x128, .f32⟩
  | .hbm, ⟨5, _⟩ => ⟨S4x128, .f32⟩
  | .hbm, ⟨6, _⟩ => ⟨S4, .f32⟩
  | .hbm, ⟨7, _⟩ => ⟨S1x1024, .f32⟩
  | .hbm, ⟨8, _⟩ => ⟨S4x128x1, .f32⟩
  | .hbm, ⟨9, _⟩ => ⟨S4x128x128, .f32⟩
  | .hbm, ⟨10, _⟩ => ⟨S4x128x1, .f32⟩
  | .hbm, ⟨11, _⟩ => ⟨S4x128x128, .f32⟩
  | .hbm, ⟨12, _⟩ => ⟨S4x1x1, .f32⟩
  | .hbm, ⟨13, _⟩ => ⟨S4x128x256, .f32⟩
  | .hbm, ⟨14, _⟩ => ⟨S4x4096x1024, .bf16⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x4096x256, .bf16⟩
  | .local _ .vmem, ⟨7, _⟩ => ⟨S1x4096x256, .bf16⟩
  | .local _ .vmem, ⟨8, _⟩ => ⟨S1x256, .f32⟩
  | .local _ .vmem, ⟨9, _⟩ => ⟨S1x256, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .vmem, ⟨14, _⟩ => ⟨S1x128x128, .f32⟩
  | .local _ .vmem, ⟨15, _⟩ => ⟨S1x128x128, .f32⟩
  | .local _ .vmem, ⟨16, _⟩ => ⟨S1x128x256, .f32⟩
  | .local _ .vmem, ⟨17, _⟩ => ⟨S1x128x256, .f32⟩
  | .local _ .vmem, ⟨18, _⟩ => ⟨S1x4096x256, .bf16⟩
  | .local _ .vmem, ⟨19, _⟩ => ⟨S1x4096x256, .bf16⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x4096x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== Reference3Ideal.lean ====
abbrev S4x4096x2048 : Shape := ⟨3, ![4, 4096, 2048]⟩
abbrev S4x4096x3072 : Shape := ⟨3, ![4, 4096, 3072]⟩
abbrev S1024 : Shape := ⟨1, ![1024]⟩
abbrev S4x128x128 : Shape := ⟨3, ![4, 128, 128]⟩
abbrev S4x128 : Shape := ⟨2, ![4, 128]⟩
abbrev S4 : Shape := ⟨1, ![4]⟩
abbrev S4x4096x512 : Shape := ⟨3, ![4, 4096, 512]⟩
abbrev S4x4096x1024 : Shape := ⟨3, ![4, 4096, 1024]⟩
abbrev S4x32x128x4x128 : Shape := ⟨5, ![4, 32, 128, 4, 128]⟩
abbrev S4x32x128x4x256 : Shape := ⟨5, ![4, 32, 128, 4, 256]⟩
abbrev S4x32x4x128x128 : Shape := ⟨5, ![4, 32, 4, 128, 128]⟩
abbrev S1x1x4x128x128 : Shape := ⟨5, ![1, 1, 4, 128, 128]⟩
abbrev S4x32x4x256x128 : Shape := ⟨5, ![4, 32, 4, 256, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S32x4x4x128x256 : Shape := ⟨5, ![32, 4, 4, 128, 256]⟩
abbrev S_ : Shape := ⟨0, ![]⟩
abbrev S4x4x128x256 : Shape := ⟨4, ![4, 4, 128, 256]⟩
abbrev S4x1x1 : Shape := ⟨3, ![4, 1, 1]⟩
abbrev S1x4x1x1 : Shape := ⟨4, ![1, 4, 1, 1]⟩
abbrev S1x4x4x128x256 : Shape := ⟨5, ![1, 4, 4, 128, 256]⟩
abbrev S16x4x4x128x256 : Shape := ⟨5, ![16, 4, 4, 128, 256]⟩
abbrev S4x4096x4x256 : Shape := ⟨4, ![4, 4096, 4, 256]⟩
abbrev S4x4096x4 : Shape := ⟨3, ![4, 4096, 4]⟩
abbrev S4x4096x4x1 : Shape := ⟨4, ![4, 4096, 4, 1]⟩
abbrev S4x256 : Shape := ⟨2, ![4, 256]⟩
abbrev S1x1x4x256 : Shape := ⟨4, ![1, 1, 4, 256]⟩

abbrev nBuf : Space → Nat
  | .hbm => 330
  | .vmem => 0
  | .smem => 0
  | _ => 0

abbrev hbmTy0_0 (i : Nat) : BufTy := match i % 128 with
  | 0 => ⟨S4x4096x2048, .bf16⟩
  | 1 => ⟨S4x4096x3072, .bf16⟩
  | 2 => ⟨S1024, .f32⟩
  | 3 => ⟨S4x128x128, .f32⟩
  | 4 => ⟨S4x128, .f32⟩
  | 5 => ⟨S4x128, .f32⟩
  | 6 => ⟨S4, .f32⟩
  | 7 => ⟨S4x4096x2048, .f32⟩
  | 8 => ⟨S4x4096x512, .f32⟩
  | 9 => ⟨S4x4096x512, .f32⟩
  | 10 => ⟨S4x4096x1024, .f32⟩
  | 11 => ⟨S4x32x128x4x128, .f32⟩
  | 12 => ⟨S4x32x128x4x128, .f32⟩
  | 13 => ⟨S4x32x128x4x256, .f32⟩
  | 14 => ⟨S4x32x4x128x128, .f32⟩
  | 15 => ⟨S1x1x4x128x128, .f32⟩
  | 16 => ⟨S4x32x4x128x128, .f32⟩
  | 17 => ⟨S4x32x4x128x128, .f32⟩
  | 18 => ⟨S4x32x4x256x128, .f32⟩
  | 19 => ⟨S4x32x128x4x256, .f32⟩
  | 20 => ⟨S128x4, .f32⟩
  | 21 => ⟨S128x4x1, .f32⟩
  | 22 => ⟨S1x1x128x4x1, .f32⟩
  | 23 => ⟨S4x32x128x4x128, .f32⟩
  | 24 => ⟨S4x32x128x4x128, .f32⟩
  | 25 => ⟨S32x4x4x128x256, .f32⟩
  | 26 => ⟨S_, .f32⟩
  | 27 => ⟨S4x4x128x256, .f32⟩
  | 28 => ⟨S4x1x1, .f32⟩
  | 29 => ⟨S1x4x1x1, .f32⟩
  | 30 => ⟨S4x4x128x256, .f32⟩
  | 31 => ⟨S4x4x128x256, .f32⟩
  | 32 => ⟨S1x4x4x128x256, .f32⟩
  | 33 => ⟨S4x4x128x256, .f32⟩
  | 34 => ⟨S4x4x128x256, .f32⟩
  | 35 => ⟨S4x1x1, .f32⟩
  | 36 => ⟨S1x4x1x1, .f32⟩
  | 37 => ⟨S4x4x128x256, .f32⟩
  | 38 => ⟨S4x4x128x256, .f32⟩
  | 39 => ⟨S1x4x4x128x256, .f32⟩
  | 40 => ⟨S4x4x128x256, .f32⟩
  | 41 => ⟨S4x4x128x256, .f32⟩
  | 42 => ⟨S4x1x1, .f32⟩
  | 43 => ⟨S1x4x1x1, .f32⟩
  | 44 => ⟨S4x4x128x256, .f32⟩
  | 45 => ⟨S4x4x128x256, .f32⟩
  | 46 => ⟨S1x4x4x128x256, .f32⟩
  | 47 => ⟨S4x4x128x256, .f32⟩
  | 48 => ⟨S4x4x128x256, .f32⟩
  | 49 => ⟨S4x1x1, .f32⟩
  | 50 => ⟨S1x4x1x1, .f32⟩
  | 51 => ⟨S4x4x128x256, .f32⟩
  | 52 => ⟨S4x4x128x256, .f32⟩
  | 53 => ⟨S1x4x4x128x256, .f32⟩
  | 54 => ⟨S4x4x128x256, .f32⟩
  | 55 => ⟨S4x4x128x256, .f32⟩
  | 56 => ⟨S4x1x1, .f32⟩
  | 57 => ⟨S1x4x1x1, .f32⟩
  | 58 => ⟨S4x4x128x256, .f32⟩
  | 59 => ⟨S4x4x128x256, .f32⟩
  | 60 => ⟨S1x4x4x128x256, .f32⟩
  | 61 => ⟨S4x4x128x256, .f32⟩
  | 62 => ⟨S4x4x128x256, .f32⟩
  | 63 => ⟨S4x1x1, .f32⟩
  | 64 => ⟨S1x4x1x1, .f32⟩
  | 65 => ⟨S4x4x128x256, .f32⟩
  | 66 => ⟨S4x4x128x256, .f32⟩
  | 67 => ⟨S1x4x4x128x256, .f32⟩
  | 68 => ⟨S4x4x128x256, .f32⟩
  | 69 => ⟨S4x4x128x256, .f32⟩
  | 70 => ⟨S4x1x1, .f32⟩
  | 71 => ⟨S1x4x1x1, .f32⟩
  | 72 => ⟨S4x4x128x256, .f32⟩
  | 73 => ⟨S4x4x128x256, .f32⟩
  | 74 => ⟨S1x4x4x128x256, .f32⟩
  | 75 => ⟨S4x4x128x256, .f32⟩
  | 76 => ⟨S4x4x128x256, .f32⟩
  | 77 => ⟨S4x1x1, .f32⟩
  | 78 => ⟨S1x4x1x1, .f32⟩
  | 79 => ⟨S4x4x128x256, .f32⟩
  | 80 => ⟨S4x4x128x256, .f32⟩
  | 81 => ⟨S1x4x4x128x256, .f32⟩
  | 82 => ⟨S4x4x128x256, .f32⟩
  | 83 => ⟨S4x4x128x256, .f32⟩
  | 84 => ⟨S4x1x1, .f32⟩
  | 85 => ⟨S1x4x1x1, .f32⟩
  | 86 => ⟨S4x4x128x256, .f32⟩
  | 87 => ⟨S4x4x128x256, .f32⟩
  | 88 => ⟨S1x4x4x128x256, .f32⟩
  | 89 => ⟨S4x4x128x256, .f32⟩
  | 90 => ⟨S4x4x128x256, .f32⟩
  | 91 => ⟨S4x1x1, .f32⟩
  | 92 => ⟨S1x4x1x1, .f32⟩
  | 93 => ⟨S4x4x128x256, .f32⟩
  | 94 => ⟨S4x4x128x256, .f32⟩
  | 95 => ⟨S1x4x4x128x256, .f32⟩
  | 96 => ⟨S4x4x128x256, .f32⟩
  | 97 => ⟨S4x4x128x256, .f32⟩
  | 98 => ⟨S4x1x1, .f32⟩
  | 99 => ⟨S1x4x1x1, .f32⟩
  | 100 => ⟨S4x4x128x256, .f32⟩
  | 101 => ⟨S4x4x128x256, .f32⟩
  | 102 => ⟨S1x4x4x128x256, .f32⟩
  | 103 => ⟨S4x4x128x256, .f32⟩
  | 104 => ⟨S4x4x128x256, .f32⟩
  | 105 => ⟨S4x1x1, .f32⟩
  | 106 => ⟨S1x4x1x1, .f32⟩
  | 107 => ⟨S4x4x128x256, .f32⟩
  | 108 => ⟨S4x4x128x256, .f32⟩
  | 109 => ⟨S1x4x4x128x256, .f32⟩
  | 110 => ⟨S4x4x128x256, .f32⟩
  | 111 => ⟨S4x4x128x256, .f32⟩
  | 112 => ⟨S4x1x1, .f32⟩
  | 113 => ⟨S1x4x1x1, .f32⟩
  | 114 => ⟨S4x4x128x256, .f32⟩
  | 115 => ⟨S4x4x128x256, .f32⟩
  | 116 => ⟨S1x4x4x128x256, .f32⟩
  | 117 => ⟨S4x4x128x256, .f32⟩
  | 118 => ⟨S4x4x128x256, .f32⟩
  | 119 => ⟨S4x1x1, .f32⟩
  | 120 => ⟨S1x4x1x1, .f32⟩
  | 121 => ⟨S4x4x128x256, .f32⟩
  | 122 => ⟨S4x4x128x256, .f32⟩
  | 123 => ⟨S1x4x4x128x256, .f32⟩
  | 124 => ⟨S4x4x128x256, .f32⟩
  | 125 => ⟨S4x4x128x256, .f32⟩
  | 126 => ⟨S4x1x1, .f32⟩
  | 127 => ⟨S1x4x1x1, .f32⟩
  | _ => ⟨S4x4096x2048, .bf16⟩

abbrev hbmTy0_1 (i : Nat) : BufTy := match i % 128 with
  | 0 => ⟨S4x4x128x256, .f32⟩
  | 1 => ⟨S4x4x128x256, .f32⟩
  | 2 => ⟨S1x4x4x128x256, .f32⟩
  | 3 => ⟨S4x4x128x256, .f32⟩
  | 4 => ⟨S4x4x128x256, .f32⟩
  | 5 => ⟨S4x1x1, .f32⟩
  | 6 => ⟨S1x4x1x1, .f32⟩
  | 7 => ⟨S4x4x128x256, .f32⟩
  | 8 => ⟨S4x4x128x256, .f32⟩
  | 9 => ⟨S1x4x4x128x256, .f32⟩
  | 10 => ⟨S4x4x128x256, .f32⟩
  | 11 => ⟨S4x4x128x256, .f32⟩
  | 12 => ⟨S4x1x1, .f32⟩
  | 13 => ⟨S1x4x1x1, .f32⟩
  | 14 => ⟨S4x4x128x256, .f32⟩
  | 15 => ⟨S4x4x128x256, .f32⟩
  | 16 => ⟨S1x4x4x128x256, .f32⟩
  | 17 => ⟨S4x4x128x256, .f32⟩
  | 18 => ⟨S4x4x128x256, .f32⟩
  | 19 => ⟨S4x1x1, .f32⟩
  | 20 => ⟨S1x4x1x1, .f32⟩
  | 21 => ⟨S4x4x128x256, .f32⟩
  | 22 => ⟨S4x4x128x256, .f32⟩
  | 23 => ⟨S1x4x4x128x256, .f32⟩
  | 24 => ⟨S4x4x128x256, .f32⟩
  | 25 => ⟨S4x4x128x256, .f32⟩
  | 26 => ⟨S4x1x1, .f32⟩
  | 27 => ⟨S1x4x1x1, .f32⟩
  | 28 => ⟨S4x4x128x256, .f32⟩
  | 29 => ⟨S4x4x128x256, .f32⟩
  | 30 => ⟨S1x4x4x128x256, .f32⟩
  | 31 => ⟨S4x4x128x256, .f32⟩
  | 32 => ⟨S4x4x128x256, .f32⟩
  | 33 => ⟨S4x1x1, .f32⟩
  | 34 => ⟨S1x4x1x1, .f32⟩
  | 35 => ⟨S4x4x128x256, .f32⟩
  | 36 => ⟨S4x4x128x256, .f32⟩
  | 37 => ⟨S1x4x4x128x256, .f32⟩
  | 38 => ⟨S4x4x128x256, .f32⟩
  | 39 => ⟨S4x4x128x256, .f32⟩
  | 40 => ⟨S4x1x1, .f32⟩
  | 41 => ⟨S1x4x1x1, .f32⟩
  | 42 => ⟨S4x4x128x256, .f32⟩
  | 43 => ⟨S4x4x128x256, .f32⟩
  | 44 => ⟨S1x4x4x128x256, .f32⟩
  | 45 => ⟨S4x4x128x256, .f32⟩
  | 46 => ⟨S4x4x128x256, .f32⟩
  | 47 => ⟨S4x1x1, .f32⟩
  | 48 => ⟨S1x4x1x1, .f32⟩
  | 49 => ⟨S4x4x128x256, .f32⟩
  | 50 => ⟨S4x4x128x256, .f32⟩
  | 51 => ⟨S1x4x4x128x256, .f32⟩
  | 52 => ⟨S4x4x128x256, .f32⟩
  | 53 => ⟨S4x4x128x256, .f32⟩
  | 54 => ⟨S4x1x1, .f32⟩
  | 55 => ⟨S1x4x1x1, .f32⟩
  | 56 => ⟨S4x4x128x256, .f32⟩
  | 57 => ⟨S4x4x128x256, .f32⟩
  | 58 => ⟨S1x4x4x128x256, .f32⟩
  | 59 => ⟨S4x4x128x256, .f32⟩
  | 60 => ⟨S4x4x128x256, .f32⟩
  | 61 => ⟨S4x1x1, .f32⟩
  | 62 => ⟨S1x4x1x1, .f32⟩
  | 63 => ⟨S4x4x128x256, .f32⟩
  | 64 => ⟨S4x4x128x256, .f32⟩
  | 65 => ⟨S1x4x4x128x256, .f32⟩
  | 66 => ⟨S4x4x128x256, .f32⟩
  | 67 => ⟨S4x4x128x256, .f32⟩
  | 68 => ⟨S4x1x1, .f32⟩
  | 69 => ⟨S1x4x1x1, .f32⟩
  | 70 => ⟨S4x4x128x256, .f32⟩
  | 71 => ⟨S4x4x128x256, .f32⟩
  | 72 => ⟨S1x4x4x128x256, .f32⟩
  | 73 => ⟨S4x4x128x256, .f32⟩
  | 74 => ⟨S4x4x128x256, .f32⟩
  | 75 => ⟨S4x1x1, .f32⟩
  | 76 => ⟨S1x4x1x1, .f32⟩
  | 77 => ⟨S4x4x128x256, .f32⟩
  | 78 => ⟨S4x4x128x256, .f32⟩
  | 79 => ⟨S1x4x4x128x256, .f32⟩
  | 80 => ⟨S4x4x128x256, .f32⟩
  | 81 => ⟨S4x4x128x256, .f32⟩
  | 82 => ⟨S4x1x1, .f32⟩
  | 83 => ⟨S1x4x1x1, .f32⟩
  | 84 => ⟨S4x4x128x256, .f32⟩
  | 85 => ⟨S4x4x128x256, .f32⟩
  | 86 => ⟨S1x4x4x128x256, .f32⟩
  | 87 => ⟨S4x4x128x256, .f32⟩
  | 88 => ⟨S4x4x128x256, .f32⟩
  | 89 => ⟨S4x1x1, .f32⟩
  | 90 => ⟨S1x4x1x1, .f32⟩
  | 91 => ⟨S4x4x128x256, .f32⟩
  | 92 => ⟨S4x4x128x256, .f32⟩
  | 93 => ⟨S1x4x4x128x256, .f32⟩
  | 94 => ⟨S4x4x128x256, .f32⟩
  | 95 => ⟨S4x4x128x256, .f32⟩
  | 96 => ⟨S4x1x1, .f32⟩
  | 97 => ⟨S1x4x1x1, .f32⟩
  | 98 => ⟨S4x4x128x256, .f32⟩
  | 99 => ⟨S4x4x128x256, .f32⟩
  | 100 => ⟨S1x4x4x128x256, .f32⟩
  | 101 => ⟨S4x4x128x256, .f32⟩
  | 102 => ⟨S4x4x128x256, .f32⟩
  | 103 => ⟨S4x1x1, .f32⟩
  | 104 => ⟨S1x4x1x1, .f32⟩
  | 105 => ⟨S4x4x128x256, .f32⟩
  | 106 => ⟨S4x4x128x256, .f32⟩
  | 107 => ⟨S1x4x4x128x256, .f32⟩
  | 108 => ⟨S4x4x128x256, .f32⟩
  | 109 => ⟨S4x4x128x256, .f32⟩
  | 110 => ⟨S4x1x1, .f32⟩
  | 111 => ⟨S1x4x1x1, .f32⟩
  | 112 => ⟨S4x4x128x256, .f32⟩
  | 113 => ⟨S4x4x128x256, .f32⟩
  | 114 => ⟨S1x4x4x128x256, .f32⟩
  | 115 => ⟨S4x4x128x256, .f32⟩
  | 116 => ⟨S4x4x128x256, .f32⟩
  | 117 => ⟨S4x1x1, .f32⟩
  | 118 => ⟨S1x4x1x1, .f32⟩
  | 119 => ⟨S4x4x128x256, .f32⟩
  | 120 => ⟨S4x4x128x256, .f32⟩
  | 121 => ⟨S1x4x4x128x256, .f32⟩
  | 122 => ⟨S4x4x128x256, .f32⟩
  | 123 => ⟨S4x4x128x256, .f32⟩
  | 124 => ⟨S128x4, .f32⟩
  | 125 => ⟨S128x4x1, .f32⟩
  | 126 => ⟨S1x1x128x4x1, .f32⟩
  | 127 => ⟨S4x32x128x4x128, .f32⟩
  | _ => ⟨S4x4096x2048, .bf16⟩

abbrev hbmTy0_2 (i : Nat) : BufTy := match i % 128 with
  | 0 => ⟨S4x32x128x4x128, .f32⟩
  | 1 => ⟨S1x4x4x128x256, .f32⟩
  | 2 => ⟨S1x4x4x128x256, .f32⟩
  | 3 => ⟨S1x4x4x128x256, .f32⟩
  | 4 => ⟨S1x4x4x128x256, .f32⟩
  | 5 => ⟨S1x4x4x128x256, .f32⟩
  | 6 => ⟨S1x4x4x128x256, .f32⟩
  | 7 => ⟨S1x4x4x128x256, .f32⟩
  | 8 => ⟨S1x4x4x128x256, .f32⟩
  | 9 => ⟨S1x4x4x128x256, .f32⟩
  | 10 => ⟨S1x4x4x128x256, .f32⟩
  | 11 => ⟨S1x4x4x128x256, .f32⟩
  | 12 => ⟨S1x4x4x128x256, .f32⟩
  | 13 => ⟨S1x4x4x128x256, .f32⟩
  | 14 => ⟨S1x4x4x128x256, .f32⟩
  | 15 => ⟨S1x4x4x128x256, .f32⟩
  | 16 => ⟨S1x4x4x128x256, .f32⟩
  | 17 => ⟨S1x4x4x128x256, .f32⟩
  | 18 => ⟨S1x4x4x128x256, .f32⟩
  | 19 => ⟨S1x4x4x128x256, .f32⟩
  | 20 => ⟨S1x4x4x128x256, .f32⟩
  | 21 => ⟨S1x4x4x128x256, .f32⟩
  | 22 => ⟨S1x4x4x128x256, .f32⟩
  | 23 => ⟨S1x4x4x128x256, .f32⟩
  | 24 => ⟨S1x4x4x128x256, .f32⟩
  | 25 => ⟨S1x4x4x128x256, .f32⟩
  | 26 => ⟨S1x4x4x128x256, .f32⟩
  | 27 => ⟨S1x4x4x128x256, .f32⟩
  | 28 => ⟨S1x4x4x128x256, .f32⟩
  | 29 => ⟨S1x4x4x128x256, .f32⟩
  | 30 => ⟨S1x4x4x128x256, .f32⟩
  | 31 => ⟨S1x4x4x128x256, .f32⟩
  | 32 => ⟨S1x4x4x128x256, .f32⟩
  | 33 => ⟨S16x4x4x128x256, .f32⟩
  | 34 => ⟨S16x4x4x128x256, .f32⟩
  | 35 => ⟨S32x4x4x128x256, .f32⟩
  | 36 => ⟨S4x32x4x256x128, .f32⟩
  | 37 => ⟨S4x32x128x4x256, .f32⟩
  | 38 => ⟨S4x32x128x4x256, .f32⟩
  | 39 => ⟨S4x4096x4x256, .f32⟩
  | 40 => ⟨S4x4096x4x256, .f32⟩
  | 41 => ⟨S_, .f32⟩
  | 42 => ⟨S4x4096x4, .f32⟩
  | 43 => ⟨S4x4096x4x1, .f32⟩
  | 44 => ⟨S_, .f32⟩
  | 45 => ⟨S4x4096x4x1, .f32⟩
  | 46 => ⟨S4x4096x4x1, .f32⟩
  | 47 => ⟨S_, .f32⟩
  | 48 => ⟨S4x4096x4x1, .f32⟩
  | 49 => ⟨S4x4096x4x1, .f32⟩
  | 50 => ⟨S4x4096x4x1, .f32⟩
  | 51 => ⟨S4x4096x4x256, .f32⟩
  | 52 => ⟨S4x4096x4x256, .f32⟩
  | 53 => ⟨S4x256, .f32⟩
  | 54 => ⟨S1x1x4x256, .f32⟩
  | 55 => ⟨S4x4096x4x256, .f32⟩
  | 56 => ⟨S4x4096x4x256, .f32⟩
  | 57 => ⟨S4x4096x3072, .f32⟩
  | 58 => ⟨S4x4096x1024, .f32⟩
  | 59 => ⟨S_, .f32⟩
  | 60 => ⟨S4x4096x1024, .f32⟩
  | 61 => ⟨S4x4096x1024, .f32⟩
  | 62 => ⟨S4x4096x1024, .f32⟩
  | 63 => ⟨S4x4096x1024, .f32⟩
  | 64 => ⟨S_, .f32⟩
  | 65 => ⟨S4x4096x1024, .f32⟩
  | 66 => ⟨S4x4096x1024, .f32⟩
  | 67 => ⟨S_, .f32⟩
  | 68 => ⟨S4x4096x1024, .f32⟩
  | 69 => ⟨S4x4096x1024, .f32⟩
  | 70 => ⟨S4x4096x1024, .f32⟩
  | 71 => ⟨S4x4096x1024, .f32⟩
  | 72 => ⟨S4x4096x1024, .f32⟩
  | 73 => ⟨S4x4096x1024, .bf16⟩
  | _ => ⟨S4x4096x2048, .bf16⟩

abbrev hbmTy (i : Nat) : BufTy := match i / 128 with
  | 0 => hbmTy0_0 i
  | 1 => hbmTy0_1 i
  | 2 => hbmTy0_2 i
  | _ => ⟨S4x4096x2048, .bf16⟩

abbrev bufTy : (tb : Table) → Fin (tcTables nBuf tb) → BufTy
  | .hbm, ⟨i, _⟩ => hbmTy i
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_v222 : Ref sig .tc := ⟨.hbm, 230, rfl⟩
abbrev main_v223 : Ref sig .tc := ⟨.hbm, 231, rfl⟩
abbrev main_v224 : Ref sig .tc := ⟨.hbm, 232, rfl⟩
abbrev main_v225 : Ref sig .tc := ⟨.hbm, 233, rfl⟩
abbrev main_v226 : Ref sig .tc := ⟨.hbm, 234, rfl⟩
abbrev main_v227 : Ref sig .tc := ⟨.hbm, 235, rfl⟩
abbrev main_v228 : Ref sig .tc := ⟨.hbm, 236, rfl⟩
abbrev main_v229 : Ref sig .tc := ⟨.hbm, 237, rfl⟩
abbrev main_v230 : Ref sig .tc := ⟨.hbm, 238, rfl⟩
abbrev main_v231 : Ref sig .tc := ⟨.hbm, 239, rfl⟩
abbrev main_v232 : Ref sig .tc := ⟨.hbm, 240, rfl⟩
abbrev main_v233 : Ref sig .tc := ⟨.hbm, 241, rfl⟩
abbrev main_v234 : Ref sig .tc := ⟨.hbm, 242, rfl⟩
abbrev main_v235 : Ref sig .tc := ⟨.hbm, 243, rfl⟩
abbrev main_v236 : Ref sig .tc := ⟨.hbm, 244, rfl⟩
abbrev main_v237 : Ref sig .tc := ⟨.hbm, 245, rfl⟩
abbrev main_v238 : Ref sig .tc := ⟨.hbm, 246, rfl⟩
abbrev main_v239 : Ref sig .tc := ⟨.hbm, 247, rfl⟩
abbrev main_v240 : Ref sig .tc := ⟨.hbm, 248, rfl⟩
abbrev main_v241 : Ref sig .tc := ⟨.hbm, 249, rfl⟩
abbrev main_v242 : Ref sig .tc := ⟨.hbm, 250, rfl⟩
abbrev main_v243 : Ref sig .tc := ⟨.hbm, 251, rfl⟩
abbrev main_v244 : Ref sig .tc := ⟨.hbm, 252, rfl⟩
abbrev main_v245 : Ref sig .tc := ⟨.hbm, 253, rfl⟩
abbrev main_v246 : Ref sig .tc := ⟨.hbm, 254, rfl⟩
abbrev main_v247 : Ref sig .tc := ⟨.hbm, 255, rfl⟩
abbrev main_v248 : Ref sig .tc := ⟨.hbm, 256, rfl⟩
abbrev main_v249 : Ref sig .tc := ⟨.hbm, 257, rfl⟩
abbrev main_v250 : Ref sig .tc := ⟨.hbm, 258, rfl⟩
abbrev main_v251 : Ref sig .tc := ⟨.hbm, 259, rfl⟩
abbrev main_v252 : Ref sig .tc := ⟨.hbm, 260, rfl⟩
abbrev main_v253 : Ref sig .tc := ⟨.hbm, 261, rfl⟩
abbrev main_v254 : Ref sig .tc := ⟨.hbm, 262, rfl⟩
abbrev main_v255 : Ref sig .tc := ⟨.hbm, 263, rfl⟩
abbrev main_v256 : Ref sig .tc := ⟨.hbm, 264, rfl⟩
abbrev main_v257 : Ref sig .tc := ⟨.hbm, 265, rfl⟩
abbrev main_v258 : Ref sig .tc := ⟨.hbm, 266, rfl⟩
abbrev main_v259 : Ref sig .tc := ⟨.hbm, 267, rfl⟩
abbrev main_v260 : Ref sig .tc := ⟨.hbm, 268, rfl⟩
abbrev main_v261 : Ref sig .tc := ⟨.hbm, 269, rfl⟩
abbrev main_v262 : Ref sig .tc := ⟨.hbm, 270, rfl⟩
abbrev main_v263 : Ref sig .tc := ⟨.hbm, 271, rfl⟩
abbrev main_v264 : Ref sig .tc := ⟨.hbm, 272, rfl⟩
abbrev main_v265 : Ref sig .tc := ⟨.hbm, 273, rfl⟩
abbrev main_v266 : Ref sig .tc := ⟨.hbm, 274, rfl⟩
abbrev main_v267 : Ref sig .tc := ⟨.hbm, 275, rfl⟩
abbrev main_v268 : Ref sig .tc := ⟨.hbm, 276, rfl⟩
abbrev main_v269 : Ref sig .tc := ⟨.hbm, 277, rfl⟩
abbrev main_v270 : Ref sig .tc := ⟨.hbm, 278, rfl⟩
abbrev main_v271 : Ref sig .tc := ⟨.hbm, 279, rfl⟩
abbrev main_v272 : Ref sig .tc := ⟨.hbm, 280, rfl⟩
abbrev main_v273 : Ref sig .tc := ⟨.hbm, 281, rfl⟩
abbrev main_v274 : Ref sig .tc := ⟨.hbm, 282, rfl⟩
abbrev main_v275 : Ref sig .tc := ⟨.hbm, 283, rfl⟩
abbrev main_v276 : Ref sig .tc := ⟨.hbm, 284, rfl⟩
abbrev main_v277 : Ref sig .tc := ⟨.hbm, 285, rfl⟩
abbrev main_v278 : Ref sig .tc := ⟨.hbm, 286, rfl⟩
abbrev main_v279 : Ref sig .tc := ⟨.hbm, 287, rfl⟩
abbrev main_v280 : Ref sig .tc := ⟨.hbm, 288, rfl⟩
abbrev main_v281 : Ref sig .tc := ⟨.hbm, 289, rfl⟩
abbrev main_v282 : Ref sig .tc := ⟨.hbm, 290, rfl⟩
abbrev main_v283 : Ref sig .tc := ⟨.hbm, 291, rfl⟩
abbrev main_v284 : Ref sig .tc := ⟨.hbm, 292, rfl⟩
abbrev main_v285 : Ref sig .tc := ⟨.hbm, 293, rfl⟩
abbrev main_v286 : Ref sig .tc := ⟨.hbm, 294, rfl⟩
abbrev main_v287 : Ref sig .tc := ⟨.hbm, 295, rfl⟩
abbrev main_v288 : Ref sig .tc := ⟨.hbm, 296, rfl⟩
abbrev main_cst_0 : Ref sig .tc := ⟨.hbm, 297, rfl⟩
abbrev main_v289 : Ref sig .tc := ⟨.hbm, 298, rfl⟩
abbrev main_v290 : Ref sig .tc := ⟨.hbm, 299, rfl⟩
abbrev main_cst_1 : Ref sig .tc := ⟨.hbm, 300, rfl⟩
abbrev main_v291 : Ref sig .tc := ⟨.hbm, 301, rfl⟩
abbrev main_v292 : Ref sig .tc := ⟨.hbm, 302, rfl⟩
abbrev main_cst_2 : Ref sig .tc := ⟨.hbm, 303, rfl⟩
abbrev main_v293 : Ref sig .tc := ⟨.hbm, 304, rfl⟩
abbrev main_v294 : Ref sig .tc := ⟨.hbm, 305, rfl⟩
abbrev main_v295 : Ref sig .tc := ⟨.hbm, 306, rfl⟩
abbrev main_v296 : Ref sig .tc := ⟨.hbm, 307, rfl⟩
abbrev main_v297 : Ref sig .tc := ⟨.hbm, 308, rfl⟩
abbrev main_v298 : Ref sig .tc := ⟨.hbm, 309, rfl⟩
abbrev main_v299 : Ref sig .tc := ⟨.hbm, 310, rfl⟩
abbrev main_v300 : Ref sig .tc := ⟨.hbm, 311, rfl⟩
abbrev main_v301 : Ref sig .tc := ⟨.hbm, 312, rfl⟩
abbrev main_v302 : Ref sig .tc := ⟨.hbm, 313, rfl⟩
abbrev main_v303 : Ref sig .tc := ⟨.hbm, 314, rfl⟩
abbrev main_cst_3 : Ref sig .tc := ⟨.hbm, 315, rfl⟩
abbrev main_v304 : Ref sig .tc := ⟨.hbm, 316, rfl⟩
abbrev main_v305 : Ref sig .tc := ⟨.hbm, 317, rfl⟩
abbrev main_call0_v0 : Ref sig .tc := ⟨.hbm, 318, rfl⟩
abbrev main_call0_v1 : Ref sig .tc := ⟨.hbm, 319, rfl⟩
abbrev main_call0_cst : Ref sig .tc := ⟨.hbm, 320, rfl⟩
abbrev main_call0_v2 : Ref sig .tc := ⟨.hbm, 321, rfl⟩
abbrev main_call0_v3 : Ref sig .tc := ⟨.hbm, 322, rfl⟩
abbrev main_call0_cst_0 : Ref sig .tc := ⟨.hbm, 323, rfl⟩
abbrev main_call0_v4 : Ref sig .tc := ⟨.hbm, 324, rfl⟩
abbrev main_call0_v5 : Ref sig .tc := ⟨.hbm, 325, rfl⟩
abbrev main_v306 : Ref sig .tc := ⟨.hbm, 326, rfl⟩
abbrev main_v307 : Ref sig .tc := ⟨.hbm, 327, rfl⟩
abbrev main_v308 : Ref sig .tc := ⟨.hbm, 328, rfl⟩
abbrev main_v309 : Ref sig .tc := ⟨.hbm, 329, rfl⟩

abbrev nD : Nat := 1
abbrev τ : Topo := Topo.v7x

variable {F : FTy → Type} [FloatOps F]
-- ==== Proof.Slots.lean ====
module

public import proofs.«01_k».proof.Proof.Gen.KernelIdeal.Skeleton
public import proofs.«01_k».proof.Proof.Gen.KernelIdeal.Frame
public import Idealize.ShloMosaic.Lib.Ring.Trips
public import Idealize.ShloMosaic.Lib.Tactic
public import Idealize.ShloMosaic.Lib.WritesUnit
public import Idealize.ShloMosaic.Lib.Pointwise

@[expose] public section

set_option maxRecDepth 16384

noncomputable section

namespace Cert.Proof.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ × Counters
local notation "𝕄" => MT nD τ sig Unit (Elt F) ℕ (UU nD τ) ℕ
abbrev 𝒱₀ : Variants := Variants.none

abbrev aI : Memref sig .tc .hbm S4x16x256x1536 .bf16 := Memref.whole main_arg0
abbrev aO : Memref sig .tc .hbm S4x16x256x512 .bf16 := Memref.whole main_v0_0
abbrev aS : Memref sig .tc .hbm S4x16x256x128 .f32 := Memref.whole main_v0_1
abbrev rI : Memref sig .tc .vmem S3x16x256x1536 .bf16 := Memref.whole cc0_scoped0
abbrev rO : Memref sig .tc .vmem S2x16x256x512 .bf16 := Memref.whole cc0_scoped2
abbrev rS : Memref sig .tc .vmem S2x16x256x128 .f32 := Memref.whole cc0_scoped4
theorem hI : aI.IsWhole := Memref.isWhole_whole _
theorem hO : aO.IsWhole := Memref.isWhole_whole _
theorem hS : aS.IsWhole := Memref.isWhole_whole _
theorem hrI : rI.IsWhole := Memref.isWhole_whole _
theorem hrO : rO.IsWhole := Memref.isWhole_whole _
theorem hrS : rS.IsWhole := Memref.isWhole_whole _
abbrev semI := cc0_scoped1
abbrev semO := cc0_scoped3
abbrev semS := cc0_scoped5

instance (w : BitVec 32) : ClosedOff (k0_off12 w) := ⟨![(Scalar.remui w 3#32).toNat, 0, 0, 0], rfl⟩
instance (w : BitVec 32) : ClosedOff (k0_off13 w) := ⟨![(Scalar.remui w 2#32).toNat, 0, 0, 0], rfl⟩
instance (w : BitVec 32) : ClosedOff (k0_off14 w) := ⟨![(Scalar.remui w 2#32).toNat, 0, 0, 0], rfl⟩
instance (w : BitVec 32) : ClosedOff (k0_off15 w) := ⟨![(Scalar.remui w 3#32).toNat, 0, 0, 0], rfl⟩
instance (w : BitVec 32) : ClosedOff (k0_off16 w) := ⟨![(Scalar.remui w 2#32).toNat, 0, 0, 128], rfl⟩
instance (w : BitVec 32) : ClosedOff (k0_off17 w) := ⟨![(Scalar.remui w 2#32).toNat, 0, 0, 256], rfl⟩
instance (w : BitVec 32) : ClosedOff (k0_off18 w) := ⟨![(Scalar.remui w 2#32).toNat, 0, 0, 384], rfl⟩
instance (w : BitVec 32) : ClosedOff (k0_off19 w) := ⟨![(Scalar.remui w 2#32).toNat, 0, 0, 0], rfl⟩
instance (w : BitVec 32) : ClosedOff (k0_off20 w) := ⟨![(Scalar.remui w 3#32).toNat, 0, 0, 0], rfl⟩
instance (w : BitVec 32) : ClosedOff (k0_off21 w) := ⟨![(Scalar.remui w 2#32).toNat, 0, 0, 0], rfl⟩
instance (w : BitVec 32) : ClosedOff (k0_off22 w) := ⟨![(Scalar.remui w 2#32).toNat, 0, 128, 0], rfl⟩
instance (w : BitVec 32) : ClosedOff (k0_off23 w) := ⟨![(Scalar.remui w 2#32).toNat, 0, 128, 128], rfl⟩
instance (w : BitVec 32) : ClosedOff (k0_off24 w) := ⟨![(Scalar.remui w 2#32).toNat, 0, 128, 256], rfl⟩
instance (w : BitVec 32) : ClosedOff (k0_off25 w) := ⟨![(Scalar.remui w 2#32).toNat, 0, 128, 384], rfl⟩
instance (w : BitVec 32) : ClosedOff (k0_off26 w) := ⟨![(Scalar.remui w 2#32).toNat, 1, 0, 0], rfl⟩
instance (w : BitVec 32) : ClosedOff (k0_off27 w) := ⟨![(Scalar.remui w 2#32).toNat, 1, 0, 128], rfl⟩
instance (w : BitVec 32) : ClosedOff (k0_off28 w) := ⟨![(Scalar.remui w 2#32).toNat, 1, 0, 256], rfl⟩
instance (w : BitVec 32) : ClosedOff (k0_off29 w) := ⟨![(Scalar.remui w 2#32).toNat, 1, 0, 384], rfl⟩
instance (w : BitVec 32) : ClosedOff (k0_off30 w) := ⟨![(Scalar.remui w 2#32).toNat, 1, 128, 0], rfl⟩
instance (w : BitVec 32) : ClosedOff (k0_off31 w) := ⟨![(Scalar.remui w 2#32).toNat, 1, 128, 128], rfl⟩
instance (w : BitVec 32) : ClosedOff (k0_off32 w) := ⟨![(Scalar.remui w 2#32).toNat, 1, 128, 256], rfl⟩
instance (w : BitVec 32) : ClosedOff (k0_off33 w) := ⟨![(Scalar.remui w 2#32).toNat, 1, 128, 384], rfl⟩
instance (w : BitVec 32) : ClosedOff (k0_off34 w) := ⟨![(Scalar.remui w 2#32).toNat, 2, 0, 0], rfl⟩
instance (w : BitVec 32) : ClosedOff (k0_off35 w) := ⟨![(Scalar.remui w 2#32).toNat, 2, 0, 128], rfl⟩
instance (w : BitVec 32) : ClosedOff (k0_off36 w) := ⟨![(Scalar.remui w 2#32).toNat, 2, 0, 256], rfl⟩
instance (w : BitVec 32) : ClosedOff (k0_off37 w) := ⟨![(Scalar.remui w 2#32).toNat, 2, 0, 384], rfl⟩
instance (w : BitVec 32) : ClosedOff (k0_off38 w) := ⟨![(Scalar.remui w 2#32).toNat, 2, 128, 0], rfl⟩
instance (w : BitVec 32) : ClosedOff (k0_off39 w) := ⟨![(Scalar.remui w 2#32).toNat, 2, 128, 128], rfl⟩
instance (w : BitVec 32) : ClosedOff (k0_off40 w) := ⟨![(Scalar.remui w 2#32).toNat, 2, 128, 256], rfl⟩
instance (w : BitVec 32) : ClosedOff (k0_off41 w) := ⟨![(Scalar.remui w 2#32).toNat, 2, 128, 384], rfl⟩
instance (w : BitVec 32) : ClosedOff (k0_off42 w) := ⟨![(Scalar.remui w 2#32).toNat, 3, 0, 0], rfl⟩
instance (w : BitVec 32) : ClosedOff (k0_off43 w) := ⟨![(Scalar.remui w 2#32).toNat, 3, 0, 128], rfl⟩
instance (w : BitVec 32) : ClosedOff (k0_off44 w) := ⟨![(Scalar.remui w 2#32).toNat, 3, 0, 256], rfl⟩
instance (w : BitVec 32) : ClosedOff (k0_off45 w) := ⟨![(Scalar.remui w 2#32).toNat, 3, 0, 384], rfl⟩
instance (w : BitVec 32) : ClosedOff (k0_off46 w) := ⟨![(Scalar.remui w 2#32).toNat, 3, 128, 0], rfl⟩
instance (w : BitVec 32) : ClosedOff (k0_off47 w) := ⟨![(Scalar.remui w 2#32).toNat, 3, 128, 128], rfl⟩
instance (w : BitVec 32) : ClosedOff (k0_off48 w) := ⟨![(Scalar.remui w 2#32).toNat, 3, 128, 256], rfl⟩
instance (w : BitVec 32) : ClosedOff (k0_off49 w) := ⟨![(Scalar.remui w 2#32).toNat, 3, 128, 384], rfl⟩
instance (w : BitVec 32) : ClosedOff (k0_off50 w) := ⟨![(Scalar.remui w 2#32).toNat, 4, 0, 0], rfl⟩
instance (w : BitVec 32) : ClosedOff (k0_off51 w) := ⟨![(Scalar.remui w 2#32).toNat, 4, 0, 128], rfl⟩
instance (w : BitVec 32) : ClosedOff (k0_off52 w) := ⟨![(Scalar.remui w 2#32).toNat, 4, 0, 256], rfl⟩
instance (w : BitVec 32) : ClosedOff (k0_off53 w) := ⟨![(Scalar.remui w 2#32).toNat, 4, 0, 384], rfl⟩
instance (w : BitVec 32) : ClosedOff (k0_off54 w) := ⟨![(Scalar.remui w 2#32).toNat, 4, 128, 0], rfl⟩
instance (w : BitVec 32) : ClosedOff (k0_off55 w) := ⟨![(Scalar.remui w 2#32).toNat, 4, 128, 128], rfl⟩
instance (w : BitVec 32) : ClosedOff (k0_off56 w) := ⟨![(Scalar.remui w 2#32).toNat, 4, 128, 256], rfl⟩
instance (w : BitVec 32) : ClosedOff (k0_off57 w) := ⟨![(Scalar.remui w 2#32).toNat, 4, 128, 384], rfl⟩
instance (w : BitVec 32) : ClosedOff (k0_off58 w) := ⟨![(Scalar.remui w 2#32).toNat, 5, 0, 0], rfl⟩
instance (w : BitVec 32) : ClosedOff (k0_off59 w) := ⟨![(Scalar.remui w 2#32).toNat, 5, 0, 128], rfl⟩
instance (w : BitVec 32) : ClosedOff (k0_off60 w) := ⟨![(Scalar.remui w 2#32).toNat, 5, 0, 256], rfl⟩
instance (w : BitVec 32) : ClosedOff (k0_off61 w) := ⟨![(Scalar.remui w 2#32).toNat, 5, 0, 384], rfl⟩
instance (w : BitVec 32) : ClosedOff (k0_off62 w) := ⟨![(Scalar.remui w 2#32).toNat, 5, 128, 0], rfl⟩
instance (w : BitVec 32) : ClosedOff (k0_off63 w) := ⟨![(Scalar.remui w 2#32).toNat, 5, 128, 128], rfl⟩
instance (w : BitVec 32) : ClosedOff (k0_off64 w) := ⟨![(Scalar.remui w 2#32).toNat, 5, 128, 256], rfl⟩
instance (w : BitVec 32) : ClosedOff (k0_off65 w) := ⟨![(Scalar.remui w 2#32).toNat, 5, 128, 384], rfl⟩
instance (w : BitVec 32) : ClosedOff (k0_off66 w) := ⟨![(Scalar.remui w 2#32).toNat, 6, 0, 0], rfl⟩
instance (w : BitVec 32) : ClosedOff (k0_off67 w) := ⟨![(Scalar.remui w 2#32).toNat, 6, 0, 128], rfl⟩
instance (w : BitVec 32) : ClosedOff (k0_off68 w) := ⟨![(Scalar.remui w 2#32).toNat, 6, 0, 256], rfl⟩
instance (w : BitVec 32) : ClosedOff (k0_off69 w) := ⟨![(Scalar.remui w 2#32).toNat, 6, 0, 384], rfl⟩
instance (w : BitVec 32) : ClosedOff (k0_off70 w) := ⟨![(Scalar.remui w 2#32).toNat, 6, 128, 0], rfl⟩
instance (w : BitVec 32) : ClosedOff (k0_off71 w) := ⟨![(Scalar.remui w 2#32).toNat, 6, 128, 128], rfl⟩
instance (w : BitVec 32) : ClosedOff (k0_off72 w) := ⟨![(Scalar.remui w 2#32).toNat, 6, 128, 256], rfl⟩
instance (w : BitVec 32) : ClosedOff (k0_off73 w) := ⟨![(Scalar.remui w 2#32).toNat, 6, 128, 384], rfl⟩
instance (w : BitVec 32) : ClosedOff (k0_off74 w) := ⟨![(Scalar.remui w 2#32).toNat, 7, 0, 0], rfl⟩
instance (w : BitVec 32) : ClosedOff (k0_off75 w) := ⟨![(Scalar.remui w 2#32).toNat, 7, 0, 128], rfl⟩
instance (w : BitVec 32) : ClosedOff (k0_off76 w) := ⟨![(Scalar.remui w 2#32).toNat, 7, 0, 256], rfl⟩
instance (w : BitVec 32) : ClosedOff (k0_off77 w) := ⟨![(Scalar.remui w 2#32).toNat, 7, 0, 384], rfl⟩
instance (w : BitVec 32) : ClosedOff (k0_off78 w) := ⟨![(Scalar.remui w 2#32).toNat, 7, 128, 0], rfl⟩
instance (w : BitVec 32) : ClosedOff (k0_off79 w) := ⟨![(Scalar.remui w 2#32).toNat, 7, 128, 128], rfl⟩
instance (w : BitVec 32) : ClosedOff (k0_off80 w) := ⟨![(Scalar.remui w 2#32).toNat, 7, 128, 256], rfl⟩
instance (w : BitVec 32) : ClosedOff (k0_off81 w) := ⟨![(Scalar.remui w 2#32).toNat, 7, 128, 384], rfl⟩
instance (w : BitVec 32) : ClosedOff (k0_off82 w) := ⟨![(Scalar.remui w 2#32).toNat, 8, 0, 0], rfl⟩
instance (w : BitVec 32) : ClosedOff (k0_off83 w) := ⟨![(Scalar.remui w 2#32).toNat, 8, 0, 128], rfl⟩
instance (w : BitVec 32) : ClosedOff (k0_off84 w) := ⟨![(Scalar.remui w 2#32).toNat, 8, 0, 256], rfl⟩
instance (w : BitVec 32) : ClosedOff (k0_off85 w) := ⟨![(Scalar.remui w 2#32).toNat, 8, 0, 384], rfl⟩
instance (w : BitVec 32) : ClosedOff (k0_off86 w) := ⟨![(Scalar.remui w 2#32).toNat, 8, 128, 0], rfl⟩
instance (w : BitVec 32) : ClosedOff (k0_off87 w) := ⟨![(Scalar.remui w 2#32).toNat, 8, 128, 128], rfl⟩
instance (w : BitVec 32) : ClosedOff (k0_off88 w) := ⟨![(Scalar.remui w 2#32).toNat, 8, 128, 256], rfl⟩
instance (w : BitVec 32) : ClosedOff (k0_off89 w) := ⟨![(Scalar.remui w 2#32).toNat, 8, 128, 384], rfl⟩
instance (w : BitVec 32) : ClosedOff (k0_off90 w) := ⟨![(Scalar.remui w 2#32).toNat, 9, 0, 0], rfl⟩
instance (w : BitVec 32) : ClosedOff (k0_off91 w) := ⟨![(Scalar.remui w 2#32).toNat, 9, 0, 128], rfl⟩
instance (w : BitVec 32) : ClosedOff (k0_off92 w) := ⟨![(Scalar.remui w 2#32).toNat, 9, 0, 256], rfl⟩
instance (w : BitVec 32) : ClosedOff (k0_off93 w) := ⟨![(Scalar.remui w 2#32).toNat, 9, 0, 384], rfl⟩
instance (w : BitVec 32) : ClosedOff (k0_off94 w) := ⟨![(Scalar.remui w 2#32).toNat, 9, 128, 0], rfl⟩
instance (w : BitVec 32) : ClosedOff (k0_off95 w) := ⟨![(Scalar.remui w 2#32).toNat, 9, 128, 128], rfl⟩
instance (w : BitVec 32) : ClosedOff (k0_off96 w) := ⟨![(Scalar.remui w 2#32).toNat, 9, 128, 256], rfl⟩
instance (w : BitVec 32) : ClosedOff (k0_off97 w) := ⟨![(Scalar.remui w 2#32).toNat, 9, 128, 384], rfl⟩
instance (w : BitVec 32) : ClosedOff (k0_off98 w) := ⟨![(Scalar.remui w 2#32).toNat, 10, 0, 0], rfl⟩
instance (w : BitVec 32) : ClosedOff (k0_off99 w) := ⟨![(Scalar.remui w 2#32).toNat, 10, 0, 128], rfl⟩
instance (w : BitVec 32) : ClosedOff (k0_off100 w) := ⟨![(Scalar.remui w 2#32).toNat, 10, 0, 256], rfl⟩
instance (w : BitVec 32) : ClosedOff (k0_off101 w) := ⟨![(Scalar.remui w 2#32).toNat, 10, 0, 384], rfl⟩
instance (w : BitVec 32) : ClosedOff (k0_off102 w) := ⟨![(Scalar.remui w 2#32).toNat, 10, 128, 0], rfl⟩
instance (w : BitVec 32) : ClosedOff (k0_off103 w) := ⟨![(Scalar.remui w 2#32).toNat, 10, 128, 128], rfl⟩
instance (w : BitVec 32) : ClosedOff (k0_off104 w) := ⟨![(Scalar.remui w 2#32).toNat, 10, 128, 256], rfl⟩
instance (w : BitVec 32) : ClosedOff (k0_off105 w) := ⟨![(Scalar.remui w 2#32).toNat, 10, 128, 384], rfl⟩
instance (w : BitVec 32) : ClosedOff (k0_off106 w) := ⟨![(Scalar.remui w 2#32).toNat, 11, 0, 0], rfl⟩
instance (w : BitVec 32) : ClosedOff (k0_off107 w) := ⟨![(Scalar.remui w 2#32).toNat, 11, 0, 128], rfl⟩
instance (w : BitVec 32) : ClosedOff (k0_off108 w) := ⟨![(Scalar.remui w 2#32).toNat, 11, 0, 256], rfl⟩
instance (w : BitVec 32) : ClosedOff (k0_off109 w) := ⟨![(Scalar.remui w 2#32).toNat, 11, 0, 384], rfl⟩
instance (w : BitVec 32) : ClosedOff (k0_off110 w) := ⟨![(Scalar.remui w 2#32).toNat, 11, 128, 0], rfl⟩
instance (w : BitVec 32) : ClosedOff (k0_off111 w) := ⟨![(Scalar.remui w 2#32).toNat, 11, 128, 128], rfl⟩
instance (w : BitVec 32) : ClosedOff (k0_off112 w) := ⟨![(Scalar.remui w 2#32).toNat, 11, 128, 256], rfl⟩
instance (w : BitVec 32) : ClosedOff (k0_off113 w) := ⟨![(Scalar.remui w 2#32).toNat, 11, 128, 384], rfl⟩
instance (w : BitVec 32) : ClosedOff (k0_off114 w) := ⟨![(Scalar.remui w 2#32).toNat, 12, 0, 0], rfl⟩
instance (w : BitVec 32) : ClosedOff (k0_off115 w) := ⟨![(Scalar.remui w 2#32).toNat, 12, 0, 128], rfl⟩
instance (w : BitVec 32) : ClosedOff (k0_off116 w) := ⟨![(Scalar.remui w 2#32).toNat, 12, 0, 256], rfl⟩
instance (w : BitVec 32) : ClosedOff (k0_off117 w) := ⟨![(Scalar.remui w 2#32).toNat, 12, 0, 384], rfl⟩
instance (w : BitVec 32) : ClosedOff (k0_off118 w) := ⟨![(Scalar.remui w 2#32).toNat, 12, 128, 0], rfl⟩
instance (w : BitVec 32) : ClosedOff (k0_off119 w) := ⟨![(Scalar.remui w 2#32).toNat, 12, 128, 128], rfl⟩
instance (w : BitVec 32) : ClosedOff (k0_off120 w) := ⟨![(Scalar.remui w 2#32).toNat, 12, 128, 256], rfl⟩
instance (w : BitVec 32) : ClosedOff (k0_off121 w) := ⟨![(Scalar.remui w 2#32).toNat, 12, 128, 384], rfl⟩
instance (w : BitVec 32) : ClosedOff (k0_off122 w) := ⟨![(Scalar.remui w 2#32).toNat, 13, 0, 0], rfl⟩
instance (w : BitVec 32) : ClosedOff (k0_off123 w) := ⟨![(Scalar.remui w 2#32).toNat, 13, 0, 128], rfl⟩
instance (w : BitVec 32) : ClosedOff (k0_off124 w) := ⟨![(Scalar.remui w 2#32).toNat, 13, 0, 256], rfl⟩
instance (w : BitVec 32) : ClosedOff (k0_off125 w) := ⟨![(Scalar.remui w 2#32).toNat, 13, 0, 384], rfl⟩
instance (w : BitVec 32) : ClosedOff (k0_off126 w) := ⟨![(Scalar.remui w 2#32).toNat, 13, 128, 0], rfl⟩
instance (w : BitVec 32) : ClosedOff (k0_off127 w) := ⟨![(Scalar.remui w 2#32).toNat, 13, 128, 128], rfl⟩
instance (w : BitVec 32) : ClosedOff (k0_off128 w) := ⟨![(Scalar.remui w 2#32).toNat, 13, 128, 256], rfl⟩
instance (w : BitVec 32) : ClosedOff (k0_off129 w) := ⟨![(Scalar.remui w 2#32).toNat, 13, 128, 384], rfl⟩
instance (w : BitVec 32) : ClosedOff (k0_off130 w) := ⟨![(Scalar.remui w 2#32).toNat, 14, 0, 0], rfl⟩
instance (w : BitVec 32) : ClosedOff (k0_off131 w) := ⟨![(Scalar.remui w 2#32).toNat, 14, 0, 128], rfl⟩
instance (w : BitVec 32) : ClosedOff (k0_off132 w) := ⟨![(Scalar.remui w 2#32).toNat, 14, 0, 256], rfl⟩
instance (w : BitVec 32) : ClosedOff (k0_off133 w) := ⟨![(Scalar.remui w 2#32).toNat, 14, 0, 384], rfl⟩
instance (w : BitVec 32) : ClosedOff (k0_off134 w) := ⟨![(Scalar.remui w 2#32).toNat, 14, 128, 0], rfl⟩
instance (w : BitVec 32) : ClosedOff (k0_off135 w) := ⟨![(Scalar.remui w 2#32).toNat, 14, 128, 128], rfl⟩
instance (w : BitVec 32) : ClosedOff (k0_off136 w) := ⟨![(Scalar.remui w 2#32).toNat, 14, 128, 256], rfl⟩
instance (w : BitVec 32) : ClosedOff (k0_off137 w) := ⟨![(Scalar.remui w 2#32).toNat, 14, 128, 384], rfl⟩
instance (w : BitVec 32) : ClosedOff (k0_off138 w) := ⟨![(Scalar.remui w 2#32).toNat, 15, 0, 0], rfl⟩
instance (w : BitVec 32) : ClosedOff (k0_off139 w) := ⟨![(Scalar.remui w 2#32).toNat, 15, 0, 128], rfl⟩
instance (w : BitVec 32) : ClosedOff (k0_off140 w) := ⟨![(Scalar.remui w 2#32).toNat, 15, 0, 256], rfl⟩
instance (w : BitVec 32) : ClosedOff (k0_off141 w) := ⟨![(Scalar.remui w 2#32).toNat, 15, 0, 384], rfl⟩
instance (w : BitVec 32) : ClosedOff (k0_off142 w) := ⟨![(Scalar.remui w 2#32).toNat, 15, 128, 0], rfl⟩
instance (w : BitVec 32) : ClosedOff (k0_off143 w) := ⟨![(Scalar.remui w 2#32).toNat, 15, 128, 128], rfl⟩
instance (w : BitVec 32) : ClosedOff (k0_off144 w) := ⟨![(Scalar.remui w 2#32).toNat, 15, 128, 256], rfl⟩
instance (w : BitVec 32) : ClosedOff (k0_off145 w) := ⟨![(Scalar.remui w 2#32).toNat, 15, 128, 384], rfl⟩

def islot (w : BitVec 32) (h : ∀ a, k0_off12 w a + S1x16x256x1536.size a ≤ S3x16x256x1536.size a) : Memref sig .tc .vmem S16x256x1536 .bf16 :=
  (rI.slice (Rect.unit (s := S3x16x256x1536) (k0_off12 w) S1x16x256x1536.size h) (fun _ => rfl)).squeeze S16x256x1536 squeezes_S1x16x256x1536_S16x256x1536
def oslot (w : BitVec 32) (h : ∀ a, k0_off13 w a + S1x16x256x512.size a ≤ S2x16x256x512.size a) : Memref sig .tc .vmem S16x256x512 .bf16 :=
  (rO.slice (Rect.unit (s := S2x16x256x512) (k0_off13 w) S1x16x256x512.size h) (fun _ => rfl)).squeeze S16x256x512 squeezes_S1x16x256x512_S16x256x512
def sslot (w : BitVec 32) (h : ∀ a, k0_off19 w a + S1x16x256x128.size a ≤ S2x16x256x128.size a) : Memref sig .tc .vmem S16x256x128 .f32 :=
  (rS.slice (Rect.unit (s := S2x16x256x128) (k0_off19 w) S1x16x256x128.size h) (fun _ => rfl)).squeeze S16x256x128 squeezes_S1x16x256x128_S16x256x128

private theorem islot_congr {off : Fin 4 → Nat} {w : BitVec 32} (e : off = k0_off12 w) (hh hs h) :
    (rI.slice (Rect.unit (s := S3x16x256x1536) off S1x16x256x1536.size hh) hs).squeeze S16x256x1536 squeezes_S1x16x256x1536_S16x256x1536 = islot w h :=
  congrArg (fun M : Memref sig .tc .vmem S1x16x256x1536 .bf16 => M.squeeze S16x256x1536 squeezes_S1x16x256x1536_S16x256x1536) (Memref.slice_unit_congr _ e _ _ _ _)
private theorem oslot_congr {off : Fin 4 → Nat} {w : BitVec 32} (e : off = k0_off13 w) (hh hs h) :
    (rO.slice (Rect.unit (s := S2x16x256x512) off S1x16x256x512.size hh) hs).squeeze S16x256x512 squeezes_S1x16x256x512_S16x256x512 = oslot w h :=
  congrArg (fun M : Memref sig .tc .vmem S1x16x256x512 .bf16 => M.squeeze S16x256x512 squeezes_S1x16x256x512_S16x256x512) (Memref.slice_unit_congr _ e _ _ _ _)
private theorem sslot_congr {off : Fin 4 → Nat} {w : BitVec 32} (e : off = k0_off19 w) (hh hs h) :
    (rS.slice (Rect.unit (s := S2x16x256x128) off S1x16x256x128.size hh) hs).squeeze S16x256x128 squeezes_S1x16x256x128_S16x256x128 = sslot w h :=
  congrArg (fun M : Memref sig .tc .vmem S1x16x256x128 .f32 => M.squeeze S16x256x128 squeezes_S1x16x256x128_S16x256x128) (Memref.slice_unit_congr _ e _ _ _ _)
@[sl_canon] theorem islot12 (w) (hh hs) : (rI.slice (Rect.unit (s := S3x16x256x1536) (k0_off12 w) S1x16x256x1536.size hh) hs).squeeze S16x256x1536 squeezes_S1x16x256x1536_S16x256x1536 = islot w hh := islot_congr (by rfl) _ _ _
@[sl_canon] theorem islot15 (w) (hh hs) : (rI.slice (Rect.unit (s := S3x16x256x1536) (k0_off15 w) S1x16x256x1536.size hh) hs).squeeze S16x256x1536 squeezes_S1x16x256x1536_S16x256x1536 = islot w hh := islot_congr (by rfl) _ _ _
@[sl_canon] theorem islot20 (w) (hh hs) : (rI.slice (Rect.unit (s := S3x16x256x1536) (k0_off20 w) S1x16x256x1536.size hh) hs).squeeze S16x256x1536 squeezes_S1x16x256x1536_S16x256x1536 = islot w hh := islot_congr (by rfl) _ _ _
@[sl_canon] theorem oslot13 (w) (hh hs) : (rO.slice (Rect.unit (s := S2x16x256x512) (k0_off13 w) S1x16x256x512.size hh) hs).squeeze S16x256x512 squeezes_S1x16x256x512_S16x256x512 = oslot w hh := oslot_congr (by rfl) _ _ _
@[sl_canon] theorem oslot21 (w) (hh hs) : (rO.slice (Rect.unit (s := S2x16x256x512) (k0_off21 w) S1x16x256x512.size hh) hs).squeeze S16x256x512 squeezes_S1x16x256x512_S16x256x512 = oslot w hh := oslot_congr (by rfl) _ _ _
@[sl_canon] theorem sslot19 (w) (hh hs) : (rS.slice (Rect.unit (s := S2x16x256x128) (k0_off19 w) S1x16x256x128.size hh) hs).squeeze S16x256x128 squeezes_S1x16x256x128_S16x256x128 = sslot w hh := sslot_congr (by rfl) _ _ _

/-! ## What one trip leaves in the slots -/

/-- The contents of an input block, the queries, keys and values side by side. -/
abbrev InV (F : FTy → Type) := S16x256x1536.Idx → Elt F .bf16

/-- The queries of residue `r`, block `b`, head `h`; the keys and the values of residue `r`, head `h`. -/
def qv (x : InV F) (r b h : ℕ) (hr : r < 16) (hb : b < 2) (hh : h < 4) : Vec F S1x128x128 .bf16 := fun y =>
  x (((Rect.unit (s := S16x256x1536) ![0, 0, 0] S16x256x512.size inb_S16x256x1536_S16x256x512_0_0_0).withinL
    (Rect.unit (s := S16x256x512) ![r, 128 * b, 128 * h] S1x128x128.size (by
      intro a; match a with | 0 => exact hr | 1 => (show 128 * b + 128 ≤ 256; omega) | 2 => (show 128 * h + 128 ≤ 512; omega))).toLoadRect (fun _ => rfl)).idx y)
def kv (x : InV F) (r h : ℕ) (hr : r < 16) (hh : h < 4) : Vec F S1x256x128 .bf16 := fun y =>
  x (((Rect.unit (s := S16x256x1536) ![0, 0, 512] S16x256x512.size inb_S16x256x1536_S16x256x512_0_0_512).withinL
    (Rect.unit (s := S16x256x512) ![r, 0, 128 * h] S1x256x128.size (by
      intro a; match a with | 0 => exact hr | 1 => exact le_refl _ | 2 => (show 128 * h + 128 ≤ 512; omega))).toLoadRect (fun _ => rfl)).idx y)
def vv (x : InV F) (r h : ℕ) (hr : r < 16) (hh : h < 4) : Vec F S1x256x128 .bf16 := fun y =>
  x (((Rect.unit (s := S16x256x1536) ![0, 0, 1024] S16x256x512.size inb_S16x256x1536_S16x256x512_0_0_1024).withinL
    (Rect.unit (s := S16x256x512) ![r, 0, 128 * h] S1x256x128.size (by
      intro a; match a with | 0 => exact hr | 1 => exact le_refl _ | 2 => (show 128 * h + 128 ≤ 512; omega))).toLoadRect (fun _ => rfl)).idx y)

/-- The mask added to the scores of block `b`. -/
def biasOf : ℕ → FVec F S128x256 .f32
  | 0 => k0_pay2
  | _ + 1 => k0_pay1

/-- The masked scores of one unit, their row maxima, the product of the exponentials with the values beside ones. -/
def unitS (x : InV F) (r b h : ℕ) (hr : r < 16) (hb : b < 2) (hh : h < 4) : FVec F S128x256 .f32 :=
  k0_pay8 (biasOf b) (qv x r b h hr hb hh) (kv x r h hr hh)
def unitM (x : InV F) (r b h : ℕ) (hr : r < 16) (hb : b < 2) (hh : h < 4) : FVec F S128x1 .f32 :=
  k0_pay9 (unitS x r b h hr hb hh)
def unitP (x : InV F) (r b h : ℕ) (hr : r < 16) (hb : b < 2) (hh : h < 4) : FVec F S128x256 .f32 :=
  k0_pay10 (k0_pay7 (vv x r h hr hh)) (unitS x r b h hr hb hh)
def unitO (x : InV F) (r b h : ℕ) (hr : r < 16) (hb : b < 2) (hh : h < 4) : Vec F S1x1x128x128 .bf16 :=
  k0_pay11 (k0_pay7 (vv x r h hr hh)) (unitS x r b h hr hb hh)

/-- The lane's group of sixteen. -/
def laneG : IVec S128x128 32 := k0_pay5 (iota .tc S128x128 32 [1] iota_S128x128_d1_w32) 16#32 k0_pay3 k0_pay4 1#32

/-- One head's maxima and sums put into its two groups of lanes. -/
def putH (g g' : BitVec 32) (x : InV F) (r b h : ℕ) (hr : r < 16) (hb : b < 2) (hh : h < 4) (t : FVec F S128x128 .f32) : FVec F S128x128 .f32 :=
  select (cmpi .eq laneG (broadcast S128x128 g'))
    (extractStridedSlice S128x128 ![0, 128] (unitP x r b h hr hb hh) slices_S128x256_o0_128_S128x128)
    (select (cmpi .eq laneG (broadcast S128x128 g))
      (broadcastTo S128x128 (shapeCast S128x1 (unitM x r b h hr hb hh) shapeCasts_S128x1_S128x1) broadcasts_S128x1_S128x128) t)

def statT (x : InV F) (r b : ℕ) (hr : r < 16) (hb : b < 2) : FVec F S128x128 .f32 :=
  putH 6#32 7#32 x r b 3 hr hb (by decide) (putH 4#32 5#32 x r b 2 hr hb (by decide)
    (putH 2#32 3#32 x r b 1 hr hb (by decide) (putH 0#32 1#32 x r b 0 hr hb (by decide) k0_pay6)))
def statV (x : InV F) (r b : ℕ) (hr : r < 16) (hb : b < 2) : FVec F S1x128x128 .f32 :=
  shapeCast S1x128x128 (statT x r b hr hb) shapeCasts_S128x128_S1x128x128

theorem unitO_congr (x : InV F) {r b h r' b' h' : ℕ} (er : r = r') (eb : b = b') (eh : h = h') (hr hb hh hr' hb' hh') :
    unitO x r b h hr hb hh = unitO x r' b' h' hr' hb' hh' := by subst er eb eh; rfl
theorem statV_congr (x : InV F) {r b r' b' : ℕ} (er : r = r') (eb : b = b') (hr hb hr' hb') :
    statV x r b hr hb = statV x r' b' hr' hb' := by subst er eb; rfl

theorem i3_0 {a b c : ℕ} (y : (⟨3, ![a, b, c]⟩ : Shape).Idx) : (y 0).val < a := (y 0).isLt
theorem i3_1 {a b c : ℕ} (y : (⟨3, ![a, b, c]⟩ : Shape).Idx) : (y 1).val < b := (y 1).isLt
theorem i3_2 {a b c : ℕ} (y : (⟨3, ![a, b, c]⟩ : Shape).Idx) : (y 2).val < c := (y 2).isLt

/-- The rows a trip leaves: the products, -/
def attO (x : InV F) : S16x256x512.Idx → Elt F .bf16 := fun y =>
  unitO x (y 0).val ((y 1).val / 128) ((y 2).val / 128) (i3_0 y) (by have := i3_1 y; omega) (by have := i3_2 y; omega)
    (ix4 (0 : Fin 1) (0 : Fin 1) (⟨(y 1).val % 128, Nat.mod_lt _ (by decide)⟩ : Fin 128) (⟨(y 2).val % 128, Nat.mod_lt _ (by decide)⟩ : Fin 128))
/-- and the maxima and sums. -/
def attS (x : InV F) : S16x256x128.Idx → Elt F .f32 := fun y =>
  statV x (y 0).val ((y 1).val / 128) (i3_0 y) (by have := i3_1 y; omega)
    (ix3 (0 : Fin 1) (⟨(y 1).val % 128, Nat.mod_lt _ (by decide)⟩ : Fin 128) (⟨(y 2).val, i3_2 y⟩ : Fin 128))

/-- The first `n` of the trip's units are stored. -/
def DoneO (w : BitVec 32) (ho : ∀ a, k0_off13 w a + S1x16x256x512.size a ≤ S2x16x256x512.size a) (x : InV F) (n : ℕ)
    (g : (oslot w ho).view.ty.Contents (Elt F)) : Prop :=
  ∀ y : S16x256x512.Idx, (y 0).val * 8 + (y 1).val / 128 * 4 + (y 2).val / 128 < n → (oslot w ho).view.read (Elt F) g y = attO x y

def DoneS {κ : Kind} {sp : Space} (v : View sig κ sp S16x256x128 .f32) (f : v.ty.Contents (Elt F)) (x : InV F) (n : ℕ)
    (L : List (View.Piece (Elt F) S16x256x128 .f32)) : Prop :=
  ∀ y : S16x256x128.Idx, (y 0).val * 2 + (y 1).val / 128 < n → v.read (Elt F) (v.writes (Elt F) f L) y = attS x y

theorem doneO_zero (w ho) (x : InV F) (g : (oslot w ho).view.ty.Contents (Elt F)) : DoneO w ho x 0 g := fun _ h => absurd h (Nat.not_lt_zero _)
theorem doneS_nil {κ : Kind} {sp : Space} (v : View sig κ sp S16x256x128 .f32) (f : v.ty.Contents (Elt F)) (x : InV F) : DoneS v f x 0 [] := fun _ h => absurd h (Nat.not_lt_zero _)

theorem doneS_step {κ : Kind} {sp : Space} (v : View sig κ sp S16x256x128 .f32) (f : v.ty.Contents (Elt F)) (x : InV F) (n : ℕ) (hn : n < 32)
    (L : List (View.Piece (Elt F) S16x256x128 .f32)) (off : Fin 3 → ℕ) (inb) (p : FVec F S1x128x128 .f32) (hoff : off = ![n / 2, 128 * (n % 2), 0])
    (hp : p = statV x (n / 2) (n % 2) (by omega) (by omega)) (ih : DoneS v f x n L) :
    DoneS v f x (n + 1) (⟨Rect.unit (s := S16x256x128) off S1x128x128.size inb, p⟩ :: L) := by
  subst hoff hp
  intro y hy
  have h0 := i3_0 y
  have h1 := i3_1 y
  have h2 := i3_2 y
  by_cases hk : (y 0).val * 2 + (y 1).val / 128 = n
  · have e0 : (y 0).val = n / 2 := by omega
    have e1 : (y 1).val / 128 = n % 2 := by omega
    rw [View.read_writes_cons_unit_of_mem v f inb (statV x (n / 2) (n % 2) (by omega) (by omega)) L y
      (ix3 (0 : Fin 1) (⟨(y 1).val % 128, Nat.mod_lt _ (by decide)⟩ : Fin 128) (⟨(y 2).val, i3_2 y⟩ : Fin 128)) rfl (by
        intro a
        match a with
        | ⟨0, _⟩ => show (y 0).val = n / 2 + 0; omega
        | ⟨1, _⟩ => show (y 1).val = 128 * (n % 2) + (y 1).val % 128; omega
        | ⟨2, _⟩ => show (y 2).val = 0 + (y 2).val; omega)]
    exact congrFun (statV_congr x e0.symm e1.symm _ _ _ _) _
  · rw [View.read_writes_cons_unit v f inb _ L y rfl, dif_neg ?_]
    · exact ih y (by omega)
    · intro h
      have a0 := h 0
      have a1 := h 1
      have b0 : n / 2 ≤ (y 0).val ∧ (y 0).val < n / 2 + 1 := a0
      have b1 : 128 * (n % 2) ≤ (y 1).val ∧ (y 1).val < 128 * (n % 2) + 128 := a1
      omega

theorem oslot_pos (w : BitVec 32) (ho) (y : S16x256x512.Idx) : (oslot w ho).view.emb y
    = ((Rect.unit (s := S2x16x256x512) (k0_off13 w) S1x16x256x512.size ho).emb (ix4 (0 : Fin 1) (y 0) (y 1) (y 2)) : S2x16x256x512.Idx) := by
  show (Rect.unit (s := S2x16x256x512) (k0_off13 w) S1x16x256x512.size ho).emb (Shape.reshapeEquiv _ y) = _
  congr 1
  refine (Shape.reshapeEquiv_cons_one (d := S16x256x512.size) _ y).trans ?_
  funext a
  match a with | ⟨0, _⟩ => rfl | ⟨1, _⟩ => rfl | ⟨2, _⟩ => rfl | ⟨3, _⟩ => rfl

theorem oslot_read (w : BitVec 32) (ho) (g : rO.view.ty.Contents (Elt F)) (y : S16x256x512.Idx) :
    (oslot w ho).view.read (Elt F) g y = g ((oslot w ho).view.emb y) := rfl
theorem access_write (off : Fin 4 → ℕ) (inb) (g : rO.view.ty.Contents (Elt F)) (p : Vec F S1x1x128x128 .bf16) (z : S1x1x128x128.Idx) :
    ((rO.access (Rect.unit (s := S2x16x256x512) off S1x1x128x128.size inb)).write (Elt F) g p Finset.univ)
      ((rO.access (Rect.unit (s := S2x16x256x512) off S1x1x128x128.size inb)).emb z) = p z :=
  (View.write_emb_of_mem (Val := Elt F) (v := rO.access (Rect.unit (s := S2x16x256x512) off S1x1x128x128.size inb)) g p (Finset.mem_univ z)).trans rfl

theorem doneO_step (w : BitVec 32) (ho) (x : InV F) (n : ℕ) (hn : n < 128) (off : Fin 4 → ℕ) (inb)
    (g : rO.view.ty.Contents (Elt F)) (p : Vec F S1x1x128x128 .bf16)
    (hoff : off = ![(Scalar.remui w 2#32).toNat, n / 8, 128 * (n / 4 % 2), 128 * (n % 4)])
    (hp : p = unitO x (n / 8) (n / 4 % 2) (n % 4) (by omega) (by omega) (by omega)) (ih : DoneO w ho x n g) :
    DoneO w ho x (n + 1) ((rO.access (Rect.unit (s := S2x16x256x512) off S1x1x128x128.size inb)).write (Elt F) g p Finset.univ) := by
  subst hoff hp
  intro y hy
  have h0 := i3_0 y
  have h1 := i3_1 y
  have h2 := i3_2 y
  have ho13 : k0_off13 w = ![(Scalar.remui w 2#32).toNat, 0, 0, 0] := ClosedOff.eq
  by_cases hk : (y 0).val * 8 + (y 1).val / 128 * 4 + (y 2).val / 128 = n
  · have e0 : (y 0).val = n / 8 := by omega
    have e1 : (y 1).val / 128 = n / 4 % 2 := by omega
    have e2 : (y 2).val / 128 = n % 4 := by omega
    have he : (oslot w ho).view.emb y = (rO.access (Rect.unit (s := S2x16x256x512) _ S1x1x128x128.size inb)).emb
        (ix4 (0 : Fin 1) (0 : Fin 1) (⟨(y 1).val % 128, Nat.mod_lt _ (by decide)⟩ : Fin 128) (⟨(y 2).val % 128, Nat.mod_lt _ (by decide)⟩ : Fin 128)) := by
      rw [oslot_pos]
      funext a
      apply Fin.ext
      show (_ : ℕ) = ((Rect.unit (s := S2x16x256x512) _ S1x1x128x128.size inb).emb _ a : ℕ)
      rw [Rect.emb_apply, Rect.emb_apply]
      match a with
      | ⟨0, _⟩ => show k0_off13 w 0 + 1 * 0 = (Scalar.remui w 2#32).toNat + 1 * 0; rw [ho13]; rfl
      | ⟨1, _⟩ => show k0_off13 w 1 + 1 * (y 0).val = n / 8 + 1 * 0; rw [ho13]; show 0 + 1 * (y 0).val = _; omega
      | ⟨2, _⟩ => show k0_off13 w 2 + 1 * (y 1).val = 128 * (n / 4 % 2) + 1 * ((y 1).val % 128); rw [ho13]; show 0 + 1 * (y 1).val = _; omega
      | ⟨3, _⟩ => show k0_off13 w 3 + 1 * (y 2).val = 128 * (n % 4) + 1 * ((y 2).val % 128); rw [ho13]; show 0 + 1 * (y 2).val = _; omega
    have hw := access_write _ inb g (unitO x (n / 8) (n / 4 % 2) (n % 4) (by omega) (by omega) (by omega))
        (ix4 (0 : Fin 1) (0 : Fin 1) (⟨(y 1).val % 128, Nat.mod_lt _ (by decide)⟩ : Fin 128) (⟨(y 2).val % 128, Nat.mod_lt _ (by decide)⟩ : Fin 128))
    rw [← he] at hw
    refine (oslot_read w ho _ y).trans (hw.trans ?_)
    exact congrFun (unitO_congr x e0.symm e1.symm e2.symm _ _ _ _ _ _) _
  · refine (oslot_read w ho _ y).trans ?_
    refine Eq.trans (View.write_of_not_mem (Val := Elt F) (v := rO.access (Rect.unit (s := S2x16x256x512) _ S1x1x128x128.size inb)) g
      (unitO x (n / 8) (n / 4 % 2) (n % 4) (by omega) (by omega) (by omega)) Finset.univ (i := (oslot w ho).view.emb y) ?_) ((oslot_read w ho g y).symm.trans (ih y (by omega)))
    intro hm
    obtain ⟨z, -, hz⟩ := Finset.mem_map.1 hm
    rw [oslot_pos] at hz
    have z0 : (z 0).val < 1 := (z 0).isLt
    have z1 : (z 1).val < 1 := (z 1).isLt
    have z2 : (z 2).val < 128 := (z 2).isLt
    have z3 : (z 3).val < 128 := (z 3).isLt
    have q : ∀ a : Fin 4, ((Rect.unit (s := S2x16x256x512) _ S1x1x128x128.size inb).emb z a : ℕ)
        = ((Rect.unit (s := S2x16x256x512) (k0_off13 w) S1x16x256x512.size ho).emb (ix4 (0 : Fin 1) (y 0) (y 1) (y 2)) a : ℕ) := fun a => congrArg (fun i : S2x16x256x512.Idx => (i a : ℕ)) hz
    simp only [Rect.emb_apply] at q
    have q1 : n / 8 + 1 * (z 1).val = k0_off13 w 1 + 1 * (y 0).val := q 1
    have q2 : 128 * (n / 4 % 2) + 1 * (z 2).val = k0_off13 w 2 + 1 * (y 1).val := q 2
    have q3 : 128 * (n % 4) + 1 * (z 3).val = k0_off13 w 3 + 1 * (y 2).val := q 3
    rw [ho13] at q1 q2 q3
    have q1' : n / 8 + 1 * (z 1).val = 0 + 1 * (y 0).val := q1
    have q2' : 128 * (n / 4 % 2) + 1 * (z 2).val = 0 + 1 * (y 1).val := q2
    have q3' : 128 * (n % 4) + 1 * (z 3).val = 0 + 1 * (y 2).val := q3
    omega

theorem doneO_all (w ho) (x : InV F) (g : (oslot w ho).view.ty.Contents (Elt F)) (h : DoneO w ho x 128 g) : (oslot w ho).view.read (Elt F) g = attO x := by
  funext y
  have h0 := i3_0 y
  have h1 := i3_1 y
  have h2 := i3_2 y
  exact h y (by omega)
theorem doneS_all {κ : Kind} {sp : Space} (v : View sig κ sp S16x256x128 .f32) (f : v.ty.Contents (Elt F)) (x : InV F) (L)
    (h : DoneS v f x 32 L) : v.read (Elt F) (v.writes (Elt F) f L) = attS x := by
  funext y
  have h0 := i3_0 y
  have h1 := i3_1 y
  exact h y (by omega)

end Cert.Proof.Attn
end
-- ==== Proof.Mid.lean ====
module

public import proofs.«01_k».proof.Proof.Slots

@[expose] public section

set_option maxRecDepth 16384

noncomputable section

namespace Cert.Proof.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

def midProg (arg5 arg6 arg8 arg3 : BitVec 32) (k0_hw4 : k0_chk4 arg8) (k0_hw3 : k0_chk3 arg6) (k0_hw2 : k0_chk2 arg5)
    (v105 : BitVec 1) (v107 v115 : BitVec 32) (v165 : BitVec 1) (c0_i32_169 : BitVec 32) :
    Prog (TpuEff nD τ sig (Elt F) Λ₀ .tc) PUnit := do
  let ⟨v188, v192, v193, c16_i32, v195, v202, v207⟩ ← k0_part3 aI hI aO hO aS hS rI hrI semI rO hrO semO rS hrS semS arg5 arg6 arg8 arg3 v105 v107 v115 v165 c0_i32_169
  let ⟨v217, v218, v233, v235⟩ ← k0_part4 aI hI aO hO aS hS rI hrI semI rO hrO semO rS hrS semS arg5 k0_hw2 v192 v193 c16_i32 v195 v202 v207
  let ⟨v260, v265⟩ ← k0_part5 aI hI aO hO aS hS rI hrI semI rO hrO semO rS hrS semS arg5 arg6 k0_hw3 k0_hw2 v217 v218 v233 v235
  let v302 ← k0_part6 aI hI aO hO aS hS rI hrI semI rO hrO semO rS hrS semS arg5 arg6 k0_hw3 k0_hw2 v192 v217 v260 v265
  let ⟨v321, v330, v331⟩ ← k0_part7 aI hI aO hO aS hS rI hrI semI rO hrO semO rS hrS semS arg5 k0_hw2 v192
  let ⟨v344, v349, v354⟩ ← k0_part8 aI hI aO hO aS hS rI hrI semI rO hrO semO rS hrS semS arg5 arg6 k0_hw3 k0_hw2 v217 v302 v321 v330 v331
  let v392 ← k0_part9 aI hI aO hO aS hS rI hrI semI rO hrO semO rS hrS semS arg5 arg6 arg8 k0_hw4 k0_hw3 k0_hw2 v192 v217 v344 v349 v354
  let ⟨v411, v420, v421⟩ ← k0_part10 aI hI aO hO aS hS rI hrI semI rO hrO semO rS hrS semS arg5 k0_hw2 v188
  let ⟨v434, v439, v444⟩ ← k0_part11 aI hI aO hO aS hS rI hrI semI rO hrO semO rS hrS semS arg5 arg6 k0_hw3 k0_hw2 v217 v392 v411 v420 v421
  let ⟨v476, v481⟩ ← k0_part12 aI hI aO hO aS hS rI hrI semI rO hrO semO rS hrS semS arg5 arg6 k0_hw3 k0_hw2 v188 v217 v434 v439 v444
  let ⟨v495, v504, c4_i32_455⟩ ← k0_part13 aI hI aO hO aS hS rI hrI semI rO hrO semO rS hrS semS arg5 arg6 k0_hw3 k0_hw2 v188 v481
  let ⟨v518, v533, v537, v540⟩ ← k0_part14 aI hI aO hO aS hS rI hrI semI rO hrO semO rS hrS semS arg5 k0_hw2 v188 v217 v476 v495 v504 c4_i32_455
  let ⟨v566, v571⟩ ← k0_part15 aI hI aO hO aS hS rI hrI semI rO hrO semO rS hrS semS arg5 arg6 arg8 k0_hw4 k0_hw3 k0_hw2 v217 v518 v533 v537 v540
  let ⟨v585, v594, c0_i32_539⟩ ← k0_part16 aI hI aO hO aS hS rI hrI semI rO hrO semO rS hrS semS arg5 arg6 k0_hw3 k0_hw2 v192 v571
  let ⟨v608, v623, v627, v630⟩ ← k0_part17 aI hI aO hO aS hS rI hrI semI rO hrO semO rS hrS semS arg5 k0_hw2 v192 v217 v566 v585 v594 c0_i32_539
  let ⟨v650, v655, v660⟩ ← k0_part18 aI hI aO hO aS hS rI hrI semI rO hrO semO rS hrS semS arg5 arg6 k0_hw3 k0_hw2 v217 v608 v623 v627 v630
  let v692 ← k0_part19 aI hI aO hO aS hS rI hrI semI rO hrO semO rS hrS semS arg5 arg6 k0_hw3 k0_hw2 v192 v217 v650 v655 v660
  let ⟨v711, v720, v721⟩ ← k0_part20 aI hI aO hO aS hS rI hrI semI rO hrO semO rS hrS semS arg5 arg6 k0_hw3 k0_hw2 v192
  let ⟨v740, v745, v750⟩ ← k0_part21 aI hI aO hO aS hS rI hrI semI rO hrO semO rS hrS semS arg5 arg6 arg8 k0_hw4 k0_hw3 k0_hw2 v217 v692 v711 v720 v721
  let v782 ← k0_part22 aI hI aO hO aS hS rI hrI semI rO hrO semO rS hrS semS arg5 arg6 k0_hw3 k0_hw2 v188 v217 v740 v745 v750
  let ⟨v801, v810, v811⟩ ← k0_part23 aI hI aO hO aS hS rI hrI semI rO hrO semO rS hrS semS arg5 arg6 k0_hw3 k0_hw2 v188
  let ⟨v824, v829, v834, v839⟩ ← k0_part24 aI hI aO hO aS hS rI hrI semI rO hrO semO rS hrS semS arg5 arg6 k0_hw3 k0_hw2 v217 v782 v801 v810 v811
  let ⟨v866, v871⟩ ← k0_part25 aI hI aO hO aS hS rI hrI semI rO hrO semO rS hrS semS arg5 arg6 k0_hw3 k0_hw2 v188 v217 v824 v829 v834 v839
  let ⟨v894, v905⟩ ← k0_part26 aI hI aO hO aS hS rI hrI semI rO hrO semO rS hrS semS arg5 arg6 k0_hw3 k0_hw2 v188 v217 v866 v871
  let ⟨v914, v919, v924, v929⟩ ← k0_part27 aI hI aO hO aS hS rI hrI semI rO hrO semO rS hrS semS arg5 arg8 k0_hw4 k0_hw2 v217 v894 v905
  let ⟨v956, v961⟩ ← k0_part28 aI hI aO hO aS hS rI hrI semI rO hrO semO rS hrS semS arg5 arg6 k0_hw3 k0_hw2 v192 v217 v914 v919 v924 v929
  let ⟨v984, v995⟩ ← k0_part29 aI hI aO hO aS hS rI hrI semI rO hrO semO rS hrS semS arg5 arg6 k0_hw3 k0_hw2 v192 v217 v956 v961
  let ⟨v998, v1017, v1021, v1023, cst_935⟩ ← k0_part30 aI hI aO hO aS hS rI hrI semI rO hrO semO rS hrS semS arg5 k0_hw2 v192 v217 v984 v995
  let ⟨v1040, v1045, v1050⟩ ← k0_part31 aI hI aO hO aS hS rI hrI semI rO hrO semO rS hrS semS arg5 arg6 k0_hw3 k0_hw2 v217 v998 v1017 v1021 v1023 cst_935
  let v1082 ← k0_part32 aI hI aO hO aS hS rI hrI semI rO hrO semO rS hrS semS arg5 arg6 arg8 k0_hw4 k0_hw3 k0_hw2 v192 v217 v1040 v1045 v1050
  let ⟨v1088, v1107, v1111, v1113, cst_1020⟩ ← k0_part33 aI hI aO hO aS hS rI hrI semI rO hrO semO rS hrS semS arg5 arg8 k0_hw4 k0_hw2 v188 v1082
  let ⟨v1130, v1135, v1140⟩ ← k0_part34 aI hI aO hO aS hS rI hrI semI rO hrO semO rS hrS semS arg5 arg6 k0_hw3 k0_hw2 v217 v1088 v1107 v1111 v1113 cst_1020
  let v1172 ← k0_part35 aI hI aO hO aS hS rI hrI semI rO hrO semO rS hrS semS arg5 arg6 k0_hw3 k0_hw2 v188 v217 v1130 v1135 v1140
  let ⟨v1191, v1200, v1201⟩ ← k0_part36 aI hI aO hO aS hS rI hrI semI rO hrO semO rS hrS semS arg5 arg6 k0_hw3 k0_hw2 v188
  let ⟨v1214, v1229, v1231, v1232⟩ ← k0_part37 aI hI aO hO aS hS rI hrI semI rO hrO semO rS hrS semS arg5 arg6 k0_hw3 k0_hw2 v188 v217 v1172 v1191 v1200 v1201
  let v1262 ← k0_part38 aI hI aO hO aS hS rI hrI semI rO hrO semO rS hrS semS arg5 arg6 arg8 k0_hw4 k0_hw3 k0_hw2 v217 v1214 v1229 v1231 v1232
  let ⟨v1281, v1290, v1291⟩ ← k0_part39 aI hI aO hO aS hS rI hrI semI rO hrO semO rS hrS semS arg5 arg6 k0_hw3 k0_hw2 v192
  let ⟨v1304, v1319, v1321, v1322⟩ ← k0_part40 aI hI aO hO aS hS rI hrI semI rO hrO semO rS hrS semS arg5 arg6 k0_hw3 k0_hw2 v192 v217 v1262 v1281 v1290 v1291
  let ⟨v1346, v1351⟩ ← k0_part41 aI hI aO hO aS hS rI hrI semI rO hrO semO rS hrS semS arg5 arg6 k0_hw3 k0_hw2 v217 v1304 v1319 v1321 v1322
  let v1388 ← k0_part42 aI hI aO hO aS hS rI hrI semI rO hrO semO rS hrS semS arg5 arg6 k0_hw3 k0_hw2 v192 v217 v1346 v1351
  let ⟨v1407, v1416, v1417⟩ ← k0_part43 aI hI aO hO aS hS rI hrI semI rO hrO semO rS hrS semS arg5 k0_hw2 v192
  let ⟨v1436, v1441⟩ ← k0_part44 aI hI aO hO aS hS rI hrI semI rO hrO semO rS hrS semS arg5 arg6 arg8 k0_hw4 k0_hw3 k0_hw2 v217 v1388 v1407 v1416 v1417
  let v1478 ← k0_part45 aI hI aO hO aS hS rI hrI semI rO hrO semO rS hrS semS arg5 arg6 k0_hw3 k0_hw2 v188 v217 v1436 v1441
  let ⟨v1497, v1506, v1507⟩ ← k0_part46 aI hI aO hO aS hS rI hrI semI rO hrO semO rS hrS semS arg5 k0_hw2 v188
  let ⟨v1520, v1525, v1530⟩ ← k0_part47 aI hI aO hO aS hS rI hrI semI rO hrO semO rS hrS semS arg5 arg6 k0_hw3 k0_hw2 v217 v1478 v1497 v1506 v1507
  let ⟨v1562, v1567⟩ ← k0_part48 aI hI aO hO aS hS rI hrI semI rO hrO semO rS hrS semS arg5 arg6 k0_hw3 k0_hw2 v188 v217 v1520 v1525 v1530
  let ⟨v1581, v1590, v1597⟩ ← k0_part49 aI hI aO hO aS hS rI hrI semI rO hrO semO rS hrS semS arg5 arg6 k0_hw3 k0_hw2 v188 v1567
  let ⟨v1610, v1615, v1620⟩ ← k0_part50 aI hI aO hO aS hS rI hrI semI rO hrO semO rS hrS semS arg5 arg8 k0_hw4 k0_hw2 v217 v1562 v1581 v1590 v1597
  let ⟨v1652, v1657⟩ ← k0_part51 aI hI aO hO aS hS rI hrI semI rO hrO semO rS hrS semS arg5 arg6 k0_hw3 k0_hw2 v192 v217 v1610 v1615 v1620
  let ⟨v1671, v1680, v1687⟩ ← k0_part52 aI hI aO hO aS hS rI hrI semI rO hrO semO rS hrS semS arg5 arg6 k0_hw3 k0_hw2 v192 v1657
  let ⟨v1694, v1709, v1713, v1717⟩ ← k0_part53 aI hI aO hO aS hS rI hrI semI rO hrO semO rS hrS semS arg5 k0_hw2 v192 v217 v1652 v1671 v1680 v1687
  let ⟨v1736, v1741, v1746⟩ ← k0_part54 aI hI aO hO aS hS rI hrI semI rO hrO semO rS hrS semS arg5 arg6 k0_hw3 k0_hw2 v217 v1694 v1709 v1713 v1717
  let v1778 ← k0_part55 aI hI aO hO aS hS rI hrI semI rO hrO semO rS hrS semS arg5 arg6 arg8 k0_hw4 k0_hw3 k0_hw2 v192 v217 v1736 v1741 v1746
  let ⟨v1784, v1799, v1803, v1807⟩ ← k0_part56 aI hI aO hO aS hS rI hrI semI rO hrO semO rS hrS semS arg5 arg8 k0_hw4 k0_hw2 v188 v1778
  let ⟨v1826, v1831, v1836⟩ ← k0_part57 aI hI aO hO aS hS rI hrI semI rO hrO semO rS hrS semS arg5 arg6 k0_hw3 k0_hw2 v217 v1784 v1799 v1803 v1807
  let v1868 ← k0_part58 aI hI aO hO aS hS rI hrI semI rO hrO semO rS hrS semS arg5 arg6 k0_hw3 k0_hw2 v188 v217 v1826 v1831 v1836
  let ⟨v1887, v1896, v1897⟩ ← k0_part59 aI hI aO hO aS hS rI hrI semI rO hrO semO rS hrS semS arg5 arg6 k0_hw3 k0_hw2 v188
  let ⟨v1910, v1915, v1920, v1925, cst_1784⟩ ← k0_part60 aI hI aO hO aS hS rI hrI semI rO hrO semO rS hrS semS arg5 arg6 k0_hw3 k0_hw2 v217 v1868 v1887 v1896 v1897
  let v1958 ← k0_part61 aI hI aO hO aS hS rI hrI semI rO hrO semO rS hrS semS arg5 arg6 arg8 k0_hw4 k0_hw3 k0_hw2 v188 v217 v1910 v1915 v1920 v1925 cst_1784
  let ⟨v1977, v1986, v1987⟩ ← k0_part62 aI hI aO hO aS hS rI hrI semI rO hrO semO rS hrS semS arg5 arg6 k0_hw3 k0_hw2 v192
  let ⟨v2000, v2005, v2010, v2015, cst_1868⟩ ← k0_part63 aI hI aO hO aS hS rI hrI semI rO hrO semO rS hrS semS arg5 arg6 k0_hw3 k0_hw2 v217 v1958 v1977 v1986 v1987
  let ⟨v2042, v2047⟩ ← k0_part64 aI hI aO hO aS hS rI hrI semI rO hrO semO rS hrS semS arg5 arg6 k0_hw3 k0_hw2 v192 v217 v2000 v2005 v2010 v2015 cst_1868
  let ⟨v2070, v2081, c5_i32_1918⟩ ← k0_part65 aI hI aO hO aS hS rI hrI semI rO hrO semO rS hrS semS arg5 arg6 k0_hw3 k0_hw2 v192 v217 v2042 v2047
  let ⟨v2084, v2103, v2110⟩ ← k0_part66 aI hI aO hO aS hS rI hrI semI rO hrO semO rS hrS semS arg5 k0_hw2 v192 v217 v2070 v2081 c5_i32_1918
  let ⟨v2132, v2137⟩ ← k0_part67 aI hI aO hO aS hS rI hrI semI rO hrO semO rS hrS semS arg5 arg6 arg8 k0_hw4 k0_hw3 k0_hw2 v217 v2084 v2103 v2110
  let ⟨v2160, v2171, c1_i32_2003⟩ ← k0_part68 aI hI aO hO aS hS rI hrI semI rO hrO semO rS hrS semS arg5 arg6 k0_hw3 k0_hw2 v188 v217 v2132 v2137
  let ⟨v2174, v2193, v2200⟩ ← k0_part69 aI hI aO hO aS hS rI hrI semI rO hrO semO rS hrS semS arg5 k0_hw2 v188 v217 v2160 v2171 c1_i32_2003
  let ⟨v2216, v2221, v2226⟩ ← k0_part70 aI hI aO hO aS hS rI hrI semI rO hrO semO rS hrS semS arg5 arg6 k0_hw3 k0_hw2 v217 v2174 v2193 v2200
  let v2258 ← k0_part71 aI hI aO hO aS hS rI hrI semI rO hrO semO rS hrS semS arg5 arg6 k0_hw3 k0_hw2 v188 v217 v2216 v2221 v2226
  let ⟨v2277, v2286, v2292⟩ ← k0_part72 aI hI aO hO aS hS rI hrI semI rO hrO semO rS hrS semS arg5 arg6 k0_hw3 k0_hw2 v188
  let ⟨v2306, v2311, v2316⟩ ← k0_part73 aI hI aO hO aS hS rI hrI semI rO hrO semO rS hrS semS arg5 arg6 arg8 k0_hw4 k0_hw3 k0_hw2 v217 v2258 v2277 v2286 v2292
  let v2348 ← k0_part74 aI hI aO hO aS hS rI hrI semI rO hrO semO rS hrS semS arg5 arg6 k0_hw3 k0_hw2 v192 v217 v2306 v2311 v2316
  let ⟨v2367, v2376, v2382⟩ ← k0_part75 aI hI aO hO aS hS rI hrI semI rO hrO semO rS hrS semS arg5 arg6 k0_hw3 k0_hw2 v192
  let ⟨v2390, v2405, v2407, v2409⟩ ← k0_part76 aI hI aO hO aS hS rI hrI semI rO hrO semO rS hrS semS arg5 arg6 k0_hw3 k0_hw2 v192 v217 v2348 v2367 v2376 v2382
  let ⟨v2432, v2437⟩ ← k0_part77 aI hI aO hO aS hS rI hrI semI rO hrO semO rS hrS semS arg5 arg6 k0_hw3 k0_hw2 v217 v2390 v2405 v2407 v2409
  let v2474 ← k0_part78 aI hI aO hO aS hS rI hrI semI rO hrO semO rS hrS semS arg5 arg6 k0_hw3 k0_hw2 v192 v217 v2432 v2437
  let ⟨v2480, v2495, v2497, v2499⟩ ← k0_part79 aI hI aO hO aS hS rI hrI semI rO hrO semO rS hrS semS arg5 arg8 k0_hw4 k0_hw2 v188 v2474
  let ⟨v2522, v2527⟩ ← k0_part80 aI hI aO hO aS hS rI hrI semI rO hrO semO rS hrS semS arg5 arg6 k0_hw3 k0_hw2 v217 v2480 v2495 v2497 v2499
  let v2564 ← k0_part81 aI hI aO hO aS hS rI hrI semI rO hrO semO rS hrS semS arg5 arg6 k0_hw3 k0_hw2 v188 v217 v2522 v2527
  let ⟨v2583, v2592, v2593⟩ ← k0_part82 aI hI aO hO aS hS rI hrI semI rO hrO semO rS hrS semS arg5 k0_hw2 v188
  let ⟨v2606, v2611, v2616⟩ ← k0_part83 aI hI aO hO aS hS rI hrI semI rO hrO semO rS hrS semS arg5 arg6 k0_hw3 k0_hw2 v217 v2564 v2583 v2592 v2593
  let v2654 ← k0_part84 aI hI aO hO aS hS rI hrI semI rO hrO semO rS hrS semS arg5 arg6 arg8 k0_hw4 k0_hw3 k0_hw2 v188 v217 v2606 v2611 v2616
  let ⟨v2673, v2682, v2683⟩ ← k0_part85 aI hI aO hO aS hS rI hrI semI rO hrO semO rS hrS semS arg5 k0_hw2 v192
  let ⟨v2696, v2701, v2706⟩ ← k0_part86 aI hI aO hO aS hS rI hrI semI rO hrO semO rS hrS semS arg5 arg6 k0_hw3 k0_hw2 v217 v2654 v2673 v2682 v2683
  let ⟨v2738, v2743⟩ ← k0_part87 aI hI aO hO aS hS rI hrI semI rO hrO semO rS hrS semS arg5 arg6 k0_hw3 k0_hw2 v192 v217 v2696 v2701 v2706
  let ⟨v2757, v2766, v2774⟩ ← k0_part88 aI hI aO hO aS hS rI hrI semI rO hrO semO rS hrS semS arg5 arg6 k0_hw3 k0_hw2 v192 v217 v2743
  let ⟨v2780, v2795, v2799, v2803, cst_2598⟩ ← k0_part89 aI hI aO hO aS hS rI hrI semI rO hrO semO rS hrS semS arg5 k0_hw2 v192 v217 v2738 v2757 v2766 v2774
  let ⟨v2828, v2833⟩ ← k0_part90 aI hI aO hO aS hS rI hrI semI rO hrO semO rS hrS semS arg5 arg6 arg8 k0_hw4 k0_hw3 k0_hw2 v217 v2780 v2795 v2799 v2803 cst_2598
  let ⟨v2847, v2856, v2864⟩ ← k0_part91 aI hI aO hO aS hS rI hrI semI rO hrO semO rS hrS semS arg5 arg6 k0_hw3 k0_hw2 v188 v217 v2833
  let ⟨v2870, v2885, v2889, v2893, cst_2683⟩ ← k0_part92 aI hI aO hO aS hS rI hrI semI rO hrO semO rS hrS semS arg5 k0_hw2 v188 v217 v2828 v2847 v2856 v2864
  let ⟨v2912, v2917, v2922⟩ ← k0_part93 aI hI aO hO aS hS rI hrI semI rO hrO semO rS hrS semS arg5 arg6 k0_hw3 k0_hw2 v217 v2870 v2885 v2889 v2893 cst_2683
  let v2954 ← k0_part94 aI hI aO hO aS hS rI hrI semI rO hrO semO rS hrS semS arg5 arg6 k0_hw3 k0_hw2 v188 v217 v2912 v2917 v2922
  let ⟨v2973, v2982, v2983⟩ ← k0_part95 aI hI aO hO aS hS rI hrI semI rO hrO semO rS hrS semS arg5 arg6 k0_hw3 k0_hw2 v188
  let ⟨v3002, v3007, v3012⟩ ← k0_part96 aI hI aO hO aS hS rI hrI semI rO hrO semO rS hrS semS arg5 arg6 arg8 k0_hw4 k0_hw3 k0_hw2 v217 v2954 v2973 v2982 v2983
  let v3044 ← k0_part97 aI hI aO hO aS hS rI hrI semI rO hrO semO rS hrS semS arg5 arg6 k0_hw3 k0_hw2 v192 v217 v3002 v3007 v3012
  let ⟨v3063, v3072, v3073⟩ ← k0_part98 aI hI aO hO aS hS rI hrI semI rO hrO semO rS hrS semS arg5 arg6 k0_hw3 k0_hw2 v192
  let ⟨v3086, v3101, v3102⟩ ← k0_part99 aI hI aO hO aS hS rI hrI semI rO hrO semO rS hrS semS arg5 arg6 k0_hw3 k0_hw2 v217 v3044 v3063 v3072 v3073
  let ⟨v3128, v3133⟩ ← k0_part100 aI hI aO hO aS hS rI hrI semI rO hrO semO rS hrS semS arg5 arg6 k0_hw3 k0_hw2 v192 v217 v3086 v3101 v3102
  let ⟨v3156, v3167, v3168⟩ ← k0_part101 aI hI aO hO aS hS rI hrI semI rO hrO semO rS hrS semS arg5 arg6 k0_hw3 k0_hw2 v192 v217 v3128 v3133
  let ⟨v3176, v3191, v3192⟩ ← k0_part102 aI hI aO hO aS hS rI hrI semI rO hrO semO rS hrS semS arg5 arg8 k0_hw4 k0_hw2 v217 v3156 v3167 v3168
  let ⟨v3218, v3223⟩ ← k0_part103 aI hI aO hO aS hS rI hrI semI rO hrO semO rS hrS semS arg5 arg6 k0_hw3 k0_hw2 v188 v217 v3176 v3191 v3192
  let ⟨v3246, v3257, v3258⟩ ← k0_part104 aI hI aO hO aS hS rI hrI semI rO hrO semO rS hrS semS arg5 arg6 k0_hw3 k0_hw2 v188 v217 v3218 v3223
  let ⟨v3260, v3279, v3286, v3287⟩ ← k0_part105 aI hI aO hO aS hS rI hrI semI rO hrO semO rS hrS semS arg5 k0_hw2 v188 v217 v3246 v3257 v3258
  let ⟨v3302, v3307, v3312⟩ ← k0_part106 aI hI aO hO aS hS rI hrI semI rO hrO semO rS hrS semS arg5 arg6 k0_hw3 k0_hw2 v217 v3260 v3279 v3286 v3287
  k0_part107 aI hI aO hO aS hS rI hrI semI rO hrO semO rS hrS semS arg5 arg6 arg8 k0_hw4 k0_hw3 k0_hw2 v188 v217 v3302 v3307 v3312
  let ⟨v3350, v3369, v3376, v3377⟩ ← k0_part108 aI hI aO hO aS hS rI hrI semI rO hrO semO rS hrS semS arg5 k0_hw2 v192
  let ⟨v3392, v3397, v3402⟩ ← k0_part109 aI hI aO hO aS hS rI hrI semI rO hrO semO rS hrS semS arg5 arg6 k0_hw3 k0_hw2 v217 v3350 v3369 v3376 v3377
  let v3434 ← k0_part110 aI hI aO hO aS hS rI hrI semI rO hrO semO rS hrS semS arg5 arg6 k0_hw3 k0_hw2 v192 v217 v3392 v3397 v3402
  let ⟨v3453, v3462, k0_w75⟩ ← k0_part111 aI hI aO hO aS hS rI hrI semI rO hrO semO rS hrS semS arg5 arg6 k0_hw3 k0_hw2 v192
  let ⟨v3476, v3491, v3493, v3495, v3496⟩ ← k0_part112 aI hI aO hO aS hS rI hrI semI rO hrO semO rS hrS semS arg5 arg6 k0_hw3 k0_hw2 v192 v217 v3434 v3453 v3462 k0_w75
  let v3524 ← k0_part113 aI hI aO hO aS hS rI hrI semI rO hrO semO rS hrS semS arg5 arg6 arg8 k0_hw4 k0_hw3 k0_hw2 v217 v3476 v3491 v3493 v3495 v3496
  let ⟨v3543, v3552, k0_w77⟩ ← k0_part114 aI hI aO hO aS hS rI hrI semI rO hrO semO rS hrS semS arg5 arg6 k0_hw3 k0_hw2 v188
  let ⟨v3566, v3581, v3583, v3585, v3586⟩ ← k0_part115 aI hI aO hO aS hS rI hrI semI rO hrO semO rS hrS semS arg5 arg6 k0_hw3 k0_hw2 v188 v217 v3524 v3543 v3552 k0_w77
  let ⟨v3608, v3613⟩ ← k0_part116 aI hI aO hO aS hS rI hrI semI rO hrO semO rS hrS semS arg5 arg6 k0_hw3 k0_hw2 v217 v3566 v3581 v3583 v3585 v3586
  let v3650 ← k0_part117 aI hI aO hO aS hS rI hrI semI rO hrO semO rS hrS semS arg5 arg6 k0_hw3 k0_hw2 v188 v217 v3608 v3613
  let ⟨v3669, v3678, v3679⟩ ← k0_part118 aI hI aO hO aS hS rI hrI semI rO hrO semO rS hrS semS arg5 k0_hw2 v188
  let ⟨v3698, v3703⟩ ← k0_part119 aI hI aO hO aS hS rI hrI semI rO hrO semO rS hrS semS arg5 arg6 arg8 k0_hw4 k0_hw3 k0_hw2 v217 v3650 v3669 v3678 v3679
  let v3740 ← k0_part120 aI hI aO hO aS hS rI hrI semI rO hrO semO rS hrS semS arg5 arg6 k0_hw3 k0_hw2 v192 v217 v3698 v3703
  let ⟨v3759, v3768, v3769⟩ ← k0_part121 aI hI aO hO aS hS rI hrI semI rO hrO semO rS hrS semS arg5 k0_hw2 v192
  let ⟨v3782, v3787, v3792⟩ ← k0_part122 aI hI aO hO aS hS rI hrI semI rO hrO semO rS hrS semS arg5 arg6 k0_hw3 k0_hw2 v217 v3740 v3759 v3768 v3769
  let ⟨v3824, v3829⟩ ← k0_part123 aI hI aO hO aS hS rI hrI semI rO hrO semO rS hrS semS arg5 arg6 k0_hw3 k0_hw2 v192 v217 v3782 v3787 v3792
  let ⟨v3852, v3860, v3861⟩ ← k0_part124 aI hI aO hO aS hS rI hrI semI rO hrO semO rS hrS semS arg5 arg6 k0_hw3 k0_hw2 v192 v217 v3829
  let ⟨v3872, v3877, v3882⟩ ← k0_part125 aI hI aO hO aS hS rI hrI semI rO hrO semO rS hrS semS arg5 arg8 k0_hw4 k0_hw2 v217 v3824 v3852 v3860 v3861
  let ⟨v3914, v3919⟩ ← k0_part126 aI hI aO hO aS hS rI hrI semI rO hrO semO rS hrS semS arg5 arg6 k0_hw3 k0_hw2 v188 v217 v3872 v3877 v3882
  let ⟨v3942, v3950, v3951⟩ ← k0_part127 aI hI aO hO aS hS rI hrI semI rO hrO semO rS hrS semS arg5 arg6 k0_hw3 k0_hw2 v188 v217 v3919
  let ⟨v3956, v3971, v3975, v3979, v3980⟩ ← k0_part128 aI hI aO hO aS hS rI hrI semI rO hrO semO rS hrS semS arg5 k0_hw2 v188 v217 v3914 v3942 v3950 v3951
  let ⟨v3998, v4003, v4008⟩ ← k0_part129 aI hI aO hO aS hS rI hrI semI rO hrO semO rS hrS semS arg5 arg6 k0_hw3 k0_hw2 v217 v3956 v3971 v3975 v3979 v3980
  let v4040 ← k0_part130 aI hI aO hO aS hS rI hrI semI rO hrO semO rS hrS semS arg5 arg6 arg8 k0_hw4 k0_hw3 k0_hw2 v188 v217 v3998 v4003 v4008
  let ⟨v4046, v4061, v4065, v4069, v4070⟩ ← k0_part131 aI hI aO hO aS hS rI hrI semI rO hrO semO rS hrS semS arg5 arg8 k0_hw4 k0_hw2 v192 v4040
  let ⟨v4088, v4093, v4098⟩ ← k0_part132 aI hI aO hO aS hS rI hrI semI rO hrO semO rS hrS semS arg5 arg6 k0_hw3 k0_hw2 v217 v4046 v4061 v4065 v4069 v4070
  let v4130 ← k0_part133 aI hI aO hO aS hS rI hrI semI rO hrO semO rS hrS semS arg5 arg6 k0_hw3 k0_hw2 v192 v217 v4088 v4093 v4098
  let ⟨v4149, v4158, v4159⟩ ← k0_part134 aI hI aO hO aS hS rI hrI semI rO hrO semO rS hrS semS arg5 arg6 k0_hw3 k0_hw2 v192
  let ⟨v4172, v4187, v4189⟩ ← k0_part135 aI hI aO hO aS hS rI hrI semI rO hrO semO rS hrS semS arg5 arg6 k0_hw3 k0_hw2 v192 v217 v4130 v4149 v4158 v4159
  let v4220 ← k0_part136 aI hI aO hO aS hS rI hrI semI rO hrO semO rS hrS semS arg5 arg6 arg8 k0_hw4 k0_hw3 k0_hw2 v217 v4172 v4187 v4189
  let ⟨v4239, v4248, v4249⟩ ← k0_part137 aI hI aO hO aS hS rI hrI semI rO hrO semO rS hrS semS arg5 arg6 k0_hw3 k0_hw2 v188
  let ⟨v4262, v4277, v4279⟩ ← k0_part138 aI hI aO hO aS hS rI hrI semI rO hrO semO rS hrS semS arg5 arg6 k0_hw3 k0_hw2 v188 v217 v4220 v4239 v4248 v4249
  let ⟨v4304, v4309⟩ ← k0_part139 aI hI aO hO aS hS rI hrI semI rO hrO semO rS hrS semS arg5 arg6 k0_hw3 k0_hw2 v217 v4262 v4277 v4279
  let ⟨v4332, v4343, v4345⟩ ← k0_part140 aI hI aO hO aS hS rI hrI semI rO hrO semO rS hrS semS arg5 arg6 k0_hw3 k0_hw2 v188 v217 v4304 v4309
  let ⟨v4346, v4365, v4373, v4374⟩ ← k0_part141 aI hI aO hO aS hS rI hrI semI rO hrO semO rS hrS semS arg5 k0_hw2 v188 v4332 v4343 v4345
  let ⟨v4394, v4399⟩ ← k0_part142 aI hI aO hO aS hS rI hrI semI rO hrO semO rS hrS semS arg5 arg6 arg8 k0_hw4 k0_hw3 k0_hw2 v217 v4346 v4365 v4373 v4374
  let ⟨v4422, v4433, v4435⟩ ← k0_part143 aI hI aO hO aS hS rI hrI semI rO hrO semO rS hrS semS arg5 arg6 k0_hw3 k0_hw2 v192 v217 v4394 v4399
  let ⟨v4436, v4455, v4463, v4464⟩ ← k0_part144 aI hI aO hO aS hS rI hrI semI rO hrO semO rS hrS semS arg5 k0_hw2 v192 v4422 v4433 v4435
  let ⟨v4478, v4483, v4488⟩ ← k0_part145 aI hI aO hO aS hS rI hrI semI rO hrO semO rS hrS semS arg5 arg6 k0_hw3 k0_hw2 v217 v4436 v4455 v4463 v4464
  let ⟨v4520, v4524⟩ ← k0_part146 aI hI aO hO aS hS rI hrI semI rO hrO semO rS hrS semS arg5 arg6 k0_hw3 k0_hw2 v192 v217 v4478 v4483 v4488
  let ⟨v4539, v4548⟩ ← k0_part147 aI hI aO hO aS hS rI hrI semI rO hrO semO rS hrS semS arg5 arg6 k0_hw3 k0_hw2 v192 v4524
  let ⟨v4568, v4573, v4578⟩ ← k0_part148 aI hI aO hO aS hS rI hrI semI rO hrO semO rS hrS semS arg5 arg8 k0_hw4 k0_hw2 v217 v4520 v4539 v4548
  let ⟨v4610, v4614⟩ ← k0_part149 aI hI aO hO aS hS rI hrI semI rO hrO semO rS hrS semS arg5 arg6 k0_hw3 k0_hw2 v188 v217 v4568 v4573 v4578
  let ⟨v4629, v4638⟩ ← k0_part150 aI hI aO hO aS hS rI hrI semI rO hrO semO rS hrS semS arg5 arg6 k0_hw3 k0_hw2 v188 v4614
  let ⟨v4652, v4667, v4671, v4673⟩ ← k0_part151 aI hI aO hO aS hS rI hrI semI rO hrO semO rS hrS semS arg5 k0_hw2 v188 v217 v4610 v4629 v4638
  let ⟨v4694, v4699, v4703⟩ ← k0_part152 aI hI aO hO aS hS rI hrI semI rO hrO semO rS hrS semS arg5 arg6 k0_hw3 k0_hw2 v217 v4652 v4667 v4671 v4673
  let v4736 ← k0_part153 aI hI aO hO aS hS rI hrI semI rO hrO semO rS hrS semS arg5 arg6 arg8 k0_hw4 k0_hw3 k0_hw2 v188 v217 v4694 v4699 v4703
  let ⟨v4742, v4757, v4761, v4763⟩ ← k0_part154 aI hI aO hO aS hS rI hrI semI rO hrO semO rS hrS semS arg5 arg8 k0_hw4 k0_hw2 v192 v4736
  let ⟨v4784, v4789, v4793⟩ ← k0_part155 aI hI aO hO aS hS rI hrI semI rO hrO semO rS hrS semS arg5 arg6 k0_hw3 k0_hw2 v217 v4742 v4757 v4761 v4763
  let v4826 ← k0_part156 aI hI aO hO aS hS rI hrI semI rO hrO semO rS hrS semS arg5 arg6 k0_hw3 k0_hw2 v192 v217 v4784 v4789 v4793
  let ⟨v4845, v4854, v4855⟩ ← k0_part157 aI hI aO hO aS hS rI hrI semI rO hrO semO rS hrS semS arg5 arg6 k0_hw3 k0_hw2 v192
  let ⟨v4868, v4873, v4878, v4882⟩ ← k0_part158 aI hI aO hO aS hS rI hrI semI rO hrO semO rS hrS semS arg5 arg6 k0_hw3 k0_hw2 v217 v4826 v4845 v4854 v4855
  let v4916 ← k0_part159 aI hI aO hO aS hS rI hrI semI rO hrO semO rS hrS semS arg5 arg6 arg8 k0_hw4 k0_hw3 k0_hw2 v192 v217 v4868 v4873 v4878 v4882
  let ⟨v4935, v4944, v4945⟩ ← k0_part160 aI hI aO hO aS hS rI hrI semI rO hrO semO rS hrS semS arg5 arg6 k0_hw3 k0_hw2 v188
  let ⟨v4958, v4963, v4968, v4972⟩ ← k0_part161 aI hI aO hO aS hS rI hrI semI rO hrO semO rS hrS semS arg5 arg6 k0_hw3 k0_hw2 v217 v4916 v4935 v4944 v4945
  let ⟨v5000, v5005⟩ ← k0_part162 aI hI aO hO aS hS rI hrI semI rO hrO semO rS hrS semS arg5 arg6 k0_hw3 k0_hw2 v188 v217 v4958 v4963 v4968 v4972
  let ⟨v5028, v5036, v5038⟩ ← k0_part163 aI hI aO hO aS hS rI hrI semI rO hrO semO rS hrS semS arg5 arg6 k0_hw3 k0_hw2 v188 v217 v5005
  let ⟨v5042, v5061, v5065, v5067⟩ ← k0_part164 aI hI aO hO aS hS rI hrI semI rO hrO semO rS hrS semS arg5 k0_hw2 v188 v217 v5000 v5028 v5036 v5038
  let ⟨v5090, v5095⟩ ← k0_part165 aI hI aO hO aS hS rI hrI semI rO hrO semO rS hrS semS arg5 arg6 arg8 k0_hw4 k0_hw3 k0_hw2 v217 v5042 v5061 v5065 v5067
  let ⟨v5118, v5126, v5128⟩ ← k0_part166 aI hI aO hO aS hS rI hrI semI rO hrO semO rS hrS semS arg5 arg6 k0_hw3 k0_hw2 v192 v217 v5095
  let ⟨v5132, v5151, v5155, v5157⟩ ← k0_part167 aI hI aO hO aS hS rI hrI semI rO hrO semO rS hrS semS arg5 k0_hw2 v192 v217 v5090 v5118 v5126 v5128
  let ⟨v5174, v5179, v5184⟩ ← k0_part168 aI hI aO hO aS hS rI hrI semI rO hrO semO rS hrS semS arg5 arg6 k0_hw3 k0_hw2 v217 v5132 v5151 v5155 v5157
  let v5216 ← k0_part169 aI hI aO hO aS hS rI hrI semI rO hrO semO rS hrS semS arg5 arg6 k0_hw3 k0_hw2 v192 v217 v5174 v5179 v5184
  let ⟨v5235, v5244, v5245, v5248⟩ ← k0_part170 aI hI aO hO aS hS rI hrI semI rO hrO semO rS hrS semS arg5 arg6 k0_hw3 k0_hw2 v192
  let ⟨v5264, v5269, v5274⟩ ← k0_part171 aI hI aO hO aS hS rI hrI semI rO hrO semO rS hrS semS arg5 arg6 arg8 k0_hw4 k0_hw3 k0_hw2 v217 v5216 v5235 v5244 v5245 v5248
  let v5306 ← k0_part172 aI hI aO hO aS hS rI hrI semI rO hrO semO rS hrS semS arg5 arg6 k0_hw3 k0_hw2 v188 v217 v5264 v5269 v5274
  let ⟨v5325, v5334, v5335, v5338⟩ ← k0_part173 aI hI aO hO aS hS rI hrI semI rO hrO semO rS hrS semS arg5 arg6 k0_hw3 k0_hw2 v188
  let ⟨v5348, v5363, v5365⟩ ← k0_part174 aI hI aO hO aS hS rI hrI semI rO hrO semO rS hrS semS arg5 arg6 k0_hw3 k0_hw2 v188 v217 v5306 v5325 v5334 v5335 v5338
  let ⟨v5390, v5395⟩ ← k0_part175 aI hI aO hO aS hS rI hrI semI rO hrO semO rS hrS semS arg5 arg6 k0_hw3 k0_hw2 v217 v5348 v5363 v5365
  let v5432 ← k0_part176 aI hI aO hO aS hS rI hrI semI rO hrO semO rS hrS semS arg5 arg6 k0_hw3 k0_hw2 v188 v217 v5390 v5395
  let ⟨v5438, v5453, v5455⟩ ← k0_part177 aI hI aO hO aS hS rI hrI semI rO hrO semO rS hrS semS arg5 arg8 k0_hw4 k0_hw2 v192 v5432
  let ⟨v5480, v5485⟩ ← k0_part178 aI hI aO hO aS hS rI hrI semI rO hrO semO rS hrS semS arg5 arg6 k0_hw3 k0_hw2 v217 v5438 v5453 v5455
  let v5522 ← k0_part179 aI hI aO hO aS hS rI hrI semI rO hrO semO rS hrS semS arg5 arg6 k0_hw3 k0_hw2 v192 v217 v5480 v5485
  let ⟨v5541, v5550, v5551⟩ ← k0_part180 aI hI aO hO aS hS rI hrI semI rO hrO semO rS hrS semS arg5 k0_hw2 v192
  let ⟨v5564, v5569, v5574⟩ ← k0_part181 aI hI aO hO aS hS rI hrI semI rO hrO semO rS hrS semS arg5 arg6 k0_hw3 k0_hw2 v217 v5522 v5541 v5550 v5551
  let v5612 ← k0_part182 aI hI aO hO aS hS rI hrI semI rO hrO semO rS hrS semS arg5 arg6 arg8 k0_hw4 k0_hw3 k0_hw2 v192 v217 v5564 v5569 v5574
  let ⟨v5631, v5640, v5641⟩ ← k0_part183 aI hI aO hO aS hS rI hrI semI rO hrO semO rS hrS semS arg5 k0_hw2 v188
  let ⟨v5654, v5659, v5664⟩ ← k0_part184 aI hI aO hO aS hS rI hrI semI rO hrO semO rS hrS semS arg5 arg6 k0_hw3 k0_hw2 v217 v5612 v5631 v5640 v5641
  let ⟨v5696, v5701⟩ ← k0_part185 aI hI aO hO aS hS rI hrI semI rO hrO semO rS hrS semS arg5 arg6 k0_hw3 k0_hw2 v188 v217 v5654 v5659 v5664
  let ⟨v5715, v5724, c4_i32_5330⟩ ← k0_part186 aI hI aO hO aS hS rI hrI semI rO hrO semO rS hrS semS arg5 arg6 k0_hw3 k0_hw2 v188 v5701
  let ⟨v5738, v5753, v5757, v5760⟩ ← k0_part187 aI hI aO hO aS hS rI hrI semI rO hrO semO rS hrS semS arg5 k0_hw2 v188 v217 v5696 v5715 v5724 c4_i32_5330
  let v5768 : Memref sig .tc .vmem S1x16x256x512 .bf16 := rO.slice (Rect.unit (s := S2x16x256x512) (k0_off21 arg6) S1x16x256x512.size (k0_off21_inb arg6 k0_hw3)) (fun _ => rfl)
  let v5769 : Memref sig .tc .vmem S16x256x512 .bf16 := v5768.squeeze S16x256x512 squeezes_S1x16x256x512_S16x256x512
  let v5770 : Vec F S1x128x128 .bf16 ← Prog.lift (.load v5769 (Rect.unit (s := S16x256x512) ![15, 128, 384] S1x128x128.size inb_S16x256x512_S1x128x128_15_128_384).toLoadRect (View.loadsAt_vmem h_S1x128x128))
  Prog.lift (.store rO (Rect.unit (s := S2x16x256x512) (k0_off145 arg6) S1x1x128x128.size (k0_off145_inb arg6 k0_hw3)) (k0_pay940 v5753 v5760) Finset.univ (View.stores_vmem h_S1x1x128x128 (hrO.storeExact_slice rfl _ (k0_off145_packedbf16 arg6 k0_hw3)) (fun _ => rfl)) (.inl rfl))
  let v5781 : Memref sig .tc .vmem S1x16x256x128 .f32 := rS.slice (Rect.unit (s := S2x16x256x128) (k0_off19 arg8) S1x16x256x128.size (k0_off19_inb arg8 k0_hw4)) (fun _ => rfl)
  let v5782 : Memref sig .tc .vmem S16x256x128 .f32 := v5781.squeeze S16x256x128 squeezes_S1x16x256x128_S16x256x128
  let v5783 : Vec F S1x128x128 .f32 ← Prog.lift (.load v5782 (Rect.unit (s := S16x256x128) ![15, 128, 0] S1x128x128.size inb_S16x256x128_S1x128x128_15_128_0).toLoadRect (View.loadsAt_vmem h_S1x128x128))
  Prog.lift (.store v5782 (Rect.unit (s := S16x256x128) ![15, 128, 0] S1x128x128.size inb_S16x256x128_S1x128x128_15_128_0) (k0_pay941 v217 v5738 v5753 v5757 v5760) Finset.univ (View.stores_vmem_bits_univ h_S1x128x128 rfl) (.inl rfl))

attribute [local irreducible] multiReduction shapeCast broadcastTo concatenate select extractStridedSlice truncf exp2 subf addf cmpi
section Mid
variable (c : Dev nD) (w5 w6 w8 a3 : BitVec 32) (h4 : k0_chk4 w8) (h3 : k0_chk3 w6) (h2 : k0_chk2 w5)
  (b1 : BitVec 1) (w1 w2 : BitVec 32) (b2 : BitVec 1) (w3 : BitVec 32)
  (hi : ∀ a, k0_off12 w5 a + S1x16x256x1536.size a ≤ S3x16x256x1536.size a)
  (ho : ∀ a, k0_off13 w6 a + S1x16x256x512.size a ≤ S2x16x256x512.size a)
  (hs : ∀ a, k0_off19 w8 a + S1x16x256x128.size a ≤ S2x16x256x128.size a)

theorem mid_run (fI : Buf (Elt F) ((islot w5 hi).view.loc (c : Thread nD τ))) (fO : Buf (Elt F) ((oslot w6 ho).view.loc (c : Thread nD τ)))
    (fS : Buf (Elt F) ((sslot w8 hs).view.loc (c : Thread nD τ))) :
    (iprop(((islot w5 hi).view.loc (c : Thread nD τ) ↦[(islot w5 hi).view.set]{fullShare} fI)
      ∗ ((oslot w6 ho).view.loc (c : Thread nD τ) ↦[(oslot w6 ho).view.set]{fullShare} fO)
      ∗ ((sslot w8 hs).view.loc (c : Thread nD τ) ↦[(sslot w8 hs).view.set]{fullShare} fS)) : sProp 𝕄)
    ⊢ wp frame (wpE (defs₀ (F := F)) 𝒱₀ (c : Thread nD τ) none) Set.univ (midProg (F := F) w5 w6 w8 a3 h4 h3 h2 b1 w1 w2 b2 w3)
        (fun _ => iprop(((islot w5 hi).view.loc (c : Thread nD τ) ↦[(islot w5 hi).view.set]{fullShare} fI)
      ∗ (∃ g, ⌜(oslot w6 ho).view.read (Elt F) g = attO ((islot w5 hi).view.read (Elt F) fI)⌝ ∗ (oslot w6 ho).view.loc (c : Thread nD τ) ↦[(oslot w6 ho).view.set]{fullShare} g)
      ∗ (∃ g, ⌜(sslot w8 hs).view.read (Elt F) g = attS ((islot w5 hi).view.read (Elt F) fI)⌝ ∗ (sslot w8 hs).view.loc (c : Thread nD τ) ↦[(sslot w8 hs).view.set]{fullShare} g))) := by
  iintro ⟨HI, HO, HS⟩
  unfold midProg
  sl_exec_parts
  sl_step
  isplitl [HI]; · iexact HI
  isplitl [HO]
  · iexists _
    isplitr; swap; · iexact HO
    · ipureintro
      refine doneO_all _ _ _ _ ?_
      iterate 128 (refine doneO_step _ _ _ _ (by decide) _ _ _ _ rfl rfl ?_)
      exact doneO_zero _ _ _ _
  · iexists _
    isplitr; swap; · iexact HS
    · ipureintro
      refine doneS_all _ _ _ _ ?_
      iterate 32 (refine doneS_step _ _ _ _ (by decide) _ _ _ _ rfl rfl ?_)
      exact doneS_nil _ _ _
end Mid
end Cert.Proof.Attn
end
-- ==== Proof.Body.lean ====
module

public import proofs.«01_k».proof.Proof.Mid

@[expose] public section

set_option maxRecDepth 16384

noncomputable section

namespace Cert.Proof.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- What a trip does after its last unit is stored: start sending the attention slot to its block. -/
def sendO (k0_t1 : Fin k0_t1_loop.trips) (arg4 arg5 arg6 arg7 arg8 arg9 arg10 : BitVec 32)
    (k0_hw1 : k0_chk1 k0_t1 arg4 arg5 arg6 arg7 arg8 arg9 arg10) (v106 : BitVec 1) (v107 v123 : BitVec 32) :
    Prog (TpuEff nD τ sig (Elt F) Λ₀ .tc) (BitVec 1) := do
  let v5786 : BitVec 1 := Scalar.cmpi .ne v107 v123
  let v5787 : BitVec 1 := Scalar.ori v5786 v106
  let v5788 : BitVec 32 := Scalar.extui v5787
  let v5789 : BitVec 1 := Scalar.cmpi .ne v5788 0#32
  if v5789 = 1#1 then do
    pure ⟨⟩
  else do
    pure ⟨⟩
  let v5791 : BitVec 1 := Scalar.cmpi .ne v107 v123
  let v5792 : BitVec 1 := Scalar.ori v5791 v106
  if k0_h7 : k0_cond7 k0_t1 arg10 = 1#1 then do
    let v5839 : DmaSems sig S1 := semO.slice (Rect.unit (s := S2) (k0_off146 arg6) S1.size (k0_off146_inb k0_t1 arg4 arg5 arg6 arg7 arg8 arg9 arg10 k0_hw1 k0_h7))
    let v5840 : DmaSems sig S_ := v5839.squeeze S_ squeezes_S1_S_
    let v5841 : Memref sig .tc .hbm S1x16x256x512 .bf16 := aO.slice (Rect.unit (s := S4x16x256x512) (k0_off147 arg10) S1x16x256x512.size (k0_off147_inb k0_t1 arg4 arg5 arg6 arg7 arg8 arg9 arg10 k0_hw1 k0_h7)) (fun _ => rfl)
    let v5842 : Memref sig .tc .hbm S16x256x512 .bf16 := v5841.squeeze S16x256x512 squeezes_S1x16x256x512_S16x256x512
    let v5843 : Memref sig .tc .vmem S1x16x256x512 .bf16 := rO.slice (Rect.unit (s := S2x16x256x512) (k0_off148 arg6) S1x16x256x512.size (k0_off148_inb k0_t1 arg4 arg5 arg6 arg7 arg8 arg9 arg10 k0_hw1 k0_h7)) (fun _ => rfl)
    let v5844 : Memref sig .tc .vmem S16x256x512 .bf16 := v5843.squeeze S16x256x512 squeezes_S1x16x256x512_S16x256x512
    Prog.lift (.enqueueDma v5844 (.here v5842) (.dma v5840.sem) ((hrO.wordExact_slice rfl _ (k0_off148_wordsbf16 k0_t1 arg4 arg5 arg6 arg7 arg8 arg9 arg10 k0_hw1 k0_h7)).reshape _ _) ((hO.wordExact_slice rfl _ (k0_off147_wordsbf16 k0_t1 arg4 arg5 arg6 arg7 arg8 arg9 arg10 k0_hw1 k0_h7)).reshape _ _) ⟨Or.inl rfl, trivial⟩)
    pure ⟨⟩
  else do
    pure ⟨⟩
  let v5795 : BitVec 1 := Scalar.andi v5792 1#1
  pure v5795

/-- A trip, with its arithmetic as one program. -/
def trip (k0_t1 : Fin k0_t1_loop.trips) (arg4 arg5 arg6 arg7 arg8 arg9 arg10 : BitVec 32) :
    Prog (TpuEff nD τ sig (Elt F) Λ₀ .tc) (BitVec 32 × BitVec 32 × BitVec 32 × BitVec 32 × BitVec 32 × BitVec 32 × BitVec 32 × BitVec 32) := do
  let ⟨k0_hw4, k0_hw3, k0_hw2, k0_hw1, arg3, v105, v106, v107, v115, v123, v130⟩ ← k0_part1 (F := F) aI hI aO hO aS hS rI hrI semI rO hrO semO rS hrS semS 0#32 1#32 k0_t1 arg4 arg5 arg6 arg7 arg8 arg9 arg10
  let ⟨v149, v165, c0_i32_169⟩ ← k0_part2 (F := F) aI hI aO hO aS hS rI hrI semI rO hrO semO rS hrS semS k0_t1 arg4 arg5 arg6 arg7 arg8 arg9 arg10 k0_hw1 arg3 v105 v107 v115 v123 v130
  midProg (F := F) arg5 arg6 arg8 arg3 k0_hw4 k0_hw3 k0_hw2 v105 v107 v115 v165 c0_i32_169
  let v5795 ← sendO (F := F) k0_t1 arg4 arg5 arg6 arg7 arg8 arg9 arg10 k0_hw1 v106 v107 v123
  let ⟨v5797, v5804, v5818, v5826, v5830, v5831, c1_i32_5399⟩ ← k0_part189 (F := F) aI hI aO hO aS hS rI hrI semI rO hrO semO rS hrS semS k0_t1 arg4 arg5 arg6 arg7 arg8 arg9 arg10 k0_hw1 v105 v106 v107 v115 v123 v5795
  let v5832 : BitVec 1 := Scalar.cmpi .eq v5831 c1_i32_5399
  let v5834 : BitVec 32 := Scalar.addi arg10 1#32
  let v5835 : BitVec 32 := Scalar.select v5832 v5834 arg10
  let v5836 : BitVec 1 := Scalar.cmpi .eq v5835 4#32
  let v5837 : BitVec 32 := Scalar.select v5836 0#32 v5835
  pure (v149, v5830, v5797, v5818, v5804, v5826, v5837, 0#32)

section Steps
variable {E : Type → Type} {α β γ : Type}

/-- A statement bound inside a bound block: the block's rest takes the outer continuation. -/
theorem step_in {p : Prog E α} {f : α → Prog E β} {g : β → Prog E γ} {h : α → Prog E γ} (e : ∀ x, f x >>= g = h x) :
    (p >>= f) >>= g = p >>= h := by
  rw [bind_assoc]; exact congrArg _ (funext e)
/-- The same statement on both sides. -/
theorem step_same {p : Prog E α} {f h : α → Prog E β} (e : ∀ x, f x = h x) : p >>= f = p >>= h := congrArg _ (funext e)
/-- The same statement opening a bound block on both sides. -/
theorem step_both {δ : Type} {p : Prog E α} {f : α → Prog E β} {g : β → Prog E γ} {f' : α → Prog E δ} {g' : δ → Prog E γ}
    (e : ∀ x, f x >>= g = f' x >>= g') : (p >>= f) >>= g = (p >>= f') >>= g' := by
  rw [bind_assoc, bind_assoc]; exact congrArg _ (funext e)
/-- The same statement, opening a bound block on the right alone. -/
theorem step_right {p : Prog E α} {f : α → Prog E γ} {f' : α → Prog E β} {g' : β → Prog E γ}
    (e : ∀ x, f x = f' x >>= g') : p >>= f = (p >>= f') >>= g' := by
  rw [bind_assoc]; exact congrArg _ (funext e)
/-- A block's return meets the outer continuation. -/
theorem step_ret {a : α} {f : α → Prog E β} {q : Prog E β} (e : f a = q) : (pure a : Prog E α) >>= f = q := (pure_bind _ _).trans e

end Steps

/-- The loop's region at a trip is that program. -/
theorem body_eq (v16 v23 : BitVec 32) (v26 : BitVec 1) (c1 : BitVec 32) (k : Fin k0_t1_loop.trips) (a4 a5 a6 a7 a8 a9 a10 a11 : BitVec 32) :
    k0_t1_body (F := F) aI hI aO hO aS hS rI hrI semI rO hrO semO rS hrS semS v16 v23 v26 c1 k (a4, a5, a6, a7, a8, a9, a10, a11) = trip (F := F) k a4 a5 a6 a7 a8 a9 a10 := by
  unfold k0_t1_body trip midProg k0_part190 k0_part191 k0_part192
  refine step_in fun x => ?_
  refine step_in fun x => ?_
  iterate 58 refine step_both fun x => ?_
  refine step_ret ?_
  iterate 59 refine step_both fun x => ?_
  refine step_right fun x => ?_
  iterate 60 refine step_both fun x => ?_
  refine step_ret ?_
  iterate 7 refine step_right fun x => ?_
  unfold k0_part188
  iterate 3 refine step_both fun x => ?_
  refine step_in fun x => ?_
  exact rfl

end Cert.Proof.Attn

end
-- ==== Proof.Names.lean ====
module

public import proofs.«01_k».proof.Proof.Slots

@[expose] public section

set_option maxRecDepth 16384

noncomputable section

namespace Cert.Proof.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-! ## The loop's words at trip `k`

The ring counters and the block counter of the pipeline, as they stand before trip `k` (`k = 4` after the last). -/

def W4 (k : ℕ) : BitVec 32 := BitVec.ofNat 32 (min (k + 2) 4)
def W5 (k : ℕ) : BitVec 32 := BitVec.ofNat 32 k
def W7 (k : ℕ) : BitVec 32 := BitVec.ofNat 32 (k - 1)
def W10 (k : ℕ) : BitVec 32 := BitVec.ofNat 32 (k % 4)

theorem trips_eq : k0_t1_loop.trips = 4 := by decide
theorem trip_lt (k : Fin k0_t1_loop.trips) : k.val < 4 := trips_eq ▸ k.isLt

theorem chk4_W : ∀ k : Fin k0_t1_loop.trips, k0_chk4 (W5 k.val) := by decide
theorem chk3_W : ∀ k : Fin k0_t1_loop.trips, k0_chk3 (W5 k.val) := by decide
theorem chk2_W : ∀ k : Fin k0_t1_loop.trips, k0_chk2 (W5 k.val) := by decide
theorem chk1_W : ∀ k : Fin k0_t1_loop.trips, k0_chk1 k (W4 k.val) (W5 k.val) (W5 k.val) (W7 k.val) (W5 k.val) (W7 k.val) (W10 k.val) := by decide

theorem cond2_pos : ∀ k : Fin k0_t1_loop.trips, k.val < 2 → k0_cond2 k (W10 k.val) = 1#1 := by decide
theorem cond2_neg : ∀ k : Fin k0_t1_loop.trips, 2 ≤ k.val → ¬ k0_cond2 k (W10 k.val) = 1#1 := by decide
theorem cond3_pos : ∀ k : Fin k0_t1_loop.trips, k0_cond3 k (W10 k.val) = 1#1 := by decide
theorem cond7_pos : ∀ k : Fin k0_t1_loop.trips, k0_cond7 k (W10 k.val) = 1#1 := by decide
theorem cond8_pos : ∀ k : Fin k0_t1_loop.trips, k0_cond8 k (W10 k.val) = 1#1 := by decide
theorem cond10_pos : ∀ k : Fin k0_t1_loop.trips, 1 ≤ k.val → k0_cond10 k (W10 k.val) = 1#1 := by decide
theorem cond10_neg : ∀ k : Fin k0_t1_loop.trips, k.val = 0 → ¬ k0_cond10 k (W10 k.val) = 1#1 := by decide
theorem cond11_pos : ∀ k : Fin k0_t1_loop.trips, 1 ≤ k.val → k0_cond11 k (W10 k.val) = 1#1 := by decide
theorem cond11_neg : ∀ k : Fin k0_t1_loop.trips, k.val = 0 → ¬ k0_cond11 k (W10 k.val) = 1#1 := by decide

/-! ## Names for the slots, their cells and the blocks -/

theorem inbI (n : ℕ) : ∀ a, (![n % 3, 0, 0, 0] : Fin 4 → ℕ) a + S1x16x256x1536.size a ≤ S3x16x256x1536.size a := by
  have := Nat.mod_lt n (show 0 < 3 by decide)
  intro a; match a with | 0 => exact this | 1 => exact le_refl _ | 2 => exact le_refl _ | 3 => exact le_refl _
theorem inbCI (n : ℕ) : ∀ a, (![n % 3] : Fin 1 → ℕ) a + S1.size a ≤ S3.size a := by
  have := Nat.mod_lt n (show 0 < 3 by decide)
  intro a; match a with | 0 => exact this
theorem inbBI (n : ℕ) : ∀ a, (![n % 4, 0, 0, 0] : Fin 4 → ℕ) a + S1x16x256x1536.size a ≤ S4x16x256x1536.size a := by
  have := Nat.mod_lt n (show 0 < 4 by decide)
  intro a; match a with | 0 => exact this | 1 => exact le_refl _ | 2 => exact le_refl _ | 3 => exact le_refl _
/-- Slot `n` of the ring, its cell, and block `n` of the array in HBM. -/
def slI (n : ℕ) : Memref sig .tc .vmem S16x256x1536 .bf16 :=
  (rI.slice (Rect.unit (s := S3x16x256x1536) ![n % 3, 0, 0, 0] S1x16x256x1536.size (inbI n)) (fun _ => rfl)).squeeze S16x256x1536 squeezes_S1x16x256x1536_S16x256x1536
def clI (n : ℕ) : DmaSems sig S_ := (semI.slice (Rect.unit (s := S3) ![n % 3] S1.size (inbCI n))).squeeze S_ squeezes_S1_S_
def bkI (n : ℕ) : Memref sig .tc .hbm S16x256x1536 .bf16 :=
  (aI.slice (Rect.unit (s := S4x16x256x1536) ![n % 4, 0, 0, 0] S1x16x256x1536.size (inbBI n)) (fun _ => rfl)).squeeze S16x256x1536 squeezes_S1x16x256x1536_S16x256x1536

theorem slI_congr {off : Fin 4 → ℕ} {n : ℕ} (e : off = ![n % 3, 0, 0, 0]) (hh hs) :
    (rI.slice (Rect.unit (s := S3x16x256x1536) off S1x16x256x1536.size hh) hs).squeeze S16x256x1536 squeezes_S1x16x256x1536_S16x256x1536 = slI n :=
  congrArg (fun M : Memref sig .tc .vmem S1x16x256x1536 .bf16 => M.squeeze S16x256x1536 squeezes_S1x16x256x1536_S16x256x1536) (Memref.slice_unit_congr _ e _ _ _ _)
theorem clI_congr {off : Fin 1 → ℕ} {n : ℕ} (e : off = ![n % 3]) (hh) :
    (semI.slice (Rect.unit (s := S3) off S1.size hh)).squeeze S_ squeezes_S1_S_ = clI n :=
  congrArg (fun A : DmaSems sig S1 => A.squeeze S_ squeezes_S1_S_) (SemArray.slice_unit_congr _ e _ _)
theorem bkI_congr {off : Fin 4 → ℕ} {n : ℕ} (e : off = ![n % 4, 0, 0, 0]) (hh hs) :
    (aI.slice (Rect.unit (s := S4x16x256x1536) off S1x16x256x1536.size hh) hs).squeeze S16x256x1536 squeezes_S1x16x256x1536_S16x256x1536 = bkI n :=
  congrArg (fun M : Memref sig .tc .hbm S1x16x256x1536 .bf16 => M.squeeze S16x256x1536 squeezes_S1x16x256x1536_S16x256x1536) (Memref.slice_unit_congr _ e _ _ _ _)

theorem inbO (n : ℕ) : ∀ a, (![n % 2, 0, 0, 0] : Fin 4 → ℕ) a + S1x16x256x512.size a ≤ S2x16x256x512.size a := by
  have := Nat.mod_lt n (show 0 < 2 by decide)
  intro a; match a with | 0 => exact this | 1 => exact le_refl _ | 2 => exact le_refl _ | 3 => exact le_refl _
theorem inbCO (n : ℕ) : ∀ a, (![n % 2] : Fin 1 → ℕ) a + S1.size a ≤ S2.size a := by
  have := Nat.mod_lt n (show 0 < 2 by decide)
  intro a; match a with | 0 => exact this
theorem inbBO (n : ℕ) : ∀ a, (![n % 4, 0, 0, 0] : Fin 4 → ℕ) a + S1x16x256x512.size a ≤ S4x16x256x512.size a := by
  have := Nat.mod_lt n (show 0 < 4 by decide)
  intro a; match a with | 0 => exact this | 1 => exact le_refl _ | 2 => exact le_refl _ | 3 => exact le_refl _
/-- Slot `n` of the ring, its cell, and block `n` of the array in HBM. -/
def slO (n : ℕ) : Memref sig .tc .vmem S16x256x512 .bf16 :=
  (rO.slice (Rect.unit (s := S2x16x256x512) ![n % 2, 0, 0, 0] S1x16x256x512.size (inbO n)) (fun _ => rfl)).squeeze S16x256x512 squeezes_S1x16x256x512_S16x256x512
def clO (n : ℕ) : DmaSems sig S_ := (semO.slice (Rect.unit (s := S2) ![n % 2] S1.size (inbCO n))).squeeze S_ squeezes_S1_S_
def bkO (n : ℕ) : Memref sig .tc .hbm S16x256x512 .bf16 :=
  (aO.slice (Rect.unit (s := S4x16x256x512) ![n % 4, 0, 0, 0] S1x16x256x512.size (inbBO n)) (fun _ => rfl)).squeeze S16x256x512 squeezes_S1x16x256x512_S16x256x512

theorem slO_congr {off : Fin 4 → ℕ} {n : ℕ} (e : off = ![n % 2, 0, 0, 0]) (hh hs) :
    (rO.slice (Rect.unit (s := S2x16x256x512) off S1x16x256x512.size hh) hs).squeeze S16x256x512 squeezes_S1x16x256x512_S16x256x512 = slO n :=
  congrArg (fun M : Memref sig .tc .vmem S1x16x256x512 .bf16 => M.squeeze S16x256x512 squeezes_S1x16x256x512_S16x256x512) (Memref.slice_unit_congr _ e _ _ _ _)
theorem clO_congr {off : Fin 1 → ℕ} {n : ℕ} (e : off = ![n % 2]) (hh) :
    (semO.slice (Rect.unit (s := S2) off S1.size hh)).squeeze S_ squeezes_S1_S_ = clO n :=
  congrArg (fun A : DmaSems sig S1 => A.squeeze S_ squeezes_S1_S_) (SemArray.slice_unit_congr _ e _ _)
theorem bkO_congr {off : Fin 4 → ℕ} {n : ℕ} (e : off = ![n % 4, 0, 0, 0]) (hh hs) :
    (aO.slice (Rect.unit (s := S4x16x256x512) off S1x16x256x512.size hh) hs).squeeze S16x256x512 squeezes_S1x16x256x512_S16x256x512 = bkO n :=
  congrArg (fun M : Memref sig .tc .hbm S1x16x256x512 .bf16 => M.squeeze S16x256x512 squeezes_S1x16x256x512_S16x256x512) (Memref.slice_unit_congr _ e _ _ _ _)

theorem inbS (n : ℕ) : ∀ a, (![n % 2, 0, 0, 0] : Fin 4 → ℕ) a + S1x16x256x128.size a ≤ S2x16x256x128.size a := by
  have := Nat.mod_lt n (show 0 < 2 by decide)
  intro a; match a with | 0 => exact this | 1 => exact le_refl _ | 2 => exact le_refl _ | 3 => exact le_refl _
theorem inbCS (n : ℕ) : ∀ a, (![n % 2] : Fin 1 → ℕ) a + S1.size a ≤ S2.size a := by
  have := Nat.mod_lt n (show 0 < 2 by decide)
  intro a; match a with | 0 => exact this
theorem inbBS (n : ℕ) : ∀ a, (![n % 4, 0, 0, 0] : Fin 4 → ℕ) a + S1x16x256x128.size a ≤ S4x16x256x128.size a := by
  have := Nat.mod_lt n (show 0 < 4 by decide)
  intro a; match a with | 0 => exact this | 1 => exact le_refl _ | 2 => exact le_refl _ | 3 => exact le_refl _
/-- Slot `n` of the ring, its cell, and block `n` of the array in HBM. -/
def slS (n : ℕ) : Memref sig .tc .vmem S16x256x128 .f32 :=
  (rS.slice (Rect.unit (s := S2x16x256x128) ![n % 2, 0, 0, 0] S1x16x256x128.size (inbS n)) (fun _ => rfl)).squeeze S16x256x128 squeezes_S1x16x256x128_S16x256x128
def clS (n : ℕ) : DmaSems sig S_ := (semS.slice (Rect.unit (s := S2) ![n % 2] S1.size (inbCS n))).squeeze S_ squeezes_S1_S_
def bkS (n : ℕ) : Memref sig .tc .hbm S16x256x128 .f32 :=
  (aS.slice (Rect.unit (s := S4x16x256x128) ![n % 4, 0, 0, 0] S1x16x256x128.size (inbBS n)) (fun _ => rfl)).squeeze S16x256x128 squeezes_S1x16x256x128_S16x256x128

theorem slS_congr {off : Fin 4 → ℕ} {n : ℕ} (e : off = ![n % 2, 0, 0, 0]) (hh hs) :
    (rS.slice (Rect.unit (s := S2x16x256x128) off S1x16x256x128.size hh) hs).squeeze S16x256x128 squeezes_S1x16x256x128_S16x256x128 = slS n :=
  congrArg (fun M : Memref sig .tc .vmem S1x16x256x128 .f32 => M.squeeze S16x256x128 squeezes_S1x16x256x128_S16x256x128) (Memref.slice_unit_congr _ e _ _ _ _)
theorem clS_congr {off : Fin 1 → ℕ} {n : ℕ} (e : off = ![n % 2]) (hh) :
    (semS.slice (Rect.unit (s := S2) off S1.size hh)).squeeze S_ squeezes_S1_S_ = clS n :=
  congrArg (fun A : DmaSems sig S1 => A.squeeze S_ squeezes_S1_S_) (SemArray.slice_unit_congr _ e _ _)
theorem bkS_congr {off : Fin 4 → ℕ} {n : ℕ} (e : off = ![n % 4, 0, 0, 0]) (hh hs) :
    (aS.slice (Rect.unit (s := S4x16x256x128) off S1x16x256x128.size hh) hs).squeeze S16x256x128 squeezes_S1x16x256x128_S16x256x128 = bkS n :=
  congrArg (fun M : Memref sig .tc .hbm S1x16x256x128 .f32 => M.squeeze S16x256x128 squeezes_S1x16x256x128_S16x256x128) (Memref.slice_unit_congr _ e _ _ _ _)

/-! ## The program's slices under those names -/

section Canon
variable (k : Fin k0_t1_loop.trips)

@[sl_canon] theorem slI7 (hk : k.val < 2) (hh hs) : (rI.slice (Rect.unit (s := S3x16x256x1536) (k0_off7 (W4 k.val)) S1x16x256x1536.size hh) hs).squeeze S16x256x1536 squeezes_S1x16x256x1536_S16x256x1536 = slI (k.val + 2) :=
  slI_congr (by revert hk; revert k; decide) _ _
@[sl_canon] theorem clI6 (hk : k.val < 2) (hh) : (semI.slice (Rect.unit (s := S3) (k0_off6 (W4 k.val)) S1.size hh)).squeeze S_ squeezes_S1_S_ = clI (k.val + 2) :=
  clI_congr (by revert hk; revert k; decide) _
@[sl_canon] theorem bkI8 (hk : k.val < 2) (hh hs) : (aI.slice (Rect.unit (s := S4x16x256x1536) (k0_off8 (W10 k.val)) S1x16x256x1536.size hh) hs).squeeze S16x256x1536 squeezes_S1x16x256x1536_S16x256x1536 = bkI (k.val + 2) :=
  bkI_congr (by revert hk; revert k; decide) _ _
@[sl_canon] theorem clI9 (hh) : (semI.slice (Rect.unit (s := S3) (k0_off9 (W5 k.val)) S1.size hh)).squeeze S_ squeezes_S1_S_ = clI k.val :=
  clI_congr (by revert k; decide) _
@[sl_canon] theorem slI10 (hh hs) : (rI.slice (Rect.unit (s := S3x16x256x1536) (k0_off10 (W5 k.val)) S1x16x256x1536.size hh) hs).squeeze S16x256x1536 squeezes_S1x16x256x1536_S16x256x1536 = slI k.val :=
  slI_congr (by revert k; decide) _ _
@[sl_canon] theorem bkI11 (hh hs) : (aI.slice (Rect.unit (s := S4x16x256x1536) (k0_off11 (W10 k.val)) S1x16x256x1536.size hh) hs).squeeze S16x256x1536 squeezes_S1x16x256x1536_S16x256x1536 = bkI k.val :=
  bkI_congr (by revert k; decide) _ _
@[sl_canon] theorem clO146 (hh) : (semO.slice (Rect.unit (s := S2) (k0_off146 (W5 k.val)) S1.size hh)).squeeze S_ squeezes_S1_S_ = clO k.val :=
  clO_congr (by revert k; decide) _
@[sl_canon] theorem bkO147 (hh hs) : (aO.slice (Rect.unit (s := S4x16x256x512) (k0_off147 (W10 k.val)) S1x16x256x512.size hh) hs).squeeze S16x256x512 squeezes_S1x16x256x512_S16x256x512 = bkO k.val :=
  bkO_congr (by revert k; decide) _ _
@[sl_canon] theorem slO148 (hh hs) : (rO.slice (Rect.unit (s := S2x16x256x512) (k0_off148 (W5 k.val)) S1x16x256x512.size hh) hs).squeeze S16x256x512 squeezes_S1x16x256x512_S16x256x512 = slO k.val :=
  slO_congr (by revert k; decide) _ _
@[sl_canon] theorem clS149 (hh) : (semS.slice (Rect.unit (s := S2) (k0_off149 (W5 k.val)) S1.size hh)).squeeze S_ squeezes_S1_S_ = clS k.val :=
  clS_congr (by revert k; decide) _
@[sl_canon] theorem bkS150 (hh hs) : (aS.slice (Rect.unit (s := S4x16x256x128) (k0_off150 (W10 k.val)) S1x16x256x128.size hh) hs).squeeze S16x256x128 squeezes_S1x16x256x128_S16x256x128 = bkS k.val :=
  bkS_congr (by revert k; decide) _ _
@[sl_canon] theorem slS151 (hh hs) : (rS.slice (Rect.unit (s := S2x16x256x128) (k0_off151 (W5 k.val)) S1x16x256x128.size hh) hs).squeeze S16x256x128 squeezes_S1x16x256x128_S16x256x128 = slS k.val :=
  slS_congr (by revert k; decide) _ _
@[sl_canon] theorem clO152 (hk : 1 ≤ k.val) (hh) : (semO.slice (Rect.unit (s := S2) (k0_off152 (W7 k.val)) S1.size hh)).squeeze S_ squeezes_S1_S_ = clO (k.val - 1) :=
  clO_congr (by revert hk; revert k; decide) _
@[sl_canon] theorem bkO153 (hk : 1 ≤ k.val) (hh hs) : (aO.slice (Rect.unit (s := S4x16x256x512) (k0_off153 (W10 k.val)) S1x16x256x512.size hh) hs).squeeze S16x256x512 squeezes_S1x16x256x512_S16x256x512 = bkO (k.val - 1) :=
  bkO_congr (by revert hk; revert k; decide) _ _
@[sl_canon] theorem slO154 (hk : 1 ≤ k.val) (hh hs) : (rO.slice (Rect.unit (s := S2x16x256x512) (k0_off154 (W7 k.val)) S1x16x256x512.size hh) hs).squeeze S16x256x512 squeezes_S1x16x256x512_S16x256x512 = slO (k.val - 1) :=
  slO_congr (by revert hk; revert k; decide) _ _
@[sl_canon] theorem clS155 (hk : 1 ≤ k.val) (hh) : (semS.slice (Rect.unit (s := S2) (k0_off155 (W7 k.val)) S1.size hh)).squeeze S_ squeezes_S1_S_ = clS (k.val - 1) :=
  clS_congr (by revert hk; revert k; decide) _
@[sl_canon] theorem bkS156 (hk : 1 ≤ k.val) (hh hs) : (aS.slice (Rect.unit (s := S4x16x256x128) (k0_off156 (W10 k.val)) S1x16x256x128.size hh) hs).squeeze S16x256x128 squeezes_S1x16x256x128_S16x256x128 = bkS (k.val - 1) :=
  bkS_congr (by revert hk; revert k; decide) _ _
@[sl_canon] theorem slS157 (hk : 1 ≤ k.val) (hh hs) : (rS.slice (Rect.unit (s := S2x16x256x128) (k0_off157 (W7 k.val)) S1x16x256x128.size hh) hs).squeeze S16x256x128 squeezes_S1x16x256x128_S16x256x128 = slS (k.val - 1) :=
  slS_congr (by revert hk; revert k; decide) _ _
@[sl_canon] theorem clI1 (hh) : (semI.slice (Rect.unit (s := S3) k0_off1 S1.size hh)).squeeze S_ squeezes_S1_S_ = clI 0 :=
  clI_congr (by decide) _
@[sl_canon] theorem slI2 (hh hs) : (rI.slice (Rect.unit (s := S3x16x256x1536) k0_off2 S1x16x256x1536.size hh) hs).squeeze S16x256x1536 squeezes_S1x16x256x1536_S16x256x1536 = slI 0 :=
  slI_congr (by decide) _ _
@[sl_canon] theorem bkI0 (hh hs) : (aI.slice (Rect.unit (s := S4x16x256x1536) ![0, 0, 0, 0] S1x16x256x1536.size hh) hs).squeeze S16x256x1536 squeezes_S1x16x256x1536_S16x256x1536 = bkI 0 :=
  bkI_congr (by decide) _ _
@[sl_canon] theorem clI3 (hh) : (semI.slice (Rect.unit (s := S3) k0_off3 S1.size hh)).squeeze S_ squeezes_S1_S_ = clI 1 :=
  clI_congr (by decide) _
@[sl_canon] theorem slI4 (hh hs) : (rI.slice (Rect.unit (s := S3x16x256x1536) k0_off4 S1x16x256x1536.size hh) hs).squeeze S16x256x1536 squeezes_S1x16x256x1536_S16x256x1536 = slI 1 :=
  slI_congr (by decide) _ _
@[sl_canon] theorem bkI5 (hh hs) : (aI.slice (Rect.unit (s := S4x16x256x1536) k0_off5 S1x16x256x1536.size hh) hs).squeeze S16x256x1536 squeezes_S1x16x256x1536_S16x256x1536 = bkI 1 :=
  bkI_congr (by decide) _ _
@[sl_canon] theorem clO158 (hh) : (semO.slice (Rect.unit (s := S2) (k0_off158 (W7 k0_t1_loop.trips)) S1.size hh)).squeeze S_ squeezes_S1_S_ = clO 3 :=
  clO_congr (by decide) _
@[sl_canon] theorem bkO159 (hh hs) : (aO.slice (Rect.unit (s := S4x16x256x512) (k0_off159 0#32 (W10 k0_t1_loop.trips)) S1x16x256x512.size hh) hs).squeeze S16x256x512 squeezes_S1x16x256x512_S16x256x512 = bkO 3 :=
  bkO_congr (by decide) _ _
@[sl_canon] theorem slO160 (hh hs) : (rO.slice (Rect.unit (s := S2x16x256x512) (k0_off160 (W7 k0_t1_loop.trips)) S1x16x256x512.size hh) hs).squeeze S16x256x512 squeezes_S1x16x256x512_S16x256x512 = slO 3 :=
  slO_congr (by decide) _ _
@[sl_canon] theorem clS161 (hh) : (semS.slice (Rect.unit (s := S2) (k0_off161 (W7 k0_t1_loop.trips)) S1.size hh)).squeeze S_ squeezes_S1_S_ = clS 3 :=
  clS_congr (by decide) _
@[sl_canon] theorem bkS162 (hh hs) : (aS.slice (Rect.unit (s := S4x16x256x128) (k0_off162 0#32 (W10 k0_t1_loop.trips)) S1x16x256x128.size hh) hs).squeeze S16x256x128 squeezes_S1x16x256x128_S16x256x128 = bkS 3 :=
  bkS_congr (by decide) _ _
@[sl_canon] theorem slS163 (hh hs) : (rS.slice (Rect.unit (s := S2x16x256x128) (k0_off163 (W7 k0_t1_loop.trips)) S1x16x256x128.size hh) hs).squeeze S16x256x128 squeezes_S1x16x256x128_S16x256x128 = slS 3 :=
  slS_congr (by decide) _ _

/-- The slots of the unit arithmetic at trip `k`. -/
theorem islot_W (h) : islot (W5 k.val) h = slI k.val := slI_congr (by revert k; decide) _ _
theorem oslot_W (h) : oslot (W5 k.val) h = slO k.val := slO_congr (by revert k; decide) _ _
theorem sslot_W (h) : sslot (W5 k.val) h = slS k.val := slS_congr (by revert k; decide) _ _

end Canon

end Cert.Proof.Attn

end
-- ==== Proof.Trip.lean ====
module

public import proofs.«01_k».proof.Proof.Body
public import proofs.«01_k».proof.Proof.Names

@[expose] public section

set_option maxRecDepth 16384

noncomputable section

namespace Cert.Proof.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-! ## The pieces: a slot free, a block home, a block in flight, a result in flight, a result delivered -/

section Pieces
variable (c : Dev nD) (XA : Buf (Elt F) (aI.view.loc (c : Thread nD τ)))

/-- Input block `n`, as its transfer carries it. -/
abbrev blkV (n : ℕ) : InV F := (bkI n).view.read (Elt F) XA

abbrev cellI (n : ℕ) : sProp 𝕄 := semVal ((c : Thread nD τ), SemLoc.dma (clI n).sem) 0
abbrev cellO (n : ℕ) : sProp 𝕄 := semVal ((c : Thread nD τ), SemLoc.dma (clO n).sem) 0
abbrev cellS (n : ℕ) : sProp 𝕄 := semVal ((c : Thread nD τ), SemLoc.dma (clS n).sem) 0
abbrev slotI (n : ℕ) (f : Buf (Elt F) ((slI n).view.loc (c : Thread nD τ))) : sProp 𝕄 := (slI n).view.loc (c : Thread nD τ) ↦[(slI n).view.set]{fullShare} f
abbrev slotO (n : ℕ) (f : Buf (Elt F) ((slO n).view.loc (c : Thread nD τ))) : sProp 𝕄 := (slO n).view.loc (c : Thread nD τ) ↦[(slO n).view.set]{fullShare} f
abbrev slotS (n : ℕ) (f : Buf (Elt F) ((slS n).view.loc (c : Thread nD τ))) : sProp 𝕄 := (slS n).view.loc (c : Thread nD τ) ↦[(slS n).view.set]{fullShare} f
abbrev homeI (n : ℕ) : sProp 𝕄 := (bkI n).view.loc (c : Thread nD τ) ↦[(bkI n).view.set]{fullShare} XA
abbrev homeO (n : ℕ) (f : Buf (Elt F) ((bkO n).view.loc (c : Thread nD τ))) : sProp 𝕄 := (bkO n).view.loc (c : Thread nD τ) ↦[(bkO n).view.set]{fullShare} f
abbrev homeS (n : ℕ) (f : Buf (Elt F) ((bkS n).view.loc (c : Thread nD τ))) : sProp 𝕄 := (bkS n).view.loc (c : Thread nD τ) ↦[(bkS n).view.set]{fullShare} f

abbrev freeI (n : ℕ) : sProp 𝕄 := iprop((∃ f, slotI c n f) ∗ cellI c n)
abbrev freeO (n : ℕ) : sProp 𝕄 := iprop((∃ f, slotO c n f) ∗ cellO c n)
abbrev freeS (n : ℕ) : sProp 𝕄 := iprop((∃ f, slotS c n f) ∗ cellS c n)

/-- What block `n`'s transfer leaves in its slot. -/
abbrev landedI (n : ℕ) (f : Buf (Elt F) ((slI n).view.loc (c : Thread nD τ))) : Buf (Elt F) ((slI n).view.loc (c : Thread nD τ)) :=
  (slI n).view.writes (Elt F) f [⟨Rect.whole S16x256x1536, ReadAs.same.apply ((bkI n).view.read (Elt F) XA)⟩]
/-- What slot `n`'s transfer leaves in its block. -/
abbrev landedO (n : ℕ) (f : Buf (Elt F) ((bkO n).view.loc (c : Thread nD τ))) (g : Buf (Elt F) ((slO n).view.loc (c : Thread nD τ))) : Buf (Elt F) ((bkO n).view.loc (c : Thread nD τ)) :=
  (bkO n).view.writes (Elt F) f [⟨Rect.whole S16x256x512, ReadAs.same.apply ((slO n).view.read (Elt F) g)⟩]
abbrev landedS (n : ℕ) (f : Buf (Elt F) ((bkS n).view.loc (c : Thread nD τ))) (g : Buf (Elt F) ((slS n).view.loc (c : Thread nD τ))) : Buf (Elt F) ((bkS n).view.loc (c : Thread nD τ)) :=
  (bkS n).view.writes (Elt F) f [⟨Rect.whole S16x256x128, ReadAs.same.apply ((slS n).view.read (Elt F) g)⟩]

abbrev NI : ℕ := 393216
abbrev NO : ℕ := 131072
abbrev NS : ℕ := 65536

abbrev flI (n : ℕ) : sProp 𝕄 := iprop(∃ f, Transfers.Flight countersEmb (c : Thread nD τ) (SemLoc.dma (clI n).sem) () NI
  iprop(slotI c n (landedI c XA n f) ∗ homeI c XA n))
abbrev flO (n : ℕ) : sProp 𝕄 := iprop(∃ f, ∃ g, ⌜(slO n).view.read (Elt F) g = attO (blkV c XA n)⌝
  ∗ Transfers.Flight countersEmb (c : Thread nD τ) (SemLoc.dma (clO n).sem) () NO iprop(homeO c n (landedO c n f g) ∗ slotO c n g))
abbrev flS (n : ℕ) : sProp 𝕄 := iprop(∃ f, ∃ g, ⌜(slS n).view.read (Elt F) g = attS (blkV c XA n)⌝
  ∗ Transfers.Flight countersEmb (c : Thread nD τ) (SemLoc.dma (clS n).sem) () NS iprop(homeS c n (landedS c n f g) ∗ slotS c n g))

abbrev rawO (n : ℕ) : sProp 𝕄 := iprop(∃ g, homeO c n g)
abbrev rawS (n : ℕ) : sProp 𝕄 := iprop(∃ g, homeS c n g)
abbrev doneO (n : ℕ) : sProp 𝕄 := iprop(∃ g, ⌜(bkO n).view.read (Elt F) g = attO (blkV c XA n)⌝ ∗ homeO c n g)
abbrev doneS (n : ℕ) : sProp 𝕄 := iprop(∃ g, ⌜(bkS n).view.read (Elt F) g = attS (blkV c XA n)⌝ ∗ homeS c n g)

theorem read_landedI (n : ℕ) (f) : (slI n).view.read (Elt F) (landedI c XA n f) = blkV c XA n := by
  rw [View.read_writes_whole]
theorem read_landedO (n : ℕ) (f g) : (bkO n).view.read (Elt F) (landedO (F := F) c n f g) = (slO n).view.read (Elt F) g := by
  rw [View.read_writes_whole]
theorem read_landedS (n : ℕ) (f g) : (bkS n).view.read (Elt F) (landedS (F := F) c n f g) = (slS n).view.read (Elt F) g := by
  rw [View.read_writes_whole]

end Pieces

/-! ## The arithmetic at trip `k`, under the trip's names -/

section MidAt
variable (c : Dev nD) (w5 w6 w8 a3 : BitVec 32) (h4 : k0_chk4 w8) (h3 : k0_chk3 w6) (h2 : k0_chk2 w5)
  (b1 : BitVec 1) (w1 w2 : BitVec 32) (b2 : BitVec 1) (w3 : BitVec 32)
  (hi : ∀ a, k0_off12 w5 a + S1x16x256x1536.size a ≤ S3x16x256x1536.size a)
  (ho : ∀ a, k0_off13 w6 a + S1x16x256x512.size a ≤ S2x16x256x512.size a)
  (hs : ∀ a, k0_off19 w8 a + S1x16x256x128.size a ≤ S2x16x256x128.size a)

theorem mid_at (MI : Memref sig .tc .vmem S16x256x1536 .bf16) (MO : Memref sig .tc .vmem S16x256x512 .bf16) (MS : Memref sig .tc .vmem S16x256x128 .f32)
    (eI : islot w5 hi = MI) (eO : oslot w6 ho = MO) (eS : sslot w8 hs = MS)
    (fI : Buf (Elt F) (MI.view.loc (c : Thread nD τ))) (fO : Buf (Elt F) (MO.view.loc (c : Thread nD τ)))
    (fS : Buf (Elt F) (MS.view.loc (c : Thread nD τ))) :
    (iprop((MI.view.loc (c : Thread nD τ) ↦[MI.view.set]{fullShare} fI)
      ∗ (MO.view.loc (c : Thread nD τ) ↦[MO.view.set]{fullShare} fO)
      ∗ (MS.view.loc (c : Thread nD τ) ↦[MS.view.set]{fullShare} fS)) : sProp 𝕄)
    ⊢ wp frame (wpE (defs₀ (F := F)) 𝒱₀ (c : Thread nD τ) none) Set.univ (midProg (F := F) w5 w6 w8 a3 h4 h3 h2 b1 w1 w2 b2 w3)
        (fun _ => iprop((MI.view.loc (c : Thread nD τ) ↦[MI.view.set]{fullShare} fI)
      ∗ (∃ g, ⌜MO.view.read (Elt F) g = attO (MI.view.read (Elt F) fI)⌝ ∗ MO.view.loc (c : Thread nD τ) ↦[MO.view.set]{fullShare} g)
      ∗ (∃ g, ⌜MS.view.read (Elt F) g = attS (MI.view.read (Elt F) fI)⌝ ∗ MS.view.loc (c : Thread nD τ) ↦[MS.view.set]{fullShare} g))) := by
  subst eI eO eS
  exact mid_run c w5 w6 w8 a3 h4 h3 h2 b1 w1 w2 b2 w3 hi ho hs fI fO fS

end MidAt

theorem inW12 (k : Fin k0_t1_loop.trips) : ∀ a, k0_off12 (W5 k.val) a + S1x16x256x1536.size a ≤ S3x16x256x1536.size a := by revert k; decide
theorem inW13 (k : Fin k0_t1_loop.trips) : ∀ a, k0_off13 (W5 k.val) a + S1x16x256x512.size a ≤ S2x16x256x512.size a := by revert k; decide
theorem inW19 (k : Fin k0_t1_loop.trips) : ∀ a, k0_off19 (W5 k.val) a + S1x16x256x128.size a ≤ S2x16x256x128.size a := by revert k; decide

/-! ## One trip -/

/-- The words the loop carries before trip `k`. -/
def accAt (k : ℕ) : BitVec 32 × BitVec 32 × BitVec 32 × BitVec 32 × BitVec 32 × BitVec 32 × BitVec 32 × BitVec 32 :=
  (W4 k, W5 k, W5 k, W7 k, W5 k, W7 k, W10 k, 0#32)

abbrev MidTy (F : FTy → Type) [FloatOps F] : Type 1 := ∀ w5 w6 w8 : BitVec 32, BitVec 32 → k0_chk4 w8 → k0_chk3 w6 → k0_chk2 w5 → BitVec 1 → BitVec 32 → BitVec 32 → BitVec 1 → BitVec 32 →
  Prog (TpuEff nD τ sig (Elt F) Λ₀ .tc) PUnit

/-- A trip over any arithmetic in its middle. -/
def tripOver (mid : MidTy F) (k0_t1 : Fin k0_t1_loop.trips) (arg4 arg5 arg6 arg7 arg8 arg9 arg10 : BitVec 32) :
    Prog (TpuEff nD τ sig (Elt F) Λ₀ .tc) (BitVec 32 × BitVec 32 × BitVec 32 × BitVec 32 × BitVec 32 × BitVec 32 × BitVec 32 × BitVec 32) := do
  let ⟨k0_hw4, k0_hw3, k0_hw2, k0_hw1, arg3, v105, v106, v107, v115, v123, v130⟩ ← k0_part1 (F := F) aI hI aO hO aS hS rI hrI semI rO hrO semO rS hrS semS 0#32 1#32 k0_t1 arg4 arg5 arg6 arg7 arg8 arg9 arg10
  let ⟨v149, v165, c0_i32_169⟩ ← k0_part2 (F := F) aI hI aO hO aS hS rI hrI semI rO hrO semO rS hrS semS k0_t1 arg4 arg5 arg6 arg7 arg8 arg9 arg10 k0_hw1 arg3 v105 v107 v115 v123 v130
  mid arg5 arg6 arg8 arg3 k0_hw4 k0_hw3 k0_hw2 v105 v107 v115 v165 c0_i32_169
  let v5795 ← sendO (F := F) k0_t1 arg4 arg5 arg6 arg7 arg8 arg9 arg10 k0_hw1 v106 v107 v123
  let ⟨v5797, v5804, v5818, v5826, v5830, v5831, c1_i32_5399⟩ ← k0_part189 (F := F) aI hI aO hO aS hS rI hrI semI rO hrO semO rS hrS semS k0_t1 arg4 arg5 arg6 arg7 arg8 arg9 arg10 k0_hw1 v105 v106 v107 v115 v123 v5795
  let v5832 : BitVec 1 := Scalar.cmpi .eq v5831 c1_i32_5399
  let v5834 : BitVec 32 := Scalar.addi arg10 1#32
  let v5835 : BitVec 32 := Scalar.select v5832 v5834 arg10
  let v5836 : BitVec 1 := Scalar.cmpi .eq v5835 4#32
  let v5837 : BitVec 32 := Scalar.select v5836 0#32 v5835
  pure (v149, v5830, v5797, v5818, v5804, v5826, v5837, 0#32)

theorem trip_over : trip (F := F) = tripOver midProg := rfl

abbrev tripAt (mid : MidTy F) (k : Fin k0_t1_loop.trips) : Prog (TpuEff nD τ sig (Elt F) Λ₀ .tc) (BitVec 32 × BitVec 32 × BitVec 32 × BitVec 32 × BitVec 32 × BitVec 32 × BitVec 32 × BitVec 32) :=
  tripOver mid k (W4 k.val) (W5 k.val) (W5 k.val) (W7 k.val) (W5 k.val) (W7 k.val) (W10 k.val)

/-- The middle reads the input slot and fills the two result slots. -/
def MidOk (mid : MidTy F) : Prop := ∀ (c : Dev nD) (k : Fin k0_t1_loop.trips) (a3 : BitVec 32) (h4 : k0_chk4 (W5 k.val)) (h3 : k0_chk3 (W5 k.val)) (h2 : k0_chk2 (W5 k.val)) (b1 : BitVec 1) (w1 w2 : BitVec 32) (b2 : BitVec 1) (w3 : BitVec 32)
    (fI : Buf (Elt F) ((slI k.val).view.loc (c : Thread nD τ))) (fO : Buf (Elt F) ((slO k.val).view.loc (c : Thread nD τ))) (fS : Buf (Elt F) ((slS k.val).view.loc (c : Thread nD τ))),
    (iprop(slotI c k.val fI ∗ slotO c k.val fO ∗ slotS c k.val fS) : sProp 𝕄)
    ⊢ wp frame (wpE (defs₀ (F := F)) 𝒱₀ (c : Thread nD τ) none) Set.univ (mid (W5 k.val) (W5 k.val) (W5 k.val) a3 h4 h3 h2 b1 w1 w2 b2 w3)
        (fun _ => iprop(slotI c k.val fI
      ∗ (∃ g, ⌜(slO k.val).view.read (Elt F) g = attO ((slI k.val).view.read (Elt F) fI)⌝ ∗ slotO c k.val g)
      ∗ (∃ g, ⌜(slS k.val).view.read (Elt F) g = attS ((slI k.val).view.read (Elt F) fI)⌝ ∗ slotS c k.val g)))

theorem mid_ok : MidOk (F := F) midProg := fun c k a3 h4 h3 h2 b1 w1 w2 b2 w3 fI fO fS =>
  mid_at c (W5 k.val) (W5 k.val) (W5 k.val) a3 h4 h3 h2 b1 w1 w2 b2 w3 (inW12 k) (inW13 k) (inW19 k) (slI k.val) (slO k.val) (slS k.val)
    (islot_W k _) (oslot_W k _) (sslot_W k _) fI fO fS

section Trip
variable (mid : MidTy F)
variable (c : Dev nD) (XA : Buf (Elt F) (aI.view.loc (c : Thread nD τ))) (k : Fin k0_t1_loop.trips)

/-- Trip 0: a block requested, a block awaited, its results sent. -/
theorem trip_first (hmid : MidOk mid) (hk2 : k.val < 2) (hk1 : k.val = 0) (W : Waits sig Unit) :
    (iprop(flI c XA k.val ∗ freeI c (k.val + 2) ∗ homeI c XA (k.val + 2)
      ∗ freeO c k.val ∗ rawO c k.val ∗ freeS c k.val ∗ rawS c k.val ∗ owes (c : Thread nD τ) 0 W) : sProp 𝕄)
    ⊢ wp frame (wpE (defs₀ (F := F)) 𝒱₀ (c : Thread nD τ) none) Set.univ (tripAt (F := F) mid k)
      (fun r => iprop(⌜r = accAt (k.val + 1)⌝ ∗ flI c XA (k.val + 2) ∗ freeI c k.val ∗ homeI c XA k.val
      ∗ flO c XA k.val ∗ flS c XA k.val ∗ ∃ W, owes (c : Thread nD τ) 0 W)) := by
  have hc1 := chk1_W k
  have hc2 := chk2_W k
  have hc3 := chk3_W k
  have hc4 := chk4_W k
  have h2 := cond2_pos k hk2
  have h3 := cond3_pos k
  have h7 := cond7_pos k
  have h8 := cond8_pos k
  have h10 := cond10_neg k hk1
  have h11 := cond11_neg k hk1
  iintro ⟨⟨%f0, HI⟩, ⟨⟨%f2, HI2⟩, HcI2⟩, HhI2, ⟨⟨%fO, HsO⟩, HcO⟩, ⟨%gO, HrO⟩, ⟨⟨%fS, HsS⟩, HcS⟩, ⟨%gS, HrS⟩, HW⟩
  dsimp only [tripAt]
  unfold tripOver
  sl_exec
  rw [wp_bind]
  iapply (wp_wand_r Idealize.ShloMosaic.frame (wpE (defs₀ (F := F)) 𝒱₀ (c : Thread nD τ) none) Set.univ)
  isplitl [HI_dst HsO HsS]
  · iapply (hmid c k _ _ _ _ _ _ _ _ _ _ _ _)
    isplitl [HI_dst]; · iexact HI_dst
    isplitl [HsO]; · iexact HsO
    · iexact HsS
  iintro %_ ⟨HI_dst, ⟨%gO1, %eO1, HsO⟩, ⟨%gS1, %eS1, HsS⟩⟩
  sl_exec
  sl_step
  isplitr
  · ipureintro; sl_unfold_words; clear * -; simp only [accAt, Prod.mk.injEq]; revert k; decide
  rw [read_landedI] at eO1 eS1
  isplitl [HcI2]; · iexists _; iexact HcI2
  isplitl [HI_dst HI]
  · isplitl [HI_dst]
    · iexists _; iexact HI_dst
    · iexact HI
  isplitl [HI_src]; · iexact HI_src
  isplitl [HcO]
  · iexists _; iexists _; isplitr; swap; · iexact HcO
    · ipureintro; exact eO1
  isplitl [HcS]
  · iexists _; iexists _; isplitr; swap; · iexact HcS
    · ipureintro; exact eS1
  iexists _; iexact HW

/-- Trip 1: a block requested, a block awaited, its results sent, the results of the trip before awaited. -/
theorem trip_mid (hmid : MidOk mid) (hk2 : k.val < 2) (hk1 : 1 ≤ k.val) (W : Waits sig Unit) :
    (iprop(flI c XA k.val ∗ freeI c (k.val + 2) ∗ homeI c XA (k.val + 2)
      ∗ freeO c k.val ∗ rawO c k.val ∗ flO c XA (k.val - 1) ∗ freeS c k.val ∗ rawS c k.val ∗ flS c XA (k.val - 1) ∗ owes (c : Thread nD τ) 0 W) : sProp 𝕄)
    ⊢ wp frame (wpE (defs₀ (F := F)) 𝒱₀ (c : Thread nD τ) none) Set.univ (tripAt (F := F) mid k)
      (fun r => iprop(⌜r = accAt (k.val + 1)⌝ ∗ flI c XA (k.val + 2) ∗ freeI c k.val ∗ homeI c XA k.val
      ∗ flO c XA k.val ∗ doneO c XA (k.val - 1) ∗ freeO c (k.val - 1) ∗ flS c XA k.val ∗ doneS c XA (k.val - 1) ∗ freeS c (k.val - 1) ∗ ∃ W, owes (c : Thread nD τ) 0 W)) := by
  have hc1 := chk1_W k
  have hc2 := chk2_W k
  have hc3 := chk3_W k
  have hc4 := chk4_W k
  have h2 := cond2_pos k hk2
  have h3 := cond3_pos k
  have h7 := cond7_pos k
  have h8 := cond8_pos k
  have h10 := cond10_pos k hk1
  have h11 := cond11_pos k hk1
  iintro ⟨⟨%f0, HI⟩, ⟨⟨%f2, HI2⟩, HcI2⟩, HhI2, ⟨⟨%fO, HsO⟩, HcO⟩, ⟨%gO, HrO⟩, ⟨%fO', %gO', %eO', HFO⟩, ⟨⟨%fS, HsS⟩, HcS⟩, ⟨%gS, HrS⟩, ⟨%fS', %gS', %eS', HFS⟩, HW⟩
  dsimp only [tripAt]
  unfold tripOver
  sl_exec
  rw [wp_bind]
  iapply (wp_wand_r Idealize.ShloMosaic.frame (wpE (defs₀ (F := F)) 𝒱₀ (c : Thread nD τ) none) Set.univ)
  isplitl [HI_dst HsO HsS]
  · iapply (hmid c k _ _ _ _ _ _ _ _ _ _ _ _)
    isplitl [HI_dst]; · iexact HI_dst
    isplitl [HsO]; · iexact HsO
    · iexact HsS
  iintro %_ ⟨HI_dst, ⟨%gO1, %eO1, HsO⟩, ⟨%gS1, %eS1, HsS⟩⟩
  sl_exec
  sl_step
  isplitr
  · ipureintro; sl_unfold_words; clear * -; simp only [accAt, Prod.mk.injEq]; revert k; decide
  rw [read_landedI] at eO1 eS1
  isplitl [HcI2]; · iexists _; iexact HcI2
  isplitl [HI_dst HI]
  · isplitl [HI_dst]
    · iexists _; iexact HI_dst
    · iexact HI
  isplitl [HI_src]; · iexact HI_src
  isplitl [HcO]
  · iexists _; iexists _; isplitr; swap; · iexact HcO
    · ipureintro; exact eO1
  isplitl [HFO_dst]
  · iexists _; isplitr; swap; · iexact HFO_dst
    · ipureintro; rw [read_landedO]; exact eO'
  isplitl [HFO HFO_src]
  · isplitl [HFO_src]
    · iexists _; iexact HFO_src
    · iexact HFO
  isplitl [HcS]
  · iexists _; iexists _; isplitr; swap; · iexact HcS
    · ipureintro; exact eS1
  isplitl [HFS_dst]
  · iexists _; isplitr; swap; · iexact HFS_dst
    · ipureintro; rw [read_landedS]; exact eS'
  isplitl [HFS HFS_src]
  · isplitl [HFS_src]
    · iexists _; iexact HFS_src
    · iexact HFS
  iexists _; iexact HW

/-- Trips 2 and 3: a block awaited, its results sent, the results of the trip before awaited. -/
theorem trip_last (hmid : MidOk mid) (hk2 : 2 ≤ k.val) (hk1 : 1 ≤ k.val) (W : Waits sig Unit) :
    (iprop(flI c XA k.val       ∗ freeO c k.val ∗ rawO c k.val ∗ flO c XA (k.val - 1) ∗ freeS c k.val ∗ rawS c k.val ∗ flS c XA (k.val - 1) ∗ owes (c : Thread nD τ) 0 W) : sProp 𝕄)
    ⊢ wp frame (wpE (defs₀ (F := F)) 𝒱₀ (c : Thread nD τ) none) Set.univ (tripAt (F := F) mid k)
      (fun r => iprop(⌜r = accAt (k.val + 1)⌝ ∗ freeI c k.val ∗ homeI c XA k.val
      ∗ flO c XA k.val ∗ doneO c XA (k.val - 1) ∗ freeO c (k.val - 1) ∗ flS c XA k.val ∗ doneS c XA (k.val - 1) ∗ freeS c (k.val - 1) ∗ ∃ W, owes (c : Thread nD τ) 0 W)) := by
  have hc1 := chk1_W k
  have hc2 := chk2_W k
  have hc3 := chk3_W k
  have hc4 := chk4_W k
  have h2 := cond2_neg k hk2
  have h3 := cond3_pos k
  have h7 := cond7_pos k
  have h8 := cond8_pos k
  have h10 := cond10_pos k hk1
  have h11 := cond11_pos k hk1
  iintro ⟨⟨%f0, HI⟩, ⟨⟨%fO, HsO⟩, HcO⟩, ⟨%gO, HrO⟩, ⟨%fO', %gO', %eO', HFO⟩, ⟨⟨%fS, HsS⟩, HcS⟩, ⟨%gS, HrS⟩, ⟨%fS', %gS', %eS', HFS⟩, HW⟩
  dsimp only [tripAt]
  unfold tripOver
  sl_exec
  rw [wp_bind]
  iapply (wp_wand_r Idealize.ShloMosaic.frame (wpE (defs₀ (F := F)) 𝒱₀ (c : Thread nD τ) none) Set.univ)
  isplitl [HI_dst HsO HsS]
  · iapply (hmid c k _ _ _ _ _ _ _ _ _ _ _ _)
    isplitl [HI_dst]; · iexact HI_dst
    isplitl [HsO]; · iexact HsO
    · iexact HsS
  iintro %_ ⟨HI_dst, ⟨%gO1, %eO1, HsO⟩, ⟨%gS1, %eS1, HsS⟩⟩
  sl_exec
  sl_step
  isplitr
  · ipureintro; sl_unfold_words; clear * -; simp only [accAt, Prod.mk.injEq]; revert k; decide
  rw [read_landedI] at eO1 eS1
  isplitl [HI_dst HI]
  · isplitl [HI_dst]
    · iexists _; iexact HI_dst
    · iexact HI
  isplitl [HI_src]; · iexact HI_src
  isplitl [HcO]
  · iexists _; iexists _; isplitr; swap; · iexact HcO
    · ipureintro; exact eO1
  isplitl [HFO_dst]
  · iexists _; isplitr; swap; · iexact HFO_dst
    · ipureintro; rw [read_landedO]; exact eO'
  isplitl [HFO HFO_src]
  · isplitl [HFO_src]
    · iexists _; iexact HFO_src
    · iexact HFO
  isplitl [HcS]
  · iexists _; iexists _; isplitr; swap; · iexact HcS
    · ipureintro; exact eS1
  isplitl [HFS_dst]
  · iexists _; isplitr; swap; · iexact HFS_dst
    · ipureintro; rw [read_landedS]; exact eS'
  isplitl [HFS HFS_src]
  · isplitl [HFS_src]
    · iexists _; iexact HFS_src
    · iexact HFS
  iexists _; iexact HW

end Trip

end Cert.Proof.Attn

end
-- ==== Proof.Loop.lean ====
module

public import proofs.«01_k».proof.Proof.Trip
public import proofs.«01_k».proof.Proof.Gen.KernelIdeal.Loops

@[expose] public section

set_option maxRecDepth 16384

noncomputable section

namespace Cert.Proof.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-! ## The pipeline's four trips

Three input slots and two slots for each result go round. Before trip `n`: the input blocks requested and not yet
awaited are in flight, the others are home; the results of trip `n - 1` are in flight, those before it are delivered. -/

section Loop
variable (c : Dev nD) (XA : Buf (Elt F) (aI.view.loc (c : Thread nD τ)))

/-- What the core holds before each trip. -/
def ringAt : ℕ → sProp 𝕄
  | 0 => iprop(flI c XA 0 ∗ flI c XA 1 ∗ freeI c 2 ∗ homeI c XA 2 ∗ homeI c XA 3
      ∗ freeO c 0 ∗ freeO c 1 ∗ rawO c 0 ∗ rawO c 1 ∗ rawO c 2 ∗ rawO c 3
      ∗ freeS c 0 ∗ freeS c 1 ∗ rawS c 0 ∗ rawS c 1 ∗ rawS c 2 ∗ rawS c 3 ∗ ∃ W, owes (c : Thread nD τ) 0 W)
  | 1 => iprop(flI c XA 1 ∗ flI c XA 2 ∗ freeI c 0 ∗ homeI c XA 3 ∗ homeI c XA 0
      ∗ flO c XA 0 ∗ freeO c 1 ∗ rawO c 1 ∗ rawO c 2 ∗ rawO c 3
      ∗ flS c XA 0 ∗ freeS c 1 ∗ rawS c 1 ∗ rawS c 2 ∗ rawS c 3 ∗ ∃ W, owes (c : Thread nD τ) 0 W)
  | 2 => iprop(flI c XA 2 ∗ flI c XA 3 ∗ freeI c 1 ∗ homeI c XA 0 ∗ homeI c XA 1
      ∗ flO c XA 1 ∗ freeO c 0 ∗ doneO c XA 0 ∗ rawO c 2 ∗ rawO c 3
      ∗ flS c XA 1 ∗ freeS c 0 ∗ doneS c XA 0 ∗ rawS c 2 ∗ rawS c 3 ∗ ∃ W, owes (c : Thread nD τ) 0 W)
  | 3 => iprop(flI c XA 3 ∗ freeI c 1 ∗ freeI c 2 ∗ homeI c XA 0 ∗ homeI c XA 1 ∗ homeI c XA 2
      ∗ flO c XA 2 ∗ freeO c 1 ∗ doneO c XA 0 ∗ doneO c XA 1 ∗ rawO c 3
      ∗ flS c XA 2 ∗ freeS c 1 ∗ doneS c XA 0 ∗ doneS c XA 1 ∗ rawS c 3 ∗ ∃ W, owes (c : Thread nD τ) 0 W)
  | _ => iprop(freeI c 1 ∗ freeI c 2 ∗ freeI c 3 ∗ homeI c XA 0 ∗ homeI c XA 1 ∗ homeI c XA 2 ∗ homeI c XA 3
      ∗ flO c XA 3 ∗ freeO c 2 ∗ doneO c XA 0 ∗ doneO c XA 1 ∗ doneO c XA 2
      ∗ flS c XA 3 ∗ freeS c 2 ∗ doneS c XA 0 ∗ doneS c XA 1 ∗ doneS c XA 2 ∗ ∃ W, owes (c : Thread nD τ) 0 W)

theorem wrapI : freeI (F := F) c 3 = freeI c 0 := rfl
theorem wrapO : freeO (F := F) c 2 = freeO c 0 := rfl
theorem wrapO' : freeO (F := F) c 3 = freeO c 1 := rfl
theorem wrapS : freeS (F := F) c 2 = freeS c 0 := rfl
theorem wrapS' : freeS (F := F) c 3 = freeS c 1 := rfl

theorem ring_step0 (mid : MidTy F) (hmid : MidOk mid) (h : 0 < k0_t1_loop.trips) :
    ringAt c XA 0 ⊢ wp frame (wpE (defs₀ (F := F)) 𝒱₀ (c : Thread nD τ) none) Set.univ (tripAt (F := F) mid ⟨0, h⟩) (fun r => iprop(⌜r = accAt 1⌝ ∗ ringAt c XA 1)) := by
  simp only [ringAt]
  iintro ⟨PIf0, PIf1, PIe2, PIh2, PIh3, POe0, POe1, POr0, POr1, POr2, POr3, PSe0, PSe1, PSr0, PSr1, PSr2, PSr3, %W, HW⟩
  iapply (wp_wand_r Idealize.ShloMosaic.frame (wpE (defs₀ (F := F)) 𝒱₀ (c : Thread nD τ) none) Set.univ)
  isplitl [PIf0 PIe2 PIh2 POe0 POr0 PSe0 PSr0 HW]
  · iapply (trip_first mid c XA ⟨0, h⟩ hmid (show 0 < 2 by decide) rfl W)
    isplitl [PIf0]; · iexact PIf0
    isplitl [PIe2]; · iexact PIe2
    isplitl [PIh2]; · iexact PIh2
    isplitl [POe0]; · iexact POe0
    isplitl [POr0]; · iexact POr0
    isplitl [PSe0]; · iexact PSe0
    isplitl [PSr0]; · iexact PSr0
    iexact HW
  iintro %r ⟨%er, QIf2, QIe0, QIh0, QOf0, QSf0, HW⟩
  isplitr; · ipureintro; exact er
  isplitl [PIf1]; · iexact PIf1
  isplitl [QIf2]; · iexact QIf2
  isplitl [QIe0]; · iexact QIe0
  isplitl [PIh3]; · iexact PIh3
  isplitl [QIh0]; · iexact QIh0
  isplitl [QOf0]; · iexact QOf0
  isplitl [POe1]; · iexact POe1
  isplitl [POr1]; · iexact POr1
  isplitl [POr2]; · iexact POr2
  isplitl [POr3]; · iexact POr3
  isplitl [QSf0]; · iexact QSf0
  isplitl [PSe1]; · iexact PSe1
  isplitl [PSr1]; · iexact PSr1
  isplitl [PSr2]; · iexact PSr2
  isplitl [PSr3]; · iexact PSr3
  iexact HW

theorem ring_step1 (mid : MidTy F) (hmid : MidOk mid) (h : 1 < k0_t1_loop.trips) :
    ringAt c XA 1 ⊢ wp frame (wpE (defs₀ (F := F)) 𝒱₀ (c : Thread nD τ) none) Set.univ (tripAt (F := F) mid ⟨1, h⟩) (fun r => iprop(⌜r = accAt 2⌝ ∗ ringAt c XA 2)) := by
  simp only [ringAt]
  rw [← wrapI]
  iintro ⟨PIf1, PIf2, PIe0, PIh3, PIh0, POf0, POe1, POr1, POr2, POr3, PSf0, PSe1, PSr1, PSr2, PSr3, %W, HW⟩
  iapply (wp_wand_r Idealize.ShloMosaic.frame (wpE (defs₀ (F := F)) 𝒱₀ (c : Thread nD τ) none) Set.univ)
  isplitl [PIf1 PIe0 PIh3 POe1 POr1 POf0 PSe1 PSr1 PSf0 HW]
  · iapply (trip_mid mid c XA ⟨1, h⟩ hmid (show 1 < 2 by decide) (le_refl 1) W)
    isplitl [PIf1]; · iexact PIf1
    isplitl [PIe0]; · iexact PIe0
    isplitl [PIh3]; · iexact PIh3
    isplitl [POe1]; · iexact POe1
    isplitl [POr1]; · iexact POr1
    isplitl [POf0]; · iexact POf0
    isplitl [PSe1]; · iexact PSe1
    isplitl [PSr1]; · iexact PSr1
    isplitl [PSf0]; · iexact PSf0
    iexact HW
  iintro %r ⟨%er, QIf3, QIe1, QIh1, QOf1, QOd0, QOe0, QSf1, QSd0, QSe0, HW⟩
  isplitr; · ipureintro; exact er
  isplitl [PIf2]; · iexact PIf2
  isplitl [QIf3]; · iexact QIf3
  isplitl [QIe1]; · iexact QIe1
  isplitl [PIh0]; · iexact PIh0
  isplitl [QIh1]; · iexact QIh1
  isplitl [QOf1]; · iexact QOf1
  isplitl [QOe0]; · iexact QOe0
  isplitl [QOd0]; · iexact QOd0
  isplitl [POr2]; · iexact POr2
  isplitl [POr3]; · iexact POr3
  isplitl [QSf1]; · iexact QSf1
  isplitl [QSe0]; · iexact QSe0
  isplitl [QSd0]; · iexact QSd0
  isplitl [PSr2]; · iexact PSr2
  isplitl [PSr3]; · iexact PSr3
  iexact HW

theorem ring_step2 (mid : MidTy F) (hmid : MidOk mid) (h : 2 < k0_t1_loop.trips) :
    ringAt c XA 2 ⊢ wp frame (wpE (defs₀ (F := F)) 𝒱₀ (c : Thread nD τ) none) Set.univ (tripAt (F := F) mid ⟨2, h⟩) (fun r => iprop(⌜r = accAt 3⌝ ∗ ringAt c XA 3)) := by
  simp only [ringAt]
  rw [← wrapO, ← wrapS]
  iintro ⟨PIf2, PIf3, PIe1, PIh0, PIh1, POf1, POe0, POd0, POr2, POr3, PSf1, PSe0, PSd0, PSr2, PSr3, %W, HW⟩
  iapply (wp_wand_r Idealize.ShloMosaic.frame (wpE (defs₀ (F := F)) 𝒱₀ (c : Thread nD τ) none) Set.univ)
  isplitl [PIf2 POe0 POr2 POf1 PSe0 PSr2 PSf1 HW]
  · iapply (trip_last mid c XA ⟨2, h⟩ hmid (le_refl 2) (show 1 ≤ 2 by decide) W)
    isplitl [PIf2]; · iexact PIf2
    isplitl [POe0]; · iexact POe0
    isplitl [POr2]; · iexact POr2
    isplitl [POf1]; · iexact POf1
    isplitl [PSe0]; · iexact PSe0
    isplitl [PSr2]; · iexact PSr2
    isplitl [PSf1]; · iexact PSf1
    iexact HW
  iintro %r ⟨%er, QIe2, QIh2, QOf2, QOd1, QOe1, QSf2, QSd1, QSe1, HW⟩
  isplitr; · ipureintro; exact er
  isplitl [PIf3]; · iexact PIf3
  isplitl [PIe1]; · iexact PIe1
  isplitl [QIe2]; · iexact QIe2
  isplitl [PIh0]; · iexact PIh0
  isplitl [PIh1]; · iexact PIh1
  isplitl [QIh2]; · iexact QIh2
  isplitl [QOf2]; · iexact QOf2
  isplitl [QOe1]; · iexact QOe1
  isplitl [POd0]; · iexact POd0
  isplitl [QOd1]; · iexact QOd1
  isplitl [POr3]; · iexact POr3
  isplitl [QSf2]; · iexact QSf2
  isplitl [QSe1]; · iexact QSe1
  isplitl [PSd0]; · iexact PSd0
  isplitl [QSd1]; · iexact QSd1
  isplitl [PSr3]; · iexact PSr3
  iexact HW

theorem ring_step3 (mid : MidTy F) (hmid : MidOk mid) (h : 3 < k0_t1_loop.trips) :
    ringAt c XA 3 ⊢ wp frame (wpE (defs₀ (F := F)) 𝒱₀ (c : Thread nD τ) none) Set.univ (tripAt (F := F) mid ⟨3, h⟩) (fun r => iprop(⌜r = accAt 4⌝ ∗ ringAt c XA 4)) := by
  simp only [ringAt]
  rw [← wrapO', ← wrapS']
  iintro ⟨PIf3, PIe1, PIe2, PIh0, PIh1, PIh2, POf2, POe1, POd0, POd1, POr3, PSf2, PSe1, PSd0, PSd1, PSr3, %W, HW⟩
  iapply (wp_wand_r Idealize.ShloMosaic.frame (wpE (defs₀ (F := F)) 𝒱₀ (c : Thread nD τ) none) Set.univ)
  isplitl [PIf3 POe1 POr3 POf2 PSe1 PSr3 PSf2 HW]
  · iapply (trip_last mid c XA ⟨3, h⟩ hmid (show 2 ≤ 3 by decide) (show 1 ≤ 3 by decide) W)
    isplitl [PIf3]; · iexact PIf3
    isplitl [POe1]; · iexact POe1
    isplitl [POr3]; · iexact POr3
    isplitl [POf2]; · iexact POf2
    isplitl [PSe1]; · iexact PSe1
    isplitl [PSr3]; · iexact PSr3
    isplitl [PSf2]; · iexact PSf2
    iexact HW
  iintro %r ⟨%er, QIe3, QIh3, QOf3, QOd2, QOe2, QSf3, QSd2, QSe2, HW⟩
  isplitr; · ipureintro; exact er
  isplitl [PIe1]; · iexact PIe1
  isplitl [PIe2]; · iexact PIe2
  isplitl [QIe3]; · iexact QIe3
  isplitl [PIh0]; · iexact PIh0
  isplitl [PIh1]; · iexact PIh1
  isplitl [PIh2]; · iexact PIh2
  isplitl [QIh3]; · iexact QIh3
  isplitl [QOf3]; · iexact QOf3
  isplitl [QOe2]; · iexact QOe2
  isplitl [POd0]; · iexact POd0
  isplitl [POd1]; · iexact POd1
  isplitl [QOd2]; · iexact QOd2
  isplitl [QSf3]; · iexact QSf3
  isplitl [QSe2]; · iexact QSe2
  isplitl [PSd0]; · iexact PSd0
  isplitl [PSd1]; · iexact PSd1
  isplitl [QSd2]; · iexact QSd2
  iexact HW

theorem ring_step (k : Fin k0_t1_loop.trips) (mid : MidTy F) (hmid : MidOk mid) :
    ringAt c XA k.val ⊢ wp frame (wpE (defs₀ (F := F)) 𝒱₀ (c : Thread nD τ) none) Set.univ (tripAt (F := F) mid k) (fun r => iprop(⌜r = accAt (k.val + 1)⌝ ∗ ringAt c XA (k.val + 1))) := by
  obtain ⟨k, h⟩ := k
  match k, h with
  | 0, h => exact ring_step0 c XA mid hmid h
  | 1, h => exact ring_step1 c XA mid hmid h
  | 2, h => exact ring_step2 c XA mid hmid h
  | 3, h => exact ring_step3 c XA mid hmid h
  | n + 4, h => exact absurd h (by rw [trips_eq]; omega)

set_option warn.classDefReducibility false in
/-- The loop goes by what the core holds before each trip. -/
@[sl_loop] def ringInv (v16 v23 : BitVec 32) (v26 : BitVec 1) (c1 : BitVec 32) (init : BitVec 32 × BitVec 32 × BitVec 32 × BitVec 32 × BitVec 32 × BitVec 32 × BitVec 32 × BitVec 32) :
    LoopInvTy_k0_t1 (F := F) Unit ℕ (UU nD τ) ℕ 𝒱₀ c none Set.univ aI hI aO hO aS hS rI hrI semI rO hrO semO rS hrS semS v16 v23 v26 c1 init where
  inv k acc := iprop(⌜acc = accAt k⌝ ∗ ringAt c XA k)
  step k acc := by
    iintro ⟨%e, H⟩
    subst e
    rw [show accAt k.val = (W4 k.val, W5 k.val, W5 k.val, W7 k.val, W5 k.val, W7 k.val, W10 k.val, 0#32) from rfl, body_eq, trip_over]
    iapply (ring_step c XA k midProg mid_ok)
    iexact H

/-- What the last trip leaves besides its own results' transfers. -/
@[irreducible] def ringRest : sProp 𝕄 :=
  iprop((freeI c 1 ∗ freeI c 2 ∗ freeI c 3) ∗ (homeI c XA 0 ∗ homeI c XA 1 ∗ homeI c XA 2 ∗ homeI c XA 3)
    ∗ freeO c 2 ∗ (doneO c XA 0 ∗ doneO c XA 1 ∗ doneO c XA 2) ∗ freeS c 2 ∗ (doneS c XA 0 ∗ doneS c XA 1 ∗ doneS c XA 2))

set_option warn.classDefReducibility false in
/-- After the loop the last trip's two transfers are awaited; the rest is kept together. -/
instance ringExit (v16 v23 : BitVec 32) (v26 : BitVec 1) (c1 : BitVec 32) (init : BitVec 32 × BitVec 32 × BitVec 32 × BitVec 32 × BitVec 32 × BitVec 32 × BitVec 32 × BitVec 32) :
    LoopExit (ringInv (F := F) c XA v16 v23 v26 c1 init) where
  post acc := iprop(⌜acc = accAt k0_t1_loop.trips⌝ ∗ flO c XA 3 ∗ flS c XA 3 ∗ ringRest c XA ∗ ∃ W, owes (c : Thread nD τ) 0 W)
  exit acc := by
    show iprop(⌜acc = accAt k0_t1_loop.trips⌝ ∗ ringAt c XA k0_t1_loop.trips) ⊢ _
    unfold ringRest
    rw [show ringAt c XA k0_t1_loop.trips = ringAt c XA 4 from congrArg _ trips_eq]
    simp only [ringAt]
    iintro ⟨%e, I1, I2, I3, B0, B1, B2, B3, FO, O2, D0, D1, D2, FS, S2, E0, E1, E2, HW⟩
    isplitr; · ipureintro; exact e
    isplitl [FO]; · iexact FO
    isplitl [FS]; · iexact FS
    isplitr [HW]; swap; · iexact HW
    isplitl [I1 I2 I3]
    · isplitl [I1]; · iexact I1
      isplitl [I2]; · iexact I2
      iexact I3
    isplitl [B0 B1 B2 B3]
    · isplitl [B0]; · iexact B0
      isplitl [B1]; · iexact B1
      isplitl [B2]; · iexact B2
      iexact B3
    isplitl [O2]; · iexact O2
    isplitl [D0 D1 D2]
    · isplitl [D0]; · iexact D0
      isplitl [D1]; · iexact D1
      iexact D2
    isplitl [S2]; · iexact S2
    isplitl [E0]; · iexact E0
    isplitl [E1]; · iexact E1
    iexact E2

theorem ringRest_out : ringRest c XA ⊢ iprop((freeI c 1 ∗ freeI c 2 ∗ freeI c 3) ∗ (homeI c XA 0 ∗ homeI c XA 1 ∗ homeI c XA 2 ∗ homeI c XA 3)
    ∗ freeO c 2 ∗ (doneO c XA 0 ∗ doneO c XA 1 ∗ doneO c XA 2) ∗ freeS c 2 ∗ (doneS c XA 0 ∗ doneS c XA 1 ∗ doneS c XA 2)) := by
  unfold ringRest
  iintro H; iexact H

end Loop

end Cert.Proof.Attn

end
-- ==== Proof.Attn.lean ====
module

public import proofs.«01_k».proof.Proof.Loop

@[expose] public section

set_option maxRecDepth 16384

noncomputable section

namespace Cert.Proof.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-! ## The kernel's body -/

section Body
variable (c : Dev nD) (XA : Buf (Elt F) (aI.view.loc (c : Thread nD τ)))

/-- What the body is handed: the slots free, the input's blocks, the results' blocks at anything. -/
abbrev bodyPre (W : Waits sig Unit) : sProp 𝕄 :=
  iprop((freeI c 0 ∗ freeI c 1 ∗ freeI c 2) ∗ (homeI c XA 0 ∗ homeI c XA 1 ∗ homeI c XA 2 ∗ homeI c XA 3)
    ∗ (freeO c 0 ∗ freeO c 1) ∗ (rawO c 0 ∗ rawO c 1 ∗ rawO c 2 ∗ rawO c 3)
    ∗ (freeS c 0 ∗ freeS c 1) ∗ (rawS c 0 ∗ rawS c 1 ∗ rawS c 2 ∗ rawS c 3) ∗ owes (c : Thread nD τ) 0 W)
/-- What it hands back: the same, each block of the results holding the attention of the input's block. -/
abbrev bodyPost : sProp 𝕄 :=
  iprop((freeI c 1 ∗ freeI c 2 ∗ freeI c 3) ∗ (homeI c XA 0 ∗ homeI c XA 1 ∗ homeI c XA 2 ∗ homeI c XA 3)
    ∗ (freeO c 2 ∗ freeO c 3) ∗ (doneO c XA 0 ∗ doneO c XA 1 ∗ doneO c XA 2 ∗ doneO c XA 3)
    ∗ (freeS c 2 ∗ freeS c 3) ∗ (doneS c XA 0 ∗ doneS c XA 1 ∗ doneS c XA 2 ∗ doneS c XA 3) ∗ ∃ W, owes (c : Thread nD τ) 0 W)

theorem body_run (W : Waits sig Unit) :
    bodyPre c XA W ⊢ wp frame (wpE (defs₀ (F := F)) 𝒱₀ (c : Thread nD τ) none) Set.univ
      (cc0_attention_g2 (F := F) aI hI aO hO aS hS rI hrI semI rO hrO semO rS hrS semS) (fun _ => bodyPost c XA) := by
  iintro ⟨HI, ⟨B0, B1, B2, B3⟩, HO, HR, HS, HT, HW⟩
  icases HI with ⟨I0, I1, I2⟩
  icases I0 with ⟨I0, Ic0⟩
  icases I0 with ⟨%f0, I0⟩
  icases I1 with ⟨I1, Ic1⟩
  icases I1 with ⟨%f1, I1⟩
  icases I2 with ⟨I2, Ic2⟩
  icases I2 with ⟨%f2, I2⟩
  icases HO with ⟨O0, O1⟩
  icases O0 with ⟨O0, Oc0⟩
  icases O0 with ⟨%fO0, O0⟩
  icases O1 with ⟨O1, Oc1⟩
  icases O1 with ⟨%fO1, O1⟩
  icases HR with ⟨R0, R1, R2, R3⟩
  icases R0 with ⟨%gR0, R0⟩
  icases R1 with ⟨%gR1, R1⟩
  icases R2 with ⟨%gR2, R2⟩
  icases R3 with ⟨%gR3, R3⟩
  icases HS with ⟨S0, S1⟩
  icases S0 with ⟨S0, Sc0⟩
  icases S0 with ⟨%fS0, S0⟩
  icases S1 with ⟨S1, Sc1⟩
  icases S1 with ⟨%fS1, S1⟩
  icases HT with ⟨T0, T1, T2, T3⟩
  icases T0 with ⟨%gT0, T0⟩
  icases T1 with ⟨%gT1, T1⟩
  icases T2 with ⟨%gT2, T2⟩
  icases T3 with ⟨%gT3, T3⟩
  have hc1 : k0_cond1 = 1#1 := by decide
  sl_exec
  sl_step
  ihave HL5 := (ringRest_out c XA) $$ [HL5]
  · iexact HL5
  icases HL5 with ⟨HI, HB, HO2, ⟨D0, D1, D2⟩, HS2, ⟨E0, E1, E2⟩⟩
  isplitl [HI]; · iexact HI
  isplitl [HB]; · iexact HB
  isplitl [HO2 HL2 HL2_src]
  · isplitl [HO2]; · iexact HO2
    isplitl [HL2_src]
    · iexists _; iexact HL2_src
    · iexact HL2
  isplitl [D0 D1 D2 HL2_dst]
  · isplitl [D0]; · iexact D0
    isplitl [D1]; · iexact D1
    isplitl [D2]; · iexact D2
    iexists _; isplitr; swap; · iexact HL2_dst
    ipureintro; rw [read_landedO]; exact hL1
  isplitl [HS2 HL4 HL4_src]
  · isplitl [HS2]; · iexact HS2
    isplitl [HL4_src]
    · iexists _; iexact HL4_src
    · iexact HL4
  isplitl [E0 E1 E2 HL4_dst]
  · isplitl [E0]; · iexact E0
    isplitl [E1]; · iexact E1
    isplitl [E2]; · iexact E2
    iexists _; isplitr; swap; · iexact HL4_dst
    ipureintro; rw [read_landedS]; exact hL3
  iexists _; iexact HL6

end Body

end Cert.Proof.Attn

end
-- ==== Proof.Run.lean ====
module

public import proofs.«01_k».proof.Proof.Attn
public import proofs.«01_k».proof.Proof.Gen.KernelIdeal.Launch
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.Tactic

@[expose] public section

set_option maxRecDepth 16384

noncomputable section

namespace Cert.Proof.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! # The launch: the whole arrays as blocks, the scratch as slots, and the run of `main` -/

omit [FloatOps F] in
theorem entails_of_eq {P Q : sProp 𝕄} (e : P = Q) : P ⊢ Q := e ▸ .rfl

theorem bigSep_four (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ

theorem lead_zero {k : ℕ} : ∀ (b : ℕ) (a : Fin 4), a ≠ 0 → (![b % k, 0, 0, 0] : Fin 4 → ℕ) a = 0 := by
  intro b a h
  match a, h with
  | ⟨1, _⟩, _ => rfl
  | ⟨2, _⟩, _ => rfl
  | ⟨3, _⟩, _ => rfl

/-- The elements of block `b`. -/
abbrev blkI (b : Fin 4) : Finset S4x16x256x1536.Idx := (Rect.unit (s := S4x16x256x1536) ![b.val % 4, 0, 0, 0] S1x16x256x1536.size (inbBI b.val)).set
theorem blkI_disjoint : ∀ b b' : Fin 4, b ≠ b' → Disjoint (blkI b) (blkI b') := fun b b' h =>
  Ring.lead_disjoint (s := S4x16x256x1536) (NB := 4) (0 : Fin 4) 1 (fun b => ![b.val % 4, 0, 0, 0]) S1x16x256x1536.size (fun b => inbBI b.val)
    (fun b => (Nat.mod_eq_of_lt b.isLt).trans (Nat.one_mul _).symm) rfl b b' h
theorem blkI_cover : (Finset.univ : Finset (Fin 4)).biUnion blkI = Finset.univ :=
  Ring.lead_cover (s := S4x16x256x1536) (NB := 4) (0 : Fin 4) 1 (fun b => ![b.val % 4, 0, 0, 0]) S1x16x256x1536.size (fun b => inbBI b.val)
    (fun b => (Nat.mod_eq_of_lt b.isLt).trans (Nat.one_mul _).symm) (fun b => lead_zero b.val) rfl
    (fun a h => by match a, h with | ⟨1, _⟩, _ => rfl | ⟨2, _⟩, _ => rfl | ⟨3, _⟩, _ => rfl) rfl
/-- The elements of slot `b`. -/
abbrev sltI (b : Fin 3) : Finset S3x16x256x1536.Idx := (Rect.unit (s := S3x16x256x1536) ![b.val % 3, 0, 0, 0] S1x16x256x1536.size (inbI b.val)).set
theorem sltI_disjoint : ∀ b b' : Fin 3, b ≠ b' → Disjoint (sltI b) (sltI b') := fun b b' h =>
  Ring.lead_disjoint (s := S3x16x256x1536) (NB := 3) (0 : Fin 4) 1 (fun b => ![b.val % 3, 0, 0, 0]) S1x16x256x1536.size (fun b => inbI b.val)
    (fun b => (Nat.mod_eq_of_lt b.isLt).trans (Nat.one_mul _).symm) rfl b b' h
theorem sltI_cover : (Finset.univ : Finset (Fin 3)).biUnion sltI = Finset.univ :=
  Ring.lead_cover (s := S3x16x256x1536) (NB := 3) (0 : Fin 4) 1 (fun b => ![b.val % 3, 0, 0, 0]) S1x16x256x1536.size (fun b => inbI b.val)
    (fun b => (Nat.mod_eq_of_lt b.isLt).trans (Nat.one_mul _).symm) (fun b => lead_zero b.val) rfl
    (fun a h => by match a, h with | ⟨1, _⟩, _ => rfl | ⟨2, _⟩, _ => rfl | ⟨3, _⟩, _ => rfl) rfl
theorem bkI_set (b : Fin 4) : (bkI b.val).view.set = blkI b := (View.set_reshape _ _).trans (View.set_slice_whole _ _)
theorem slI_set (b : Fin 3) : (slI b.val).view.set = sltI b := (View.set_reshape _ _).trans (View.set_slice_whole _ _)

theorem I_blocks (c : Dev nD) (f : Buf (Elt F) ((c : Thread nD τ).loc main_arg0)) :
    (((c : Thread nD τ).loc main_arg0) ↦{fullShare} f : sProp 𝕄)
      = iprop(homeI c f 0 ∗ homeI c f 1 ∗ homeI c f 2 ∗ homeI c f 3) := by
  rw [Ring.pointsTo_blocks (ℓ := (c : Thread nD τ).loc main_arg0) blkI blkI_disjoint blkI_cover, bigSep_four, ← bkI_set, ← bkI_set, ← bkI_set, ← bkI_set]
  rfl
theorem slotI_eq (c : Dev nD) (b : Fin 3) (f) : slotI c b.val f = (((c : Thread nD τ).loc cc0_scoped0) ↦[sltI b]{fullShare} f : sProp 𝕄) :=
  congrArg (fun S => (_ ↦[S]{fullShare} f : sProp 𝕄)) (slI_set b)
theorem scrI_split (c : Dev nD) :
    iprop(∃ f : Buf (Elt F) ((c : Thread nD τ).loc cc0_scoped0), ((c : Thread nD τ).loc cc0_scoped0) ↦{fullShare} f)
      ⊢ (iprop((∃ f, slotI c 0 f) ∗ (∃ f, slotI c 1 f) ∗ (∃ f, slotI c 2 f)) : sProp 𝕄) :=
  Ring.slots3_split (ℓ := (c : Thread nD τ).loc cc0_scoped0) sltI sltI_disjoint sltI_cover (fun f => slotI c 0 f) (fun f => slotI c 1 f) (fun f => slotI c 2 f) (fun f => slotI_eq c 0 f) (fun f => slotI_eq c 1 f) (fun f => slotI_eq c 2 f)
theorem scrI_join (c : Dev nD) :
    iprop((∃ f, slotI c 0 f) ∗ (∃ f, slotI c 1 f) ∗ (∃ f, slotI c 2 f))
      ⊢ (iprop(∃ f : Buf (Elt F) ((c : Thread nD τ).loc cc0_scoped0), ((c : Thread nD τ).loc cc0_scoped0) ↦{fullShare} f) : sProp 𝕄) :=
  Ring.slots3_join (ℓ := (c : Thread nD τ).loc cc0_scoped0) sltI sltI_disjoint sltI_cover (fun f => slotI c 0 f) (fun f => slotI c 1 f) (fun f => slotI c 2 f) (fun f => slotI_eq c 0 f) (fun f => slotI_eq c 1 f) (fun f => slotI_eq c 2 f)

/-- The elements of block `b`. -/
abbrev blkO (b : Fin 4) : Finset S4x16x256x512.Idx := (Rect.unit (s := S4x16x256x512) ![b.val % 4, 0, 0, 0] S1x16x256x512.size (inbBO b.val)).set
theorem blkO_disjoint : ∀ b b' : Fin 4, b ≠ b' → Disjoint (blkO b) (blkO b') := fun b b' h =>
  Ring.lead_disjoint (s := S4x16x256x512) (NB := 4) (0 : Fin 4) 1 (fun b => ![b.val % 4, 0, 0, 0]) S1x16x256x512.size (fun b => inbBO b.val)
    (fun b => (Nat.mod_eq_of_lt b.isLt).trans (Nat.one_mul _).symm) rfl b b' h
theorem blkO_cover : (Finset.univ : Finset (Fin 4)).biUnion blkO = Finset.univ :=
  Ring.lead_cover (s := S4x16x256x512) (NB := 4) (0 : Fin 4) 1 (fun b => ![b.val % 4, 0, 0, 0]) S1x16x256x512.size (fun b => inbBO b.val)
    (fun b => (Nat.mod_eq_of_lt b.isLt).trans (Nat.one_mul _).symm) (fun b => lead_zero b.val) rfl
    (fun a h => by match a, h with | ⟨1, _⟩, _ => rfl | ⟨2, _⟩, _ => rfl | ⟨3, _⟩, _ => rfl) rfl
/-- The elements of slot `b`. -/
abbrev sltO (b : Fin 2) : Finset S2x16x256x512.Idx := (Rect.unit (s := S2x16x256x512) ![b.val % 2, 0, 0, 0] S1x16x256x512.size (inbO b.val)).set
theorem sltO_disjoint : ∀ b b' : Fin 2, b ≠ b' → Disjoint (sltO b) (sltO b') := fun b b' h =>
  Ring.lead_disjoint (s := S2x16x256x512) (NB := 2) (0 : Fin 4) 1 (fun b => ![b.val % 2, 0, 0, 0]) S1x16x256x512.size (fun b => inbO b.val)
    (fun b => (Nat.mod_eq_of_lt b.isLt).trans (Nat.one_mul _).symm) rfl b b' h
theorem sltO_cover : (Finset.univ : Finset (Fin 2)).biUnion sltO = Finset.univ :=
  Ring.lead_cover (s := S2x16x256x512) (NB := 2) (0 : Fin 4) 1 (fun b => ![b.val % 2, 0, 0, 0]) S1x16x256x512.size (fun b => inbO b.val)
    (fun b => (Nat.mod_eq_of_lt b.isLt).trans (Nat.one_mul _).symm) (fun b => lead_zero b.val) rfl
    (fun a h => by match a, h with | ⟨1, _⟩, _ => rfl | ⟨2, _⟩, _ => rfl | ⟨3, _⟩, _ => rfl) rfl
theorem bkO_set (b : Fin 4) : (bkO b.val).view.set = blkO b := (View.set_reshape _ _).trans (View.set_slice_whole _ _)
theorem slO_set (b : Fin 2) : (slO b.val).view.set = sltO b := (View.set_reshape _ _).trans (View.set_slice_whole _ _)

theorem O_blocks (c : Dev nD) (f : Buf (Elt F) ((c : Thread nD τ).loc main_v0_0)) :
    (((c : Thread nD τ).loc main_v0_0) ↦{fullShare} f : sProp 𝕄)
      = iprop(homeO c 0 f ∗ homeO c 1 f ∗ homeO c 2 f ∗ homeO c 3 f) := by
  rw [Ring.pointsTo_blocks (ℓ := (c : Thread nD τ).loc main_v0_0) blkO blkO_disjoint blkO_cover, bigSep_four, ← bkO_set, ← bkO_set, ← bkO_set, ← bkO_set]
  rfl
theorem slotO_eq (c : Dev nD) (b : Fin 2) (f) : slotO c b.val f = (((c : Thread nD τ).loc cc0_scoped2) ↦[sltO b]{fullShare} f : sProp 𝕄) :=
  congrArg (fun S => (_ ↦[S]{fullShare} f : sProp 𝕄)) (slO_set b)
theorem scrO_split (c : Dev nD) :
    iprop(∃ f : Buf (Elt F) ((c : Thread nD τ).loc cc0_scoped2), ((c : Thread nD τ).loc cc0_scoped2) ↦{fullShare} f)
      ⊢ (iprop((∃ f, slotO c 0 f) ∗ (∃ f, slotO c 1 f)) : sProp 𝕄) :=
  Ring.slots2_split (ℓ := (c : Thread nD τ).loc cc0_scoped2) sltO sltO_disjoint sltO_cover (fun f => slotO c 0 f) (fun f => slotO c 1 f) (fun f => slotO_eq c 0 f) (fun f => slotO_eq c 1 f)
theorem scrO_join (c : Dev nD) :
    iprop((∃ f, slotO c 0 f) ∗ (∃ f, slotO c 1 f))
      ⊢ (iprop(∃ f : Buf (Elt F) ((c : Thread nD τ).loc cc0_scoped2), ((c : Thread nD τ).loc cc0_scoped2) ↦{fullShare} f) : sProp 𝕄) :=
  Ring.slots2_join (ℓ := (c : Thread nD τ).loc cc0_scoped2) sltO sltO_disjoint sltO_cover (fun f => slotO c 0 f) (fun f => slotO c 1 f) (fun f => slotO_eq c 0 f) (fun f => slotO_eq c 1 f)

/-- The elements of block `b`. -/
abbrev blkS (b : Fin 4) : Finset S4x16x256x128.Idx := (Rect.unit (s := S4x16x256x128) ![b.val % 4, 0, 0, 0] S1x16x256x128.size (inbBS b.val)).set
theorem blkS_disjoint : ∀ b b' : Fin 4, b ≠ b' → Disjoint (blkS b) (blkS b') := fun b b' h =>
  Ring.lead_disjoint (s := S4x16x256x128) (NB := 4) (0 : Fin 4) 1 (fun b => ![b.val % 4, 0, 0, 0]) S1x16x256x128.size (fun b => inbBS b.val)
    (fun b => (Nat.mod_eq_of_lt b.isLt).trans (Nat.one_mul _).symm) rfl b b' h
theorem blkS_cover : (Finset.univ : Finset (Fin 4)).biUnion blkS = Finset.univ :=
  Ring.lead_cover (s := S4x16x256x128) (NB := 4) (0 : Fin 4) 1 (fun b => ![b.val % 4, 0, 0, 0]) S1x16x256x128.size (fun b => inbBS b.val)
    (fun b => (Nat.mod_eq_of_lt b.isLt).trans (Nat.one_mul _).symm) (fun b => lead_zero b.val) rfl
    (fun a h => by match a, h with | ⟨1, _⟩, _ => rfl | ⟨2, _⟩, _ => rfl | ⟨3, _⟩, _ => rfl) rfl
/-- The elements of slot `b`. -/
abbrev sltS (b : Fin 2) : Finset S2x16x256x128.Idx := (Rect.unit (s := S2x16x256x128) ![b.val % 2, 0, 0, 0] S1x16x256x128.size (inbS b.val)).set
theorem sltS_disjoint : ∀ b b' : Fin 2, b ≠ b' → Disjoint (sltS b) (sltS b') := fun b b' h =>
  Ring.lead_disjoint (s := S2x16x256x128) (NB := 2) (0 : Fin 4) 1 (fun b => ![b.val % 2, 0, 0, 0]) S1x16x256x128.size (fun b => inbS b.val)
    (fun b => (Nat.mod_eq_of_lt b.isLt).trans (Nat.one_mul _).symm) rfl b b' h
theorem sltS_cover : (Finset.univ : Finset (Fin 2)).biUnion sltS = Finset.univ :=
  Ring.lead_cover (s := S2x16x256x128) (NB := 2) (0 : Fin 4) 1 (fun b => ![b.val % 2, 0, 0, 0]) S1x16x256x128.size (fun b => inbS b.val)
    (fun b => (Nat.mod_eq_of_lt b.isLt).trans (Nat.one_mul _).symm) (fun b => lead_zero b.val) rfl
    (fun a h => by match a, h with | ⟨1, _⟩, _ => rfl | ⟨2, _⟩, _ => rfl | ⟨3, _⟩, _ => rfl) rfl
theorem bkS_set (b : Fin 4) : (bkS b.val).view.set = blkS b := (View.set_reshape _ _).trans (View.set_slice_whole _ _)
theorem slS_set (b : Fin 2) : (slS b.val).view.set = sltS b := (View.set_reshape _ _).trans (View.set_slice_whole _ _)

theorem S_blocks (c : Dev nD) (f : Buf (Elt F) ((c : Thread nD τ).loc main_v0_1)) :
    (((c : Thread nD τ).loc main_v0_1) ↦{fullShare} f : sProp 𝕄)
      = iprop(homeS c 0 f ∗ homeS c 1 f ∗ homeS c 2 f ∗ homeS c 3 f) := by
  rw [Ring.pointsTo_blocks (ℓ := (c : Thread nD τ).loc main_v0_1) blkS blkS_disjoint blkS_cover, bigSep_four, ← bkS_set, ← bkS_set, ← bkS_set, ← bkS_set]
  rfl
theorem slotS_eq (c : Dev nD) (b : Fin 2) (f) : slotS c b.val f = (((c : Thread nD τ).loc cc0_scoped4) ↦[sltS b]{fullShare} f : sProp 𝕄) :=
  congrArg (fun S => (_ ↦[S]{fullShare} f : sProp 𝕄)) (slS_set b)
theorem scrS_split (c : Dev nD) :
    iprop(∃ f : Buf (Elt F) ((c : Thread nD τ).loc cc0_scoped4), ((c : Thread nD τ).loc cc0_scoped4) ↦{fullShare} f)
      ⊢ (iprop((∃ f, slotS c 0 f) ∗ (∃ f, slotS c 1 f)) : sProp 𝕄) :=
  Ring.slots2_split (ℓ := (c : Thread nD τ).loc cc0_scoped4) sltS sltS_disjoint sltS_cover (fun f => slotS c 0 f) (fun f => slotS c 1 f) (fun f => slotS_eq c 0 f) (fun f => slotS_eq c 1 f)
theorem scrS_join (c : Dev nD) :
    iprop((∃ f, slotS c 0 f) ∗ (∃ f, slotS c 1 f))
      ⊢ (iprop(∃ f : Buf (Elt F) ((c : Thread nD τ).loc cc0_scoped4), ((c : Thread nD τ).loc cc0_scoped4) ↦{fullShare} f) : sProp 𝕄) :=
  Ring.slots2_join (ℓ := (c : Thread nD τ).loc cc0_scoped4) sltS sltS_disjoint sltS_cover (fun f => slotS c 0 f) (fun f => slotS c 1 f) (fun f => slotS_eq c 0 f) (fun f => slotS_eq c 1 f)

/-- The values the call leaves: block by block, of the input's block. -/
def outO (c : Dev nD) (XA : Buf (Elt F) (aI.view.loc (c : Thread nD τ))) : Buf (Elt F) ((c : Thread nD τ).loc main_v0_0) :=
  fun y : S4x16x256x512.Idx => attO (blkV c XA (y 0).val) (ix3 (y 1) (y 2) (y 3))
theorem bkO_pos (n : ℕ) (z : S16x256x512.Idx) : (bkO n).view.emb z
    = ((Rect.unit (s := S4x16x256x512) ![n % 4, 0, 0, 0] S1x16x256x512.size (inbBO n)).emb (ix4 (0 : Fin 1) (z 0) (z 1) (z 2)) : S4x16x256x512.Idx) := by
  show (Rect.unit (s := S4x16x256x512) ![n % 4, 0, 0, 0] S1x16x256x512.size (inbBO n)).emb (Shape.reshapeEquiv _ z) = _
  congr 1
  refine (Shape.reshapeEquiv_cons_one (d := S16x256x512.size) _ z).trans ?_
  funext a
  match a with | ⟨0, _⟩ => rfl | ⟨1, _⟩ => rfl | ⟨2, _⟩ => rfl | ⟨3, _⟩ => rfl
theorem bkO_coord (n : ℕ) (hn : n < 4) (z : S16x256x512.Idx) : (bkO n).view.emb z = (ix4 (⟨n, hn⟩ : Fin 4) (z 0) (z 1) (z 2) : S4x16x256x512.Idx) := by
  rw [bkO_pos]
  funext a
  apply Fin.ext
  rw [Rect.emb_apply]
  match a with
  | ⟨0, _⟩ => show n % 4 + 1 * 0 = n; omega
  | ⟨1, _⟩ => show 0 + 1 * (z 0).val = (z 0).val; omega
  | ⟨2, _⟩ => show 0 + 1 * (z 1).val = (z 1).val; omega
  | ⟨3, _⟩ => show 0 + 1 * (z 2).val = (z 2).val; omega
theorem read_outO (c : Dev nD) (XA) (n : ℕ) (hn : n < 4) : (bkO n).view.read (Elt F) (outO c XA) = attO (blkV c XA n) := by
  funext z
  show outO c XA ((bkO n).view.emb z) = _
  rw [bkO_coord n hn z]
  show attO (blkV c XA n) (ix3 (z 0) (z 1) (z 2)) = _
  congr 1
  funext a
  match a with | ⟨0, _⟩ => rfl | ⟨1, _⟩ => rfl | ⟨2, _⟩ => rfl
theorem doneO_out (c : Dev nD) (XA) (n : ℕ) (hn : n < 4) : doneO c XA n ⊢ (homeO c n (outO c XA) : sProp 𝕄) := by
  iintro ⟨%g, %hg, H⟩
  have e : homeO c n g = (homeO c n (outO c XA) : sProp 𝕄) := pointsTo_congr (fun i hi => by
    obtain ⟨z, -, rfl⟩ := Finset.mem_map.mp hi
    exact congrFun (hg.trans (read_outO c XA n hn).symm) z)
  iapply (entails_of_eq e); iexact H
/-- The maxima and sums the call leaves: block by block, of the input's block. -/
def outS (c : Dev nD) (XA : Buf (Elt F) (aI.view.loc (c : Thread nD τ))) : Buf (Elt F) ((c : Thread nD τ).loc main_v0_1) :=
  fun y : S4x16x256x128.Idx => attS (blkV c XA (y 0).val) (ix3 (y 1) (y 2) (y 3))
theorem bkS_pos (n : ℕ) (z : S16x256x128.Idx) : (bkS n).view.emb z
    = ((Rect.unit (s := S4x16x256x128) ![n % 4, 0, 0, 0] S1x16x256x128.size (inbBS n)).emb (ix4 (0 : Fin 1) (z 0) (z 1) (z 2)) : S4x16x256x128.Idx) := by
  show (Rect.unit (s := S4x16x256x128) ![n % 4, 0, 0, 0] S1x16x256x128.size (inbBS n)).emb (Shape.reshapeEquiv _ z) = _
  congr 1
  refine (Shape.reshapeEquiv_cons_one (d := S16x256x128.size) _ z).trans ?_
  funext a
  match a with | ⟨0, _⟩ => rfl | ⟨1, _⟩ => rfl | ⟨2, _⟩ => rfl | ⟨3, _⟩ => rfl
theorem bkS_coord (n : ℕ) (hn : n < 4) (z : S16x256x128.Idx) : (bkS n).view.emb z = (ix4 (⟨n, hn⟩ : Fin 4) (z 0) (z 1) (z 2) : S4x16x256x128.Idx) := by
  rw [bkS_pos]
  funext a
  apply Fin.ext
  rw [Rect.emb_apply]
  match a with
  | ⟨0, _⟩ => show n % 4 + 1 * 0 = n; omega
  | ⟨1, _⟩ => show 0 + 1 * (z 0).val = (z 0).val; omega
  | ⟨2, _⟩ => show 0 + 1 * (z 1).val = (z 1).val; omega
  | ⟨3, _⟩ => show 0 + 1 * (z 2).val = (z 2).val; omega
theorem read_outS (c : Dev nD) (XA) (n : ℕ) (hn : n < 4) : (bkS n).view.read (Elt F) (outS c XA) = attS (blkV c XA n) := by
  funext z
  show outS c XA ((bkS n).view.emb z) = _
  rw [bkS_coord n hn z]
  show attS (blkV c XA n) (ix3 (z 0) (z 1) (z 2)) = _
  congr 1
  funext a
  match a with | ⟨0, _⟩ => rfl | ⟨1, _⟩ => rfl | ⟨2, _⟩ => rfl
theorem doneS_out (c : Dev nD) (XA) (n : ℕ) (hn : n < 4) : doneS c XA n ⊢ (homeS c n (outS c XA) : sProp 𝕄) := by
  iintro ⟨%g, %hg, H⟩
  have e : homeS c n g = (homeS c n (outS c XA) : sProp 𝕄) := pointsTo_congr (fun i hi => by
    obtain ⟨z, -, rfl⟩ := Finset.mem_map.mp hi
    exact congrFun (hg.trans (read_outS c XA n hn).symm) z)
  iapply (entails_of_eq e); iexact H

section Launch

abbrev EP : Emb (UR sig nD τ) (MT nD τ sig Unit (Elt F) ℕ (UU nD τ) ℕ) := embL

variable (m : (ℓ : Loc nD τ sig) → Buf (Elt F) ℓ) (ρ : Dev nD → PrngReg)

/-- The kernel's own cells: three for the input's slots, two for each result's. -/
abbrev osem : Fin 7 → SemLoc sig := fun s => match s with
  | ⟨0, _⟩ => .dma (clI 0).sem | ⟨1, _⟩ => .dma (clI 1).sem | ⟨2, _⟩ => .dma (clI 2).sem
  | ⟨3, _⟩ => .dma (clO 0).sem | ⟨4, _⟩ => .dma (clO 1).sem
  | ⟨5, _⟩ => .dma (clS 0).sem | ⟨6, _⟩ => .dma (clS 1).sem
theorem ownSemFacts : Pipeline.OwnSemFacts cfg0.spec osem := by decide
theorem ownSems0_eq (c : Dev nD) : (Pipeline.ownSems0 (Ix := Unit) (Name := ℕ) (U := UU nD τ) (Lvl := ℕ) (Val := Elt F) (τ := τ) osem c : sProp 𝕄)
    = iprop(cellI c 0 ∗ cellI c 1 ∗ cellI c 2 ∗ cellO c 0 ∗ cellO c 1 ∗ cellS c 0 ∗ cellS c 1) := by
  unfold Pipeline.ownSems0
  rw [bigSep_univ_eq_bigSepL [(0 : Fin 7), 1, 2, 3, 4, 5, 6] (by decide) (by decide)]
  rfl

/-- Core `c`'s input at launch. -/
abbrev XAm (c : Dev nD) : Buf (Elt F) (aI.view.loc (c : Thread nD τ)) := m ((c : Thread nD τ).loc main_arg0)

/-- Everything the body works on, with the results' blocks as given. -/
abbrev held (c : Dev nD) (RO RS : sProp 𝕄) : sProp 𝕄 :=
  iprop((freeI c 0 ∗ freeI c 1 ∗ freeI c 2) ∗ (homeI c (XAm m c) 0 ∗ homeI c (XAm m c) 1 ∗ homeI c (XAm m c) 2 ∗ homeI c (XAm m c) 3)
    ∗ (freeO c 0 ∗ freeO c 1) ∗ RO ∗ (freeS c 0 ∗ freeS c 1) ∗ RS)
abbrev rawsO (c : Dev nD) : sProp 𝕄 := iprop(rawO c 0 ∗ rawO c 1 ∗ rawO c 2 ∗ rawO c 3)
abbrev rawsS (c : Dev nD) : sProp 𝕄 := iprop(rawS c 0 ∗ rawS c 1 ∗ rawS c 2 ∗ rawS c 3)
abbrev donesO (c : Dev nD) : sProp 𝕄 := iprop(doneO c (XAm m c) 0 ∗ doneO c (XAm m c) 1 ∗ doneO c (XAm m c) 2 ∗ doneO c (XAm m c) 3)
abbrev donesS (c : Dev nD) : sProp 𝕄 := iprop(doneS c (XAm m c) 0 ∗ doneS c (XAm m c) 1 ∗ doneS c (XAm m c) 2 ∗ doneS c (XAm m c) 3)
/-- Before the one point the results hold anything; after it they are done. -/
def before (c : Dev nD) : sProp 𝕄 := held m c (rawsO c) (rawsS c)
def after (c : Dev nD) : sProp 𝕄 := held m c (donesO m c) (donesS m c)
def ΦAt (c : Dev nD) : ℕ → sProp 𝕄
  | 0 => before m c
  | _ + 1 => after m c

def dats (_ : Fin 1) (c : Dev nD) : Dat τ (Elt F) Unit ℕ (UU nD τ) ℕ cfg0 c where
  A w := w.elim0
  after w _ := w.elim0
  Φ t := ΦAt m c t.val
  q _ := fullShare
  owed _ := 0

theorem defs_tc : (defs₀ (F := F)) .tc cfg0.body = fun a => bodyAt0 a.1 := rfl
theorem prog_eq (t : Fin cfg0.N) : (defs₀ (F := F)) .tc cfg0.body (cfg0.bodyArgs t (cfg0.slots t)) = bodyAt0 t :=
  (congrFun defs_tc _).trans rfl
theorem prog_eq' (t : Fin cfg0.N) : bodyAt0 (F := F) t = cc0_attention_g2 (F := F) aI hI aO hO aS hS rI hrI semI rO hrO semO rS hrS semS := rfl

theorem point_run (c : Dev nD) (W : Waits sig Unit) :
    iprop(before m c ∗ owes (c : Thread nD τ) 0 W) ⊢ wp frame (wpE (defs₀ (F := F)) 𝒱₀ (c : Thread nD τ) none) Set.univ
      (cc0_attention_g2 (F := F) aI hI aO hO aS hS rI hrI semI rO hrO semO rS hrS semS) (fun _ => iprop(after m c ∗ ∃ W, owes (c : Thread nD τ) 0 W)) := by
  unfold before after
  iintro ⟨⟨HI, HA, HO, HR, HS, HT⟩, HW⟩
  iapply (wp_wand_r Idealize.ShloMosaic.frame (wpE (defs₀ (F := F)) 𝒱₀ (c : Thread nD τ) none) Set.univ)
  isplitl
  · iapply (body_run c (XAm m c) W)
    isplitl [HI]; · iexact HI
    isplitl [HA]; · iexact HA
    isplitl [HO]; · iexact HO
    isplitl [HR]; · iexact HR
    isplitl [HS]; · iexact HS
    isplitl [HT]; · iexact HT
    iexact HW
  · iintro %_ ⟨HI, HA, HO, HR, HS, HT, HW⟩
    isplitr [HW]
    · icases HI with ⟨I1, I2, I0⟩
      isplitl [I0 I1 I2]
      · isplitl [I0]; · iexact I0
        isplitl [I1]; · iexact I1
        iexact I2
      isplitl [HA]; · iexact HA
      isplitl [HO]; · iexact HO
      isplitl [HR]; · iexact HR
      isplitl [HS]; · iexact HS
      iexact HT
    · iexact HW

set_option backward.isDefEq.respectTransparency.types false in
theorem body_obligation (c : Dev nD) : BodyObligation (dats (F := F) m 0 c) (defs₀ (F := F)) 𝒱₀ () Set.univ := fun t => by
  obtain rfl := fin_N0 t
  rw [show (Finset.univ : Finset (Fin cfg0.W)) = ∅ from rfl, bigSep_empty, bigSep_empty]
  dsimp only
  rw [show (dats (F := F) m 0 c).Φ t0_0.castSucc = before m c from rfl, show (dats (F := F) m 0 c).Φ t0_0.succ = after m c from rfl]
  unfold Dat.owesAt Pipeline.owesWithin
  rw [show (dats (F := F) m 0 c).owed t0_0.castSucc = 0 from rfl, show (dats (F := F) m 0 c).owed t0_0.succ = 0 from rfl]
  iintro ⟨HB, ⟨%W, -, HW⟩, -⟩
  sl_rw [prog_eq t0_0, prog_eq' t0_0]
  iapply (wp_wand_r Idealize.ShloMosaic.frame (wpE (defs₀ (F := F)) 𝒱₀ (c : Thread nD τ) none) Set.univ)
  isplitl
  · iapply (point_run m c W)
    isplitl [HB]; · iexact HB
    iexact HW
  · iintro %_ ⟨HA, ⟨%W', HW⟩⟩
    isplitl [HA]; · iexact HA
    isplitl [HW]
    · iexists W'
      isplitr; · ipureintro; exact fun _ _ => Or.inl trivial
      iexact HW
    iempintro

/-! ## The run -/

def intoΦ (c : Dev nD) : sProp 𝕄 :=
  iprop(((homeI c (XAm m c) 0 ∗ homeI c (XAm m c) 1 ∗ homeI c (XAm m c) 2 ∗ homeI c (XAm m c) 3) ∗ rawsO c ∗ rawsS c) ∗ Pipeline.ownSems0 osem c)
def outOfΦ (c : Dev nD) : sProp 𝕄 :=
  iprop((((c : Thread nD τ).loc main_arg0) ↦{fullShare} m ((c : Thread nD τ).loc main_arg0))
    ∗ (((c : Thread nD τ).loc main_v0_0) ↦{fullShare} outO c (XAm m c)) ∗ (((c : Thread nD τ).loc main_v0_1) ↦{fullShare} outS c (XAm m c)))
def u₀ : UU nD τ := (initOf (Pipeline.cells cfgs cellOf_inj) (Pipeline.launchToks cfgs cellOf_inj), 1)
/-- What is known of the memory in the end: the input is as it was, the results are the attention of its blocks. -/
def QY (c : Dev nD) (s : MemSt nD τ sig (Elt F)) : Prop :=
  s.mem ((c : Thread nD τ).loc main_arg0) = m ((c : Thread nD τ).loc main_arg0)
    ∧ s.mem ((c : Thread nD τ).loc main_v0_0) = outO c (XAm m c) ∧ s.mem ((c : Thread nD τ).loc main_v0_1) = outS c (XAm m c)

theorem raw_of_whole (c : Dev nD) (f : Buf (Elt F) ((c : Thread nD τ).loc main_v0_0)) (g : Buf (Elt F) ((c : Thread nD τ).loc main_v0_1)) :
    iprop((((c : Thread nD τ).loc main_v0_0) ↦{fullShare} f) ∗ (((c : Thread nD τ).loc main_v0_1) ↦{fullShare} g)) ⊢ (iprop(rawsO c ∗ rawsS c) : sProp 𝕄) := by
  rw [O_blocks, S_blocks]
  iintro ⟨⟨A0, A1, A2, A3⟩, ⟨B0, B1, B2, B3⟩⟩
  isplitl [A0 A1 A2 A3]
  · isplitl [A0]; · iexists f; iexact A0
    isplitl [A1]; · iexists f; iexact A1
    isplitl [A2]; · iexists f; iexact A2
    iexists f; iexact A3
  isplitl [B0]; · iexists g; iexact B0
  isplitl [B1]; · iexists g; iexact B1
  isplitl [B2]; · iexists g; iexact B2
  iexists g; iexact B3

theorem whole_of_done (c : Dev nD) : iprop(donesO m c ∗ donesS m c)
    ⊢ (iprop((((c : Thread nD τ).loc main_v0_0) ↦{fullShare} outO c (XAm m c)) ∗ (((c : Thread nD τ).loc main_v0_1) ↦{fullShare} outS c (XAm m c))) : sProp 𝕄) := by
  rw [O_blocks, S_blocks]
  iintro ⟨⟨A0, A1, A2, A3⟩, ⟨B0, B1, B2, B3⟩⟩
  isplitl [A0 A1 A2 A3]
  · isplitl [A0]; · iapply (doneO_out c (XAm m c) 0 (by decide)); iexact A0
    isplitl [A1]; · iapply (doneO_out c (XAm m c) 1 (by decide)); iexact A1
    isplitl [A2]; · iapply (doneO_out c (XAm m c) 2 (by decide)); iexact A2
    iapply (doneO_out c (XAm m c) 3 (by decide)); iexact A3
  isplitl [B0]; · iapply (doneS_out c (XAm m c) 0 (by decide)); iexact B0
  isplitl [B1]; · iapply (doneS_out c (XAm m c) 1 (by decide)); iexact B1
  isplitl [B2]; · iapply (doneS_out c (XAm m c) 2 (by decide)); iexact B2
  iapply (doneS_out c (XAm m c) 3 (by decide)); iexact B3

theorem enter (c : Dev nD) : iprop(intoΦ m c ∗ Pipeline.scopedRest cfg0.spec c) ⊢ before m c := by
  rw [scopedRest0_eq]
  unfold intoΦ before
  rw [ownSems0_eq]
  iintro ⟨⟨⟨HA, HR, HT⟩, C0, C1, C2, C3, C4, C5, C6⟩, S0, S1, S2⟩
  ihave S0 := (scrI_split c) $$ S0
  ihave S1 := (scrO_split c) $$ S1
  ihave S2 := (scrS_split c) $$ S2
  icases S0 with ⟨X0, X1, X2⟩
  icases S1 with ⟨Y0, Y1⟩
  icases S2 with ⟨Z0, Z1⟩
  isplitl [X0 X1 X2 C0 C1 C2]
  · isplitl [X0 C0]
    · isplitl [X0]; · iexact X0
      iexact C0
    isplitl [X1 C1]
    · isplitl [X1]; · iexact X1
      iexact C1
    isplitl [X2]; · iexact X2
    iexact C2
  isplitl [HA]; · iexact HA
  isplitl [Y0 Y1 C3 C4]
  · isplitl [Y0 C3]
    · isplitl [Y0]; · iexact Y0
      iexact C3
    isplitl [Y1]; · iexact Y1
    iexact C4
  isplitl [HR]; · iexact HR
  isplitl [Z0 Z1 C5 C6]
  · isplitl [Z0 C5]
    · isplitl [Z0]; · iexact Z0
      iexact C5
    isplitl [Z1]; · iexact Z1
    iexact C6
  iexact HT

theorem leave (c : Dev nD) : after m c ⊢ iprop(outOfΦ m c ∗ Pipeline.ownSems0 osem c ∗ Pipeline.scopedRest cfg0.spec c) := by
  rw [scopedRest0_eq, ownSems0_eq]
  unfold outOfΦ after
  rw [I_blocks]
  iintro ⟨⟨⟨X0, C0⟩, ⟨X1, C1⟩, ⟨X2, C2⟩⟩, HA, ⟨⟨Y0, C3⟩, ⟨Y1, C4⟩⟩, HR, ⟨⟨Z0, C5⟩, ⟨Z1, C6⟩⟩, HT⟩
  isplitl [HA HR HT]
  · isplitl [HA]; · iexact HA
    iapply (whole_of_done m c)
    isplitl [HR]; · iexact HR
    iexact HT
  isplitl [C0 C1 C2 C3 C4 C5 C6]
  · isplitl [C0]; · iexact C0
    isplitl [C1]; · iexact C1
    isplitl [C2]; · iexact C2
    isplitl [C3]; · iexact C3
    isplitl [C4]; · iexact C4
    isplitl [C5]; · iexact C5
    iexact C6
  isplitl [X0 X1 X2]
  · iapply (scrI_join c)
    isplitl [X0]; · iexact X0
    isplitl [X1]; · iexact X1
    iexact X2
  isplitl [Y0 Y1]
  · iapply (scrO_join c)
    isplitl [Y0]; · iexact Y0
    iexact Y1
  iapply (scrS_join c)
  isplitl [Z0]; · iexact Z0
  iexact Z1

set_option backward.isDefEq.respectTransparency.types false in
/-- For any float values, from any memory with zero counters: every weakly fair execution of the call terminates, and
    in every final state the input is as it was, the results are the attention of its blocks and every counter is
    zero. -/
theorem run_main : θ_run defs (onTc (τ := τ) (main (F := F))) ⟨m, fun _ => 0, ρ⟩ (fun r => (∀ c : Dev nD, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := fun c Q => by
      simp only [main, Prog.lift, Prog.bind_op, Prog.bind_ret]
      iintro ⟨Hk, Hb⟩; iapply Hk; iexact Hb)
    (hA := fun _ w => w.elim0)
    (X := intoΦ m) (Y := outOfΦ m) (Z := fun _ => iprop(emp))
    (hX := fun c => by
      rw [unscopedRest0_eq, I_blocks]
      unfold intoΦ
      iintro ⟨⟨H0, H1, H2⟩, HS, -, -, -⟩; imodintro
      isplitl [H0 H1 H2 HS]
      · isplitl [H0 H1 H2]
        · isplitl [H0]; · iexact H0
          iapply (raw_of_whole c _ _)
          isplitl [H1]; · iexact H1
          iexact H2
        iexact HS
      iempintro)
    (hin := fun c => enter m c)
    (hout := fun c => leave m c)
    (QY := QY m)
    (hY := fun c s' => by
      unfold outOfΦ QY
      iintro ⟨⟨H0, H1, H2⟩, -, HSI⟩
      icombine HSI H0 gives %h0
      icombine HSI H1 gives %h1
      icombine HSI H2 gives %h2
      imodintro
      isplitr
      · ipureintro
        exact ⟨Buf.eq_of_forall_mem_univ h0, Buf.eq_of_forall_mem_univ h1, Buf.eq_of_forall_mem_univ h2⟩
      iexact HSI)
    (hQ := fun _ hh hz => ⟨fun c => (hh c).2, hz⟩)

end Launch

end Cert.Proof.Attn
end
-- ==== Proof.Ker.lean ====
module

public import proofs.«01_k».proof.Proof.Slots
public import Idealize.ShloMosaic.Lib.WordCmp
public import Idealize.ShloMosaic.Lib.Tactic.WordOmega

@[expose] public section

set_option maxRecDepth 16384

noncomputable section

namespace Cert.Proof.Attn

open Cert.KernelIdeal Cert.KernelIdeal.Gen
open Idealize.ShloMosaic

/-! ## The scalar facts -/

/-- The constant of the masks is the least extended real. -/
theorem ofBits_bot : Ideal.ofBits .f32 0xFF800000#32 = (⊥ : EReal) := by
  simp [Ideal.ofBits, Ideal.ieee]

/-- The queries, keys and values of a unit, by coordinates. -/
theorem qv_apply (x : InV Ideal) (r b h : ℕ) (hr : r < 16) (hb : b < 2) (hh : h < 4) (i d : Fin 128) :
    qv x r b h hr hb hh (ix3 (0 : Fin 1) i d) = x (ix3 (⟨r, hr⟩ : Fin 16) (⟨128 * b + i.val, by omega⟩ : Fin 256) (⟨128 * h + d.val, by omega⟩ : Fin 1536)) := by
  unfold qv
  rw [Rect.idx_withinL]
  congr 1
  funext a
  apply Fin.ext
  match a with
  | ⟨0, _⟩ => show 0 + 1 * (r + 1 * 0) = r; omega
  | ⟨1, _⟩ => show 0 + 1 * (128 * b + 1 * i.val) = 128 * b + i.val; omega
  | ⟨2, _⟩ => show 0 + 1 * (128 * h + 1 * d.val) = 128 * h + d.val; omega
theorem kv_apply (x : InV Ideal) (r h : ℕ) (hr : r < 16) (hh : h < 4) (j : Fin 256) (d : Fin 128) :
    kv x r h hr hh (ix3 (0 : Fin 1) j d) = x (ix3 (⟨r, hr⟩ : Fin 16) j (⟨512 + (128 * h + d.val), by omega⟩ : Fin 1536)) := by
  unfold kv
  rw [Rect.idx_withinL]
  congr 1
  funext a
  apply Fin.ext
  match a with
  | ⟨0, _⟩ => show 0 + 1 * (r + 1 * 0) = r; omega
  | ⟨1, _⟩ => show 0 + 1 * (0 + 1 * j.val) = j.val; omega
  | ⟨2, _⟩ => show 512 + 1 * (128 * h + 1 * d.val) = 512 + (128 * h + d.val); omega
theorem vv_apply (x : InV Ideal) (r h : ℕ) (hr : r < 16) (hh : h < 4) (j : Fin 256) (d : Fin 128) :
    vv x r h hr hh (ix3 (0 : Fin 1) j d) = x (ix3 (⟨r, hr⟩ : Fin 16) j (⟨1024 + (128 * h + d.val), by omega⟩ : Fin 1536)) := by
  unfold vv
  rw [Rect.idx_withinL]
  congr 1
  funext a
  apply Fin.ext
  match a with
  | ⟨0, _⟩ => show 0 + 1 * (r + 1 * 0) = r; omega
  | ⟨1, _⟩ => show 0 + 1 * (0 + 1 * j.val) = j.val; omega
  | ⟨2, _⟩ => show 1024 + 1 * (128 * h + 1 * d.val) = 1024 + (128 * h + d.val); omega

/-- Key row `j` is in the window of row `i` of block `b`. -/
abbrev InWin (b : ℕ) (i : Fin 128) (j : Fin 256) : Prop :=
  if b = 0 then j.val ≤ i.val else i.val ≤ j.val ∧ j.val ≤ i.val + 128

theorem pay1_apply (i : Fin 128) (j : Fin 256) : (k0_pay1 (F := Ideal)) (ix2 i j) = if i.val ≤ j.val ∧ j.val ≤ i.val + 128 then (0 : EReal) else ⊥ := by
  pointwise [k0_pay1]
  have e : IntOp.addi (BitVec.ofNat 32 i.val) 128#32 = BitVec.ofNat 32 (i.val + 128) := (BitVec.ofNat_add ..).symm
  rw [e, ofBits_bot]
  word_cmp
theorem pay2_apply (i : Fin 128) (j : Fin 256) : (k0_pay2 (F := Ideal)) (ix2 i j) = if j.val ≤ i.val then (0 : EReal) else ⊥ := by
  pointwise [k0_pay2]
  rw [ofBits_bot]
  word_cmp

theorem pay8_apply (B : FVec Ideal S128x256 .f32) (q : Vec Ideal S1x128x128 .bf16) (k : Vec Ideal S1x256x128 .bf16) (i : Fin 128) (j : Fin 256) :
    k0_pay8 B q k (ix2 i j) = (∑ d : Fin 128, (q (ix3 (0 : Fin 1) i d) * k (ix3 (0 : Fin 1) j d) : EReal)) + B (ix2 i j) := by
  pointwise [k0_pay8]
theorem pay9_apply (S : FVec Ideal S128x256 .f32) (i : Fin 128) :
    k0_pay9 S (ix2 i (0 : Fin 1)) = (Finset.univ : Finset (Fin 256)).fold max (⊥ : EReal) (fun j => (S (ix2 i j) : EReal)) := by
  pointwise [k0_pay9]
  rw [ofBits_bot]
theorem pay10_apply (v : FVec Ideal S256x128 .bf16) (S : FVec Ideal S128x256 .f32) (i : Fin 128) (c : Fin 256) :
    k0_pay10 v S (ix2 i c) = ∑ j : Fin 256, (Ideal.exp2 (S (ix2 i j) - k0_pay9 S (ix2 i (0 : Fin 1))) * (if h : c.val < 128 then v (ix2 j ⟨c.val, h⟩) else 1) : EReal) := by
  pointwise [k0_pay10]
  rfl
theorem pay11_apply (v : FVec Ideal S256x128 .bf16) (S : FVec Ideal S128x256 .f32) (i d : Fin 128) :
    k0_pay11 v S (ix4 (0 : Fin 1) (0 : Fin 1) i d) = k0_pay10 v S (ix2 i ⟨d.val, by omega⟩) := by
  pointwise [k0_pay11]
theorem laneG_apply (i l : Fin 128) : laneG (ix2 i l) = BitVec.ofNat 32 (l.val / 16) := by
  pointwise [laneG, k0_pay5, k0_pay3, k0_pay4]
  revert l
  decide +kernel

/-! ## A unit's values -/

/-- The score of row `i` of block `b` with key row `j`, head `h`: the product of the query and the key, the least extended real outside the window. -/
def sc (x : InV Ideal) (r : Fin 16) (b : Fin 2) (h : Fin 4) (i : Fin 128) (j : Fin 256) : EReal :=
  if InWin b.val i j then
    ∑ d : Fin 128, (x (ix3 r (⟨128 * b.val + i.val, by omega⟩ : Fin 256) (⟨128 * h.val + d.val, by omega⟩ : Fin 1536))
      * x (ix3 r j (⟨512 + (128 * h.val + d.val), by omega⟩ : Fin 1536)) : EReal)
  else ⊥
/-- The row's maximum, -/
def mx (x : InV Ideal) (r : Fin 16) (b : Fin 2) (h : Fin 4) (i : Fin 128) : EReal :=
  (Finset.univ : Finset (Fin 256)).fold max ⊥ (fun j => sc x r b h i j)
/-- the powers of two of the scores less it, -/
def ex (x : InV Ideal) (r : Fin 16) (b : Fin 2) (h : Fin 4) (i : Fin 128) (j : Fin 256) : EReal :=
  Ideal.exp2 (sc x r b h i j - mx x r b h i)
/-- their sum, -/
def sm (x : InV Ideal) (r : Fin 16) (b : Fin 2) (h : Fin 4) (i : Fin 128) : EReal := ∑ j : Fin 256, ex x r b h i j
/-- and the values weighted by them. -/
def wv (x : InV Ideal) (r : Fin 16) (b : Fin 2) (h : Fin 4) (i d : Fin 128) : EReal :=
  ∑ j : Fin 256, (ex x r b h i j * x (ix3 r j (⟨1024 + (128 * h.val + d.val), by omega⟩ : Fin 1536)) : EReal)

theorem biasOf_apply (b : Fin 2) (i : Fin 128) (j : Fin 256) : (biasOf (F := Ideal) b.val) (ix2 i j) = if InWin b.val i j then (0 : EReal) else ⊥ := by
  match b with
  | 0 => exact pay2_apply i j
  | 1 => exact pay1_apply i j
theorem unitS_apply (x : InV Ideal) (r : Fin 16) (b : Fin 2) (h : Fin 4) (i : Fin 128) (j : Fin 256) :
    unitS x r.val b.val h.val r.2 b.2 h.2 (ix2 i j) = sc x r b h i j := by
  unfold unitS sc
  rw [pay8_apply, biasOf_apply]
  simp only [qv_apply, kv_apply]
  by_cases c : InWin b.val i j
  · rw [if_pos c, if_pos c]; exact add_zero _
  · rw [if_neg c, if_neg c]; exact EReal.add_bot _
theorem unitM_apply (x : InV Ideal) (r : Fin 16) (b : Fin 2) (h : Fin 4) (i : Fin 128) :
    unitM x r.val b.val h.val r.2 b.2 h.2 (ix2 i (0 : Fin 1)) = mx x r b h i := by
  unfold unitM mx
  rw [pay9_apply]
  simp only [unitS_apply]
theorem unitP_lo (x : InV Ideal) (r : Fin 16) (b : Fin 2) (h : Fin 4) (i d : Fin 128) :
    unitP x r.val b.val h.val r.2 b.2 h.2 (ix2 i ⟨d.val, by omega⟩) = wv x r b h i d := by
  unfold unitP wv ex
  rw [pay10_apply]
  have e := unitM_apply x r b h i
  unfold unitM at e
  simp only [unitS_apply, e]
  refine Finset.sum_congr rfl fun j _ => ?_
  rw [dif_pos d.isLt]
  refine Ideal.mul_congr rfl ?_
  refine Eq.trans ?_ (vv_apply x r.val h.val r.2 h.2 j d)
  pointwise [k0_pay7]
theorem unitP_hi (x : InV Ideal) (r : Fin 16) (b : Fin 2) (h : Fin 4) (i d : Fin 128) :
    unitP x r.val b.val h.val r.2 b.2 h.2 (ix2 i ⟨128 + d.val, by omega⟩) = sm x r b h i := by
  unfold unitP sm ex
  rw [pay10_apply]
  have e := unitM_apply x r b h i
  unfold unitM at e
  simp only [unitS_apply, e]
  refine Finset.sum_congr rfl fun j _ => ?_
  rw [dif_neg (by simp)]
  exact mul_one _
theorem attO_apply (x : InV Ideal) (r : Fin 16) (p : Fin 256) (c : Fin 512) :
    attO x (ix3 r p c) = wv x r ⟨p.val / 128, by omega⟩ ⟨c.val / 128, by omega⟩ ⟨p.val % 128, by omega⟩ ⟨c.val % 128, by omega⟩ := by
  refine Eq.trans ?_ (unitP_lo x r ⟨p.val / 128, by omega⟩ ⟨c.val / 128, by omega⟩ ⟨p.val % 128, by omega⟩ ⟨c.val % 128, by omega⟩)
  exact pay11_apply _ _ (⟨p.val % 128, by omega⟩ : Fin 128) (⟨c.val % 128, by omega⟩ : Fin 128)

/-- Lane `l`'s value once head `h` is put in: the sum in the lanes of group `2 h + 1`, the maximum in those of group `2 h`. -/
def pick (h : Fin 4) (l : Fin 128) (A B t : EReal) : EReal :=
  if l.val / 16 = 2 * h.val + 1 then A else if l.val / 16 = 2 * h.val then B else t

/-- One head's maxima and sums in its lanes, the lanes of the others as they were. -/
theorem putH_apply (x : InV Ideal) (r : Fin 16) (b : Fin 2) (h : Fin 4) (t : FVec Ideal S128x128 .f32) (i l : Fin 128) :
    putH (BitVec.ofNat 32 (2 * h.val)) (BitVec.ofNat 32 (2 * h.val + 1)) x r.val b.val h.val r.2 b.2 h.2 t (ix2 i l)
      = pick h l (sm x r b h i) (mx x r b h i) (t (ix2 i l)) := by
  pointwise [putH]
  unfold pick
  rw [laneG_apply]
  have e1 : unitP x r.val b.val h.val r.2 b.2 h.2 (ix2 i ⟨128 + l.val, by omega⟩) = sm x r b h i := unitP_hi x r b h i l
  have e2 := unitM_apply x r b h i
  have e3 : 2 * h.val + 1 < 8 := by omega
  rw [e1, e2]
  word_cmp
/-- The four heads put in one after the other: each lane has its head's maximum or sum. -/
theorem pick_all (l : Fin 128) (A B : Fin 4 → EReal) (t : EReal) :
    pick 3 l (A 3) (B 3) (pick 2 l (A 2) (B 2) (pick 1 l (A 1) (B 1) (pick 0 l (A 0) (B 0) t)))
      = if l.val / 16 % 2 = 0 then B ⟨l.val / 32, by omega⟩ else A ⟨l.val / 32, by omega⟩ := by
  have hV : l.val / 32 = l.val / 16 / 2 := by omega
  have hq : l.val / 16 < 8 := by omega
  obtain ⟨H, hH⟩ : ∃ H : Fin 4, H = ⟨l.val / 32, by omega⟩ := ⟨_, rfl⟩
  have hW : H.val = l.val / 16 / 2 := by rw [hH]; exact hV
  rw [← hH]
  unfold pick
  generalize l.val / 16 = q at hW hq ⊢
  match H with
  | 0 => rcases (by have : (0 : Fin 4).val = 0 := rfl; omega : q = 0 ∨ q = 1) with rfl | rfl <;> rfl
  | 1 => rcases (by have : (1 : Fin 4).val = 1 := rfl; omega : q = 2 ∨ q = 3) with rfl | rfl <;> rfl
  | 2 => rcases (by have : (2 : Fin 4).val = 2 := rfl; omega : q = 4 ∨ q = 5) with rfl | rfl <;> rfl
  | 3 => rcases (by have : (3 : Fin 4).val = 3 := rfl; omega : q = 6 ∨ q = 7) with rfl | rfl <;> rfl
theorem attS_apply (x : InV Ideal) (r : Fin 16) (p : Fin 256) (l : Fin 128) :
    attS x (ix3 r p l) = if l.val / 16 % 2 = 0 then mx x r ⟨p.val / 128, by omega⟩ ⟨l.val / 32, by omega⟩ ⟨p.val % 128, by omega⟩
      else sm x r ⟨p.val / 128, by omega⟩ ⟨l.val / 32, by omega⟩ ⟨p.val % 128, by omega⟩ := by
  have e : attS x (ix3 r p l) = statT x r.val (p.val / 128) r.2 (by omega) (ix2 (⟨p.val % 128, by omega⟩ : Fin 128) l) := by
    unfold attS statV
    pointwise
  rw [e]
  generalize (⟨p.val % 128, by omega⟩ : Fin 128) = i
  unfold statT
  have h3 := putH_apply x r ⟨p.val / 128, by omega⟩ 3
  have h2 := putH_apply x r ⟨p.val / 128, by omega⟩ 2
  have h1 := putH_apply x r ⟨p.val / 128, by omega⟩ 1
  have h0 := putH_apply x r ⟨p.val / 128, by omega⟩ 0
  refine (h3 _ i l).trans ((congrArg (pick 3 l _ _) ((h2 _ i l).trans (congrArg (pick 2 l _ _) ((h1 _ i l).trans (congrArg (pick 1 l _ _) (h0 _ i l)))))).trans ?_)
  exact pick_all l (fun h => sm x r ⟨p.val / 128, by omega⟩ h i) (fun h => mx x r ⟨p.val / 128, by omega⟩ h i) _

end Cert.Proof.Attn
-- ==== Proof.RefV.lean ====
module

public import proofs.«01_k».proof.Proof.Ker
public import proofs.«01_k».proof.Proof.Gen.ReferenceIdeal
public import proofs.«01_k».proof.Proof.Gen.ReferenceIdeal.Run
public import Idealize.ShloMosaic.Lib.Pointwise
public import Idealize.ShloMosaic.Lib.KernelVsHost
public import Idealize.ShloMosaic.Lib.WordCmp
public import Idealize.ShloMosaic.Lib.Tactic.CleanTypes

@[expose] public section

set_option maxRecDepth 16384

noncomputable section

namespace Cert.Proof.RefV

open Cert.ReferenceIdeal Cert.ReferenceIdeal.Gen Cert.ReferenceIdeal.Value
open Idealize.ShloMosaic

abbrev Za := FVec Ideal S4x16x256x1536 .bf16

/-- The queries by head. -/
def rq (z : Za) : FVec Ideal S4x16x2x128x4x128 .f32 :=
  shapeCast _ (extf .f32 (extractStridedSlice S4x16x256x512 ![0, 0, 0, 0] z slices_S4x16x256x1536_S4x16x256x512_0_0_0_0) bitsLt_bf16_f32) shapeCasts_S4x16x256x512_S4x16x2x128x4x128
/-- The keys by head. -/
def rk (z : Za) : FVec Ideal S4x16x2x128x4x128 .f32 :=
  shapeCast _ (extf .f32 (extractStridedSlice S4x16x256x512 ![0, 0, 0, 512] z slices_S4x16x256x1536_S4x16x256x512_0_0_0_512) bitsLt_bf16_f32) shapeCasts_S4x16x256x512_S4x16x2x128x4x128
/-- The values by head. -/
def rv (z : Za) : FVec Ideal S4x16x2x128x4x128 .f32 :=
  shapeCast _ (extf .f32 (extractStridedSlice S4x16x256x512 ![0, 0, 0, 1024] z slices_S4x16x256x1536_S4x16x256x512_0_0_0_1024) bitsLt_bf16_f32) shapeCasts_S4x16x256x512_S4x16x2x128x4x128
/-- Each block beside the block before it. -/
def withPrev (y : FVec Ideal S4x16x2x128x4x128 .f32) : FVec Ideal S4x16x2x256x4x128 .f32 :=
  concatenate S4x16x2x256x4x128 3 [⟨S4x16x2x128x4x128, (extractStridedSlice S4x16x2x128x4x128 ![0, 0, 0, 0, 0, 0] (pad S4x16x3x128x4x128 ![0, 0, 1, 0, 0, 0] ![0, 0, 0, 0, 0, 0] ![0, 0, 0, 0, 0, 0] y (sitofp .f32 (constantI S_ 32 0#32)) pads_S4x16x2x128x4x128_S4x16x3x128x4x128_000_000_100_000_000_000 h_S_) slices_S4x16x3x128x4x128_S4x16x2x128x4x128_0_0_0_0_0_0)⟩, ⟨S4x16x2x128x4x128, y⟩] concatenates_S4x16x2x128x4x128_S4x16x2x128x4x128_S4x16x2x256x4x128_d3

/-- The positions of the query rows and of the key rows in their residue class, and their distance. -/
def qpos : IVec S2x128 32 :=
  addi (broadcastInDim S2x128 ![0, 1] bcast_S2x1_S2x128_0_1 (muli (broadcastInDim S2x1 ![0] bcast_S2_S2x1_0 (iotaInDim S2 32 0)) (broadcastInDim S2x1 ![] bcast_S_S2x1 (constantI S_ 32 128#32)))) (broadcastInDim S2x128 ![0, 1] bcast_S1x128_S2x128_0_1 (broadcastInDim S1x128 ![1] bcast_S128_S1x128_1 (iotaInDim S128 32 0)))
def kpos : IVec S2x256 32 :=
  addi (broadcastInDim S2x256 ![0, 1] bcast_S2x1_S2x256_0_1 (muli (subi (broadcastInDim S2x1 ![0] bcast_S2_S2x1_0 (iotaInDim S2 32 0)) (broadcastInDim S2x1 ![] bcast_S_S2x1 (constantI S_ 32 1#32))) (broadcastInDim S2x1 ![] bcast_S_S2x1 (constantI S_ 32 128#32)))) (broadcastInDim S2x256 ![0, 1] bcast_S1x256_S2x256_0_1 (broadcastInDim S1x256 ![1] bcast_S256_S1x256_1 (iotaInDim S256 32 0)))
def dist : IVec S2x128x256 32 :=
  subi (broadcastInDim S2x128x256 ![0, 1, 2] bcast_S2x128x1_S2x128x256_0_1_2 (broadcastInDim S2x128x1 ![0, 1] bcast_S2x128_S2x128x1_0_1 qpos)) (broadcastInDim S2x128x256 ![0, 1, 2] bcast_S2x1x256_S2x128x256_0_1_2 (broadcastInDim S2x1x256 ![0, 2] bcast_S2x256_S2x1x256_0_2 kpos))
/-- The window's mask. -/
def rmask : IVec S2x1x128x256 1 :=
  broadcastInDim S2x1x128x256 ![0, 2, 3] bcast_S2x128x256_S2x1x128x256_0_2_3 (andi (andi (cmpi .sge dist (broadcastInDim S2x128x256 ![] bcast_S_S2x128x256 (constantI S_ 32 0#32))) (cmpi .sle dist (broadcastInDim S2x128x256 ![] bcast_S_S2x128x256 (constantI S_ 32 128#32)))) (broadcastInDim S2x128x256 ![0, 1, 2] bcast_S2x1x256_S2x128x256_0_1_2 (cmpi .sge (broadcastInDim S2x1x256 ![0, 2] bcast_S2x256_S2x1x256_0_2 kpos) (broadcastInDim S2x1x256 ![] bcast_S_S2x1x256 (constantI S_ 32 0#32)))))
/-- The masked scores, -/
def rs (z : Za) : FVec Ideal S4x16x2x4x128x256 .f32 :=
  select (broadcastInDim S4x16x2x4x128x256 ![2, 3, 4, 5] bcast_S2x1x128x256_S4x16x2x4x128x256_2_3_4_5 rmask) (Host.dotGeneral dot_S4x16x2x128x4x128_S4x16x2x256x4x128_S4x16x2x4x128x256_5_5_3_3_0124_0124 none (rq z) (withPrev (rk z))) (broadcastInDim S4x16x2x4x128x256 ![] bcast_S_S4x16x2x4x128x256 (id (constant S_ .f32 0xFF800000#32)))
/-- their maxima, -/
def rm (z : Za) : FVec Ideal S4x16x2x4x128x1 .f32 :=
  broadcastInDim S4x16x2x4x128x1 ![0, 1, 2, 3, 4] bcast_S4x16x2x4x128_S4x16x2x4x128x1_0_1_2_3_4 (Host.reduce FloatOps.maximumf (rs z) (constant S_ .f32 0xFF800000#32) reducesTo_S4x16x2x4x128x256_S4x16x2x4x128_d5 h_S_)
/-- the powers of two of their differences, -/
def re (z : Za) : FVec Ideal S4x16x2x4x128x256 .f32 :=
  Host.exp (mulf (subf (rs z) (broadcastInDim S4x16x2x4x128x256 ![0, 1, 2, 3, 4, 5] bcast_S4x16x2x4x128x1_S4x16x2x4x128x256_0_1_2_3_4_5 (rm z))) (broadcastInDim S4x16x2x4x128x256 ![] bcast_S_S4x16x2x4x128x256 (Host.log (constant S_ .f32 0x40000000#32))))
/-- their sums. -/
def rl (z : Za) : FVec Ideal S4x16x2x4x128x1 .f32 :=
  broadcastInDim S4x16x2x4x128x1 ![0, 1, 2, 3, 4] bcast_S4x16x2x4x128_S4x16x2x4x128x1_0_1_2_3_4 (Host.reduceAdd (re z) (constant S_ .f32 0x00000000#32) reducesTo_S4x16x2x4x128x256_S4x16x2x4x128_d5 h_S_)
/-- Maxima and sums of a head, each over sixteen lanes. -/
def laneStats (M L : FVec Ideal S4x16x2x4x128x1 .f32) : FVec Ideal S4x16x256x128 .f32 :=
  shapeCast _ (broadcastInDim S4x16x256x8x16 ![0, 1, 2, 3] bcast_S4x16x256x8_S4x16x256x8x16_0_1_2_3 (shapeCast _ (transpose S4x16x2x128x4x2 [0, 1, 2, 4, 3, 5] (concatenate S4x16x2x4x128x2 5 [⟨S4x16x2x4x128x1, M⟩, ⟨S4x16x2x4x128x1, L⟩] concatenates_S4x16x2x4x128x1_S4x16x2x4x128x1_S4x16x2x4x128x2_d5) transposes_S4x16x2x4x128x2_S4x16x2x128x4x2_0_1_2_4_3_5) shapeCasts_S4x16x2x128x4x2_S4x16x256x8)) shapeCasts_S4x16x256x8x16_S4x16x256x128
/-- The reference's two results. -/
def refO (z : Za) : FVec Ideal S4x16x256x512 .bf16 :=
  truncf .bf16 (shapeCast _ (transpose S4x16x2x128x4x128 [0, 1, 2, 5, 3, 4] (Host.dotGeneral dot_S4x16x2x256x4x128_S4x16x2x4x128x256_S4x16x2x4x128x128_3_5_5_4_0124_0123 none (withPrev (rv z)) (re z)) transposes_S4x16x2x4x128x128_S4x16x2x128x4x128_0_1_2_5_3_4) shapeCasts_S4x16x2x128x4x128_S4x16x256x512) bitsLt_bf16_f32
def refS (z : Za) : FVec Ideal S4x16x256x128 .f32 := laneStats (rm z) (rl z)

theorem res0_eq (m) (c : Dev nD) : res_main_v67 (F := Ideal) m c = refO (m ((c.tc : Thread nD τ).loc main_arg0)) := by
  unfold res_main_v67; rfl
theorem res1_eq (m) (c : Dev nD) : res_main_v69 (F := Ideal) m c = refS (m ((c.tc : Thread nD τ).loc main_arg0)) := by
  unfold res_main_v69; rfl

theorem withPrev_apply (y : FVec Ideal S4x16x2x128x4x128 .f32) (a : Fin 4) (r : Fin 16) (n : Fin 2) (k : Fin 256) (h : Fin 4) (d : Fin 128) :
    withPrev y (ix6 a r n k h d) = if hk : k.val < 128 then (if hn : n.val = 0 then (0 : EReal) else y (ix6 a r 0 ⟨k.val, hk⟩ h d)) else y (ix6 a r n ⟨k.val - 128, by omega⟩ h d) := by
  pointwise [withPrev]
  by_cases hk : k.val < 128
  · rw [dif_pos hk, dif_pos hk]
    match n with
    | 0 =>
      rw [dif_neg (fun e => absurd e.1.1 (by decide)), dif_pos (show (0 : Fin 2).val = 0 from rfl)]
      exact sitofp_zero (φ := .f32)
    | 1 =>
      rw [dif_pos ⟨⟨le_refl 1, by decide⟩, hk⟩, dif_neg (by decide)]
      rfl
  · rw [dif_neg hk, dif_neg hk]
theorem rq_apply (z : Za) (a : Fin 4) (r : Fin 16) (n : Fin 2) (i : Fin 128) (h : Fin 4) (d : Fin 128) :
    rq z (ix6 a r n i h d) = z (ix4 a r ⟨128 * n.val + i.val, by omega⟩ ⟨128 * h.val + d.val, by omega⟩) := by
  pointwise [rq]
  congr 2 <;> (apply Fin.ext; dsimp only; omega)
theorem rk_apply (z : Za) (a : Fin 4) (r : Fin 16) (n : Fin 2) (i : Fin 128) (h : Fin 4) (d : Fin 128) :
    rk z (ix6 a r n i h d) = z (ix4 a r ⟨128 * n.val + i.val, by omega⟩ ⟨512 + (128 * h.val + d.val), by omega⟩) := by
  pointwise [rk]
  congr 2 <;> (apply Fin.ext; dsimp only; omega)
theorem rv_apply (z : Za) (a : Fin 4) (r : Fin 16) (n : Fin 2) (i : Fin 128) (h : Fin 4) (d : Fin 128) :
    rv z (ix6 a r n i h d) = z (ix4 a r ⟨128 * n.val + i.val, by omega⟩ ⟨1024 + (128 * h.val + d.val), by omega⟩) := by
  pointwise [rv]
  congr 2 <;> (apply Fin.ext; dsimp only; omega)

/-- Key `k` of the two blocks before row `i` of block `n` is in the row's window. -/
abbrev Valid (n : Fin 2) (i : Fin 128) (k : Fin 256) : Prop := i.val ≤ k.val ∧ k.val ≤ i.val + 128 ∧ (n.val = 0 → 128 ≤ k.val)

theorem sge_zero (w : BitVec 32) : IntOp.cmpi .sge w 0#32 = BitVec.ofBool (decide (w.toNat < 2 ^ 31)) := by
  show BitVec.ofBool ((0#32).sle w) = _
  congr 1
  rw [Bool.eq_iff_iff, BitVec.sle_iff_toInt_le, BitVec.toInt_eq_toNat_cond, BitVec.toInt_eq_toNat_cond, decide_eq_true_iff]
  have := w.isLt
  simp only [BitVec.toNat_ofNat]
  split_ifs <;> omega
theorem sle_window (w : BitVec 32) : IntOp.cmpi .sle w 128#32 = BitVec.ofBool (decide (w.toNat ≤ 128 ∨ 2 ^ 31 ≤ w.toNat)) := by
  show BitVec.ofBool (w.sle (128#32)) = _
  congr 1
  rw [Bool.eq_iff_iff, BitVec.sle_iff_toInt_le, BitVec.toInt_eq_toNat_cond, BitVec.toInt_eq_toNat_cond, decide_eq_true_iff]
  have := w.isLt
  simp only [BitVec.toNat_ofNat]
  split_ifs <;> omega
theorem andi_bits (p q : Bool) : IntOp.andi (BitVec.ofBool p) (BitVec.ofBool q) = BitVec.ofBool (p && q) := by
  revert p q; decide
theorem rmask_apply (n : Fin 2) (i : Fin 128) (k : Fin 256) : rmask (ix4 n (0 : Fin 1) i k) = BitVec.ofBool (decide (Valid n i k)) := by
  pointwise [rmask, dist, qpos, kpos]
  rw [sge_zero, sge_zero, sle_window, andi_bits, andi_bits]
  congr 1
  rw [Bool.eq_iff_iff]
  simp only [Bool.and_eq_true, decide_eq_true_iff]
  have hi := i.isLt
  have hk := k.isLt
  match n with
  | 0 =>
    rw [show IntOp.muli (IntOp.subi (BitVec.ofNat 32 (0 : Fin 2).val) 1#32) 128#32 = 4294967168#32 from by decide,
      show IntOp.muli (BitVec.ofNat 32 (0 : Fin 2).val) 128#32 = 0#32 from by decide]
    simp only [IntOp.addi, IntOp.subi, IntOp.muli, BitVec.toNat_sub, BitVec.toNat_add, BitVec.toNat_mul, BitVec.toNat_ofNat, Valid, Fin.isValue, Fin.val_zero, Fin.coe_ofNat_eq_mod, Nat.reducePow, Nat.reduceMod, Nat.reduceSub]
    rw [Nat.mod_eq_of_lt (show k.val < 4294967296 by omega), Nat.mod_eq_of_lt (show i.val < 4294967296 by omega)]
    simp only [true_implies]
    omega
  | 1 =>
    rw [show IntOp.muli (IntOp.subi (BitVec.ofNat 32 (1 : Fin 2).val) 1#32) 128#32 = 0#32 from by decide,
      show IntOp.muli (BitVec.ofNat 32 (1 : Fin 2).val) 128#32 = 128#32 from by decide]
    simp only [IntOp.addi, IntOp.subi, IntOp.muli, BitVec.toNat_sub, BitVec.toNat_add, BitVec.toNat_mul, BitVec.toNat_ofNat, Valid, Fin.isValue, Fin.val_one, Fin.coe_ofNat_eq_mod]
    omega

theorem rs_apply (z : Za) (a : Fin 4) (r : Fin 16) (n : Fin 2) (h : Fin 4) (i : Fin 128) (k : Fin 256) :
    rs z (ix6 a r n h i k) = if Valid n i k then ∑ d : Fin 128, (rq z (ix6 a r n i h d) * withPrev (rk z) (ix6 a r n k h d) : EReal) else ⊥ := by
  pointwise [rs]
  rw [rmask_apply]
  have e : (id (constant S_ .f32 0xFF800000#32) : FVec Ideal S_ .f32) ix0 = (⊥ : EReal) := Cert.Proof.Attn.ofBits_bot
  rw [e]
  word_cmp
/-- The constant two. -/
theorem ofBits_two : Ideal.ofBits .f32 0x40000000#32 = ((2 : ℝ) : EReal) := by
  simp [Ideal.ofBits, Ideal.ieee]
  rw [← EReal.coe_mul]
  norm_num
/-- A power of two is an exponential. -/
theorem exp_mul_log (t : EReal) : Ideal.exp (t * Ideal.log (Ideal.ofBits .f32 0x40000000#32)) = Ideal.exp2 t := by
  rw [ofBits_two]
  have hl : Ideal.log ((2 : ℝ) : EReal) = ((Real.log 2 : ℝ) : EReal) := if_neg (by norm_num)
  have hp : 0 < Real.log 2 := Real.log_pos (by norm_num)
  rw [hl]
  induction t with
  | bot => rw [EReal.bot_mul_coe_of_pos hp]; rfl
  | top => rw [EReal.top_mul_coe_of_pos hp]; rfl
  | coe t =>
    rw [← EReal.coe_mul]
    show ((Real.exp (t * Real.log 2) : ℝ) : EReal) = ((Real.rpow 2 t : ℝ) : EReal)
    congr 1
    rw [mul_comm]
    exact (Real.rpow_def_of_pos (by norm_num) t).symm
/-- The last of the six axes is reduced. -/
theorem reduces5 : S4x16x2x4x128x256.Reduces [5] S4x16x2x4x128 := by decide
theorem lift5 (a : Fin 4) (r : Fin 16) (n : Fin 2) (h : Fin 4) (i : Fin 128) (k : Fin 256) :
    reduces5.lift (ix5 a r n h i) k = ix6 a r n h i k := by
  funext b
  apply Fin.ext
  match b with | ⟨0, _⟩ => rfl | ⟨1, _⟩ => rfl | ⟨2, _⟩ => rfl | ⟨3, _⟩ => rfl | ⟨4, _⟩ => rfl | ⟨5, _⟩ => rfl
theorem fold5 (y : S4x16x2x4x128x256.Idx → EReal) (a : Fin 4) (r : Fin 16) (n : Fin 2) (h : Fin 4) (i : Fin 128) :
    Finset.fold max ⊥ y {j | reducesTo_S4x16x2x4x128x256_S4x16x2x4x128_d5.drop j = ix5 a r n h i}
      = (Finset.univ : Finset (Fin 256)).fold max (⊥ : EReal) (fun k => y (ix6 a r n h i k)) := by
  rw [Shape.ReducesTo.drop_eq_drop _ reduces5]
  have e := reduces5.fold_filter_drop_single (max : EReal → EReal → EReal) ⊥ y (ix5 a r n h i)
  have e2 : (y ∘ reduces5.lift (ix5 a r n h i)) = fun k : Fin 256 => y (ix6 a r n h i k) := funext fun k => congrArg y (lift5 a r n h i k)
  rw [e2] at e
  exact e
theorem sum5 (y : S4x16x2x4x128x256.Idx → EReal) (a : Fin 4) (r : Fin 16) (n : Fin 2) (h : Fin 4) (i : Fin 128) :
    Ideal.hostReduceAdd reducesTo_S4x16x2x4x128x256_S4x16x2x4x128_d5 y 0 (ix5 a r n h i) = ∑ k : Fin 256, y (ix6 a r n h i k) := by
  rw [Ideal.hostReduceAdd_single _ reduces5, zero_add]
  have e2 : (fun k => y (reduces5.lift (ix5 a r n h i) k)) = fun k : Fin 256 => y (ix6 a r n h i k) := funext fun k => congrArg y (lift5 a r n h i k)
  exact congrArg (Finset.sum Finset.univ) e2
theorem rm_apply (z : Za) (a : Fin 4) (r : Fin 16) (n : Fin 2) (h : Fin 4) (i : Fin 128) :
    rm z (ix6 a r n h i (0 : Fin 1)) = (Finset.univ : Finset (Fin 256)).fold max (⊥ : EReal) (fun k => rs z (ix6 a r n h i k)) := by
  pointwise [rm]
  rw [Cert.Proof.Attn.ofBits_bot]
  generalize rs z = y
  exact fold5 y a r n h i
theorem re_apply (z : Za) (a : Fin 4) (r : Fin 16) (n : Fin 2) (h : Fin 4) (i : Fin 128) (k : Fin 256) :
    re z (ix6 a r n h i k) = Ideal.exp2 (rs z (ix6 a r n h i k) - rm z (ix6 a r n h i (0 : Fin 1))) := by
  pointwise [re]
  exact exp_mul_log _
theorem rl_apply (z : Za) (a : Fin 4) (r : Fin 16) (n : Fin 2) (h : Fin 4) (i : Fin 128) :
    rl z (ix6 a r n h i (0 : Fin 1)) = ∑ k : Fin 256, (re z (ix6 a r n h i k) : EReal) := by
  pointwise [rl]
  generalize re z = y
  exact sum5 y a r n h i
theorem refO_apply (z : Za) (a : Fin 4) (r : Fin 16) (p : Fin 256) (c : Fin 512) :
    refO z (ix4 a r p c) = ∑ k : Fin 256, (withPrev (rv z) (ix6 a r ⟨p.val / 128, by omega⟩ k ⟨c.val / 128, by omega⟩ ⟨c.val % 128, by omega⟩)
      * re z (ix6 a r ⟨p.val / 128, by omega⟩ ⟨c.val / 128, by omega⟩ ⟨p.val % 128, by omega⟩ k) : EReal) := by
  pointwise [refO]
theorem laneStats_apply (M L : FVec Ideal S4x16x2x4x128x1 .f32) (a : Fin 4) (r : Fin 16) (p : Fin 256) (l : Fin 128) :
    laneStats M L (ix4 a r p l) = if l.val / 16 % 2 = 0 then M (ix6 a r ⟨p.val / 128, by omega⟩ ⟨l.val / 32, by omega⟩ ⟨p.val % 128, by omega⟩ (0 : Fin 1))
      else L (ix6 a r ⟨p.val / 128, by omega⟩ ⟨l.val / 32, by omega⟩ ⟨p.val % 128, by omega⟩ (0 : Fin 1)) := by
  pointwise [laneStats]
  have e : l.val / 16 / 2 = l.val / 32 := by omega
  by_cases c : l.val / 16 % 2 = 0
  · have h1 : l.val / 16 % 2 < 1 := by omega
    refine (dif_pos h1).trans (Eq.trans ?_ (if_pos c).symm)
    exact congrArg₂ (fun (A : Fin 4) (B : Fin 1) => M (ix6 a r ⟨p.val / 128, by omega⟩ A ⟨p.val % 128, by omega⟩ B)) (Fin.ext e) (Fin.ext c)
  · have h1 : ¬ l.val / 16 % 2 < 1 := by omega
    have h2 : l.val / 16 % 2 - 1 = 0 := by omega
    refine (dif_neg h1).trans (Eq.trans ?_ (if_neg c).symm)
    exact congrArg₂ (fun (A : Fin 4) (B : Fin 1) => L (ix6 a r ⟨p.val / 128, by omega⟩ A ⟨p.val % 128, by omega⟩ B)) (Fin.ext e) (Fin.ext h2)
theorem refS_apply (z : Za) (a : Fin 4) (r : Fin 16) (p : Fin 256) (l : Fin 128) :
    refS z (ix4 a r p l) = if l.val / 16 % 2 = 0 then rm z (ix6 a r ⟨p.val / 128, by omega⟩ ⟨l.val / 32, by omega⟩ ⟨p.val % 128, by omega⟩ (0 : Fin 1))
      else rl z (ix6 a r ⟨p.val / 128, by omega⟩ ⟨l.val / 32, by omega⟩ ⟨p.val % 128, by omega⟩ (0 : Fin 1)) :=
  laneStats_apply (rm z) (rl z) a r p l
end Cert.Proof.RefV
-- ==== Proof.Eq.lean ====
module

public import proofs.«01_k».proof.Proof.Ker
public import proofs.«01_k».proof.Proof.RefV
public import proofs.«01_k».proof.Proof.Run

@[expose] public section

set_option maxRecDepth 16384

noncomputable section

namespace Cert.Proof.Equal

open Idealize.ShloMosaic
open Cert.Proof.Attn Cert.Proof.RefV

/-- Batch `a` of the argument. -/
def bat (z : Za) (a : Fin 4) : InV Ideal := fun y => z (ix4 a (y 0) (y 1) (y 2))
theorem bat_apply (z : Za) (a : Fin 4) (r : Fin 16) (p : Fin 256) (c : Fin 1536) : bat z a (ix3 r p c) = z (ix4 a r p c) := rfl

/-- Where the reference has the kernel's key row `j` among the two blocks of keys of block `n`: block 0 stands behind the block of zeros before it,
    and the row that falls off the end takes a masked place. -/
def place : (n : Fin 2) → Fin 256 ≃ Fin 256
  | 0 => ⟨fun j => ⟨(j.val + 128) % 256, Nat.mod_lt _ (by decide)⟩, fun j => ⟨(j.val + 128) % 256, Nat.mod_lt _ (by decide)⟩,
      fun j => Fin.ext (by dsimp only; omega), fun j => Fin.ext (by dsimp only; omega)⟩
  | 1 => Equiv.refl _

theorem valid_place (n : Fin 2) (i : Fin 128) (j : Fin 256) : Valid n i (place n j) ↔ InWin n.val i j := by
  have hi := i.isLt
  have hj := j.isLt
  match n with
  | 0 =>
    show (i.val ≤ (j.val + 128) % 256 ∧ (j.val + 128) % 256 ≤ i.val + 128 ∧ ((0 : ℕ) = 0 → 128 ≤ (j.val + 128) % 256)) ↔ j.val ≤ i.val
    omega
  | 1 =>
    show (i.val ≤ j.val ∧ j.val ≤ i.val + 128 ∧ ((1 : ℕ) = 0 → 128 ≤ j.val)) ↔ (i.val ≤ j.val ∧ j.val ≤ i.val + 128)
    omega

/-- In the window the row there is the kernel's. -/
theorem withPrev_place (z : Za) (y : FVec Ideal Cert.ReferenceIdeal.S4x16x2x128x4x128 .f32) (o : ℕ) (ho : o ≤ 1024)
    (hy : ∀ (a : Fin 4) (r : Fin 16) (n : Fin 2) (i : Fin 128) (h : Fin 4) (d : Fin 128),
      y (ix6 a r n i h d) = z (ix4 a r ⟨128 * n.val + i.val, by omega⟩ ⟨o + (128 * h.val + d.val), by omega⟩))
    (a : Fin 4) (r : Fin 16) (n : Fin 2) (i : Fin 128) (j : Fin 256) (h : Fin 4) (d : Fin 128) (hv : InWin n.val i j) :
    withPrev y (ix6 a r n (place n j) h d) = z (ix4 a r j ⟨o + (128 * h.val + d.val), by omega⟩) := by
  have hi := i.isLt
  have hj := j.isLt
  rw [withPrev_apply]
  match n with
  | 0 =>
    have hji : j.val ≤ i.val := hv
    have e : (place 0 j).val = j.val + 128 := (Nat.mod_eq_of_lt (by omega) : (j.val + 128) % 256 = j.val + 128)
    rw [dif_neg (by omega), hy]
    refine congrArg (fun t : Fin 256 => z (ix4 a r t _)) (Fin.ext ?_)
    show 128 * 0 + ((place 0 j).val - 128) = j.val
    omega
  | 1 =>
    have e : (place 1 j).val = j.val := rfl
    by_cases c : j.val < 128
    · rw [dif_pos (by omega), dif_neg (by decide), hy]
      refine congrArg (fun t : Fin 256 => z (ix4 a r t _)) (Fin.ext ?_)
      show 128 * 0 + (place 1 j).val = j.val
      omega
    · rw [dif_neg (by omega), hy]
      refine congrArg (fun t : Fin 256 => z (ix4 a r t _)) (Fin.ext ?_)
      show 128 * 1 + ((place 1 j).val - 128) = j.val
      omega

theorem score (z : Za) (a : Fin 4) (r : Fin 16) (n : Fin 2) (h : Fin 4) (i : Fin 128) (j : Fin 256) :
    rs z (ix6 a r n h i (place n j)) = sc (bat z a) r n h i j := by
  rw [rs_apply]
  unfold sc
  by_cases c : InWin n.val i j
  · rw [if_pos ((valid_place n i j).mpr c), if_pos c]
    refine Finset.sum_congr rfl fun d _ => ?_
    rw [rq_apply, withPrev_place z (rk z) 512 (by decide) (rk_apply z) a r n i j h d c]
    rfl
  · rw [if_neg (fun v => c ((valid_place n i j).mp v)), if_neg c]

theorem maxi (z : Za) (a : Fin 4) (r : Fin 16) (n : Fin 2) (h : Fin 4) (i : Fin 128) :
    rm z (ix6 a r n h i (0 : Fin 1)) = mx (bat z a) r n h i := by
  rw [rm_apply]
  unfold mx
  refine (congrArg (Finset.fold _ _ _) (Finset.map_univ_equiv (place n)).symm).trans ?_
  rw [Finset.fold_map]
  exact congrArg (fun f => Finset.fold _ _ f Finset.univ) (funext fun j => score z a r n h i j)

theorem expo (z : Za) (a : Fin 4) (r : Fin 16) (n : Fin 2) (h : Fin 4) (i : Fin 128) (j : Fin 256) :
    re z (ix6 a r n h i (place n j)) = ex (bat z a) r n h i j := by
  rw [re_apply, score, maxi]; rfl

theorem suml (z : Za) (a : Fin 4) (r : Fin 16) (n : Fin 2) (h : Fin 4) (i : Fin 128) :
    rl z (ix6 a r n h i (0 : Fin 1)) = sm (bat z a) r n h i := by
  rw [rl_apply]
  unfold sm
  rw [← Equiv.sum_comp (place n)]
  exact Finset.sum_congr rfl fun j _ => expo z a r n h i j

/-- Outside the window the power is zero. -/
theorem ex_out (x : InV Ideal) (r : Fin 16) (b : Fin 2) (h : Fin 4) (i : Fin 128) (j : Fin 256) (c : ¬ InWin b.val i j) : ex x r b h i j = 0 := by
  unfold ex sc
  rw [if_neg c]
  rw [EReal.bot_sub]
  rfl

theorem values (z : Za) (a : Fin 4) (r : Fin 16) (n : Fin 2) (h : Fin 4) (i d : Fin 128) :
    ∑ k : Fin 256, (withPrev (rv z) (ix6 a r n k h d) * re z (ix6 a r n h i k) : EReal) = wv (bat z a) r n h i d := by
  unfold wv
  rw [← Equiv.sum_comp (place n)]
  refine Finset.sum_congr rfl fun j _ => ?_
  rw [expo]
  by_cases c : InWin n.val i j
  · rw [withPrev_place z (rv z) 1024 (by decide) (rv_apply z) a r n i j h d c]
    exact mul_comm _ _
  · rw [ex_out _ _ _ _ _ _ c, mul_zero, zero_mul]

theorem refO_eq (z : Za) (a : Fin 4) (r : Fin 16) (p : Fin 256) (c : Fin 512) : refO z (ix4 a r p c) = attO (bat z a) (ix3 r p c) := by
  rw [refO_apply, values, attO_apply]
theorem refS_eq (z : Za) (a : Fin 4) (r : Fin 16) (p : Fin 256) (l : Fin 128) : refS z (ix4 a r p l) = attS (bat z a) (ix3 r p l) := by
  rw [refS_apply, attS_apply, maxi, suml]

open Cert.KernelIdeal in
theorem bkI_pos (n : ℕ) (z : S16x256x1536.Idx) : (bkI n).view.emb z
    = ((Rect.unit (s := S4x16x256x1536) ![n % 4, 0, 0, 0] S1x16x256x1536.size (inbBI n)).emb (ix4 (0 : Fin 1) (z 0) (z 1) (z 2)) : S4x16x256x1536.Idx) := by
  show (Rect.unit (s := S4x16x256x1536) ![n % 4, 0, 0, 0] S1x16x256x1536.size (inbBI n)).emb (Shape.reshapeEquiv _ z) = _
  congr 1
  refine (Shape.reshapeEquiv_cons_one (d := S16x256x1536.size) _ z).trans ?_
  funext a
  match a with | ⟨0, _⟩ => rfl | ⟨1, _⟩ => rfl | ⟨2, _⟩ => rfl | ⟨3, _⟩ => rfl
open Cert.KernelIdeal in
theorem bkI_coord (n : ℕ) (hn : n < 4) (z : S16x256x1536.Idx) : (bkI n).view.emb z = (ix4 (⟨n, hn⟩ : Fin 4) (z 0) (z 1) (z 2) : S4x16x256x1536.Idx) := by
  rw [bkI_pos]
  funext a
  apply Fin.ext
  rw [Rect.emb_apply]
  match a with
  | ⟨0, _⟩ => show n % 4 + 1 * 0 = n; omega
  | ⟨1, _⟩ => show 0 + 1 * (z 0).val = (z 0).val; omega
  | ⟨2, _⟩ => show 0 + 1 * (z 1).val = (z 1).val; omega
  | ⟨3, _⟩ => show 0 + 1 * (z 2).val = (z 2).val; omega
/-- The block the pipeline fetches for step `n` is batch `n`. -/
theorem blkV_eq (c : Dev Cert.KernelIdeal.nD) (z : Za) (n : Fin 4) : blkV (F := Ideal) c z n.val = bat z n := by
  funext y
  show z ((bkI n.val).view.emb y) = _
  rw [bkI_coord n.val n.isLt y]
  rfl

/-- The kernel's first result is the reference's. -/
theorem outO_eq (c : Dev Cert.KernelIdeal.nD) (z : Za) : outO (F := Ideal) c z = refO z := by
  funext y
  obtain ⟨a, r, p, d, rfl⟩ : ∃ (a : Fin 4) (r : Fin 16) (p : Fin 256) (d : Fin 512), y = ix4 a r p d :=
    ⟨y 0, y 1, y 2, y 3, funext fun a => match a with | ⟨0, _⟩ => rfl | ⟨1, _⟩ => rfl | ⟨2, _⟩ => rfl | ⟨3, _⟩ => rfl⟩
  rw [refO_eq, ← blkV_eq c z a]
  rfl
/-- And so is the second. -/
theorem outS_eq (c : Dev Cert.KernelIdeal.nD) (z : Za) : outS (F := Ideal) c z = refS z := by
  funext y
  obtain ⟨a, r, p, l, rfl⟩ : ∃ (a : Fin 4) (r : Fin 16) (p : Fin 256) (l : Fin 128), y = ix4 a r p l :=
    ⟨y 0, y 1, y 2, y 3, funext fun a => match a with | ⟨0, _⟩ => rfl | ⟨1, _⟩ => rfl | ⟨2, _⟩ => rfl | ⟨3, _⟩ => rfl⟩
  rw [refS_eq, ← blkV_eq c z a]
  rfl

end Cert.Proof.Equal
-- ==== Proof.MergeMath.lean ====
module

public import Idealize.ShloMosaic.PureOps
public import Idealize.ShloMosaic.Lib.Pointwise

@[expose] public section

set_option maxRecDepth 16384

noncomputable section

namespace Cert.Proof.Merge

open Idealize.ShloMosaic

/-! ## The constants -/

theorem c_two : Ideal.ofBits .f32 0x40000000#32 = ((2 : ℝ) : EReal) := by
  simp [Ideal.ofBits, Ideal.ieee]
  rw [← EReal.coe_mul]
  norm_num
theorem c_one : Ideal.ofBits .f32 0x3F800000#32 = ((1 : ℝ) : EReal) := by
  simp [Ideal.ofBits, Ideal.ieee]
  rw [← EReal.coe_mul]
  norm_num
theorem c_half : Ideal.ofBits .f32 0x3F000000#32 = ((1 / 2 : ℝ) : EReal) := by
  simp [Ideal.ofBits, Ideal.ieee]
  rw [← EReal.coe_mul]
  norm_num
theorem c_zero : Ideal.ofBits .f32 0x00000000#32 = (0 : EReal) := by
  simp [Ideal.ofBits, Ideal.ieee]
theorem c_bot : Ideal.ofBits .f32 0xFF800000#32 = (⊥ : EReal) := by
  simp [Ideal.ofBits, Ideal.ieee]
theorem c_top : Ideal.ofBits .f32 0x7F800000#32 = (⊤ : EReal) := by
  simp [Ideal.ofBits, Ideal.ieee]

/-! ## The gates -/

/-- A gate as the kernel computes it. -/
def gateK (x : EReal) : EReal :=
  Ideal.ofBits .f32 0x3F000000#32 * Ideal.tanh (Ideal.ofBits .f32 0x3F000000#32 * x) + Ideal.ofBits .f32 0x3F000000#32
/-- A gate: the logistic function. -/
def gateR (x : EReal) : EReal :=
  Ideal.div (Ideal.ofBits .f32 0x3F800000#32) (Ideal.ofBits .f32 0x3F800000#32 + Ideal.exp (-x))

theorem half_tanh (x : ℝ) : 1 / 2 * Real.tanh (1 / 2 * x) + 1 / 2 = 1 / (1 + Real.exp (-x)) := by
  have e : Real.exp (1 / 2 * x) ≠ 0 := (Real.exp_pos _).ne'
  have h : Real.exp (-x) = Real.exp (-(1 / 2 * x)) * Real.exp (-(1 / 2 * x)) := by
    rw [← Real.exp_add]; congr 1; ring
  have p : 0 < Real.exp (1 / 2 * x) := Real.exp_pos _
  rw [Real.tanh_eq_sinh_div_cosh, Real.sinh_eq, Real.cosh_eq, h, Real.exp_neg]
  field_simp
  ring

theorem gate_eq (x : EReal) : gateK x = gateR x := by
  unfold gateK gateR
  rw [c_half, c_one]
  induction x with
  | bot =>
    rw [EReal.coe_mul_bot_of_pos (by norm_num)]
    simp only [EReal.neg_bot, Ideal.exp_top, Ideal.tanh_bot]
    rw [EReal.coe_add_top]
    simp only [Ideal.div, EReal.inv_top, EReal.top_ne_zero, if_false, mul_zero]
    rw [← EReal.coe_one, ← EReal.coe_neg, ← EReal.coe_mul, ← EReal.coe_add]
    norm_num
  | top =>
    rw [EReal.coe_mul_top_of_pos (by norm_num)]
    simp only [EReal.neg_top, Ideal.exp_bot, Ideal.tanh_top]
    rw [add_zero, Ideal.div_coe one_ne_zero, ← EReal.coe_one, ← EReal.coe_mul, ← EReal.coe_add, ← EReal.coe_mul]
    norm_num
  | coe x =>
    have p : 0 < 1 + Real.exp (-x) := by have := Real.exp_pos (-x); linarith
    rw [← EReal.coe_mul, Ideal.tanh_coe, ← EReal.coe_mul, ← EReal.coe_add, ← EReal.coe_neg, Ideal.exp_coe, ← EReal.coe_add,
      Ideal.div_coe p.ne', ← EReal.coe_mul, half_tanh, one_mul]

/-! ## The merge of the groups -/

/-- The logarithm to the base two of a group's sum, in base two, as the kernel computes it. -/
def lse2 (m l : EReal) : EReal := m + Ideal.div (Ideal.log l) (Ideal.log (Ideal.ofBits .f32 0x40000000#32))
/-- The natural logarithm of a group's sum. -/
def lse (m l : EReal) : EReal := m * Ideal.log (Ideal.ofBits .f32 0x40000000#32) + Ideal.log l
/-- The merged output of three groups with maxima `m`, denominators `l` and numerators `o`, as the kernel computes it. -/
def mergeK (m l o : Fin 3 → EReal) : EReal :=
  let top := max (max (lse2 (m 0) (l 0)) (lse2 (m 1) (l 1))) (lse2 (m 2) (l 2))
  let den := Ideal.exp2 (lse2 (m 0) (l 0) - top) + Ideal.exp2 (lse2 (m 1) (l 1) - top) + Ideal.exp2 (lse2 (m 2) (l 2) - top)
  Ideal.div (Ideal.exp2 (m 0 - top)) den * o 0 + Ideal.div (Ideal.exp2 (m 1 - top)) den * o 1
    + Ideal.div (Ideal.exp2 (m 2 - top)) den * o 2
/-- The merged output: the groups' outputs weighted by the softmax over the groups. -/
def mergeR (m l o : Fin 3 → EReal) : EReal :=
  let top := max (max (lse (m 0) (l 0)) (lse (m 1) (l 1))) (lse (m 2) (l 2))
  let den := Ideal.exp (lse (m 0) (l 0) - top) + Ideal.exp (lse (m 1) (l 1) - top) + Ideal.exp (lse (m 2) (l 2) - top)
  Ideal.div (Ideal.exp (lse (m 0) (l 0) - top)) den * Ideal.div (o 0) (l 0)
    + Ideal.div (Ideal.exp (lse (m 1) (l 1) - top)) den * Ideal.div (o 1) (l 1)
    + Ideal.div (Ideal.exp (lse (m 2) (l 2) - top)) den * Ideal.div (o 2) (l 2)

theorem log_two_pos : 0 < Real.log 2 := Real.log_pos (by norm_num)
theorem log_two : Ideal.log (Ideal.ofBits .f32 0x40000000#32) = ((Real.log 2 : ℝ) : EReal) := by
  rw [c_two, Ideal.log_coe, if_neg (by norm_num)]
theorem log_pos_coe {l : ℝ} (h : 0 < l) : Ideal.log (l : EReal) = ((Real.log l : ℝ) : EReal) := by
  rw [Ideal.log_coe, if_neg (not_le.mpr h)]
theorem lse2_coe (m : EReal) {l : ℝ} (h : 0 < l) : lse2 m (l : EReal) = m + ((Real.log l / Real.log 2 : ℝ) : EReal) := by
  unfold lse2
  rw [log_two, log_pos_coe h, Ideal.div_coe log_two_pos.ne', ← EReal.coe_mul]
  congr 2
  ring
/-- The natural logarithm is the logarithm to the base two, scaled, whatever the maximum. -/
theorem lse_eq (m : EReal) {l : ℝ} (h : 0 < l) : lse m (l : EReal) = lse2 m (l : EReal) * ((Real.log 2 : ℝ) : EReal) := by
  rw [lse2_coe m h]
  unfold lse
  rw [log_two, log_pos_coe h]
  induction m with
  | bot => rw [EReal.bot_add, EReal.bot_mul_coe_of_pos log_two_pos, EReal.bot_add]
  | top => rw [EReal.top_add_coe, EReal.top_mul_coe_of_pos log_two_pos, EReal.top_add_coe]
  | coe x =>
    rw [← EReal.coe_mul, ← EReal.coe_add, ← EReal.coe_add, ← EReal.coe_mul]
    congr 1
    have := log_two_pos.ne'
    field_simp
theorem exp2_coe' (x : ℝ) : Ideal.exp2 (x : EReal) = ((Real.exp (x * Real.log 2) : ℝ) : EReal) := by
  rw [Ideal.exp2_coe]
  congr 1
  show (2 : ℝ) ^ x = _
  rw [Real.rpow_def_of_pos (by norm_num), mul_comm]
/-- A scaled difference under the exponential is a difference under the power of two. -/
theorem exp_scaled (z t : EReal) : Ideal.exp (z * ((Real.log 2 : ℝ) : EReal) - t * ((Real.log 2 : ℝ) : EReal)) = Ideal.exp2 (z - t) := by
  induction t with
  | bot =>
    rw [EReal.bot_mul_coe_of_pos log_two_pos]
    induction z with
    | bot => rw [EReal.bot_mul_coe_of_pos log_two_pos, EReal.bot_sub]; rfl
    | top => rw [EReal.top_mul_coe_of_pos log_two_pos]; rfl
    | coe x => rw [← EReal.coe_mul]; rfl
  | top =>
    rw [EReal.top_mul_coe_of_pos log_two_pos, EReal.sub_top, EReal.sub_top]; rfl
  | coe y =>
    rw [← EReal.coe_mul]
    induction z with
    | bot => rw [EReal.bot_mul_coe_of_pos log_two_pos]; rfl
    | top => rw [EReal.top_mul_coe_of_pos log_two_pos]; rfl
    | coe x => rw [← EReal.coe_mul, ← EReal.coe_sub, ← EReal.coe_sub, exp2_coe', Ideal.exp_coe, sub_mul]
/-- A summand in the exponent is a factor. -/
theorem exp2_add (w : EReal) {l : ℝ} (h : 0 < l) : Ideal.exp2 (w + ((Real.log l / Real.log 2 : ℝ) : EReal)) = Ideal.exp2 w * (l : EReal) := by
  induction w with
  | bot => rw [EReal.bot_add]; exact (zero_mul _).symm
  | top => rw [EReal.top_add_coe]; exact (EReal.top_mul_coe_of_pos h).symm
  | coe x =>
    rw [← EReal.coe_add, exp2_coe', exp2_coe', ← EReal.coe_mul]
    congr 1
    have e : (x + Real.log l / Real.log 2) * Real.log 2 = x * Real.log 2 + Real.log l := by
      have := log_two_pos.ne'
      field_simp
    rw [e, Real.exp_add, Real.exp_log h]
/-- A positive number taken into the weight and out of the output leaves their product. -/
theorem share_eq (a d o : EReal) {l : ℝ} (h : 0 < l) : Ideal.div a d * o = Ideal.div (a * (l : EReal)) d * Ideal.div o (l : EReal) := by
  have e : (l : EReal) * ((1 / l : ℝ) : EReal) = 1 := by
    rw [← EReal.coe_mul, mul_one_div_cancel h.ne', EReal.coe_one]
  rw [Ideal.div_coe h.ne']
  unfold Ideal.div
  by_cases hd : d = 0
  · rw [if_pos hd, if_pos hd]
    have p : 0 < 1 / l := one_div_pos.mpr h
    have hp : 0 < a * (l : EReal) ↔ 0 < a := by
      rcases lt_trichotomy a 0 with ha | ha | ha
      · have := EReal.mul_neg_iff.2 (Or.inr ⟨ha, (by exact_mod_cast h : (0 : EReal) < (l : EReal))⟩)
        exact ⟨fun q => absurd q this.not_gt, fun q => absurd q ha.not_gt⟩
      · rw [ha, zero_mul]
      · exact ⟨fun _ => ha, fun _ => EReal.mul_pos ha (by exact_mod_cast h)⟩
    by_cases ha : 0 < a
    · rw [if_pos ha, if_pos (hp.2 ha), mul_comm o, ← mul_assoc, EReal.top_mul_coe_of_pos p]
    · rw [if_neg ha, if_neg (fun q => ha (hp.1 q)), mul_comm o, ← mul_assoc, EReal.bot_mul_coe_of_pos p]
  · rw [if_neg hd, if_neg hd]
    calc a * d⁻¹ * o = a * d⁻¹ * o * ((l : EReal) * ((1 / l : ℝ) : EReal)) := by rw [e, mul_one]
      _ = _ := by ac_rfl

theorem max_scaled (a b : EReal) : max (a * ((Real.log 2 : ℝ) : EReal)) (b * ((Real.log 2 : ℝ) : EReal)) = max a b * ((Real.log 2 : ℝ) : EReal) :=
  (Monotone.map_max (fun _ _ q => mul_le_mul_of_nonneg_right q (by exact_mod_cast log_two_pos.le))).symm

theorem mergeR_eq (m l o : Fin 3 → EReal) (hl : ∀ g, 0 < l g ∧ l g ≠ ⊤) : mergeK m l o = mergeR m l o := by
  have el : ∀ g, ∃ x : ℝ, l g = x ∧ 0 < x := fun g => by
    have e : ((l g).toReal : EReal) = l g := EReal.coe_toReal (hl g).2 (ne_bot_of_gt (hl g).1)
    exact ⟨_, e.symm, by have := (hl g).1; rw [← e] at this; exact_mod_cast this⟩
  choose y hy hp using el
  have e1 : ∀ g, lse (m g) (l g) = lse2 (m g) (l g) * ((Real.log 2 : ℝ) : EReal) := fun g => by rw [hy]; exact lse_eq _ (hp g)
  have e2 : ∀ g t, Ideal.exp2 (lse2 (m g) (l g) - t) = Ideal.exp2 (m g - t) * (y g : EReal) := fun g t => by
    rw [hy, lse2_coe _ (hp g), sub_eq_add_neg, add_right_comm, exp2_add _ (hp g), sub_eq_add_neg]
  unfold mergeK mergeR
  simp only [e1, max_scaled, exp_scaled]
  generalize max (max (lse2 (m 0) (l 0)) (lse2 (m 1) (l 1))) (lse2 (m 2) (l 2)) = top
  generalize Ideal.exp2 (lse2 (m 0) (l 0) - top) + Ideal.exp2 (lse2 (m 1) (l 1) - top) + Ideal.exp2 (lse2 (m 2) (l 2) - top) = den
  have s : ∀ g, Ideal.div (Ideal.exp2 (m g - top)) den * o g = Ideal.div (Ideal.exp2 (lse2 (m g) (l g) - top)) den * Ideal.div (o g) (l g) := fun g => by
    rw [e2, hy]; exact share_eq _ _ _ (hp g)
  rw [s 0, s 1, s 2]

/-! ## Sums -/

/-- A sum over 4096 is the four sums over a quarter of it. -/
theorem sum_quarters (f : Fin 4096 → EReal) (a : EReal) :
    a + ∑ k : Fin 4096, f k
      = a + (∑ k : Fin 1024, f ⟨k.val, by omega⟩) + (∑ k : Fin 1024, f ⟨1024 + k.val, by omega⟩)
        + (∑ k : Fin 1024, f ⟨2048 + k.val, by omega⟩) + (∑ k : Fin 1024, f ⟨3072 + k.val, by omega⟩) := by
  rw [Fin.sum_univ_two_halves 2048 2048 rfl f, Fin.sum_univ_two_halves 1024 1024 rfl, Fin.sum_univ_two_halves 1024 1024 rfl]
  simp only [add_assoc]
  rfl

end Cert.Proof.Merge

end
-- ==== Proof.MergeScr.lean ====
module

public import proofs.«01_k».proof.Proof.Gen.Kernel2Ideal.Value
public import Idealize.ShloMosaic.PureOps
public import Idealize.ShloMosaic.Lib.Pointwise
public import Idealize.ShloMosaic.Lib.Tactic
public import Idealize.ShloMosaic.Lib.Pipeline.StridedRows
public import Idealize.ShloMosaic.Lib.Tactic.WordOmega

@[expose] public section

set_option maxRecDepth 16384

noncomputable section

namespace Cert.Proof.Merge

open Cert.Kernel2Ideal Cert.Kernel2Ideal.Gen
open Idealize.ShloMosaic Idealize.ShloMosaic.StridedRows

/-! ## A scratch plane written one strided row at a time -/

/-- A covered load reads the function that every piece agrees with. -/
theorem readCov_of {sig : RefSig} {κ : Kind} {sp : Space} {s : Shape} {e : EltTy} (v : View sig κ sp s e) (G : s.Idx → Elt Ideal e)
    (Ls : List (View.Piece (Elt Ideal) s e)) (hG : ∀ p ∈ Ls, ∀ y : p.1.shape.Idx, p.2 y = G (p.1.emb y)) (B : LoadRect s)
    (hB : ∀ x, ∃ p ∈ Ls, B.idx x ∈ p.1.set) : v.readCov Ls B = fun x => G (B.idx x) := by
  rw [View.readCov_eq_canon']
  funext x
  exact View.canon_apply_of_pieces G Ls hG _ (hB x)

/-- Indices of rank four with the same coordinates. -/
theorem ix4_ext {A B C D : ℕ} {a a' : Fin A} {b b' : Fin B} {c c' : Fin C} {d d' : Fin D} (ha : a = a') (hb : b = b') (hc : c = c')
    (hd : d = d') : ix4 a b c d = ix4 a' b' c' d' := by
  rw [ha, hb, hc, hd]
/-- A load of an input block is a slice of it. -/
theorem readAt_unit {κ : Kind} {sp : Space} {s : Shape} {e : EltTy} {a : Memref sig κ sp s e} (h : a.IsWhole) (X : s.Idx → Elt Ideal e)
    (off size : Fin s.rank → ℕ) (inb : ∀ a, off a + size a ≤ s.size a) :
    View.readAt (Elt Ideal) a.view (Rect.unit off size inb).toLoadRect (h.unread X) = extractStridedSlice ⟨_, size⟩ off X ⟨rfl, inb⟩ := by
  rw [View.readAt_eq_ld, h.read_unread]
  exact View.ld_unit X off size inb
/-- An index of a rectangle, in the array. -/
theorem emb_val {s : Shape} (R : Rect s) (y : R.shape.Idx) (a : Fin s.rank) : (R.emb y a).val = R.off a + R.stride a * (y a).val := rfl

/-- The strided row through an index of a plane. -/
theorem mem_rowRect {C N DP D L : ℕ} (hD : D ≤ DP) (y : (Plane C N DP L).Idx) (h : (y 1).val % DP < D) (h' : (y 1).val / DP < N) :
    y ∈ (rowRect (C := C) (N := N) (L := L) hD (y 0) ⟨(y 1).val % DP, h⟩ : Rect (Plane C N DP L)).set := by
  rw [LoadRect.mem_set]
  intro a
  match a with
  | ⟨0, _⟩ => exact ⟨0, Nat.one_pos, show (y 0).val = (y 0).val + 1 * 0 by omega⟩
  | ⟨1, _⟩ => exact ⟨(y 1).val / DP, h', show (y 1).val = (y 1).val % DP + DP * ((y 1).val / DP) from (Nat.mod_add_div _ _).symm⟩
  | ⟨2, _⟩ => exact ⟨(y 2).val, (y 2).isLt, show (y 2).val = 0 + 1 * (y 2).val by omega⟩

/-- An index whose row is among the stored rows is covered. -/
theorem cover_of {C N DP D L : ℕ} {e : EltTy} (hD : D ≤ DP) (Ls : List (View.Piece (Elt Ideal) (Plane C N DP L) e))
    (hR : ∀ (c : Fin C) (r : Fin D), rowRect hD c r ∈ Ls.map (fun p => p.1)) (y : (Plane C N DP L).Idx)
    (h : (y 1).val % DP < D) (h' : (y 1).val / DP < N) : ∃ p ∈ Ls, y ∈ p.1.set := by
  obtain ⟨p, hp, e⟩ := List.mem_map.mp (hR (y 0) ⟨_, h⟩)
  exact ⟨p, hp, by rw [e]; exact mem_rowRect hD y h h'⟩

/-- The rows of a list that stores them chunk by chunk within each residue, the last first. -/
theorem rows_of {C N DP D L : ℕ} (hD : D ≤ DP) (Rs : List (Rect (Plane C N DP L)))
    (f : Fin (C * D) → Fin C) (g : Fin (C * D) → Fin D) (hR : Rs = List.ofFn fun k => rowRect hD (f k) (g k))
    (hs : ∀ c r, ∃ k, f k = c ∧ g k = r) (c : Fin C) (r : Fin D) : rowRect hD c r ∈ Rs := by
  obtain ⟨k, rfl, rfl⟩ := hs c r
  rw [hR]
  exact List.mem_ofFn.mpr ⟨k, rfl⟩

/-- An array of one leading row, at numbers. -/
def at4 {R N D : ℕ} (x : (⟨4, ![1, R, N, D]⟩ : Shape).Idx → EReal) (r n d : ℕ) : EReal :=
  if h : r < R ∧ n < N ∧ d < D then x (ix4 (0 : Fin 1) ⟨r, h.1⟩ ⟨n, h.2.1⟩ ⟨d, h.2.2⟩) else 0
theorem at4_eq {R N D : ℕ} (x : (⟨4, ![1, R, N, D]⟩ : Shape).Idx → EReal) {r : Fin R} {n : Fin N} {d : Fin D} {r' n' d' : ℕ} (hr : r.val = r')
    (hn : n.val = n') (hd : d.val = d') : x (ix4 (0 : Fin 1) r n d) = at4 x r' n' d' := by
  subst hr hn hd
  have h : r.val < R ∧ n.val < N ∧ d.val < D := ⟨r.isLt, n.isLt, d.isLt⟩
  unfold at4
  rw [dif_pos h]
/-- What a plane holds: row y of chunk c is row y / DP of residue y % DP. -/
def planeOf {R N D : ℕ} (C M DP L : ℕ) (x : (⟨4, ![1, R, N, D]⟩ : Shape).Idx → EReal) (y : (Plane C M DP L).Idx) : EReal :=
  at4 x ((y 1).val % DP) ((y 1).val / DP) (L * (y 0).val + (y 2).val)
theorem planeOf_emb {R N D : ℕ} {C M DP L : ℕ} (x : (⟨4, ![1, R, N, D]⟩ : Shape).Idx → EReal) (B : Rect (Plane C M DP L)) (y : B.shape.Idx) :
    planeOf C M DP L x (B.emb y) = at4 x ((B.off 1 + B.stride 1 * (y 1).val) % DP) ((B.off 1 + B.stride 1 * (y 1).val) / DP)
      (L * (B.off 0 + B.stride 0 * (y 0).val) + (B.off 2 + B.stride 2 * (y 2).val)) := rfl
theorem planeOf_idx {R N D : ℕ} {C M DP L : ℕ} (x : (⟨4, ![1, R, N, D]⟩ : Shape).Idx → EReal) (B : LoadRect (Plane C M DP L)) (y : B.shape.Idx) :
    planeOf C M DP L x (B.idx y) = at4 x ((B.off 1 + B.stride 1 * (y 1).val) % DP) ((B.off 1 + B.stride 1 * (y 1).val) / DP)
      (L * (B.off 0 + B.stride 0 * (y 0).val) + (B.off 2 + B.stride 2 * (y 2).val)) := rfl

/-- The row of a residue's y-th element. -/
theorem strip {r D : ℕ} (y : ℕ) (h : r < D) : y = (r + D * y) / D := by
  rw [Nat.add_mul_div_left _ _ (by omega), Nat.div_eq_of_lt h, Nat.zero_add]

variable (c : Dev nD)

/-! ### Group 1: four residues, planes of 128 rows -/

section O1
variable (arg4 : Memref sig .tc .vmem S1x4x128x512 .bf16) (harg4 : arg4.IsWhole) (x3 : Vec Ideal S1x4x128x512 .bf16)

theorem rows1 (a : Fin 4) (r : Fin 4) : rowRect (C := 4) (N := 128) (DP := 4) (D := 4) (L := 128) le_rfl a r
    ∈ (kernelRun0_A.sl.HS0_16 (F := Ideal) c arg4 harg4 x3).map (fun p => p.1) := by
  refine rows_of (C := 4) (N := 128) (DP := 4) (D := 4) (L := 128) le_rfl _ (fun k => ⟨3 - k.val % 4, by omega⟩) (fun k => ⟨3 - k.val / 4, by omega⟩) rfl ?_ a r
  decide

theorem pieces1 : ∀ p ∈ kernelRun0_A.sl.HS0_16 (F := Ideal) c arg4 harg4 x3, ∀ y : p.1.shape.Idx,
    p.2 y = planeOf 4 128 4 128 x3 (p.1.emb y) := by
  sl_unfold_run_names
  simp only [List.forall_mem_cons, List.not_mem_nil, false_implies, implies_true, and_true]
  repeat' apply And.intro
  all_goals
    intro y
    have h0 : (y 0).val = 0 := Nat.lt_one_iff.mp (y 0).isLt
    rw [planeOf_emb]
    simp only [readAt_unit]
    pointwise [k0_pay8, k0_pay9, k0_pay10, k0_pay11, k0_pay12, k0_pay13, k0_pay14, k0_pay15, k0_pay16, k0_pay17, k0_pay18, k0_pay19, k0_pay20, k0_pay21, k0_pay22, k0_pay23, k0_pay24]
    refine at4_eq x3 ?_ ?_ ?_ <;> first
      | rfl
      | simp
      | (apply strip; decide)

/-- The plane read back, a chunk at a time. -/
theorem read1 (v : View sig .tc .vmem S4x512x128 .f32) (a : ℕ) (ha : a < 4) (x : S1x512x128.Idx)
    (inb : ∀ k : Fin 3, (![a, 0, 0] : Fin 3 → ℕ) k + S1x512x128.size k ≤ S4x512x128.size k) :
    v.readCov (kernelRun0_A.sl.HS0_16 (F := Ideal) c arg4 harg4 x3) (Rect.unit (s := S4x512x128) ![a, 0, 0] S1x512x128.size inb).toLoadRect x
      = at4 x3 ((x 1).val % 4) ((x 1).val / 4) (128 * a + (x 2).val) := by
  rw [readCov_of v _ _ (pieces1 c arg4 harg4 x3) _ fun x => ?_]
  · show planeOf 4 128 4 128 x3 (LoadRect.idx _ _) = _
    have h0 : (x 0).val = 0 := Nat.lt_one_iff.mp (x 0).isLt
    rw [planeOf_idx]
    simp [h0]
  · refine cover_of (C := 4) (N := 128) (DP := 4) (D := 4) (L := 128) le_rfl _ (rows1 c arg4 harg4 x3) _ (Nat.mod_lt _ (by norm_num)) ?_
    have := (LoadRect.idx (Rect.unit (s := S4x512x128) ![a, 0, 0] S1x512x128.size inb).toLoadRect x 1).isLt
    have h : S4x512x128.size 1 = 512 := rfl
    omega

end O1

section S1
variable (arg7 : Memref sig .tc .vmem S1x4x128x128 .f32) (harg7 : arg7.IsWhole) (x6 : Vec Ideal S1x4x128x128 .f32)

theorem rowsS1 (a : Fin 1) (r : Fin 4) : rowRect (C := 1) (N := 128) (DP := 4) (D := 4) (L := 128) le_rfl a r
    ∈ (kernelRun0_A.sl.HS2_4 (F := Ideal) c arg7 harg7 x6).map (fun p => p.1) := by
  refine rows_of (C := 1) (N := 128) (DP := 4) (D := 4) (L := 128) le_rfl _ (fun k => ⟨0, by omega⟩) (fun k => ⟨3 - k.val, by omega⟩) rfl ?_ a r
  decide

theorem piecesS1 : ∀ p ∈ kernelRun0_A.sl.HS2_4 (F := Ideal) c arg7 harg7 x6, ∀ y : p.1.shape.Idx,
    p.2 y = planeOf 1 128 4 128 x6 (p.1.emb y) := by
  iterate 4 sl_unfold_run_names
  simp only [List.forall_mem_cons, List.not_mem_nil, false_implies, implies_true, and_true]
  repeat' apply And.intro
  all_goals
    intro y
    have h0 : (y 0).val = 0 := Nat.lt_one_iff.mp (y 0).isLt
    rw [planeOf_emb]
    simp only [readAt_unit]
    pointwise []
    refine at4_eq x6 ?_ ?_ ?_ <;> first
      | rfl
      | simp
      | (apply strip; decide)

theorem readS1 (v : View sig .tc .vmem S1x512x128 .f32) (x : S1x512x128.Idx)
    (inb : ∀ k : Fin 3, (![0, 0, 0] : Fin 3 → ℕ) k + S1x512x128.size k ≤ S1x512x128.size k) :
    v.readCov (kernelRun0_A.sl.HS2_4 (F := Ideal) c arg7 harg7 x6) (Rect.unit (s := S1x512x128) ![0, 0, 0] S1x512x128.size inb).toLoadRect x
      = at4 x6 ((x 1).val % 4) ((x 1).val / 4) (x 2).val := by
  rw [readCov_of v _ _ (piecesS1 c arg7 harg7 x6) _ fun x => ?_]
  · show planeOf 1 128 4 128 x6 (LoadRect.idx _ _) = _
    have h0 : (x 0).val = 0 := Nat.lt_one_iff.mp (x 0).isLt
    rw [planeOf_idx]
    simp [h0]
  · refine cover_of (C := 1) (N := 128) (DP := 4) (D := 4) (L := 128) le_rfl _ (rowsS1 c arg7 harg7 x6) _ (Nat.mod_lt _ (by norm_num)) ?_
    have := (LoadRect.idx (Rect.unit (s := S1x512x128) ![0, 0, 0] S1x512x128.size inb).toLoadRect x 1).isLt
    have h : S1x512x128.size 1 = 512 := rfl
    omega

end S1

/-! ### Group 2: sixteen residues, planes of 32 rows, the rows 24 apart -/

section O2
variable (arg5 : Memref sig .tc .vmem S1x16x32x512 .bf16) (harg5 : arg5.IsWhole) (x4 : Vec Ideal S1x16x32x512 .bf16)

theorem rows2 (a : Fin 4) (r : Fin 16) : rowRect (C := 4) (N := 32) (DP := 24) (D := 16) (L := 128) (by norm_num) a r
    ∈ (kernelRun0_A.sl.HS1_64 (F := Ideal) c arg5 harg5 x4).map (fun p => p.1) := by
  refine rows_of (C := 4) (N := 32) (DP := 24) (D := 16) (L := 128) (by norm_num) _ (fun k => ⟨3 - k.val % 4, by omega⟩) (fun k => ⟨15 - k.val / 4, by omega⟩) rfl ?_ a r
  decide +kernel

theorem pieces2 : ∀ p ∈ kernelRun0_A.sl.HS1_64 (F := Ideal) c arg5 harg5 x4, ∀ y : p.1.shape.Idx,
    p.2 y = planeOf 4 32 24 128 x4 (p.1.emb y) := by
  iterate 2 sl_unfold_run_names
  simp only [List.forall_mem_cons, List.not_mem_nil, false_implies, implies_true, and_true]
  repeat' apply And.intro
  all_goals
    intro y
    have h0 : (y 0).val = 0 := Nat.lt_one_iff.mp (y 0).isLt
    rw [planeOf_emb]
    simp only [readAt_unit]
    pointwise [k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99]
    refine at4_eq x4 ?_ ?_ ?_ <;> first
      | rfl
      | simp
      | (apply strip; decide)

theorem read2 (v : View sig .tc .vmem S4x768x128 .f32) (a k : ℕ) (hk : k % 24 = 0) (x : S1x16x128.Idx)
    (inb : ∀ j : Fin 3, (![a, k, 0] : Fin 3 → ℕ) j + S1x16x128.size j ≤ S4x768x128.size j) :
    v.readCov (kernelRun0_A.sl.HS1_64 (F := Ideal) c arg5 harg5 x4) (Rect.unit (s := S4x768x128) ![a, k, 0] S1x16x128.size inb).toLoadRect x
      = at4 x4 (x 1).val (k / 24) (128 * a + (x 2).val) := by
  have hx (z : S1x16x128.Idx) : (z 1).val < 16 := (z 1).isLt
  have hb := inb 1
  have hb' : k + 16 ≤ 768 := hb
  have hi (z : S1x16x128.Idx) : (LoadRect.idx (Rect.unit (s := S4x768x128) ![a, k, 0] S1x16x128.size inb).toLoadRect z 1).val = k + 1 * (z 1).val := rfl
  rw [readCov_of v _ _ (pieces2 c arg5 harg5 x4) _ fun x => ?_]
  · show planeOf 4 32 24 128 x4 (LoadRect.idx _ _) = _
    have h0 : (x 0).val = 0 := Nat.lt_one_iff.mp (x 0).isLt
    have h1 := hx x
    rw [planeOf_idx]
    have e1 : (k + 1 * (x 1).val) % 24 = (x 1).val := by omega
    have e2 : (k + 1 * (x 1).val) / 24 = k / 24 := by omega
    have e3 : 128 * (a + 1 * (x 0).val) + (0 + 1 * (x 2).val) = 128 * a + (x 2).val := by omega
    exact (congrArg₂ (fun r n => at4 x4 r n _) e1 e2).trans (congrArg (at4 x4 _ _) e3)
  · have h1 := hx x
    refine cover_of (C := 4) (N := 32) (DP := 24) (D := 16) (L := 128) (by norm_num) _ (rows2 c arg5 harg5 x4) _ ?_ ?_
    · rw [hi x]
      omega
    · rw [hi x]
      omega

end O2

section S2
variable (arg8 : Memref sig .tc .vmem S1x16x32x128 .f32) (harg8 : arg8.IsWhole) (x7 : Vec Ideal S1x16x32x128 .f32)

theorem rowsS2 (a : Fin 1) (r : Fin 16) : rowRect (C := 1) (N := 32) (DP := 24) (D := 16) (L := 128) (by norm_num) a r
    ∈ (kernelRun0_A.sl.HS3_16 (F := Ideal) c arg8 harg8 x7).map (fun p => p.1) := by
  refine rows_of (C := 1) (N := 32) (DP := 24) (D := 16) (L := 128) (by norm_num) _ (fun k => ⟨0, by omega⟩) (fun k => ⟨15 - k.val, by omega⟩) rfl ?_ a r
  decide +kernel

theorem piecesS2 : ∀ p ∈ kernelRun0_A.sl.HS3_16 (F := Ideal) c arg8 harg8 x7, ∀ y : p.1.shape.Idx,
    p.2 y = planeOf 1 32 24 128 x7 (p.1.emb y) := by
  iterate 6 sl_unfold_run_names
  simp only [List.forall_mem_cons, List.not_mem_nil, false_implies, implies_true, and_true]
  repeat' apply And.intro
  all_goals
    intro y
    have h0 : (y 0).val = 0 := Nat.lt_one_iff.mp (y 0).isLt
    rw [planeOf_emb]
    simp only [readAt_unit]
    pointwise []
    refine at4_eq x7 ?_ ?_ ?_ <;> first
      | rfl
      | simp
      | (apply strip; decide)

theorem readS2 (v : View sig .tc .vmem S1x768x128 .f32) (k : ℕ) (hk : k % 24 = 0) (x : S1x16x128.Idx)
    (inb : ∀ j : Fin 3, (![0, k, 0] : Fin 3 → ℕ) j + S1x16x128.size j ≤ S1x768x128.size j) :
    v.readCov (kernelRun0_A.sl.HS3_16 (F := Ideal) c arg8 harg8 x7) (Rect.unit (s := S1x768x128) ![0, k, 0] S1x16x128.size inb).toLoadRect x
      = at4 x7 (x 1).val (k / 24) (x 2).val := by
  have hx (z : S1x16x128.Idx) : (z 1).val < 16 := (z 1).isLt
  have hb := inb 1
  have hb' : k + 16 ≤ 768 := hb
  have hi (z : S1x16x128.Idx) : (LoadRect.idx (Rect.unit (s := S1x768x128) ![0, k, 0] S1x16x128.size inb).toLoadRect z 1).val = k + 1 * (z 1).val := rfl
  rw [readCov_of v _ _ (piecesS2 c arg8 harg8 x7) _ fun x => ?_]
  · show planeOf 1 32 24 128 x7 (LoadRect.idx _ _) = _
    have h0 : (x 0).val = 0 := Nat.lt_one_iff.mp (x 0).isLt
    have h1 := hx x
    rw [planeOf_idx]
    have e1 : (k + 1 * (x 1).val) % 24 = (x 1).val := by omega
    have e2 : (k + 1 * (x 1).val) / 24 = k / 24 := by omega
    have e3 : 128 * (0 + 1 * (x 0).val) + (0 + 1 * (x 2).val) = (x 2).val := by omega
    exact (congrArg₂ (fun r n => at4 x7 r n _) e1 e2).trans (congrArg (at4 x7 _ _) e3)
  · have h1 := hx x
    refine cover_of (C := 1) (N := 32) (DP := 24) (D := 16) (L := 128) (by norm_num) _ (rowsS2 c arg8 harg8 x7) _ ?_ ?_
    · rw [hi x]
      omega
    · rw [hi x]
      omega

end S2

end Cert.Proof.Merge

end
-- ==== Proof.MergeCat.lean ====
module

public import proofs.«01_k».proof.Proof.MergeScr

@[expose] public section

set_option maxRecDepth 16384

noncomputable section

namespace Cert.Proof.Merge

open Cert.Kernel2Ideal Cert.Kernel2Ideal.Gen
open Idealize.ShloMosaic Idealize.ShloMosaic.StridedRows

/-! ## Pieces joined along an axis -/

/-- Piece k of a list, k counted from a first number, is the k-th of a family. -/
def Joined {α : Type} (P : ℕ → α → Prop) : List α → ℕ → Prop
  | [], _ => True
  | x :: xs, k => P k x ∧ Joined P xs (k + 1)

theorem Joined.get {α : Type} {P : ℕ → α → Prop} : ∀ {xs : List α} {k : ℕ}, Joined P xs k → ∀ (j : ℕ) (h : j < xs.length), P (k + j) xs[j]
  | _ :: _, _, h, 0, _ => h.1
  | _ :: xs, k, h, j + 1, hj => by
    have := Joined.get h.2 j (by simpa using hj)
    rw [show k + (j + 1) = k + 1 + j by omega]
    exact this

/-- Blocks of rows joined one under another, read at a row. -/
theorem rows_apply {A P W : ℕ} (hP : 0 < P) (fs : List ((⟨2, ![P, W]⟩ : Shape).Idx → EReal)) (hA : A = P * fs.length)
    (h : Shape.Concatenates ((fs.map fun f => (⟨⟨2, ![P, W]⟩, f⟩ : (s : Shape) × (s.Idx → EReal))).map (·.1)) ⟨2, ![A, W]⟩ 0)
    (G : ℕ → ℕ → ℕ → EReal) (hG : Joined (fun k f => ∀ (r : Fin P) (l : Fin W), f (ix2 r l) = G k r.val l.val) fs 0) (t : Fin A) (l : Fin W) :
    concatenate (⟨2, ![A, W]⟩ : Shape) (0 : Fin 2) (fs.map fun f => (⟨⟨2, ![P, W]⟩, f⟩ : (s : Shape) × (s.Idx → EReal))) h (ix2 t l)
      = G (t.val / P) (t.val % P) l.val := by
  have hk : t.val / P < fs.length := by
    rw [Nat.div_lt_iff_lt_mul hP, Nat.mul_comm, ← hA]
    exact t.isLt
  have hm : t.val % P < P := Nat.mod_lt _ hP
  have e := concatenate_apply_piece (t := ⟨2, ![A, W]⟩) (0 : Fin 2) (fs.map fun f => (⟨⟨2, ![P, W]⟩, f⟩ : (s : Shape) × (s.Idx → EReal))) h (ix2 t l)
    (t.val / P) (by simpa using hk) ⟨2, ![P, W]⟩ (fs[t.val / P]) (by simp) rfl (P * (t.val / P)) ?_ (ix2 (⟨t.val % P, hm⟩ : Fin P) l) ?_ ?_
  · rw [e, hG.get _ hk, Nat.zero_add]
  · rw [List.map_map, List.map_take, List.map_map]
    have : (List.map ((fun s : Shape => if h : s.rank = (⟨2, ![A, W]⟩ : Shape).rank then s.size (Fin.cast h.symm (0 : Fin 2)) else 0) ∘ (fun x => x.1) ∘ fun f =>
        (⟨⟨2, ![P, W]⟩, f⟩ : (s : Shape) × (s.Idx → EReal))) fs) = List.replicate fs.length P := by
      rw [List.eq_replicate_iff]
      refine ⟨by simp, fun b hb => ?_⟩
      obtain ⟨f, _, rfl⟩ := List.mem_map.mp hb
      rfl
    refine (congrArg (fun l => (List.take (t.val / P) l).sum) this).trans ?_
    rw [List.take_replicate, List.sum_replicate, Nat.min_eq_left hk.le, smul_eq_mul, Nat.mul_comm]
  · intro b hb
    match b with
    | ⟨0, _⟩ => exact absurd rfl hb
    | ⟨1, _⟩ => rfl
  · show P * (t.val / P) + t.val % P = t.val
    exact Nat.div_add_mod _ _

/-- Four blocks of columns side by side. -/
theorem cols_apply {M : ℕ} (f0 f1 f2 f3 : (⟨2, ![M, 128]⟩ : Shape).Idx → EReal) (h) (G : ℕ → ℕ → EReal)
    (h0 : ∀ (r : Fin M) (l : Fin 128), f0 (ix2 r l) = G r.val (128 * 0 + l.val)) (h1 : ∀ (r : Fin M) (l : Fin 128), f1 (ix2 r l) = G r.val (128 * 1 + l.val))
    (h2 : ∀ (r : Fin M) (l : Fin 128), f2 (ix2 r l) = G r.val (128 * 2 + l.val)) (h3 : ∀ (r : Fin M) (l : Fin 128), f3 (ix2 r l) = G r.val (128 * 3 + l.val))
    (r : Fin M) (d : Fin 512) :
    concatenate (⟨2, ![M, 512]⟩ : Shape) (1 : Fin 2) [(⟨⟨2, ![M, 128]⟩, f0⟩ : (s : Shape) × (s.Idx → EReal)), ⟨⟨2, ![M, 128]⟩, f1⟩, ⟨⟨2, ![M, 128]⟩, f2⟩, ⟨⟨2, ![M, 128]⟩, f3⟩] h (ix2 r d) = G r.val d.val := by
  have key (k : ℕ) (hk : k < 4) (f : (⟨2, ![M, 128]⟩ : Shape).Idx → EReal)
      (e : [(⟨⟨2, ![M, 128]⟩, f0⟩ : (s : Shape) × (s.Idx → EReal)), ⟨⟨2, ![M, 128]⟩, f1⟩, ⟨⟨2, ![M, 128]⟩, f2⟩, ⟨⟨2, ![M, 128]⟩, f3⟩][k]'hk = ⟨⟨2, ![M, 128]⟩, f⟩) (hpre) (hlo : 128 * k ≤ d.val) (hhi : d.val < 128 * k + 128)
      (hf : ∀ (r : Fin M) (l : Fin 128), f (ix2 r l) = G r.val (128 * k + l.val)) := by
    have e := concatenate_apply_piece (t := ⟨2, ![M, 512]⟩) (1 : Fin 2) _ h (ix2 r d) k hk ⟨2, ![M, 128]⟩ f e rfl (128 * k) hpre
      (ix2 r (⟨d.val - 128 * k, by omega⟩ : Fin 128)) (fun b hb => by
        match b with
        | ⟨0, _⟩ => rfl
        | ⟨1, _⟩ => exact absurd rfl hb) (show 128 * k + (d.val - 128 * k) = d.val by omega)
    exact e.trans ((hf _ _).trans (congrArg (G _) (show 128 * k + (d.val - 128 * k) = d.val by omega)))
  have hd := d.isLt
  by_cases c0 : d.val < 128
  · exact key 0 (by norm_num) f0 rfl rfl (by omega) (by omega) h0
  by_cases c1 : d.val < 256
  · exact key 1 (by norm_num) f1 rfl rfl (by omega) (by omega) h1
  by_cases c2 : d.val < 384
  · exact key 2 (by norm_num) f2 rfl rfl (by omega) (by omega) h2
  · exact key 3 (by norm_num) f3 rfl rfl (by omega) (by omega) h3

/-- The plane axis of a block of sixteen rows is dropped. -/
theorem drop16 (X : S1x16x128.Idx → EReal) (h : Shape.ShapeCasts S1x16x128 S16x128) (r : Fin 16) (l : Fin 128) :
    shapeCast S16x128 X h (ix2 r l) = X (ix3 (0 : Fin 1) r l) := by
  pointwise []
/-- The plane axis of a whole plane is dropped. -/
theorem drop512 (X : S1x512x128.Idx → EReal) (h : Shape.ShapeCasts S1x512x128 S512x128) (r : Fin 512) (l : Fin 128) :
    shapeCast S512x128 X h (ix2 r l) = X (ix3 (0 : Fin 1) r l) := by
  pointwise []

variable (c : Dev nD)

section O2
variable (arg5 : Memref sig .tc .vmem S1x16x32x512 .bf16) (harg5 : arg5.IsWhole) (arg24 : Memref sig .tc .vmem S4x768x128 .f32)
  (x4 : Vec Ideal S1x16x32x512 .bf16)

theorem piece2 (a k n : ℕ) (hk : k = 24 * n) (inb : ∀ j : Fin 3, (![a, k, 0] : Fin 3 → ℕ) j + S1x16x128.size j ≤ S4x768x128.size j)
    (h : Shape.ShapeCasts S1x16x128 S16x128) (r : Fin 16) (l : Fin 128) :
    shapeCast S16x128 (arg24.view.readCov (kernelRun0_A.sl.HS1_64 (F := Ideal) c arg5 harg5 x4) (Rect.unit (s := S4x768x128) ![a, k, 0] S1x16x128.size inb).toLoadRect) h (ix2 r l)
      = at4 x4 r.val n (128 * a + l.val) := by
  subst hk
  have e : arg24.view.readCov (kernelRun0_A.sl.HS1_64 (F := Ideal) c arg5 harg5 x4) (Rect.unit (s := S4x768x128) ![a, 24 * n, 0] S1x16x128.size inb).toLoadRect
      = fun x : S1x16x128.Idx => at4 x4 (x 1).val (24 * n / 24) (128 * a + (x 2).val) :=
    funext fun x => read2 c arg5 harg5 x4 arg24.view a (24 * n) (Nat.mul_mod_right _ _) x inb
  rw [e, drop16]
  rw [Nat.mul_div_cancel_left _ (by norm_num)]
  rfl

set_option maxHeartbeats 400000 in
/-- The numerators of group 2, in token order. -/
theorem nums2 (t : Fin 512) (d : Fin 512) :
    kernelRun0_A.sl.v815 (F := Ideal) c arg5 harg5 arg24 x4 (ix2 t d) = at4 x4 (t.val % 16) (t.val / 16) d.val := by
  refine rows_apply (A := 512) (P := 16) (W := 512) (by norm_num) [kernelRun0_A.sl.v535 c arg5 harg5 arg24 x4, kernelRun0_A.sl.v544 c arg5 harg5 arg24 x4, kernelRun0_A.sl.v553 c arg5 harg5 arg24 x4, kernelRun0_A.sl.v562 c arg5 harg5 arg24 x4, kernelRun0_A.sl.v571 c arg5 harg5 arg24 x4, kernelRun0_A.sl.v580 c arg5 harg5 arg24 x4, kernelRun0_A.sl.v589 c arg5 harg5 arg24 x4, kernelRun0_A.sl.v598 c arg5 harg5 arg24 x4, kernelRun0_A.sl.v607 c arg5 harg5 arg24 x4, kernelRun0_A.sl.v616 c arg5 harg5 arg24 x4, kernelRun0_A.sl.v625 c arg5 harg5 arg24 x4, kernelRun0_A.sl.v634 c arg5 harg5 arg24 x4, kernelRun0_A.sl.v643 c arg5 harg5 arg24 x4, kernelRun0_A.sl.v652 c arg5 harg5 arg24 x4, kernelRun0_A.sl.v661 c arg5 harg5 arg24 x4, kernelRun0_A.sl.v670 c arg5 harg5 arg24 x4, kernelRun0_A.sl.v679 c arg5 harg5 arg24 x4, kernelRun0_A.sl.v688 c arg5 harg5 arg24 x4, kernelRun0_A.sl.v697 c arg5 harg5 arg24 x4, kernelRun0_A.sl.v706 c arg5 harg5 arg24 x4, kernelRun0_A.sl.v715 c arg5 harg5 arg24 x4, kernelRun0_A.sl.v724 c arg5 harg5 arg24 x4, kernelRun0_A.sl.v733 c arg5 harg5 arg24 x4, kernelRun0_A.sl.v742 c arg5 harg5 arg24 x4, kernelRun0_A.sl.v751 c arg5 harg5 arg24 x4, kernelRun0_A.sl.v760 c arg5 harg5 arg24 x4, kernelRun0_A.sl.v769 c arg5 harg5 arg24 x4, kernelRun0_A.sl.v778 c arg5 harg5 arg24 x4, kernelRun0_A.sl.v787 c arg5 harg5 arg24 x4, kernelRun0_A.sl.v796 c arg5 harg5 arg24 x4, kernelRun0_A.sl.v805 c arg5 harg5 arg24 x4, kernelRun0_A.sl.v814 c arg5 harg5 arg24 x4] rfl _ (fun k r l => at4 x4 r k l) ?_ t d
  repeat' apply And.intro
  on_goal 33 => trivial
  all_goals
    refine fun r l => cols_apply (M := 16) _ _ _ _ concatenates_S16x128_S16x128_S16x128_S16x128_S16x512_d1 (fun r d => at4 x4 r _ d) ?_ ?_ ?_ ?_ r l <;> intro r l <;>
    exact piece2 c arg5 harg5 arg24 x4 _ _ _ (by norm_num) _ _ r l

end O2

section S2
variable (arg8 : Memref sig .tc .vmem S1x16x32x128 .f32) (harg8 : arg8.IsWhole) (arg26 : Memref sig .tc .vmem S1x768x128 .f32)
  (x7 : Vec Ideal S1x16x32x128 .f32)

theorem pieceS2 (k n : ℕ) (hk : k = 24 * n) (inb : ∀ j : Fin 3, (![0, k, 0] : Fin 3 → ℕ) j + S1x16x128.size j ≤ S1x768x128.size j)
    (h : Shape.ShapeCasts S1x16x128 S16x128) (r : Fin 16) (l : Fin 128) :
    shapeCast S16x128 (arg26.view.readCov (kernelRun0_A.sl.HS3_16 (F := Ideal) c arg8 harg8 x7) (Rect.unit (s := S1x768x128) ![0, k, 0] S1x16x128.size inb).toLoadRect) h (ix2 r l)
      = at4 x7 r.val n l.val := by
  subst hk
  have e : arg26.view.readCov (kernelRun0_A.sl.HS3_16 (F := Ideal) c arg8 harg8 x7) (Rect.unit (s := S1x768x128) ![0, 24 * n, 0] S1x16x128.size inb).toLoadRect
      = fun x : S1x16x128.Idx => at4 x7 (x 1).val (24 * n / 24) (x 2).val :=
    funext fun x => readS2 c arg8 harg8 x7 arg26.view (24 * n) (Nat.mul_mod_right _ _) x inb
  rw [e, drop16]
  rw [Nat.mul_div_cancel_left _ (by norm_num)]
  rfl

set_option maxHeartbeats 400000 in
/-- The statistics of group 2, in token order. -/
theorem stats2 (t : Fin 512) (l : Fin 128) :
    kernelRun0_A.sl.v984 (F := Ideal) c arg8 harg8 arg26 x7 (ix2 t l) = at4 x7 (t.val % 16) (t.val / 16) l.val := by
  refine rows_apply (A := 512) (P := 16) (W := 128) (by norm_num) [kernelRun0_A.sl.v921 c arg8 harg8 arg26 x7, kernelRun0_A.sl.v923 c arg8 harg8 arg26 x7, kernelRun0_A.sl.v925 c arg8 harg8 arg26 x7, kernelRun0_A.sl.v927 c arg8 harg8 arg26 x7, kernelRun0_A.sl.v929 c arg8 harg8 arg26 x7, kernelRun0_A.sl.v931 c arg8 harg8 arg26 x7, kernelRun0_A.sl.v933 c arg8 harg8 arg26 x7, kernelRun0_A.sl.v935 c arg8 harg8 arg26 x7, kernelRun0_A.sl.v937 c arg8 harg8 arg26 x7, kernelRun0_A.sl.v939 c arg8 harg8 arg26 x7, kernelRun0_A.sl.v941 c arg8 harg8 arg26 x7, kernelRun0_A.sl.v943 c arg8 harg8 arg26 x7, kernelRun0_A.sl.v945 c arg8 harg8 arg26 x7, kernelRun0_A.sl.v947 c arg8 harg8 arg26 x7, kernelRun0_A.sl.v949 c arg8 harg8 arg26 x7, kernelRun0_A.sl.v951 c arg8 harg8 arg26 x7, kernelRun0_A.sl.v953 c arg8 harg8 arg26 x7, kernelRun0_A.sl.v955 c arg8 harg8 arg26 x7, kernelRun0_A.sl.v957 c arg8 harg8 arg26 x7, kernelRun0_A.sl.v959 c arg8 harg8 arg26 x7, kernelRun0_A.sl.v961 c arg8 harg8 arg26 x7, kernelRun0_A.sl.v963 c arg8 harg8 arg26 x7, kernelRun0_A.sl.v965 c arg8 harg8 arg26 x7, kernelRun0_A.sl.v967 c arg8 harg8 arg26 x7, kernelRun0_A.sl.v969 c arg8 harg8 arg26 x7, kernelRun0_A.sl.v971 c arg8 harg8 arg26 x7, kernelRun0_A.sl.v973 c arg8 harg8 arg26 x7, kernelRun0_A.sl.v975 c arg8 harg8 arg26 x7, kernelRun0_A.sl.v977 c arg8 harg8 arg26 x7, kernelRun0_A.sl.v979 c arg8 harg8 arg26 x7, kernelRun0_A.sl.v981 c arg8 harg8 arg26 x7, kernelRun0_A.sl.v983 c arg8 harg8 arg26 x7] rfl _ (fun k r l => at4 x7 r k l) ?_ t l
  repeat' apply And.intro
  on_goal 33 => trivial
  all_goals exact fun r l => pieceS2 c arg8 harg8 arg26 x7 _ _ (by norm_num) _ _ r l

end S2

section S1
variable (arg7 : Memref sig .tc .vmem S1x4x128x128 .f32) (harg7 : arg7.IsWhole) (arg25 : Memref sig .tc .vmem S1x512x128 .f32)
  (x6 : Vec Ideal S1x4x128x128 .f32)

/-- The statistics of group 1, in token order. -/
theorem stats1 (t : Fin 512) (l : Fin 128) :
    kernelRun0_A.sl.v839 (F := Ideal) c arg7 harg7 arg25 x6 (ix2 t l) = at4 x6 (t.val % 4) (t.val / 4) l.val := by
  have e : kernelRun0_A.sl.v838 (F := Ideal) c arg7 harg7 arg25 x6 = fun x : S1x512x128.Idx => at4 x6 ((x 1).val % 4) ((x 1).val / 4) (x 2).val :=
    funext fun x => readS1 c arg7 harg7 x6 arg25.view x _
  unfold kernelRun0_A.sl.v839
  rw [e, drop512]
  rfl

end S1

section O1
variable (arg4 : Memref sig .tc .vmem S1x4x128x512 .bf16) (harg4 : arg4.IsWhole) (arg23 : Memref sig .tc .vmem S4x512x128 .f32)
  (x3 : Vec Ideal S1x4x128x512 .bf16)

theorem piece1 (a : ℕ) (ha : a < 4) (inb : ∀ k : Fin 3, (![a, 0, 0] : Fin 3 → ℕ) k + S1x512x128.size k ≤ S4x512x128.size k)
    (h : Shape.ShapeCasts S1x512x128 S512x128) (r : Fin 512) (l : Fin 128) :
    shapeCast S512x128 (arg23.view.readCov (kernelRun0_A.sl.HS0_16 (F := Ideal) c arg4 harg4 x3) (Rect.unit (s := S4x512x128) ![a, 0, 0] S1x512x128.size inb).toLoadRect) h (ix2 r l)
      = at4 x3 (r.val % 4) (r.val / 4) (128 * a + l.val) := by
  have e : arg23.view.readCov (kernelRun0_A.sl.HS0_16 (F := Ideal) c arg4 harg4 x3) (Rect.unit (s := S4x512x128) ![a, 0, 0] S1x512x128.size inb).toLoadRect
      = fun x : S1x512x128.Idx => at4 x3 ((x 1).val % 4) ((x 1).val / 4) (128 * a + (x 2).val) :=
    funext fun x => read1 c arg4 harg4 x3 arg23.view a ha x inb
  rw [e, drop512]
  rfl

/-- The numerators of group 1, in token order. -/
theorem nums1 (t : Fin 512) (d : Fin 512) :
    kernelRun0_A.sl.r_9 (F := Ideal) c arg4 harg4 arg23 x3 (ix2 t d) = at4 x3 (t.val % 4) (t.val / 4) d.val := by
  refine cols_apply (M := 512) _ _ _ _ concatenates_S512x128_S512x128_S512x128_S512x128_S512x512_d1 (fun t d => at4 x3 (t % 4) (t / 4) d) ?_ ?_ ?_ ?_ t d <;> intro r l <;>
  exact piece1 c arg4 harg4 arg23 x3 _ (by norm_num) _ _ r l

end O1

end Cert.Proof.Merge

end
-- ==== Proof.MergeKer.lean ====
module

public import proofs.«01_k».proof.Proof.MergeMath
public import proofs.«01_k».proof.Proof.MergeCat

@[expose] public section

set_option maxRecDepth 16384

noncomputable section

namespace Cert.Proof.Merge

open Cert.Kernel2Ideal Cert.Kernel2Ideal.Gen
open Idealize.ShloMosaic

/-! ## A token's row, as numbers -/

/-- A row times a matrix. -/
def mvec {K N : ℕ} (v : Fin K → EReal) (W : Fin K → Fin N → EReal) (n : Fin N) : EReal := ∑ k, v k * W k n
/-- A row over its root mean square, scaled. -/
def normed (x g : Fin 1024 → EReal) (n : Fin 1024) : EReal :=
  x n * Ideal.rsqrt (Ideal.div (∑ k, x k * x k) (Ideal.ofBits .f32 0x44800000#32) + Ideal.ofBits .f32 0x358637BD#32) * g n
/-- The residual stream after the mixer. -/
def mixed (x ret gr ga : Fin 1024 → EReal) (o : Fin 512 → EReal) (wa : Fin 512 → Fin 1024 → EReal) (wo : Fin 1024 → Fin 1024 → EReal)
    (n : Fin 1024) : EReal := x n + mvec (fun k => gr k * ret k + ga k * mvec o wa k) wo n
/-- A hidden unit of the feed-forward block. -/
def hidden (h : Fin 1024 → EReal) (wu : Fin 1024 → Fin 4096 → EReal) (j : Fin 4096) : EReal := max (mvec h wu j) 0 * max (mvec h wu j) 0
/-- The residual stream after the feed-forward block. -/
def fed (x gm : Fin 1024 → EReal) (wu : Fin 1024 → Fin 4096 → EReal) (wd : Fin 4096 → Fin 1024 → EReal) (n : Fin 1024) : EReal :=
  x n + mvec (hidden (normed x gm) wu) wd n
/-- The layer's output row; the last gate is a parameter. -/
def outRow (gate : EReal → EReal) (x gp proj : Fin 1024 → EReal) (wpg : Fin 1024 → Fin 1024 → EReal) (n : Fin 1024) : EReal :=
  x n + gate (mvec (normed x gp) wpg n) * proj n

/-- The layer's output row from a token's inputs; the gate and the merge of the groups are parameters. -/
def rowOf (gate : EReal → EReal) (merge : (m l o : Fin 3 → EReal) → EReal) (x y : Fin 1024 → EReal) (O : Fin 3 → Fin 512 → EReal) (M L : Fin 3 → Fin 512 → EReal)
    (zr za : Fin 1024 → EReal) (wr : Fin 1024 → Fin 1024 → EReal) (wa : Fin 512 → Fin 1024 → EReal) (wo : Fin 1024 → Fin 1024 → EReal) (p : Fin 256 → EReal) (gm : Fin 1024 → EReal)
    (wu : Fin 1024 → Fin 4096 → EReal) (wd : Fin 4096 → Fin 1024 → EReal) (gp : Fin 1024 → EReal) (wpg : Fin 1024 → Fin 1024 → EReal) (wpp : Fin 256 → Fin 1024 → EReal)
    (n : Fin 1024) : EReal :=
  outRow gate (fed (mixed x (mvec y wr) (fun n => gate (zr n)) (fun n => gate (za n)) (fun d => merge (fun g => M g d) (fun g => L g d) (fun g => O g d)) wa wo) gm wu wd)
    gp (mvec p wpp) wpg n

/-- The lane of a head's maximum. -/
def laneM (d : Fin 512) : Fin 128 := ⟨32 * (d.val / 128), by omega⟩
/-- The lane of a head's sum. -/
def laneL (d : Fin 512) : Fin 128 := ⟨32 * (d.val / 128) + 16, by omega⟩

/-! ## The kernel's payloads at a token -/

section Ker
variable (t : Fin 512)

theorem pay2_apply (p : Vec Ideal S512x256 .f32) (w : Vec Ideal S256x1024 .bf16) (n : Fin 1024) :
    k0_pay2 p w (ix2 t n) = mvec (fun k => p (ix2 t k)) (fun k n => w (ix2 k n)) n := by
  pointwise [k0_pay2]
  rfl
theorem pay3_apply (y : Vec Ideal S512x1024 .bf16) (w : Vec Ideal S1024x1024 .bf16) (n : Fin 1024) :
    k0_pay3 y w (ix2 t n) = mvec (fun k => y (ix2 t k)) (fun k n => w (ix2 k n)) n := by
  pointwise [k0_pay3]
  rfl
theorem pay5_apply (b : Vec Ideal S1x2048 .f32) (x : Vec Ideal S512x1024 .bf16) (n : Fin 1024) :
    k0_pay5 b x (ix2 t n) = gateK (x (ix2 t n) + b (ix2 (0 : Fin 1) (⟨n.val, by omega⟩ : Fin 2048))) := by
  pointwise [k0_pay5, k0_pay4, gateK]
theorem pay6_apply (b : Vec Ideal S1x2048 .f32) (x : Vec Ideal S512x1024 .bf16) (n : Fin 1024) :
    k0_pay6 b x (ix2 t n) = gateK (x (ix2 t n) + b (ix2 (0 : Fin 1) (⟨1024 + n.val, by omega⟩ : Fin 2048))) := by
  pointwise [k0_pay6, k0_pay4, gateK]
theorem pay219_apply (a b : FVec Ideal S512x1024 .f32) (n : Fin 1024) : k0_pay219 a b (ix2 t n) = a (ix2 t n) + b (ix2 t n) := by
  pointwise [k0_pay219]

/-! ### The statistics -/

/-- The lane a sum is moved from. -/
def up (l : Fin 128) : Fin 128 := ⟨(l.val + 128 - 112) % 128, Nat.mod_lt _ (by norm_num)⟩
/-- The mask of the lanes that hold sums. -/
def sumMask : IVec S512x128 1 :=
  k0_pay200 (divsi kernelRun0_A.sl.v985 kernelRun0_A.sl.v986) (andi kernelRun0_A.sl.v1001 kernelRun0_A.sl.v1005) 1#32

theorem sumMask_apply : ∀ h : Fin 4, sumMask (ix2 t (up ⟨32 * h.val, by omega⟩)) = 1#1 := by
  intro h
  unfold sumMask
  sl_unfold_run_names
  pointwise [k0_pay200, up]
  revert h
  decide

theorem pay201_apply (s : FVec Ideal S512x128 .f32) (l : Fin 128) (hl : sumMask (ix2 t (up l)) = 1#1) :
    k0_pay201 s (divsi kernelRun0_A.sl.v985 kernelRun0_A.sl.v986) (andi kernelRun0_A.sl.v1001 kernelRun0_A.sl.v1005) 1#32 (ix2 t l)
      = lse2 (s (ix2 t l)) (s (ix2 t (up l))) := by
  unfold sumMask up at hl
  pointwise [k0_pay201, lse2, up]
  rw [hl]
  rfl
theorem pay202_apply (s : FVec Ideal S512x128 .f32) (l : Fin 128) (hl : sumMask (ix2 t (up l)) = 1#1) :
    k0_pay202 s (divsi kernelRun0_A.sl.v985 kernelRun0_A.sl.v986) (andi kernelRun0_A.sl.v1001 kernelRun0_A.sl.v1005) 1#32 (ix2 t l)
      = lse2 (s (ix2 t l)) (s (ix2 t (up l))) := by
  unfold sumMask up at hl
  pointwise [k0_pay202, lse2, up]
  rw [hl]
  rfl
theorem pay203_apply (s : FVec Ideal S512x128 .f32) (l : Fin 128) (hl : sumMask (ix2 t (up l)) = 1#1) :
    s (ix2 t l) + k0_pay203 s (divsi kernelRun0_A.sl.v985 kernelRun0_A.sl.v986) (andi kernelRun0_A.sl.v1001 kernelRun0_A.sl.v1005) 1#32 (ix2 t l)
      = lse2 (s (ix2 t l)) (s (ix2 t (up l))) := by
  unfold sumMask up at hl
  pointwise [k0_pay203, lse2, up]
  rw [hl]
  rfl

/-- The four heads' merged values: the groups' numerators weighted at the lane of the head's maximum. -/
theorem weigh (s0 s1 s2 a b e : FVec Ideal S512x128 .f32) (l : Fin 128) (m l' : Fin 3 → EReal) (h0 : s0 (ix2 t l) = m 0) (h1 : s1 (ix2 t l) = m 1)
    (h2 : s2 (ix2 t l) = m 2) (ha : a (ix2 t l) = lse2 (m 0) (l' 0)) (hb : b (ix2 t l) = lse2 (m 1) (l' 1)) (he : s2 (ix2 t l) + e (ix2 t l) = lse2 (m 2) (l' 2))
    (o : Fin 3 → EReal) :
    k0_pay207 s0 s2 a b e (ix2 t l) * o 0 + k0_pay208 s1 s2 a b e (ix2 t l) * o 1 + k0_pay209 s2 a b e (ix2 t l) * o 2 = mergeK m l' o := by
  pointwise [k0_pay207, k0_pay208, k0_pay209, k0_pay206, k0_pay205, k0_pay204]
  rw [he, ha, hb, h0, h1, h2]
  rfl

/-- A head's merged value at a lane and a column. -/
def weighed (s0 s1 s2 a b e : FVec Ideal S512x128 .f32) (o0 o1 o2 : FVec Ideal S512x512 .f32) (l : Fin 128) (d : Fin 512) : EReal :=
  k0_pay207 s0 s2 a b e (ix2 t l) * o0 (ix2 t d) + k0_pay208 s1 s2 a b e (ix2 t l) * o1 (ix2 t d) + k0_pay209 s2 a b e (ix2 t l) * o2 (ix2 t d)

section Heads
variable (s0 s1 s2 a b e : FVec Ideal S512x128 .f32) (o0 o1 o2 : FVec Ideal S512x512 .f32) (l : Fin 128)
theorem pay210_apply : k0_pay210 o0 o1 o2 s0 s1 s2 a b e (ix2 t l) = weighed t s0 s1 s2 a b e o0 o1 o2 (0 : Fin 128) ⟨l.val, by omega⟩ := by
  pointwise [k0_pay210, weighed]
theorem pay211_apply : k0_pay211 o0 o1 o2 s0 s1 s2 a b e (ix2 t l) = weighed t s0 s1 s2 a b e o0 o1 o2 (32 : Fin 128) ⟨128 + l.val, by omega⟩ := by
  pointwise [k0_pay211, weighed]
theorem pay212_apply : k0_pay212 o0 o1 s0 s1 s2 a b e (ix2 t l) + k0_pay214 s2 a b e (ix2 t l) * k0_pay213 o2 (ix2 t l)
    = weighed t s0 s1 s2 a b e o0 o1 o2 (64 : Fin 128) ⟨256 + l.val, by omega⟩ := by
  pointwise [k0_pay212, k0_pay213, k0_pay214, weighed]

theorem weighed_eq (h : Fin 4) (l : Fin 128) (hl : l.val = 32 * h.val) (d : Fin 512) (hd : d.val / 128 = h.val) :
    weighed t s0 s1 s2 (k0_pay201 s0 (divsi kernelRun0_A.sl.v985 kernelRun0_A.sl.v986) (andi kernelRun0_A.sl.v1001 kernelRun0_A.sl.v1005) 1#32)
      (k0_pay202 s1 (divsi kernelRun0_A.sl.v985 kernelRun0_A.sl.v986) (andi kernelRun0_A.sl.v1001 kernelRun0_A.sl.v1005) 1#32)
      (k0_pay203 s2 (divsi kernelRun0_A.sl.v985 kernelRun0_A.sl.v986) (andi kernelRun0_A.sl.v1001 kernelRun0_A.sl.v1005) 1#32) o0 o1 o2 l d
      = mergeK (fun g => ![s0 (ix2 t (laneM d)), s1 (ix2 t (laneM d)), s2 (ix2 t (laneM d))] g)
          (fun g => ![s0 (ix2 t (laneL d)), s1 (ix2 t (laneL d)), s2 (ix2 t (laneL d))] g) (fun g => ![o0 (ix2 t d), o1 (ix2 t d), o2 (ix2 t d)] g) := by
  have hh := h.isLt
  have em : laneM d = l := Fin.ext (by show 32 * (d.val / 128) = l.val; omega)
  have el : laneL d = up l := Fin.ext (by show 32 * (d.val / 128) + 16 = (l.val + 128 - 112) % 128; omega)
  have hm : sumMask (ix2 t (up l)) = 1#1 := by
    have e : l = ⟨32 * h.val, by omega⟩ := Fin.ext hl
    rw [e]
    exact sumMask_apply t h
  rw [em, el]
  exact weigh t s0 s1 s2 _ _ _ l (fun g => ![s0 (ix2 t l), s1 (ix2 t l), s2 (ix2 t l)] g) (fun g => ![s0 (ix2 t (up l)), s1 (ix2 t (up l)), s2 (ix2 t (up l))] g) rfl rfl rfl
    (pay201_apply t s0 l hm) (pay202_apply t s1 l hm) (pay203_apply t s2 l hm) (fun g => ![o0 (ix2 t d), o1 (ix2 t d), o2 (ix2 t d)] g)
end Heads

/-! ### The residual stream -/

theorem pay215_apply (v8 v22 v34 : FVec Ideal S512x1024 .f32) (v37 v142 v815 : FVec Ideal S512x512 .f32) (v1064 v1067 v1070 v1084 v1098 v1107 v1109 v1110 : FVec Ideal S512x128 .f32)
    (wa : Vec Ideal S512x1024 .bf16) (x : Vec Ideal S512x1024 .f32) (wo : Vec Ideal S1024x1024 .bf16) (o : Fin 512 → EReal)
    (h0 : ∀ l : Fin 128, v1084 (ix2 t l) = o ⟨l.val, by omega⟩) (h1 : ∀ l : Fin 128, v1098 (ix2 t l) = o ⟨128 + l.val, by omega⟩)
    (h2 : ∀ l : Fin 128, v1107 (ix2 t l) + v1110 (ix2 t l) * v1109 (ix2 t l) = o ⟨256 + l.val, by omega⟩)
    (h3 : ∀ l : Fin 128, v1064 (ix2 t (96 : Fin 128)) * v37 (ix2 t (⟨384 + l.val, by omega⟩ : Fin 512)) + v1067 (ix2 t (96 : Fin 128)) * v142 (ix2 t (⟨384 + l.val, by omega⟩ : Fin 512))
      + v1070 (ix2 t (96 : Fin 128)) * v815 (ix2 t (⟨384 + l.val, by omega⟩ : Fin 512)) = o ⟨384 + l.val, by omega⟩) (n : Fin 1024) :
    k0_pay215 v8 v22 v34 v37 v142 v815 v1064 v1067 v1070 v1084 v1098 v1107 v1109 v1110 wa x wo (ix2 t n)
      = mixed (fun n => x (ix2 t n)) (fun n => v8 (ix2 t n)) (fun n => v22 (ix2 t n)) (fun n => v34 (ix2 t n)) o (fun k n => wa (ix2 k n)) (fun k n => wo (ix2 k n)) n := by
  pointwise [k0_pay215, mixed, mvec]
  refine congrArg (fun z => x (ix2 t n) + z) (Finset.sum_congr rfl fun k _ => congrArg (fun z => (v22 (ix2 t k) * v8 (ix2 t k) + v34 (ix2 t k) * z) * wo (ix2 k n))
    (Finset.sum_congr rfl fun d _ => congrArg (fun z => z * wa (ix2 d k)) ?_))
  have hd := d.isLt
  by_cases c0 : d.val < 128
  · exact (dif_pos c0).trans (h0 ⟨d.val, c0⟩)
  refine (dif_neg c0).trans ?_
  by_cases c1 : d.val - 128 < 128
  · exact (dif_pos c1).trans ((h1 ⟨d.val - 128, c1⟩).trans (congrArg o (Fin.ext (show 128 + (d.val - 128) = d.val by omega))))
  refine (dif_neg c1).trans ?_
  by_cases c2 : d.val - 128 - 128 < 128
  · exact (dif_pos c2).trans ((h2 ⟨d.val - 128 - 128, c2⟩).trans (congrArg o (Fin.ext (show 256 + (d.val - 128 - 128) = d.val by omega))))
  · exact (dif_neg c2).trans ((h3 ⟨d.val - 128 - 128 - 128, by omega⟩).trans (congrArg o (Fin.ext (show 384 + (d.val - 128 - 128 - 128) = d.val by omega))))

theorem pay216_apply (v8 v22 v34 : FVec Ideal S512x1024 .f32) (v37 v142 v815 : FVec Ideal S512x512 .f32) (v1064 v1067 v1070 v1084 v1098 v1107 v1109 v1110 : FVec Ideal S512x128 .f32)
    (wa : Vec Ideal S512x1024 .bf16) (x : Vec Ideal S512x1024 .f32) (wo : Vec Ideal S1024x1024 .bf16) (g : Vec Ideal S1x1024 .f32) (n : Fin 1024) :
    k0_pay216 v8 v22 v34 v37 v142 v815 v1064 v1067 v1070 v1084 v1098 v1107 v1109 v1110 wa x wo g (ix2 t n)
      = normed (fun n => k0_pay215 v8 v22 v34 v37 v142 v815 v1064 v1067 v1070 v1084 v1098 v1107 v1109 v1110 wa x wo (ix2 t n)) (fun n => g (ix2 (0 : Fin 1) n)) n := by
  pointwise [k0_pay216, normed]

/-- A quarter of the feed-forward block. -/
def quarter (h : Fin 1024 → EReal) (wu wd : Fin 1024 → Fin 1024 → EReal) (n : Fin 1024) : EReal :=
  ∑ j, max (mvec h wu j) 0 * max (mvec h wu j) 0 * wd j n

theorem pay217_apply (x : FVec Ideal S512x1024 .f32) (h : FVec Ideal S512x1024 .bf16) (u0 d0 u1 d1 u2 d2 : Vec Ideal S1024x1024 .bf16) (n : Fin 1024) :
    k0_pay217 x h u0 d0 u1 d1 u2 d2 (ix2 t n) = x (ix2 t n) + quarter (fun k => h (ix2 t k)) (fun k n => u0 (ix2 k n)) (fun k n => d0 (ix2 k n)) n
      + quarter (fun k => h (ix2 t k)) (fun k n => u1 (ix2 k n)) (fun k n => d1 (ix2 k n)) n + quarter (fun k => h (ix2 t k)) (fun k n => u2 (ix2 k n)) (fun k n => d2 (ix2 k n)) n := by
  pointwise [k0_pay217, quarter, mvec]
theorem pay218_apply (h : FVec Ideal S512x1024 .bf16) (u d : Vec Ideal S1024x1024 .bf16) (n : Fin 1024) :
    k0_pay218 h u d (ix2 t n) = quarter (fun k => h (ix2 t k)) (fun k n => u (ix2 k n)) (fun k n => d (ix2 k n)) n := by
  pointwise [k0_pay218, quarter, mvec]

theorem pay1_apply (p : FVec Ideal S512x1024 .f32) (a b : FVec Ideal S512x1024 .f32) (g : Vec Ideal S1x1024 .f32) (w : Vec Ideal S1024x1024 .bf16) (n : Fin 1024) :
    k0_pay1 p (k0_pay219 a b) (k0_pay220 a b) g w (ix2 t n)
      = outRow gateK (fun n => k0_pay219 a b (ix2 t n)) (fun n => g (ix2 (0 : Fin 1) n)) (fun n => p (ix2 t n)) (fun k n => w (ix2 k n)) n := by
  pointwise [k0_pay1, k0_pay220, outRow, gateK, mvec, normed]

end Ker

end Cert.Proof.Merge

end
-- ==== Proof.MergeBody.lean ====
module

public import proofs.«01_k».proof.Proof.MergeKer

@[expose] public section

set_option maxRecDepth 16384

noncomputable section

namespace Cert.Proof.Merge

open Cert.Kernel2Ideal Cert.Kernel2Ideal.Gen
open Idealize.ShloMosaic

/-! ## A point's block of the result -/

/-- A load of a whole block of rank two is the block. -/
theorem load2 {κ : Kind} {sp : Space} {A B : ℕ} {e : EltTy} {a : Memref sig κ sp ⟨2, ![A, B]⟩ e} (h : a.IsWhole) (X : (⟨2, ![A, B]⟩ : Shape).Idx → Elt Ideal e) (inb) :
    View.readAt (Elt Ideal) a.view (Rect.unit (s := ⟨2, ![A, B]⟩) ![0, 0] ![A, B] inb).toLoadRect (h.unread X) = X := by
  rw [View.readAt_eq_ld, h.read_unread]
  exact View.ld_unit_zero (by funext a; fin_cases a <;> rfl) _ X
/-- A load of a whole block of rank four is the block. -/
theorem load4 {κ : Kind} {sp : Space} {A B C D : ℕ} {e : EltTy} {a : Memref sig κ sp ⟨4, ![A, B, C, D]⟩ e} (h : a.IsWhole)
    (X : (⟨4, ![A, B, C, D]⟩ : Shape).Idx → Elt Ideal e) (inb) :
    View.readAt (Elt Ideal) a.view (Rect.unit (s := ⟨4, ![A, B, C, D]⟩) ![0, 0, 0, 0] ![A, B, C, D] inb).toLoadRect (h.unread X) = X := by
  rw [View.readAt_eq_ld, h.read_unread]
  exact View.ld_unit_zero (by funext a; fin_cases a <;> rfl) _ X
/-- A load of a block of rows and columns. -/
theorem load_cut {κ : Kind} {sp : Space} {A B : ℕ} {e : EltTy} {a : Memref sig κ sp ⟨2, ![A, B]⟩ e} (h : a.IsWhole) (X : (⟨2, ![A, B]⟩ : Shape).Idx → Elt Ideal e)
    (i j P Q : ℕ) (inb) (r : Fin P) (l : Fin Q) (hr : i + r.val < A) (hl : j + l.val < B) :
    View.readAt (Elt Ideal) a.view (Rect.unit (s := ⟨2, ![A, B]⟩) ![i, j] ![P, Q] inb).toLoadRect (h.unread X) (ix2 r l) = X (ix2 ⟨i + r.val, hr⟩ ⟨j + l.val, hl⟩) := by
  rw [readAt_unit]
  pointwise []
  refine congrArg X (funext fun a => Fin.ext ?_)
  fin_cases a <;> rfl

/-- A quarter of the feed-forward block, from the whole matrices. -/
theorem quarter_cut {κ κ' : Kind} {sp sp' : Space} {a : Memref sig κ sp S1024x4096 .bf16} (h : a.IsWhole) {b : Memref sig κ' sp' S4096x1024 .bf16} (h' : b.IsWhole)
    (U : Vec Ideal S1024x4096 .bf16) (D : Vec Ideal S4096x1024 .bf16) (v : Fin 1024 → EReal) (o : ℕ) (ho : o ≤ 3072) (inb) (inb') (n : Fin 1024) :
    quarter v (fun k n => View.readAt (Elt Ideal) a.view (Rect.unit (s := S1024x4096) ![0, o] ![1024, 1024] inb).toLoadRect (h.unread U) (ix2 k n))
      (fun k n => View.readAt (Elt Ideal) b.view (Rect.unit (s := S4096x1024) ![o, 0] ![1024, 1024] inb').toLoadRect (h'.unread D) (ix2 k n)) n
      = ∑ k : Fin 1024, hidden v (fun k n => U (ix2 k n)) ⟨o + k.val, by omega⟩ * D (ix2 (⟨o + k.val, by omega⟩ : Fin 4096) n) := by
  have eu (k j : Fin 1024) : View.readAt (Elt Ideal) a.view (Rect.unit (s := S1024x4096) ![0, o] ![1024, 1024] inb).toLoadRect (h.unread U) (ix2 k j)
      = U (ix2 k (⟨o + j.val, by omega⟩ : Fin 4096)) := by
    refine (load_cut h U 0 o 1024 1024 inb k j (by omega) (by omega)).trans (congrArg U ?_)
    rw [show (⟨0 + k.val, by omega⟩ : Fin 1024) = k from Fin.ext (Nat.zero_add _)]
  have ed (k j : Fin 1024) : View.readAt (Elt Ideal) b.view (Rect.unit (s := S4096x1024) ![o, 0] ![1024, 1024] inb').toLoadRect (h'.unread D) (ix2 k j)
      = D (ix2 (⟨o + k.val, by omega⟩ : Fin 4096) j) := by
    refine (load_cut h' D o 0 1024 1024 inb' k j (by omega) (by omega)).trans (congrArg D ?_)
    rw [show (⟨0 + j.val, by omega⟩ : Fin 1024) = j from Fin.ext (Nat.zero_add _)]
  unfold quarter hidden mvec
  simp only [eu, ed]

/-- A residue-major array in token order. -/
def tok {R N D : ℕ} (dil : ℕ) (x : (⟨4, ![1, R, N, D]⟩ : Shape).Idx → EReal) (t : Fin 512) {E : ℕ} (d : Fin E) : EReal :=
  at4 x (t.val % dil) (t.val / dil) d.val

variable (c : Dev nD)
variable (arg1 : Memref sig .tc .vmem S512x1024 .f32) (harg1 : arg1.IsWhole) (x0 : Vec Ideal S512x1024 .f32)
variable (arg2 : Memref sig .tc .vmem S512x1024 .bf16) (harg2 : arg2.IsWhole) (x1 : Vec Ideal S512x1024 .bf16)
variable (arg3 : Memref sig .tc .vmem S1x1x512x512 .bf16) (harg3 : arg3.IsWhole) (x2 : Vec Ideal S1x1x512x512 .bf16)
variable (arg4 : Memref sig .tc .vmem S1x4x128x512 .bf16) (harg4 : arg4.IsWhole) (x3 : Vec Ideal S1x4x128x512 .bf16)
variable (arg5 : Memref sig .tc .vmem S1x16x32x512 .bf16) (harg5 : arg5.IsWhole) (x4 : Vec Ideal S1x16x32x512 .bf16)
variable (arg6 : Memref sig .tc .vmem S1x1x512x128 .f32) (harg6 : arg6.IsWhole) (x5 : Vec Ideal S1x1x512x128 .f32)
variable (arg7 : Memref sig .tc .vmem S1x4x128x128 .f32) (harg7 : arg7.IsWhole) (x6 : Vec Ideal S1x4x128x128 .f32)
variable (arg8 : Memref sig .tc .vmem S1x16x32x128 .f32) (harg8 : arg8.IsWhole) (x7 : Vec Ideal S1x16x32x128 .f32)
variable (arg9 : Memref sig .tc .vmem S512x1024 .bf16) (harg9 : arg9.IsWhole) (x8 : Vec Ideal S512x1024 .bf16)
variable (arg10 : Memref sig .tc .vmem S512x1024 .bf16) (harg10 : arg10.IsWhole) (x9 : Vec Ideal S512x1024 .bf16)
variable (arg11 : Memref sig .tc .vmem S1x2048 .f32) (harg11 : arg11.IsWhole) (x10 : Vec Ideal S1x2048 .f32)
variable (arg12 : Memref sig .tc .vmem S1024x1024 .bf16) (harg12 : arg12.IsWhole) (x11 : Vec Ideal S1024x1024 .bf16)
variable (arg13 : Memref sig .tc .vmem S512x1024 .bf16) (harg13 : arg13.IsWhole) (x12 : Vec Ideal S512x1024 .bf16)
variable (arg14 : Memref sig .tc .vmem S1024x1024 .bf16) (harg14 : arg14.IsWhole) (x13 : Vec Ideal S1024x1024 .bf16)
variable (arg15 : Memref sig .tc .vmem S512x256 .f32) (harg15 : arg15.IsWhole) (x14 : Vec Ideal S512x256 .f32)
variable (arg16 : Memref sig .tc .vmem S1x1024 .f32) (harg16 : arg16.IsWhole) (x15 : Vec Ideal S1x1024 .f32)
variable (arg17 : Memref sig .tc .vmem S1024x4096 .bf16) (harg17 : arg17.IsWhole) (x16 : Vec Ideal S1024x4096 .bf16)
variable (arg18 : Memref sig .tc .vmem S4096x1024 .bf16) (harg18 : arg18.IsWhole) (x17 : Vec Ideal S4096x1024 .bf16)
variable (arg19 : Memref sig .tc .vmem S1x1024 .f32) (harg19 : arg19.IsWhole) (x18 : Vec Ideal S1x1024 .f32)
variable (arg20 : Memref sig .tc .vmem S1024x1024 .bf16) (harg20 : arg20.IsWhole) (x19 : Vec Ideal S1024x1024 .bf16)
variable (arg21 : Memref sig .tc .vmem S256x1024 .bf16) (harg21 : arg21.IsWhole) (x20 : Vec Ideal S256x1024 .bf16)
variable (arg23 : Memref sig .tc .vmem S4x512x128 .f32) (arg24 : Memref sig .tc .vmem S4x768x128 .f32) (arg25 : Memref sig .tc .vmem S1x512x128 .f32) (arg26 : Memref sig .tc .vmem S1x768x128 .f32)

/-- The result's row at a token of a block, from the blocks of the inputs. -/
def bodyRow (gate : EReal → EReal) (merge : (m l o : Fin 3 → EReal) → EReal) (t : Fin 512) (n : Fin 1024) : EReal :=
  rowOf gate merge (fun k => x0 (ix2 t k)) (fun k => x1 (ix2 t k)) (fun g d => ![tok 1 x2 t d, tok 4 x3 t d, tok 16 x4 t d] g)
    (fun g d => ![tok 1 x5 t (laneM d), tok 4 x6 t (laneM d), tok 16 x7 t (laneM d)] g)
    (fun g d => ![tok 1 x5 t (laneL d), tok 4 x6 t (laneL d), tok 16 x7 t (laneL d)] g)
    (fun n => x8 (ix2 t n) + x10 (ix2 (0 : Fin 1) (⟨n.val, by omega⟩ : Fin 2048))) (fun n => x9 (ix2 t n) + x10 (ix2 (0 : Fin 1) (⟨1024 + n.val, by omega⟩ : Fin 2048)))
    (fun k n => x11 (ix2 k n)) (fun k n => x12 (ix2 k n)) (fun k n => x13 (ix2 k n)) (fun k => x14 (ix2 t k)) (fun k => x15 (ix2 (0 : Fin 1) k))
    (fun k n => x16 (ix2 k n)) (fun k n => x17 (ix2 k n)) (fun k => x18 (ix2 (0 : Fin 1) k)) (fun k n => x19 (ix2 k n)) (fun k n => x20 (ix2 k n)) n

theorem nums0 (t d : Fin 512) : kernelRun0_A.sl.r_4 (F := Ideal) c arg3 harg3 x2 (ix2 t d) = tok 1 x2 t d := by
  have e : kernelRun0_A.sl.r_4 (F := Ideal) c arg3 harg3 x2 = k0_pay7 x2 := congrArg k0_pay7 (load4 harg3 x2 _)
  rw [e]
  pointwise [k0_pay7]
  exact at4_eq x2 (Nat.mod_one _).symm (Nat.div_one _).symm rfl
theorem stats0 (t : Fin 512) (l : Fin 128) : kernelRun0_A.sl.v817 (F := Ideal) c arg6 harg6 x5 (ix2 t l) = tok 1 x5 t l := by
  have e : kernelRun0_A.sl.v817 (F := Ideal) c arg6 harg6 x5 = shapeCast S512x128 x5 shapeCasts_S1x1x512x128_S512x128 :=
    congrArg (fun z => shapeCast S512x128 z shapeCasts_S1x1x512x128_S512x128) (load4 harg6 x5 _)
  rw [e]
  pointwise []
  exact at4_eq x5 (Nat.mod_one _).symm (Nat.div_one _).symm rfl

/-- The row after the mixer. -/
def bodyMixed (gate : EReal → EReal) (merge : (m l o : Fin 3 → EReal) → EReal) (t : Fin 512) : Fin 1024 → EReal :=
  mixed (fun k => x0 (ix2 t k)) (mvec (fun k => x1 (ix2 t k)) (fun k n => x11 (ix2 k n)))
    (fun n => gate (x8 (ix2 t n) + x10 (ix2 (0 : Fin 1) (⟨n.val, by omega⟩ : Fin 2048)))) (fun n => gate (x9 (ix2 t n) + x10 (ix2 (0 : Fin 1) (⟨1024 + n.val, by omega⟩ : Fin 2048))))
    (fun d => merge (fun g => ![tok 1 x5 t (laneM d), tok 4 x6 t (laneM d), tok 16 x7 t (laneM d)] g)
      (fun g => ![tok 1 x5 t (laneL d), tok 4 x6 t (laneL d), tok 16 x7 t (laneL d)] g) (fun g => ![tok 1 x2 t d, tok 4 x3 t d, tok 16 x4 t d] g))
    (fun k n => x12 (ix2 k n)) (fun k n => x13 (ix2 k n))

theorem heads (t : Fin 512) (h : Fin 4) (l : Fin 128) (hl : l.val = 32 * h.val) (d : Fin 512) (hd : d.val / 128 = h.val) :
    weighed t (kernelRun0_A.sl.v817 (F := Ideal) c arg6 harg6 x5) (kernelRun0_A.sl.v839 c arg7 harg7 arg25 x6) (kernelRun0_A.sl.v984 c arg8 harg8 arg26 x7) (kernelRun0_A.sl.r_19 c arg6 harg6 x5) (kernelRun0_A.sl.r_20 c arg7 harg7 arg25 x6) (kernelRun0_A.sl.r_21 c arg8 harg8 arg26 x7)
      (kernelRun0_A.sl.r_4 c arg3 harg3 x2) (kernelRun0_A.sl.r_9 c arg4 harg4 arg23 x3) (kernelRun0_A.sl.v815 c arg5 harg5 arg24 x4) l d
      = mergeK (fun g => ![tok 1 x5 t (laneM d), tok 4 x6 t (laneM d), tok 16 x7 t (laneM d)] g)
      (fun g => ![tok 1 x5 t (laneL d), tok 4 x6 t (laneL d), tok 16 x7 t (laneL d)] g) (fun g => ![tok 1 x2 t d, tok 4 x3 t d, tok 16 x4 t d] g) := by
  refine (weighed_eq t (kernelRun0_A.sl.v817 (F := Ideal) c arg6 harg6 x5) (kernelRun0_A.sl.v839 c arg7 harg7 arg25 x6) (kernelRun0_A.sl.v984 c arg8 harg8 arg26 x7) (kernelRun0_A.sl.r_4 c arg3 harg3 x2) (kernelRun0_A.sl.r_9 c arg4 harg4 arg23 x3) (kernelRun0_A.sl.v815 c arg5 harg5 arg24 x4) h l hl d hd).trans ?_
  simp only [nums0, nums1, nums2, stats0, stats1, stats2]
  rfl

theorem mixed_congr {x x' ret ret' gr gr' ga ga' : Fin 1024 → EReal} {o : Fin 512 → EReal} {wa wa' : Fin 512 → Fin 1024 → EReal} {wo wo' : Fin 1024 → Fin 1024 → EReal}
    (hx : x = x') (hr : ret = ret') (h1 : gr = gr') (h2 : ga = ga') (hwa : wa = wa') (hwo : wo = wo') (n : Fin 1024) :
    mixed x ret gr ga o wa wo n = mixed x' ret' gr' ga' o wa' wo' n := by
  rw [hx, hr, h1, h2, hwa, hwo]

set_option maxHeartbeats 1000000 in
theorem r30_apply (t : Fin 512) (n : Fin 1024) : kernelRun0_A.sl.r_30 (F := Ideal) c arg1 harg1 arg2 harg2 arg3 harg3 arg4 harg4 arg5 harg5 arg6 harg6 arg7 harg7 arg8 harg8 arg9 harg9 arg10 harg10 arg11 harg11 arg12 harg12 arg13 harg13 arg14 harg14 arg23 arg24 arg25 arg26 x0 x1 x2 x3 x4 x5 x6 x7 x8 x9 x10 x11 x12 x13 (ix2 t n) = bodyMixed x0 x1 x2 x3 x4 x5 x6 x7 x8 x9 x10 x11 x12 x13 gateK mergeK t n := by
  have hh := heads c arg3 harg3 x2 arg4 harg4 x3 arg5 harg5 x4 arg6 harg6 x5 arg7 harg7 x6 arg8 harg8 x7 arg23 arg24 arg25 arg26 t
  refine (pay215_apply t _ _ _ _ _ _ _ _ _ _ _ _ _ _ _ _ _ (fun d => mergeK (fun g => ![tok 1 x5 t (laneM d), tok 4 x6 t (laneM d), tok 16 x7 t (laneM d)] g)
      (fun g => ![tok 1 x5 t (laneL d), tok 4 x6 t (laneL d), tok 16 x7 t (laneL d)] g) (fun g => ![tok 1 x2 t d, tok 4 x3 t d, tok 16 x4 t d] g)) ?_ ?_ ?_ ?_ n).trans ?_
  · exact fun l => (pay210_apply t _ _ _ _ _ _ _ _ _ l).trans (hh 0 0 rfl ⟨l.val, by omega⟩ (by show l.val / 128 = 0; omega))
  · exact fun l => (pay211_apply t _ _ _ _ _ _ _ _ _ l).trans (hh 1 32 rfl ⟨128 + l.val, by omega⟩ (by show (128 + l.val) / 128 = 1; omega))
  · exact fun l => (pay212_apply t _ _ _ _ _ _ _ _ _ l).trans (hh 2 64 rfl ⟨256 + l.val, by omega⟩ (by show (256 + l.val) / 128 = 2; omega))
  · exact fun l => hh 3 96 rfl ⟨384 + l.val, by omega⟩ (by show (384 + l.val) / 128 = 3; omega)
  · refine mixed_congr (funext fun n => congrFun (load2 harg1 x0 _) _) (funext fun n => (congrFun (congrArg₂ k0_pay3 (load2 harg2 x1 _) (load2 harg12 x11 _)) _).trans (pay3_apply t x1 x11 n))
      (funext fun n => (congrFun (congrArg₂ k0_pay5 (load2 harg11 x10 _) (load2 harg9 x8 _)) _).trans (pay5_apply t x10 x8 n))
      (funext fun n => (congrFun (congrArg₂ k0_pay6 (load2 harg11 x10 _) (load2 harg10 x9 _)) _).trans (pay6_apply t x10 x9 n))
      (funext fun k => funext fun n => congrFun (load2 harg13 x12 _) _) (funext fun k => funext fun n => congrFun (load2 harg14 x13 _) _) n

theorem r31_apply (t : Fin 512) (k : Fin 1024) : kernelRun0_A.sl.r_31 (F := Ideal) c arg1 harg1 arg2 harg2 arg3 harg3 arg4 harg4 arg5 harg5 arg6 harg6 arg7 harg7 arg8 harg8 arg9 harg9 arg10 harg10 arg11 harg11 arg12 harg12 arg13 harg13 arg14 harg14 arg16 harg16 arg23 arg24 arg25 arg26 x0 x1 x2 x3 x4 x5 x6 x7 x8 x9 x10 x11 x12 x13 x15 (ix2 t k)
    = normed (bodyMixed x0 x1 x2 x3 x4 x5 x6 x7 x8 x9 x10 x11 x12 x13 gateK mergeK t) (fun k => x15 (ix2 (0 : Fin 1) k)) k := by
  refine (pay216_apply t _ _ _ _ _ _ _ _ _ _ _ _ _ _ _ _ _ _ k).trans ?_
  exact congrArg₂ (fun a b => normed a b k) (funext fun n => r30_apply c arg1 harg1 x0 arg2 harg2 x1 arg3 harg3 x2 arg4 harg4 x3 arg5 harg5 x4 arg6 harg6 x5 arg7 harg7 x6 arg8 harg8 x7 arg9 harg9 x8 arg10 harg10 x9 arg11 harg11 x10 arg12 harg12 x11 arg13 harg13 x12 arg14 harg14 x13 arg23 arg24 arg25 arg26 t n) (funext fun n => congrFun (load2 harg16 x15 _) _)

theorem fed_apply (t : Fin 512) : (fun n => k0_pay219 (kernelRun0_A.sl.r_33 (F := Ideal) c arg1 harg1 arg2 harg2 arg3 harg3 arg4 harg4 arg5 harg5 arg6 harg6 arg7 harg7 arg8 harg8 arg9 harg9 arg10 harg10 arg11 harg11 arg12 harg12 arg13 harg13 arg14 harg14 arg16 harg16 arg17 harg17 arg18 harg18 arg23 arg24 arg25 arg26 x0 x1 x2 x3 x4 x5 x6 x7 x8 x9 x10 x11 x12 x13 x15 x16 x17) (kernelRun0_A.sl.r_34 c arg1 harg1 arg2 harg2 arg3 harg3 arg4 harg4 arg5 harg5 arg6 harg6 arg7 harg7 arg8 harg8 arg9 harg9 arg10 harg10 arg11 harg11 arg12 harg12 arg13 harg13 arg14 harg14 arg16 harg16 arg17 harg17 arg18 harg18 arg23 arg24 arg25 arg26 x0 x1 x2 x3 x4 x5 x6 x7 x8 x9 x10 x11 x12 x13 x15 x16 x17) (ix2 t n))
      = fed (bodyMixed x0 x1 x2 x3 x4 x5 x6 x7 x8 x9 x10 x11 x12 x13 gateK mergeK t) (fun k => x15 (ix2 (0 : Fin 1) k)) (fun k n => x16 (ix2 k n)) (fun k n => x17 (ix2 k n)) := by
  funext n
  rw [pay219_apply]
  refine (congrArg₂ (fun a b : EReal => a + b) (pay217_apply t _ _ _ _ _ _ _ _ n) (pay218_apply t _ _ _ n)).trans ?_
  rw [r30_apply, funext fun k => r31_apply c arg1 harg1 x0 arg2 harg2 x1 arg3 harg3 x2 arg4 harg4 x3 arg5 harg5 x4 arg6 harg6 x5 arg7 harg7 x6 arg8 harg8 x7 arg9 harg9 x8 arg10 harg10 x9 arg11 harg11 x10 arg12 harg12 x11 arg13 harg13 x12 arg14 harg14 x13 arg16 harg16 x15 arg23 arg24 arg25 arg26 t k]
  refine (congrArg₂ (fun a b : EReal => a + b) (congrArg₂ (fun a b : EReal => a + b) (congrArg₂ (fun a b : EReal => a + b) (congrArg (fun b : EReal => _ + b) (quarter_cut harg17 harg18 x16 x17 _ 0 (by norm_num) _ _ n))
    (quarter_cut harg17 harg18 x16 x17 _ 1024 (by norm_num) _ _ n)) (quarter_cut harg17 harg18 x16 x17 _ 2048 (by norm_num) _ _ n))
    (quarter_cut harg17 harg18 x16 x17 _ 3072 (by norm_num) _ _ n)).trans ?_
  refine Eq.trans ?_ (sum_quarters (fun j => hidden (normed (bodyMixed x0 x1 x2 x3 x4 x5 x6 x7 x8 x9 x10 x11 x12 x13 gateK mergeK t) (fun k => x15 (ix2 (0 : Fin 1) k))) (fun k n => x16 (ix2 k n)) j * x17 (ix2 j n)) _).symm
  simp only [Nat.zero_add]

theorem body_apply (t : Fin 512) (n : Fin 1024) (inb) :
    k0_pay1 (kernelRun0_A.sl.r (F := Ideal) c arg15 harg15 arg21 harg21 x14 x20) (kernelRun0_A.sl.r_35 c arg1 harg1 arg2 harg2 arg3 harg3 arg4 harg4 arg5 harg5 arg6 harg6 arg7 harg7 arg8 harg8 arg9 harg9 arg10 harg10 arg11 harg11 arg12 harg12 arg13 harg13 arg14 harg14 arg16 harg16 arg17 harg17 arg18 harg18 arg23 arg24 arg25 arg26 x0 x1 x2 x3 x4 x5 x6 x7 x8 x9 x10 x11 x12 x13 x15 x16 x17) (kernelRun0_A.sl.r_36 c arg1 harg1 arg2 harg2 arg3 harg3 arg4 harg4 arg5 harg5 arg6 harg6 arg7 harg7 arg8 harg8 arg9 harg9 arg10 harg10 arg11 harg11 arg12 harg12 arg13 harg13 arg14 harg14 arg16 harg16 arg17 harg17 arg18 harg18 arg23 arg24 arg25 arg26 x0 x1 x2 x3 x4 x5 x6 x7 x8 x9 x10 x11 x12 x13 x15 x16 x17)
      (kernelRun0_A.sl.r_37 c arg19 harg19 x18) (View.readAt (Elt Ideal) arg20.view (Rect.unit (s := S1024x1024) ![0, 0] ![1024, 1024] inb).toLoadRect (harg20.unread x19)) (ix2 t n)
      = bodyRow x0 x1 x2 x3 x4 x5 x6 x7 x8 x9 x10 x11 x12 x13 x14 x15 x16 x17 x18 x19 x20 gateK mergeK t n := by
  refine (pay1_apply t _ (kernelRun0_A.sl.r_33 c arg1 harg1 arg2 harg2 arg3 harg3 arg4 harg4 arg5 harg5 arg6 harg6 arg7 harg7 arg8 harg8 arg9 harg9 arg10 harg10 arg11 harg11 arg12 harg12 arg13 harg13 arg14 harg14 arg16 harg16 arg17 harg17 arg18 harg18 arg23 arg24 arg25 arg26 x0 x1 x2 x3 x4 x5 x6 x7 x8 x9 x10 x11 x12 x13 x15 x16 x17) (kernelRun0_A.sl.r_34 c arg1 harg1 arg2 harg2 arg3 harg3 arg4 harg4 arg5 harg5 arg6 harg6 arg7 harg7 arg8 harg8 arg9 harg9 arg10 harg10 arg11 harg11 arg12 harg12 arg13 harg13 arg14 harg14 arg16 harg16 arg17 harg17 arg18 harg18 arg23 arg24 arg25 arg26 x0 x1 x2 x3 x4 x5 x6 x7 x8 x9 x10 x11 x12 x13 x15 x16 x17) _ _ n).trans ?_
  have er : kernelRun0_A.sl.r (F := Ideal) c arg15 harg15 arg21 harg21 x14 x20 = k0_pay2 x14 x20 := congrArg₂ k0_pay2 (load2 harg15 x14 _) (load2 harg21 x20 _)
  have e37 : kernelRun0_A.sl.r_37 (F := Ideal) c arg19 harg19 x18 = x18 := load2 harg19 x18 _
  have e19 : View.readAt (Elt Ideal) arg20.view (Rect.unit (s := S1024x1024) ![0, 0] ![1024, 1024] inb).toLoadRect (harg20.unread x19) = x19 := load2 harg20 x19 _
  rw [er, e37, e19]
  rw [fed_apply]
  rw [funext fun n => pay2_apply t x14 x20 n]
  rfl

end Cert.Proof.Merge

end
-- ==== Proof.MergeIn.lean ====
module

public import proofs.«01_k».proof.Proof.MergeBody
public import proofs.«01_k».proof.Proof.Gen.Kernel2Ideal.Value
public import Idealize.ShloMosaic.Lib.Pipeline.ValueKit.Point
public import Idealize.ShloMosaic.Lib.Claim

@[expose] public section

set_option maxRecDepth 16384

noncomputable section

namespace Cert.Proof.Merge

open Cert.Kernel2Ideal Cert.Kernel2Ideal.Gen Cert.Kernel2Ideal.Value
open Idealize.ShloMosaic Idealize.ShloMosaic.TcCoe

/-! ## The blocks of the inputs, as parts of the arrays -/

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val / 8, 0, t.val % 8, 0] := by decide +kernel
theorem idx3 : ∀ t : Fin grid0.N, win0_3.index t = ![t.val / 8, 0, t.val % 8, 0] := by decide +kernel
theorem idx4 : ∀ t : Fin grid0.N, win0_4.index t = ![t.val / 8, 0, t.val % 8, 0] := by decide +kernel
theorem idx5 : ∀ t : Fin grid0.N, win0_5.index t = ![t.val / 8, 0, t.val % 8, 0] := by decide +kernel
theorem idx6 : ∀ t : Fin grid0.N, win0_6.index t = ![t.val / 8, 0, t.val % 8, 0] := by decide +kernel
theorem idx7 : ∀ t : Fin grid0.N, win0_7.index t = ![t.val / 8, 0, t.val % 8, 0] := by decide +kernel
theorem idx8 : ∀ t : Fin grid0.N, win0_8.index t = ![t.val, 1] := by decide +kernel
theorem idx9 : ∀ t : Fin grid0.N, win0_9.index t = ![t.val, 2] := by decide +kernel
theorem idx10 : ∀ t : Fin grid0.N, win0_10.index t = ![0, 0] := by decide +kernel
theorem idx11 : ∀ t : Fin grid0.N, win0_11.index t = ![0, 0] := by decide +kernel
theorem idx12 : ∀ t : Fin grid0.N, win0_12.index t = ![0, 0] := by decide +kernel
theorem idx13 : ∀ t : Fin grid0.N, win0_13.index t = ![0, 0] := by decide +kernel
theorem idx14 : ∀ t : Fin grid0.N, win0_14.index t = ![t.val, 0] := by decide +kernel
theorem idx15 : ∀ t : Fin grid0.N, win0_15.index t = ![0, 0] := by decide +kernel
theorem idx16 : ∀ t : Fin grid0.N, win0_16.index t = ![0, 0] := by decide +kernel
theorem idx17 : ∀ t : Fin grid0.N, win0_17.index t = ![0, 0] := by decide +kernel
theorem idx18 : ∀ t : Fin grid0.N, win0_18.index t = ![0, 0] := by decide +kernel
theorem idx19 : ∀ t : Fin grid0.N, win0_19.index t = ![0, 0] := by decide +kernel
theorem idx20 : ∀ t : Fin grid0.N, win0_20.index t = ![0, 0] := by decide +kernel

variable (m : (ℓ : Loc nD τ sig) → Buf (Elt Ideal) ℓ) (c : Dev nD) (t : Fin cfg0.N)
/-- The batch and the position of a block's token. -/
def bOf : Fin 4 := ⟨t.val / 8, by have := t.isLt; change t.val < 32 at this; omega⟩
def sOf (u : Fin 512) : Fin 4096 := ⟨512 * (t.val % 8) + u.val, by omega⟩
theorem bOf_val : (bOf t).val = t.val / 8 := rfl
theorem sOf_val (u : Fin 512) : (sOf t u).val = 512 * (t.val % 8) + u.val := rfl

theorem in0 (u : Fin 512) (k : Fin 1024) : @Eq EReal (iblk m c 0 t (ix2 u k)) (m ((c : Thread nD τ).loc main_arg0) (ix3 (bOf t) (sOf t u) k)) := by
  have ht : t.val < 32 := t.isLt
  blk_simp [iblk]
  entry_read
  pointwise
  blk_ext [idx0 t, bOf_val, sOf_val]

theorem in1 (u : Fin 512) (k : Fin 1024) : @Eq EReal (iblk m c 1 t (ix2 u k)) (m ((c : Thread nD τ).loc main_arg1) (ix3 (bOf t) (sOf t u) k)) := by
  have ht : t.val < 32 := t.isLt
  blk_simp [iblk]
  entry_read
  pointwise
  blk_ext [idx1 t, bOf_val, sOf_val]

theorem in14 (u : Fin 512) (k : Fin 256) : @Eq EReal (iblk m c 14 t (ix2 u k)) (m ((c : Thread nD τ).loc main_arg13) (ix3 (bOf t) (sOf t u) k)) := by
  have ht : t.val < 32 := t.isLt
  blk_simp [iblk]
  entry_read
  pointwise
  blk_ext [idx14 t, bOf_val, sOf_val]

theorem in10 (k : Fin 2048) : @Eq EReal (iblk m c 10 t (ix2 (0 : Fin 1) k)) (m ((c : Thread nD τ).loc main_arg9) (ix1 k)) := by
  have ht : t.val < 32 := t.isLt
  blk_simp [iblk]
  entry_read
  pointwise
  blk_ext [idx10 t, bOf_val, sOf_val]

theorem in15 (k : Fin 1024) : @Eq EReal (iblk m c 15 t (ix2 (0 : Fin 1) k)) (m ((c : Thread nD τ).loc main_arg14) (ix1 k)) := by
  have ht : t.val < 32 := t.isLt
  blk_simp [iblk]
  entry_read
  pointwise
  blk_ext [idx15 t, bOf_val, sOf_val]

theorem in18 (k : Fin 1024) : @Eq EReal (iblk m c 18 t (ix2 (0 : Fin 1) k)) (m ((c : Thread nD τ).loc main_arg17) (ix1 k)) := by
  have ht : t.val < 32 := t.isLt
  blk_simp [iblk]
  entry_read
  pointwise
  blk_ext [idx18 t, bOf_val, sOf_val]

theorem in11 (k : Fin 1024) (n : Fin 1024) : @Eq EReal (iblk m c 11 t (ix2 k n)) (m ((c : Thread nD τ).loc main_arg10) (ix2 k n)) := by
  have ht : t.val < 32 := t.isLt
  blk_simp [iblk]
  rw [V_main_arg10]
  blk_ext [idx11 t, bOf_val, sOf_val]

theorem in12 (k : Fin 512) (n : Fin 1024) : @Eq EReal (iblk m c 12 t (ix2 k n)) (m ((c : Thread nD τ).loc main_arg11) (ix2 k n)) := by
  have ht : t.val < 32 := t.isLt
  blk_simp [iblk]
  rw [V_main_arg11]
  blk_ext [idx12 t, bOf_val, sOf_val]

theorem in13 (k : Fin 1024) (n : Fin 1024) : @Eq EReal (iblk m c 13 t (ix2 k n)) (m ((c : Thread nD τ).loc main_arg12) (ix2 k n)) := by
  have ht : t.val < 32 := t.isLt
  blk_simp [iblk]
  rw [V_main_arg12]
  blk_ext [idx13 t, bOf_val, sOf_val]

theorem in16 (k : Fin 1024) (n : Fin 4096) : @Eq EReal (iblk m c 16 t (ix2 k n)) (m ((c : Thread nD τ).loc main_arg15) (ix2 k n)) := by
  have ht : t.val < 32 := t.isLt
  blk_simp [iblk]
  rw [V_main_arg15]
  blk_ext [idx16 t, bOf_val, sOf_val]

theorem in17 (k : Fin 4096) (n : Fin 1024) : @Eq EReal (iblk m c 17 t (ix2 k n)) (m ((c : Thread nD τ).loc main_arg16) (ix2 k n)) := by
  have ht : t.val < 32 := t.isLt
  blk_simp [iblk]
  rw [V_main_arg16]
  blk_ext [idx17 t, bOf_val, sOf_val]

theorem in19 (k : Fin 1024) (n : Fin 1024) : @Eq EReal (iblk m c 19 t (ix2 k n)) (m ((c : Thread nD τ).loc main_arg18) (ix2 k n)) := by
  have ht : t.val < 32 := t.isLt
  blk_simp [iblk]
  rw [V_main_arg18]
  blk_ext [idx19 t, bOf_val, sOf_val]

theorem in20 (k : Fin 256) (n : Fin 1024) : @Eq EReal (iblk m c 20 t (ix2 k n)) (m ((c : Thread nD τ).loc main_arg19) (ix2 k n)) := by
  have ht : t.val < 32 := t.isLt
  blk_simp [iblk]
  rw [V_main_arg19]
  blk_ext [idx20 t, bOf_val, sOf_val]

theorem in8 (u : Fin 512) (n : Fin 1024) : @Eq EReal (iblk m c 8 t (ix2 u n)) (m ((c : Thread nD τ).loc main_arg8) (ix2 (⟨(bOf t).val * 4096 + (sOf t u).val, by omega⟩ : Fin 16384) (⟨1024 + n.val, by omega⟩ : Fin 3072))) := by
  have ht : t.val < 32 := t.isLt
  blk_simp [iblk]
  rw [V_main_arg8]
  blk_ext [idx8 t, bOf_val, sOf_val]

theorem in9 (u : Fin 512) (n : Fin 1024) : @Eq EReal (iblk m c 9 t (ix2 u n)) (m ((c : Thread nD τ).loc main_arg8) (ix2 (⟨(bOf t).val * 4096 + (sOf t u).val, by omega⟩ : Fin 16384) (⟨1024 + (1024 + n.val), by omega⟩ : Fin 3072))) := by
  have ht : t.val < 32 := t.isLt
  blk_simp [iblk]
  rw [V_main_arg8]
  blk_ext [idx9 t, bOf_val, sOf_val]

theorem in2 (u : Fin 512) (d : Fin 512) : tok 1 (iblk m c 2 t) u d = m ((c : Thread nD τ).loc main_arg2) (ix4 (bOf t) (⟨(sOf t u).val % 1, by omega⟩ : Fin 1) (⟨(sOf t u).val / 1, by omega⟩ : Fin 4096) d) := by
  have ht : t.val < 32 := t.isLt
  refine (at4_eq (R := 1) (N := 512) (D := 512) (iblk m c 2 t) (r := ⟨u.val % 1, by omega⟩) (n := ⟨u.val / 1, by omega⟩) (d := d) rfl rfl rfl).symm.trans ?_
  blk_simp [iblk]
  rw [V_main_arg2]
  blk_ext [idx2 t, bOf_val, sOf_val]

theorem in3 (u : Fin 512) (d : Fin 512) : tok 4 (iblk m c 3 t) u d = m ((c : Thread nD τ).loc main_arg3) (ix4 (bOf t) (⟨(sOf t u).val % 4, by omega⟩ : Fin 4) (⟨(sOf t u).val / 4, by omega⟩ : Fin 1024) d) := by
  have ht : t.val < 32 := t.isLt
  refine (at4_eq (R := 4) (N := 128) (D := 512) (iblk m c 3 t) (r := ⟨u.val % 4, by omega⟩) (n := ⟨u.val / 4, by omega⟩) (d := d) rfl rfl rfl).symm.trans ?_
  blk_simp [iblk]
  rw [V_main_arg3]
  blk_ext [idx3 t, bOf_val, sOf_val]

theorem in4 (u : Fin 512) (d : Fin 512) : tok 16 (iblk m c 4 t) u d = m ((c : Thread nD τ).loc main_arg4) (ix4 (bOf t) (⟨(sOf t u).val % 16, by omega⟩ : Fin 16) (⟨(sOf t u).val / 16, by omega⟩ : Fin 256) d) := by
  have ht : t.val < 32 := t.isLt
  refine (at4_eq (R := 16) (N := 32) (D := 512) (iblk m c 4 t) (r := ⟨u.val % 16, by omega⟩) (n := ⟨u.val / 16, by omega⟩) (d := d) rfl rfl rfl).symm.trans ?_
  blk_simp [iblk]
  rw [V_main_arg4]
  blk_ext [idx4 t, bOf_val, sOf_val]

theorem in5 (u : Fin 512) (d : Fin 128) : tok 1 (iblk m c 5 t) u d = m ((c : Thread nD τ).loc main_arg5) (ix4 (bOf t) (⟨(sOf t u).val % 1, by omega⟩ : Fin 1) (⟨(sOf t u).val / 1, by omega⟩ : Fin 4096) d) := by
  have ht : t.val < 32 := t.isLt
  refine (at4_eq (R := 1) (N := 512) (D := 128) (iblk m c 5 t) (r := ⟨u.val % 1, by omega⟩) (n := ⟨u.val / 1, by omega⟩) (d := d) rfl rfl rfl).symm.trans ?_
  blk_simp [iblk]
  rw [V_main_arg5]
  blk_ext [idx5 t, bOf_val, sOf_val]

theorem in6 (u : Fin 512) (d : Fin 128) : tok 4 (iblk m c 6 t) u d = m ((c : Thread nD τ).loc main_arg6) (ix4 (bOf t) (⟨(sOf t u).val % 4, by omega⟩ : Fin 4) (⟨(sOf t u).val / 4, by omega⟩ : Fin 1024) d) := by
  have ht : t.val < 32 := t.isLt
  refine (at4_eq (R := 4) (N := 128) (D := 128) (iblk m c 6 t) (r := ⟨u.val % 4, by omega⟩) (n := ⟨u.val / 4, by omega⟩) (d := d) rfl rfl rfl).symm.trans ?_
  blk_simp [iblk]
  rw [V_main_arg6]
  blk_ext [idx6 t, bOf_val, sOf_val]

theorem in7 (u : Fin 512) (d : Fin 128) : tok 16 (iblk m c 7 t) u d = m ((c : Thread nD τ).loc main_arg7) (ix4 (bOf t) (⟨(sOf t u).val % 16, by omega⟩ : Fin 16) (⟨(sOf t u).val / 16, by omega⟩ : Fin 256) d) := by
  have ht : t.val < 32 := t.isLt
  refine (at4_eq (R := 16) (N := 32) (D := 128) (iblk m c 7 t) (r := ⟨u.val % 16, by omega⟩) (n := ⟨u.val / 16, by omega⟩) (d := d) rfl rfl rfl).symm.trans ?_
  blk_simp [iblk]
  rw [V_main_arg7]
  blk_ext [idx7 t, bOf_val, sOf_val]

end Cert.Proof.Merge

end
-- ==== Proof.MergeRef.lean ====
module

public import proofs.«01_k».proof.Proof.MergeKer
public import proofs.«01_k».proof.Proof.Gen.Reference2Ideal
public import proofs.«01_k».proof.Proof.Gen.Reference2Ideal.Run
public import Idealize.ShloMosaic.Lib.KernelVsHost

@[expose] public section

set_option maxRecDepth 16384

noncomputable section

namespace Cert.Proof.Merge.Ref

open Cert.Reference2Ideal Cert.Reference2Ideal.Gen Cert.Reference2Ideal.Value
open Idealize.ShloMosaic

/-! ## The reference, entry by entry -/

variable (V0 : Valuation τ sig (Elt Ideal))

/-- The statistics of the three groups, -/
abbrev st0 : FVec Ideal S4x1x4096x128 .f32 := V0 (Proc.devRef .tc main_arg5)
abbrev st1 : FVec Ideal S4x4x1024x128 .f32 := V0 (Proc.devRef .tc main_arg6)
abbrev st2 : FVec Ideal S4x16x256x128 .f32 := V0 (Proc.devRef .tc main_arg7)
/-- and their numerators. -/
abbrev nm0 : FVec Ideal S4x1x4096x512 .bf16 := V0 (Proc.devRef .tc main_arg2)
abbrev nm1 : FVec Ideal S4x4x1024x512 .bf16 := V0 (Proc.devRef .tc main_arg3)
abbrev nm2 : FVec Ideal S4x16x256x512 .bf16 := V0 (Proc.devRef .tc main_arg4)

/-- The other arguments. -/
abbrev a0 : FVec Ideal S4x4096x1024 .f32 := V0 (Proc.devRef .tc main_arg0)
abbrev a1 : FVec Ideal S4x4096x1024 .bf16 := V0 (Proc.devRef .tc main_arg1)
abbrev a8 : FVec Ideal S16384x3072 .bf16 := V0 (Proc.devRef .tc main_arg8)
abbrev a9 : FVec Ideal S2048 .f32 := V0 (Proc.devRef .tc main_arg9)
abbrev a10 : FVec Ideal S1024x1024 .bf16 := V0 (Proc.devRef .tc main_arg10)
abbrev a11 : FVec Ideal S512x1024 .bf16 := V0 (Proc.devRef .tc main_arg11)
abbrev a12 : FVec Ideal S1024x1024 .bf16 := V0 (Proc.devRef .tc main_arg12)
abbrev a13 : FVec Ideal S4x4096x256 .f32 := V0 (Proc.devRef .tc main_arg13)
abbrev a14 : FVec Ideal S1024 .f32 := V0 (Proc.devRef .tc main_arg14)
abbrev a15 : FVec Ideal S1024x4096 .bf16 := V0 (Proc.devRef .tc main_arg15)
abbrev a16 : FVec Ideal S4096x1024 .bf16 := V0 (Proc.devRef .tc main_arg16)
abbrev a17 : FVec Ideal S1024 .f32 := V0 (Proc.devRef .tc main_arg17)
abbrev a18 : FVec Ideal S1024x1024 .bf16 := V0 (Proc.devRef .tc main_arg18)
abbrev a19 : FVec Ideal S256x1024 .bf16 := V0 (Proc.devRef .tc main_arg19)

/-- A residue-major array at a token and a column. -/
def seq {R N D : ℕ} (x : (⟨4, ![4, R, N, D]⟩ : Shape).Idx → EReal) (hR : 0 < R) (h : R * N = 4096) (b : Fin 4) (s : Fin 4096) (d : Fin D) : EReal :=
  x (ix4 b (⟨s.val % R, Nat.mod_lt _ hR⟩ : Fin R) (⟨s.val / R, Nat.div_lt_of_lt_mul (by rw [h]; exact s.isLt)⟩ : Fin N) d)

/-- The lane of a head's maximum, and of its sum. -/
def lnM (h : Fin 4) : Fin 128 := ⟨32 * h.val, by omega⟩
def lnL (h : Fin 4) : Fin 128 := ⟨32 * h.val + 16, by omega⟩

/-- The groups' statistics at a token and a lane, -/
def sts (b : Fin 4) (s : Fin 4096) (l : Fin 128) (g : Fin 3) : EReal :=
  ![seq (st0 V0) (by decide) rfl b s l, seq (st1 V0) (by decide) rfl b s l, seq (st2 V0) (by decide) rfl b s l] g
/-- and the numerators at a token and a column. -/
def nms (b : Fin 4) (s : Fin 4096) (d : Fin 512) (g : Fin 3) : EReal :=
  ![seq (nm0 V0) (by decide) rfl b s d, seq (nm1 V0) (by decide) rfl b s d, seq (nm2 V0) (by decide) rfl b s d] g

theorem lnM_eq (h : Fin 4) (p) : (⟨h.val * 32, p⟩ : Fin 128) = lnM h := Fin.ext (mul_comm _ _)
theorem lnL_eq (h : Fin 4) (p) : (⟨h.val * 32 + 16, p⟩ : Fin 128) = lnL h := Fin.ext (by show h.val * 32 + 16 = 32 * h.val + 16; omega)
theorem seq_one {N D : ℕ} (x : (⟨4, ![4, 1, N, D]⟩ : Shape).Idx → EReal) (hR) (h : 1 * N = 4096) (b : Fin 4) (s : Fin 4096) (d : Fin D) (hs : s.val < N) :
    x (ix4 b (0 : Fin 1) (⟨s.val, hs⟩ : Fin N) d) = seq x hR h b s d := by
  unfold seq
  refine congrArg₂ (fun (r : Fin 1) (n : Fin N) => x (ix4 b r n d)) (Subsingleton.elim _ _) (Fin.ext (Nat.div_one _).symm)

theorem v66_apply (g : Fin 3) (b : Fin 4) (s : Fin 4096) (h : Fin 4) :
    @Eq EReal (res_main_v66 V0 (ix4 g b s h)) (lse (sts V0 b s (lnM h) g) (sts V0 b s (lnL h) g)) := by
  pointwise [res_main_v66, res_main_v9, res_main_v2, res_main_v30, res_main_v23, res_main_v51, res_main_v44]
  simp only [lnM_eq, lnL_eq]
  match g with
  | 0 =>
    refine (dif_pos (by decide)).trans ?_
    show lse (st0 V0 (ix4 b (0 : Fin 1) s (lnM h))) (st0 V0 (ix4 b (0 : Fin 1) s (lnL h))) = _
    exact congrArg₂ lse (seq_one (st0 V0) (by decide) rfl b s (lnM h) s.isLt) (seq_one (st0 V0) (by decide) rfl b s (lnL h) s.isLt)
  | 1 => exact (dif_neg (by decide)).trans (dif_pos (by decide))
  | 2 => exact (dif_neg (by decide)).trans (dif_neg (by decide))

theorem gateR_one (x : EReal) : gateR x = Ideal.div 1 (1 + Ideal.exp (-x)) := by
  unfold gateR
  rw [c_one, EReal.coe_one]
/-- A gate's logit. -/
def logit (b : Fin 4) (s : Fin 4096) (j : Fin 2048) : EReal :=
  (a8 V0) (ix2 (⟨b.val * 4096 + s.val, by omega⟩ : Fin 16384) (⟨1024 + j.val, by omega⟩ : Fin 3072))
    + (a9 V0) (ix1 j)
theorem v98_apply (b : Fin 4) (s : Fin 4096) (j : Fin 2048) : @Eq EReal (res_main_v98 V0 (ix3 b s j)) (gateR (logit V0 b s j)) := by
  pointwise [res_main_v98]
  exact (gateR_one _).symm

theorem reduces0 : S3x4x4096x4.Reduces [0] S4x4096x4 := by decide
theorem lift0 (b : Fin 4) (s : Fin 4096) (h : Fin 4) (g : Fin 3) : reduces0.lift (ix3 b s h) g = ix4 g b s h := by
  funext a
  apply Fin.ext
  match a with | ⟨0, _⟩ => rfl | ⟨1, _⟩ => rfl | ⟨2, _⟩ => rfl | ⟨3, _⟩ => rfl
theorem fold0 (y : S3x4x4096x4.Idx → EReal) (b : Fin 4) (s : Fin 4096) (h : Fin 4) :
    Finset.fold max ⊥ y {j | reducesTo_S3x4x4096x4_S4x4096x4_d0.drop j = ix3 b s h}
      = max (max (y (ix4 (0 : Fin 3) b s h)) (y (ix4 (1 : Fin 3) b s h))) (y (ix4 (2 : Fin 3) b s h)) := by
  rw [Shape.ReducesTo.drop_eq_drop _ reduces0]
  have e := reduces0.fold_filter_drop_single (max : EReal → EReal → EReal) ⊥ y (ix3 b s h)
  have e2 : (y ∘ reduces0.lift (ix3 b s h)) = fun g : Fin 3 => y (ix4 g b s h) := funext fun g => congrArg y (lift0 b s h g)
  rw [e2] at e
  refine e.trans ?_
  show max (y (ix4 (0 : Fin 3) b s h)) (max (y (ix4 (1 : Fin 3) b s h)) (max (y (ix4 (2 : Fin 3) b s h)) ⊥)) = _
  rw [max_bot_right, max_assoc]

/-- The largest of the groups' logarithms at a token and a head. -/
def topR (b : Fin 4) (s : Fin 4096) (h : Fin 4) : EReal :=
  max (max (lse (sts V0 b s (lnM h) 0) (sts V0 b s (lnL h) 0)) (lse (sts V0 b s (lnM h) 1) (sts V0 b s (lnL h) 1))) (lse (sts V0 b s (lnM h) 2) (sts V0 b s (lnL h) 2))
theorem v71_apply (g : Fin 3) (b : Fin 4) (s : Fin 4096) (h : Fin 4) :
    @Eq EReal (res_main_v71 V0 (ix4 g b s h)) (Ideal.exp (lse (sts V0 b s (lnM h) g) (sts V0 b s (lnL h) g) - topR V0 b s h)) := by
  pointwise [res_main_v71]
  rw [c_bot]
  refine congrArg Ideal.exp (congrArg₂ (fun a b : EReal => a - b) (v66_apply V0 g b s h) ((fold0 (res_main_v66 V0) b s h).trans ?_))
  rw [v66_apply, v66_apply, v66_apply]
  rfl

theorem v9_apply (b : Fin 4) (r : Fin 1) (s : Fin 4096) (h : Fin 4) : @Eq EReal (res_main_v9 V0 (ix4 b r s h)) (sts V0 b s (lnL h) 0) := by
  pointwise [res_main_v9, res_main_v2]
  simp only [lnL_eq]
  exact seq_one (st0 V0) (by decide) rfl b s (lnL h) s.isLt
theorem v30_apply (b : Fin 4) (s : Fin 4096) (h : Fin 4) (p q) :
    @Eq EReal (res_main_v30 V0 (ix4 b (⟨s.val % 4, p⟩ : Fin 4) (⟨s.val / 4, q⟩ : Fin 1024) h)) (sts V0 b s (lnL h) 1) := by
  pointwise [res_main_v30, res_main_v23]
  simp only [lnL_eq]
  rfl
theorem v51_apply (b : Fin 4) (s : Fin 4096) (h : Fin 4) (p q) :
    @Eq EReal (res_main_v51 V0 (ix4 b (⟨s.val % 16, p⟩ : Fin 16) (⟨s.val / 16, q⟩ : Fin 256) h)) (sts V0 b s (lnL h) 2) := by
  pointwise [res_main_v51, res_main_v44]
  simp only [lnL_eq]
  rfl

/-- The merge of the groups at a token and a column. -/
theorem merge_apply (b : Fin 4) (s : Fin 4096) (d : Fin 512) (f : Fin 3 → EReal) (hf : ∀ g, f g = Ideal.div (nms V0 b s d g) (sts V0 b s (laneL d) g)) :
    @Eq EReal (∑ g : Fin 3, Ideal.div (res_main_v71 V0 (ix4 g b s (⟨d.val / 128, by omega⟩ : Fin 4))) (∑ k : Fin 3, (res_main_v71 V0 (ix4 k b s (⟨d.val / 128, by omega⟩ : Fin 4)) : EReal)) * f g)
      (mergeR (fun g => sts V0 b s (laneM d) g) (fun g => sts V0 b s (laneL d) g) (fun g => nms V0 b s d g)) := by
  rw [Fin.sum_univ_three, Fin.sum_univ_three, hf, hf, hf, v71_apply, v71_apply, v71_apply]
  rfl

/-- The mixer's row. -/
def refMixed (merge : (m l o : Fin 3 → EReal) → EReal) (b : Fin 4) (s : Fin 4096) : Fin 1024 → EReal :=
  mixed (fun k => (a0 V0) (ix3 b s k))
    (mvec (fun k => (a1 V0) (ix3 b s k)) (fun k n => (a10 V0) (ix2 k n)))
    (fun n => gateR (logit V0 b s ⟨n.val, by omega⟩)) (fun n => gateR (logit V0 b s ⟨1024 + n.val, by omega⟩))
    (fun d => merge (fun g => sts V0 b s (laneM d) g) (fun g => sts V0 b s (laneL d) g) (fun g => nms V0 b s d g))
    (fun k n => (a11 V0) (ix2 k n)) (fun k n => (a12 V0) (ix2 k n))

theorem v106_apply (b : Fin 4) (s : Fin 4096) (n : Fin 1024) : @Eq EReal (res_main_v106 V0 (ix3 b s n)) (refMixed V0 mergeR b s n) := by
  pointwise [res_main_v106]
  refine congrArg₂ (fun a b : EReal => a + b) rfl (Finset.sum_congr rfl fun k _ => congrArg₂ (fun a b : EReal => a * b) ?_ rfl)
  refine congrArg₂ (fun a b : EReal => a + b) (congrArg₂ (fun a b : EReal => a * b) (v98_apply V0 b s _) rfl)
    (congrArg₂ (fun a b : EReal => a * b) (v98_apply V0 b s _) (Finset.sum_congr rfl fun d _ => congrArg₂ (fun a b : EReal => a * b) ?_ rfl))
  refine merge_apply V0 b s d _ fun g => ?_
  match g with
  | 0 =>
    refine (dif_pos (by decide)).trans (congrArg₂ Ideal.div ?_ (v9_apply V0 b 0 s _))
    exact seq_one (nm0 V0) (by decide) rfl b s d s.isLt
  | 1 => exact (dif_neg (by decide)).trans ((dif_pos (by decide)).trans (congrArg₂ Ideal.div rfl (v30_apply V0 b s _ _ _)))
  | 2 => exact (dif_neg (by decide)).trans ((dif_neg (by decide)).trans (congrArg₂ Ideal.div rfl (v51_apply V0 b s _ _ _)))

/-- The feed-forward block's row. -/
def refFed (merge : (m l o : Fin 3 → EReal) → EReal) (b : Fin 4) (s : Fin 4096) : Fin 1024 → EReal :=
  fed (refMixed V0 merge b s) (fun k => (a14 V0) (ix1 k))
    (fun k n => (a15 V0) (ix2 k n)) (fun k n => (a16 V0) (ix2 k n))

theorem v122_apply (b : Fin 4) (s : Fin 4096) (j : Fin 4096) : @Eq EReal (res_main_v122 V0 (ix3 b s j))
    (max (mvec (normed (refMixed V0 mergeR b s) (fun k => (a14 V0) (ix1 k)))
      (fun k n => (a15 V0) (ix2 k n)) j) 0) := by
  pointwise [res_main_v122]
  simp only [v106_apply]
  rfl
theorem v126_apply (b : Fin 4) (s : Fin 4096) (n : Fin 1024) : @Eq EReal (res_main_v126 V0 (ix3 b s n)) (refFed V0 mergeR b s n) := by
  pointwise [res_main_v126]
  simp only [v106_apply, v122_apply]
  rfl

/-- The layer's output row. -/
def refRow (merge : (m l o : Fin 3 → EReal) → EReal) (b : Fin 4) (s : Fin 4096) : Fin 1024 → EReal :=
  outRow gateR (refFed V0 merge b s) (fun k => (a17 V0) (ix1 k))
    (mvec (fun k => (a13 V0) (ix3 b s k)) (fun k n => (a19 V0) (ix2 k n)))
    (fun k n => (a18 V0) (ix2 k n))

/-- The reference's result. -/
def result : FVec Ideal S16384x1024 .f32 :=
  shapeCast _ (addf (res_main_v126 V0) (mulf (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (Host.dotGeneral dot_S4x4096x1024_S1024x1024_S4x4096x1024_2_0_01_1_n_n none (mulf (mulf (res_main_v126 V0) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (res_main_v126 V0) (res_main_v126 V0)) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (a17 V0)))) (extf .f32 (a18 V0) bitsLt_bf16_f32)))))) (Host.dotGeneral dot_S4x4096x256_S256x1024_S4x4096x1024_2_0_01_1_n_n none (a13 V0) (extf .f32 (a19 V0) bitsLt_bf16_f32)))) shapeCasts_S4x4096x1024_S16384x1024

theorem result_apply (b : Fin 4) (s : Fin 4096) (n : Fin 1024) :
    result V0 (ix2 (⟨4096 * b.val + s.val, by omega⟩ : Fin 16384) n) = refRow V0 mergeR b s n := by
  pointwise [result]
  simp only [v126_apply]
  unfold refRow outRow
  rw [gateR_one]
  rfl

end Cert.Proof.Merge.Ref

end
-- ==== Proof.MergeOut.lean ====
module

public import proofs.«01_k».proof.Proof.MergeIn
public import proofs.«01_k».proof.Proof.MergeRef

@[expose] public section

set_option maxRecDepth 16384

noncomputable section

namespace Cert.Proof.Merge

open Cert.Kernel2Ideal Cert.Kernel2Ideal.Gen Cert.Kernel2Ideal.Value
open Idealize.ShloMosaic Idealize.ShloMosaic.TcCoe

/-! ## The result of the call -/

variable (m : (ℓ : Loc nD τ sig) → Buf (Elt Ideal) ℓ) (c : Dev nD) (t : Fin cfg0.N)

/-- The row that a grid point writes for a token. -/
theorem after_apply (u : Fin 512) (n : Fin 1024) : outsAt0 m c t (ix2 u n)
    = bodyRow (iblk m c 0 t) (iblk m c 1 t) (iblk m c 2 t) (iblk m c 3 t) (iblk m c 4 t) (iblk m c 5 t) (iblk m c 6 t) (iblk m c 7 t) (iblk m c 8 t) (iblk m c 9 t) (iblk m c 10 t)
      (iblk m c 11 t) (iblk m c 12 t) (iblk m c 13 t) (iblk m c 14 t) (iblk m c 15 t) (iblk m c 16 t) (iblk m c 17 t) (iblk m c 18 t) (iblk m c 19 t) (iblk m c 20 t) gateK mergeK u n := by
  unfold outsAt0 out0_A_21
  rw [View.read_writes_junk_eq_canon]
  unfold kernelRun0_A
  dsimp only
  refine (congrFun (View.canon_unit_zero (S := S512x1024) (by funext a; fin_cases a <;> rfl) _ _) _).trans ?_
  exact body_apply c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ u n _

/-- Rows of equal parts are equal. -/
theorem rowOf_congr {gate : EReal → EReal} {merge merge' : (m l o : Fin 3 → EReal) → EReal} {x x' y y' : Fin 1024 → EReal} {O O' M M' L L' : Fin 3 → Fin 512 → EReal}
    {zr zr' za za' : Fin 1024 → EReal} {wr wr' : Fin 1024 → Fin 1024 → EReal} {wa wa' : Fin 512 → Fin 1024 → EReal} {wo wo' : Fin 1024 → Fin 1024 → EReal} {p p' : Fin 256 → EReal}
    {gm gm' : Fin 1024 → EReal} {wu wu' : Fin 1024 → Fin 4096 → EReal} {wd wd' : Fin 4096 → Fin 1024 → EReal} {gp gp' : Fin 1024 → EReal} {wpg wpg' : Fin 1024 → Fin 1024 → EReal}
    {wpp wpp' : Fin 256 → Fin 1024 → EReal} (hx : x = x') (hy : y = y') (hO : O = O') (hM : M = M') (hL : L = L') (hzr : zr = zr') (hza : za = za') (hwr : wr = wr') (hwa : wa = wa')
    (hwo : wo = wo') (hp : p = p') (hgm : gm = gm') (hwu : wu = wu') (hwd : wd = wd') (hgp : gp = gp') (hwpg : wpg = wpg') (hwpp : wpp = wpp')
    (hm : ∀ d, merge (fun g => M' g d) (fun g => L' g d) (fun g => O' g d) = merge' (fun g => M' g d) (fun g => L' g d) (fun g => O' g d)) (n : Fin 1024) :
    rowOf gate merge x y O M L zr za wr wa wo p gm wu wd gp wpg wpp n = rowOf gate merge' x' y' O' M' L' zr' za' wr' wa' wo' p' gm' wu' wd' gp' wpg' wpp' n := by
  subst hx hy hO hM hL hzr hza hwr hwa hwo hp hgm hwu hwd hgp hwpg hwpp
  unfold rowOf
  rw [funext hm]

/-- The reference's arguments hold what the kernel's hold. -/
structure Same (V0 : Valuation Cert.Reference2Ideal.τ Cert.Reference2Ideal.sig (Elt Ideal)) : Prop where
  h0 : Ref.a0 V0 = m ((c : Thread nD τ).loc main_arg0)
  h1 : Ref.a1 V0 = m ((c : Thread nD τ).loc main_arg1)
  h2 : Ref.nm0 V0 = m ((c : Thread nD τ).loc main_arg2)
  h3 : Ref.nm1 V0 = m ((c : Thread nD τ).loc main_arg3)
  h4 : Ref.nm2 V0 = m ((c : Thread nD τ).loc main_arg4)
  h5 : Ref.st0 V0 = m ((c : Thread nD τ).loc main_arg5)
  h6 : Ref.st1 V0 = m ((c : Thread nD τ).loc main_arg6)
  h7 : Ref.st2 V0 = m ((c : Thread nD τ).loc main_arg7)
  h8 : Ref.a8 V0 = m ((c : Thread nD τ).loc main_arg8)
  h9 : Ref.a9 V0 = m ((c : Thread nD τ).loc main_arg9)
  h10 : Ref.a10 V0 = m ((c : Thread nD τ).loc main_arg10)
  h11 : Ref.a11 V0 = m ((c : Thread nD τ).loc main_arg11)
  h12 : Ref.a12 V0 = m ((c : Thread nD τ).loc main_arg12)
  h13 : Ref.a13 V0 = m ((c : Thread nD τ).loc main_arg13)
  h14 : Ref.a14 V0 = m ((c : Thread nD τ).loc main_arg14)
  h15 : Ref.a15 V0 = m ((c : Thread nD τ).loc main_arg15)
  h16 : Ref.a16 V0 = m ((c : Thread nD τ).loc main_arg16)
  h17 : Ref.a17 V0 = m ((c : Thread nD τ).loc main_arg17)
  h18 : Ref.a18 V0 = m ((c : Thread nD τ).loc main_arg18)
  h19 : Ref.a19 V0 = m ((c : Thread nD τ).loc main_arg19)

variable {m c} {V0 : Valuation Cert.Reference2Ideal.τ Cert.Reference2Ideal.sig (Elt Ideal)} (H : Same m c V0)
include H

/-- The statistics of a grid point's token. -/
theorem stats_eq (u : Fin 512) (l : Fin 128) (g : Fin 3) :
    (![tok 1 (iblk m c 5 t) u l, tok 4 (iblk m c 6 t) u l, tok 16 (iblk m c 7 t) u l] : Fin 3 → EReal) g = Ref.sts V0 (bOf t) (sOf t u) l g := by
  match g with
  | 0 => exact (in5 m c t u l).trans (congrFun H.h5.symm _)
  | 1 => exact (in6 m c t u l).trans (congrFun H.h6.symm _)
  | 2 => exact (in7 m c t u l).trans (congrFun H.h7.symm _)
/-- Its numerators. -/
theorem nums_eq (u : Fin 512) (d : Fin 512) (g : Fin 3) :
    (![tok 1 (iblk m c 2 t) u d, tok 4 (iblk m c 3 t) u d, tok 16 (iblk m c 4 t) u d] : Fin 3 → EReal) g = Ref.nms V0 (bOf t) (sOf t u) d g := by
  match g with
  | 0 => exact (in2 m c t u d).trans (congrFun H.h2.symm _)
  | 1 => exact (in3 m c t u d).trans (congrFun H.h3.symm _)
  | 2 => exact (in4 m c t u d).trans (congrFun H.h4.symm _)

/-- The kernel's row is the reference's. -/
theorem row_eq (hl : ∀ b s d g, 0 < Ref.sts V0 b s (laneL d) g ∧ Ref.sts V0 b s (laneL d) g ≠ ⊤) (u : Fin 512) (n : Fin 1024) :
    outsAt0 m c t (ix2 u n) = Ref.refRow V0 mergeR (bOf t) (sOf t u) n := by
  rw [after_apply]
  unfold bodyRow
  rw [show gateK = gateR from funext gate_eq]
  refine rowOf_congr (funext fun k => (in0 m c t u k).trans (congrFun H.h0.symm _)) (funext fun k => (in1 m c t u k).trans (congrFun H.h1.symm _))
    (funext fun g => funext fun d => nums_eq t H u d g) (funext fun g => funext fun d => stats_eq t H u (laneM d) g) (funext fun g => funext fun d => stats_eq t H u (laneL d) g)
    (funext fun n => congrArg₂ (fun a b : EReal => a + b) ((in8 m c t u n).trans (congrFun H.h8.symm _)) ((in10 m c t _).trans (congrFun H.h9.symm _)))
    (funext fun n => congrArg₂ (fun a b : EReal => a + b) ((in9 m c t u n).trans (congrFun H.h8.symm _)) ((in10 m c t _).trans (congrFun H.h9.symm _)))
    (funext fun k => funext fun n => (in11 m c t k n).trans (congrFun H.h10.symm _)) (funext fun k => funext fun n => (in12 m c t k n).trans (congrFun H.h11.symm _))
    (funext fun k => funext fun n => (in13 m c t k n).trans (congrFun H.h12.symm _)) (funext fun k => (in14 m c t u k).trans (congrFun H.h13.symm _))
    (funext fun k => (in15 m c t k).trans (congrFun H.h14.symm _))
    (funext fun k => funext fun n => (in16 m c t k n).trans (congrFun H.h15.symm _)) (funext fun k => funext fun n => (in17 m c t k n).trans (congrFun H.h16.symm _))
    (funext fun k => (in18 m c t k).trans (congrFun H.h17.symm _))
    (funext fun k => funext fun n => (in19 m c t k n).trans (congrFun H.h18.symm _)) (funext fun k => funext fun n => (in20 m c t k n).trans (congrFun H.h19.symm _))
    (fun d => mergeR_eq _ _ _ (hl _ _ d)) n

/-- The array that the call leaves is the reference's result. -/
theorem out_eq (hl : ∀ b s d g, 0 < Ref.sts V0 b s (laneL d) g ∧ Ref.sts V0 b s (laneL d) g ≠ ⊤) :
    (dats m 0 c).arrAt 21 cfg0.N = Ref.result V0 := by
  refine (dats m 0 c).arrAt_eq_of_covers 21 _ (by decide +kernel) fun t hf y => ?_
  blk_simp
  rw [after0_21]
  obtain ⟨u, n, rfl⟩ : ∃ (u : Fin 512) (n : Fin 1024), y = ix2 u n := ⟨y 0, y 1, funext fun a => match a with | ⟨0, _⟩ => rfl | ⟨1, _⟩ => rfl⟩
  refine (row_eq t H hl u n).trans ((Ref.result_apply V0 (bOf t) (sOf t u) n).symm.trans (congrArg (Ref.result V0) ?_))
  have ht : t.val < 32 := t.isLt
  have e : ∀ t : Fin grid0.N, win0_21.index t = ![t.val, 0] := by decide +kernel
  blk_ext [e t, bOf_val, sOf_val]

end Cert.Proof.Merge

end
-- ==== Proof.MergePre.lean ====
module

public import proofs.«01_k».proof.Proof.MergeRef
public import proofs.«01_k».proof.Proof.Gen.Pre_positive_sums
public import Idealize.ShloMosaic.Lib.ReduceAll
public import Idealize.ShloMosaic.Lib.WordCmp

@[expose] public section

set_option maxRecDepth 16384

noncomputable section

namespace Cert.Proof.Merge.Pre

open Cert.Pre_positive_sums
open Idealize.ShloMosaic

/-! ## What the precondition says of the statistics -/

/-- The condition on a statistic in its lane: in the lanes of a sum it is a positive number. -/
def Fine (x : EReal) (l : Fin 128) : Prop := l.val / 16 % 2 = 1 → 0 < x ∧ x ≠ ⊤

/-- A comparison's bit is one when the comparison holds. -/
theorem of_bit {q : Prop} [Decidable q] (h : BitVec.ofBool (decide q) = 1#1) : q := by
  by_contra hq
  rw [decide_eq_false hq] at h
  exact absurd h (by decide)

/-- The lanes of a sum are those with the bit of sixteen. -/
theorem lane_bit : ∀ l : Fin 128, l.val / 16 % 2 = 1 → ¬ IntOp.cmpi .eq (IntOp.andi (BitVec.ofNat 32 l.val) 16#32) 0#32 = 1#1 := by decide +kernel

theorem fine_of (x : EReal) (l : Fin 128)
    (h : IntOp.ori (IntOp.cmpi .eq (IntOp.andi (BitVec.ofNat 32 l.val) 16#32) 0#32)
        (IntOp.andi (BitVec.ofBool (decide (0 < x))) (BitVec.ofBool (decide (x < Ideal.ofBits .f32 0x7F800000#32)))) = 1#1) : Fine x l := by
  intro hl
  obtain ⟨hp, ht⟩ := IntOp.andi_eq_one.1 ((IntOp.ori_eq_one.1 h).resolve_left (lane_bit l hl))
  have ht' : x < ⊤ := c_top ▸ of_bit ht
  exact ⟨of_bit hp, ht'.ne⟩

instance : Subsingleton S_.Idx := ⟨fun _ _ => funext fun a => a.elim0⟩

theorem fine_all {a0 : FVec Ideal S4x4096x1024 .f32} {a1 : FVec Ideal S4x4096x1024 .bf16} {a2 : FVec Ideal S4x1x4096x512 .bf16} {a3 : FVec Ideal S4x4x1024x512 .bf16}
    {a4 : FVec Ideal S4x16x256x512 .bf16} {a5 : FVec Ideal S4x1x4096x128 .f32} {a6 : FVec Ideal S4x4x1024x128 .f32} {a7 : FVec Ideal S4x16x256x128 .f32} {a8 a9 a10 a11 a12 a13 a14 a15 a16 a17 a18 a19}
    (h : fn (F := Ideal) a0 a1 a2 a3 a4 a5 a6 a7 a8 a9 a10 a11 a12 a13 a14 a15 a16 a17 a18 a19 = fun _ => 1#1) :
    (∀ b r n l, Fine (a5 (ix4 b r n l)) l) ∧ (∀ b r n l, Fine (a6 (ix4 b r n l)) l) ∧ ∀ b r n l, Fine (a7 (ix4 b r n l)) l := by
  have e := congrFun h ix0
  dsimp only [fn, fn_part1, fn_part2] at e
  obtain ⟨e, e2⟩ := IntOp.andi_eq_one.1 e
  obtain ⟨e0, e1⟩ := IntOp.andi_eq_one.1 e
  refine ⟨fun b r n l => ?_, fun b r n l => ?_, fun b r n l => ?_⟩
  · have e := Host.reduce_andi_all _ _ _ _ _ e0 (ix4 b r n l)
    revert e
    pointwise
    exact fine_of _ _
  · have e := Host.reduce_andi_all _ _ _ _ _ e1 (ix4 b r n l)
    revert e
    pointwise
    exact fine_of _ _
  · have e := Host.reduce_andi_all _ _ _ _ _ e2 (ix4 b r n l)
    revert e
    pointwise
    exact fine_of _ _

variable {V0 : Valuation Cert.Reference2Ideal.τ Cert.Reference2Ideal.sig (Elt Ideal)} {a0 a1 a2 a3 a4 a8 a9 a10 a11 a12 a13 a14 a15 a16 a17 a18 a19}
  (h : fn (F := Ideal) a0 a1 a2 a3 a4 (Ref.st0 V0) (Ref.st1 V0) (Ref.st2 V0) a8 a9 a10 a11 a12 a13 a14 a15 a16 a17 a18 a19 = fun _ => 1#1)
include h

theorem fine_sts (b : Fin 4) (s : Fin 4096) (l : Fin 128) (g : Fin 3) : Fine (Ref.sts V0 b s l g) l :=
  match g with
  | 0 => (fine_all h).1 _ _ _ _
  | 1 => (fine_all h).2.1 _ _ _ _
  | 2 => (fine_all h).2.2 _ _ _ _

theorem sum_pos (b : Fin 4) (s : Fin 4096) (d : Fin 512) (g : Fin 3) : 0 < Ref.sts V0 b s (laneL d) g ∧ Ref.sts V0 b s (laneL d) g ≠ ⊤ :=
  fine_sts h b s _ g (by show (32 * (d.val / 128) + 16) / 16 % 2 = 1; omega)

end Cert.Proof.Merge.Pre

end
-- ==== Proof.RetMath.lean ====
/- One row of the retention, over plain functions. -/
module

public import proofs.«01_k».proof.Proof.MergeMath

@[expose] public section

set_option maxRecDepth 16384

noncomputable section

namespace Ret

open Idealize.ShloMosaic

/-- Row `i` of chunk `n`. -/
def tok (n : Fin 32) (i : Fin 128) : Fin 4096 := ⟨n.val * 128 + i.val, by omega⟩

/-- The state before chunk `n`. -/
def stR (K : Fin 4096 → Fin 128 → EReal) (V : Fin 4096 → Fin 256 → EReal) (kd : Fin 128 → Fin 128 → EReal) (cd : Fin 128 → Fin 256 → EReal) :
    ℕ → Fin 128 → Fin 256 → EReal
  | 0 => fun _ _ => 0
  | n + 1 => fun d e => stR K V kd cd n d e * cd d e + ∑ j, K (tok (Fin.ofNat 32 n) j) d * kd j d * V (tok (Fin.ofNat 32 n) j) e

/-- A row before its norm: within the chunk, and from the state. -/
def yR (Q K : Fin 4096 → Fin 128 → EReal) (V : Fin 4096 → Fin 256 → EReal) (inner qd : Fin 128 → Fin 128 → EReal) (s : Fin 128 → Fin 256 → EReal)
    (n : Fin 32) (i : Fin 128) (e : Fin 256) : EReal :=
  ∑ j, (∑ d, Q (tok n i) d * K (tok n j) d) * inner i j * V (tok n j) e + ∑ d, Q (tok n i) d * qd i d * s d e

/-- A row normed, scaled and gated. -/
def normR (y : Fin 256 → EReal) (gn : Fin 256 → EReal) (gate : EReal) (e : Fin 256) : EReal :=
  gate * (y e * Ideal.rsqrt (Ideal.div (∑ x, y x * y x) (Ideal.ofBits .f32 0x43800000#32) + Ideal.ofBits .f32 0x358637BD#32) * gn e)

/-- An entry of the result. -/
def outR (Q K : Fin 4096 → Fin 128 → EReal) (V : Fin 4096 → Fin 256 → EReal) (gn : Fin 256 → EReal) (inner qd kd : Fin 128 → Fin 128 → EReal)
    (cd : Fin 128 → Fin 256 → EReal) (gate : EReal) (n : Fin 32) (i : Fin 128) (e : Fin 256) : EReal :=
  normR (yR Q K V inner qd (stR K V kd cd n.val) n i) gn gate e

/-- The gate from half of its logit, as the kernel computes it. -/
def siluK (x : EReal) : EReal := x * Ideal.tanh x + x

/-- The gate: the logit times the logistic function. -/
def siluR (x : EReal) : EReal := x * Ideal.div 1 (1 + Ideal.exp (-x))

theorem two_half_tanh (x : ℝ) : x * Real.tanh x + x = 2 * x * (1 / (1 + Real.exp (-(2 * x)))) := by
  have h := Cert.Proof.Merge.half_tanh (2 * x)
  rw [show (1 / 2 : ℝ) * (2 * x) = x by ring] at h
  rw [← h]
  ring

theorem silu_eq (x : EReal) (h : ⊥ < x) : siluK x = siluR (Ideal.ofBits .f32 0x40000000#32 * x) := by
  have c2 : Ideal.ofBits .f32 0x40000000#32 = ((2 : ℝ) : EReal) := by
    simp [Ideal.ofBits, Ideal.ieee]
    rw [← EReal.coe_mul]
    norm_num
  unfold siluK siluR
  rw [c2]
  induction x with
  | bot => exact absurd h (lt_irrefl _)
  | top =>
    rw [EReal.coe_mul_top_of_pos (by norm_num)]
    simp [Ideal.div]
  | coe x =>
    have p : (0 : ℝ) < 1 + Real.exp (-(2 * x)) := by positivity
    rw [← EReal.coe_mul, ← EReal.coe_neg, Ideal.tanh_coe, Ideal.exp_coe, ← EReal.coe_one, ← EReal.coe_add, Ideal.div_coe p.ne',
      ← EReal.coe_mul, ← EReal.coe_mul, ← EReal.coe_add, two_half_tanh, one_mul,
      ← EReal.coe_mul]

end Ret

end
-- ==== Proof.RetKer.lean ====
/- The retention's body: the output block is one chunk's function per 128 rows, over the state carried from chunk to chunk. -/
module

public import proofs.«01_k».proof.Proof.Gen.Kernel3Ideal.Frame
public import proofs.«01_k».proof.Proof.RetMath
public import Idealize.ShloMosaic.Lib.Pointwise
public import Idealize.ShloMosaic.Lib.Pipeline.ValueKit.Point
public import Idealize.ShloMosaic.Lib.Claim

@[expose] public section

set_option maxRecDepth 16384

noncomputable section

namespace Ret

open Idealize.ShloMosaic Idealize.SL.Sem Cert.Kernel3Ideal Cert.Kernel3Ideal.Gen

variable {F : FTy → Type} [FloatOps F]

/-- The rows of chunk `n` of a block of 128 columns. -/
abbrev rq (n : Fin 32) : Rect S1x4096x128 := Rect.unit (s := S1x4096x128) ![0, n.val * 128, 0] S1x128x128.size (by
  intro a; have := n.isLt; fin_cases a <;> simp [S1x4096x128, S1x128x128] <;> omega)

/-- The rows of chunk `n` of a block of 256 columns. -/
abbrev rv (n : Fin 32) : Rect S1x4096x256 := Rect.unit (s := S1x4096x256) ![0, n.val * 128, 0] S1x128x256.size (by
  intro a; have := n.isLt; fin_cases a <;> simp [S1x4096x256, S1x128x256] <;> omega)

/-- The state before chunk `n`. -/
def st (x1 : Vec F S1x4096x128 .bf16) (x2 : Vec F S1x4096x256 .bf16) (x7 : Vec F S1x128x128 .f32) (x8 : Vec F S1x128x256 .f32) : ℕ → FVec F S128x256 .f32
  | 0 => k0_pay126
  | n + 1 => addf (mulf (st x1 x2 x7 x8 n) (k0_pay5 (View.ld x8 r0_1)))
      (k0_pay9 (View.ld x7 r0_0) (View.ld x1 (rq (Fin.ofNat 32 n))) (View.ld x2 (rv (Fin.ofNat 32 n))))

/-- The rows of chunk `n` of the output block. -/
def chunk (x0 : Vec F S1x4096x128 .bf16) (x1 : Vec F S1x4096x128 .bf16) (x2 : Vec F S1x4096x256 .bf16) (x3 : Vec F S1x4096x256 .bf16)
    (x4 : Vec F S1x256 .f32) (x5 : Vec F S1x128x128 .f32) (x6 : Vec F S1x128x128 .f32) (x7 : Vec F S1x128x128 .f32) (x8 : Vec F S1x128x256 .f32)
    (n : Fin 32) : FVec F S1x128x256 .bf16 :=
  k0_pay130 (k0_pay6 (View.ld x4 r0_2)) (k0_pay8 (View.ld x5 r0_0) (View.ld x6 r0_0) (View.ld x0 (rq n)) (View.ld x1 (rq n)))
    (st x1 x2 x7 x8 n.val) (View.ld x2 (rv n)) (View.ld x3 (rv n))

/-- The chunks, last first. -/
abbrev order : List (Fin 32) :=
  [31, 30, 29, 28, 27, 26, 25, 24, 23, 22, 21, 20, 19, 18, 17, 16, 15, 14, 13, 12, 11, 10, 9, 8, 7, 6, 5, 4, 3, 2, 1, 0]

set_option maxHeartbeats 4000000 in
theorem out_eq (x0 : Vec F S1x4096x128 .bf16) (x1 : Vec F S1x4096x128 .bf16) (x2 : Vec F S1x4096x256 .bf16) (x3 : Vec F S1x4096x256 .bf16)
    (x4 : Vec F S1x256 .f32) (x5 : Vec F S1x128x128 .f32) (x6 : Vec F S1x128x128 .f32) (x7 : Vec F S1x128x128 .f32) (x8 : Vec F S1x128x256 .f32) :
    out0_9 x0 x1 x2 x3 x4 x5 x6 x7 x8
      = View.canon (order.map fun n => (⟨rv n, chunk x0 x1 x2 x3 x4 x5 x6 x7 x8 n⟩ : View.Piece (Elt F) S1x4096x256 .bf16)) := by
  rfl

/-! ## Its entries -/

theorem pay9_apply (k7 : FVec Ideal S1x128x128 .f32) (k1 : FVec Ideal S1x128x128 .bf16) (k2 : FVec Ideal S1x128x256 .bf16) (d : Fin 128) (e : Fin 256) :
    @Eq EReal (k0_pay9 (F := Ideal) k7 k1 k2 (ix2 d e)) (∑ x, k1 (ix3 (0 : Fin 1) x d) * k7 (ix3 (0 : Fin 1) x d) * k2 (ix3 (0 : Fin 1) x e)) := by
  pointwise [k0_pay9, k0_pay7, k0_pay4]

theorem pay8_left (k5 k6 : FVec Ideal S1x128x128 .f32) (k0 k1 : FVec Ideal S1x128x128 .bf16) (i j : Fin 128) (h : j.val < 256) :
    @Eq EReal (k0_pay8 (F := Ideal) k5 k6 k0 k1 (ix2 i (⟨j.val, h⟩ : Fin 256)))
      ((∑ x, k0 (ix3 (0 : Fin 1) i x) * k1 (ix3 (0 : Fin 1) j x)) * k5 (ix3 (0 : Fin 1) i j)) := by
  pointwise [k0_pay8, k0_pay7, k0_pay2, k0_pay3]

theorem pay8_right (k5 k6 : FVec Ideal S1x128x128 .f32) (k0 k1 : FVec Ideal S1x128x128 .bf16) (i j : Fin 128) (h : 128 + j.val < 256) :
    @Eq EReal (k0_pay8 (F := Ideal) k5 k6 k0 k1 (ix2 i (⟨128 + j.val, h⟩ : Fin 256))) (k0 (ix3 (0 : Fin 1) i j) * k6 (ix3 (0 : Fin 1) i j)) := by
  pointwise [k0_pay8, k0_pay7, k0_pay2, k0_pay3]

theorem pay130_apply (k4 : FVec Ideal S1x256 .f32) (l : FVec Ideal S128x256 .bf16) (s : FVec Ideal S128x256 .f32) (v g : FVec Ideal S1x128x256 .bf16) (i : Fin 128) (e : Fin 256) :
    @Eq EReal (k0_pay130 (F := Ideal) k4 l s v g (ix3 (0 : Fin 1) i e))
      (normR (fun e => ∑ x : Fin 128, l (ix2 i (⟨x.val, by omega⟩ : Fin 256)) * v (ix3 (0 : Fin 1) x e) + ∑ x : Fin 128, l (ix2 i (⟨128 + x.val, by omega⟩ : Fin 256)) * s (ix2 x e))
        (fun e => k4 (ix2 (0 : Fin 1) e)) (siluK (g (ix3 (0 : Fin 1) i e))) e) := by
  pointwise [k0_pay130, normR, siluK]

theorem ld_q (x : Vec Ideal S1x4096x128 .bf16) (n : Fin 32) (i d : Fin 128) :
    @Eq EReal (View.ld x (rq n) (ix3 (0 : Fin 1) i d)) (x (ix3 (0 : Fin 1) (tok n i) d)) :=
  congrArg x (funext fun a => Fin.ext (match a with
    | ⟨0, _⟩ => rfl
    | ⟨1, _⟩ => show n.val * 128 + 1 * i.val = n.val * 128 + i.val by omega
    | ⟨2, _⟩ => show 0 + 1 * d.val = d.val by omega))

theorem ld_v (x : Vec Ideal S1x4096x256 .bf16) (n : Fin 32) (i : Fin 128) (e : Fin 256) :
    @Eq EReal (View.ld x (rv n) (ix3 (0 : Fin 1) i e)) (x (ix3 (0 : Fin 1) (tok n i) e)) :=
  congrArg x (funext fun a => Fin.ext (match a with
    | ⟨0, _⟩ => rfl
    | ⟨1, _⟩ => show n.val * 128 + 1 * i.val = n.val * 128 + i.val by omega
    | ⟨2, _⟩ => show 0 + 1 * e.val = e.val by omega))

theorem ld_5 (x : Vec Ideal S1x128x128 .f32) : View.ld x r0_0 = x :=
  funext fun y => congrArg x (funext fun a => Fin.ext (match a with
    | ⟨0, _⟩ => show 0 + 1 * (y 0).val = (y 0).val by omega
    | ⟨1, _⟩ => show 0 + 1 * (y 1).val = (y 1).val by omega
    | ⟨2, _⟩ => show 0 + 1 * (y 2).val = (y 2).val by omega))

theorem ld_8 (x : Vec Ideal S1x128x256 .f32) : View.ld x r0_1 = x :=
  funext fun y => congrArg x (funext fun a => Fin.ext (match a with
    | ⟨0, _⟩ => show 0 + 1 * (y 0).val = (y 0).val by omega
    | ⟨1, _⟩ => show 0 + 1 * (y 1).val = (y 1).val by omega
    | ⟨2, _⟩ => show 0 + 1 * (y 2).val = (y 2).val by omega))

theorem ld_4 (x : Vec Ideal S1x256 .f32) : View.ld x r0_2 = x :=
  funext fun y => congrArg x (funext fun a => Fin.ext (match a with
    | ⟨0, _⟩ => show 0 + 1 * (y 0).val = (y 0).val by omega
    | ⟨1, _⟩ => show 0 + 1 * (y 1).val = (y 1).val by omega))

theorem pay5_apply (x : FVec Ideal S1x128x256 .f32) (d : Fin 128) (e : Fin 256) : @Eq EReal (k0_pay5 (F := Ideal) x (ix2 d e)) (x (ix3 (0 : Fin 1) d e)) := by
  pointwise [k0_pay5]

theorem pay6_apply (x : FVec Ideal S1x256 .f32) (e : Fin 256) : @Eq EReal (k0_pay6 (F := Ideal) x (ix2 (0 : Fin 1) e)) (x (ix2 (0 : Fin 1) e)) := by
  pointwise [k0_pay6]

variable (x0 x1 : Vec Ideal S1x4096x128 .bf16) (x2 x3 : Vec Ideal S1x4096x256 .bf16)
    (x4 : Vec Ideal S1x256 .f32) (x5 x6 x7 : Vec Ideal S1x128x128 .f32) (x8 : Vec Ideal S1x128x256 .f32)

/-- The state's entries. -/
theorem st_apply (n : ℕ) (d : Fin 128) (e : Fin 256) : @Eq EReal (st (F := Ideal) x1 x2 x7 x8 n (ix2 d e))
    (stR (fun s d => x1 (ix3 (0 : Fin 1) s d)) (fun s e => x2 (ix3 (0 : Fin 1) s e)) (fun i d => x7 (ix3 (0 : Fin 1) i d)) (fun d e => x8 (ix3 (0 : Fin 1) d e)) n d e) := by
  induction n generalizing d e with
  | zero =>
    unfold st stR
    pointwise [k0_pay126]
  | succ n ih =>
    unfold st stR
    refine congrArg₂ (fun a b : EReal => a + b) (congrArg₂ (fun a b : EReal => a * b) (ih d e) ?_) ?_
    · rw [ld_8]
      exact pay5_apply x8 d e
    · refine (pay9_apply _ _ _ d e).trans (Finset.sum_congr rfl fun j _ => ?_)
      rw [ld_5]
      exact congrArg₂ (fun a b : EReal => a * b) (congrArg (fun a : EReal => a * x7 (ix3 (0 : Fin 1) j d)) (ld_q x1 _ j d)) (ld_v x2 _ j e)

/-- A chunk's entries. -/
theorem chunk_apply (n : Fin 32) (i : Fin 128) (e : Fin 256) : @Eq EReal (chunk (F := Ideal) x0 x1 x2 x3 x4 x5 x6 x7 x8 n (ix3 (0 : Fin 1) i e))
    (outR (fun s d => x0 (ix3 (0 : Fin 1) s d)) (fun s d => x1 (ix3 (0 : Fin 1) s d)) (fun s e => x2 (ix3 (0 : Fin 1) s e)) (fun e => x4 (ix2 (0 : Fin 1) e))
      (fun i j => x5 (ix3 (0 : Fin 1) i j)) (fun i d => x6 (ix3 (0 : Fin 1) i d)) (fun i d => x7 (ix3 (0 : Fin 1) i d)) (fun d e => x8 (ix3 (0 : Fin 1) d e))
      (siluK (x3 (ix3 (0 : Fin 1) (tok n i) e))) n i e) := by
  unfold chunk outR
  rw [ld_5, ld_5, ld_4]
  refine (pay130_apply _ _ _ _ _ i e).trans ?_
  rw [show View.ld x3 (rv n) (ix3 (0 : Fin 1) i e) = x3 (ix3 (0 : Fin 1) (tok n i) e) from ld_v x3 n i e]
  refine congrArg₂ (fun y g => normR y g _ e) (funext fun e => ?_) (funext fun e => pay6_apply x4 e)
  unfold yR
  refine congrArg₂ (fun a b : EReal => a + b) (Finset.sum_congr rfl fun j _ => ?_) (Finset.sum_congr rfl fun d _ => ?_)
  · refine congrArg₂ (fun a b : EReal => a * b) ((pay8_left _ _ _ _ i j _).trans (congrArg (fun a : EReal => a * x5 (ix3 (0 : Fin 1) i j)) (Finset.sum_congr rfl fun d _ => ?_))) (ld_v x2 n j e)
    exact congrArg₂ (fun a b : EReal => a * b) (ld_q x0 n i d) (ld_q x1 n j d)
  · exact congrArg₂ (fun a b : EReal => a * b) ((pay8_right _ _ _ _ i d _).trans (congrArg (fun a : EReal => a * x6 (ix3 (0 : Fin 1) i d)) (ld_q x0 n i d)))
      (st_apply x1 x2 x7 x8 n.val d e)

theorem mem_order (n : Fin 32) : n ∈ order := by revert n; decide

/-- The output block's entries. -/
theorem out_apply (n : Fin 32) (i : Fin 128) (e : Fin 256) : @Eq EReal (out0_9 (F := Ideal) x0 x1 x2 x3 x4 x5 x6 x7 x8 (ix3 (0 : Fin 1) (tok n i) e))
    (outR (fun s d => x0 (ix3 (0 : Fin 1) s d)) (fun s d => x1 (ix3 (0 : Fin 1) s d)) (fun s e => x2 (ix3 (0 : Fin 1) s e)) (fun e => x4 (ix2 (0 : Fin 1) e))
      (fun i j => x5 (ix3 (0 : Fin 1) i j)) (fun i d => x6 (ix3 (0 : Fin 1) i d)) (fun i d => x7 (ix3 (0 : Fin 1) i d)) (fun d e => x8 (ix3 (0 : Fin 1) d e))
      (siluK (x3 (ix3 (0 : Fin 1) (tok n i) e))) n i e) := by
  rw [out_eq]
  refine (View.canon_eq_of_allAt _ _ (chunk (F := Ideal) x0 x1 x2 x3 x4 x5 x6 x7 x8 n (ix3 (0 : Fin 1) i e)) ?_ ?_).trans (chunk_apply x0 x1 x2 x3 x4 x5 x6 x7 x8 n i e)
  · refine ⟨_, List.mem_map.mpr ⟨n, mem_order n, rfl⟩, ?_⟩
    show _ ∈ (rv n).set
    refine Rect.mem_set_unit.mpr fun a => ?_
    match a with
    | ⟨0, _⟩ => exact ⟨Nat.zero_le _, Nat.one_pos⟩
    | ⟨1, _⟩ => exact ⟨show n.val * 128 ≤ n.val * 128 + i.val by omega, show n.val * 128 + i.val < n.val * 128 + 128 by omega⟩
    | ⟨2, _⟩ => exact ⟨Nat.zero_le _, show e.val < 0 + 256 by omega⟩
  · intro p hp x hx
    obtain ⟨k, -, rfl⟩ := List.mem_map.mp hp
    have h1 : k.val * 128 + 1 * (x 1).val = n.val * 128 + i.val := congrArg (fun y : S1x4096x256.Idx => (y 1).val) hx
    have h2 : 0 + 1 * (x 2).val = e.val := congrArg (fun y : S1x4096x256.Idx => (y 2).val) hx
    have l0 : (x 0).val < 1 := (x 0).isLt
    have l1 : (x 1).val < 128 := (x 1).isLt
    obtain rfl : k = n := Fin.ext (by omega)
    refine congrArg (chunk (F := Ideal) x0 x1 x2 x3 x4 x5 x6 x7 x8 k) (funext fun a => Fin.ext ?_)
    match a with
    | ⟨0, _⟩ => show (x 0).val = 0; omega
    | ⟨1, _⟩ => show (x 1).val = i.val; omega
    | ⟨2, _⟩ => show (x 2).val = e.val; omega

end Ret

end
-- ==== Proof.RetRef.lean ====
/- The retention's reference, entry by entry. -/
module

public import proofs.«01_k».proof.Proof.RetMath
public import proofs.«01_k».proof.Proof.Gen.Reference3Ideal
public import proofs.«01_k».proof.Proof.Gen.Reference3Ideal.Run
public import Idealize.ShloMosaic.Lib.Pointwise
public import Idealize.ShloMosaic.Lib.KernelVsHost

@[expose] public section

set_option maxRecDepth 16384

noncomputable section

namespace Ret.Ref

open Cert.Reference3Ideal Cert.Reference3Ideal.Gen Cert.Reference3Ideal.Value
open Idealize.ShloMosaic

variable (V0 : Valuation τ sig (Elt Ideal))

/-- The arguments. -/
abbrev a0 : FVec Ideal S4x4096x2048 .bf16 := V0 (Proc.devRef .tc main_arg0)
abbrev a1 : FVec Ideal S4x4096x3072 .bf16 := V0 (Proc.devRef .tc main_arg1)
abbrev a2 : FVec Ideal S1024 .f32 := V0 (Proc.devRef .tc main_arg2)
abbrev a3 : FVec Ideal S4x128x128 .f32 := V0 (Proc.devRef .tc main_arg3)
abbrev a4 : FVec Ideal S4x128 .f32 := V0 (Proc.devRef .tc main_arg4)
abbrev a5 : FVec Ideal S4x128 .f32 := V0 (Proc.devRef .tc main_arg5)
abbrev a6 : FVec Ideal S4 .f32 := V0 (Proc.devRef .tc main_arg6)

/-- The reference's values that follow, at their shapes. -/
abbrev r4 : FVec Ideal S4x32x128x4x128 .f32 := res_main_v4 V0
abbrev r5 : FVec Ideal S4x32x128x4x128 .f32 := res_main_v5 V0
abbrev r6 : FVec Ideal S4x32x128x4x256 .f32 := res_main_v6 V0
abbrev r18 : FVec Ideal S32x4x4x128x256 .f32 := res_main_v18 V0
abbrev r283 : FVec Ideal S32x4x4x128x256 .f32 := res_main_v283 V0
abbrev r287 : FVec Ideal S4x4096x4x256 .f32 := res_main_v287 V0
abbrev r305 : FVec Ideal S4x4096x1024 .f32 := res_main_v305 V0

/-- Queries, keys, values of a head. -/
def qs (b h : Fin 4) (s : Fin 4096) (d : Fin 128) : EReal := a0 V0 (ix3 b s (⟨h.val * 128 + d.val, by omega⟩ : Fin 2048))
def ks (b h : Fin 4) (s : Fin 4096) (d : Fin 128) : EReal := a0 V0 (ix3 b s (⟨512 + (h.val * 128 + d.val), by omega⟩ : Fin 2048))
def vs (b h : Fin 4) (s : Fin 4096) (e : Fin 256) : EReal := a0 V0 (ix3 b s (⟨1024 + (h.val * 256 + e.val), by omega⟩ : Fin 2048))

theorem v4_apply (b : Fin 4) (n : Fin 32) (i : Fin 128) (h : Fin 4) (d : Fin 128) : @Eq EReal (r4 V0 (ix5 b n i h d)) (qs V0 b h (tok n i) d) := by
  pointwise [res_main_v4, res_main_v0, qs, tok]
theorem v5_apply (b : Fin 4) (n : Fin 32) (i : Fin 128) (h : Fin 4) (d : Fin 128) : @Eq EReal (r5 V0 (ix5 b n i h d)) (ks V0 b h (tok n i) d) := by
  pointwise [res_main_v5, res_main_v0, ks, tok]
theorem v6_apply (b : Fin 4) (n : Fin 32) (i : Fin 128) (h : Fin 4) (d : Fin 256) : @Eq EReal (r6 V0 (ix5 b n i h d)) (vs V0 b h (tok n i) d) := by
  pointwise [res_main_v6, res_main_v0, vs, tok]

theorem v18_apply (n : Fin 32) (b h : Fin 4) (d : Fin 128) (e : Fin 256) : @Eq EReal (r18 V0 (ix5 n b h d e))
    (∑ j, ks V0 b h (tok n j) d * a5 V0 (ix2 h j) * vs V0 b h (tok n j) e) := by
  refine Eq.trans (b := ∑ j, r5 V0 (ix5 b n j h d) * a5 V0 (ix2 h j) * r6 V0 (ix5 b n j h e)) ?_
    (Finset.sum_congr rfl fun j _ => congrArg₂ (fun x y : EReal => x * a5 V0 (ix2 h j) * y) (v5_apply V0 b n j h d) (v6_apply V0 b n j h e))
  pointwise [res_main_v18]

/-! ## The states -/

/-- The increment of a chunk, cut from the stack of them. -/
def inc (n : Fin 32) : FVec Ideal S4x4x128x256 .f32 :=
  shapeCast _ (extractStridedSlice S1x4x4x128x256 ![n.val, 0, 0, 0, 0] (r18 V0) ⟨rfl, by
    intro a; have := n.isLt; fin_cases a <;> simp [S1x4x4x128x256, S32x4x4x128x256] <;> omega⟩) shapeCasts_S1x4x4x128x256_S4x4x128x256

/-- The decay of a chunk, over the states. -/
def dec : FVec Ideal S4x4x128x256 .f32 :=
  broadcastInDim S4x4x128x256 ![0, 1, 2, 3] bcast_S1x4x1x1_S4x4x128x256_0_1_2_3 (broadcastInDim S1x4x1x1 ![1, 2, 3] bcast_S4x1x1_S1x4x1x1_1_2_3
    (broadcastInDim S4x1x1 ![0] bcast_S4_S4x1x1_0 (V0 (Proc.devRef .tc main_arg6))))

/-- The states, one after another. -/
def state : ℕ → FVec Ideal S4x4x128x256 .f32
  | 0 => res_main_v19 V0
  | n + 1 => addf (mulf (state n) (dec V0)) (inc V0 (Fin.ofNat 32 n))

theorem inc_apply (n : Fin 32) (b h : Fin 4) (d : Fin 128) (e : Fin 256) : @Eq EReal (inc V0 n (ix4 b h d e)) (r18 V0 (ix5 n b h d e)) := by
  unfold inc
  pointwise
theorem dec_apply (b h : Fin 4) (d : Fin 128) (e : Fin 256) : @Eq EReal (dec V0 (ix4 b h d e)) (a6 V0 (ix1 h)) := by
  unfold dec
  pointwise

theorem state_apply (b h : Fin 4) (n : ℕ) (d : Fin 128) (e : Fin 256) : @Eq EReal (state V0 n (ix4 b h d e))
    (stR (ks V0 b h) (vs V0 b h) (fun j _ => a5 V0 (ix2 h j)) (fun _ _ => a6 V0 (ix1 h)) n d e) := by
  induction n generalizing d e with
  | zero =>
    unfold state stR
    pointwise [res_main_v19]
  | succ n ih =>
    unfold state stR
    exact congrArg₂ (fun a b : EReal => a + b) (congrArg₂ (fun a b : EReal => a * b) (ih d e) (dec_apply V0 b h d e)) ((inc_apply V0 _ b h d e).trans (v18_apply V0 _ b h d e))

/-- A state as one layer of the stack. -/
def layer (n : ℕ) : FVec Ideal S1x4x4x128x256 .f32 := broadcastInDim S1x4x4x128x256 ![1, 2, 3, 4] bcast_S4x4x128x256_S1x4x4x128x256_1_2_3_4 (state V0 n)

theorem layer_apply (n : ℕ) (b h : Fin 4) (d : Fin 128) (e : Fin 256) : @Eq EReal (layer V0 n (ix5 (0 : Fin 1) b h d e)) (state V0 n (ix4 b h d e)) := by
  unfold layer
  pointwise

/-- Sixteen layers from the one given. -/
def half (m : ℕ) : FVec Ideal S16x4x4x128x256 .f32 :=
  concatenate S16x4x4x128x256 0 (List.ofFn fun k : Fin 16 => ⟨S1x4x4x128x256, layer V0 (m + k.val)⟩)
    concatenates_S1x4x4x128x256_S1x4x4x128x256_S1x4x4x128x256_S1x4x4x128x256_S1x4x4x128x256_S1x4x4x128x256_S1x4x4x128x256_S1x4x4x128x256_S1x4x4x128x256_S1x4x4x128x256_S1x4x4x128x256_S1x4x4x128x256_S1x4x4x128x256_S1x4x4x128x256_S1x4x4x128x256_S1x4x4x128x256_S16x4x4x128x256_d0

theorem half_apply (m : ℕ) (k : Fin 16) (b h : Fin 4) (d : Fin 128) (e : Fin 256) : @Eq EReal (half V0 m (ix5 k b h d e)) (state V0 (m + k.val) (ix4 b h d e)) := by
  unfold half
  pointwise
  exact layer_apply V0 _ b h d e

theorem stack_eq : r283 V0 = concatenate S32x4x4x128x256 0 [⟨S16x4x4x128x256, half V0 0⟩, ⟨S16x4x4x128x256, half V0 16⟩]
    concatenates_S16x4x4x128x256_S16x4x4x128x256_S32x4x4x128x256_d0 := by
  rfl

/-- The state before a chunk, in the stack. -/
theorem stack_apply (n : Fin 32) (b h : Fin 4) (d : Fin 128) (e : Fin 256) : @Eq EReal (r283 V0 (ix5 n b h d e)) (state V0 n.val (ix4 b h d e)) := by
  rw [stack_eq]
  have hn := n.isLt
  by_cases h16 : n.val < 16
  · pointwise
    refine (dif_pos h16).trans ((half_apply V0 0 _ b h d e).trans ?_)
    rw [Nat.zero_add]
  · pointwise
    refine (dif_neg h16).trans ((half_apply V0 16 _ b h d e).trans ?_)
    rw [show 16 + (n.val - 16) = n.val by omega]

/-! ## The result -/

/-- The chunk and the row of a token. -/
def cOf (s : Fin 4096) : Fin 32 := ⟨s.val / 128, by omega⟩
def iOf (s : Fin 4096) : Fin 128 := ⟨s.val % 128, by omega⟩
theorem tok_of (s : Fin 4096) : tok (cOf s) (iOf s) = s := Fin.ext (by show s.val / 128 * 128 + s.val % 128 = s.val; omega)

theorem y_apply (b : Fin 4) (s : Fin 4096) (h : Fin 4) (e : Fin 256) : @Eq EReal (r287 V0 (ix4 b s h e))
    (yR (qs V0 b h) (ks V0 b h) (vs V0 b h) (fun i j => a3 V0 (ix3 h i j)) (fun i _ => a4 V0 (ix2 h i))
      (stR (ks V0 b h) (vs V0 b h) (fun j _ => a5 V0 (ix2 h j)) (fun _ _ => a6 V0 (ix1 h)) (cOf s).val) (cOf s) (iOf s) e) := by
  refine Eq.trans (b := ∑ j, r6 V0 (ix5 b (cOf s) j h e) * ((∑ d, r4 V0 (ix5 b (cOf s) (iOf s) h d) * r5 V0 (ix5 b (cOf s) j h d)) * a3 V0 (ix3 h (iOf s) j))
      + ∑ d, r283 V0 (ix5 (cOf s) b h d e) * (r4 V0 (ix5 b (cOf s) (iOf s) h d) * a4 V0 (ix2 h (iOf s)))) ?_ ?_
  · pointwise [res_main_v287, cOf, iOf]
  · unfold yR
    refine congrArg₂ (fun a b : EReal => a + b) (Finset.sum_congr rfl fun j _ => ?_) (Finset.sum_congr rfl fun d _ => ?_)
    · refine (congrArg₂ (fun x y : EReal => x * (y * a3 V0 (ix3 h (iOf s) j))) (v6_apply V0 b (cOf s) j h e) (Finset.sum_congr rfl fun d _ =>
        congrArg₂ (fun x y : EReal => x * y) (v4_apply V0 b (cOf s) (iOf s) h d) (v5_apply V0 b (cOf s) j h d))).trans (mul_comm _ _)
    · exact (congrArg₂ (fun x y : EReal => x * (y * a4 V0 (ix2 h (iOf s)))) ((stack_apply V0 (cOf s) b h d e).trans (state_apply V0 b h _ d e))
        (v4_apply V0 b (cOf s) (iOf s) h d)).trans (mul_comm _ _)

/-- The reference's result. -/
def result : FVec Ideal S4x4096x1024 .bf16 :=
  truncf .bf16 (mulf (mulf (r305 V0) (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (r305 V0)))))) (shapeCast _ (mulf (mulf (r287 V0) (broadcastInDim S4x4096x4x256 ![0, 1, 2, 3] bcast_S4x4096x4x1_S4x4096x4x256_0_1_2_3 (Host.rsqrt (addf (Host.divf (broadcastInDim S4x4096x4x1 ![0, 1, 2] bcast_S4x4096x4_S4x4096x4x1_0_1_2 (Host.reduceAdd (mulf (r287 V0) (r287 V0)) (constant S_ .f32 0x00000000#32) reducesTo_S4x4096x4x256_S4x4096x4_d3 h_S_)) (broadcastInDim S4x4096x4x1 ![] bcast_S_S4x4096x4x1 (constant S_ .f32 0x43800000#32))) (broadcastInDim S4x4096x4x1 ![] bcast_S_S4x4096x4x1 (constant S_ .f32 0x358637BD#32)))))) (broadcastInDim S4x4096x4x256 ![0, 1, 2, 3] bcast_S1x1x4x256_S4x4096x4x256_0_1_2_3 (broadcastInDim S1x1x4x256 ![2, 3] bcast_S4x256_S1x1x4x256_2_3 (shapeCast _ (a2 V0) shapeCasts_S1024_S4x256)))) shapeCasts_S4x4096x4x256_S4x4096x1024)) bitsLt_bf16_f32

/-- Column `e` of head `h`. -/
def col (h : Fin 4) (e : Fin 256) : Fin 1024 := ⟨h.val * 256 + e.val, by omega⟩

theorem result_apply (b h : Fin 4) (s : Fin 4096) (e : Fin 256) : @Eq EReal (result V0 (ix3 b s (col h e)))
    (outR (qs V0 b h) (ks V0 b h) (vs V0 b h) (fun e => a2 V0 (ix1 (col h e))) (fun i j => a3 V0 (ix3 h i j)) (fun i _ => a4 V0 (ix2 h i))
      (fun j _ => a5 V0 (ix2 h j)) (fun _ _ => a6 V0 (ix1 h)) (siluR (Ideal.ofBits .f32 0x40000000#32 * a1 V0 (ix3 b s (⟨(col h e).val, by omega⟩ : Fin 3072))))
      (cOf s) (iOf s) e) := by
  unfold outR
  rw [show yR (qs V0 b h) (ks V0 b h) (vs V0 b h) (fun i j => a3 V0 (ix3 h i j)) (fun i _ => a4 V0 (ix2 h i))
      (stR (ks V0 b h) (vs V0 b h) (fun j _ => a5 V0 (ix2 h j)) (fun _ _ => a6 V0 (ix1 h)) (cOf s).val) (cOf s) (iOf s)
      = fun e => r287 V0 (ix4 b s h e) from funext fun e => (y_apply V0 b s h e).symm]
  pointwise [result, normR, siluR, col, res_main_v305]

end Ret.Ref

end
-- ==== Proof.RetOut.lean ====
/- The retention's call: its blocks as parts of the arguments, its result, and what the precondition says of the gate. -/
module

public import proofs.«01_k».proof.Proof.RetKer
public import proofs.«01_k».proof.Proof.RetRef
public import proofs.«01_k».proof.Proof.Gen.Kernel3Ideal.Value
public import proofs.«01_k».proof.Proof.Gen.Pre_gate_above
public import Idealize.ShloMosaic.Lib.Pipeline.ValueKit.Point
public import Idealize.ShloMosaic.Lib.Claim
public import Idealize.ShloMosaic.Lib.ReduceAll
public import Idealize.ShloMosaic.Lib.WordCmp

@[expose] public section

set_option maxRecDepth 16384

noncomputable section

namespace Ret

open Cert.Kernel3Ideal Cert.Kernel3Ideal.Gen Cert.Kernel3Ideal.Value
open Idealize.ShloMosaic Idealize.ShloMosaic.TcCoe

/-! ## The blocks of the inputs, as parts of the arrays -/

theorem idx0 : ∀ t : Fin grid0.N, win0_0.index t = ![t.val / 4, 0, t.val % 4] := by decide +kernel
theorem idx1 : ∀ t : Fin grid0.N, win0_1.index t = ![t.val / 4, 0, 4 + t.val % 4] := by decide +kernel
theorem idx2 : ∀ t : Fin grid0.N, win0_2.index t = ![t.val / 4, 0, 4 + t.val % 4] := by decide +kernel
theorem idx3 : ∀ t : Fin grid0.N, win0_3.index t = ![t.val / 4, 0, t.val % 4] := by decide +kernel
theorem idx4 : ∀ t : Fin grid0.N, win0_4.index t = ![0, t.val % 4] := by decide +kernel
theorem idx5 : ∀ t : Fin grid0.N, win0_5.index t = ![t.val % 4, 0, 0] := by decide +kernel
theorem idx6 : ∀ t : Fin grid0.N, win0_6.index t = ![t.val % 4, 0, 0] := by decide +kernel
theorem idx7 : ∀ t : Fin grid0.N, win0_7.index t = ![t.val % 4, 0, 0] := by decide +kernel
theorem idx8 : ∀ t : Fin grid0.N, win0_8.index t = ![t.val % 4, 0, 0] := by decide +kernel
theorem idx9 : ∀ t : Fin grid0.N, win0_9.index t = ![t.val / 4, 0, t.val % 4] := by decide +kernel

variable (m : (ℓ : Loc nD τ sig) → Buf (Elt Ideal) ℓ) (c : Dev nD) (t : Fin cfg0.N)

/-- The batch and the head of a grid point. -/
def bOf : Fin 4 := ⟨t.val / 4, by have := t.isLt; change t.val < 16 at this; omega⟩
def hOf : Fin 4 := ⟨t.val % 4, by omega⟩
theorem bOf_val : (bOf t).val = t.val / 4 := rfl
theorem hOf_val : (hOf t).val = t.val % 4 := rfl
theorem col_val (h : Fin 4) (e : Fin 256) : (Ref.col h e).val = h.val * 256 + e.val := rfl

theorem in0 (s : Fin 4096) (d : Fin 128) : @Eq EReal (iblk m c 0 t (ix3 (0 : Fin 1) s d))
    (m ((c : Thread nD τ).loc main_arg0) (ix3 (bOf t) s (⟨(hOf t).val * 128 + d.val, by omega⟩ : Fin 2048))) := by
  have ht : t.val < 16 := t.isLt
  blk_simp [iblk]
  rw [V_main_arg0]
  blk_ext [idx0 t, bOf_val, hOf_val]

theorem in1 (s : Fin 4096) (d : Fin 128) : @Eq EReal (iblk m c 1 t (ix3 (0 : Fin 1) s d))
    (m ((c : Thread nD τ).loc main_arg0) (ix3 (bOf t) s (⟨512 + ((hOf t).val * 128 + d.val), by omega⟩ : Fin 2048))) := by
  have ht : t.val < 16 := t.isLt
  blk_simp [iblk]
  rw [V_main_arg0]
  blk_ext [idx1 t, bOf_val, hOf_val]

theorem in2 (s : Fin 4096) (e : Fin 256) : @Eq EReal (iblk m c 2 t (ix3 (0 : Fin 1) s e))
    (m ((c : Thread nD τ).loc main_arg0) (ix3 (bOf t) s (⟨1024 + ((hOf t).val * 256 + e.val), by omega⟩ : Fin 2048))) := by
  have ht : t.val < 16 := t.isLt
  blk_simp [iblk]
  rw [V_main_arg0]
  blk_ext [idx2 t, bOf_val, hOf_val]

theorem in3 (s : Fin 4096) (e : Fin 256) : @Eq EReal (iblk m c 3 t (ix3 (0 : Fin 1) s e))
    (m ((c : Thread nD τ).loc main_arg1) (ix3 (bOf t) s (⟨(Ref.col (hOf t) e).val, by omega⟩ : Fin 3072))) := by
  have ht : t.val < 16 := t.isLt
  blk_simp [iblk]
  rw [V_main_arg1]
  blk_ext [idx3 t, bOf_val, hOf_val, col_val]

theorem in4 (e : Fin 256) : @Eq EReal (iblk m c 4 t (ix2 (0 : Fin 1) e)) (m ((c : Thread nD τ).loc main_arg2) (ix1 (Ref.col (hOf t) e))) := by
  have ht : t.val < 16 := t.isLt
  blk_simp [iblk]
  entry_read
  pointwise
  blk_ext [idx4 t, hOf_val, col_val]

theorem in5 (i j : Fin 128) : @Eq EReal (iblk m c 5 t (ix3 (0 : Fin 1) i j)) (m ((c : Thread nD τ).loc main_arg3) (ix3 (hOf t) i j)) := by
  have ht : t.val < 16 := t.isLt
  blk_simp [iblk]
  rw [V_main_arg3]
  blk_ext [idx5 t, hOf_val]

theorem in6 (i d : Fin 128) : @Eq EReal (iblk m c 6 t (ix3 (0 : Fin 1) i d)) (m ((c : Thread nD τ).loc main_arg4) (ix2 (hOf t) i)) := by
  have ht : t.val < 16 := t.isLt
  blk_simp [iblk]
  entry_read
  pointwise
  blk_ext [idx6 t, hOf_val]

theorem in7 (i d : Fin 128) : @Eq EReal (iblk m c 7 t (ix3 (0 : Fin 1) i d)) (m ((c : Thread nD τ).loc main_arg5) (ix2 (hOf t) i)) := by
  have ht : t.val < 16 := t.isLt
  blk_simp [iblk]
  entry_read
  pointwise
  blk_ext [idx7 t, hOf_val]

theorem in8 (d : Fin 128) (e : Fin 256) : @Eq EReal (iblk m c 8 t (ix3 (0 : Fin 1) d e)) (m ((c : Thread nD τ).loc main_arg6) (ix1 (hOf t))) := by
  have ht : t.val < 16 := t.isLt
  blk_simp [iblk]
  entry_read
  pointwise
  blk_ext [idx8 t, hOf_val]

/-! ## The precondition -/

instance : Subsingleton Cert.Pre_gate_above.S_.Idx := ⟨fun _ _ => funext fun a => a.elim0⟩

/-- A comparison's bit is one when the comparison holds. -/
theorem of_bit {q : Prop} [Decidable q] (h : BitVec.ofBool (decide q) = 1#1) : q := by
  by_contra hq
  rw [decide_eq_false hq] at h
  exact absurd h (by decide)

theorem c_bot16 : Ideal.ofBits .bf16 0xFF80#16 = (⊥ : EReal) := by
  simp [Ideal.ofBits, Ideal.ieee]

theorem above {a0 : FVec Ideal S4x4096x2048 .bf16} {a1 : FVec Ideal S4x4096x3072 .bf16} {a2 a3 a4 a5 a6}
    (h : Cert.Pre_gate_above.fn (F := Ideal) a0 a1 a2 a3 a4 a5 a6 = fun _ => 1#1) (b : Fin 4) (s : Fin 4096) (n : Fin 1024) :
    ⊥ < (a1 (ix3 b s (⟨n.val, by omega⟩ : Fin 3072)) : EReal) := by
  have e := congrFun h ix0
  dsimp only [Cert.Pre_gate_above.fn] at e
  have e := Host.reduce_andi_all _ _ _ _ _ e (ix3 b s n)
  revert e
  pointwise
  intro e
  exact c_bot16 ▸ of_bit e

/-! ## The result of the call -/

/-- The reference's arguments hold what the kernel's hold. -/
structure Same (V0 : Valuation Cert.Reference3Ideal.τ Cert.Reference3Ideal.sig (Elt Ideal)) : Prop where
  h0 : Ref.a0 V0 = m ((c : Thread nD τ).loc main_arg0)
  h1 : Ref.a1 V0 = m ((c : Thread nD τ).loc main_arg1)
  h2 : Ref.a2 V0 = m ((c : Thread nD τ).loc main_arg2)
  h3 : Ref.a3 V0 = m ((c : Thread nD τ).loc main_arg3)
  h4 : Ref.a4 V0 = m ((c : Thread nD τ).loc main_arg4)
  h5 : Ref.a5 V0 = m ((c : Thread nD τ).loc main_arg5)
  h6 : Ref.a6 V0 = m ((c : Thread nD τ).loc main_arg6)

/-- Entries of equal parts are equal. -/
theorem outR_congr {Q Q' K K' : Fin 4096 → Fin 128 → EReal} {V V' : Fin 4096 → Fin 256 → EReal} {gn gn' : Fin 256 → EReal}
    {inner inner' qd qd' kd kd' : Fin 128 → Fin 128 → EReal} {cd cd' : Fin 128 → Fin 256 → EReal} {gate gate' : EReal} (hQ : Q = Q') (hK : K = K') (hV : V = V')
    (hg : gn = gn') (hi : inner = inner') (hq : qd = qd') (hk : kd = kd') (hc : cd = cd') (hs : gate = gate') (n : Fin 32) (i : Fin 128) (e : Fin 256) :
    outR Q K V gn inner qd kd cd gate n i e = outR Q' K' V' gn' inner' qd' kd' cd' gate' n i e := by
  subst hQ hK hV hg hi hq hk hc hs
  rfl

variable {m c} {V0 : Valuation Cert.Reference3Ideal.τ Cert.Reference3Ideal.sig (Elt Ideal)} (H : Same m c V0)
include H

/-- The kernel's row is the reference's. -/
theorem row_eq (hl : ∀ (b : Fin 4) (s : Fin 4096) (n : Fin 1024), ⊥ < (Ref.a1 V0 (ix3 b s (⟨n.val, by omega⟩ : Fin 3072)) : EReal)) (s : Fin 4096) (e : Fin 256) :
    @Eq EReal (out0_9 (iblk m c 0 t) (iblk m c 1 t) (iblk m c 2 t) (iblk m c 3 t) (iblk m c 4 t) (iblk m c 5 t) (iblk m c 6 t) (iblk m c 7 t) (iblk m c 8 t) (ix3 (0 : Fin 1) s e))
      (Ref.result V0 (ix3 (bOf t) s (Ref.col (hOf t) e))) := by
  have h := out_apply (iblk m c 0 t) (iblk m c 1 t) (iblk m c 2 t) (iblk m c 3 t) (iblk m c 4 t) (iblk m c 5 t) (iblk m c 6 t) (iblk m c 7 t) (iblk m c 8 t) (Ref.cOf s) (Ref.iOf s) e
  rw [Ref.tok_of] at h
  refine h.trans (Eq.trans ?_ (Ref.result_apply V0 (bOf t) (hOf t) s e).symm)
  refine outR_congr (funext fun s => funext fun d => (in0 m c t s d).trans (congrFun H.h0.symm _)) (funext fun s => funext fun d => (in1 m c t s d).trans (congrFun H.h0.symm _))
    (funext fun s => funext fun d => (in2 m c t s d).trans (congrFun H.h0.symm _)) (funext fun e => (in4 m c t e).trans (congrFun H.h2.symm _))
    (funext fun i => funext fun j => (in5 m c t i j).trans (congrFun H.h3.symm _)) (funext fun i => funext fun d => (in6 m c t i d).trans (congrFun H.h4.symm _))
    (funext fun i => funext fun d => (in7 m c t i d).trans (congrFun H.h5.symm _)) (funext fun d => funext fun e => (in8 m c t d e).trans (congrFun H.h6.symm _)) ?_ _ _ e
  exact (congrArg siluK ((in3 m c t s e).trans (congrFun H.h1.symm _))).trans (silu_eq _ (hl (bOf t) s (Ref.col (hOf t) e)))

/-- The array that the call leaves is the reference's result. -/
theorem array_eq (hl : ∀ (b : Fin 4) (s : Fin 4096) (n : Fin 1024), ⊥ < (Ref.a1 V0 (ix3 b s (⟨n.val, by omega⟩ : Fin 3072)) : EReal)) :
    (dats m 0 c).arrAt 9 cfg0.N = Ref.result V0 := by
  refine (dats m 0 c).arrAt_eq_of_covers 9 _ (by decide +kernel) fun t hf y => ?_
  blk_simp
  rw [after0_9]
  obtain ⟨s, e, rfl⟩ : ∃ (s : Fin 4096) (e : Fin 256), y = ix3 (0 : Fin 1) s e :=
    ⟨y 1, y 2, funext fun a => match a with | ⟨0, _⟩ => Fin.ext (Nat.lt_one_iff.mp (y 0).isLt) | ⟨1, _⟩ => rfl | ⟨2, _⟩ => rfl⟩
  refine (row_eq t H hl s e).trans (congrArg (Ref.result V0) ?_)
  have ht : t.val < 16 := t.isLt
  blk_ext [idx9 t, bOf_val, hOf_val, col_val]

end Ret

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Eq
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Pre_positive_sums
public import proofs.«01_k».proof.Proof.MergeOut
public import proofs.«01_k».proof.Proof.MergePre
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Pre_gate_above
public import proofs.«01_k».proof.Proof.RetOut
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem

theorem frame_ideal : Cert.quiescent_KernelIdeal := fun m ρ _ =>
  (θ_run Cert.KernelIdeal.defs _ _).mono (fun _ h => ⟨fun c => (h.1 c).1, h.2⟩) (Attn.run_main (F := Ideal) m ρ)

set_option maxHeartbeats 4000000 in
theorem frame_kernel : Cert.quiescent_Kernel := fun m ρ _ =>
  (θ_run Cert.KernelIdeal.defs _ _).mono (fun _ h => ⟨fun c => (h.1 c).1, h.2⟩) (Attn.run_main (F := Bits) m ρ)

theorem frame_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run m ρ)

/-- The call and the reference leave the same two results. -/
theorem algebraic : Cert.algebraic_KernelIdeal_ReferenceIdeal := by
  intro m g m' g' _ hagree
  refine ⟨fun c => Attn.outO c (Attn.XAm m c), fun c => Attn.outS c (Attn.XAm m c), ?_, ?_⟩
  · exact (θ_run Cert.KernelIdeal.defs _ _).mono (fun r h c => ⟨(h.1 c).2.1, (h.1 c).2.2, (h.1 c).1⟩) (Attn.run_main (F := Ideal) m g)
  · refine (θ_run Cert.ReferenceIdeal.defs _ _).mono (fun r h c => ?_) (Cert.ReferenceIdeal.Value.run m' g')
    refine ⟨?_, ?_, (h c).2.2⟩
    · rw [(h c).1, RefV.res0_eq, hagree c]
      exact (Equal.outO_eq c _).symm
    · rw [(h c).2.1, RefV.res1_eq, hagree c]
      exact (Equal.outS_eq c _).symm

/-! ## The merge of the groups and the MLP -/

theorem frame_ideal2 : Cert.quiescent_Kernel2Ideal := fun m ρ _ => Cert.Kernel2Ideal.Gen.frame (F := Ideal) m ρ

theorem frame_kernel2 : Cert.quiescent_Kernel2 := fun m ρ _ => Cert.Kernel2.Gen.frame (F := Bits) m ρ

theorem frame_reference2 : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run m ρ)

/-- The call and the reference leave the same result, where the denominators are positive numbers. -/
theorem algebraic2 : Cert.algebraic_Kernel2Ideal_Reference2Ideal_pre_positive_sums := by
  intro m g m' g' hpre hagree
  refine ⟨fun c => (Cert.Kernel2Ideal.Gen.dats m 0 c).arrAt 21 Cert.Kernel2Ideal.cfg0.N, Cert.Kernel2Ideal.Value.run_blocks m g, ?_⟩
  refine (θ_run Cert.Reference2Ideal.defs _ _).mono (fun r h c => ?_) (Cert.Reference2Ideal.Value.run m' g')
  refine ⟨?_, (h c).2⟩
  obtain ⟨h0, h1, h2, h3, h4, h5, h6, h7, h8, h9, h10, h11, h12, h13, h14, h15, h16, h17, h18, h19⟩ := hagree c
  have H : Merge.Same m c (StableHlo.launchContents m' c) := ⟨h0, h1, h2, h3, h4, h5, h6, h7, h8, h9, h10, h11, h12, h13, h14, h15, h16, h17, h18, h19⟩
  have P := hpre c
  rw [← H.h5, ← H.h6, ← H.h7] at P
  exact (h c).1.trans (Merge.out_eq H (Merge.Pre.sum_pos P)).symm

/-! ## The retention -/

theorem frame_ideal3 : Cert.quiescent_Kernel3Ideal := fun m ρ _ => Cert.Kernel3Ideal.Gen.frame (F := Ideal) m ρ

theorem frame_kernel3 : Cert.quiescent_Kernel3 := fun m ρ _ => Cert.Kernel3.Gen.frame (F := Bits) m ρ

theorem frame_reference3 : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run m ρ)

/-- The call and the reference leave the same result, where no logit of the gate is minus infinity. -/
theorem algebraic3 : Cert.algebraic_Kernel3Ideal_Reference3Ideal_pre_gate_above := by
  intro m g m' g' hpre hagree
  refine ⟨fun c => (Cert.Kernel3Ideal.Gen.dats m 0 c).arrAt 9 Cert.Kernel3Ideal.cfg0.N, Cert.Kernel3Ideal.Value.run_blocks m g, ?_⟩
  refine (θ_run Cert.Reference3Ideal.defs _ _).mono (fun r h c => ?_) (Cert.Reference3Ideal.Value.run m' g')
  refine ⟨?_, (h c).2⟩
  obtain ⟨h0, h1, h2, h3, h4, h5, h6⟩ := hagree c
  have H : Ret.Same m c (StableHlo.launchContents m' c) := ⟨h0, h1, h2, h3, h4, h5, h6⟩
  have P := hpre c
  rw [← H.h1] at P
  exact (h c).1.trans (Ret.array_eq H (Ret.above P)).symm

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Pre_positive_sums.Gen.facts,
    Cert.Pre_gate_above.Gen.facts, frame_kernel, frame_ideal, frame_reference, frame_kernel2, frame_ideal2,
    fun m ρ _ => frame_ideal2 m ρ trivial, frame_reference2, fun m ρ _ => frame_reference2 m ρ trivial, frame_kernel3, frame_ideal3,
    fun m ρ _ => frame_ideal3 m ρ trivial, frame_reference3, fun m ρ _ => frame_reference3 m ρ trivial,
    trivial, algebraic, trivial, algebraic2, trivial, algebraic3⟩

end Cert.Proof

end
